-- ==== Defs.lean ====
def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))).1 = (fun _ => 1#1)
    ∧ (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))).2 = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).1 = (fun _ => 1#1)
    ∧ (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).2 = (fun _ => 1#1)

def Pre_MoeRefIdeal [hPre_tables_in_range : Cert.Pre_tables_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).1 = (fun _ => 1#1)
    ∧ (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_queries_and_keys [hPre_finite_queries_and_keys : Cert.Pre_finite_queries_and_keys.Facts] (m : (ℓ : Loc Cert.SbIdeal.nD Cert.SbIdeal.τ Cert.SbIdeal.sig) → Buf (Elt Ideal) ℓ) : Prop :=
  ∀ c : Dev Cert.SbIdeal.nD,
    (Cert.Pre_finite_queries_and_keys.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))).1 = (fun _ => 1#1)
    ∧ (Cert.Pre_finite_queries_and_keys.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))).2 = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_queries_and_keys [hPre_finite_queries_and_keys : Cert.Pre_finite_queries_and_keys.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_queries_and_keys.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))).1 = (fun _ => 1#1)
    ∧ (Cert.Pre_finite_queries_and_keys.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))).2 = (fun _ => 1#1)

def Pre_Kvq (m : (ℓ : Loc Cert.Kvq.nD Cert.Kvq.τ Cert.Kvq.sig) → Buf (Elt Bits) ℓ) : Prop :=
  True

def Pre_KvqIdeal (m : (ℓ : Loc Cert.KvqIdeal.nD Cert.KvqIdeal.τ Cert.KvqIdeal.sig) → Buf (Elt Ideal) ℓ) : Prop :=
  True

def Pre_KvqRefIdeal (m : (ℓ : Loc Cert.KvqRefIdeal.nD Cert.KvqRefIdeal.τ Cert.KvqRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] [hPre_tables_in_range : Cert.Pre_tables_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbIdeal_pre_finite_queries_and_keys [hSbIdeal : Cert.SbIdeal.Facts] [hPre_finite_queries_and_keys : Cert.Pre_finite_queries_and_keys.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_queries_and_keys m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbRefIdeal_pre_finite_queries_and_keys [hSbRefIdeal : Cert.SbRefIdeal.Facts] [hPre_finite_queries_and_keys : Cert.Pre_finite_queries_and_keys.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_queries_and_keys m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_Kvq [hKvq : Cert.Kvq.Facts] : Prop :=
  ∀ (m : (ℓ : Loc Cert.Kvq.nD Cert.Kvq.τ Cert.Kvq.sig) → Buf (Elt Bits) ℓ) (g : Dev Cert.Kvq.nD → PrngReg), Pre_Kvq m →
    θ_run (Cert.Kvq.defs (F := Bits)) (onTc (τ := Cert.Kvq.τ) (Cert.Kvq.main (F := Bits))) ⟨m, fun _ => 0, g⟩ (fun r => (∀ c : Dev Cert.Kvq.nD,
      r.2.mem ((c.tc : Thread Cert.Kvq.nD Cert.Kvq.τ).loc Cert.Kvq.main_arg0) = m ((c.tc : Thread Cert.Kvq.nD Cert.Kvq.τ).loc Cert.Kvq.main_arg0)
      ∧ r.2.mem ((c.tc : Thread Cert.Kvq.nD Cert.Kvq.τ).loc Cert.Kvq.main_arg1) = m ((c.tc : Thread Cert.Kvq.nD Cert.Kvq.τ).loc Cert.Kvq.main_arg1)
      ∧ r.2.mem ((c.tc : Thread Cert.Kvq.nD Cert.Kvq.τ).loc Cert.Kvq.main_arg2) = m ((c.tc : Thread Cert.Kvq.nD Cert.Kvq.τ).loc Cert.Kvq.main_arg2)
      ∧ r.2.mem ((c.tc : Thread Cert.Kvq.nD Cert.Kvq.τ).loc Cert.Kvq.main_arg3) = m ((c.tc : Thread Cert.Kvq.nD Cert.Kvq.τ).loc Cert.Kvq.main_arg3)
      ∧ r.2.mem ((c.tc : Thread Cert.Kvq.nD Cert.Kvq.τ).loc Cert.Kvq.main_arg4) = m ((c.tc : Thread Cert.Kvq.nD Cert.Kvq.τ).loc Cert.Kvq.main_arg4))
      ∧ r.2.sem = fun _ => 0)

def quiescent_KvqIdeal [hKvqIdeal : Cert.KvqIdeal.Facts] : Prop :=
  ∀ (m : (ℓ : Loc Cert.KvqIdeal.nD Cert.KvqIdeal.τ Cert.KvqIdeal.sig) → Buf (Elt Ideal) ℓ) (g : Dev Cert.KvqIdeal.nD → PrngReg), Pre_KvqIdeal m →
    θ_run (Cert.KvqIdeal.defs (F := Ideal)) (onTc (τ := Cert.KvqIdeal.τ) (Cert.KvqIdeal.main (F := Ideal))) ⟨m, fun _ => 0, g⟩ (fun r => (∀ c : Dev Cert.KvqIdeal.nD,
      r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
      ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
      ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
      ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
      ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4))
      ∧ r.2.sem = fun _ => 0)

def quiescent_KvqRefIdeal [hKvqRefIdeal : Cert.KvqRefIdeal.Facts] : Prop :=
  ∀ (m : (ℓ : Loc Cert.KvqRefIdeal.nD Cert.KvqRefIdeal.τ Cert.KvqRefIdeal.sig) → Buf (Elt Ideal) ℓ) (g : Dev Cert.KvqRefIdeal.nD → PrngReg), Pre_KvqRefIdeal m →
    θ_run (Cert.KvqRefIdeal.defs (F := Ideal)) (onTc (τ := Cert.KvqRefIdeal.τ) (Cert.KvqRefIdeal.main (F := Ideal))) ⟨m, fun _ => 0, g⟩ (fun r => (∀ c : Dev Cert.KvqRefIdeal.nD,
      r.2.mem ((c.tc : Thread Cert.KvqRefIdeal.nD Cert.KvqRefIdeal.τ).loc Cert.KvqRefIdeal.main_arg0) = m ((c.tc : Thread Cert.KvqRefIdeal.nD Cert.KvqRefIdeal.τ).loc Cert.KvqRefIdeal.main_arg0)
      ∧ r.2.mem ((c.tc : Thread Cert.KvqRefIdeal.nD Cert.KvqRefIdeal.τ).loc Cert.KvqRefIdeal.main_arg1) = m ((c.tc : Thread Cert.KvqRefIdeal.nD Cert.KvqRefIdeal.τ).loc Cert.KvqRefIdeal.main_arg1)
      ∧ r.2.mem ((c.tc : Thread Cert.KvqRefIdeal.nD Cert.KvqRefIdeal.τ).loc Cert.KvqRefIdeal.main_arg2) = m ((c.tc : Thread Cert.KvqRefIdeal.nD Cert.KvqRefIdeal.τ).loc Cert.KvqRefIdeal.main_arg2)
      ∧ r.2.mem ((c.tc : Thread Cert.KvqRefIdeal.nD Cert.KvqRefIdeal.τ).loc Cert.KvqRefIdeal.main_arg3) = m ((c.tc : Thread Cert.KvqRefIdeal.nD Cert.KvqRefIdeal.τ).loc Cert.KvqRefIdeal.main_arg3)
      ∧ r.2.mem ((c.tc : Thread Cert.KvqRefIdeal.nD Cert.KvqRefIdeal.τ).loc Cert.KvqRefIdeal.main_arg4) = m ((c.tc : Thread Cert.KvqRefIdeal.nD Cert.KvqRefIdeal.τ).loc Cert.KvqRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7)
      ∧ r.2.mem ((c.tc : Thread Cert.Gla.nD Cert.Gla.τ).loc Cert.Gla.main_arg8) = m ((c.tc : Thread Cert.Gla.nD Cert.Gla.τ).loc Cert.Gla.main_arg8)
      ∧ r.2.mem ((c.tc : Thread Cert.Gla.nD Cert.Gla.τ).loc Cert.Gla.main_arg9) = m ((c.tc : Thread Cert.Gla.nD Cert.Gla.τ).loc Cert.Gla.main_arg9))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
      ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7)
      ∧ r.2.mem ((c.tc : Thread Cert.GlaRefIdeal.nD Cert.GlaRefIdeal.τ).loc Cert.GlaRefIdeal.main_arg8) = m ((c.tc : Thread Cert.GlaRefIdeal.nD Cert.GlaRefIdeal.τ).loc Cert.GlaRefIdeal.main_arg8)
      ∧ r.2.mem ((c.tc : Thread Cert.GlaRefIdeal.nD Cert.GlaRefIdeal.τ).loc Cert.GlaRefIdeal.main_arg9) = m ((c.tc : Thread Cert.GlaRefIdeal.nD Cert.GlaRefIdeal.τ).loc Cert.GlaRefIdeal.main_arg9))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v140) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Sb_SbIdeal : Prop :=
  IdealRules.named_const.Statement Cert.SbIdeal.κ "log2_e" .f32 0x3FB8AA3B#32 (((Real.log 2)⁻¹ : ℝ) : EReal)

def algebraic_SbIdeal_SbRefIdeal_pre_finite_queries_and_keys [hSbIdeal : Cert.SbIdeal.Facts] [hSbRefIdeal : Cert.SbRefIdeal.Facts] [hPre_finite_queries_and_keys : Cert.Pre_finite_queries_and_keys.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_queries_and_keys m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v9)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v9) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v33) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def preserves_Kvq_KvqIdeal : Prop :=
  IdealRules.named_const.Statement Cert.KvqIdeal.κ "q_scale" .f32 0x3E0293EE#32 ((((Real.sqrt 128) * (Real.log 2))⁻¹ : ℝ) : EReal)

def algebraic_KvqIdeal_KvqRefIdeal [hKvqIdeal : Cert.KvqIdeal.Facts] [hKvqRefIdeal : Cert.KvqRefIdeal.Facts] : Prop :=
  ∀ (m : (ℓ : Loc Cert.KvqIdeal.nD Cert.KvqIdeal.τ Cert.KvqIdeal.sig) → Buf (Elt Ideal) ℓ) (g : Dev Cert.KvqIdeal.nD → PrngReg)
    (m' : (ℓ : Loc Cert.KvqRefIdeal.nD Cert.KvqRefIdeal.τ Cert.KvqRefIdeal.sig) → Buf (Elt Ideal) ℓ) (g' : Dev Cert.KvqRefIdeal.nD → PrngReg), Pre_KvqIdeal m →
    (∀ c : Dev Cert.KvqIdeal.nD,
      m' ((c.tc : Thread Cert.KvqRefIdeal.nD Cert.KvqRefIdeal.τ).loc Cert.KvqRefIdeal.main_arg0) = m ((c.tc : Thread Cert.KvqIdeal.nD Cert.KvqIdeal.τ).loc Cert.KvqIdeal.main_arg0)
      ∧ m' ((c.tc : Thread Cert.KvqRefIdeal.nD Cert.KvqRefIdeal.τ).loc Cert.KvqRefIdeal.main_arg1) = m ((c.tc : Thread Cert.KvqIdeal.nD Cert.KvqIdeal.τ).loc Cert.KvqIdeal.main_arg1)
      ∧ m' ((c.tc : Thread Cert.KvqRefIdeal.nD Cert.KvqRefIdeal.τ).loc Cert.KvqRefIdeal.main_arg2) = m ((c.tc : Thread Cert.KvqIdeal.nD Cert.KvqIdeal.τ).loc Cert.KvqIdeal.main_arg2)
      ∧ m' ((c.tc : Thread Cert.KvqRefIdeal.nD Cert.KvqRefIdeal.τ).loc Cert.KvqRefIdeal.main_arg3) = m ((c.tc : Thread Cert.KvqIdeal.nD Cert.KvqIdeal.τ).loc Cert.KvqIdeal.main_arg3)
      ∧ m' ((c.tc : Thread Cert.KvqRefIdeal.nD Cert.KvqRefIdeal.τ).loc Cert.KvqRefIdeal.main_arg4) = m ((c.tc : Thread Cert.KvqIdeal.nD Cert.KvqIdeal.τ).loc Cert.KvqIdeal.main_arg4)) →
    ∃ (v0 : (c : Dev Cert.KvqIdeal.nD) → Buf (Elt Ideal) ((c.tc : Thread Cert.KvqIdeal.nD Cert.KvqIdeal.τ).loc Cert.KvqIdeal.main_v0_0)) (v1 : (c : Dev Cert.KvqIdeal.nD) → Buf (Elt Ideal) ((c.tc : Thread Cert.KvqIdeal.nD Cert.KvqIdeal.τ).loc Cert.KvqIdeal.main_v0_1)),
      θ_run (Cert.KvqIdeal.defs (F := Ideal)) (onTc (τ := Cert.KvqIdeal.τ) (Cert.KvqIdeal.main (F := Ideal))) ⟨m, fun _ => 0, g⟩ (fun r => ∀ c : Dev Cert.KvqIdeal.nD,
          r.2.mem ((c.tc : Thread Cert.KvqIdeal.nD Cert.KvqIdeal.τ).loc Cert.KvqIdeal.main_v0_0) = v0 c
          ∧ r.2.mem ((c.tc : Thread Cert.KvqIdeal.nD Cert.KvqIdeal.τ).loc Cert.KvqIdeal.main_v0_1) = v1 c
          ∧ r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
          ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
          ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
          ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
          ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4))
      ∧ θ_run (Cert.KvqRefIdeal.defs (F := Ideal)) (onTc (τ := Cert.KvqRefIdeal.τ) (Cert.KvqRefIdeal.main (F := Ideal))) ⟨m', fun _ => 0, g'⟩ (fun r => ∀ c : Dev Cert.KvqRefIdeal.nD,
          r.2.mem ((c.tc : Thread Cert.KvqRefIdeal.nD Cert.KvqRefIdeal.τ).loc Cert.KvqRefIdeal.main_v28) = v0 c
          ∧ r.2.mem ((c.tc : Thread Cert.KvqRefIdeal.nD Cert.KvqRefIdeal.τ).loc Cert.KvqRefIdeal.main_v35) = v1 c
          ∧ r.2.mem ((c.tc : Thread Cert.KvqRefIdeal.nD Cert.KvqRefIdeal.τ).loc Cert.KvqRefIdeal.main_arg0) = m' ((c.tc : Thread Cert.KvqRefIdeal.nD Cert.KvqRefIdeal.τ).loc Cert.KvqRefIdeal.main_arg0)
          ∧ r.2.mem ((c.tc : Thread Cert.KvqRefIdeal.nD Cert.KvqRefIdeal.τ).loc Cert.KvqRefIdeal.main_arg1) = m' ((c.tc : Thread Cert.KvqRefIdeal.nD Cert.KvqRefIdeal.τ).loc Cert.KvqRefIdeal.main_arg1)
          ∧ r.2.mem ((c.tc : Thread Cert.KvqRefIdeal.nD Cert.KvqRefIdeal.τ).loc Cert.KvqRefIdeal.main_arg2) = m' ((c.tc : Thread Cert.KvqRefIdeal.nD Cert.KvqRefIdeal.τ).loc Cert.KvqRefIdeal.main_arg2)
          ∧ r.2.mem ((c.tc : Thread Cert.KvqRefIdeal.nD Cert.KvqRefIdeal.τ).loc Cert.KvqRefIdeal.main_arg3) = m' ((c.tc : Thread Cert.KvqRefIdeal.nD Cert.KvqRefIdeal.τ).loc Cert.KvqRefIdeal.main_arg3)
          ∧ r.2.mem ((c.tc : Thread Cert.KvqRefIdeal.nD Cert.KvqRefIdeal.τ).loc Cert.KvqRefIdeal.main_arg4) = m' ((c.tc : Thread Cert.KvqRefIdeal.nD Cert.KvqRefIdeal.τ).loc Cert.KvqRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v14) = v0 c
          ∧ r.2.mem ((c.tc : Thread Cert.InprojRefIdeal.nD Cert.InprojRefIdeal.τ).loc Cert.InprojRefIdeal.main_v18) = v1 c
          ∧ r.2.mem ((c.tc : Thread Cert.InprojRefIdeal.nD Cert.InprojRefIdeal.τ).loc Cert.InprojRefIdeal.main_v16) = v2 c
          ∧ r.2.mem ((c.tc : Thread Cert.InprojRefIdeal.nD Cert.InprojRefIdeal.τ).loc Cert.InprojRefIdeal.main_v17) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)
      ∧ m' ((c.tc : Thread Cert.GlaRefIdeal.nD Cert.GlaRefIdeal.τ).loc Cert.GlaRefIdeal.main_arg7) = m ((c.tc : Thread Cert.GlaIdeal.nD Cert.GlaIdeal.τ).loc Cert.GlaIdeal.main_arg7)
      ∧ m' ((c.tc : Thread Cert.GlaRefIdeal.nD Cert.GlaRefIdeal.τ).loc Cert.GlaRefIdeal.main_arg8) = m ((c.tc : Thread Cert.GlaIdeal.nD Cert.GlaIdeal.τ).loc Cert.GlaIdeal.main_arg8)
      ∧ m' ((c.tc : Thread Cert.GlaRefIdeal.nD Cert.GlaRefIdeal.τ).loc Cert.GlaRefIdeal.main_arg9) = m ((c.tc : Thread Cert.GlaIdeal.nD Cert.GlaIdeal.τ).loc Cert.GlaIdeal.main_arg9)) →
    ∃ (v0 : (c : Dev Cert.GlaIdeal.nD) → Buf (Elt Ideal) ((c.tc : Thread Cert.GlaIdeal.nD Cert.GlaIdeal.τ).loc Cert.GlaIdeal.main_v22_0)) (v1 : (c : Dev Cert.GlaIdeal.nD) → Buf (Elt Ideal) ((c.tc : Thread Cert.GlaIdeal.nD Cert.GlaIdeal.τ).loc Cert.GlaIdeal.main_v22_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v22_0) = v0 c
          ∧ r.2.mem ((c.tc : Thread Cert.GlaIdeal.nD Cert.GlaIdeal.τ).loc Cert.GlaIdeal.main_v22_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
          ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
          ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v64) = v0 c
          ∧ r.2.mem ((c.tc : Thread Cert.GlaRefIdeal.nD Cert.GlaRefIdeal.τ).loc Cert.GlaRefIdeal.main_v78) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6)
          ∧ r.2.mem ((c.tc : Thread Cert.GlaRefIdeal.nD Cert.GlaRefIdeal.τ).loc Cert.GlaRefIdeal.main_arg7) = m' ((c.tc : Thread Cert.GlaRefIdeal.nD Cert.GlaRefIdeal.τ).loc Cert.GlaRefIdeal.main_arg7)
          ∧ r.2.mem ((c.tc : Thread Cert.GlaRefIdeal.nD Cert.GlaRefIdeal.τ).loc Cert.GlaRefIdeal.main_arg8) = m' ((c.tc : Thread Cert.GlaRefIdeal.nD Cert.GlaRefIdeal.τ).loc Cert.GlaRefIdeal.main_arg8)
          ∧ r.2.mem ((c.tc : Thread Cert.GlaRefIdeal.nD Cert.GlaRefIdeal.τ).loc Cert.GlaRefIdeal.main_arg9) = m' ((c.tc : Thread Cert.GlaRefIdeal.nD Cert.GlaRefIdeal.τ).loc Cert.GlaRefIdeal.main_arg9))

def Claim : Prop :=
  ∃ (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hSb : Cert.Sb.Facts) (hSbIdeal : Cert.SbIdeal.Facts) (hSbRefIdeal : Cert.SbRefIdeal.Facts) (hKvq : Cert.Kvq.Facts) (hKvqIdeal : Cert.KvqIdeal.Facts) (hKvqRefIdeal : Cert.KvqRefIdeal.Facts) (hInproj : Cert.Inproj.Facts) (hInprojIdeal : Cert.InprojIdeal.Facts) (hInprojRefIdeal : Cert.InprojRefIdeal.Facts) (hGla : Cert.Gla.Facts) (hGlaIdeal : Cert.GlaIdeal.Facts) (hGlaRefIdeal : Cert.GlaRefIdeal.Facts) (hPre_tables_in_range : Cert.Pre_tables_in_range.Facts) (hPre_finite_queries_and_keys : Cert.Pre_finite_queries_and_keys.Facts),
    quiescent_Moe (hMoe := hMoe) (hPre_tables_in_range := hPre_tables_in_range)
    ∧ quiescent_MoeIdeal (hMoeIdeal := hMoeIdeal) (hPre_tables_in_range := hPre_tables_in_range)
    ∧ quiescent_MoeRefIdeal (hMoeRefIdeal := hMoeRefIdeal) (hPre_tables_in_range := hPre_tables_in_range)
    ∧ quiescent_Ffn (hFfn := hFfn)
    ∧ quiescent_FfnIdeal (hFfnIdeal := hFfnIdeal)
    ∧ quiescent_FfnRefIdeal (hFfnRefIdeal := hFfnRefIdeal)
    ∧ quiescent_Sb (hSb := hSb)
    ∧ quiescent_SbIdeal (hSbIdeal := hSbIdeal)
    ∧ quiescent_SbIdeal_pre_finite_queries_and_keys (hSbIdeal := hSbIdeal) (hPre_finite_queries_and_keys := hPre_finite_queries_and_keys)
    ∧ quiescent_SbRefIdeal (hSbRefIdeal := hSbRefIdeal)
    ∧ quiescent_SbRefIdeal_pre_finite_queries_and_keys (hSbRefIdeal := hSbRefIdeal) (hPre_finite_queries_and_keys := hPre_finite_queries_and_keys)
    ∧ quiescent_Kvq (hKvq := hKvq)
    ∧ quiescent_KvqIdeal (hKvqIdeal := hKvqIdeal)
    ∧ quiescent_KvqRefIdeal (hKvqRefIdeal := hKvqRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Gla (hGla := hGla)
    ∧ quiescent_GlaIdeal (hGlaIdeal := hGlaIdeal)
    ∧ quiescent_GlaRefIdeal (hGlaRefIdeal := hGlaRefIdeal)
    ∧ preserves_Moe_MoeIdeal
    ∧ algebraic_MoeIdeal_MoeRefIdeal (hMoeIdeal := hMoeIdeal) (hMoeRefIdeal := hMoeRefIdeal) (hPre_tables_in_range := hPre_tables_in_range)
    ∧ preserves_Ffn_FfnIdeal
    ∧ algebraic_FfnIdeal_FfnRefIdeal (hFfnIdeal := hFfnIdeal) (hFfnRefIdeal := hFfnRefIdeal)
    ∧ preserves_Sb_SbIdeal
    ∧ algebraic_SbIdeal_SbRefIdeal_pre_finite_queries_and_keys (hSbIdeal := hSbIdeal) (hSbRefIdeal := hSbRefIdeal) (hPre_finite_queries_and_keys := hPre_finite_queries_and_keys)
    ∧ preserves_Kvq_KvqIdeal
    ∧ algebraic_KvqIdeal_KvqRefIdeal (hKvqIdeal := hKvqIdeal) (hKvqRefIdeal := hKvqRefIdeal)
    ∧ preserves_Inproj_InprojIdeal
    ∧ algebraic_InprojIdeal_InprojRefIdeal (hInprojIdeal := hInprojIdeal) (hInprojRefIdeal := hInprojRefIdeal)
    ∧ preserves_Gla_GlaIdeal
    ∧ algebraic_GlaIdeal_GlaRefIdeal (hGlaIdeal := hGlaIdeal) (hGlaRefIdeal := hGlaRefIdeal)
-- ==== Pre_finite_queries_and_keys.lean ====
abbrev S32768x1024 : Shape := ⟨2, ![32768, 1024]⟩
abbrev S32768x2048 : Shape := ⟨2, ![32768, 2048]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  slices_S32768x2048_S32768x1024_0_0 : S32768x2048.Slices ![0, 0] S32768x1024

variable [Facts]

def fn {F : FTy → Type} [FloatOps F] (main_arg0 : FVec F S32768x1024 .bf16) (main_arg1 : FVec F S32768x2048 .bf16) : IVec S32768x1024 1 × IVec S32768x1024 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x1024 .bf16 := (extractStridedSlice S32768x1024 ![0, 0] · slices_S32768x2048_S32768x1024_0_0) main_arg1
  let main_v5 : FVec F S32768x1024 .f32 := (extf .f32 · bitsLt_bf16_f32) main_v4
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  (main_v3, main_v8)
-- ==== Pre_tables_in_range.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  bcast_S_S1 : S_.BroadcastsInDim S1 (![] : Fin 0 → Fin S1.rank)

variable [Facts]

def fn {F : FTy → Type} [FloatOps F] (main_arg0 : IVec S136 32) (main_arg1 : IVec S1 32) (main_arg2 : FVec F S69632x1024 .f32) (main_arg3 : FVec F S8x1024x3584 .bf16) (main_arg4 : FVec F S8x1024x3584 .bf16) (main_arg5 : FVec F S8x3584x1024 .bf16) : IVec S136 1 × IVec S1 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Moe.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x3584 : Shape := ⟨3, ![1, 1024, 3584]⟩
abbrev S1x3584x1024 : Shape := ⟨3, ![1, 3584, 1024]⟩
abbrev S512x3584 : Shape := ⟨2, ![512, 3584]⟩
abbrev S1x1024x256 : Shape := ⟨3, ![1, 1024, 256]⟩
abbrev S1024x256 : Shape := ⟨2, ![1024, 256]⟩
abbrev S512x256 : Shape := ⟨2, ![512, 256]⟩
abbrev S3584x1024 : Shape := ⟨2, ![3584, 1024]⟩

abbrev nBuf : Space → Nat
  | .hbm => 5
  | .vmem => 10
  | .smem => 2
  | _ => 0

abbrev bufTy : (tb : Table) → Fin (tcTables nBuf tb) → BufTy
  | .hbm, ⟨0, _⟩ => ⟨S69632x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x3584, .bf16⟩
  | .local _ .vmem, ⟨3, _⟩ => ⟨S1x1024x3584, .bf16⟩
  | .local _ .vmem, ⟨4, _⟩ => ⟨S1x3584x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x3584, .bf16⟩
  | .local _ .vmem, ⟨9, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![136, 1], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond5 (i : grid0.Coords) : BitVec 1 :=
  let arg1 : BitVec 32 := BitVec.ofNat 32 (i 1).val
  let c0_i32_186 : BitVec 32 := 0#32
  let v293 : BitVec 1 := Scalar.cmpi .eq arg1 c0_i32_186
  let false_187 : BitVec 1 := 0#1
  let v294 : BitVec 1 := Scalar.andi v293 false_187
  let v295 : BitVec 32 := Scalar.extui v294
  let c0_i32_188 : BitVec 32 := 0#32
  let v296 : BitVec 1 := Scalar.cmpi .ne v295 c0_i32_188
  v296

def k0_cond6 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_2 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_3 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S136x512 : Shape := ⟨2, ![136, 512]⟩
abbrev S69632 : Shape := ⟨1, ![69632]⟩
abbrev S_ : Shape := ⟨0, ![]⟩
abbrev S69632x1 : Shape := ⟨2, ![69632, 1]⟩
abbrev S8 : Shape := ⟨1, ![8]⟩
abbrev S1x8 : Shape := ⟨2, ![1, 8]⟩
abbrev S69632x8 : Shape := ⟨2, ![69632, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S69632x3584 : Shape := ⟨2, ![69632, 3584]⟩

abbrev nBuf : Space → Nat
  | .hbm => 229
  | .vmem => 0
  | .smem => 0
  | _ => 0

abbrev hbmTy0_0 (i : Nat) : BufTy := match i % 128 with
  | 0 => ⟨S136, .i32⟩
  | 1 => ⟨S1, .i32⟩
  | 2 => ⟨S69632x1024, .f32⟩
  | 3 => ⟨S8x1024x3584, .bf16⟩
  | 4 => ⟨S8x1024x3584, .bf16⟩
  | 5 => ⟨S8x3584x1024, .bf16⟩
  | 6 => ⟨S136x512, .i32⟩
  | 7 => ⟨S69632, .i32⟩
  | 8 => ⟨S69632, .i32⟩
  | 9 => ⟨S_, .i32⟩
  | 10 => ⟨S_, .i32⟩
  | 11 => ⟨S69632, .i32⟩
  | 12 => ⟨S69632, .i32⟩
  | 13 => ⟨S69632, .i32⟩
  | 14 => ⟨S_, .i32⟩
  | 15 => ⟨S69632, .i32⟩
  | 16 => ⟨S69632, .i1⟩
  | 17 => ⟨S69632, .i32⟩
  | 18 => ⟨S69632, .i32⟩
  | 19 => ⟨S_, .i32⟩
  | 20 => ⟨S69632, .i32⟩
  | 21 => ⟨S69632, .i1⟩
  | 22 => ⟨S69632, .i1⟩
  | 23 => ⟨S_, .i32⟩
  | 24 => ⟨S69632, .i32⟩
  | 25 => ⟨S69632, .i32⟩
  | 26 => ⟨S69632, .i32⟩
  | 27 => ⟨S_, .i32⟩
  | 28 => ⟨S69632, .i32⟩
  | 29 => ⟨S69632, .i1⟩
  | 30 => ⟨S69632x1, .i32⟩
  | 31 => ⟨S8, .i32⟩
  | 32 => ⟨S1x8, .i32⟩
  | 33 => ⟨S69632x8, .i32⟩
  | 34 => ⟨S69632x8, .i32⟩
  | 35 => ⟨S69632x8, .i1⟩
  | 36 => ⟨S69632x1, .i1⟩
  | 37 => ⟨S69632x8, .i1⟩
  | 38 => ⟨S69632x8, .i1⟩
  | 39 => ⟨S69632x8, .f32⟩
  | 40 => ⟨S8x1024x3584, .f32⟩
  | 41 => ⟨S8x1024x3584, .f32⟩
  | 42 => ⟨S8x3584x1024, .f32⟩
  | 43 => ⟨S_, .f32⟩
  | 44 => ⟨S69632x1024, .f32⟩
  | 45 => ⟨S69632x1, .f32⟩
  | 46 => ⟨S1x1024x3584, .f32⟩
  | 47 => ⟨S1024x3584, .f32⟩
  | 48 => ⟨S1x1024x3584, .f32⟩
  | 49 => ⟨S1024x3584, .f32⟩
  | 50 => ⟨S1x3584x1024, .f32⟩
  | 51 => ⟨S3584x1024, .f32⟩
  | 52 => ⟨S69632x3584, .f32⟩
  | 53 => ⟨S69632x3584, .f32⟩
  | 54 => ⟨S69632x3584, .f32⟩
  | 55 => ⟨S_, .f32⟩
  | 56 => ⟨S69632x3584, .f32⟩
  | 57 => ⟨S69632x3584, .f32⟩
  | 58 => ⟨S_, .f32⟩
  | 59 => ⟨S69632x3584, .f32⟩
  | 60 => ⟨S69632x3584, .f32⟩
  | 61 => ⟨S69632x3584, .f32⟩
  | 62 => ⟨S69632x3584, .f32⟩
  | 63 => ⟨S69632x3584, .f32⟩
  | 64 => ⟨S69632x1024, .f32⟩
  | 65 => ⟨S69632x1024, .f32⟩
  | 66 => ⟨S69632x1024, .f32⟩
  | 67 => ⟨S69632x1024, .f32⟩
  | 68 => ⟨S69632x1, .f32⟩
  | 69 => ⟨S1x1024x3584, .f32⟩
  | 70 => ⟨S1024x3584, .f32⟩
  | 71 => ⟨S1x1024x3584, .f32⟩
  | 72 => ⟨S1024x3584, .f32⟩
  | 73 => ⟨S1x3584x1024, .f32⟩
  | 74 => ⟨S3584x1024, .f32⟩
  | 75 => ⟨S69632x3584, .f32⟩
  | 76 => ⟨S69632x3584, .f32⟩
  | 77 => ⟨S69632x3584, .f32⟩
  | 78 => ⟨S_, .f32⟩
  | 79 => ⟨S69632x3584, .f32⟩
  | 80 => ⟨S69632x3584, .f32⟩
  | 81 => ⟨S_, .f32⟩
  | 82 => ⟨S69632x3584, .f32⟩
  | 83 => ⟨S69632x3584, .f32⟩
  | 84 => ⟨S69632x3584, .f32⟩
  | 85 => ⟨S69632x3584, .f32⟩
  | 86 => ⟨S69632x3584, .f32⟩
  | 87 => ⟨S69632x1024, .f32⟩
  | 88 => ⟨S69632x1024, .f32⟩
  | 89 => ⟨S69632x1024, .f32⟩
  | 90 => ⟨S69632x1024, .f32⟩
  | 91 => ⟨S69632x1, .f32⟩
  | 92 => ⟨S1x1024x3584, .f32⟩
  | 93 => ⟨S1024x3584, .f32⟩
  | 94 => ⟨S1x1024x3584, .f32⟩
  | 95 => ⟨S1024x3584, .f32⟩
  | 96 => ⟨S1x3584x1024, .f32⟩
  | 97 => ⟨S3584x1024, .f32⟩
  | 98 => ⟨S69632x3584, .f32⟩
  | 99 => ⟨S69632x3584, .f32⟩
  | 100 => ⟨S69632x3584, .f32⟩
  | 101 => ⟨S_, .f32⟩
  | 102 => ⟨S69632x3584, .f32⟩
  | 103 => ⟨S69632x3584, .f32⟩
  | 104 => ⟨S_, .f32⟩
  | 105 => ⟨S69632x3584, .f32⟩
  | 106 => ⟨S69632x3584, .f32⟩
  | 107 => ⟨S69632x3584, .f32⟩
  | 108 => ⟨S69632x3584, .f32⟩
  | 109 => ⟨S69632x3584, .f32⟩
  | 110 => ⟨S69632x1024, .f32⟩
  | 111 => ⟨S69632x1024, .f32⟩
  | 112 => ⟨S69632x1024, .f32⟩
  | 113 => ⟨S69632x1024, .f32⟩
  | 114 => ⟨S69632x1, .f32⟩
  | 115 => ⟨S1x1024x3584, .f32⟩
  | 116 => ⟨S1024x3584, .f32⟩
  | 117 => ⟨S1x1024x3584, .f32⟩
  | 118 => ⟨S1024x3584, .f32⟩
  | 119 => ⟨S1x3584x1024, .f32⟩
  | 120 => ⟨S3584x1024, .f32⟩
  | 121 => ⟨S69632x3584, .f32⟩
  | 122 => ⟨S69632x3584, .f32⟩
  | 123 => ⟨S69632x3584, .f32⟩
  | 124 => ⟨S_, .f32⟩
  | 125 => ⟨S69632x3584, .f32⟩
  | 126 => ⟨S69632x3584, .f32⟩
  | 127 => ⟨S_, .f32⟩
  | _ => ⟨S136, .i32⟩

abbrev hbmTy0_1 (i : Nat) : BufTy := match i % 128 with
  | 0 => ⟨S69632x3584, .f32⟩
  | 1 => ⟨S69632x3584, .f32⟩
  | 2 => ⟨S69632x3584, .f32⟩
  | 3 => ⟨S69632x3584, .f32⟩
  | 4 => ⟨S69632x3584, .f32⟩
  | 5 => ⟨S69632x1024, .f32⟩
  | 6 => ⟨S69632x1024, .f32⟩
  | 7 => ⟨S69632x1024, .f32⟩
  | 8 => ⟨S69632x1024, .f32⟩
  | 9 => ⟨S69632x1, .f32⟩
  | 10 => ⟨S1x1024x3584, .f32⟩
  | 11 => ⟨S1024x3584, .f32⟩
  | 12 => ⟨S1x1024x3584, .f32⟩
  | 13 => ⟨S1024x3584, .f32⟩
  | 14 => ⟨S1x3584x1024, .f32⟩
  | 15 => ⟨S3584x1024, .f32⟩
  | 16 => ⟨S69632x3584, .f32⟩
  | 17 => ⟨S69632x3584, .f32⟩
  | 18 => ⟨S69632x3584, .f32⟩
  | 19 => ⟨S_, .f32⟩
  | 20 => ⟨S69632x3584, .f32⟩
  | 21 => ⟨S69632x3584, .f32⟩
  | 22 => ⟨S_, .f32⟩
  | 23 => ⟨S69632x3584, .f32⟩
  | 24 => ⟨S69632x3584, .f32⟩
  | 25 => ⟨S69632x3584, .f32⟩
  | 26 => ⟨S69632x3584, .f32⟩
  | 27 => ⟨S69632x3584, .f32⟩
  | 28 => ⟨S69632x1024, .f32⟩
  | 29 => ⟨S69632x1024, .f32⟩
  | 30 => ⟨S69632x1024, .f32⟩
  | 31 => ⟨S69632x1024, .f32⟩
  | 32 => ⟨S69632x1, .f32⟩
  | 33 => ⟨S1x1024x3584, .f32⟩
  | 34 => ⟨S1024x3584, .f32⟩
  | 35 => ⟨S1x1024x3584, .f32⟩
  | 36 => ⟨S1024x3584, .f32⟩
  | 37 => ⟨S1x3584x1024, .f32⟩
  | 38 => ⟨S3584x1024, .f32⟩
  | 39 => ⟨S69632x3584, .f32⟩
  | 40 => ⟨S69632x3584, .f32⟩
  | 41 => ⟨S69632x3584, .f32⟩
  | 42 => ⟨S_, .f32⟩
  | 43 => ⟨S69632x3584, .f32⟩
  | 44 => ⟨S69632x3584, .f32⟩
  | 45 => ⟨S_, .f32⟩
  | 46 => ⟨S69632x3584, .f32⟩
  | 47 => ⟨S69632x3584, .f32⟩
  | 48 => ⟨S69632x3584, .f32⟩
  | 49 => ⟨S69632x3584, .f32⟩
  | 50 => ⟨S69632x3584, .f32⟩
  | 51 => ⟨S69632x1024, .f32⟩
  | 52 => ⟨S69632x1024, .f32⟩
  | 53 => ⟨S69632x1024, .f32⟩
  | 54 => ⟨S69632x1024, .f32⟩
  | 55 => ⟨S69632x1, .f32⟩
  | 56 => ⟨S1x1024x3584, .f32⟩
  | 57 => ⟨S1024x3584, .f32⟩
  | 58 => ⟨S1x1024x3584, .f32⟩
  | 59 => ⟨S1024x3584, .f32⟩
  | 60 => ⟨S1x3584x1024, .f32⟩
  | 61 => ⟨S3584x1024, .f32⟩
  | 62 => ⟨S69632x3584, .f32⟩
  | 63 => ⟨S69632x3584, .f32⟩
  | 64 => ⟨S69632x3584, .f32⟩
  | 65 => ⟨S_, .f32⟩
  | 66 => ⟨S69632x3584, .f32⟩
  | 67 => ⟨S69632x3584, .f32⟩
  | 68 => ⟨S_, .f32⟩
  | 69 => ⟨S69632x3584, .f32⟩
  | 70 => ⟨S69632x3584, .f32⟩
  | 71 => ⟨S69632x3584, .f32⟩
  | 72 => ⟨S69632x3584, .f32⟩
  | 73 => ⟨S69632x3584, .f32⟩
  | 74 => ⟨S69632x1024, .f32⟩
  | 75 => ⟨S69632x1024, .f32⟩
  | 76 => ⟨S69632x1024, .f32⟩
  | 77 => ⟨S69632x1024, .f32⟩
  | 78 => ⟨S69632x1, .f32⟩
  | 79 => ⟨S1x1024x3584, .f32⟩
  | 80 => ⟨S1024x3584, .f32⟩
  | 81 => ⟨S1x1024x3584, .f32⟩
  | 82 => ⟨S1024x3584, .f32⟩
  | 83 => ⟨S1x3584x1024, .f32⟩
  | 84 => ⟨S3584x1024, .f32⟩
  | 85 => ⟨S69632x3584, .f32⟩
  | 86 => ⟨S69632x3584, .f32⟩
  | 87 => ⟨S69632x3584, .f32⟩
  | 88 => ⟨S_, .f32⟩
  | 89 => ⟨S69632x3584, .f32⟩
  | 90 => ⟨S69632x3584, .f32⟩
  | 91 => ⟨S_, .f32⟩
  | 92 => ⟨S69632x3584, .f32⟩
  | 93 => ⟨S69632x3584, .f32⟩
  | 94 => ⟨S69632x3584, .f32⟩
  | 95 => ⟨S69632x3584, .f32⟩
  | 96 => ⟨S69632x3584, .f32⟩
  | 97 => ⟨S69632x1024, .f32⟩
  | 98 => ⟨S69632x1024, .f32⟩
  | 99 => ⟨S69632x1024, .f32⟩
  | 100 => ⟨S69632x1024, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call2_v0 : Ref sig .tc := ⟨.hbm, 76, rfl⟩
abbrev main_call2_v1 : Ref sig .tc := ⟨.hbm, 77, rfl⟩
abbrev main_call2_cst : Ref sig .tc := ⟨.hbm, 78, rfl⟩
abbrev main_call2_v2 : Ref sig .tc := ⟨.hbm, 79, rfl⟩
abbrev main_call2_v3 : Ref sig .tc := ⟨.hbm, 80, rfl⟩
abbrev main_call2_cst_0 : Ref sig .tc := ⟨.hbm, 81, rfl⟩
abbrev main_call2_v4 : Ref sig .tc := ⟨.hbm, 82, rfl⟩
abbrev main_call2_v5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call3_v0 : Ref sig .tc := ⟨.hbm, 99, rfl⟩
abbrev main_call3_v1 : Ref sig .tc := ⟨.hbm, 100, rfl⟩
abbrev main_call3_cst : Ref sig .tc := ⟨.hbm, 101, rfl⟩
abbrev main_call3_v2 : Ref sig .tc := ⟨.hbm, 102, rfl⟩
abbrev main_call3_v3 : Ref sig .tc := ⟨.hbm, 103, rfl⟩
abbrev main_call3_cst_0 : Ref sig .tc := ⟨.hbm, 104, rfl⟩
abbrev main_call3_v4 : Ref sig .tc := ⟨.hbm, 105, rfl⟩
abbrev main_call3_v5 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_call4_v0 : Ref sig .tc := ⟨.hbm, 122, rfl⟩
abbrev main_call4_v1 : Ref sig .tc := ⟨.hbm, 123, rfl⟩
abbrev main_call4_cst : Ref sig .tc := ⟨.hbm, 124, rfl⟩
abbrev main_call4_v2 : Ref sig .tc := ⟨.hbm, 125, rfl⟩
abbrev main_call4_v3 : Ref sig .tc := ⟨.hbm, 126, rfl⟩
abbrev main_call4_cst_0 : Ref sig .tc := ⟨.hbm, 127, rfl⟩
abbrev main_call4_v4 : Ref sig .tc := ⟨.hbm, 128, rfl⟩
abbrev main_call4_v5 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_call5_v0 : Ref sig .tc := ⟨.hbm, 145, rfl⟩
abbrev main_call5_v1 : Ref sig .tc := ⟨.hbm, 146, rfl⟩
abbrev main_call5_cst : Ref sig .tc := ⟨.hbm, 147, rfl⟩
abbrev main_call5_v2 : Ref sig .tc := ⟨.hbm, 148, rfl⟩
abbrev main_call5_v3 : Ref sig .tc := ⟨.hbm, 149, rfl⟩
abbrev main_call5_cst_0 : Ref sig .tc := ⟨.hbm, 150, rfl⟩
abbrev main_call5_v4 : Ref sig .tc := ⟨.hbm, 151, rfl⟩
abbrev main_call5_v5 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_call6_v0 : Ref sig .tc := ⟨.hbm, 168, rfl⟩
abbrev main_call6_v1 : Ref sig .tc := ⟨.hbm, 169, rfl⟩
abbrev main_call6_cst : Ref sig .tc := ⟨.hbm, 170, rfl⟩
abbrev main_call6_v2 : Ref sig .tc := ⟨.hbm, 171, rfl⟩
abbrev main_call6_v3 : Ref sig .tc := ⟨.hbm, 172, rfl⟩
abbrev main_call6_cst_0 : Ref sig .tc := ⟨.hbm, 173, rfl⟩
abbrev main_call6_v4 : Ref sig .tc := ⟨.hbm, 174, rfl⟩
abbrev main_call6_v5 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_call7_v0 : Ref sig .tc := ⟨.hbm, 191, rfl⟩
abbrev main_call7_v1 : Ref sig .tc := ⟨.hbm, 192, rfl⟩
abbrev main_call7_cst : Ref sig .tc := ⟨.hbm, 193, rfl⟩
abbrev main_call7_v2 : Ref sig .tc := ⟨.hbm, 194, rfl⟩
abbrev main_call7_v3 : Ref sig .tc := ⟨.hbm, 195, rfl⟩
abbrev main_call7_cst_0 : Ref sig .tc := ⟨.hbm, 196, rfl⟩
abbrev main_call7_v4 : Ref sig .tc := ⟨.hbm, 197, rfl⟩
abbrev main_call7_v5 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_call8_v0 : Ref sig .tc := ⟨.hbm, 214, rfl⟩
abbrev main_call8_v1 : Ref sig .tc := ⟨.hbm, 215, rfl⟩
abbrev main_call8_cst : Ref sig .tc := ⟨.hbm, 216, rfl⟩
abbrev main_call8_v2 : Ref sig .tc := ⟨.hbm, 217, rfl⟩
abbrev main_call8_v3 : Ref sig .tc := ⟨.hbm, 218, rfl⟩
abbrev main_call8_cst_0 : Ref sig .tc := ⟨.hbm, 219, rfl⟩
abbrev main_call8_v4 : Ref sig .tc := ⟨.hbm, 220, rfl⟩
abbrev main_call8_v5 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩

abbrev nD : Nat := 1
abbrev τ : Topo := Topo.v7x

variable {F : FTy → Type} [FloatOps F]
-- ==== Ffn.lean ====
abbrev S32768x1024 : Shape := ⟨2, ![32768, 1024]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S32768x1024, .f32⟩
  | .hbm, ⟨5, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S32768x1024 : Shape := ⟨2, ![32768, 1024]⟩
abbrev S1024x2816 : Shape := ⟨2, ![1024, 2816]⟩
abbrev S2816x1024 : Shape := ⟨2, ![2816, 1024]⟩
abbrev S32768x2816 : Shape := ⟨2, ![32768, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S32768x1024, .f32⟩
  | .hbm, ⟨5, _⟩ => ⟨S32768x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Sb.lean ====
abbrev S32768x1024 : Shape := ⟨2, ![32768, 1024]⟩
abbrev S32768x2048 : Shape := ⟨2, ![32768, 2048]⟩
abbrev S8x4096x1024 : Shape := ⟨3, ![8, 4096, 1024]⟩
abbrev S8x4096x2048 : Shape := ⟨3, ![8, 4096, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024x1024 : Shape := ⟨3, ![1, 1024, 1024]⟩
abbrev S1x4096x1024 : Shape := ⟨3, ![1, 4096, 1024]⟩
abbrev S1024x1024 : Shape := ⟨2, ![1024, 1024]⟩
abbrev S8x1024x128 : Shape := ⟨3, ![8, 1024, 128]⟩
abbrev S1x256x128 : Shape := ⟨3, ![1, 256, 128]⟩
abbrev S256x128 : Shape := ⟨2, ![256, 128]⟩
abbrev S512x256 : Shape := ⟨2, ![512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S768x256 : Shape := ⟨2, ![768, 256]⟩
abbrev S1x768x128 : Shape := ⟨3, ![1, 768, 128]⟩
abbrev S768x128 : Shape := ⟨2, ![768, 128]⟩
abbrev S768 : Shape := ⟨1, ![768]⟩
abbrev S768x1 : Shape := ⟨2, ![768, 1]⟩
abbrev S1024x256 : Shape := ⟨2, ![1024, 256]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 12
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S8x4096x1024, .bf16⟩
  | .hbm, ⟨3, _⟩ => ⟨S8x4096x2048, .bf16⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S8x4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S256x256, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1024x1024, .f32⟩
  | .local _ .vmem, ⟨10, _⟩ => ⟨S8x1024x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 4], ![false, false, false]⟩

def k0_mult1 (i : grid0.Coords) : BitVec 32 :=
  let arg2 : BitVec 32 := BitVec.ofNat 32 (i 2).val
  let c1_i32 : BitVec 32 := 1#32
  let v10 : BitVec 32 := Scalar.addi arg2 c1_i32
  let c4_i32 : BitVec 32 := 4#32
  let v11 : BitVec 32 := Scalar.muli v10 c4_i32
  let c1_i32_7 : BitVec 32 := 1#32
  let v12 : BitVec 32 := Scalar.subi v11 c1_i32_7
  let c0_i32 : BitVec 32 := 0#32
  let v13 : BitVec 32 := Scalar.subi v12 c0_i32
  let c256_i32 : BitVec 32 := 256#32
  let v14 : BitVec 32 := Scalar.muli v13 c256_i32
  v14
def k0_off1 (i : grid0.Coords) (c0_i32 : BitVec 32) : Fin 3 → Nat :=
  let c0_11 : Index := 0#32
  let arg2 : BitVec 32 := BitVec.ofNat 32 (i 2).val
  let c1_i32 : BitVec 32 := 1#32
  let v10 : BitVec 32 := Scalar.addi arg2 c1_i32
  let c4_i32 : BitVec 32 := 4#32
  let v11 : BitVec 32 := Scalar.muli v10 c4_i32
  let c1_i32_7 : BitVec 32 := 1#32
  let v12 : BitVec 32 := Scalar.subi v11 c1_i32_7
  let v13 : BitVec 32 := Scalar.subi v12 c0_i32
  let c256_i32 : BitVec 32 := 256#32
  let v14 : BitVec 32 := Scalar.muli v13 c256_i32
  let v15 : BitVec 32 := v14
  let v28 : Index := Scalar.indexCast v15
  let c0_12 : Index := 0#32
  ![0, v28.toNat, 0]
def k0_off2 (i : grid0.Coords) (c0_i32 : BitVec 32) : Fin 3 → Nat :=
  let c0_37 : Index := 0#32
  let arg2 : BitVec 32 := BitVec.ofNat 32 (i 2).val
  let c1_i32 : BitVec 32 := 1#32
  let v10 : BitVec 32 := Scalar.addi arg2 c1_i32
  let c4_i32 : BitVec 32 := 4#32
  let v11 : BitVec 32 := Scalar.muli v10 c4_i32
  let c1_i32_7 : BitVec 32 := 1#32
  let v12 : BitVec 32 := Scalar.subi v11 c1_i32_7
  let v13 : BitVec 32 := Scalar.subi v12 c0_i32
  let c256_i32 : BitVec 32 := 256#32
  let v14 : BitVec 32 := Scalar.muli v13 c256_i32
  let v15 : BitVec 32 := v14
  let v76 : Index := Scalar.indexCast v15
  let c128_38 : Index := 128#32
  ![0, v76.toNat, 128]
def k0_off3 (i : grid0.Coords) (c0_i32 : BitVec 32) : Fin 3 → Nat :=
  let c0_62 : Index := 0#32
  let arg2 : BitVec 32 := BitVec.ofNat 32 (i 2).val
  let c1_i32 : BitVec 32 := 1#32
  let v10 : BitVec 32 := Scalar.addi arg2 c1_i32
  let c4_i32 : BitVec 32 := 4#32
  let v11 : BitVec 32 := Scalar.muli v10 c4_i32
  let c1_i32_7 : BitVec 32 := 1#32
  let v12 : BitVec 32 := Scalar.subi v11 c1_i32_7
  let v13 : BitVec 32 := Scalar.subi v12 c0_i32
  let c256_i32 : BitVec 32 := 256#32
  let v14 : BitVec 32 := Scalar.muli v13 c256_i32
  let v15 : BitVec 32 := v14
  let v124 : Index := Scalar.indexCast v15
  let c256_63 : Index := 256#32
  ![0, v124.toNat, 256]
def k0_off4 (i : grid0.Coords) (c0_i32 : BitVec 32) : Fin 3 → Nat :=
  let c0_87 : Index := 0#32
  let arg2 : BitVec 32 := BitVec.ofNat 32 (i 2).val
  let c1_i32 : BitVec 32 := 1#32
  let v10 : BitVec 32 := Scalar.addi arg2 c1_i32
  let c4_i32 : BitVec 32 := 4#32
  let v11 : BitVec 32 := Scalar.muli v10 c4_i32
  let c1_i32_7 : BitVec 32 := 1#32
  let v12 : BitVec 32 := Scalar.subi v11 c1_i32_7
  let v13 : BitVec 32 := Scalar.subi v12 c0_i32
  let c256_i32 : BitVec 32 := 256#32
  let v14 : BitVec 32 := Scalar.muli v13 c256_i32
  let v15 : BitVec 32 := v14
  let v172 : Index := Scalar.indexCast v15
  let c384_88 : Index := 384#32
  ![0, v172.toNat, 384]
def k0_off5 (i : grid0.Coords) (c0_i32 : BitVec 32) : Fin 3 → Nat :=
  let c0_112 : Index := 0#32
  let arg2 : BitVec 32 := BitVec.ofNat 32 (i 2).val
  let c1_i32 : BitVec 32 := 1#32
  let v10 : BitVec 32 := Scalar.addi arg2 c1_i32
  let c4_i32 : BitVec 32 := 4#32
  let v11 : BitVec 32 := Scalar.muli v10 c4_i32
  let c1_i32_7 : BitVec 32 := 1#32
  let v12 : BitVec 32 := Scalar.subi v11 c1_i32_7
  let v13 : BitVec 32 := Scalar.subi v12 c0_i32
  let c256_i32 : BitVec 32 := 256#32
  let v14 : BitVec 32 := Scalar.muli v13 c256_i32
  let v15 : BitVec 32 := v14
  let v220 : Index := Scalar.indexCast v15
  let c512_113 : Index := 512#32
  ![0, v220.toNat, 512]
def k0_off6 (i : grid0.Coords) (c0_i32 : BitVec 32) : Fin 3 → Nat :=
  let c0_137 : Index := 0#32
  let arg2 : BitVec 32 := BitVec.ofNat 32 (i 2).val
  let c1_i32 : BitVec 32 := 1#32
  let v10 : BitVec 32 := Scalar.addi arg2 c1_i32
  let c4_i32 : BitVec 32 := 4#32
  let v11 : BitVec 32 := Scalar.muli v10 c4_i32
  let c1_i32_7 : BitVec 32 := 1#32
  let v12 : BitVec 32 := Scalar.subi v11 c1_i32_7
  let v13 : BitVec 32 := Scalar.subi v12 c0_i32
  let c256_i32 : BitVec 32 := 256#32
  let v14 : BitVec 32 := Scalar.muli v13 c256_i32
  let v15 : BitVec 32 := v14
  let v268 : Index := Scalar.indexCast v15
  let c640_138 : Index := 640#32
  ![0, v268.toNat, 640]
def k0_off7 (i : grid0.Coords) (c0_i32 : BitVec 32) : Fin 3 → Nat :=
  let c0_163 : Index := 0#32
  let arg2 : BitVec 32 := BitVec.ofNat 32 (i 2).val
  let c1_i32 : BitVec 32 := 1#32
  let v10 : BitVec 32 := Scalar.addi arg2 c1_i32
  let c4_i32 : BitVec 32 := 4#32
  let v11 : BitVec 32 := Scalar.muli v10 c4_i32
  let c1_i32_7 : BitVec 32 := 1#32
  let v12 : BitVec 32 := Scalar.subi v11 c1_i32_7
  let v13 : BitVec 32 := Scalar.subi v12 c0_i32
  let c256_i32 : BitVec 32 := 256#32
  let v14 : BitVec 32 := Scalar.muli v13 c256_i32
  let v15 : BitVec 32 := v14
  let v316 : Index := Scalar.indexCast v15
  let c768_164 : Index := 768#32
  ![0, v316.toNat, 768]
def k0_off8 (i : grid0.Coords) (c0_i32 : BitVec 32) : Fin 3 → Nat :=
  let c0_188 : Index := 0#32
  let arg2 : BitVec 32 := BitVec.ofNat 32 (i 2).val
  let c1_i32 : BitVec 32 := 1#32
  let v10 : BitVec 32 := Scalar.addi arg2 c1_i32
  let c4_i32 : BitVec 32 := 4#32
  let v11 : BitVec 32 := Scalar.muli v10 c4_i32
  let c1_i32_7 : BitVec 32 := 1#32
  let v12 : BitVec 32 := Scalar.subi v11 c1_i32_7
  let v13 : BitVec 32 := Scalar.subi v12 c0_i32
  let c256_i32 : BitVec 32 := 256#32
  let v14 : BitVec 32 := Scalar.muli v13 c256_i32
  let v15 : BitVec 32 := v14
  let v364 : Index := Scalar.indexCast v15
  let c896_189 : Index := 896#32
  ![0, v364.toNat, 896]
def k0_mult2 (i : grid0.Coords) : BitVec 32 :=
  let arg2 : BitVec 32 := BitVec.ofNat 32 (i 2).val
  let c1_i32_211 : BitVec 32 := 1#32
  let v410 : BitVec 32 := Scalar.addi arg2 c1_i32_211
  let c4_i32_212 : BitVec 32 := 4#32
  let v411 : BitVec 32 := Scalar.muli v410 c4_i32_212
  let c1_i32_213 : BitVec 32 := 1#32
  let v412 : BitVec 32 := Scalar.subi v411 c1_i32_213
  let c1_i32_214 : BitVec 32 := 1#32
  let v413 : BitVec 32 := Scalar.subi v412 c1_i32_214
  let c256_i32_215 : BitVec 32 := 256#32
  let v414 : BitVec 32 := Scalar.muli v413 c256_i32_215
  v414
def k0_mult3 (i : grid0.Coords) : BitVec 32 :=
  let arg2 : BitVec 32 := BitVec.ofNat 32 (i 2).val
  let c1_i32_434 : BitVec 32 := 1#32
  let v810 : BitVec 32 := Scalar.addi arg2 c1_i32_434
  let c4_i32_435 : BitVec 32 := 4#32
  let v811 : BitVec 32 := Scalar.muli v810 c4_i32_435
  let c1_i32_436 : BitVec 32 := 1#32
  let v812 : BitVec 32 := Scalar.subi v811 c1_i32_436
  let c2_i32 : BitVec 32 := 2#32
  let v813 : BitVec 32 := Scalar.subi v812 c2_i32
  let c256_i32_437 : BitVec 32 := 256#32
  let v814 : BitVec 32 := Scalar.muli v813 c256_i32_437
  v814
def k0_mult4 (i : grid0.Coords) : BitVec 32 :=
  let arg2 : BitVec 32 := BitVec.ofNat 32 (i 2).val
  let c1_i32_657 : BitVec 32 := 1#32
  let v1210 : BitVec 32 := Scalar.addi arg2 c1_i32_657
  let c4_i32_658 : BitVec 32 := 4#32
  let v1211 : BitVec 32 := Scalar.muli v1210 c4_i32_658
  let c1_i32_659 : BitVec 32 := 1#32
  let v1212 : BitVec 32 := Scalar.subi v1211 c1_i32_659
  let c3_i32 : BitVec 32 := 3#32
  let v1213 : BitVec 32 := Scalar.subi v1212 c3_i32
  let c256_i32_660 : BitVec 32 := 256#32
  let v1214 : BitVec 32 := Scalar.muli v1213 c256_i32_660
  v1214
@[reducible] def k0_t1_loop (i : grid0.Coords) : Scf.Loop 32 :=
  let c0_i32_882 : BitVec 32 := 0#32
  let arg2 : BitVec 32 := BitVec.ofNat 32 (i 2).val
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let c1_i32_884 : BitVec 32 := 1#32
  ⟨c0_i32_882, v1615, c1_i32_884⟩
def k0_mult5 (i : grid0.Coords) (k0_t1 : Fin (k0_t1_loop i).trips) : BitVec 32 :=
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c1_i32_884 : BitVec 32 := 1#32
  let arg10 : BitVec 32 := Scf.iv c0_i32_882 c1_i32_884 k0_t1
  let v1623 : BitVec 32 := Scalar.subi v1622 arg10
  let c256_i32_893 : BitVec 32 := 256#32
  let v1624 : BitVec 32 := Scalar.muli v1623 c256_i32_893
  v1624
def k0_off9 (i : grid0.Coords) (k0_t1 : Fin (k0_t1_loop i).trips) : Fin 3 → Nat :=
  let c0_897 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c1_i32_884 : BitVec 32 := 1#32
  let arg10 : BitVec 32 := Scf.iv c0_i32_882 c1_i32_884 k0_t1
  let v1623 : BitVec 32 := Scalar.subi v1622 arg10
  let c256_i32_893 : BitVec 32 := 256#32
  let v1624 : BitVec 32 := Scalar.muli v1623 c256_i32_893
  let v1625 : BitVec 32 := v1624
  let v1628 : Index := Scalar.indexCast v1625
  let c0_898 : Index := 0#32
  ![0, v1628.toNat, 0]
def k0_off10 (i : grid0.Coords) (k0_t1 : Fin (k0_t1_loop i).trips) : Fin 3 → Nat :=
  let c0_922 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c1_i32_884 : BitVec 32 := 1#32
  let arg10 : BitVec 32 := Scf.iv c0_i32_882 c1_i32_884 k0_t1
  let v1623 : BitVec 32 := Scalar.subi v1622 arg10
  let c256_i32_893 : BitVec 32 := 256#32
  let v1624 : BitVec 32 := Scalar.muli v1623 c256_i32_893
  let v1625 : BitVec 32 := v1624
  let v1672 : Index := Scalar.indexCast v1625
  let c128_923 : Index := 128#32
  ![0, v1672.toNat, 128]
def k0_off11 (i : grid0.Coords) (k0_t1 : Fin (k0_t1_loop i).trips) : Fin 3 → Nat :=
  let c0_947 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c1_i32_884 : BitVec 32 := 1#32
  let arg10 : BitVec 32 := Scf.iv c0_i32_882 c1_i32_884 k0_t1
  let v1623 : BitVec 32 := Scalar.subi v1622 arg10
  let c256_i32_893 : BitVec 32 := 256#32
  let v1624 : BitVec 32 := Scalar.muli v1623 c256_i32_893
  let v1625 : BitVec 32 := v1624
  let v1716 : Index := Scalar.indexCast v1625
  let c256_948 : Index := 256#32
  ![0, v1716.toNat, 256]
def k0_off12 (i : grid0.Coords) (k0_t1 : Fin (k0_t1_loop i).trips) : Fin 3 → Nat :=
  let c0_972 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c1_i32_884 : BitVec 32 := 1#32
  let arg10 : BitVec 32 := Scf.iv c0_i32_882 c1_i32_884 k0_t1
  let v1623 : BitVec 32 := Scalar.subi v1622 arg10
  let c256_i32_893 : BitVec 32 := 256#32
  let v1624 : BitVec 32 := Scalar.muli v1623 c256_i32_893
  let v1625 : BitVec 32 := v1624
  let v1760 : Index := Scalar.indexCast v1625
  let c384_973 : Index := 384#32
  ![0, v1760.toNat, 384]
def k0_off13 (i : grid0.Coords) (k0_t1 : Fin (k0_t1_loop i).trips) : Fin 3 → Nat :=
  let c0_997 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c1_i32_884 : BitVec 32 := 1#32
  let arg10 : BitVec 32 := Scf.iv c0_i32_882 c1_i32_884 k0_t1
  let v1623 : BitVec 32 := Scalar.subi v1622 arg10
  let c256_i32_893 : BitVec 32 := 256#32
  let v1624 : BitVec 32 := Scalar.muli v1623 c256_i32_893
  let v1625 : BitVec 32 := v1624
  let v1804 : Index := Scalar.indexCast v1625
  let c512_998 : Index := 512#32
  ![0, v1804.toNat, 512]
def k0_off14 (i : grid0.Coords) (k0_t1 : Fin (k0_t1_loop i).trips) : Fin 3 → Nat :=
  let c0_1022 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c1_i32_884 : BitVec 32 := 1#32
  let arg10 : BitVec 32 := Scf.iv c0_i32_882 c1_i32_884 k0_t1
  let v1623 : BitVec 32 := Scalar.subi v1622 arg10
  let c256_i32_893 : BitVec 32 := 256#32
  let v1624 : BitVec 32 := Scalar.muli v1623 c256_i32_893
  let v1625 : BitVec 32 := v1624
  let v1848 : Index := Scalar.indexCast v1625
  let c640_1023 : Index := 640#32
  ![0, v1848.toNat, 640]
def k0_off15 (i : grid0.Coords) (k0_t1 : Fin (k0_t1_loop i).trips) : Fin 3 → Nat :=
  let c0_1047 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c1_i32_884 : BitVec 32 := 1#32
  let arg10 : BitVec 32 := Scf.iv c0_i32_882 c1_i32_884 k0_t1
  let v1623 : BitVec 32 := Scalar.subi v1622 arg10
  let c256_i32_893 : BitVec 32 := 256#32
  let v1624 : BitVec 32 := Scalar.muli v1623 c256_i32_893
  let v1625 : BitVec 32 := v1624
  let v1892 : Index := Scalar.indexCast v1625
  let c768_1048 : Index := 768#32
  ![0, v1892.toNat, 768]
def k0_off16 (i : grid0.Coords) (k0_t1 : Fin (k0_t1_loop i).trips) : Fin 3 → Nat :=
  let c0_1072 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c1_i32_884 : BitVec 32 := 1#32
  let arg10 : BitVec 32 := Scf.iv c0_i32_882 c1_i32_884 k0_t1
  let v1623 : BitVec 32 := Scalar.subi v1622 arg10
  let c256_i32_893 : BitVec 32 := 256#32
  let v1624 : BitVec 32 := Scalar.muli v1623 c256_i32_893
  let v1625 : BitVec 32 := v1624
  let v1936 : Index := Scalar.indexCast v1625
  let c896_1073 : Index := 896#32
  ![0, v1936.toNat, 896]
@[reducible] def k0_t2_loop (i : grid0.Coords) : Scf.Loop 32 :=
  let c0_i32_882 : BitVec 32 := 0#32
  let arg2 : BitVec 32 := BitVec.ofNat 32 (i 2).val
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let v1612 : BitVec 32 := Scalar.addi c0_i32_882 v1611
  let c1_i32_885 : BitVec 32 := 1#32
  ⟨v1615, v1612, c1_i32_885⟩
def k0_mult6 (i : grid0.Coords) (k0_t2 : Fin (k0_t2_loop i).trips) : BitVec 32 :=
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let c1_i32_885 : BitVec 32 := 1#32
  let arg10 : BitVec 32 := Scf.iv v1615 c1_i32_885 k0_t2
  let v1623 : BitVec 32 := Scalar.subi v1622 arg10
  let c256_i32_893 : BitVec 32 := 256#32
  let v1624 : BitVec 32 := Scalar.muli v1623 c256_i32_893
  v1624
def k0_off17 (i : grid0.Coords) (k0_t2 : Fin (k0_t2_loop i).trips) : Fin 3 → Nat :=
  let c0_897 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let c1_i32_885 : BitVec 32 := 1#32
  let arg10 : BitVec 32 := Scf.iv v1615 c1_i32_885 k0_t2
  let v1623 : BitVec 32 := Scalar.subi v1622 arg10
  let c256_i32_893 : BitVec 32 := 256#32
  let v1624 : BitVec 32 := Scalar.muli v1623 c256_i32_893
  let v1625 : BitVec 32 := v1624
  let v1628 : Index := Scalar.indexCast v1625
  let c0_898 : Index := 0#32
  ![0, v1628.toNat, 0]
def k0_off18 (i : grid0.Coords) (k0_t2 : Fin (k0_t2_loop i).trips) : Fin 3 → Nat :=
  let c0_922 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let c1_i32_885 : BitVec 32 := 1#32
  let arg10 : BitVec 32 := Scf.iv v1615 c1_i32_885 k0_t2
  let v1623 : BitVec 32 := Scalar.subi v1622 arg10
  let c256_i32_893 : BitVec 32 := 256#32
  let v1624 : BitVec 32 := Scalar.muli v1623 c256_i32_893
  let v1625 : BitVec 32 := v1624
  let v1672 : Index := Scalar.indexCast v1625
  let c128_923 : Index := 128#32
  ![0, v1672.toNat, 128]
def k0_off19 (i : grid0.Coords) (k0_t2 : Fin (k0_t2_loop i).trips) : Fin 3 → Nat :=
  let c0_947 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let c1_i32_885 : BitVec 32 := 1#32
  let arg10 : BitVec 32 := Scf.iv v1615 c1_i32_885 k0_t2
  let v1623 : BitVec 32 := Scalar.subi v1622 arg10
  let c256_i32_893 : BitVec 32 := 256#32
  let v1624 : BitVec 32 := Scalar.muli v1623 c256_i32_893
  let v1625 : BitVec 32 := v1624
  let v1716 : Index := Scalar.indexCast v1625
  let c256_948 : Index := 256#32
  ![0, v1716.toNat, 256]
def k0_off20 (i : grid0.Coords) (k0_t2 : Fin (k0_t2_loop i).trips) : Fin 3 → Nat :=
  let c0_972 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let c1_i32_885 : BitVec 32 := 1#32
  let arg10 : BitVec 32 := Scf.iv v1615 c1_i32_885 k0_t2
  let v1623 : BitVec 32 := Scalar.subi v1622 arg10
  let c256_i32_893 : BitVec 32 := 256#32
  let v1624 : BitVec 32 := Scalar.muli v1623 c256_i32_893
  let v1625 : BitVec 32 := v1624
  let v1760 : Index := Scalar.indexCast v1625
  let c384_973 : Index := 384#32
  ![0, v1760.toNat, 384]
def k0_off21 (i : grid0.Coords) (k0_t2 : Fin (k0_t2_loop i).trips) : Fin 3 → Nat :=
  let c0_997 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let c1_i32_885 : BitVec 32 := 1#32
  let arg10 : BitVec 32 := Scf.iv v1615 c1_i32_885 k0_t2
  let v1623 : BitVec 32 := Scalar.subi v1622 arg10
  let c256_i32_893 : BitVec 32 := 256#32
  let v1624 : BitVec 32 := Scalar.muli v1623 c256_i32_893
  let v1625 : BitVec 32 := v1624
  let v1804 : Index := Scalar.indexCast v1625
  let c512_998 : Index := 512#32
  ![0, v1804.toNat, 512]
def k0_off22 (i : grid0.Coords) (k0_t2 : Fin (k0_t2_loop i).trips) : Fin 3 → Nat :=
  let c0_1022 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let c1_i32_885 : BitVec 32 := 1#32
  let arg10 : BitVec 32 := Scf.iv v1615 c1_i32_885 k0_t2
  let v1623 : BitVec 32 := Scalar.subi v1622 arg10
  let c256_i32_893 : BitVec 32 := 256#32
  let v1624 : BitVec 32 := Scalar.muli v1623 c256_i32_893
  let v1625 : BitVec 32 := v1624
  let v1848 : Index := Scalar.indexCast v1625
  let c640_1023 : Index := 640#32
  ![0, v1848.toNat, 640]
def k0_off23 (i : grid0.Coords) (k0_t2 : Fin (k0_t2_loop i).trips) : Fin 3 → Nat :=
  let c0_1047 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let c1_i32_885 : BitVec 32 := 1#32
  let arg10 : BitVec 32 := Scf.iv v1615 c1_i32_885 k0_t2
  let v1623 : BitVec 32 := Scalar.subi v1622 arg10
  let c256_i32_893 : BitVec 32 := 256#32
  let v1624 : BitVec 32 := Scalar.muli v1623 c256_i32_893
  let v1625 : BitVec 32 := v1624
  let v1892 : Index := Scalar.indexCast v1625
  let c768_1048 : Index := 768#32
  ![0, v1892.toNat, 768]
def k0_off24 (i : grid0.Coords) (k0_t2 : Fin (k0_t2_loop i).trips) : Fin 3 → Nat :=
  let c0_1072 : Index := 0#32
  let arg2 : BitVec 32 := BitVec.ofNat 32 (i 2).val
  let c4_i32_891 : BitVec 32 := 4#32
  let v1621 : BitVec 32 := Scalar.muli arg2 c4_i32_891
  let c1_i32_892 : BitVec 32 := 1#32
  let v1622 : BitVec 32 := Scalar.subi v1621 c1_i32_892
  let c0_i32_882 : BitVec 32 := 0#32
  let c4_i32_880 : BitVec 32 := 4#32
  let v1610 : BitVec 32 := Scalar.muli arg2 c4_i32_880
  let v1611 : BitVec 32 := Scalar.subi v1610 c0_i32_882
  let c1_i32_883 : BitVec 32 := 1#32
  let v1613 : BitVec 32 := Scalar.divsi v1611 c1_i32_883
  let v1614 : BitVec 32 := Scalar.muli v1613 c1_i32_883
  let v1615 : BitVec 32 := Scalar.addi c0_i32_882 v1614
  let c1_i32_885 : BitVec 32 := 1#32
  let arg10 : BitVec 32 := Scf.iv v1615 c1_i32_885 k0_t2
  let v1623 : BitVec 32 := Scalar.subi v1622 arg10
  let c256_i32_893 : BitVec 32 := 256#32
  let v1624 : BitVec 32 := Scalar.muli v1623 c256_i32_893
  let v1625 : BitVec 32 := v1624
  let v1936 : Index := Scalar.indexCast v1625
  let c896_1073 : Index := 896#32
  ![0, v1936.toNat, 896]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SbIdeal.lean ====
variable {F : FTy → Type} [FloatOps F] [Named F]
def κ : String → Option EReal := fun
  | "log2_e" => some (((Real.log 2)⁻¹ : ℝ) : EReal)
  | _ => none
-- ==== SbRefIdeal.lean ====
abbrev S32768x1024 : Shape := ⟨2, ![32768, 1024]⟩
abbrev S32768x2048 : Shape := ⟨2, ![32768, 2048]⟩
abbrev S8x4096x8x128 : Shape := ⟨4, ![8, 4096, 8, 128]⟩
abbrev S8x8x4096x128 : Shape := ⟨4, ![8, 8, 4096, 128]⟩
abbrev S8x8x4096x4096 : Shape := ⟨4, ![8, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x1024 : Shape := ⟨3, ![8, 4096, 1024]⟩

abbrev nBuf : Space → Nat
  | .hbm => 77
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S32768x2048, .f32⟩
  | .hbm, ⟨3, _⟩ => ⟨S32768x1024, .f32⟩
  | .hbm, ⟨4, _⟩ => ⟨S32768x1024, .f32⟩
  | .hbm, ⟨5, _⟩ => ⟨S32768x1024, .f32⟩
  | .hbm, ⟨6, _⟩ => ⟨S8x4096x8x128, .f32⟩
  | .hbm, ⟨7, _⟩ => ⟨S8x8x4096x128, .f32⟩
  | .hbm, ⟨8, _⟩ => ⟨S8x4096x8x128, .f32⟩
  | .hbm, ⟨9, _⟩ => ⟨S8x8x4096x128, .f32⟩
  | .hbm, ⟨10, _⟩ => ⟨S8x4096x8x128, .f32⟩
  | .hbm, ⟨11, _⟩ => ⟨S8x8x4096x128, .f32⟩
  | .hbm, ⟨12, _⟩ => ⟨S8x8x4096x4096, .f32⟩
  | .hbm, ⟨13, _⟩ => ⟨S_, .f32⟩
  | .hbm, ⟨14, _⟩ => ⟨S_, .f32⟩
  | .hbm, ⟨15, _⟩ => ⟨S8x8x4096x4096, .f32⟩
  | .hbm, ⟨16, _⟩ => ⟨S8x8x4096x4096, .f32⟩
  | .hbm, ⟨17, _⟩ => ⟨S4096, .i32⟩
  | .hbm, ⟨18, _⟩ => ⟨S4096x1, .i32⟩
  | .hbm, ⟨19, _⟩ => ⟨S4096, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S8x8x4096x4096, .f32⟩
  | .hbm, ⟨25, _⟩ => ⟨S_, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .i1⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S8x8x4096x4096, .f32⟩
  | .hbm, ⟨39, _⟩ => ⟨S8x8x4096x4096, .f32⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .i1⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S_, .f32⟩
  | .hbm, ⟨58, _⟩ => ⟨S_, .f32⟩
  | .hbm, ⟨59, _⟩ => ⟨S8x8x4096x4096, .i1⟩
  | .hbm, ⟨60, _⟩ => ⟨S8x8x4096x4096, .f32⟩
  | .hbm, ⟨61, _⟩ => ⟨S8x8x4096x4096, .f32⟩
  | .hbm, ⟨62, _⟩ => ⟨S_, .f32⟩
  | .hbm, ⟨63, _⟩ => ⟨S_, .f32⟩
  | .hbm, ⟨64, _⟩ => ⟨S8x8x4096x4096, .f32⟩
  | .hbm, ⟨65, _⟩ => ⟨S8x8x4096x4096, .f32⟩
  | .hbm, ⟨66, _⟩ => ⟨S8x8x4096x4096, .f32⟩
  | .hbm, ⟨67, _⟩ => ⟨S8x8x4096x4096, .f32⟩
  | .hbm, ⟨68, _⟩ => ⟨S_, .f32⟩
  | .hbm, ⟨69, _⟩ => ⟨S_, .f32⟩
  | .hbm, ⟨70, _⟩ => ⟨S8x8x4096x4096, .i1⟩
  | .hbm, ⟨71, _⟩ => ⟨S8x8x4096x4096, .f32⟩
  | .hbm, ⟨72, _⟩ => ⟨S8x8x4096x4096, .f32⟩
  | .hbm, ⟨73, _⟩ => ⟨S8x8x4096x128, .f32⟩
  | .hbm, ⟨74, _⟩ => ⟨S8x4096x8x128, .f32⟩
  | .hbm, ⟨75, _⟩ => ⟨S8x4096x1024, .f32⟩
  | .hbm, ⟨76, _⟩ => ⟨S8x4096x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_call0_cst : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_call0_v2 : Ref sig .tc := ⟨.hbm, 45, rfl⟩
abbrev main_call1_call0_v3 : Ref sig .tc := ⟨.hbm, 46, rfl⟩
abbrev main_call1_call0_v4 : Ref sig .tc := ⟨.hbm, 47, rfl⟩
abbrev main_call1_call0_v5 : Ref sig .tc := ⟨.hbm, 48, rfl⟩
abbrev main_call1_call0_v6 : Ref sig .tc := ⟨.hbm, 49, rfl⟩
abbrev main_call1_call0_v7 : Ref sig .tc := ⟨.hbm, 50, rfl⟩
abbrev main_call1_call0_v8 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_v11 : Ref sig .tc := ⟨.hbm, 54, rfl⟩
abbrev main_call1_v1 : Ref sig .tc := ⟨.hbm, 55, rfl⟩
abbrev main_v23 : Ref sig .tc := ⟨.hbm, 56, rfl⟩
abbrev main_cst_0 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v24 : Ref sig .tc := ⟨.hbm, 61, rfl⟩
abbrev main_call3_cst : Ref sig .tc := ⟨.hbm, 62, rfl⟩
abbrev main_call3_v0 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩

abbrev nD : Nat := 1
abbrev τ : Topo := Topo.v7x

variable {F : FTy → Type} [FloatOps F]
-- ==== Kvq.lean ====
abbrev S32768x1024 : Shape := ⟨2, ![32768, 1024]⟩
abbrev S1x1024 : Shape := ⟨2, ![1, 1024]⟩
abbrev S1024x2048 : Shape := ⟨2, ![1024, 2048]⟩
abbrev S1024x1024 : Shape := ⟨2, ![1024, 1024]⟩
abbrev S32768x2048 : Shape := ⟨2, ![32768, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024, .f32⟩
  | .hbm, ⟨3, _⟩ => ⟨S1024x2048, .bf16⟩
  | .hbm, ⟨4, _⟩ => ⟨S1024x1024, .bf16⟩
  | .hbm, ⟨5, _⟩ => ⟨S32768x2048, .bf16⟩
  | .hbm, ⟨6, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1024x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KvqIdeal.lean ====
variable {F : FTy → Type} [FloatOps F] [Named F]
def κ : String → Option EReal := fun
  | "q_scale" => some ((((Real.sqrt 128) * (Real.log 2))⁻¹ : ℝ) : EReal)
  | _ => none
-- ==== KvqRefIdeal.lean ====
abbrev S32768x1024 : Shape := ⟨2, ![32768, 1024]⟩
abbrev S1x1024 : Shape := ⟨2, ![1, 1024]⟩
abbrev S1024x2048 : Shape := ⟨2, ![1024, 2048]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S32768x2048 : Shape := ⟨2, ![32768, 2048]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024, .f32⟩
  | .hbm, ⟨3, _⟩ => ⟨S1024x2048, .bf16⟩
  | .hbm, ⟨4, _⟩ => ⟨S1024x1024, .bf16⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S1024x2048, .f32⟩
  | .hbm, ⟨21, _⟩ => ⟨S32768x2048, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S1024x1024, .f32⟩
  | .hbm, ⟨38, _⟩ => ⟨S32768x1024, .f32⟩
  | .hbm, ⟨39, _⟩ => ⟨S32768x2048, .bf16⟩
  | .hbm, ⟨40, _⟩ => ⟨S_, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Inproj.lean ====
abbrev S32768x1024 : Shape := ⟨2, ![32768, 1024]⟩
abbrev S1x1024 : Shape := ⟨2, ![1, 1024]⟩
abbrev S1024x3200 : Shape := ⟨2, ![1024, 3200]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩

abbrev nBuf : Space → Nat
  | .hbm => 7
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x3200, .bf16⟩
  | .hbm, ⟨3, _⟩ => ⟨S32768x1024, .f32⟩
  | .hbm, ⟨4, _⟩ => ⟨S32768x1024, .bf16⟩
  | .hbm, ⟨5, _⟩ => ⟨S32768x1024, .f32⟩
  | .hbm, ⟨6, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InprojRefIdeal.lean ====
abbrev S32768x1024 : Shape := ⟨2, ![32768, 1024]⟩
abbrev S1x1024 : Shape := ⟨2, ![1, 1024]⟩
abbrev S1024x3200 : Shape := ⟨2, ![1024, 3200]⟩
abbrev S_ : Shape := ⟨0, ![]⟩
abbrev S32768 : Shape := ⟨1, ![32768]⟩
abbrev S32768x1 : Shape := ⟨2, ![32768, 1]⟩
abbrev S32768x3200 : Shape := ⟨2, ![32768, 3200]⟩
abbrev S32768x128 : Shape := ⟨2, ![32768, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x3200, .bf16⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1024x3200, .f32⟩
  | .hbm, ⟨19, _⟩ => ⟨S32768x3200, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x128, .f32⟩
  | .hbm, ⟨24, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Gla.lean ====
abbrev S32768x1024 : Shape := ⟨2, ![32768, 1024]⟩
abbrev S32768x128 : Shape := ⟨2, ![32768, 128]⟩
abbrev S128x512 : Shape := ⟨2, ![128, 512]⟩
abbrev S1x512 : Shape := ⟨2, ![1, 512]⟩
abbrev S1x256 : Shape := ⟨2, ![1, 256]⟩
abbrev S1024x1024 : Shape := ⟨2, ![1024, 1024]⟩
abbrev S1x1024 : Shape := ⟨2, ![1, 1024]⟩
abbrev S8x4096x1024 : Shape := ⟨3, ![8, 4096, 1024]⟩
abbrev S8x4096x128 : Shape := ⟨3, ![8, 4096, 128]⟩
abbrev S256 : Shape := ⟨1, ![256]⟩
abbrev S256x1 : Shape := ⟨2, ![256, 1]⟩
abbrev S_ : Shape := ⟨0, ![]⟩
abbrev S256x256 : Shape := ⟨2, ![256, 256]⟩
abbrev S512x256 : Shape := ⟨2, ![512, 256]⟩
abbrev S512x512 : Shape := ⟨2, ![512, 512]⟩
abbrev S2x256x1024 : Shape := ⟨3, ![2, 256, 1024]⟩
abbrev S2x256x128 : Shape := ⟨3, ![2, 256, 128]⟩
abbrev S2x4x256x128 : Shape := ⟨4, ![2, 4, 256, 128]⟩
abbrev S1x256x128 : Shape := ⟨3, ![1, 256, 128]⟩
abbrev S256x128 : Shape := ⟨2, ![256, 128]⟩
abbrev S256x512 : Shape := ⟨2, ![256, 512]⟩
abbrev S1x256x1024 : Shape := ⟨3, ![1, 256, 1024]⟩
abbrev S256x1024 : Shape := ⟨2, ![256, 1024]⟩
abbrev S64x64 : Shape := ⟨2, ![64, 64]⟩
abbrev S64x128 : Shape := ⟨2, ![64, 128]⟩
abbrev S1x64x256 : Shape := ⟨3, ![1, 64, 256]⟩
abbrev S64x256 : Shape := ⟨2, ![64, 256]⟩
abbrev S1x1x256x128 : Shape := ⟨4, ![1, 1, 256, 128]⟩
abbrev S1x128 : Shape := ⟨2, ![1, 128]⟩
abbrev S64 : Shape := ⟨1, ![64]⟩
abbrev S64x1 : Shape := ⟨2, ![64, 1]⟩

abbrev nBuf : Space → Nat
  | .hbm => 68
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .f32⟩
  | .hbm, ⟨3, _⟩ => ⟨S32768x128, .f32⟩
  | .hbm, ⟨4, _⟩ => ⟨S128x512, .bf16⟩
  | .hbm, ⟨5, _⟩ => ⟨S1x512, .f32⟩
  | .hbm, ⟨6, _⟩ => ⟨S1x256, .f32⟩
  | .hbm, ⟨7, _⟩ => ⟨S1024x1024, .bf16⟩
  | .hbm, ⟨8, _⟩ => ⟨S32768x1024, .f32⟩
  | .hbm, ⟨9, _⟩ => ⟨S1x1024, .f32⟩
  | .hbm, ⟨10, _⟩ => ⟨S8x4096x1024, .f32⟩
  | .hbm, ⟨11, _⟩ => ⟨S8x4096x1024, .bf16⟩
  | .hbm, ⟨12, _⟩ => ⟨S8x4096x1024, .f32⟩
  | .hbm, ⟨13, _⟩ => ⟨S8x4096x128, .f32⟩
  | .hbm, ⟨14, _⟩ => ⟨S8x4096x1024, .f32⟩
  | .hbm, ⟨15, _⟩ => ⟨S256, .i32⟩
  | .hbm, ⟨16, _⟩ => ⟨S256x1, .i32⟩
  | .hbm, ⟨17, _⟩ => ⟨S_, .i32⟩
  | .hbm, ⟨18, _⟩ => ⟨S_, .i32⟩
  | .hbm, ⟨19, _⟩ => ⟨S256x1, .i32⟩
  | .hbm, ⟨20, _⟩ => ⟨S256x1, .i32⟩
  | .hbm, ⟨21, _⟩ => ⟨S256x1, .i32⟩
  | .hbm, ⟨22, _⟩ => ⟨S_, .i32⟩
  | .hbm, ⟨23, _⟩ => ⟨S256x1, .i32⟩
  | .hbm, ⟨24, _⟩ => ⟨S256x1, .i1⟩
  | .hbm, ⟨25, _⟩ => ⟨S256x1, .i32⟩
  | .hbm, ⟨26, _⟩ => ⟨S256x1, .i32⟩
  | .hbm, ⟨27, _⟩ => ⟨S_, .i32⟩
  | .hbm, ⟨28, _⟩ => ⟨S256x1, .i32⟩
  | .hbm, ⟨29, _⟩ => ⟨S256x1, .i1⟩
  | .hbm, ⟨30, _⟩ => ⟨S256x1, .i1⟩
  | .hbm, ⟨31, _⟩ => ⟨S_, .i32⟩
  | .hbm, ⟨32, _⟩ => ⟨S256x1, .i32⟩
  | .hbm, ⟨33, _⟩ => ⟨S256x1, .i32⟩
  | .hbm, ⟨34, _⟩ => ⟨S256x1, .i32⟩
  | .hbm, ⟨35, _⟩ => ⟨S1x256, .i32⟩
  | .hbm, ⟨36, _⟩ => ⟨S_, .i32⟩
  | .hbm, ⟨37, _⟩ => ⟨S_, .i32⟩
  | .hbm, ⟨38, _⟩ => ⟨S1x256, .i32⟩
  | .hbm, ⟨39, _⟩ => ⟨S1x256, .i32⟩
  | .hbm, ⟨40, _⟩ => ⟨S1x256, .i32⟩
  | .hbm, ⟨41, _⟩ => ⟨S_, .i32⟩
  | .hbm, ⟨42, _⟩ => ⟨S1x256, .i32⟩
  | .hbm, ⟨43, _⟩ => ⟨S1x256, .i1⟩
  | .hbm, ⟨44, _⟩ => ⟨S1x256, .i32⟩
  | .hbm, ⟨45, _⟩ => ⟨S1x256, .i32⟩
  | .hbm, ⟨46, _⟩ => ⟨S_, .i32⟩
  | .hbm, ⟨47, _⟩ => ⟨S1x256, .i32⟩
  | .hbm, ⟨48, _⟩ => ⟨S1x256, .i1⟩
  | .hbm, ⟨49, _⟩ => ⟨S1x256, .i1⟩
  | .hbm, ⟨50, _⟩ => ⟨S_, .i32⟩
  | .hbm, ⟨51, _⟩ => ⟨S1x256, .i32⟩
  | .hbm, ⟨52, _⟩ => ⟨S1x256, .i32⟩
  | .hbm, ⟨53, _⟩ => ⟨S1x256, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S1x256, .i32⟩
  | .hbm, ⟨58, _⟩ => ⟨S256x1, .i32⟩
  | .hbm, ⟨59, _⟩ => ⟨S256x256, .i32⟩
  | .hbm, ⟨60, _⟩ => ⟨S256x256, .i32⟩
  | .hbm, ⟨61, _⟩ => ⟨S256x256, .i1⟩
  | .hbm, ⟨62, _⟩ => ⟨S256x256, .i1⟩
  | .hbm, ⟨63, _⟩ => ⟨S512x256, .i1⟩
  | .hbm, ⟨64, _⟩ => ⟨S512x256, .bf16⟩
  | .hbm, ⟨65, _⟩ => ⟨S512x512, .bf16⟩
  | .hbm, ⟨66, _⟩ => ⟨S8x4096x1024, .f32⟩
  | .hbm, ⟨67, _⟩ => ⟨S8x4096x1024, .bf16⟩
  | .local _ .vmem, ⟨0, _⟩ => ⟨S2x256x1024, .f32⟩
  | .local _ .vmem, ⟨1, _⟩ => ⟨S2x256x1024, .f32⟩
  | .local _ .vmem, ⟨2, _⟩ => ⟨S2x256x1024, .bf16⟩
  | .local _ .vmem, ⟨3, _⟩ => ⟨S2x256x1024, .bf16⟩
  | .local _ .vmem, ⟨4, _⟩ => ⟨S2x256x1024, .f32⟩
  | .local _ .vmem, ⟨5, _⟩ => ⟨S2x256x1024, .f32⟩
  | .local _ .vmem, ⟨6, _⟩ => ⟨S2x256x128, .f32⟩
  | .local _ .vmem, ⟨7, _⟩ => ⟨S2x256x128, .f32⟩
  | .local _ .vmem, ⟨8, _⟩ => ⟨S128x512, .bf16⟩
  | .local _ .vmem, ⟨9, _⟩ => ⟨S1x512, .f32⟩
  | .local _ .vmem, ⟨10, _⟩ => ⟨S1x256, .f32⟩
  | .local _ .vmem, ⟨11, _⟩ => ⟨S512x512, .bf16⟩
  | .local _ .vmem, ⟨12, _⟩ => ⟨S1024x1024, .bf16⟩
  | .local _ .vmem, ⟨13, _⟩ => ⟨S2x256x1024, .f32⟩
  | .local _ .vmem, ⟨14, _⟩ => ⟨S2x256x1024, .f32⟩
  | .local _ .vmem, ⟨15, _⟩ => ⟨S1x1024, .f32⟩
  | .local _ .vmem, ⟨16, _⟩ => ⟨S2x256x1024, .f32⟩
  | .local _ .vmem, ⟨17, _⟩ => ⟨S2x256x1024, .f32⟩
  | .local _ .vmem, ⟨18, _⟩ => ⟨S2x256x1024, .bf16⟩
  | .local _ .vmem, ⟨19, _⟩ => ⟨S2x256x1024, .bf16⟩
  | .local _ .vmem, ⟨20, _⟩ => ⟨S2x4x256x128, .f32⟩
  | .local _ .vmem, ⟨21, _⟩ => ⟨S2x256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v7 : Ref sig .tc := ⟨.hbm, 34, rfl⟩
abbrev main_v8 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22_0 : Ref sig .tc := ⟨.hbm, 66, rfl⟩
abbrev main_v22_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== GlaRefIdeal.lean ====
abbrev S32768x1024 : Shape := ⟨2, ![32768, 1024]⟩
abbrev S32768x128 : Shape := ⟨2, ![32768, 128]⟩
abbrev S128x512 : Shape := ⟨2, ![128, 512]⟩
abbrev S1x512 : Shape := ⟨2, ![1, 512]⟩
abbrev S1x256 : Shape := ⟨2, ![1, 256]⟩
abbrev S1024x1024 : Shape := ⟨2, ![1024, 1024]⟩
abbrev S1x1024 : Shape := ⟨2, ![1, 1024]⟩
abbrev S32768x512 : Shape := ⟨2, ![32768, 512]⟩
abbrev S_ : Shape := ⟨0, ![]⟩
abbrev S8x64x64x4x128 : Shape := ⟨5, ![8, 64, 64, 4, 128]⟩
abbrev S64x8x4x64x128 : Shape := ⟨5, ![64, 8, 4, 64, 128]⟩
abbrev S8x64x64x4x256 : Shape := ⟨5, ![8, 64, 64, 4, 256]⟩
abbrev S64x8x4x64x256 : Shape := ⟨5, ![64, 8, 4, 64, 256]⟩
abbrev S64x8x4x1x128 : Shape := ⟨5, ![64, 8, 4, 1, 128]⟩
abbrev S64x8x4x128 : Shape := ⟨4, ![64, 8, 4, 128]⟩
abbrev S64x64 : Shape := ⟨2, ![64, 64]⟩
abbrev S64x8x4x64x64 : Shape := ⟨5, ![64, 8, 4, 64, 64]⟩
abbrev S8x4x128x256 : Shape := ⟨4, ![8, 4, 128, 256]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S1x8x4x128 : Shape := ⟨4, ![1, 8, 4, 128]⟩
abbrev S8x4x128 : Shape := ⟨3, ![8, 4, 128]⟩
abbrev S8x4x128x1 : Shape := ⟨4, ![8, 4, 128, 1]⟩
abbrev S8x4096x4x256 : Shape := ⟨4, ![8, 4096, 4, 256]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩
abbrev S8x4096x1024 : Shape := ⟨3, ![8, 4096, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 183
  | .vmem => 0
  | .smem => 0
  | _ => 0

abbrev hbmTy0_0 (i : Nat) : BufTy := match i % 128 with
  | 0 => ⟨S32768x1024, .f32⟩
  | 1 => ⟨S32768x1024, .bf16⟩
  | 2 => ⟨S32768x1024, .f32⟩
  | 3 => ⟨S32768x128, .f32⟩
  | 4 => ⟨S128x512, .bf16⟩
  | 5 => ⟨S1x512, .f32⟩
  | 6 => ⟨S1x256, .f32⟩
  | 7 => ⟨S1024x1024, .bf16⟩
  | 8 => ⟨S32768x1024, .f32⟩
  | 9 => ⟨S1x1024, .f32⟩
  | 10 => ⟨S32768x512, .f32⟩
  | 11 => ⟨S32768x512, .f32⟩
  | 12 => ⟨S128x512, .f32⟩
  | 13 => ⟨S32768x512, .f32⟩
  | 14 => ⟨S32768x512, .f32⟩
  | 15 => ⟨S32768x512, .f32⟩
  | 16 => ⟨S32768x512, .f32⟩
  | 17 => ⟨S_, .f32⟩
  | 18 => ⟨S32768x512, .f32⟩
  | 19 => ⟨S32768x512, .f32⟩
  | 20 => ⟨S32768x512, .f32⟩
  | 21 => ⟨S32768x512, .f32⟩
  | 22 => ⟨S32768x512, .i1⟩
  | 23 => ⟨S32768x512, .f32⟩
  | 24 => ⟨S32768x512, .f32⟩
  | 25 => ⟨S32768x512, .f32⟩
  | 26 => ⟨S32768x512, .f32⟩
  | 27 => ⟨S32768x512, .f32⟩
  | 28 => ⟨S32768x512, .f32⟩
  | 29 => ⟨S32768x512, .f32⟩
  | 30 => ⟨S32768x512, .f32⟩
  | 31 => ⟨S32768x512, .f32⟩
  | 32 => ⟨S_, .f32⟩
  | 33 => ⟨S32768x512, .f32⟩
  | 34 => ⟨S32768x512, .f32⟩
  | 35 => ⟨S8x64x64x4x128, .f32⟩
  | 36 => ⟨S64x8x4x64x128, .f32⟩
  | 37 => ⟨S_, .f32⟩
  | 38 => ⟨S64x8x4x64x128, .f32⟩
  | 39 => ⟨S64x8x4x64x128, .f32⟩
  | 40 => ⟨S8x64x64x4x128, .f32⟩
  | 41 => ⟨S64x8x4x64x128, .f32⟩
  | 42 => ⟨S32768x1024, .f32⟩
  | 43 => ⟨S8x64x64x4x256, .f32⟩
  | 44 => ⟨S64x8x4x64x256, .f32⟩
  | 45 => ⟨S8x64x64x4x128, .f32⟩
  | 46 => ⟨S64x8x4x64x128, .f32⟩
  | 47 => ⟨S_, .f32⟩
  | 48 => ⟨S_, .f32⟩
  | 49 => ⟨S64x8x4x64x128, .f32⟩
  | 50 => ⟨S64x8x4x1x128, .f32⟩
  | 51 => ⟨S64x8x4x64x128, .f32⟩
  | 52 => ⟨S64x8x4x64x128, .f32⟩
  | 53 => ⟨S64x8x4x64x128, .f32⟩
  | 54 => ⟨S64x8x4x64x128, .f32⟩
  | 55 => ⟨S64x8x4x64x128, .f32⟩
  | 56 => ⟨S64x8x4x64x128, .f32⟩
  | 57 => ⟨S64x8x4x64x128, .f32⟩
  | 58 => ⟨S64x8x4x64x128, .f32⟩
  | 59 => ⟨S64x8x4x64x128, .f32⟩
  | 60 => ⟨S64x8x4x128, .f32⟩
  | 61 => ⟨S64x8x4x128, .f32⟩
  | 62 => ⟨S_, .i1⟩
  | 63 => ⟨S64x64, .i1⟩
  | 64 => ⟨S64x64, .i32⟩
  | 65 => ⟨S_, .i32⟩
  | 66 => ⟨S64x64, .i32⟩
  | 67 => ⟨S64x64, .i32⟩
  | 68 => ⟨S64x64, .i32⟩
  | 69 => ⟨S64x64, .i1⟩
  | 70 => ⟨S_, .i1⟩
  | 71 => ⟨S64x64, .i1⟩
  | 72 => ⟨S64x64, .i1⟩
  | 73 => ⟨S64x8x4x64x64, .f32⟩
  | 74 => ⟨S_, .f32⟩
  | 75 => ⟨S_, .f32⟩
  | 76 => ⟨S64x8x4x64x64, .i1⟩
  | 77 => ⟨S64x8x4x64x64, .f32⟩
  | 78 => ⟨S64x8x4x64x64, .f32⟩
  | 79 => ⟨S64x8x4x64x256, .f32⟩
  | 80 => ⟨S_, .f32⟩
  | 81 => ⟨S8x4x128x256, .f32⟩
  | 82 => ⟨S_, .f32⟩
  | 83 => ⟨S64x8x4x64x256, .f32⟩
  | 84 => ⟨S_, .i32⟩
  | 85 => ⟨S64x8x4x64x128, .f32⟩
  | 86 => ⟨S64x8x4x64x128, .f32⟩
  | 87 => ⟨S64x8x4x64x256, .f32⟩
  | 88 => ⟨S64x8x4x128, .f32⟩
  | 89 => ⟨S_, .i32⟩
  | 90 => ⟨S8x4x128x256, .f32⟩
  | 91 => ⟨S64x8x4x64x256, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x8x4x64x128, .f32⟩
  | 99 => ⟨S8x4x64x128, .f32⟩
  | 100 => ⟨S_, .i32⟩
  | 101 => ⟨S_, .i32⟩
  | 102 => ⟨S_, .i32⟩
  | 103 => ⟨S_, .i32⟩
  | 104 => ⟨S1x8x4x64x128, .f32⟩
  | 105 => ⟨S8x4x64x128, .f32⟩
  | 106 => ⟨S_, .i32⟩
  | 107 => ⟨S_, .i32⟩
  | 108 => ⟨S_, .i32⟩
  | 109 => ⟨S_, .i32⟩
  | 110 => ⟨S1x8x4x64x256, .f32⟩
  | 111 => ⟨S8x4x64x256, .f32⟩
  | 112 => ⟨S_, .i32⟩
  | 113 => ⟨S_, .i32⟩
  | 114 => ⟨S_, .i32⟩
  | 115 => ⟨S1x8x4x128, .f32⟩
  | 116 => ⟨S8x4x128, .f32⟩
  | 117 => ⟨S8x4x64x256, .f32⟩
  | 118 => ⟨S8x4x128x1, .f32⟩
  | 119 => ⟨S8x4x128x256, .f32⟩
  | 120 => ⟨S8x4x128x256, .f32⟩
  | 121 => ⟨S8x4x128x256, .f32⟩
  | 122 => ⟨S8x4x128x256, .f32⟩
  | 123 => ⟨S1x8x4x64x256, .f32⟩
  | 124 => ⟨S_, .i32⟩
  | 125 => ⟨S_, .i32⟩
  | 126 => ⟨S_, .i32⟩
  | 127 => ⟨S_, .i32⟩
  | _ => ⟨S32768x1024, .f32⟩

abbrev hbmTy0_1 (i : Nat) : BufTy := match i % 128 with
  | 0 => ⟨S64x8x4x64x256, .f32⟩
  | 1 => ⟨S_, .i32⟩
  | 2 => ⟨S_, .i32⟩
  | 3 => ⟨S64x8x4x64x256, .f32⟩
  | 4 => ⟨S8x64x64x4x256, .f32⟩
  | 5 => ⟨S8x4096x4x256, .f32⟩
  | 6 => ⟨S8x4096x4x256, .f32⟩
  | 7 => ⟨S_, .f32⟩
  | 8 => ⟨S8x4096x4, .f32⟩
  | 9 => ⟨S8x4096x4x1, .f32⟩
  | 10 => ⟨S_, .f32⟩
  | 11 => ⟨S8x4096x4x1, .f32⟩
  | 12 => ⟨S8x4096x4x1, .f32⟩
  | 13 => ⟨S_, .f32⟩
  | 14 => ⟨S8x4096x4x1, .f32⟩
  | 15 => ⟨S8x4096x4x1, .f32⟩
  | 16 => ⟨S8x4096x4x1, .f32⟩
  | 17 => ⟨S8x4096x4x256, .f32⟩
  | 18 => ⟨S8x4096x4x256, .f32⟩
  | 19 => ⟨S1x1x1x256, .f32⟩
  | 20 => ⟨S8x4096x4x256, .f32⟩
  | 21 => ⟨S8x4096x4x256, .f32⟩
  | 22 => ⟨S8x4096x1024, .f32⟩
  | 23 => ⟨S8x4096x1024, .f32⟩
  | 24 => ⟨S8x4096x1024, .f32⟩
  | 25 => ⟨S8x4096x1024, .f32⟩
  | 26 => ⟨S_, .f32⟩
  | 27 => ⟨S8x4096x1024, .f32⟩
  | 28 => ⟨S8x4096x1024, .f32⟩
  | 29 => ⟨S_, .f32⟩
  | 30 => ⟨S8x4096x1024, .f32⟩
  | 31 => ⟨S8x4096x1024, .f32⟩
  | 32 => ⟨S8x4096x1024, .f32⟩
  | 33 => ⟨S8x4096x1024, .f32⟩
  | 34 => ⟨S8x4096x1024, .f32⟩
  | 35 => ⟨S1024x1024, .f32⟩
  | 36 => ⟨S8x4096x1024, .f32⟩
  | 37 => ⟨S8x4096x1024, .f32⟩
  | 38 => ⟨S8x4096x1024, .f32⟩
  | 39 => ⟨S_, .f32⟩
  | 40 => ⟨S8x4096, .f32⟩
  | 41 => ⟨S8x4096x1, .f32⟩
  | 42 => ⟨S_, .f32⟩
  | 43 => ⟨S8x4096x1, .f32⟩
  | 44 => ⟨S8x4096x1, .f32⟩
  | 45 => ⟨S_, .f32⟩
  | 46 => ⟨S8x4096x1, .f32⟩
  | 47 => ⟨S8x4096x1, .f32⟩
  | 48 => ⟨S8x4096x1, .f32⟩
  | 49 => ⟨S8x4096x1024, .f32⟩
  | 50 => ⟨S8x4096x1024, .f32⟩
  | 51 => ⟨S1x1x1024, .f32⟩
  | 52 => ⟨S8x4096x1024, .f32⟩
  | 53 => ⟨S8x4096x1024, .f32⟩
  | 54 => ⟨S8x4096x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call1_call0_cst : Ref sig .tc := ⟨.hbm, 47, rfl⟩
abbrev main_call1_call0_v0 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c : Ref sig .tc := ⟨.hbm, 62, rfl⟩
abbrev main_v33 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_0 : Ref sig .tc := ⟨.hbm, 70, rfl⟩
abbrev main_call2_v5 : Ref sig .tc := ⟨.hbm, 71, rfl⟩
abbrev main_v34 : Ref sig .tc := ⟨.hbm, 72, rfl⟩
abbrev main_v35 : Ref sig .tc := ⟨.hbm, 73, rfl⟩
abbrev main_cst_1 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v36 : Ref sig .tc := ⟨.hbm, 78, rfl⟩
abbrev main_v37 : Ref sig .tc := ⟨.hbm, 79, rfl⟩
abbrev main_cst_2 : Ref sig .tc := ⟨.hbm, 80, rfl⟩
abbrev main_v38 : Ref sig .tc := ⟨.hbm, 81, rfl⟩
abbrev main_cst_3 : Ref sig .tc := ⟨.hbm, 82, rfl⟩
abbrev main_v39 : Ref sig .tc := ⟨.hbm, 83, rfl⟩
abbrev main_c_4 : Ref sig .tc := ⟨.hbm, 84, rfl⟩
abbrev main_v40_0 : Ref sig .tc := ⟨.hbm, 85, rfl⟩
abbrev main_v40_1 : Ref sig .tc := ⟨.hbm, 86, rfl⟩
abbrev main_v40_2 : Ref sig .tc := ⟨.hbm, 87, rfl⟩
abbrev main_v40_3 : Ref sig .tc := ⟨.hbm, 88, rfl⟩
abbrev main_v40_4 : Ref sig .tc := ⟨.hbm, 89, rfl⟩
abbrev main_v40_5 : Ref sig .tc := ⟨.hbm, 90, rfl⟩
abbrev main_v40_6 : Ref sig .tc := ⟨.hbm, 91, rfl⟩
abbrev main_while0c_c_17 : Ref sig .tc := ⟨.hbm, 92, rfl⟩
abbrev main_while0c_v79 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_c_2 : Ref sig .tc := ⟨.hbm, 97, rfl⟩
abbrev main_while0b_call4_v0 : Ref sig .tc := ⟨.hbm, 98, rfl⟩
abbrev main_while0b_v79 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_c_1 : Ref sig .tc := ⟨.hbm, 102, rfl⟩
abbrev main_while0b_call5_c_2 : Ref sig .tc := ⟨.hbm, 103, rfl⟩
abbrev main_while0b_call5_v0 : Ref sig .tc := ⟨.hbm, 104, rfl⟩
abbrev main_while0b_v80 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_c_1 : Ref sig .tc := ⟨.hbm, 108, rfl⟩
abbrev main_while0b_call6_c_2 : Ref sig .tc := ⟨.hbm, 109, rfl⟩
abbrev main_while0b_call6_v0 : Ref sig .tc := ⟨.hbm, 110, rfl⟩
abbrev main_while0b_v81 : Ref sig .tc := ⟨.hbm, 111, rfl⟩
abbrev main_while0b_call7_c : Ref sig .tc := ⟨.hbm, 112, rfl⟩
abbrev main_while0b_call7_c_0 : Ref sig .tc := ⟨.hbm, 113, rfl⟩
abbrev main_while0b_call7_c_1 : Ref sig .tc := ⟨.hbm, 114, rfl⟩
abbrev main_while0b_call7_v0 : Ref sig .tc := ⟨.hbm, 115, rfl⟩
abbrev main_while0b_v82 : Ref sig .tc := ⟨.hbm, 116, rfl⟩
abbrev main_while0b_v83 : Ref sig .tc := ⟨.hbm, 117, rfl⟩
abbrev main_while0b_v84 : Ref sig .tc := ⟨.hbm, 118, rfl⟩
abbrev main_while0b_v85 : Ref sig .tc := ⟨.hbm, 119, rfl⟩
abbrev main_while0b_v86 : Ref sig .tc := ⟨.hbm, 120, rfl⟩
abbrev main_while0b_v87 : Ref sig .tc := ⟨.hbm, 121, rfl⟩
abbrev main_while0b_v88 : Ref sig .tc := ⟨.hbm, 122, rfl⟩
abbrev main_while0b_call8_v0 : Ref sig .tc := ⟨.hbm, 123, rfl⟩
abbrev main_while0b_call8_c : Ref sig .tc := ⟨.hbm, 124, rfl⟩
abbrev main_while0b_call8_c_0 : Ref sig .tc := ⟨.hbm, 125, rfl⟩
abbrev main_while0b_call8_c_1 : Ref sig .tc := ⟨.hbm, 126, rfl⟩
abbrev main_while0b_call8_c_2 : Ref sig .tc := ⟨.hbm, 127, rfl⟩
abbrev main_while0b_v89 : Ref sig .tc := ⟨.hbm, 128, rfl⟩
abbrev main_while0b_c_17 : Ref sig .tc := ⟨.hbm, 129, rfl⟩
abbrev main_while0b_v90 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_cst_5 : Ref sig .tc := ⟨.hbm, 135, rfl⟩
abbrev main_v45 : Ref sig .tc := ⟨.hbm, 136, rfl⟩
abbrev main_v46 : Ref sig .tc := ⟨.hbm, 137, rfl⟩
abbrev main_cst_6 : Ref sig .tc := ⟨.hbm, 138, rfl⟩
abbrev main_v47 : Ref sig .tc := ⟨.hbm, 139, rfl⟩
abbrev main_v48 : Ref sig .tc := ⟨.hbm, 140, rfl⟩
abbrev main_cst_7 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_call9_v0 : Ref sig .tc := ⟨.hbm, 152, rfl⟩
abbrev main_call9_v1 : Ref sig .tc := ⟨.hbm, 153, rfl⟩
abbrev main_call9_cst : Ref sig .tc := ⟨.hbm, 154, rfl⟩
abbrev main_call9_v2 : Ref sig .tc := ⟨.hbm, 155, rfl⟩
abbrev main_call9_v3 : Ref sig .tc := ⟨.hbm, 156, rfl⟩
abbrev main_call9_cst_0 : Ref sig .tc := ⟨.hbm, 157, rfl⟩
abbrev main_call9_v4 : Ref sig .tc := ⟨.hbm, 158, rfl⟩
abbrev main_call9_v5 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_cst_8 : Ref sig .tc := ⟨.hbm, 167, rfl⟩
abbrev main_v66 : Ref sig .tc := ⟨.hbm, 168, rfl⟩
abbrev main_v67 : Ref sig .tc := ⟨.hbm, 169, rfl⟩
abbrev main_cst_9 : Ref sig .tc := ⟨.hbm, 170, rfl⟩
abbrev main_v68 : Ref sig .tc := ⟨.hbm, 171, rfl⟩
abbrev main_v69 : Ref sig .tc := ⟨.hbm, 172, rfl⟩
abbrev main_cst_10 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩

abbrev nD : Nat := 1
abbrev τ : Topo := Topo.v7x

variable {F : FTy → Type} [FloatOps F]

abbrev main_while0_count : Scf.Loop 32 := ⟨0#32, 64#32, 1#32⟩
-- ==== Proof.MoeIdealRun.lean ====
/- The grouped SwiGLU's run: at any tables the precondition admits, what the kernel leaves in its result array.

   The kernel's control reads the prefetched count of valid tiles: a tile before the count is pushed through its
   expert, a tile at or past it is zeroed. The body is therefore run twice, once per branch, and the proof data
   says which of the two blocks a grid point leaves. -/
module

public import proofs.«01_k».proof.Proof.Gen.MoeIdeal.Skeleton
public import proofs.«01_k».proof.Proof.Gen.MoeIdeal.Launch
public import Idealize.ShloMosaic.Lib.Pipeline.Kit
public import Idealize.ShloMosaic.Lib.Pipeline.Quiescent
public import Idealize.ShloMosaic.Lib.Pipeline.FrameBody
public import Idealize.ShloMosaic.Lib.Pipeline.TableIdle
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Claim
public import Idealize.ShloMosaic.Adequacy
public import Idealize.ShloMosaic.Init

@[expose] public section

set_option maxRecDepth 16384
set_option Elab.async false

noncomputable section

namespace Cert.MoeIdeal.Run

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's conditions -/

section conditions

variable (i : grid0.Coords)

/-- The second grid axis has one point. -/
theorem axis1 : (i 1).val = 0 := Nat.lt_one_iff.mp (i 1).isLt

/-- The first tile along the hidden axis is always the current one, -/
theorem first : Scalar.cmpi .ne (Scalar.extui (Scalar.cmpi .eq (BitVec.ofNat 32 (i 1).val) 0#32)) 0#32 = 1#1 := by
  rw [axis1]; decide

/-- so no partial sum is started, -/
theorem noStart : ¬Scalar.cmpi .ne (Scalar.extui (Scalar.andi (Scalar.cmpi .eq (BitVec.ofNat 32 (i 1).val) 0#32) 0#1)) 0#32 = 1#1 := by
  rw [axis1]; decide

/-- none continued, -/
theorem noStep : ¬Scalar.cmpi .ne (Scalar.extui (Scalar.andi (Scalar.cmpi .sgt (BitVec.ofNat 32 (i 1).val) 0#32)
    (Scalar.cmpi .slt (BitVec.ofNat 32 (i 1).val) 0#32))) 0#32 = 1#1 := by
  rw [axis1]; decide

/-- and none ended. -/
theorem noEnd : ¬k0_cond5 i = 1#1 := by
  unfold k0_cond5; rw [axis1]; decide

/-- A tile is zeroed exactly when it is not pushed through its expert. -/
theorem zeroed_iff (v : BitVec 32) : k0_cond6 i v = 1#1 ↔ ¬k0_cond1 i v = 1#1 := by
  have hle : BitVec.sle v (BitVec.ofNat 32 (i 0).val) = !BitVec.slt (BitVec.ofNat 32 (i 0).val) v := BitVec.sle_eq_not_slt
  have hb : ∀ b : Bool, (Scalar.cmpi .ne (Scalar.extui (Scalar.andi (BitVec.ofBool (!b)) (Scalar.cmpi .eq (BitVec.ofNat 32 0) 0#32))) 0#32 = 1#1)
      ↔ ¬Scalar.cmpi .ne (Scalar.extui (BitVec.ofBool b)) 0#32 = 1#1 := by decide
  unfold k0_cond6 k0_cond1
  rw [axis1]
  simpa only [Scalar.cmpi, IntOp.cmpi, hle] using hb _

end conditions

/-! ## The tables and the buffers -/

variable (m : (ℓ : Loc nD τ sig) → Buf (Elt F) ℓ) (ρ : Dev nD → PrngReg)

/-- What a core's buffers hold when the region is entered: what they were launched with. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The expert of each tile and the count of valid tiles, as launched. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev teM : Memref sig .tc .smem S136 .i32 := Memref.whole main_arg0
abbrev nvM : Memref sig .tc .smem S1 .i32 := Memref.whole main_arg1
abbrev Tab (c : Dev nD) {S : Shape} {e : EltTy} (M : Memref sig .tc .smem S e) : Type := Buf (Elt F) (M.view.loc (c : Thread nD τ))
/-- A table held at half its share: the pipeline keeps the other half. -/
abbrev half (c : Dev nD) {S : Shape} {e : EltTy} (M : Memref sig .tc .smem S e) (f : Tab (F := F) c M) : sProp 𝕄 :=
  M.view.loc (c : Thread nD τ) ↦{fullShare.right} f

theorem tables_eq (c : Dev nD) : (Pipeline.ΦT pre0 (tbl m) c : sProp 𝕄) = iprop(half c teM (tbl m 0) ∗ half c nvM (tbl m 1)) := by
  unfold Pipeline.ΦT Pipeline.prefHeld
  rw [show (Finset.univ : Finset (Fin 2)) = insert (0 : Fin 2) {(1 : Fin 2)} from by decide,
    bigSep_insert (by decide), bigSep_singleton]
  rfl

abbrev xbM : Memref sig .tc .vmem S512x1024 .bf16 := Memref.whole cc0_scratch0
abbrev actM : Memref sig .tc .vmem S512x3584 .bf16 := Memref.whole cc0_scratch1
abbrev accM : Memref sig .tc .vmem S512x1024 .f32 := Memref.whole cc0_scratch2

theorem scratch_eq (c : Dev nD) : (Pipeline.ΦA spec0 c : sProp 𝕄)
    = iprop(iprop((∃ d, owns (c : Thread nD τ) xbM fullShare d) ∗ (∃ d, owns (c : Thread nD τ) actM fullShare d)
      ∗ (∃ d, owns (c : Thread nD τ) accM fullShare d)) ∗ (∃ r, prngReg c r)) := by
  unfold Pipeline.ΦA; rw [scopedRest0_eq]; simp only [xbM, actM, accM, owns_whole]; try rfl

/-- The count of valid tiles as the body loads it. -/
abbrev count (c : Dev nD) (T : Tab (F := F) c nvM) : BitVec 32 :=
  View.readAt (Elt F) nvM.view (Rect.unit (s := S1) ![0] S1.size inb_S1_S1_0).toLoadRect T (Shape.Idx.first (numel1_S1.symm ▸ Nat.one_pos))

/-! ## The body, branch by branch -/

section body

variable (c : Dev nD) (i : grid0.Coords)
  (x : Memref sig .tc .vmem S512x1024 .f32) (hx : x.IsWhole)
  (wg : Memref sig .tc .vmem S1x1024x3584 .bf16) (hwg : wg.IsWhole)
  (wu : Memref sig .tc .vmem S1x1024x3584 .bf16) (hwu : wu.IsWhole)
  (wd : Memref sig .tc .vmem S1x3584x1024 .bf16) (hwd : wd.IsWhole)
  (y : Memref sig .tc .vmem S512x1024 .f32) (hy : y.IsWhole)
  (X : Vec F S512x1024 .f32) (G : Vec F S1x1024x3584 .bf16) (U : Vec F S1x1024x3584 .bf16) (D : Vec F S1x3584x1024 .bf16)
  (T0 : Tab (F := F) c teM) (T1 : Tab (F := F) c nvM)

/-- What the body holds besides its output and its scratch buffers: it gives all of it back. -/
abbrev held : sProp 𝕄 :=
  iprop(owns (c : Thread nD τ) x fullShare X ∗ owns (c : Thread nD τ) wg fullShare G ∗ owns (c : Thread nD τ) wu fullShare U
    ∗ owns (c : Thread nD τ) wd fullShare D ∗ half c teM T0 ∗ half c nvM T1)

/-- The body's three scratch buffers, at some contents. -/
abbrev scratch : sProp 𝕄 :=
  iprop((∃ d, owns (c : Thread nD τ) xbM fullShare d) ∗ (∃ d, owns (c : Thread nD τ) actM fullShare d)
    ∗ (∃ d, owns (c : Thread nD τ) accM fullShare d))

/-- The body's triple when it leaves the pieces `L` in its output. -/
abbrev Leaves (L : List (View.Piece (Elt F) S512x1024 .f32)) : Prop :=
  ∀ (E : Set ℕ) (K : PUnit → sProp 𝕄),
    iprop(held c x wg wu wd X G U D T0 T1 ∗ (∃ d, owns (c : Thread nD τ) y fullShare d) ∗ scratch c
        ∗ (iprop(held c x wg wu wd X G U D T0 T1
            ∗ (∃ f, y.view.loc (c : Thread nD τ) ↦[y.view.set]{fullShare} y.view.writes (Elt F) f L) ∗ scratch c) -∗ K ⟨⟩))
      ⊢ wp frame (wpE (defs₀ (F := F)) Variants.none c none) E
          (cc0_moe_grouped_swiglu i teM (Memref.isWhole_whole _) nvM (Memref.isWhole_whole _) x hx wg hwg wu hwu wd hwd y hy
            xbM (Memref.isWhole_whole _) actM (Memref.isWhole_whole _) accM (Memref.isWhole_whole _)) K

set_option backward.proofsInPublic true in
set_option maxHeartbeats 8000000 in
/-- A valid tile: the pieces its run leaves. -/
def runValid (h : k0_cond1 i (count c T1) = 1#1) :
    { L : List (View.Piece (Elt F) S512x1024 .f32) // Leaves c i x hx wg hwg wu hwu wd hwd y hy X G U D T0 T1 L } := by
  have h6 : ¬k0_cond6 i (count c T1) = 1#1 := fun h' => (zeroed_iff i _).mp h' h
  have hc2 := first i
  have hc3 := noStart i
  have hc4 := noStep i
  have hc5 := noEnd i
  refine ⟨?_, fun E K => ?run⟩
  case run =>
    simp only [cc0_moe_grouped_swiglu_eq_skeleton]; unfold cc0_moe_grouped_swiglu_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold held scratch owns half
    iintro ⟨⟨⟨%f0, %hf0, H0⟩, ⟨%f1, %hf1, H1⟩, ⟨%f2, %hf2, H2⟩, ⟨%f3, %hf3, H3⟩, HT0, HT1⟩, ⟨%d4, %f4, -, H4⟩,
      ⟨⟨%ds0, %fs0, -, HS0⟩, ⟨%ds1, %fs1, -, HS1⟩, ⟨%ds2, %fs2, -, HS2⟩⟩, Hk⟩
    obtain rfl := hx.eq_unread hf0; obtain rfl := hwg.eq_unread hf1; obtain rfl := hwu.eq_unread hf2; obtain rfl := hwd.eq_unread hf3
    sl_exec (disch := first | sl_exact h | sl_exact h6 | sl_exact hc2 | sl_exact hc3 | sl_exact hc4 | sl_exact hc5)
    sl_step
    iapply Hk
    isplitl [H0 H1 H2 H3 HT0 HT1]
    · isplitl [H0]
      · iexists _; isplitr; · ipureintro; exact hx.read_unread _
        iexact H0
      isplitl [H1]
      · iexists _; isplitr; · ipureintro; exact hwg.read_unread _
        iexact H1
      isplitl [H2]
      · iexists _; isplitr; · ipureintro; exact hwu.read_unread _
        iexact H2
      isplitl [H3]
      · iexists _; isplitr; · ipureintro; exact hwd.read_unread _
        iexact H3
      isplitl [HT0]; · iexact HT0
      iexact HT1
    isplitl [H4]; · iexists _; iexact H4
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

set_option backward.proofsInPublic true in
set_option maxHeartbeats 8000000 in
/-- A tile past the count: the pieces its run leaves. -/
def runPast (h : ¬k0_cond1 i (count c T1) = 1#1) :
    { L : List (View.Piece (Elt F) S512x1024 .f32) // Leaves c i x hx wg hwg wu hwu wd hwd y hy X G U D T0 T1 L } := by
  have h6 : k0_cond6 i (count c T1) = 1#1 := (zeroed_iff i _).mpr h
  refine ⟨?_, fun E K => ?run⟩
  case run =>
    simp only [cc0_moe_grouped_swiglu_eq_skeleton]; unfold cc0_moe_grouped_swiglu_skel
    unfold held scratch owns half
    iintro ⟨⟨⟨%f0, %hf0, H0⟩, ⟨%f1, %hf1, H1⟩, ⟨%f2, %hf2, H2⟩, ⟨%f3, %hf3, H3⟩, HT0, HT1⟩, ⟨%d4, %f4, -, H4⟩,
      ⟨⟨%ds0, %fs0, -, HS0⟩, ⟨%ds1, %fs1, -, HS1⟩, ⟨%ds2, %fs2, -, HS2⟩⟩, Hk⟩
    obtain rfl := hx.eq_unread hf0; obtain rfl := hwg.eq_unread hf1; obtain rfl := hwu.eq_unread hf2; obtain rfl := hwd.eq_unread hf3
    sl_exec (disch := first | sl_exact h | sl_exact h6)
    sl_step
    iapply Hk
    isplitl [H0 H1 H2 H3 HT0 HT1]
    · isplitl [H0]
      · iexists _; isplitr; · ipureintro; exact hx.read_unread _
        iexact H0
      isplitl [H1]
      · iexists _; isplitr; · ipureintro; exact hwg.read_unread _
        iexact H1
      isplitl [H2]
      · iexists _; isplitr; · ipureintro; exact hwu.read_unread _
        iexact H2
      isplitl [H3]
      · iexists _; isplitr; · ipureintro; exact hwd.read_unread _
        iexact H3
      isplitl [HT0]; · iexact HT0
      iexact HT1
    isplitl [H4]; · iexists _; iexact H4
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end body

end Cert.MoeIdeal.Run

end
-- ==== Proof.MoeIdealFrame.lean ====
/- The grouped SwiGLU's frame: the proof data of its pipeline at any admissible tables, the body's obligation from the
   two branches' runs, and the launch. -/
module

public import proofs.«01_k».proof.Proof.MoeIdealRun

@[expose] public section

set_option maxRecDepth 16384
set_option Elab.async false

noncomputable section

namespace Cert.MoeIdeal.Run

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a branch leaves in the output -/

/-- One staging buffer of the output, through which its contents are stated. -/
abbrev outV : View sig .tc .vmem S512x1024 .f32 := (Memref.whole cc0_stg4_0 : Memref sig .tc .vmem S512x1024 .f32).view

section left

variable (c : Dev nD) (i : grid0.Coords)
  (x : Memref sig .tc .vmem S512x1024 .f32) (hx : x.IsWhole)
  (wg : Memref sig .tc .vmem S1x1024x3584 .bf16) (hwg : wg.IsWhole)
  (wu : Memref sig .tc .vmem S1x1024x3584 .bf16) (hwu : wu.IsWhole)
  (wd : Memref sig .tc .vmem S1x3584x1024 .bf16) (hwd : wd.IsWhole)
  (y : Memref sig .tc .vmem S512x1024 .f32) (hy : y.IsWhole)
  (X : Vec F S512x1024 .f32) (G : Vec F S1x1024x3584 .bf16) (U : Vec F S1x1024x3584 .bf16) (D : Vec F S1x3584x1024 .bf16)
  (T0 : Tab (F := F) c teM) (T1 : Tab (F := F) c nvM)

theorem coverValid (h : k0_cond1 i (count c T1) = 1#1) (z : S512x1024.Idx) :
    ∃ p ∈ (runValid c i x hx wg hwg wu hwu wd hwd y hy X G U D T0 T1 h).1, z ∈ p.1.set :=
  View.cover_of_tiledL (runValid c i x hx wg hwg wu hwu wd hwd y hy X G U D T0 T1 h).1 S512x1024.size (by sl_kernel_rfl) z

theorem coverPast (h : ¬k0_cond1 i (count c T1) = 1#1) (z : S512x1024.Idx) :
    ∃ p ∈ (runPast c i x hx wg hwg wu hwu wd hwd y hy X G U D T0 T1 h).1, z ∈ p.1.set :=
  View.cover_of_tiledL (runPast c i x hx wg hwg wu hwu wd hwd y hy X G U D T0 T1 h).1 S512x1024.size (by sl_kernel_rfl) z

def outValid (h : k0_cond1 i (count c T1) = 1#1) : Vec F S512x1024 .f32 :=
  outV.read (Elt F) (outV.writes (Elt F) outV.junk (runValid c i x hx wg hwg wu hwu wd hwd y hy X G U D T0 T1 h).1)

def outPast (h : ¬k0_cond1 i (count c T1) = 1#1) : Vec F S512x1024 .f32 :=
  outV.read (Elt F) (outV.writes (Elt F) outV.junk (runPast c i x hx wg hwg wu hwu wd hwd y hy X G U D T0 T1 h).1)

/-- What the body leaves in its output: the branch is the count's. -/
def out : Vec F S512x1024 .f32 :=
  if h : k0_cond1 i (count c T1) = 1#1 then outValid c i x hx wg hwg wu hwu wd hwd y hy X G U D T0 T1 h
  else outPast c i x hx wg hwg wu hwu wd hwd y hy X G U D T0 T1 h

/-- The body's triple, both branches together. -/
theorem body (E : Set ℕ) (K : PUnit → sProp 𝕄) :
    iprop(held c x wg wu wd X G U D T0 T1 ∗ (∃ d, owns (c : Thread nD τ) y fullShare d) ∗ scratch c
        ∗ (iprop(held c x wg wu wd X G U D T0 T1
            ∗ owns (c : Thread nD τ) y fullShare (out c i x hx wg hwg wu hwu wd hwd y hy X G U D T0 T1) ∗ scratch c) -∗ K ⟨⟩))
      ⊢ wp frame (wpE (defs₀ (F := F)) Variants.none c none) E
          (cc0_moe_grouped_swiglu i teM (Memref.isWhole_whole _) nvM (Memref.isWhole_whole _) x hx wg hwg wu hwu wd hwd y hy
            xbM (Memref.isWhole_whole _) actM (Memref.isWhole_whole _) accM (Memref.isWhole_whole _)) K := by
  unfold out
  split <;> rename_i h
  · iintro ⟨Hh, Hy, Hs, Hk⟩
    iapply ((runValid c i x hx wg hwg wu hwu wd hwd y hy X G U D T0 T1 h).2 E K)
    isplitl [Hh]; · iexact Hh
    isplitl [Hy]; · iexact Hy
    isplitl [Hs]; · iexact Hs
    iintro ⟨Hh, ⟨%f, Hy⟩, Hs⟩
    iapply Hk
    isplitl [Hh]; · iexact Hh
    isplitl [Hy]
    · unfold owns; iexists _; isplitr
      swap; · iexact Hy
      ipureintro; exact View.read_writes_of_cover _ _ _ _ _ (coverValid c i x hx wg hwg wu hwu wd hwd y hy X G U D T0 T1 h)
    iexact Hs
  · iintro ⟨Hh, Hy, Hs, Hk⟩
    iapply ((runPast c i x hx wg hwg wu hwu wd hwd y hy X G U D T0 T1 h).2 E K)
    isplitl [Hh]; · iexact Hh
    isplitl [Hy]; · iexact Hy
    isplitl [Hs]; · iexact Hs
    iintro ⟨Hh, ⟨%f, Hy⟩, Hs⟩
    iapply Hk
    isplitl [Hh]; · iexact Hh
    isplitl [Hy]
    · unfold owns; iexists _; isplitr
      swap; · iexact Hy
      ipureintro; exact View.read_writes_of_cover _ _ _ _ _ (coverPast c i x hx wg hwg wu hwu wd hwd y hy X G U D T0 T1 h)
    iexact Hs

end left

/-! ## The pipeline's proof data -/

variable (m : (ℓ : Loc nD τ sig) → Buf (Elt F) ℓ) (ρ : Dev nD → PrngReg)

/-- Window `w`'s block at point `t`, read off its array as launched. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

section stages
variable (hO : Ok m) (t : Fin (cfgM m hO).N)
abbrev xS : Memref sig .tc .vmem S512x1024 .f32 := spec0_0.stage ((cfgM m hO).slots t 0)
abbrev wgS : Memref sig .tc .vmem S1x1024x3584 .bf16 := spec0_1.stage ((cfgM m hO).slots t 1)
abbrev wuS : Memref sig .tc .vmem S1x1024x3584 .bf16 := spec0_2.stage ((cfgM m hO).slots t 2)
abbrev wdS : Memref sig .tc .vmem S1x3584x1024 .bf16 := spec0_3.stage ((cfgM m hO).slots t 3)
abbrev yS : Memref sig .tc .vmem S512x1024 .f32 := spec0_4.stage ((cfgM m hO).slots t 4)
theorem hxS : (xS m hO t).IsWhole := hstage0_0 (((cfgM m hO).slots t 0).cast nbuf0_0)
theorem hwgS : (wgS m hO t).IsWhole := hstage0_1 (((cfgM m hO).slots t 1).cast nbuf0_1)
theorem hwuS : (wuS m hO t).IsWhole := hstage0_2 (((cfgM m hO).slots t 2).cast nbuf0_2)
theorem hwdS : (wdS m hO t).IsWhole := hstage0_3 (((cfgM m hO).slots t 3).cast nbuf0_3)
theorem hyS : (yS m hO t).IsWhole := hstage0_4 (((cfgM m hO).slots t 4).cast nbuf0_4)

/-- The kernel body at point `t`, on what the pipeline calls it with. -/
abbrev bodyAt : Prog (TpuEff nD τ sig (Elt F) Λ₀ .tc) PUnit :=
  cc0_moe_grouped_swiglu (grid0.coords t) teM (Memref.isWhole_whole _) nvM (Memref.isWhole_whole _)
    (xS m hO t) (hxS m hO t) (wgS m hO t) (hwgS m hO t) (wuS m hO t) (hwuS m hO t) (wdS m hO t) (hwdS m hO t) (yS m hO t) (hyS m hO t)
    xbM (Memref.isWhole_whole _) actM (Memref.isWhole_whole _) accM (Memref.isWhole_whole _)

/-- What the output's staging buffer holds after the body at point `t`. -/
def outAt (c : Dev nD) : Vec F S512x1024 .f32 :=
  out c (grid0.coords t) (xS m hO t) (hxS m hO t) (wgS m hO t) (hwgS m hO t) (wuS m hO t) (hwuS m hO t) (wdS m hO t) (hwdS m hO t)
    (yS m hO t) (hyS m hO t) (iblk m hO c 0 t) (iblk m hO c 1 t) (iblk m hO c 2 t) (iblk m hO c 3 t) (tbl m 0) (tbl m 1)
end stages

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO t c
  Φ _ := iprop(Pipeline.ΦA spec0 c ∗ Pipeline.ΦT pre0 (tbl m) c)
  q _ := fullShare
  owed _ := 0

section dats
variable (hO : Ok m) (c : Dev nD)

theorem A_eq (w : Fin (cfgM m hO).W) : (dats m hO 0 c).A w = V m c (Pipeline.arrRef spec0 w) := by
  dsimp only [dats]

variable (t : Fin (cfgM m hO).N)

theorem after_0 : (dats m hO 0 c).after 0 t = iblk m hO c 0 t := by dsimp only [dats]; try rfl
theorem after_1 : (dats m hO 0 c).after 1 t = iblk m hO c 1 t := by dsimp only [dats]; try rfl
theorem after_2 : (dats m hO 0 c).after 2 t = iblk m hO c 2 t := by dsimp only [dats]; try rfl
theorem after_3 : (dats m hO 0 c).after 3 t = iblk m hO c 3 t := by dsimp only [dats]; try rfl
theorem after_4 : (dats m hO 0 c).after 4 t = outAt m hO t c := by dsimp only [dats]; try rfl

/-- An input's staging buffer holds its block at every point, fetched there or not. -/
theorem before_0 (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The output is stored at every point: a tile is pushed through its expert, or zeroed. -/
theorem live_4 : (cfgM m hO).idle 4 (grid0.coords t) = false := by
  show idle0 (tbl m) 4 (grid0.coords t) = false
  unfold idle0
  by_cases h : k0_cond1 (grid0.coords t) ((tbl m).atD 1 ![0]) = 1#1
  · simp [h]
  · simp [h, (zeroed_iff (grid0.coords t) ((tbl m).atD 1 ![0])).mpr h]

/-- What the body is called with at point `t`, -/
def bodyPre : sProp 𝕄 :=
  iprop((dats m hO 0 c).Φ t.castSucc ∗ (dats m hO 0 c).owesAt () t.castSucc
    ∗ (∃ d, owns (c : Thread nD τ) (xS m hO t) fullShare ((dats m hO 0 c).before 0 t d))
    ∗ (∃ d, owns (c : Thread nD τ) (wgS m hO t) fullShare ((dats m hO 0 c).before 1 t d))
    ∗ (∃ d, owns (c : Thread nD τ) (wuS m hO t) fullShare ((dats m hO 0 c).before 2 t d))
    ∗ (∃ d, owns (c : Thread nD τ) (wdS m hO t) fullShare ((dats m hO 0 c).before 3 t d))
    ∗ (∃ d, owns (c : Thread nD τ) (yS m hO t) fullShare ((dats m hO 0 c).before 4 t d)))

/-- and what it returns. -/
def bodyPost : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t)

theorem leaves_0 : (dats m hO 0 c).leavesExact 0 t = owns (c : Thread nD τ) (xS m hO t) fullShare (iblk m hO c 0 t) := by
  rw [← after_0]; unfold Dat.leavesExact; rw [show (cfgM m hO).idle 0 (grid0.coords t) = false from rfl]; rfl
theorem leaves_1 : (dats m hO 0 c).leavesExact 1 t = owns (c : Thread nD τ) (wgS m hO t) fullShare (iblk m hO c 1 t) := by
  rw [← after_1]; unfold Dat.leavesExact; rw [show (cfgM m hO).idle 1 (grid0.coords t) = false from rfl]; rfl
theorem leaves_2 : (dats m hO 0 c).leavesExact 2 t = owns (c : Thread nD τ) (wuS m hO t) fullShare (iblk m hO c 2 t) := by
  rw [← after_2]; unfold Dat.leavesExact; rw [show (cfgM m hO).idle 2 (grid0.coords t) = false from rfl]; rfl
theorem leaves_3 : (dats m hO 0 c).leavesExact 3 t = owns (c : Thread nD τ) (wdS m hO t) fullShare (iblk m hO c 3 t) := by
  rw [← after_3]; unfold Dat.leavesExact; rw [show (cfgM m hO).idle 3 (grid0.coords t) = false from rfl]; rfl
theorem leaves_4 : (dats m hO 0 c).leavesExact 4 t = owns (c : Thread nD τ) (yS m hO t) fullShare (outAt m hO t c) := by
  rw [← after_4]; unfold Dat.leavesExact; rw [live_4 m hO t]; rfl

set_option maxHeartbeats 800000 in
theorem sound_body :
    bodyPre m hO c t ⊢ wp frame (wpE (defs₀ (F := F)) Variants.none c none) Set.univ (bodyAt m hO t) (fun _ => bodyPost m hO c t) := by
  unfold bodyPre bodyPost
  simp only [before_0, before_1, before_2, before_3]
  rw [leaves_0, leaves_1, leaves_2, leaves_3, leaves_4]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, tables_eq, scratch_eq]
  unfold outAt
  iintro ⟨⟨⟨HS, Hg⟩, ⟨HT0, HT1⟩⟩, Ho, ⟨%d0, H0⟩, ⟨%d1, H1⟩, ⟨%d2, H2⟩, ⟨%d3, H3⟩, ⟨%d4, H4⟩⟩
  iapply (body c (grid0.coords t) (xS m hO t) (hxS m hO t) (wgS m hO t) (hwgS m hO t) (wuS m hO t) (hwuS m hO t) (wdS m hO t)
    (hwdS m hO t) (yS m hO t) (hyS m hO t) (iblk m hO c 0 t) (iblk m hO c 1 t) (iblk m hO c 2 t) (iblk m hO c 3 t) (tbl m 0) (tbl m 1))
  isplitl [H0 H1 H2 H3 HT0 HT1]
  · unfold held
    isplitl [H0]; · iexact H0
    isplitl [H1]; · iexact H1
    isplitl [H2]; · iexact H2
    isplitl [H3]; · iexact H3
    isplitl [HT0]; · iexact HT0
    iexact HT1
  isplitl [H4]; · iexists _; iexact H4
  isplitl [HS]; · unfold scratch; iexact HS
  unfold held scratch
  iintro ⟨⟨H0, H1, H2, H3, HT0, HT1⟩, H4, HS⟩
  isplitl [HS Hg HT0 HT1]
  · isplitl [HS Hg]
    · isplitl [HS]; · iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem defs₀_row :
    defs₀ (F := F) .tc (cfgM m hO).body ((cfgM m hO).bodyArgs t ((cfgM m hO).slots t)) = bodyAt m hO t := by
  unfold defs₀; rw [Defs.onTc_tc]

theorem body_obligation : BodyObligation (dats (F := F) m hO 0 c) (defs₀ (F := F)) Variants.none () Set.univ := fun t => by
  rw [bigSep_W0, bigSep_W0, defs₀_row m hO]
  exact triple_restated (sound_body m hO c t) rfl .rfl fun _ => .rfl

end dats

/-! ## The launch -/

set_option backward.isDefEq.respectTransparency.types false in
/-- The launch: every array at what the proof data says, every counter at zero. -/
theorem run_main (hO : Ok m) : θ_run defs (onTc (τ := τ) (main (F := F))) (s₀ m ρ) (fun r =>
    (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- Every array but the result ends as launched, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main m ρ hO)

end Cert.MoeIdeal.Run

end
-- ==== Proof.MoeIdealTables.lean ====
/- The grouped SwiGLU's tables: the blocks they name, and that under the precondition every block lies inside its array. -/
module

public import proofs.«01_k».proof.Proof.MoeIdealFrame
public import proofs.«01_k».proof.Proof.Gen.Pre_tables_in_range

@[expose] public section

set_option maxRecDepth 16384
set_option Elab.async false

noncomputable section

namespace Cert.MoeIdeal.Run

open Cert.MoeIdeal Cert.MoeIdeal.Gen
open Idealize.ShloMosaic Idealize.ShloMosaic.TcCoe

variable {F : FTy → Type} [FloatOps F]

/-- A tile's place in the table of experts. -/
abbrev place (i : grid0.Coords) : S136.Idx := fun a => ⟨(i 0).val, by obtain rfl : a = 0 := Subsingleton.elim _ _; exact (i 0).isLt⟩

/-- The one place of the table that holds the count. -/
abbrev only : S1.Idx := fun a => ⟨0, by obtain rfl : a = 0 := Subsingleton.elim _ _; exact Nat.one_pos⟩

section words

variable (pf : pre0.Contents (Elt F)) (i : grid0.Coords)

/-- A tile's expert, -/
abbrev expertOf : BitVec 32 := pf 0 (place i)
/-- and the count of valid tiles. -/
abbrev countOf : BitVec 32 := pf 1 only

/-- The two words as the index maps load them. -/
abbrev loadE : BitVec 32 :=
  pf.at 0 (Rect.unit (s := S136) ![(Scalar.indexCast (BitVec.ofNat 32 (i 0).val) : Index).toNat] S1.size (k0_off1_inb i)) numel1_S1
abbrev loadN : BitVec 32 := pf.at 1 (Rect.unit (s := S1) ![0] S1.size inb_S1_S1_0) numel1_S1

theorem place_word : loadE pf i = expertOf pf i := by
  refine congrArg (pf 0) (funext fun (a : Fin 1) => Fin.ext ?_)
  obtain rfl : a = 0 := Subsingleton.elim _ _
  have h : (i 0).val < 136 := (i 0).isLt
  show (BitVec.ofNat 32 (i 0).val).toNat + 1 * 0 = (i 0).val
  rw [BitVec.toNat_ofNat]
  omega

theorem only_word : loadN pf = countOf pf := by
  refine congrArg (pf 1) (funext fun (a : Fin 1) => ?_)
  obtain rfl : a = 0 := Subsingleton.elim _ _
  exact Subsingleton.elim (α := Fin 1) _ _

theorem hidden (b : BitVec 1) : Scalar.select b (BitVec.ofNat 32 (i 1).val) 0#32 = 0#32 := by
  rw [axis1]; unfold Scalar.select; split <;> rfl

theorem block_1 : cc0_transform_1 k0_off1_inb numel1_S1 inb_S1_S1_0 pf i = ![(expertOf pf i).toNat, 0, 0] := by
  show ![(loadE pf i).toNat, 0, (Scalar.select (Scalar.cmpi .slt (BitVec.ofNat 32 (i 0).val) (loadN pf)) (BitVec.ofNat 32 (i 1).val) 0#32).toNat] = _
  rw [hidden, place_word]; rfl
theorem block_2 : cc0_transform_2 k0_off1_inb numel1_S1 inb_S1_S1_0 pf i = ![(expertOf pf i).toNat, 0, 0] := by
  show ![(loadE pf i).toNat, 0, (Scalar.select (Scalar.cmpi .slt (BitVec.ofNat 32 (i 0).val) (loadN pf)) (BitVec.ofNat 32 (i 1).val) 0#32).toNat] = _
  rw [hidden, place_word]; rfl
theorem block_3 : cc0_transform_3 k0_off1_inb numel1_S1 inb_S1_S1_0 pf i = ![(expertOf pf i).toNat, 0, 0] := by
  show ![(loadE pf i).toNat, (Scalar.select (Scalar.cmpi .slt (BitVec.ofNat 32 (i 0).val) (loadN pf)) (BitVec.ofNat 32 (i 1).val) 0#32).toNat, 0] = _
  rw [hidden, place_word]; rfl

/-- A tile's number as a word. -/
theorem tile_toInt : (BitVec.ofNat 32 (i 0).val).toInt = (i 0).val := by
  have h : (i 0).val < 136 := (i 0).isLt
  simp only [BitVec.toInt, BitVec.toNat_ofNat]; omega

theorem cond1_iff (v : BitVec 32) : Iff (k0_cond1 i v = 1#1) (((i 0).val : Int) < v.toInt) := by
  have hb : ∀ b : Bool, Iff (Scalar.cmpi .ne (Scalar.extui (BitVec.ofBool b)) 0#32 = 1#1) (b = true) := by decide
  refine (hb (BitVec.slt (BitVec.ofNat 32 (i 0).val) v)).trans ?_
  rw [BitVec.slt, decide_eq_true_eq, tile_toInt]

/-- The word below `n`, `n` positive. -/
theorem pred_toInt (n : BitVec 32) (h : 1 ≤ n.toInt) : (Scalar.subi n 1#32).toInt = n.toInt - 1 := by
  show (n - 1#32).toInt = n.toInt - 1
  have := n.isLt
  simp only [BitVec.toInt, BitVec.toNat_sub, BitVec.toNat_ofNat] at h ⊢
  omega

theorem minsi_eq (a b : BitVec 32) : Scalar.minsi a b = if a.toInt < b.toInt then a else b := by
  show (if a.slt b then a else b) = _
  simp only [BitVec.slt, decide_eq_true_eq]

/-- A valid tile reads its own rows; -/
theorem block_0_valid (h : k0_cond1 i (countOf pf) = 1#1) : cc0_transform_0 inb_S1_S1_0 numel1_S1 pf i = ![(i 0).val, 0] := by
  have hi : (i 0).val < 136 := (i 0).isLt
  have hv := (cond1_iff i _).mp h
  show ![(Scalar.minsi (BitVec.ofNat 32 (i 0).val) (Scalar.subi (loadN pf) 1#32)).toNat, 0] = _
  rw [only_word, minsi_eq, tile_toInt, pred_toInt _ (by omega)]
  have hw : (BitVec.ofNat 32 (i 0).val).toNat = (i 0).val := by rw [BitVec.toNat_ofNat]; omega
  split
  · rw [hw]
  · rename_i hlt
    rw [show Scalar.subi (countOf pf) 1#32 = BitVec.ofNat 32 (i 0).val from BitVec.eq_of_toInt_eq (by
      rw [tile_toInt, pred_toInt _ (by omega)]; omega), hw]

/-- a tile past the count reads the last valid tile's, which it does not use. -/
theorem block_0 (hn : 1 ≤ (countOf pf).toInt) : ∃ k < 136, cc0_transform_0 inb_S1_S1_0 numel1_S1 pf i = ![k, 0] := by
  have hi : (i 0).val < 136 := (i 0).isLt
  refine ⟨(Scalar.minsi (BitVec.ofNat 32 (i 0).val) (Scalar.subi (loadN pf) 1#32)).toNat, ?_, rfl⟩
  rw [only_word, minsi_eq, tile_toInt, pred_toInt _ hn]
  split
  · rw [BitVec.toNat_ofNat]; omega
  · have := pred_toInt _ hn
    have := (Scalar.subi (countOf pf) 1#32).isLt
    simp only [BitVec.toInt] at *
    omega

/-- Every expert one of the eight, and a valid tile at least: every block lies inside its array. -/
theorem ok_of (he : ∀ w, (pf 0 w : BitVec 32).toNat < 8) (hn : 1 ≤ (countOf pf).toInt) : ok0 pf := by
  refine ⟨fun i => ?_, fun i => ?_, fun i => ?_, fun i => ?_⟩
  · obtain ⟨k, hk, e⟩ := block_0 pf i hn
    refine ⟨?_, .inl rfl⟩
    rw [e]; intro a; fin_cases a <;> simp <;> omega
  · have := he (place i)
    refine ⟨?_, .inr ?_⟩
    · rw [block_1]; intro a; fin_cases a <;> simp [expertOf] <;> omega
    · exact .inr ⟨by decide, rfl, by show cc0_transform_1 _ _ _ pf i 1 * 1024 = 0; rw [block_1]; rfl, rfl⟩
  · have := he (place i)
    refine ⟨?_, .inr ?_⟩
    · rw [block_2]; intro a; fin_cases a <;> simp [expertOf] <;> omega
    · exact .inr ⟨by decide, rfl, by show cc0_transform_2 _ _ _ pf i 1 * 1024 = 0; rw [block_2]; rfl, rfl⟩
  · have := he (place i)
    refine ⟨?_, .inr ?_⟩
    · rw [block_3]; intro a; fin_cases a <;> simp [expertOf] <;> omega
    · exact .inr ⟨by decide, rfl, by show cc0_transform_3 _ _ _ pf i 1 * 3584 = 0; rw [block_3]; rfl, rfl⟩

end words

/-! ## The precondition, read -/

section pre

variable (te : IVec Cert.Pre_tables_in_range.S136 32) (nv : IVec Cert.Pre_tables_in_range.S1 32)
  (xs : FVec F Cert.Pre_tables_in_range.S69632x1024 .f32) (wg wu : FVec F Cert.Pre_tables_in_range.S8x1024x3584 .bf16)
  (wd : FVec F Cert.Pre_tables_in_range.S8x3584x1024 .bf16)

theorem expert_lt (h : (Cert.Pre_tables_in_range.fn (F := F) te nv xs wg wu wd).1 = fun _ => 1#1) (w : Cert.Pre_tables_in_range.S136.Idx) :
    (te w).toNat < 8 := by
  have e := congrFun h w
  have both (a b : BitVec 1) : Iff (IntOp.andi a b = 1#1) (a = 1#1 ∧ b = 1#1) := by revert a b; decide
  have one (p : Bool) : Iff (BitVec.ofBool p = 1#1) (p = true) := by cases p <;> decide
  simp only [Cert.Pre_tables_in_range.fn, constantI, broadcastInDim, cmpi, andi, both, IntOp.cmpi, one, BitVec.sle, BitVec.slt,
    decide_eq_true_eq, BitVec.toInt] at e
  have := (te w).isLt
  simp at e
  omega

theorem one_le_count (h : (Cert.Pre_tables_in_range.fn (F := F) te nv xs wg wu wd).2 = fun _ => 1#1) (w : Cert.Pre_tables_in_range.S1.Idx) :
    1 ≤ (nv w).toInt := by
  have e := congrFun h w
  have one (p : Bool) : Iff (BitVec.ofBool p = 1#1) (p = true) := by cases p <;> decide
  simp only [Cert.Pre_tables_in_range.fn, constantI, broadcastInDim, cmpi, IntOp.cmpi, one, BitVec.sle] at e
  exact of_decide_eq_true e

end pre

end Cert.MoeIdeal.Run

end
-- ==== Proof.MoeIdealValue.lean ====
/- What one grid point of the grouped SwiGLU computes at the ideal instance: a tile that is present is pushed through its
   expert, a tile past the last one is zero. -/
module

public import proofs.«01_k».proof.Proof.MoeIdealTables
public import Idealize.ShloMosaic.Lib.Pipeline.ValueKit

@[expose] public section

set_option maxRecDepth 16384

noncomputable section

namespace Cert.MoeIdeal.Run

open Cert.MoeIdeal Cert.MoeIdeal.Gen
open Idealize.ShloMosaic Idealize.ShloMosaic.TcCoe Idealize.ShloMosaic.Tactic

/-! ## The hidden layer -/

/-- Row `r` of a tile times column `k` of a weight. -/
def column (X : Vec Ideal S512x1024 .f32) (W : Vec Ideal S1x1024x3584 .bf16) (r : Fin 512) (k : Fin 3584) : EReal :=
  ∑ d : Fin 1024, X (ix2 r d) * W (ix3 0 d k)

/-- A number through the gate, times another. -/
def gated (g u : EReal) : EReal := g * Ideal.div 1 (1 + Ideal.exp (0 - g)) * u

/-- A tile's hidden layer, at an index. -/
def hiddenAt (X : Vec Ideal S512x1024 .f32) (G U : Vec Ideal S1x1024x3584 .bf16) (i : S512x3584.Idx) : EReal :=
  gated (column X G (i 0) (i 1)) (column X U (i 0) (i 1))

/-- The 256 columns stored from `o` on are the hidden layer's. -/
theorem chunk (X : Vec Ideal S512x1024 .f32) (G U : Vec Ideal S1x1024x3584 .bf16) (o : ℕ)
    (inb : ∀ a : Fin 3, ![0, 0, o] a + ![1, 1024, 256] a ≤ S1x1024x3584.size a)
    (inb' : ∀ a : Fin 2, ![0, o] a + ![512, 256] a ≤ S512x3584.size a) (x : S512x256.Idx) :
    k0_pay7 (F := Ideal) (k0_pay6 X) (View.ld G (Rect.unit (s := S1x1024x3584) ![0, 0, o] ![1, 1024, 256] inb))
        (View.ld U (Rect.unit (s := S1x1024x3584) ![0, 0, o] ![1, 1024, 256] inb)) x
      = hiddenAt X G U ((Rect.unit (s := S512x3584) ![0, o] ![512, 256] inb').emb x) := by
  have h0 : ((Rect.unit (s := S512x3584) ![0, o] ![512, 256] inb').emb x) 0 = x 0 :=
    Fin.ext (by rw [Rect.emb_apply]; show 0 + 1 * (x 0 : ℕ) = _; omega)
  have h1 : (((Rect.unit (s := S512x3584) ![0, o] ![512, 256] inb').emb x) 1 : ℕ) = o + (x 1 : ℕ) := by
    rw [Rect.emb_apply]; show o + 1 * (x 1 : ℕ) = _; omega
  have h1' : ((Rect.unit (s := S512x3584) ![0, o] ![512, 256] inb').emb x) 1 = ⟨o + (x 1 : ℕ), h1 ▸ Fin.isLt _⟩ := Fin.ext h1
  unfold hiddenAt gated column
  rw [h0, h1']
  pointwise [k0_pay7, k0_pay6]

section branches

variable (c : Dev nD) (i : grid0.Coords)
  (x : Memref sig .tc .vmem S512x1024 .f32) (hx : x.IsWhole)
  (wg : Memref sig .tc .vmem S1x1024x3584 .bf16) (hwg : wg.IsWhole)
  (wu : Memref sig .tc .vmem S1x1024x3584 .bf16) (hwu : wu.IsWhole)
  (wd : Memref sig .tc .vmem S1x3584x1024 .bf16) (hwd : wd.IsWhole)
  (y : Memref sig .tc .vmem S512x1024 .f32) (hy : y.IsWhole)
  (X : Vec Ideal S512x1024 .f32) (G : Vec Ideal S1x1024x3584 .bf16) (U : Vec Ideal S1x1024x3584 .bf16)
  (D : Vec Ideal S1x3584x1024 .bf16)
  (T0 : Tab (F := Ideal) c teM) (T1 : Tab (F := Ideal) c nvM)

/-- A tile that is present: its hidden layer times the expert's last weight. -/
theorem outValid_apply (h : k0_cond1 i (count c T1) = 1#1) (z : S512x1024.Idx) :
    outValid c i x hx wg hwg wu hwu wd hwd y hy X G U D T0 T1 h z
      = ∑ k : Fin 3584, hiddenAt X G U (ix2 (z 0) k) * D (ix3 0 k (z 1)) := by
  unfold outValid runValid
  frame_out
  have hA : ∀ (L : List (View.Piece (Elt Ideal) S512x3584 .bf16)) (inb)
      (hL : ∀ p ∈ L, ∀ x : p.1.shape.Idx, p.2 x = hiddenAt X G U (p.1.emb x))
      (hc : ∀ y, ∃ p ∈ L, y ∈ p.1.set),
      (View.whole cc0_scratch1 : View sig .tc .vmem S512x3584 .bf16).readCov L
        (Rect.unit (s := S512x3584) ![0, 0] ![512, 3584] inb).toLoadRect = hiddenAt X G U := by
    intro L inb hL hc
    rw [View.readCov_eq_canon_ld _ _ _ hc]
    funext j
    rw [View.ld_apply, View.canon_apply_of_pieces (hiddenAt X G U) L hL _ (hc _)]
    congr 1
    funext a; exact Fin.ext (by rw [Rect.idx_unit_val]; fin_cases a <;> simp)
  rw [hA _ _ _ (View.cover_of_tiledL _ ![512, 256] (by sl_kernel_rfl))]
  · pointwise [k0_pay1, k0_pay29]
  · intro p hp
    simp only [List.mem_cons, List.not_mem_nil, or_false] at hp
    rcases hp with rfl | rfl | rfl | rfl | rfl | rfl | rfl | rfl | rfl | rfl | rfl | rfl | rfl | rfl <;>
      exact fun x => chunk X G U _ _ (by decide) x

/-- A tile past the last one: zero. -/
theorem outPast_apply (h : ¬k0_cond1 i (count c T1) = 1#1) (z : S512x1024.Idx) :
    outPast c i x hx wg hwg wu hwu wd hwd y hy X G U D T0 T1 h z = 0 := by
  unfold outPast runPast
  frame_out
  pointwise [k0_pay5]

end branches

/-! ## The result array -/

/-- Row `r` of the sorted rows times column `k` of expert `e`'s weight. -/
def rowColumn (xs : Vec Ideal S69632x1024 .f32) (w : Vec Ideal S8x1024x3584 .bf16) (e : Fin 8) (r : Fin 69632) (k : Fin 3584) : EReal :=
  ∑ d : Fin 1024, xs (ix2 r d) * w (ix3 e d k)

/-- Row `r` through expert `e`, at column `n`. -/
def expertAt (xs : Vec Ideal S69632x1024 .f32) (wg wu : Vec Ideal S8x1024x3584 .bf16) (wd : Vec Ideal S8x3584x1024 .bf16)
    (e : Fin 8) (r : Fin 69632) (n : Fin 1024) : EReal :=
  ∑ k : Fin 3584, gated (rowColumn xs wg e r k) (rowColumn xs wu e r k) * wd (ix3 e k n)

/-- The tile a row lies in, as an index of the table. -/
abbrev tileOf (r : Fin 69632) : S136.Idx := ix1 ⟨r.val / 512, by omega⟩

/-- The expert a table word names. -/
def named (w : BitVec 32) : Fin 8 := Fin.ofNat 8 w.toNat

/-- The grouped SwiGLU at an index: the row's tile's expert where the tile is valid, zero elsewhere. -/
def grouped (te : Vec Ideal S136 .i32) (nv : Vec Ideal S1 .i32) (xs : Vec Ideal S69632x1024 .f32)
    (wg wu : Vec Ideal S8x1024x3584 .bf16) (wd : Vec Ideal S8x3584x1024 .bf16) (i : S69632x1024.Idx) : EReal :=
  if (((i 0).val / 512 : ℕ) : Int) < (nv (ix1 0) : BitVec 32).toInt then expertAt xs wg wu wd (named (te (tileOf (i 0)))) (i 0) (i 1) else 0

section array

variable (m : (ℓ : Loc nD τ sig) → Buf (Elt Ideal) ℓ) (hO : Ok m) (c : Dev nD)

/-- The output is written back at every point, -/
theorem flush_4 (t : Fin (cfgM m hO).N) : ((cfgM m hO).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr
      (Nat.mod_one _) : ∀ t : Fin grid0.N, Pipeline.Window.flushOf grid0 true cc0_transform_4 t = true) t

/-- its block at point `t` is tile `t`'s rows, -/
theorem index_4 (t : Fin (cfgM m hO).N) : ((cfgM m hO).win 4).index t = ![(grid0.coords t 0).val, 0] := by
  have h : (grid0.coords t 0).val < 136 := (grid0.coords t 0).isLt
  show ![(BitVec.ofNat 32 (grid0.coords t 0).val).toNat, 0] = _
  rw [BitVec.toNat_ofNat, Nat.mod_eq_of_lt (by omega)]

/-- and the points are the tiles. -/
theorem coords_0 (t : Fin grid0.N) : (grid0.coords t 0).val = t.val :=
  (by decide +kernel : ∀ t : Fin grid0.N, (grid0.coords t 0).val = t.val) t

theorem emb_4 (t : Fin (cfgM m hO).N) (y : S512x1024.Idx) :
    (((cfgM m hO).win 4).blk t).view.emb y = (ix2 ⟨(grid0.coords t 0).val * 512 + (y 0).val, by
      have h : (grid0.coords t 0).val < 136 := (grid0.coords t 0).isLt
      have := (y 0).isLt
      change (y 0).val < 512 at this; omega⟩ (y 1) : S69632x1024.Idx) := by
  funext a
  refine Fin.ext ((Pipeline.Window.rect_emb_val ((cfgM m hO).win 4) t y a).trans ?_)
  rw [index_4]
  revert a; intro (a : Fin 2); fin_cases a
  · rfl
  · exact Nat.zero_add _ |>.trans rfl

theorem cover_4 (i : S69632x1024.Idx) : ∃ t : Fin (cfgM m hO).N, ((cfgM m hO).win 4).flush t = true ∧ i ∈ (((cfgM m hO).win 4).blk t).view.set := by
  have hi : (i 0).val < 69632 := (i 0).isLt
  have hN : (i 0).val / 512 < grid0.N := by rw [show grid0.N = 136 from rfl]; omega
  let t : Fin (cfgM m hO).N := ⟨(i 0).val / 512, hN⟩
  have e : (((cfgM m hO).win 4).blk t).view.emb (ix2 ⟨(i 0).val % 512, Nat.mod_lt _ (by decide)⟩ (i 1) : S512x1024.Idx) = i := by
    refine (emb_4 m hO _ _).trans ?_
    funext a
    refine Fin.ext ?_
    revert a; intro (a : Fin 2); fin_cases a
    · show (grid0.coords t 0).val * 512 + (i 0).val % 512 = (i 0).val
      rw [coords_0]; show (i 0).val / 512 * 512 + (i 0).val % 512 = (i 0).val; omega
    · rfl
  exact ⟨t, flush_4 m hO t, by rw [← e]; exact View.emb_mem_set _ _⟩

/-- The tile's rows as the body finds them; -/
theorem iblk_0 (t : Fin (cfgM m hO).N) (h : k0_cond1 (grid0.coords t) (countOf (tbl m)) = 1#1) (r : Fin 512) (d : Fin 1024) :
    (iblk m hO c 0 t : Vec Ideal S512x1024 .f32) (ix2 r d)
      = (m ((c.tc : Thread nD τ).loc main_arg2) : Vec Ideal S69632x1024 .f32) (ix2 ⟨(grid0.coords t 0).val * 512 + r.val, by
          have h : (grid0.coords t 0).val < 136 := (grid0.coords t 0).isLt
          have := r.isLt; omega⟩ d) := by
  show (V m c main_arg2 : Vec Ideal S69632x1024 .f32) ((((cfgM m hO).win 0).blk t).view.emb (ix2 r d : S512x1024.Idx)) = _
  refine congrArg (V m c main_arg2 : Vec Ideal S69632x1024 .f32) (funext fun a => Fin.ext ?_)
  refine (Pipeline.Window.rect_emb_val ((cfgM m hO).win 0) t (ix2 r d : S512x1024.Idx) a).trans ?_
  rw [show ((cfgM m hO).win 0).index t = ![(grid0.coords t 0).val, 0] from block_0_valid (tbl m) (grid0.coords t) h]
  revert a; intro (a : Fin 2); fin_cases a
  · rfl
  · exact Nat.zero_add _ |>.trans rfl

section weights

variable (he : ∀ w, (tbl m 0 w : BitVec 32).toNat < 8) (t : Fin (cfgM m hO).N)

theorem named_val (w : BitVec 32) (h : w.toNat < 8) : (named w).val = w.toNat := Nat.mod_eq_of_lt h

include he

/-- and the tile's expert's weights. -/
theorem iblk_1 (d : Fin 1024) (k : Fin 3584) : (iblk m hO c 1 t : Vec Ideal S1x1024x3584 .bf16) (ix3 0 d k)
    = (m ((c.tc : Thread nD τ).loc main_arg3) : Vec Ideal S8x1024x3584 .bf16) (ix3 (named (expertOf (tbl m) (grid0.coords t))) d k) := by
  show (V m c main_arg3 : Vec Ideal S8x1024x3584 .bf16) ((((cfgM m hO).win 1).blk t).view.emb (ix3 0 d k : S1x1024x3584.Idx)) = _
  refine congrArg (V m c main_arg3 : Vec Ideal S8x1024x3584 .bf16) (funext fun a => Fin.ext ?_)
  refine (Pipeline.Window.rect_emb_val ((cfgM m hO).win 1) t (ix3 0 d k : S1x1024x3584.Idx) a).trans ?_
  rw [show ((cfgM m hO).win 1).index t = ![(expertOf (tbl m) (grid0.coords t)).toNat, 0, 0] from block_1 (tbl m) (grid0.coords t)]
  have hn := named_val (expertOf (tbl m) (grid0.coords t)) (he _)
  revert a; intro (a : Fin 3); fin_cases a
  · exact (Nat.mul_one _).trans hn.symm
  · exact Nat.zero_add _ |>.trans rfl
  · exact Nat.zero_add _ |>.trans rfl

theorem iblk_2 (d : Fin 1024) (k : Fin 3584) : (iblk m hO c 2 t : Vec Ideal S1x1024x3584 .bf16) (ix3 0 d k)
    = (m ((c.tc : Thread nD τ).loc main_arg4) : Vec Ideal S8x1024x3584 .bf16) (ix3 (named (expertOf (tbl m) (grid0.coords t))) d k) := by
  show (V m c main_arg4 : Vec Ideal S8x1024x3584 .bf16) ((((cfgM m hO).win 2).blk t).view.emb (ix3 0 d k : S1x1024x3584.Idx)) = _
  refine congrArg (V m c main_arg4 : Vec Ideal S8x1024x3584 .bf16) (funext fun a => Fin.ext ?_)
  refine (Pipeline.Window.rect_emb_val ((cfgM m hO).win 2) t (ix3 0 d k : S1x1024x3584.Idx) a).trans ?_
  rw [show ((cfgM m hO).win 2).index t = ![(expertOf (tbl m) (grid0.coords t)).toNat, 0, 0] from block_2 (tbl m) (grid0.coords t)]
  have hn := named_val (expertOf (tbl m) (grid0.coords t)) (he _)
  revert a; intro (a : Fin 3); fin_cases a
  · exact (Nat.mul_one _).trans hn.symm
  · exact Nat.zero_add _ |>.trans rfl
  · exact Nat.zero_add _ |>.trans rfl

theorem iblk_3 (k : Fin 3584) (n : Fin 1024) : (iblk m hO c 3 t : Vec Ideal S1x3584x1024 .bf16) (ix3 0 k n)
    = (m ((c.tc : Thread nD τ).loc main_arg5) : Vec Ideal S8x3584x1024 .bf16) (ix3 (named (expertOf (tbl m) (grid0.coords t))) k n) := by
  show (V m c main_arg5 : Vec Ideal S8x3584x1024 .bf16) ((((cfgM m hO).win 3).blk t).view.emb (ix3 0 k n : S1x3584x1024.Idx)) = _
  refine congrArg (V m c main_arg5 : Vec Ideal S8x3584x1024 .bf16) (funext fun a => Fin.ext ?_)
  refine (Pipeline.Window.rect_emb_val ((cfgM m hO).win 3) t (ix3 0 k n : S1x3584x1024.Idx) a).trans ?_
  rw [show ((cfgM m hO).win 3).index t = ![(expertOf (tbl m) (grid0.coords t)).toNat, 0, 0] from block_3 (tbl m) (grid0.coords t)]
  have hn := named_val (expertOf (tbl m) (grid0.coords t)) (he _)
  revert a; intro (a : Fin 3); fin_cases a
  · exact (Nat.mul_one _).trans hn.symm
  · exact Nat.zero_add _ |>.trans rfl
  · exact Nat.zero_add _ |>.trans rfl

end weights

/-- The count as the body loads it is the table's word. -/
theorem count_eq : count c (tbl m 1) = countOf (tbl m) := only_word (tbl m)

/-- What point `t` leaves at row `r`, column `n` of its block. -/
theorem outAt_apply (he : ∀ w, (tbl m 0 w : BitVec 32).toNat < 8) (t : Fin (cfgM m hO).N) (y : S512x1024.Idx) :
    outAt m hO t c y = grouped (tbl m 0) (tbl m 1) (m ((c.tc : Thread nD τ).loc main_arg2)) (m ((c.tc : Thread nD τ).loc main_arg3))
      (m ((c.tc : Thread nD τ).loc main_arg4)) (m ((c.tc : Thread nD τ).loc main_arg5)) ((((cfgM m hO).win 4).blk t).view.emb y) := by
  have hy : (y 0).val < 512 := (y 0).isLt
  rw [show grouped (tbl m 0) (tbl m 1) (m ((c.tc : Thread nD τ).loc main_arg2)) (m ((c.tc : Thread nD τ).loc main_arg3))
      (m ((c.tc : Thread nD τ).loc main_arg4)) (m ((c.tc : Thread nD τ).loc main_arg5)) ((((cfgM m hO).win 4).blk t).view.emb y) = _
    from congrArg (grouped (tbl m 0) (tbl m 1) _ _ _ _) (emb_4 m hO t y)]
  have hdiv : ((grid0.coords t 0).val * 512 + (y 0).val) / 512 = (grid0.coords t 0).val := by omega
  have hplace : ∀ h, tileOf (⟨(grid0.coords t 0).val * 512 + (y 0).val, h⟩ : Fin 69632) = place (grid0.coords t) := fun h => by
    funext a; refine Fin.ext ?_
    revert a; intro (a : Fin 1); obtain rfl : a = 0 := Subsingleton.elim _ _
    exact hdiv
  have honly : (ix1 0 : S1.Idx) = only := by
    funext a; refine Fin.ext ?_
    revert a; intro (a : Fin 1); obtain rfl : a = 0 := Subsingleton.elim _ _
    rfl
  unfold outAt out grouped
  by_cases h : k0_cond1 (grid0.coords t) (count c (tbl m 1)) = 1#1
  · have h' : k0_cond1 (grid0.coords t) (countOf (tbl m)) = 1#1 := count_eq m c ▸ h
    rw [dif_pos h, if_pos (by
      have := (cond1_iff _ _).mp h'
      show (((((grid0.coords t) 0).val * 512 + (y 0).val) / 512 : ℕ) : Int) < (tbl m 1 (ix1 0) : BitVec 32).toInt
      rw [hdiv, honly]; exact this)]
    refine (outValid_apply c _ _ _ _ _ _ _ _ _ _ _ _ _ _ _ _ _ h y).trans ?_
    show _ = expertAt _ _ _ _ (named (tbl m 0 (tileOf ⟨(grid0.coords t 0).val * 512 + (y 0).val, _⟩))) _ (y 1)
    rw [hplace]
    refine Finset.sum_congr rfl fun k _ => ?_
    exact congrArg₂ (· * ·) (congrArg₂ gated
      (Finset.sum_congr rfl fun d _ => congrArg₂ (· * ·) (iblk_0 m hO c t h' (y 0) d) (iblk_1 m hO c he t d k))
      (Finset.sum_congr rfl fun d _ => congrArg₂ (· * ·) (iblk_0 m hO c t h' (y 0) d) (iblk_2 m hO c he t d k)))
      (iblk_3 m hO c he t k (y 1))
  · have h' : ¬k0_cond1 (grid0.coords t) (countOf (tbl m)) = 1#1 := count_eq m c ▸ h
    rw [dif_neg h, if_neg (by
      have := mt (cond1_iff _ _).mpr h'
      show ¬(((((grid0.coords t) 0).val * 512 + (y 0).val) / 512 : ℕ) : Int) < (tbl m 1 (ix1 0) : BitVec 32).toInt
      rw [hdiv, honly]; exact this)]
    exact outPast_apply c _ _ _ _ _ _ _ _ _ _ _ _ _ _ _ _ _ h y

/-- The result array, after the run. -/
theorem final (he : ∀ w, (tbl m 0 w : BitVec 32).toNat < 8) : (dats m hO 0 c).arrAt 4 (cfgM m hO).N
    = grouped (tbl m 0) (tbl m 1) (m ((c.tc : Thread nD τ).loc main_arg2)) (m ((c.tc : Thread nD τ).loc main_arg3))
      (m ((c.tc : Thread nD τ).loc main_arg4)) (m ((c.tc : Thread nD τ).loc main_arg5)) := by
  refine (dats m hO 0 c).arrAt_eq_of_emb 4 _ (fun t hf y => ?_) (cover_4 m hO)
  rw [after_4]
  exact outAt_apply m hO c he t y

end array

end Cert.MoeIdeal.Run

end
-- ==== Proof.MoeRefValue.lean ====
/- The dense reference at an index: the sum over the eight experts weighted by the one-hot row is the one expert the
   row's tile names, or zero past the last valid tile. -/
module

public import proofs.«01_k».proof.Proof.MoeIdealValue
public import proofs.«01_k».proof.Proof.Gen.MoeRefIdeal.Run

@[expose] public section

set_option maxRecDepth 16384

noncomputable section

namespace Cert.MoeRefIdeal.Dense

open Cert.MoeRefIdeal Cert.MoeRefIdeal.Gen Cert.MoeRefIdeal.Value
open Idealize.SL.Sem
open Idealize.ShloMosaic Idealize.ShloMosaic.TcCoe Idealize.ShloMosaic.Tactic Idealize.ShloMosaic.StableHlo
open Cert.MoeIdeal.Run (gated rowColumn expertAt tileOf named grouped)

variable (L : Valuation τ sig (Elt Ideal))

abbrev te : Vec Ideal S136 .i32 := L (Proc.devRef .tc main_arg0)
abbrev nv : Vec Ideal S1 .i32 := L (Proc.devRef .tc main_arg1)
abbrev xs : Vec Ideal S69632x1024 .f32 := L (Proc.devRef .tc main_arg2)
abbrev wg : Vec Ideal S8x1024x3584 .bf16 := L (Proc.devRef .tc main_arg3)
abbrev wu : Vec Ideal S8x1024x3584 .bf16 := L (Proc.devRef .tc main_arg4)
abbrev wd : Vec Ideal S8x3584x1024 .bf16 := L (Proc.devRef .tc main_arg5)

/-- The weight of expert `e` in row `r`. -/
def gate (r : Fin 69632) (e : Fin 8) : EReal := (res_main_v16 L : FVec Ideal S69632x8 .f32) (ix2 r e)

section one

variable (e : ℕ) (h2 : S69632x8.Slices ![0, e] S69632x1) (h3 : S8x1024x3584.Slices ![e, 0, 0] S1x1024x3584)
  (h4 : S8x3584x1024.Slices ![e, 0, 0] S1x3584x1024)

/-- A product of the rows with expert `e`'s slice of a weight. -/
def product (w : FVec Ideal S8x1024x3584 .f32) : FVec Ideal S69632x3584 .f32 :=
  Host.dotGeneral (φ₁ := .f32) (φ₂ := .f32) dot_S69632x1024_S1024x3584_S69632x3584_1_0_0_1_n_n none (xs L)
    (shapeCast _ (extractStridedSlice S1x1024x3584 ![e, 0, 0] w h3) shapeCasts_S1x1024x3584_S1024x3584 : FVec Ideal S1024x3584 .f32)

/-- Expert `e`'s term of the reference's sum. -/
def summand : FVec Ideal S69632x1024 .f32 :=
  mulf (broadcastInDim S69632x1024 ![0, 1] bcast_S69632x1_S69632x1024_0_1 (extractStridedSlice S69632x1 ![0, e] (res_main_v16 L) h2))
    (Host.dotGeneral (φ₁ := .f32) (φ₂ := .f32) dot_S69632x3584_S3584x1024_S69632x1024_1_0_0_1_n_n none
      (mulf (mulf (product L e h3 (res_main_v17 L))
        (Host.divf (broadcastInDim S69632x3584 ![] bcast_S_S69632x3584 (constant S_ .f32 0x3F800000#32))
          (addf (broadcastInDim S69632x3584 ![] bcast_S_S69632x3584 (constant S_ .f32 0x3F800000#32))
            (Host.exp (Host.negf (product L e h3 (res_main_v17 L))))))) (product L e h3 (res_main_v18 L)))
      (shapeCast _ (extractStridedSlice S1x3584x1024 ![e, 0, 0] (res_main_v19 L) h4) shapeCasts_S1x3584x1024_S3584x1024 : FVec Ideal S3584x1024 .f32))

theorem summand_apply (r : Fin 69632) (n : Fin 1024) (he : e < 8) :
    summand L e h2 h3 h4 (ix2 r n) = gate L r ⟨e, he⟩ * expertAt (xs L) (wg L) (wu L) (wd L) ⟨e, he⟩ r n := by
  unfold gate expertAt rowColumn gated summand product
  pointwise [res_main_v17, res_main_v18, res_main_v19]
  simp only [zero_sub]

end one

/-! ## The weights -/

theorem quotient (r : ℕ) (hr : r < 69632) : IntOp.divsi ArithUnit.host (BitVec.ofNat 32 r) 512#32 = BitVec.ofNat 32 (r / 512) := by
  have hm : (BitVec.ofNat 32 r).msb = false := by rw [BitVec.msb_eq_decide]; simp; omega
  unfold IntOp.divsi
  rw [if_neg (by simp [IntOp.SDivCorner])]
  rw [BitVec.sdiv_eq, hm, show (512#32).msb = false from rfl]
  refine BitVec.eq_of_toNat_eq ?_
  simp
  omega

theorem remainder (r : ℕ) (hr : r < 69632) : IntOp.remsi ArithUnit.host (BitVec.ofNat 32 r) 512#32 = BitVec.ofNat 32 (r % 512) := by
  have hm : (BitVec.ofNat 32 r).msb = false := by rw [BitVec.msb_eq_decide]; simp; omega
  unfold IntOp.remsi
  rw [if_neg (by simp [IntOp.SDivCorner])]
  rw [BitVec.srem_eq, hm, show (512#32).msb = false from rfl]
  refine BitVec.eq_of_toNat_eq ?_
  simp
  omega

/-- The tile of a row as the reference computes it: a quotient of words, corrected where the signs differ, and they do
    not but at row zero, which leaves no remainder. -/
theorem tileWord (r : ℕ) (hr : r < 69632) :
    Scalar.select
      (IntOp.andi
        (IntOp.cmpi CmpIPredicate.ne
          (if BitVec.ofNat 32 r = 0 then 0 else if (BitVec.ofNat 32 r).msb = true then -1 else 1)
          (1#32))
        (IntOp.cmpi CmpIPredicate.ne (IntOp.remsi ArithUnit.host (BitVec.ofNat 32 r) 512#32) 0#32))
      (IntOp.subi (IntOp.divsi ArithUnit.host (BitVec.ofNat 32 r) 512#32) 1#32)
      (IntOp.divsi ArithUnit.host (BitVec.ofNat 32 r) 512#32)
    = BitVec.ofNat 32 (r / 512) := by
  have hm : (BitVec.ofNat 32 r).msb = false := by rw [BitVec.msb_eq_decide]; simp; omega
  rw [quotient r hr, remainder r hr, hm]
  by_cases h0 : BitVec.ofNat 32 r = 0
  · have : r = 0 := by
      have := congrArg BitVec.toNat h0
      simp at this; omega
    subst this
    decide
  · rw [if_neg h0, if_neg (by decide), show IntOp.cmpi CmpIPredicate.ne 1 1#32 = 0#1 from rfl]
    have hz : ∀ b : BitVec 1, IntOp.andi 0#1 b = 0#1 := by decide
    rw [hz]
    rfl

/-- A weight is one where the tile is valid and names the expert. -/
theorem weight (t e q n : BitVec 32) : (FloatOps.uitofp (F := Ideal) FTy.f32 (IntOp.andi (IntOp.cmpi CmpIPredicate.eq t e) (IntOp.cmpi CmpIPredicate.slt q n)) : EReal)
    = if q.toInt < n.toInt ∧ t = e then 1 else 0 := by
  have ht : IntOp.cmpi CmpIPredicate.eq t e = if t = e then 1#1 else 0#1 := by
    show BitVec.ofBool (t == e) = _
    by_cases h : t = e
    · subst h; simp
    · rw [if_neg h, beq_eq_false_iff_ne.mpr h]; rfl
  have hq : IntOp.cmpi CmpIPredicate.slt q n = if q.toInt < n.toInt then 1#1 else 0#1 := by
    show BitVec.ofBool (q.slt n) = _
    by_cases h : q.toInt < n.toInt <;> simp [h, BitVec.slt]
  rw [ht, hq]
  by_cases h1 : t = e <;> by_cases h2 : q.toInt < n.toInt <;> simp only [h1, h2, if_true, if_false, and_true, and_false, true_and]
  · show (((1 : ℕ) : ℝ) : EReal) = 1
    norm_num
  all_goals
    show (((0 : ℕ) : ℝ) : EReal) = 0
    norm_num

theorem gate_apply (r : Fin 69632) (e : Fin 8) : gate L r e
    = if ((r.val / 512 : ℕ) : Int) < (nv L (ix1 0) : BitVec 32).toInt ∧ (te L (tileOf r) : BitVec 32) = BitVec.ofNat 32 e.val then 1 else 0 := by
  have hr := r.isLt
  have hi : (BitVec.ofNat 32 (r.val / 512)).toInt = ((r.val / 512 : ℕ) : Int) := by
    simp only [BitVec.toInt, BitVec.toNat_ofNat]; omega
  unfold gate
  pointwise [res_main_v16, res_main_v2, res_main_call0_v0, res_main_call0_v2]
  refine Eq.trans (congrArg (fun q => FloatOps.uitofp (F := Ideal) FTy.f32 (IntOp.andi
    (IntOp.cmpi CmpIPredicate.eq (te L (tileOf r)) (BitVec.ofNat 32 e.val)) (IntOp.cmpi CmpIPredicate.slt q (nv L (ix1 0))))) (tileWord r.val hr)) ?_
  rw [← hi]
  exact weight _ _ _ _

/-! ## The sum -/

/-- The reference's result: the experts' terms added up. -/
def total : FVec Ideal S69632x1024 .f32 :=
  addf (addf (addf (addf (addf (addf (addf (addf (broadcastInDim S69632x1024 ![] bcast_S_S69632x1024 (constant (F := Ideal) S_ .f32 0x00000000#32))
    (summand L 0 slices_S69632x8_S69632x1_0_0 slices_S8x1024x3584_S1x1024x3584_0_0_0 slices_S8x3584x1024_S1x3584x1024_0_0_0))
    (summand L 1 slices_S69632x8_S69632x1_0_1 slices_S8x1024x3584_S1x1024x3584_1_0_0 slices_S8x3584x1024_S1x3584x1024_1_0_0))
    (summand L 2 slices_S69632x8_S69632x1_0_2 slices_S8x1024x3584_S1x1024x3584_2_0_0 slices_S8x3584x1024_S1x3584x1024_2_0_0))
    (summand L 3 slices_S69632x8_S69632x1_0_3 slices_S8x1024x3584_S1x1024x3584_3_0_0 slices_S8x3584x1024_S1x3584x1024_3_0_0))
    (summand L 4 slices_S69632x8_S69632x1_0_4 slices_S8x1024x3584_S1x1024x3584_4_0_0 slices_S8x3584x1024_S1x3584x1024_4_0_0))
    (summand L 5 slices_S69632x8_S69632x1_0_5 slices_S8x1024x3584_S1x1024x3584_5_0_0 slices_S8x3584x1024_S1x3584x1024_5_0_0))
    (summand L 6 slices_S69632x8_S69632x1_0_6 slices_S8x1024x3584_S1x1024x3584_6_0_0 slices_S8x3584x1024_S1x3584x1024_6_0_0))
    (summand L 7 slices_S69632x8_S69632x1_0_7 slices_S8x1024x3584_S1x1024x3584_7_0_0 slices_S8x3584x1024_S1x3584x1024_7_0_0)

theorem total_apply (r : Fin 69632) (n : Fin 1024) :
    total L (ix2 r n) = ∑ e : Fin 8, gate L r e * expertAt (xs L) (wg L) (wu L) (wd L) e r n := by
  have one (e : Fin 8) h2 h3 h4 : summand L e.val h2 h3 h4 (ix2 r n) = gate L r e * expertAt (xs L) (wg L) (wu L) (wd L) e r n :=
    summand_apply L e.val h2 h3 h4 r n e.isLt
  have hz : (broadcastInDim S69632x1024 ![] bcast_S_S69632x1024 (constant (F := Ideal) S_ .f32 0x00000000#32)) (ix2 r n) = (0 : EReal) := by
    pointwise
  rw [Fin.sum_univ_eight, ← one 0 slices_S69632x8_S69632x1_0_0 slices_S8x1024x3584_S1x1024x3584_0_0_0 slices_S8x3584x1024_S1x3584x1024_0_0_0,
    ← one 1 slices_S69632x8_S69632x1_0_1 slices_S8x1024x3584_S1x1024x3584_1_0_0 slices_S8x3584x1024_S1x3584x1024_1_0_0,
    ← one 2 slices_S69632x8_S69632x1_0_2 slices_S8x1024x3584_S1x1024x3584_2_0_0 slices_S8x3584x1024_S1x3584x1024_2_0_0,
    ← one 3 slices_S69632x8_S69632x1_0_3 slices_S8x1024x3584_S1x1024x3584_3_0_0 slices_S8x3584x1024_S1x3584x1024_3_0_0,
    ← one 4 slices_S69632x8_S69632x1_0_4 slices_S8x1024x3584_S1x1024x3584_4_0_0 slices_S8x3584x1024_S1x3584x1024_4_0_0,
    ← one 5 slices_S69632x8_S69632x1_0_5 slices_S8x1024x3584_S1x1024x3584_5_0_0 slices_S8x3584x1024_S1x3584x1024_5_0_0,
    ← one 6 slices_S69632x8_S69632x1_0_6 slices_S8x1024x3584_S1x1024x3584_6_0_0 slices_S8x3584x1024_S1x3584x1024_6_0_0,
    ← one 7 slices_S69632x8_S69632x1_0_7 slices_S8x1024x3584_S1x1024x3584_7_0_0 slices_S8x3584x1024_S1x3584x1024_7_0_0,
    ← zero_add (summand L (0 : Fin 8).val _ _ _ _), ← hz]
  rfl

theorem total_at (he : ∀ w, (te L w : BitVec 32).toNat < 8) (r : Fin 69632) (n : Fin 1024) :
    total L (ix2 r n) = grouped (te L) (nv L) (xs L) (wg L) (wu L) (wd L) (ix2 r n) := by
  rw [total_apply]
  have hw := he (tileOf r)
  have hname (e : Fin 8) : Iff ((te L (tileOf r) : BitVec 32) = BitVec.ofNat 32 e.val) (e = named (te L (tileOf r))) := by
    have hn : (named (te L (tileOf r))).val = (te L (tileOf r) : BitVec 32).toNat := Nat.mod_eq_of_lt hw
    refine ⟨fun h => Fin.ext ?_, fun h => BitVec.eq_of_toNat_eq ?_⟩
    · rw [hn, h, BitVec.toNat_ofNat]; omega
    · rw [BitVec.toNat_ofNat, ← hn, ← h]; omega
  show _ = if ((r.val / 512 : ℕ) : Int) < (nv L (ix1 0) : BitVec 32).toInt then
    expertAt (xs L) (wg L) (wu L) (wd L) (named (te L (tileOf r))) r n else 0
  by_cases hv : ((r.val / 512 : ℕ) : Int) < (nv L (ix1 0) : BitVec 32).toInt
  · rw [if_pos hv, Finset.sum_eq_single (named (te L (tileOf r)))]
    · rw [gate_apply, if_pos ⟨hv, (hname _).mpr rfl⟩, one_mul]
    · intro e _ hne
      rw [gate_apply, if_neg fun h => hne ((hname e).mp h.2), zero_mul]
    · exact fun h => absurd (Finset.mem_univ _) h
  · rw [if_neg hv]
    refine Finset.sum_eq_zero fun e _ => ?_
    rw [gate_apply, if_neg fun h => hv h.1, zero_mul]

/-- With every table word naming an expert, the reference is the grouped SwiGLU. -/
theorem total_eq (he : ∀ w, (te L w : BitVec 32).toNat < 8) : total L = grouped (te L) (nv L) (xs L) (wg L) (wu L) (wd L) := by
  funext i
  have hi : i = ix2 (i 0) (i 1) := funext fun (a : Fin 2) => by fin_cases a <;> rfl
  rw [hi]
  exact total_at L he _ _

/-- The reference's run: its result is the sum, its arguments unchanged. -/
theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v140) = total (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Cert.MoeRefIdeal.Value.run (F := Ideal) m ρ)

end Cert.MoeRefIdeal.Dense

end
-- ==== Proof.FfnValue.lean ====
/- The dense SwiGLU at the ideal instance: what a grid point leaves, what the result array holds, and that the plain
   reference leaves the same. -/
module

public import proofs.«01_k».proof.Proof.Gen.FfnIdeal.Value
public import proofs.«01_k».proof.Proof.Gen.FfnRefIdeal.Run
public import Idealize.ShloMosaic.Lib.Pipeline.ValueKit

@[expose] public section

set_option maxRecDepth 16384

noncomputable section

namespace Cert.FfnIdeal.Dense

open Cert.FfnIdeal Cert.FfnIdeal.Gen
open Idealize.ShloMosaic Idealize.ShloMosaic.TcCoe Idealize.ShloMosaic.Tactic

/-! ## One grid point -/

/-- A number through the gate, times another. -/
def gated (g u : EReal) : EReal := g * Ideal.div 1 (1 + Ideal.exp (0 - g)) * u

/-- A tile's hidden layer, at an index. -/
def hiddenAt (X : Vec Ideal S512x1024 .bf16) (G U : Vec Ideal S1024x2816 .bf16) (i : S512x2816.Idx) : EReal :=
  gated (∑ d : Fin 1024, X (ix2 (i 0) d) * G (ix2 d (i 1))) (∑ d : Fin 1024, X (ix2 (i 0) d) * U (ix2 d (i 1)))

/-- The 256 columns from `o` on, as a product of the tile with those columns of the weights. -/
def chunkAt (X : Vec Ideal S512x1024 .bf16) (G U : Vec Ideal S1024x256 .bf16) (x : S512x256.Idx) : EReal :=
  gated (∑ d : Fin 1024, X (ix2 (x 0) d) * G (ix2 d (x 1))) (∑ d : Fin 1024, X (ix2 (x 0) d) * U (ix2 d (x 1)))

/-- They are the hidden layer's. -/
theorem chunk (X : Vec Ideal S512x1024 .bf16) (G U : Vec Ideal S1024x2816 .bf16) (o : ℕ)
    (inb : ∀ a : Fin 2, ![0, o] a + ![1024, 256] a ≤ S1024x2816.size a)
    (inb' : ∀ a : Fin 2, ![0, o] a + ![512, 256] a ≤ S512x2816.size a) (x : S512x256.Idx) :
    chunkAt X (View.ld G (Rect.unit (s := S1024x2816) ![0, o] ![1024, 256] inb))
        (View.ld U (Rect.unit (s := S1024x2816) ![0, o] ![1024, 256] inb)) x
      = hiddenAt X G U ((Rect.unit (s := S512x2816) ![0, o] ![512, 256] inb').emb x) := by
  have h0 : ((Rect.unit (s := S512x2816) ![0, o] ![512, 256] inb').emb x) 0 = x 0 :=
    Fin.ext (by rw [Rect.emb_apply]; show 0 + 1 * (x 0 : ℕ) = _; omega)
  have h1 : (((Rect.unit (s := S512x2816) ![0, o] ![512, 256] inb').emb x) 1 : ℕ) = o + (x 1 : ℕ) := by
    rw [Rect.emb_apply]; show o + 1 * (x 1 : ℕ) = _; omega
  have h1' : ((Rect.unit (s := S512x2816) ![0, o] ![512, 256] inb').emb x) 1 = ⟨o + (x 1 : ℕ), h1 ▸ Fin.isLt _⟩ := Fin.ext h1
  unfold hiddenAt chunkAt gated
  rw [h0, h1']
  pointwise

section point

variable (c : Dev nD) (i : grid0.Coords)
  (x : Memref sig .tc .vmem S512x1024 .bf16) (hx : x.IsWhole)
  (wg : Memref sig .tc .vmem S1024x2816 .bf16) (hwg : wg.IsWhole)
  (wu : Memref sig .tc .vmem S1024x2816 .bf16) (hwu : wu.IsWhole)
  (wd : Memref sig .tc .vmem S2816x1024 .bf16) (hwd : wd.IsWhole)
  (h : Memref sig .tc .vmem S512x1024 .f32) (hh : h.IsWhole)
  (y : Memref sig .tc .vmem S512x1024 .f32) (hy : y.IsWhole)
  (X : Vec Ideal S512x1024 .bf16) (G U : Vec Ideal S1024x2816 .bf16) (D : Vec Ideal S2816x1024 .bf16) (H : Vec Ideal S512x1024 .f32)

/-- The tile's residual and its hidden layer times the last weight. -/
theorem out_apply (z : S512x1024.Idx) :
    out0_A_5 c i x hx wg hwg wu hwu wd hwd h hh y hy scM0_0 (Memref.isWhole_whole _) X G U D H z
      = H (ix2 (z 0) (z 1)) + ∑ k : Fin 2816, hiddenAt X G U (ix2 (z 0) k) * D (ix2 k (z 1)) := by
  unfold out0_A_5 kernelRun0_A
  frame_out
  have hA : ∀ (L : List (View.Piece (Elt Ideal) S512x2816 .bf16)) (inb)
      (hL : ∀ p ∈ L, ∀ x : p.1.shape.Idx, p.2 x = hiddenAt X G U (p.1.emb x))
      (hc : ∀ y, ∃ p ∈ L, y ∈ p.1.set),
      (View.whole cc0_scratch0 : View sig .tc .vmem S512x2816 .bf16).readCov L
        (Rect.unit (s := S512x2816) ![0, 0] ![512, 2816] inb).toLoadRect = hiddenAt X G U := by
    intro L inb hL hc
    rw [View.readCov_eq_canon_ld _ _ _ hc]
    funext j
    rw [View.ld_apply, View.canon_apply_of_pieces (hiddenAt X G U) L hL _ (hc _)]
    congr 1
    funext a; exact Fin.ext (by rw [Rect.idx_unit_val]; fin_cases a <;> simp)
  rw [hA _ _ _ (View.cover_of_tiledL _ ![512, 256] (by sl_kernel_rfl))]
  · pointwise [k0_pay2]
  · intro p hp
    simp only [List.mem_cons, List.not_mem_nil, or_false] at hp
    rcases hp with rfl | rfl | rfl | rfl | rfl | rfl | rfl | rfl | rfl | rfl | rfl <;>
      refine fun x => Eq.trans ?_ (chunk X G U _ (by decide) (by decide) x) <;>
      unfold chunkAt gated <;>
      pointwise [k0_pay1, k0_pay3, k0_pay4, k0_pay5, k0_pay6, k0_pay7, k0_pay8, k0_pay9, k0_pay10, k0_pay11, k0_pay12, k0_pay13, k0_pay14]

end point

/-! ## The result array -/

/-- The dense SwiGLU added to the residual, at an index. -/
def dense (x : Vec Ideal S32768x1024 .bf16) (wg wu : Vec Ideal S1024x2816 .bf16) (wd : Vec Ideal S2816x1024 .bf16)
    (h : Vec Ideal S32768x1024 .f32) (i : S32768x1024.Idx) : EReal :=
  h (ix2 (i 0) (i 1)) + ∑ k : Fin 2816, gated (∑ d : Fin 1024, x (ix2 (i 0) d) * wg (ix2 d k)) (∑ d : Fin 1024, x (ix2 (i 0) d) * wu (ix2 d k))
    * wd (ix2 k (i 1))

section array

variable (m : (ℓ : Loc nD τ sig) → Buf (Elt Ideal) ℓ) (c : Dev nD) (t : Fin cfg0.N)

theorem coords_0 : (grid0.coords t 0).val = t.val := (by decide +kernel : ∀ t : Fin grid0.N, (grid0.coords t 0).val = t.val) t

/-- The row of the array that row `r` of point `t`'s tile is. -/
abbrev row (r : Fin 512) : Fin 32768 := ⟨t.val * 512 + r.val, by
  have h : t.val < 64 := t.isLt
  have := r.isLt; omega⟩

theorem index_tile : ![(BitVec.ofNat 32 (grid0.coords t 0).val).toNat, (0#32 : BitVec 32).toNat] = ![t.val, 0] := by
  have h : t.val < 64 := t.isLt
  rw [coords_0, BitVec.toNat_ofNat, Nat.mod_eq_of_lt (by omega)]; rfl

theorem emb_5 (y : S512x1024.Idx) : ((cfg0.win 5).blk t).view.emb y = (ix2 (row t (y 0)) (y 1) : S32768x1024.Idx) := by
  funext a
  refine Fin.ext ((Pipeline.Window.rect_emb_val (cfg0.win 5) t y a).trans ?_)
  rw [show (cfg0.win 5).index t = ![t.val, 0] from index_tile t]
  revert a; intro (a : Fin 2); fin_cases a
  · rfl
  · exact Nat.zero_add _ |>.trans rfl

theorem cover_5 (i : S32768x1024.Idx) : ∃ t : Fin cfg0.N, (cfg0.win 5).flush t = true ∧ i ∈ ((cfg0.win 5).blk t).view.set := by
  have hi : (i 0).val < 32768 := (i 0).isLt
  let t : Fin cfg0.N := ⟨(i 0).val / 512, by rw [show cfg0.N = 64 from rfl]; omega⟩
  have e : ((cfg0.win 5).blk t).view.emb (ix2 ⟨(i 0).val % 512, Nat.mod_lt _ (by decide)⟩ (i 1) : S512x1024.Idx) = i := by
    refine (emb_5 _ _).trans (funext fun a => Fin.ext ?_)
    revert a; intro (a : Fin 2); fin_cases a
    · show (i 0).val / 512 * 512 + (i 0).val % 512 = (i 0).val; omega
    · rfl
  exact ⟨t, (by decide +kernel : ∀ t : Fin cfg0.N, (cfg0.win 5).flush t = true) t, by rw [← e]; exact View.emb_mem_set _ _⟩

theorem iblk_0 (r : Fin 512) (d : Fin 1024) : (iblk m c 0 t : Vec Ideal S512x1024 .bf16) (ix2 r d)
    = (m ((c.tc : Thread nD τ).loc main_arg0) : Vec Ideal S32768x1024 .bf16) (ix2 (row t r) d) := by
  show (V m c main_arg0 : Vec Ideal S32768x1024 .bf16) (((cfg0.win 0).blk t).view.emb (ix2 r d : S512x1024.Idx)) = _
  refine congrArg (V m c main_arg0 : Vec Ideal S32768x1024 .bf16) (funext fun a => Fin.ext ?_)
  refine (Pipeline.Window.rect_emb_val (cfg0.win 0) t (ix2 r d : S512x1024.Idx) a).trans ?_
  rw [show (cfg0.win 0).index t = ![t.val, 0] from index_tile t]
  revert a; intro (a : Fin 2); fin_cases a
  · rfl
  · exact Nat.zero_add _ |>.trans rfl

theorem iblk_4 (r : Fin 512) (d : Fin 1024) : (iblk m c 4 t : Vec Ideal S512x1024 .f32) (ix2 r d)
    = (m ((c.tc : Thread nD τ).loc main_arg4) : Vec Ideal S32768x1024 .f32) (ix2 (row t r) d) := by
  show (V m c main_arg4 : Vec Ideal S32768x1024 .f32) (((cfg0.win 4).blk t).view.emb (ix2 r d : S512x1024.Idx)) = _
  refine congrArg (V m c main_arg4 : Vec Ideal S32768x1024 .f32) (funext fun a => Fin.ext ?_)
  refine (Pipeline.Window.rect_emb_val (cfg0.win 4) t (ix2 r d : S512x1024.Idx) a).trans ?_
  rw [show (cfg0.win 4).index t = ![t.val, 0] from index_tile t]
  revert a; intro (a : Fin 2); fin_cases a
  · rfl
  · exact Nat.zero_add _ |>.trans rfl

/-- The weights are staged whole. -/
theorem iblk_1 (d : Fin 1024) (k : Fin 2816) : (iblk m c 1 t : Vec Ideal S1024x2816 .bf16) (ix2 d k)
    = (m ((c.tc : Thread nD τ).loc main_arg1) : Vec Ideal S1024x2816 .bf16) (ix2 d k) := by
  show (V m c main_arg1 : Vec Ideal S1024x2816 .bf16) (((cfg0.win 1).blk t).view.emb (ix2 d k : S1024x2816.Idx)) = _
  refine congrArg (V m c main_arg1 : Vec Ideal S1024x2816 .bf16) (funext fun a => Fin.ext ?_)
  refine (Pipeline.Window.rect_emb_val (cfg0.win 1) t (ix2 d k : S1024x2816.Idx) a).trans ?_
  rw [show (cfg0.win 1).index t = ![0, 0] from rfl]
  revert a; intro (a : Fin 2); fin_cases a <;> exact Nat.zero_add _ |>.trans rfl

theorem iblk_2 (d : Fin 1024) (k : Fin 2816) : (iblk m c 2 t : Vec Ideal S1024x2816 .bf16) (ix2 d k)
    = (m ((c.tc : Thread nD τ).loc main_arg2) : Vec Ideal S1024x2816 .bf16) (ix2 d k) := by
  show (V m c main_arg2 : Vec Ideal S1024x2816 .bf16) (((cfg0.win 2).blk t).view.emb (ix2 d k : S1024x2816.Idx)) = _
  refine congrArg (V m c main_arg2 : Vec Ideal S1024x2816 .bf16) (funext fun a => Fin.ext ?_)
  refine (Pipeline.Window.rect_emb_val (cfg0.win 2) t (ix2 d k : S1024x2816.Idx) a).trans ?_
  rw [show (cfg0.win 2).index t = ![0, 0] from rfl]
  revert a; intro (a : Fin 2); fin_cases a <;> exact Nat.zero_add _ |>.trans rfl

theorem iblk_3 (k : Fin 2816) (n : Fin 1024) : (iblk m c 3 t : Vec Ideal S2816x1024 .bf16) (ix2 k n)
    = (m ((c.tc : Thread nD τ).loc main_arg3) : Vec Ideal S2816x1024 .bf16) (ix2 k n) := by
  show (V m c main_arg3 : Vec Ideal S2816x1024 .bf16) (((cfg0.win 3).blk t).view.emb (ix2 k n : S2816x1024.Idx)) = _
  refine congrArg (V m c main_arg3 : Vec Ideal S2816x1024 .bf16) (funext fun a => Fin.ext ?_)
  refine (Pipeline.Window.rect_emb_val (cfg0.win 3) t (ix2 k n : S2816x1024.Idx) a).trans ?_
  rw [show (cfg0.win 3).index t = ![0, 0] from rfl]
  revert a; intro (a : Fin 2); fin_cases a <;> exact Nat.zero_add _ |>.trans rfl

/-- The array at an index given by its row and column. -/
theorem dense_ix2 (x : Vec Ideal S32768x1024 .bf16) (wg wu : Vec Ideal S1024x2816 .bf16) (wd : Vec Ideal S2816x1024 .bf16)
    (h : Vec Ideal S32768x1024 .f32) (r : Fin 32768) (n : Fin 1024) : dense x wg wu wd h (ix2 r n)
      = h (ix2 r n) + ∑ k : Fin 2816, gated (∑ d : Fin 1024, x (ix2 r d) * wg (ix2 d k)) (∑ d : Fin 1024, x (ix2 r d) * wu (ix2 d k))
        * wd (ix2 k n) := rfl

/-- A tile's hidden layer at a row and a column. -/
theorem hiddenAt_ix2 (X : Vec Ideal S512x1024 .bf16) (G U : Vec Ideal S1024x2816 .bf16) (r : Fin 512) (k : Fin 2816) :
    hiddenAt X G U (ix2 r k) = gated (∑ d : Fin 1024, X (ix2 r d) * G (ix2 d k)) (∑ d : Fin 1024, X (ix2 r d) * U (ix2 d k)) := rfl

/-- What point `t` leaves at row `r`, column `n` of its block. -/
theorem outsAt_apply (r : Fin 512) (n : Fin 1024) : outsAt0 m c t (ix2 r n)
    = dense (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (ix2 (row t r) n) := by
  rw [dense_ix2]
  refine (out_apply c (grid0.coords t) _ _ _ _ _ _ _ _ _ _ _ _ (iblk m c 0 t) (iblk m c 1 t) (iblk m c 2 t) (iblk m c 3 t) (iblk m c 4 t) (ix2 r n)).trans ?_
  refine congrArg₂ (· + ·) (iblk_4 m c t r n) (Finset.sum_congr rfl fun k _ => congrArg₂ (· * ·) ?_ (iblk_3 m c t k n))
  refine (hiddenAt_ix2 _ _ _ r k).trans ?_
  exact congrArg₂ gated
      (Finset.sum_congr rfl fun d _ => congrArg₂ (· * ·) (iblk_0 m c t r d) (iblk_1 m c t d k))
      (Finset.sum_congr rfl fun d _ => congrArg₂ (· * ·) (iblk_0 m c t r d) (iblk_2 m c t d k))

theorem outsAt_emb (y : S512x1024.Idx) : outsAt0 m c t y
    = dense (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (((cfg0.win 5).blk t).view.emb y) := by
  have hy : y = (ix2 (y 0) (y 1) : S512x1024.Idx) := funext fun (a : Fin 2) => by fin_cases a <;> rfl
  have he := emb_5 t y
  generalize ((cfg0.win 5).blk t).view.emb y = z at he ⊢
  subst he
  exact (congrArg (outsAt0 m c t) hy).trans (outsAt_apply m c t (y 0) (y 1))

/-- The result array, after the run. -/
theorem final : (dats m 0 c).arrAt 5 cfg0.N
    = dense (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_emb 5 _ (fun t _ y => ?_) ?_
  · refine (congrFun (after0_5 m c t) y).trans ?_
    exact outsAt_emb m c t y
  · exact cover_5

end array

end Cert.FfnIdeal.Dense

/-! ## The reference -/

namespace Cert.FfnRefIdeal.Dense

open Cert.FfnRefIdeal Cert.FfnRefIdeal.Gen
open Idealize.ShloMosaic Idealize.ShloMosaic.TcCoe Idealize.ShloMosaic.Tactic
open Cert.FfnIdeal.Dense (dense gated)

/-- The reference's expression is the same array. -/
theorem reference_eq (x : FVec Ideal S32768x1024 .bf16) (wg wu : FVec Ideal S1024x2816 .bf16) (wd : FVec Ideal S2816x1024 .bf16)
    (h : FVec Ideal S32768x1024 .f32) :
    addf h (Host.dotGeneral dot_S32768x2816_S2816x1024_S32768x1024_1_0_0_1_n_n none (mulf (mulf (Host.dotGeneral dot_S32768x1024_S1024x2816_S32768x2816_1_0_0_1_n_n none (extf .f32 x bitsLt_bf16_f32) (extf .f32 wg bitsLt_bf16_f32)) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (Host.dotGeneral dot_S32768x1024_S1024x2816_S32768x2816_1_0_0_1_n_n none (extf .f32 x bitsLt_bf16_f32) (extf .f32 wg bitsLt_bf16_f32))))))) (Host.dotGeneral dot_S32768x1024_S1024x2816_S32768x2816_1_0_0_1_n_n none (extf .f32 x bitsLt_bf16_f32) (extf .f32 wu bitsLt_bf16_f32))) (extf .f32 wd bitsLt_bf16_f32))
      = dense x wg wu wd h := by
  funext i
  unfold dense gated
  pointwise
  simp only [zero_sub]

end Cert.FfnRefIdeal.Dense

end
-- ==== Proof.SbSums.lean ====
/- The stick-breaking weights as sums over keys: each score takes a share of what the later keys left, so a row's weights come from
   sums that run from the last key down. A block of 256 keys at a time carries the sums on. -/
module

public import Idealize.ShloMosaic.PureOps.Ideal
public import Mathlib.Analysis.SpecialFunctions.Pow.Real
public import Mathlib.Analysis.SpecialFunctions.Log.Basic

@[expose] public section

noncomputable section

namespace Cert.Stick

open Idealize.ShloMosaic

/-- The logarithm to base two of the share a score takes of what is left. -/
def logBeta (x : ℝ) : ℝ := min x 0 - Real.log (1 + (2 : ℝ) ^ (-|x|)) * (Real.log 2)⁻¹

/-- The same at an extended real. -/
def logBetaE (z : EReal) : EReal :=
  min z 0 - Ideal.log (1 + Ideal.exp2 (0 - max z (-z))) * (((Real.log 2)⁻¹ : ℝ) : EReal)

theorem coe_max (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

theorem coe_min (x y : ℝ) : min (x : EReal) (y : EReal) = ((min x y : ℝ) : EReal) := by
  rcases le_total x y with h | h
  · rw [min_eq_left h, min_eq_left (EReal.coe_le_coe_iff.mpr h)]
  · rw [min_eq_right h, min_eq_right (EReal.coe_le_coe_iff.mpr h)]

theorem exp2_coe (x : ℝ) : Ideal.exp2 (x : EReal) = (((2 : ℝ) ^ x : ℝ) : EReal) := rfl

theorem log_coe (x : ℝ) (h : 0 < x) : Ideal.log (x : EReal) = ((Real.log x : ℝ) : EReal) := by
  show (if x ≤ 0 then (⊥ : EReal) else (Real.log x : EReal)) = _
  rw [if_neg (not_le.mpr h)]

theorem logBetaE_coe (x : ℝ) : logBetaE (x : EReal) = (logBeta x : EReal) := by
  unfold logBetaE logBeta
  have h0 : (0 : EReal) = ((0 : ℝ) : EReal) := rfl
  have h1 : (1 : EReal) = ((1 : ℝ) : EReal) := rfl
  have hp : (0 : ℝ) < 1 + (2 : ℝ) ^ (-|x|) := by positivity
  rw [h0, h1, ← EReal.coe_neg, coe_max, coe_min, ← EReal.coe_sub, exp2_coe, ← EReal.coe_add]
  have e : (0 : ℝ) - max x (-x) = -|x| := by rw [zero_sub]; rfl
  rw [e, log_coe _ hp, ← EReal.coe_mul, ← EReal.coe_sub]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section sums

variable (z : ℕ → ℝ) (t T : ℕ) (v : ℕ → EReal)

/-- What key `s` leaves to the earlier ones, to base two: nothing is taken by a key not before the query `t`. -/
def keep (s : ℕ) : ℝ := if s < t then logBeta (z s) - z s else 0

/-- Key `s`'s weight. -/
def weight (s : ℕ) : ℝ := if s < t then (2 : ℝ) ^ (logBeta (z s) + ∑ j ∈ Finset.Ico (s + 1) T, keep z t j) else 0

/-- What the keys from `p` on leave. -/
def left (p : ℕ) : EReal := ((∑ s ∈ Finset.Ico p T, keep z t s : ℝ) : EReal)

/-- What the keys from `p` on add to the result. -/
def result (p : ℕ) : EReal := ∑ s ∈ Finset.Ico p T, (weight z t T s : EReal) * v s

theorem left_end : left z t T T = 0 := by unfold left; simp

theorem result_end : result z t T v T = 0 := by unfold result; simp

theorem ico_block {M : Type} [AddCommMonoid M] (f : ℕ → M) (p : ℕ) (h : p + 256 ≤ T) :
    (∑ s ∈ Finset.Ico (p + 256) T, f s) + ∑ j : Fin 256, f (p + j) = ∑ s ∈ Finset.Ico p T, f s := by
  rw [← Finset.sum_Ico_consecutive f (Nat.le_add_right p 256) h, add_comm]
  refine congrArg (· + _) ?_
  rw [Finset.sum_Ico_eq_sum_range, show p + 256 - p = 256 by omega, Finset.sum_range]

theorem left_block (p : ℕ) (h : p + 256 ≤ T) :
    left z t T (p + 256) + ∑ j : Fin 256, (keep z t (p + j) : EReal) = left z t T p := by
  unfold left
  rw [← coe_sum, ← EReal.coe_add, ico_block T (keep z t) p h]

theorem result_block (p : ℕ) (h : p + 256 ≤ T) :
    result z t T v (p + 256) + ∑ j : Fin 256, (weight z t T (p + j) : EReal) * v (p + j) = result z t T v p := by
  unfold result
  exact ico_block T (fun s => (weight z t T s : EReal) * v s) p h

/-- Nothing is left out by dropping keys at or after the query. -/
theorem left_late (p p' : ℕ) (h : t ≤ p) (hp : p ≤ p') (hT : p' ≤ T) : left z t T p = left z t T p' := by
  unfold left
  rw [← Finset.sum_Ico_consecutive _ hp hT, Finset.sum_eq_zero (s := Finset.Ico p p'), zero_add]
  intro s hs
  rw [Finset.mem_Ico] at hs
  exact if_neg (by omega)

theorem result_late (p p' : ℕ) (h : t ≤ p) (hp : p ≤ p') (hT : p' ≤ T) : result z t T v p = result z t T v p' := by
  unfold result
  rw [← Finset.sum_Ico_consecutive _ hp hT, Finset.sum_eq_zero (s := Finset.Ico p p'), zero_add]
  intro s hs
  rw [Finset.mem_Ico] at hs
  rw [show weight z t T s = 0 from if_neg (by omega)]
  simp

/-- The sum over the block's later keys, by a matrix of ones below the diagonal. -/
theorem later_block (p : ℕ) (s : Fin 256) (c : Fin 256 → EReal) (hc : ∀ j, c j = if s < j then 1 else 0) :
    ∑ j : Fin 256, (keep z t (p + j) : EReal) * c j = ((∑ j ∈ Finset.Ico (p + s + 1) (p + 256), keep z t j : ℝ) : EReal) := by
  have e : ∀ j : Fin 256, (keep z t (p + j) : EReal) * c j = (((if (s : ℕ) < (j : ℕ) then keep z t (p + j) else 0) : ℝ) : EReal) := by
    intro j
    rw [hc]
    by_cases h : (s : ℕ) < (j : ℕ)
    · rw [if_pos h, if_pos (Fin.lt_def.mpr h), mul_one]
    · rw [if_neg h, if_neg (fun h' => h (Fin.lt_def.mp h')), mul_zero]; rfl
  rw [Finset.sum_congr rfl fun j _ => e j, ← coe_sum]
  congr 1
  rw [← Finset.sum_range (n := 256) (fun j => if (s : ℕ) < j then keep z t (p + j) else 0), ← Finset.sum_filter]
  have := s.isLt
  rw [Finset.sum_Ico_eq_sum_range, show p + 256 - (p + (s : ℕ) + 1) = 255 - (s : ℕ) by omega]
  symm
  refine Finset.sum_nbij' (fun k : ℕ => (s : ℕ) + 1 + k) (fun j : ℕ => j - ((s : ℕ) + 1)) ?_ ?_ ?_ ?_ ?_
  · intro k hk; simp only [Finset.mem_range, Finset.mem_filter] at hk ⊢; omega
  · intro k hk; simp only [Finset.mem_range, Finset.mem_filter] at hk ⊢; omega
  · intro k hk; simp only [Finset.mem_range, Finset.mem_filter] at hk ⊢; omega
  · intro k hk; simp only [Finset.mem_range, Finset.mem_filter] at hk ⊢; omega
  · intro k hk; refine congrArg (keep z t) ?_; omega

/-- A key's weight from its block: what the keys after the block leave, and what the block's later keys leave. -/
theorem weight_block (p : ℕ) (h : p + 256 ≤ T) (s : Fin 256) (c : Fin 256 → EReal) (hc : ∀ j, c j = if s < j then 1 else 0) :
    (if p + (s : ℕ) < t then Ideal.exp2 ((logBeta (z (p + s)) : EReal) + left z t T (p + 256)
        + ∑ j : Fin 256, (keep z t (p + j) : EReal) * c j) else 0)
      = (weight z t T (p + s) : EReal) := by
  unfold weight
  by_cases hs : p + (s : ℕ) < t
  · have := s.isLt
    rw [if_pos hs, if_pos hs, later_block z t p s c hc]
    unfold left
    rw [← EReal.coe_add, ← EReal.coe_add, exp2_coe, add_assoc,
      add_comm (∑ s ∈ Finset.Ico (p + 256) T, keep z t s), Finset.sum_Ico_consecutive _ (by omega) h]
  · rw [if_neg hs, if_neg hs]; rfl

end sums

end Cert.Stick

end
-- ==== Proof.SbBlock.lean ====
/- One block of keys of the stick-breaking attention: what it adds to a head's carried sum and to its result. -/
module

public import proofs.«01_k».proof.Proof.Gen.SbIdeal.Value
public import Idealize.ShloMosaic.Lib.Pipeline.ValueKit
public import proofs.«01_k».proof.Proof.SbSums

@[expose] public section

set_option maxRecDepth 16384

noncomputable section

namespace Cert.SbIdeal.Attn

open Cert.SbIdeal Cert.SbIdeal.Gen
open Idealize.ShloMosaic Idealize.ShloMosaic.TcCoe Idealize.ShloMosaic.Tactic
open Cert.Stick

/-! ## A block of 256 rows by 256 keys -/

def scores256 (q : Vec Ideal S1x256x128 .bf16) (k : Vec Ideal S1x256x128 .bf16) : FVec Ideal S256x256 .f32 :=
  matmul (φ₁ := .bf16) (φ₂ := .bf16) dot_S256x128_S256x128_S256x256_1_1_0_0_n_n none (shapeCast S256x128 q shapeCasts_S1x256x128_S256x128)
    (shapeCast S256x128 k shapeCasts_S1x256x128_S256x128) (constant S256x256 .f32 0x00000000#32)

def beta256 (z : FVec Ideal S256x256 .f32) : FVec Ideal S256x256 .f32 :=
  subf (minimumf z (broadcast S256x256 (Scalar.ofBits .f32 0x00000000#32)))
    (mulf (log (addf (broadcast S256x256 (Scalar.ofBits .f32 0x3F800000#32))
        (exp2 (subf (broadcast S256x256 (Scalar.ofBits .f32 0x00000000#32)) (absf z)))))
      (broadcast S256x256 (Named.named κ "log2_e" 0x3FB8AA3B#32)))

def sums256 (keep : FVec Ideal S256x256 .f32) (car : Vec Ideal S1x256x128 .f32) : FVec Ideal S1x256x128 .f32 :=
  shapeCast S1x256x128 (addf (shapeCast S256x128 car shapeCasts_S1x256x128_S256x128)
    (broadcastTo S256x128 (shapeCast S256x1 (multiReduction .add [1] S256 keep 0x00000000#32 reduces_S256x256_S256 (.inl rfl) rfl)
      shapeCasts_S256_S256x1) broadcasts_S256x1_S256x128)) shapeCasts_S256x128_S1x256x128

def weights256 (beta keep : FVec Ideal S256x256 .f32) (cs : FVec Ideal S256x256 .bf16) (car : Vec Ideal S1x256x128 .f32) :
    FVec Ideal S256x256 .f32 :=
  exp2 (addf (addf beta (concatenate S256x256 1 [⟨S256x128, shapeCast S256x128 car shapeCasts_S1x256x128_S256x128⟩,
      ⟨S256x128, shapeCast S256x128 car shapeCasts_S1x256x128_S256x128⟩] concatenates_S256x128_S256x128_S256x256_d1))
    (matmul (φ₁ := .bf16) (φ₂ := .bf16) dot_S256x256_S256x256_S256x256_1_0_0_1_n_n none (truncf .bf16 keep bitsLt_bf16_f32) cs
      (constant S256x256 .f32 0x00000000#32)))

def outs256 (w : FVec Ideal S256x256 .f32) (acc : Vec Ideal S256x128 .f32) (v : Vec Ideal S1x256x128 .bf16) : FVec Ideal S256x128 .f32 :=
  shapeCast S256x128 (addf acc (matmul (φ₁ := .bf16) (φ₂ := .bf16) dot_S256x256_S256x128_S256x128_1_0_0_1_n_n none (truncf .bf16 w bitsLt_bf16_f32)
    (shapeCast S256x128 v shapeCasts_S1x256x128_S256x128) (constant S256x128 .f32 0x00000000#32))) shapeCasts_S256x128_S256x128

def masked256 (M : IVec S256x256 1) (x : FVec Ideal S256x256 .f32) : FVec Ideal S256x256 .f32 :=
  select M x (broadcast S256x256 (Scalar.ofBits .f32 0x00000000#32))

theorem scores256_apply (q : Vec Ideal S1x256x128 .bf16) (k : Vec Ideal S1x256x128 .bf16) (r : Fin 256) (s : Fin 256) :
    scores256 q k (ix2 r s) = ∑ d : Fin 128, q (ix3 0 r d) * k (ix3 0 s d) := by
  pointwise [scores256]

theorem beta256_apply (z : FVec Ideal S256x256 .f32) (r : Fin 256) (s : Fin 256) :
    beta256 z (ix2 r s) = Cert.Stick.logBetaE (z (ix2 r s)) := by
  unfold Cert.Stick.logBetaE
  pointwise [beta256]
  rfl

theorem sums256_apply (keep : FVec Ideal S256x256 .f32) (car : Vec Ideal S1x256x128 .f32) (r : Fin 256) (l : Fin 128) :
    sums256 keep car (ix3 0 r l) = car (ix3 0 r l) + ∑ s : Fin 256, keep (ix2 r s) := by
  pointwise [sums256]

theorem weights256_apply (beta keep : FVec Ideal S256x256 .f32) (cs : FVec Ideal S256x256 .bf16) (car : Vec Ideal S1x256x128 .f32)
    (c : EReal) (r : Fin 256) (hc : ∀ l : Fin 128, car (ix3 0 r l) = c) (s : Fin 256) :
    weights256 beta keep cs car (ix2 r s)
      = Ideal.exp2 (beta (ix2 r s) + c + ∑ j : Fin 256, keep (ix2 r j) * cs (ix2 j s)) := by
  pointwise [weights256]
  simp only [hc]
  split <;> rfl

theorem outs256_apply (w : FVec Ideal S256x256 .f32) (acc : Vec Ideal S256x128 .f32) (v : Vec Ideal S1x256x128 .bf16)
    (r : Fin 256) (d : Fin 128) :
    outs256 w acc v (ix2 r d) = acc (ix2 r d) + ∑ s : Fin 256, w (ix2 r s) * v (ix3 0 s d) := by
  pointwise [outs256]

theorem masked256_apply (M : IVec S256x256 1) (x : FVec Ideal S256x256 .f32) (r : Fin 256) (s : Fin 256) (p : Prop) [Decidable p]
    (hM : M (ix2 r s) = if p then 1#1 else 0#1) :
    masked256 M x (ix2 r s) = if p then x (ix2 r s) else 0 := by
  pointwise [masked256]
  rw [hM]
  unfold Scalar.select
  by_cases h : p <;> simp [h]

/-- A head's carried sum and result after one more block, the rows from `r0` on: the block's keys from `p` on added. -/
theorem sums256_head (q : Vec Ideal S1x256x128 .bf16) (k : Vec Ideal S1x256x128 .bf16) (M : IVec S256x256 1) (car : Vec Ideal S1x256x128 .f32)
    (z : ℕ → ℕ → ℝ) (B T p r0 : ℕ) (hp : p + 256 ≤ T)
    (hz : ∀ (r : Fin 256) (s : Fin 256), ∑ d : Fin 128, q (ix3 0 r d) * k (ix3 0 s d) = (z (r0 + r) (p + s) : EReal))
    (hM : ∀ (r : Fin 256) (s : Fin 256), M (ix2 r s) = if p + (s : ℕ) < B + (r0 + (r : ℕ)) then 1#1 else 0#1)
    (hcar : ∀ (r : Fin 256) (l : Fin 128), car (ix3 0 r l) = left (z (r0 + r)) (B + (r0 + r)) T (p + 256))
    (r : Fin 256) (l : Fin 128) :
    sums256 (masked256 M (subf (beta256 (scores256 q k)) (scores256 q k))) car (ix3 0 r l) = left (z (r0 + r)) (B + (r0 + r)) T p := by
  rw [sums256_apply, hcar, ← left_block (z (r0 + r)) (B + (r0 + r)) T p hp]
  refine congrArg (_ + ·) (Finset.sum_congr rfl fun s _ => ?_)
  rw [masked256_apply M _ r s _ (hM r s)]
  rw [show (subf (beta256 (scores256 q k)) (scores256 q k)) (ix2 r s) = beta256 (scores256 q k) (ix2 r s) - scores256 q k (ix2 r s) from rfl,
    beta256_apply, scores256_apply, hz, logBetaE_coe]
  unfold keep
  split
  · rw [EReal.coe_sub]
  · rfl

theorem outs256_head (q : Vec Ideal S1x256x128 .bf16) (k v : Vec Ideal S1x256x128 .bf16) (M : IVec S256x256 1) (cs : FVec Ideal S256x256 .bf16)
    (car : Vec Ideal S1x256x128 .f32) (acc : Vec Ideal S256x128 .f32)
    (z : ℕ → ℕ → ℝ) (val : ℕ → ℕ → EReal) (B T p r0 o : ℕ) (hp : p + 256 ≤ T)
    (hz : ∀ (r : Fin 256) (s : Fin 256), ∑ d : Fin 128, q (ix3 0 r d) * k (ix3 0 s d) = (z (r0 + r) (p + s) : EReal))
    (hM : ∀ (r : Fin 256) (s : Fin 256), M (ix2 r s) = if p + (s : ℕ) < B + (r0 + (r : ℕ)) then 1#1 else 0#1)
    (hcs : ∀ j s : Fin 256, cs (ix2 j s) = if s < j then 1 else 0)
    (hv : ∀ (s : Fin 256) (d : Fin 128), v (ix3 0 s d) = val (p + s) (o + d))
    (hcar : ∀ (r : Fin 256) (l : Fin 128), car (ix3 0 r l) = left (z (r0 + r)) (B + (r0 + r)) T (p + 256))
    (hacc : ∀ (r : Fin 256) (d : Fin 128), acc (ix2 r d)
      = result (z (r0 + r)) (B + (r0 + r)) T (fun s => val s (o + d)) (p + 256))
    (r : Fin 256) (d : Fin 128) :
    outs256 (masked256 M (weights256 (beta256 (scores256 q k)) (masked256 M (subf (beta256 (scores256 q k)) (scores256 q k))) cs car)) acc v (ix2 r d)
      = result (z (r0 + r)) (B + (r0 + r)) T (fun s => val s (o + d)) p := by
  rw [outs256_apply, hacc, ← result_block (z (r0 + r)) (B + (r0 + r)) T (fun s => val s (o + d)) p hp]
  refine congrArg (_ + ·) (Finset.sum_congr rfl fun s _ => ?_)
  rw [hv]
  refine congrArg (· * _) ?_
  rw [← weight_block (z (r0 + r)) (B + (r0 + r)) T p hp s (fun j => cs (ix2 j s)) (fun j => hcs j s)]
  have hk : ∀ j : Fin 256, (masked256 M (subf (beta256 (scores256 q k)) (scores256 q k))) (ix2 r j) = (keep (z (r0 + r)) (B + (r0 + r)) (p + j) : EReal) := by
    intro j
    rw [masked256_apply M _ r j _ (hM r j)]
    rw [show (subf (beta256 (scores256 q k)) (scores256 q k)) (ix2 r j) = beta256 (scores256 q k) (ix2 r j) - scores256 q k (ix2 r j) from rfl,
      beta256_apply, scores256_apply, hz, logBetaE_coe]
    unfold keep
    split
    · rw [EReal.coe_sub]
    · rfl
  rw [masked256_apply M _ r s _ (hM r s)]
  rw [weights256_apply _ _ cs car _ r (hcar r) s, beta256_apply, scores256_apply, hz, logBetaE_coe, Finset.sum_congr rfl fun j _ => congrArg (· * cs (ix2 j s)) (hk j)]

/-! ## A block of 512 rows by 256 keys -/

def scores512 (q : Vec Ideal S1x512x128 .bf16) (k : Vec Ideal S1x256x128 .bf16) : FVec Ideal S512x256 .f32 :=
  matmul (φ₁ := .bf16) (φ₂ := .bf16) dot_S512x128_S256x128_S512x256_1_1_0_0_n_n none (shapeCast S512x128 q shapeCasts_S1x512x128_S512x128)
    (shapeCast S256x128 k shapeCasts_S1x256x128_S256x128) (constant S512x256 .f32 0x00000000#32)

def beta512 (z : FVec Ideal S512x256 .f32) : FVec Ideal S512x256 .f32 :=
  subf (minimumf z (broadcast S512x256 (Scalar.ofBits .f32 0x00000000#32)))
    (mulf (log (addf (broadcast S512x256 (Scalar.ofBits .f32 0x3F800000#32))
        (exp2 (subf (broadcast S512x256 (Scalar.ofBits .f32 0x00000000#32)) (absf z)))))
      (broadcast S512x256 (Named.named κ "log2_e" 0x3FB8AA3B#32)))

def sums512 (keep : FVec Ideal S512x256 .f32) (car : Vec Ideal S1x512x128 .f32) : FVec Ideal S1x512x128 .f32 :=
  shapeCast S1x512x128 (addf (shapeCast S512x128 car shapeCasts_S1x512x128_S512x128)
    (broadcastTo S512x128 (shapeCast S512x1 (multiReduction .add [1] S512 keep 0x00000000#32 reduces_S512x256_S512 (.inl rfl) rfl)
      shapeCasts_S512_S512x1) broadcasts_S512x1_S512x128)) shapeCasts_S512x128_S1x512x128

def weights512 (beta keep : FVec Ideal S512x256 .f32) (cs : FVec Ideal S256x256 .bf16) (car : Vec Ideal S1x512x128 .f32) :
    FVec Ideal S512x256 .f32 :=
  exp2 (addf (addf beta (concatenate S512x256 1 [⟨S512x128, shapeCast S512x128 car shapeCasts_S1x512x128_S512x128⟩,
      ⟨S512x128, shapeCast S512x128 car shapeCasts_S1x512x128_S512x128⟩] concatenates_S512x128_S512x128_S512x256_d1))
    (matmul (φ₁ := .bf16) (φ₂ := .bf16) dot_S512x256_S256x256_S512x256_1_0_0_1_n_n none (truncf .bf16 keep bitsLt_bf16_f32) cs
      (constant S512x256 .f32 0x00000000#32)))

def outs512 (w : FVec Ideal S512x256 .f32) (acc : Vec Ideal S512x128 .f32) (v : Vec Ideal S1x256x128 .bf16) : FVec Ideal S512x128 .f32 :=
  shapeCast S512x128 (addf acc (matmul (φ₁ := .bf16) (φ₂ := .bf16) dot_S512x256_S256x128_S512x128_1_0_0_1_n_n none (truncf .bf16 w bitsLt_bf16_f32)
    (shapeCast S256x128 v shapeCasts_S1x256x128_S256x128) (constant S512x128 .f32 0x00000000#32))) shapeCasts_S512x128_S512x128

def masked512 (M : IVec S512x256 1) (x : FVec Ideal S512x256 .f32) : FVec Ideal S512x256 .f32 :=
  select M x (broadcast S512x256 (Scalar.ofBits .f32 0x00000000#32))

theorem scores512_apply (q : Vec Ideal S1x512x128 .bf16) (k : Vec Ideal S1x256x128 .bf16) (r : Fin 512) (s : Fin 256) :
    scores512 q k (ix2 r s) = ∑ d : Fin 128, q (ix3 0 r d) * k (ix3 0 s d) := by
  pointwise [scores512]

theorem beta512_apply (z : FVec Ideal S512x256 .f32) (r : Fin 512) (s : Fin 256) :
    beta512 z (ix2 r s) = Cert.Stick.logBetaE (z (ix2 r s)) := by
  unfold Cert.Stick.logBetaE
  pointwise [beta512]
  rfl

theorem sums512_apply (keep : FVec Ideal S512x256 .f32) (car : Vec Ideal S1x512x128 .f32) (r : Fin 512) (l : Fin 128) :
    sums512 keep car (ix3 0 r l) = car (ix3 0 r l) + ∑ s : Fin 256, keep (ix2 r s) := by
  pointwise [sums512]

theorem weights512_apply (beta keep : FVec Ideal S512x256 .f32) (cs : FVec Ideal S256x256 .bf16) (car : Vec Ideal S1x512x128 .f32)
    (c : EReal) (r : Fin 512) (hc : ∀ l : Fin 128, car (ix3 0 r l) = c) (s : Fin 256) :
    weights512 beta keep cs car (ix2 r s)
      = Ideal.exp2 (beta (ix2 r s) + c + ∑ j : Fin 256, keep (ix2 r j) * cs (ix2 j s)) := by
  pointwise [weights512]
  simp only [hc]
  split <;> rfl

theorem outs512_apply (w : FVec Ideal S512x256 .f32) (acc : Vec Ideal S512x128 .f32) (v : Vec Ideal S1x256x128 .bf16)
    (r : Fin 512) (d : Fin 128) :
    outs512 w acc v (ix2 r d) = acc (ix2 r d) + ∑ s : Fin 256, w (ix2 r s) * v (ix3 0 s d) := by
  pointwise [outs512]

theorem masked512_apply (M : IVec S512x256 1) (x : FVec Ideal S512x256 .f32) (r : Fin 512) (s : Fin 256) (p : Prop) [Decidable p]
    (hM : M (ix2 r s) = if p then 1#1 else 0#1) :
    masked512 M x (ix2 r s) = if p then x (ix2 r s) else 0 := by
  pointwise [masked512]
  rw [hM]
  unfold Scalar.select
  by_cases h : p <;> simp [h]

/-- A head's carried sum and result after one more block, the rows from `r0` on: the block's keys from `p` on added. -/
theorem sums512_head (q : Vec Ideal S1x512x128 .bf16) (k : Vec Ideal S1x256x128 .bf16) (M : IVec S512x256 1) (car : Vec Ideal S1x512x128 .f32)
    (z : ℕ → ℕ → ℝ) (B T p r0 : ℕ) (hp : p + 256 ≤ T)
    (hz : ∀ (r : Fin 512) (s : Fin 256), ∑ d : Fin 128, q (ix3 0 r d) * k (ix3 0 s d) = (z (r0 + r) (p + s) : EReal))
    (hM : ∀ (r : Fin 512) (s : Fin 256), M (ix2 r s) = if p + (s : ℕ) < B + (r0 + (r : ℕ)) then 1#1 else 0#1)
    (hcar : ∀ (r : Fin 512) (l : Fin 128), car (ix3 0 r l) = left (z (r0 + r)) (B + (r0 + r)) T (p + 256))
    (r : Fin 512) (l : Fin 128) :
    sums512 (masked512 M (subf (beta512 (scores512 q k)) (scores512 q k))) car (ix3 0 r l) = left (z (r0 + r)) (B + (r0 + r)) T p := by
  rw [sums512_apply, hcar, ← left_block (z (r0 + r)) (B + (r0 + r)) T p hp]
  refine congrArg (_ + ·) (Finset.sum_congr rfl fun s _ => ?_)
  rw [masked512_apply M _ r s _ (hM r s)]
  rw [show (subf (beta512 (scores512 q k)) (scores512 q k)) (ix2 r s) = beta512 (scores512 q k) (ix2 r s) - scores512 q k (ix2 r s) from rfl,
    beta512_apply, scores512_apply, hz, logBetaE_coe]
  unfold keep
  split
  · rw [EReal.coe_sub]
  · rfl

theorem outs512_head (q : Vec Ideal S1x512x128 .bf16) (k v : Vec Ideal S1x256x128 .bf16) (M : IVec S512x256 1) (cs : FVec Ideal S256x256 .bf16)
    (car : Vec Ideal S1x512x128 .f32) (acc : Vec Ideal S512x128 .f32)
    (z : ℕ → ℕ → ℝ) (val : ℕ → ℕ → EReal) (B T p r0 o : ℕ) (hp : p + 256 ≤ T)
    (hz : ∀ (r : Fin 512) (s : Fin 256), ∑ d : Fin 128, q (ix3 0 r d) * k (ix3 0 s d) = (z (r0 + r) (p + s) : EReal))
    (hM : ∀ (r : Fin 512) (s : Fin 256), M (ix2 r s) = if p + (s : ℕ) < B + (r0 + (r : ℕ)) then 1#1 else 0#1)
    (hcs : ∀ j s : Fin 256, cs (ix2 j s) = if s < j then 1 else 0)
    (hv : ∀ (s : Fin 256) (d : Fin 128), v (ix3 0 s d) = val (p + s) (o + d))
    (hcar : ∀ (r : Fin 512) (l : Fin 128), car (ix3 0 r l) = left (z (r0 + r)) (B + (r0 + r)) T (p + 256))
    (hacc : ∀ (r : Fin 512) (d : Fin 128), acc (ix2 r d)
      = result (z (r0 + r)) (B + (r0 + r)) T (fun s => val s (o + d)) (p + 256))
    (r : Fin 512) (d : Fin 128) :
    outs512 (masked512 M (weights512 (beta512 (scores512 q k)) (masked512 M (subf (beta512 (scores512 q k)) (scores512 q k))) cs car)) acc v (ix2 r d)
      = result (z (r0 + r)) (B + (r0 + r)) T (fun s => val s (o + d)) p := by
  rw [outs512_apply, hacc, ← result_block (z (r0 + r)) (B + (r0 + r)) T (fun s => val s (o + d)) p hp]
  refine congrArg (_ + ·) (Finset.sum_congr rfl fun s _ => ?_)
  rw [hv]
  refine congrArg (· * _) ?_
  rw [← weight_block (z (r0 + r)) (B + (r0 + r)) T p hp s (fun j => cs (ix2 j s)) (fun j => hcs j s)]
  have hk : ∀ j : Fin 256, (masked512 M (subf (beta512 (scores512 q k)) (scores512 q k))) (ix2 r j) = (keep (z (r0 + r)) (B + (r0 + r)) (p + j) : EReal) := by
    intro j
    rw [masked512_apply M _ r j _ (hM r j)]
    rw [show (subf (beta512 (scores512 q k)) (scores512 q k)) (ix2 r j) = beta512 (scores512 q k) (ix2 r j) - scores512 q k (ix2 r j) from rfl,
      beta512_apply, scores512_apply, hz, logBetaE_coe]
    unfold keep
    split
    · rw [EReal.coe_sub]
    · rfl
  rw [masked512_apply M _ r s _ (hM r s)]
  rw [weights512_apply _ _ cs car _ r (hcar r) s, beta512_apply, scores512_apply, hz, logBetaE_coe, Finset.sum_congr rfl fun j _ => congrArg (· * cs (ix2 j s)) (hk j)]

/-! ## A block of 768 rows by 256 keys -/

def scores768 (q : Vec Ideal S1x768x128 .bf16) (k : Vec Ideal S1x256x128 .bf16) : FVec Ideal S768x256 .f32 :=
  matmul (φ₁ := .bf16) (φ₂ := .bf16) dot_S768x128_S256x128_S768x256_1_1_0_0_n_n none (shapeCast S768x128 q shapeCasts_S1x768x128_S768x128)
    (shapeCast S256x128 k shapeCasts_S1x256x128_S256x128) (constant S768x256 .f32 0x00000000#32)

def beta768 (z : FVec Ideal S768x256 .f32) : FVec Ideal S768x256 .f32 :=
  subf (minimumf z (broadcast S768x256 (Scalar.ofBits .f32 0x00000000#32)))
    (mulf (log (addf (broadcast S768x256 (Scalar.ofBits .f32 0x3F800000#32))
        (exp2 (subf (broadcast S768x256 (Scalar.ofBits .f32 0x00000000#32)) (absf z)))))
      (broadcast S768x256 (Named.named κ "log2_e" 0x3FB8AA3B#32)))

def sums768 (keep : FVec Ideal S768x256 .f32) (car : Vec Ideal S1x768x128 .f32) : FVec Ideal S1x768x128 .f32 :=
  shapeCast S1x768x128 (addf (shapeCast S768x128 car shapeCasts_S1x768x128_S768x128)
    (broadcastTo S768x128 (shapeCast S768x1 (multiReduction .add [1] S768 keep 0x00000000#32 reduces_S768x256_S768 (.inl rfl) rfl)
      shapeCasts_S768_S768x1) broadcasts_S768x1_S768x128)) shapeCasts_S768x128_S1x768x128

def weights768 (beta keep : FVec Ideal S768x256 .f32) (cs : FVec Ideal S256x256 .bf16) (car : Vec Ideal S1x768x128 .f32) :
    FVec Ideal S768x256 .f32 :=
  exp2 (addf (addf beta (concatenate S768x256 1 [⟨S768x128, shapeCast S768x128 car shapeCasts_S1x768x128_S768x128⟩,
      ⟨S768x128, shapeCast S768x128 car shapeCasts_S1x768x128_S768x128⟩] concatenates_S768x128_S768x128_S768x256_d1))
    (matmul (φ₁ := .bf16) (φ₂ := .bf16) dot_S768x256_S256x256_S768x256_1_0_0_1_n_n none (truncf .bf16 keep bitsLt_bf16_f32) cs
      (constant S768x256 .f32 0x00000000#32)))

def outs768 (w : FVec Ideal S768x256 .f32) (acc : Vec Ideal S768x128 .f32) (v : Vec Ideal S1x256x128 .bf16) : FVec Ideal S768x128 .f32 :=
  shapeCast S768x128 (addf acc (matmul (φ₁ := .bf16) (φ₂ := .bf16) dot_S768x256_S256x128_S768x128_1_0_0_1_n_n none (truncf .bf16 w bitsLt_bf16_f32)
    (shapeCast S256x128 v shapeCasts_S1x256x128_S256x128) (constant S768x128 .f32 0x00000000#32))) shapeCasts_S768x128_S768x128

def masked768 (M : IVec S768x256 1) (x : FVec Ideal S768x256 .f32) : FVec Ideal S768x256 .f32 :=
  select M x (broadcast S768x256 (Scalar.ofBits .f32 0x00000000#32))

theorem scores768_apply (q : Vec Ideal S1x768x128 .bf16) (k : Vec Ideal S1x256x128 .bf16) (r : Fin 768) (s : Fin 256) :
    scores768 q k (ix2 r s) = ∑ d : Fin 128, q (ix3 0 r d) * k (ix3 0 s d) := by
  pointwise [scores768]

theorem beta768_apply (z : FVec Ideal S768x256 .f32) (r : Fin 768) (s : Fin 256) :
    beta768 z (ix2 r s) = Cert.Stick.logBetaE (z (ix2 r s)) := by
  unfold Cert.Stick.logBetaE
  pointwise [beta768]
  rfl

theorem sums768_apply (keep : FVec Ideal S768x256 .f32) (car : Vec Ideal S1x768x128 .f32) (r : Fin 768) (l : Fin 128) :
    sums768 keep car (ix3 0 r l) = car (ix3 0 r l) + ∑ s : Fin 256, keep (ix2 r s) := by
  pointwise [sums768]

theorem weights768_apply (beta keep : FVec Ideal S768x256 .f32) (cs : FVec Ideal S256x256 .bf16) (car : Vec Ideal S1x768x128 .f32)
    (c : EReal) (r : Fin 768) (hc : ∀ l : Fin 128, car (ix3 0 r l) = c) (s : Fin 256) :
    weights768 beta keep cs car (ix2 r s)
      = Ideal.exp2 (beta (ix2 r s) + c + ∑ j : Fin 256, keep (ix2 r j) * cs (ix2 j s)) := by
  pointwise [weights768]
  simp only [hc]
  split <;> rfl

theorem outs768_apply (w : FVec Ideal S768x256 .f32) (acc : Vec Ideal S768x128 .f32) (v : Vec Ideal S1x256x128 .bf16)
    (r : Fin 768) (d : Fin 128) :
    outs768 w acc v (ix2 r d) = acc (ix2 r d) + ∑ s : Fin 256, w (ix2 r s) * v (ix3 0 s d) := by
  pointwise [outs768]

theorem masked768_apply (M : IVec S768x256 1) (x : FVec Ideal S768x256 .f32) (r : Fin 768) (s : Fin 256) (p : Prop) [Decidable p]
    (hM : M (ix2 r s) = if p then 1#1 else 0#1) :
    masked768 M x (ix2 r s) = if p then x (ix2 r s) else 0 := by
  pointwise [masked768]
  rw [hM]
  unfold Scalar.select
  by_cases h : p <;> simp [h]

/-- A head's carried sum and result after one more block, the rows from `r0` on: the block's keys from `p` on added. -/
theorem sums768_head (q : Vec Ideal S1x768x128 .bf16) (k : Vec Ideal S1x256x128 .bf16) (M : IVec S768x256 1) (car : Vec Ideal S1x768x128 .f32)
    (z : ℕ → ℕ → ℝ) (B T p r0 : ℕ) (hp : p + 256 ≤ T)
    (hz : ∀ (r : Fin 768) (s : Fin 256), ∑ d : Fin 128, q (ix3 0 r d) * k (ix3 0 s d) = (z (r0 + r) (p + s) : EReal))
    (hM : ∀ (r : Fin 768) (s : Fin 256), M (ix2 r s) = if p + (s : ℕ) < B + (r0 + (r : ℕ)) then 1#1 else 0#1)
    (hcar : ∀ (r : Fin 768) (l : Fin 128), car (ix3 0 r l) = left (z (r0 + r)) (B + (r0 + r)) T (p + 256))
    (r : Fin 768) (l : Fin 128) :
    sums768 (masked768 M (subf (beta768 (scores768 q k)) (scores768 q k))) car (ix3 0 r l) = left (z (r0 + r)) (B + (r0 + r)) T p := by
  rw [sums768_apply, hcar, ← left_block (z (r0 + r)) (B + (r0 + r)) T p hp]
  refine congrArg (_ + ·) (Finset.sum_congr rfl fun s _ => ?_)
  rw [masked768_apply M _ r s _ (hM r s)]
  rw [show (subf (beta768 (scores768 q k)) (scores768 q k)) (ix2 r s) = beta768 (scores768 q k) (ix2 r s) - scores768 q k (ix2 r s) from rfl,
    beta768_apply, scores768_apply, hz, logBetaE_coe]
  unfold keep
  split
  · rw [EReal.coe_sub]
  · rfl

theorem outs768_head (q : Vec Ideal S1x768x128 .bf16) (k v : Vec Ideal S1x256x128 .bf16) (M : IVec S768x256 1) (cs : FVec Ideal S256x256 .bf16)
    (car : Vec Ideal S1x768x128 .f32) (acc : Vec Ideal S768x128 .f32)
    (z : ℕ → ℕ → ℝ) (val : ℕ → ℕ → EReal) (B T p r0 o : ℕ) (hp : p + 256 ≤ T)
    (hz : ∀ (r : Fin 768) (s : Fin 256), ∑ d : Fin 128, q (ix3 0 r d) * k (ix3 0 s d) = (z (r0 + r) (p + s) : EReal))
    (hM : ∀ (r : Fin 768) (s : Fin 256), M (ix2 r s) = if p + (s : ℕ) < B + (r0 + (r : ℕ)) then 1#1 else 0#1)
    (hcs : ∀ j s : Fin 256, cs (ix2 j s) = if s < j then 1 else 0)
    (hv : ∀ (s : Fin 256) (d : Fin 128), v (ix3 0 s d) = val (p + s) (o + d))
    (hcar : ∀ (r : Fin 768) (l : Fin 128), car (ix3 0 r l) = left (z (r0 + r)) (B + (r0 + r)) T (p + 256))
    (hacc : ∀ (r : Fin 768) (d : Fin 128), acc (ix2 r d)
      = result (z (r0 + r)) (B + (r0 + r)) T (fun s => val s (o + d)) (p + 256))
    (r : Fin 768) (d : Fin 128) :
    outs768 (masked768 M (weights768 (beta768 (scores768 q k)) (masked768 M (subf (beta768 (scores768 q k)) (scores768 q k))) cs car)) acc v (ix2 r d)
      = result (z (r0 + r)) (B + (r0 + r)) T (fun s => val s (o + d)) p := by
  rw [outs768_apply, hacc, ← result_block (z (r0 + r)) (B + (r0 + r)) T (fun s => val s (o + d)) p hp]
  refine congrArg (_ + ·) (Finset.sum_congr rfl fun s _ => ?_)
  rw [hv]
  refine congrArg (· * _) ?_
  rw [← weight_block (z (r0 + r)) (B + (r0 + r)) T p hp s (fun j => cs (ix2 j s)) (fun j => hcs j s)]
  have hk : ∀ j : Fin 256, (masked768 M (subf (beta768 (scores768 q k)) (scores768 q k))) (ix2 r j) = (keep (z (r0 + r)) (B + (r0 + r)) (p + j) : EReal) := by
    intro j
    rw [masked768_apply M _ r j _ (hM r j)]
    rw [show (subf (beta768 (scores768 q k)) (scores768 q k)) (ix2 r j) = beta768 (scores768 q k) (ix2 r j) - scores768 q k (ix2 r j) from rfl,
      beta768_apply, scores768_apply, hz, logBetaE_coe]
    unfold keep
    split
    · rw [EReal.coe_sub]
    · rfl
  rw [masked768_apply M _ r s _ (hM r s)]
  rw [weights768_apply _ _ cs car _ r (hcar r) s, beta768_apply, scores768_apply, hz, logBetaE_coe, Finset.sum_congr rfl fun j _ => congrArg (· * cs (ix2 j s)) (hk j)]

/-! ## A block of 1024 rows by 256 keys -/

def scores1024 (q : Vec Ideal S1x1024x128 .bf16) (k : Vec Ideal S1x256x128 .bf16) : FVec Ideal S1024x256 .f32 :=
  matmul (φ₁ := .bf16) (φ₂ := .bf16) dot_S1024x128_S256x128_S1024x256_1_1_0_0_n_n none (shapeCast S1024x128 q shapeCasts_S1x1024x128_S1024x128)
    (shapeCast S256x128 k shapeCasts_S1x256x128_S256x128) (constant S1024x256 .f32 0x00000000#32)

def beta1024 (z : FVec Ideal S1024x256 .f32) : FVec Ideal S1024x256 .f32 :=
  subf (minimumf z (broadcast S1024x256 (Scalar.ofBits .f32 0x00000000#32)))
    (mulf (log (addf (broadcast S1024x256 (Scalar.ofBits .f32 0x3F800000#32))
        (exp2 (subf (broadcast S1024x256 (Scalar.ofBits .f32 0x00000000#32)) (absf z)))))
      (broadcast S1024x256 (Named.named κ "log2_e" 0x3FB8AA3B#32)))

def sums1024 (keep : FVec Ideal S1024x256 .f32) (car : Vec Ideal S1x1024x128 .f32) : FVec Ideal S1x1024x128 .f32 :=
  shapeCast S1x1024x128 (addf (shapeCast S1024x128 car shapeCasts_S1x1024x128_S1024x128)
    (broadcastTo S1024x128 (shapeCast S1024x1 (multiReduction .add [1] S1024 keep 0x00000000#32 reduces_S1024x256_S1024 (.inl rfl) rfl)
      shapeCasts_S1024_S1024x1) broadcasts_S1024x1_S1024x128)) shapeCasts_S1024x128_S1x1024x128

def weights1024 (beta keep : FVec Ideal S1024x256 .f32) (cs : FVec Ideal S256x256 .bf16) (car : Vec Ideal S1x1024x128 .f32) :
    FVec Ideal S1024x256 .f32 :=
  exp2 (addf (addf beta (concatenate S1024x256 1 [⟨S1024x128, shapeCast S1024x128 car shapeCasts_S1x1024x128_S1024x128⟩,
      ⟨S1024x128, shapeCast S1024x128 car shapeCasts_S1x1024x128_S1024x128⟩] concatenates_S1024x128_S1024x128_S1024x256_d1))
    (matmul (φ₁ := .bf16) (φ₂ := .bf16) dot_S1024x256_S256x256_S1024x256_1_0_0_1_n_n none (truncf .bf16 keep bitsLt_bf16_f32) cs
      (constant S1024x256 .f32 0x00000000#32)))

def outs1024 (w : FVec Ideal S1024x256 .f32) (acc : Vec Ideal S1024x128 .f32) (v : Vec Ideal S1x256x128 .bf16) : FVec Ideal S1024x128 .f32 :=
  shapeCast S1024x128 (addf acc (matmul (φ₁ := .bf16) (φ₂ := .bf16) dot_S1024x256_S256x128_S1024x128_1_0_0_1_n_n none (truncf .bf16 w bitsLt_bf16_f32)
    (shapeCast S256x128 v shapeCasts_S1x256x128_S256x128) (constant S1024x128 .f32 0x00000000#32))) shapeCasts_S1024x128_S1024x128

def masked1024 (M : IVec S1024x256 1) (x : FVec Ideal S1024x256 .f32) : FVec Ideal S1024x256 .f32 :=
  select M x (broadcast S1024x256 (Scalar.ofBits .f32 0x00000000#32))

theorem scores1024_apply (q : Vec Ideal S1x1024x128 .bf16) (k : Vec Ideal S1x256x128 .bf16) (r : Fin 1024) (s : Fin 256) :
    scores1024 q k (ix2 r s) = ∑ d : Fin 128, q (ix3 0 r d) * k (ix3 0 s d) := by
  pointwise [scores1024]

theorem beta1024_apply (z : FVec Ideal S1024x256 .f32) (r : Fin 1024) (s : Fin 256) :
    beta1024 z (ix2 r s) = Cert.Stick.logBetaE (z (ix2 r s)) := by
  unfold Cert.Stick.logBetaE
  pointwise [beta1024]
  rfl

theorem sums1024_apply (keep : FVec Ideal S1024x256 .f32) (car : Vec Ideal S1x1024x128 .f32) (r : Fin 1024) (l : Fin 128) :
    sums1024 keep car (ix3 0 r l) = car (ix3 0 r l) + ∑ s : Fin 256, keep (ix2 r s) := by
  pointwise [sums1024]

theorem weights1024_apply (beta keep : FVec Ideal S1024x256 .f32) (cs : FVec Ideal S256x256 .bf16) (car : Vec Ideal S1x1024x128 .f32)
    (c : EReal) (r : Fin 1024) (hc : ∀ l : Fin 128, car (ix3 0 r l) = c) (s : Fin 256) :
    weights1024 beta keep cs car (ix2 r s)
      = Ideal.exp2 (beta (ix2 r s) + c + ∑ j : Fin 256, keep (ix2 r j) * cs (ix2 j s)) := by
  pointwise [weights1024]
  simp only [hc]
  split <;> rfl

theorem outs1024_apply (w : FVec Ideal S1024x256 .f32) (acc : Vec Ideal S1024x128 .f32) (v : Vec Ideal S1x256x128 .bf16)
    (r : Fin 1024) (d : Fin 128) :
    outs1024 w acc v (ix2 r d) = acc (ix2 r d) + ∑ s : Fin 256, w (ix2 r s) * v (ix3 0 s d) := by
  pointwise [outs1024]

theorem masked1024_apply (M : IVec S1024x256 1) (x : FVec Ideal S1024x256 .f32) (r : Fin 1024) (s : Fin 256) (p : Prop) [Decidable p]
    (hM : M (ix2 r s) = if p then 1#1 else 0#1) :
    masked1024 M x (ix2 r s) = if p then x (ix2 r s) else 0 := by
  pointwise [masked1024]
  rw [hM]
  unfold Scalar.select
  by_cases h : p <;> simp [h]

/-- A head's carried sum and result after one more block, the rows from `r0` on: the block's keys from `p` on added. -/
theorem sums1024_head (q : Vec Ideal S1x1024x128 .bf16) (k : Vec Ideal S1x256x128 .bf16) (M : IVec S1024x256 1) (car : Vec Ideal S1x1024x128 .f32)
    (z : ℕ → ℕ → ℝ) (B T p r0 : ℕ) (hp : p + 256 ≤ T)
    (hz : ∀ (r : Fin 1024) (s : Fin 256), ∑ d : Fin 128, q (ix3 0 r d) * k (ix3 0 s d) = (z (r0 + r) (p + s) : EReal))
    (hM : ∀ (r : Fin 1024) (s : Fin 256), M (ix2 r s) = if p + (s : ℕ) < B + (r0 + (r : ℕ)) then 1#1 else 0#1)
    (hcar : ∀ (r : Fin 1024) (l : Fin 128), car (ix3 0 r l) = left (z (r0 + r)) (B + (r0 + r)) T (p + 256))
    (r : Fin 1024) (l : Fin 128) :
    sums1024 (masked1024 M (subf (beta1024 (scores1024 q k)) (scores1024 q k))) car (ix3 0 r l) = left (z (r0 + r)) (B + (r0 + r)) T p := by
  rw [sums1024_apply, hcar, ← left_block (z (r0 + r)) (B + (r0 + r)) T p hp]
  refine congrArg (_ + ·) (Finset.sum_congr rfl fun s _ => ?_)
  rw [masked1024_apply M _ r s _ (hM r s)]
  rw [show (subf (beta1024 (scores1024 q k)) (scores1024 q k)) (ix2 r s) = beta1024 (scores1024 q k) (ix2 r s) - scores1024 q k (ix2 r s) from rfl,
    beta1024_apply, scores1024_apply, hz, logBetaE_coe]
  unfold keep
  split
  · rw [EReal.coe_sub]
  · rfl

theorem outs1024_head (q : Vec Ideal S1x1024x128 .bf16) (k v : Vec Ideal S1x256x128 .bf16) (M : IVec S1024x256 1) (cs : FVec Ideal S256x256 .bf16)
    (car : Vec Ideal S1x1024x128 .f32) (acc : Vec Ideal S1024x128 .f32)
    (z : ℕ → ℕ → ℝ) (val : ℕ → ℕ → EReal) (B T p r0 o : ℕ) (hp : p + 256 ≤ T)
    (hz : ∀ (r : Fin 1024) (s : Fin 256), ∑ d : Fin 128, q (ix3 0 r d) * k (ix3 0 s d) = (z (r0 + r) (p + s) : EReal))
    (hM : ∀ (r : Fin 1024) (s : Fin 256), M (ix2 r s) = if p + (s : ℕ) < B + (r0 + (r : ℕ)) then 1#1 else 0#1)
    (hcs : ∀ j s : Fin 256, cs (ix2 j s) = if s < j then 1 else 0)
    (hv : ∀ (s : Fin 256) (d : Fin 128), v (ix3 0 s d) = val (p + s) (o + d))
    (hcar : ∀ (r : Fin 1024) (l : Fin 128), car (ix3 0 r l) = left (z (r0 + r)) (B + (r0 + r)) T (p + 256))
    (hacc : ∀ (r : Fin 1024) (d : Fin 128), acc (ix2 r d)
      = result (z (r0 + r)) (B + (r0 + r)) T (fun s => val s (o + d)) (p + 256))
    (r : Fin 1024) (d : Fin 128) :
    outs1024 (masked1024 M (weights1024 (beta1024 (scores1024 q k)) (masked1024 M (subf (beta1024 (scores1024 q k)) (scores1024 q k))) cs car)) acc v (ix2 r d)
      = result (z (r0 + r)) (B + (r0 + r)) T (fun s => val s (o + d)) p := by
  rw [outs1024_apply, hacc, ← result_block (z (r0 + r)) (B + (r0 + r)) T (fun s => val s (o + d)) p hp]
  refine congrArg (_ + ·) (Finset.sum_congr rfl fun s _ => ?_)
  rw [hv]
  refine congrArg (· * _) ?_
  rw [← weight_block (z (r0 + r)) (B + (r0 + r)) T p hp s (fun j => cs (ix2 j s)) (fun j => hcs j s)]
  have hk : ∀ j : Fin 256, (masked1024 M (subf (beta1024 (scores1024 q k)) (scores1024 q k))) (ix2 r j) = (keep (z (r0 + r)) (B + (r0 + r)) (p + j) : EReal) := by
    intro j
    rw [masked1024_apply M _ r j _ (hM r j)]
    rw [show (subf (beta1024 (scores1024 q k)) (scores1024 q k)) (ix2 r j) = beta1024 (scores1024 q k) (ix2 r j) - scores1024 q k (ix2 r j) from rfl,
      beta1024_apply, scores1024_apply, hz, logBetaE_coe]
    unfold keep
    split
    · rw [EReal.coe_sub]
    · rfl
  rw [masked1024_apply M _ r s _ (hM r s)]
  rw [weights1024_apply _ _ cs car _ r (hcar r) s, beta1024_apply, scores1024_apply, hz, logBetaE_coe, Finset.sum_congr rfl fun j _ => congrArg (· * cs (ix2 j s)) (hk j)]

/-- A head's carried sum and result after one more block, the rows from `r0` on: the block's keys from `p` on added. -/
theorem sums1024_head' (q : Vec Ideal S1x1024x128 .bf16) (k : Vec Ideal S1x256x128 .bf16) (car : Vec Ideal S1x1024x128 .f32)
    (z : ℕ → ℕ → ℝ) (B T p r0 : ℕ) (hp : p + 256 ≤ T) (hB : p + 256 ≤ B)
    (hz : ∀ (r : Fin 1024) (s : Fin 256), ∑ d : Fin 128, q (ix3 0 r d) * k (ix3 0 s d) = (z (r0 + r) (p + s) : EReal))
    (hcar : ∀ (r : Fin 1024) (l : Fin 128), car (ix3 0 r l) = left (z (r0 + r)) (B + (r0 + r)) T (p + 256))
    (r : Fin 1024) (l : Fin 128) :
    sums1024 (subf (beta1024 (scores1024 q k)) (scores1024 q k)) car (ix3 0 r l) = left (z (r0 + r)) (B + (r0 + r)) T p := by
  rw [sums1024_apply, hcar, ← left_block (z (r0 + r)) (B + (r0 + r)) T p hp]
  refine congrArg (_ + ·) (Finset.sum_congr rfl fun s _ => ?_)
  rw [show (subf (beta1024 (scores1024 q k)) (scores1024 q k)) (ix2 r s) = beta1024 (scores1024 q k) (ix2 r s) - scores1024 q k (ix2 r s) from rfl,
    beta1024_apply, scores1024_apply, hz, logBetaE_coe]
  unfold keep
  rw [if_pos (show p + (s : ℕ) < B + (r0 + (r : ℕ)) by omega), EReal.coe_sub]

theorem outs1024_head' (q : Vec Ideal S1x1024x128 .bf16) (k v : Vec Ideal S1x256x128 .bf16) (cs : FVec Ideal S256x256 .bf16)
    (car : Vec Ideal S1x1024x128 .f32) (acc : Vec Ideal S1024x128 .f32)
    (z : ℕ → ℕ → ℝ) (val : ℕ → ℕ → EReal) (B T p r0 o : ℕ) (hp : p + 256 ≤ T) (hB : p + 256 ≤ B)
    (hz : ∀ (r : Fin 1024) (s : Fin 256), ∑ d : Fin 128, q (ix3 0 r d) * k (ix3 0 s d) = (z (r0 + r) (p + s) : EReal))
    (hcs : ∀ j s : Fin 256, cs (ix2 j s) = if s < j then 1 else 0)
    (hv : ∀ (s : Fin 256) (d : Fin 128), v (ix3 0 s d) = val (p + s) (o + d))
    (hcar : ∀ (r : Fin 1024) (l : Fin 128), car (ix3 0 r l) = left (z (r0 + r)) (B + (r0 + r)) T (p + 256))
    (hacc : ∀ (r : Fin 1024) (d : Fin 128), acc (ix2 r d)
      = result (z (r0 + r)) (B + (r0 + r)) T (fun s => val s (o + d)) (p + 256))
    (r : Fin 1024) (d : Fin 128) :
    outs1024 (weights1024 (beta1024 (scores1024 q k)) (subf (beta1024 (scores1024 q k)) (scores1024 q k)) cs car) acc v (ix2 r d)
      = result (z (r0 + r)) (B + (r0 + r)) T (fun s => val s (o + d)) p := by
  rw [outs1024_apply, hacc, ← result_block (z (r0 + r)) (B + (r0 + r)) T (fun s => val s (o + d)) p hp]
  refine congrArg (_ + ·) (Finset.sum_congr rfl fun s _ => ?_)
  rw [hv]
  refine congrArg (· * _) ?_
  rw [← weight_block (z (r0 + r)) (B + (r0 + r)) T p hp s (fun j => cs (ix2 j s)) (fun j => hcs j s)]
  have hk : ∀ j : Fin 256, (subf (beta1024 (scores1024 q k)) (scores1024 q k)) (ix2 r j) = (keep (z (r0 + r)) (B + (r0 + r)) (p + j) : EReal) := by
    intro j
    rw [show (subf (beta1024 (scores1024 q k)) (scores1024 q k)) (ix2 r j) = beta1024 (scores1024 q k) (ix2 r j) - scores1024 q k (ix2 r j) from rfl,
      beta1024_apply, scores1024_apply, hz, logBetaE_coe]
    unfold keep
    rw [if_pos (show p + (j : ℕ) < B + (r0 + (r : ℕ)) by omega), EReal.coe_sub]
  rw [if_pos (show p + (s : ℕ) < B + (r0 + (r : ℕ)) by omega)]
  rw [weights1024_apply _ _ cs car _ r (hcar r) s, beta1024_apply, scores1024_apply, hz, logBetaE_coe, Finset.sum_congr rfl fun j _ => congrArg (· * cs (ix2 j s)) (hk j)]

end Cert.SbIdeal.Attn

end
-- ==== Proof.SbSteps.lean ====
/- What a tile's two accumulators hold while its blocks of keys go by: each head's result and carried sum, over the keys taken so far. -/
module

public import proofs.«01_k».proof.Proof.SbBlock

@[expose] public section

set_option maxRecDepth 16384

noncomputable section

namespace Cert.SbIdeal.Attn

open Cert.SbIdeal Cert.SbIdeal.Gen
open Idealize.ShloMosaic Idealize.ShloMosaic.TcCoe Idealize.ShloMosaic.Tactic
open Cert.Stick

/-- The first key taken by head `h`, `b` blocks and the first `m` heads of one more having gone by. -/
def pos (T b m h : ℕ) : ℕ := T - 256 * (b + if h < m then 1 else 0)

section

variable (z : ℕ → ℕ → ℕ → ℝ) (val : ℕ → ℕ → EReal) (B : ℕ)

/-- The carried sums then. -/
def carAt (b m : ℕ) (y : S8x1024x128.Idx) : EReal :=
  left (z (y 0) (y 1)) (B + (y 1 : ℕ)) (B + 1024) (pos (B + 1024) b m (y 0))

/-- The results then. -/
def accAt (b m : ℕ) (y : S1024x1024.Idx) : EReal :=
  result (z ((y 1 : ℕ) / 128) (y 0)) (B + (y 0 : ℕ)) (B + 1024) (fun s => val s (y 1)) (pos (B + 1024) b m ((y 1 : ℕ) / 128))

theorem pos_next (T b h : ℕ) (hh : h < 8) : pos T b 8 h = pos T (b + 1) 0 h := by
  unfold pos; rw [if_pos hh, if_neg (Nat.not_lt_zero h)]

theorem carAt_next (b : ℕ) (y : S8x1024x128.Idx) : carAt z B b 8 y = carAt z B (b + 1) 0 y := by
  unfold carAt; rw [pos_next _ _ _ (y 0).isLt]

theorem accAt_next (b : ℕ) (y : S1024x1024.Idx) : accAt z val B b 8 y = accAt z val B (b + 1) 0 y := by
  have h : (y 1 : ℕ) < 1024 := (y 1).isLt
  unfold accAt; rw [pos_next _ _ _ (by omega)]

/-- Two lists of writes leave the accumulators so. -/
structure Leaves (b m : ℕ) (L : List (View.Piece (Elt Ideal) S1024x1024 .f32)) (L' : List (View.Piece (Elt Ideal) S8x1024x128 .f32)) : Prop where
  acc : ∀ y, View.canon L y = accAt z val B b m y
  car : ∀ y, View.canon L' y = carAt z B b m y

variable {z val B}

theorem Leaves.next {b : ℕ} {L : List (View.Piece (Elt Ideal) S1024x1024 .f32)} {L' : List (View.Piece (Elt Ideal) S8x1024x128 .f32)}
    (h : Leaves z val B b 8 L L') : Leaves z val B (b + 1) 0 L L' :=
  ⟨fun y => (h.acc y).trans (accAt_next z val B b y), fun y => (h.car y).trans (carAt_next z B b y)⟩

/-- One more write of each, of what they then hold where it is made, the rest being as before. -/
theorem Leaves.cons {b m : ℕ} {L : List (View.Piece (Elt Ideal) S1024x1024 .f32)} {L' : List (View.Piece (Elt Ideal) S8x1024x128 .f32)}
    (h : Leaves z val B b m L L') (p : View.Piece (Elt Ideal) S1024x1024 .f32) (p' : View.Piece (Elt Ideal) S8x1024x128 .f32)
    (hp : ∀ x, p.2 x = accAt z val B b (m + 1) (p.1.emb x)) (hp' : ∀ x, p'.2 x = carAt z B b (m + 1) (p'.1.emb x))
    (ho : ∀ y, y ∉ p.1.set → accAt z val B b m y = accAt z val B b (m + 1) y)
    (ho' : ∀ y, y ∉ p'.1.set → carAt z B b m y = carAt z B b (m + 1) y) : Leaves z val B b (m + 1) (p :: L) (p' :: L') := by
  constructor
  · intro y
    by_cases hy : y ∈ p.1.set
    · obtain ⟨r, w⟩ := p
      obtain ⟨x, rfl⟩ : ∃ x, r.emb x = y := r.exists_idx_of_mem hy
      rw [View.canon_cons_emb]; exact hp x
    · rw [View.canon_cons_of_not_mem _ _ hy, h.acc, ho y hy]
  · intro y
    by_cases hy : y ∈ p'.1.set
    · obtain ⟨r, w⟩ := p'
      obtain ⟨x, rfl⟩ : ∃ x, r.emb x = y := r.exists_idx_of_mem hy
      rw [View.canon_cons_emb]; exact hp' x
    · rw [View.canon_cons_of_not_mem _ _ hy, h.car, ho' y hy]

/-- Another head's position does not move. -/
theorem pos_other (T b m h : ℕ) (hne : h ≠ m) : pos T b m h = pos T b (m + 1) h := by
  unfold pos
  by_cases hh : h < m
  · rw [if_pos hh, if_pos (by omega)]
  · rw [if_neg hh, if_neg (by omega)]

/-- A row not after the block's keys takes nothing from it. -/
theorem accAt_early (b m : ℕ) (y : S1024x1024.Idx) (hb : b < 4) (hy : (y 0 : ℕ) + 256 * (b + 1) ≤ 1024) :
    accAt z val B b m y = accAt z val B b (m + 1) y := by
  unfold accAt
  by_cases hne : (y 1 : ℕ) / 128 = m
  · rw [hne]
    unfold pos
    rw [if_neg (Nat.lt_irrefl m), if_pos (Nat.lt_succ_self m)]
    exact (result_late _ _ _ _ _ _ (by omega) (by omega) (by omega)).symm
  · rw [pos_other _ _ _ _ hne]

theorem carAt_early (b m : ℕ) (y : S8x1024x128.Idx) (hb : b < 4) (hy : (y 1 : ℕ) + 256 * (b + 1) ≤ 1024) :
    carAt z B b m y = carAt z B b (m + 1) y := by
  unfold carAt
  by_cases hne : (y 0 : ℕ) = m
  · rw [hne]
    unfold pos
    rw [if_neg (Nat.lt_irrefl m), if_pos (Nat.lt_succ_self m)]
    exact (left_late _ _ _ _ _ (by omega) (by omega) (by omega)).symm
  · rw [pos_other _ _ _ _ hne]

end

section reads

variable (q : Memref sig .tc .vmem S1x1024x1024 .bf16) (hq : q.IsWhole)
  (k : Memref sig .tc .vmem S1x4096x1024 .bf16) (hk : k.IsWhole)
  (Q : Vec Ideal S1x1024x1024 .bf16) (K : Vec Ideal S1x4096x1024 .bf16)

/-- A block of 256 keys read at row `p`, column `o`. -/
theorem read_keys (off : Fin 3 → ℕ) (p o : ℕ) (hoff : off = ![0, p, o]) (inb) (s : Fin 256) (d : Fin 128) (hs : p + s < 4096) (hd : o + d < 1024) :
    View.readAt (Elt Ideal) k.view (Rect.unit (s := S1x4096x1024) off S1x256x128.size inb).toLoadRect (hk.unread K)
      (ix3 0 s d : S1x256x128.Idx) = K (ix3 0 ⟨p + s, hs⟩ ⟨o + d, hd⟩) := by
  subst hoff
  rw [View.readAt_eq_ld, hk.read_unread]
  refine View.ld_unit_apply_of _ _ _ _ _ _ ?_
  intro a; revert a; intro (a : Fin 3); fin_cases a <;> rfl

theorem read_queries256 (r0 o : ℕ) (inb) (r : Fin 256) (d : Fin 128) (hr : r0 + r < 1024) (hd : o + d < 1024) :
    View.readAt (Elt Ideal) q.view (Rect.unit (s := S1x1024x1024) ![0, r0, o] S1x256x128.size inb).toLoadRect (hq.unread Q)
      (ix3 0 r d : S1x256x128.Idx) = Q (ix3 0 ⟨r0 + r, hr⟩ ⟨o + d, hd⟩) := by
  rw [View.readAt_eq_ld, hq.read_unread]
  refine View.ld_unit_apply_of _ _ _ _ _ _ ?_
  intro a; revert a; intro (a : Fin 3); fin_cases a <;> rfl

theorem read_queries512 (r0 o : ℕ) (inb) (r : Fin 512) (d : Fin 128) (hr : r0 + r < 1024) (hd : o + d < 1024) :
    View.readAt (Elt Ideal) q.view (Rect.unit (s := S1x1024x1024) ![0, r0, o] S1x512x128.size inb).toLoadRect (hq.unread Q)
      (ix3 0 r d : S1x512x128.Idx) = Q (ix3 0 ⟨r0 + r, hr⟩ ⟨o + d, hd⟩) := by
  rw [View.readAt_eq_ld, hq.read_unread]
  refine View.ld_unit_apply_of _ _ _ _ _ _ ?_
  intro a; revert a; intro (a : Fin 3); fin_cases a <;> rfl

theorem read_queries768 (r0 o : ℕ) (inb) (r : Fin 768) (d : Fin 128) (hr : r0 + r < 1024) (hd : o + d < 1024) :
    View.readAt (Elt Ideal) q.view (Rect.unit (s := S1x1024x1024) ![0, r0, o] S1x768x128.size inb).toLoadRect (hq.unread Q)
      (ix3 0 r d : S1x768x128.Idx) = Q (ix3 0 ⟨r0 + r, hr⟩ ⟨o + d, hd⟩) := by
  rw [View.readAt_eq_ld, hq.read_unread]
  refine View.ld_unit_apply_of _ _ _ _ _ _ ?_
  intro a; revert a; intro (a : Fin 3); fin_cases a <;> rfl

theorem read_queries1024 (r0 o : ℕ) (inb) (r : Fin 1024) (d : Fin 128) (hr : r0 + r < 1024) (hd : o + d < 1024) :
    View.readAt (Elt Ideal) q.view (Rect.unit (s := S1x1024x1024) ![0, r0, o] S1x1024x128.size inb).toLoadRect (hq.unread Q)
      (ix3 0 r d : S1x1024x128.Idx) = Q (ix3 0 ⟨r0 + r, hr⟩ ⟨o + d, hd⟩) := by
  rw [View.readAt_eq_ld, hq.read_unread]
  refine View.ld_unit_apply_of _ _ _ _ _ _ ?_
  intro a; revert a; intro (a : Fin 3); fin_cases a <;> rfl

end reads

theorem eq_ix3 {n : ℕ} (x : ({ rank := 3, size := ![1, n, 128] } : Shape).Idx) : x = ix3 0 (x 1) (x 2) := by
  funext a; revert a; intro (a : Fin 3); fin_cases a
  · exact Subsingleton.elim (α := Fin 1) _ _
  · rfl
  · rfl

theorem eq_ix2 {n : ℕ} (x : ({ rank := 2, size := ![n, 128] } : Shape).Idx) : x = ix2 (x 0) (x 1) := by
  funext a; revert a; intro (a : Fin 2); fin_cases a <;> rfl

/-- The scores, as the layer's numbers. -/
structure Scores (Q : Vec Ideal S1x1024x1024 .bf16) (K V : Vec Ideal S1x4096x1024 .bf16) (z : ℕ → ℕ → ℕ → ℝ) (val : ℕ → ℕ → EReal) : Prop where
  dot : ∀ (g r s : ℕ) (hg : g < 8) (hr : r < 1024) (hs : s < 4096),
    (∑ d : Fin 128, Q (ix3 0 ⟨r, hr⟩ ⟨128 * g + (d : ℕ), by omega⟩) * K (ix3 0 ⟨s, hs⟩ ⟨128 * g + (d : ℕ), by omega⟩)) = (z g r s : EReal)
  val : ∀ (s c : ℕ) (hs : s < 4096) (hc : c < 1024), V (ix3 0 ⟨s, hs⟩ ⟨c, hc⟩) = val s c

/-! ## Blocks of 256 rows -/

section

variable {z : ℕ → ℕ → ℕ → ℝ} {val : ℕ → ℕ → EReal} {B : ℕ}
  {Q : Vec Ideal S1x1024x1024 .bf16} {K V : Vec Ideal S1x4096x1024 .bf16}

/-- What a head's block writes is what the accumulators then hold. -/
theorem piece256 (hS : Scores Q K V z val) {b m p : ℕ} {M : IVec S256x256 1}
    (q : Vec Ideal S1x256x128 .bf16) (k v : Vec Ideal S1x256x128 .bf16) (cs : FVec Ideal S256x256 .bf16)
    (car : Vec Ideal S1x256x128 .f32) (acc : Vec Ideal S256x128 .f32)
    (hm : m < 8) (hp : B + 1024 - 256 * (b + 1) = p) (hb : p + 256 * (b + 1) = B + 1024) (hB : p + 256 ≤ 4096)
    (hq : ∀ (r : Fin 256) (d : Fin 128), q (ix3 0 r d) = Q (ix3 0 ⟨768 + r, by omega⟩ ⟨128 * m + (d : ℕ), by omega⟩))
    (hk : ∀ (s : Fin 256) (d : Fin 128), k (ix3 0 s d) = K (ix3 0 ⟨p + s, by omega⟩ ⟨128 * m + (d : ℕ), by omega⟩))
    (hv : ∀ (s : Fin 256) (d : Fin 128), v (ix3 0 s d) = V (ix3 0 ⟨p + s, by omega⟩ ⟨128 * m + (d : ℕ), by omega⟩))
    (hM : ∀ (r : Fin 256) (s : Fin 256), M (ix2 r s) = if p + (s : ℕ) < B + (768 + (r : ℕ)) then 1#1 else 0#1)
    (hcs : ∀ j s : Fin 256, cs (ix2 j s) = if s < j then 1 else 0)
    (hcar : ∀ (r : Fin 256) (l : Fin 128), car (ix3 0 r l) = carAt z B b m (ix3 ⟨m, hm⟩ ⟨768 + r, by omega⟩ l))
    (hacc : ∀ (r : Fin 256) (d : Fin 128), acc (ix2 r d) = accAt z val B b m (ix2 ⟨768 + r, by omega⟩ ⟨128 * m + (d : ℕ), by omega⟩)) :
    (∀ (r : Fin 256) (d : Fin 128), outs256 (masked256 M (weights256 (beta256 (scores256 q k)) (masked256 M (subf (beta256 (scores256 q k)) (scores256 q k))) cs car)) acc v (ix2 r d) = accAt z val B b (m + 1) (ix2 ⟨768 + r, by omega⟩ ⟨128 * m + (d : ℕ), by omega⟩))
      ∧ ∀ (r : Fin 256) (l : Fin 128), sums256 (masked256 M (subf (beta256 (scores256 q k)) (scores256 q k))) car (ix3 0 r l) = carAt z B b (m + 1) (ix3 ⟨m, hm⟩ ⟨768 + r, by omega⟩ l) := by
  have hz : ∀ (r : Fin 256) (s : Fin 256), ∑ d : Fin 128, q (ix3 0 r d) * k (ix3 0 s d) = (z m (768 + r) (p + s) : EReal) := by
    intro r s
    rw [← hS.dot m (768 + r) (p + s) hm (by omega) (by omega)]
    exact Finset.sum_congr rfl fun d _ => congrArg₂ (· * ·) (hq r d) (hk s d)
  have hpos : pos (B + 1024) b m m = p + 256 := by unfold pos; rw [if_neg (Nat.lt_irrefl m)]; omega
  have hpos' : pos (B + 1024) b (m + 1) m = p := by unfold pos; rw [if_pos (Nat.lt_succ_self m)]; omega
  have hcar' : ∀ (r : Fin 256) (l : Fin 128), car (ix3 0 r l) = left (z m (768 + r)) (B + (768 + r)) (B + 1024) (p + 256) :=
    fun r l => (hcar r l).trans (congrArg (left (z m (768 + r)) (B + (768 + r)) (B + 1024)) hpos)
  have hdiv : ∀ d : Fin 128, (128 * m + (d : ℕ)) / 128 = m := fun d => by omega
  have e : ∀ (b' m' : ℕ) (r : Fin 256) (d : Fin 128), accAt z val B b' m' (ix2 ⟨768 + r, by omega⟩ ⟨128 * m + (d : ℕ), by omega⟩)
      = result (z m (768 + r)) (B + (768 + r)) (B + 1024) (fun s => val s (128 * m + d)) (pos (B + 1024) b' m' m) := by
    intro b' m' r d
    show result (z ((128 * m + (d : ℕ)) / 128) (768 + r)) (B + (768 + r)) (B + 1024) (fun s => val s (128 * m + d))
      (pos (B + 1024) b' m' ((128 * m + (d : ℕ)) / 128)) = _
    rw [hdiv]
  constructor
  · intro r d
    rw [e, hpos']
    exact outs256_head q k v M cs car acc (z m) val B (B + 1024) p 768 (128 * m) (by omega) hz hM hcs
      (fun s d => (hv s d).trans (hS.val _ _ _ _)) hcar' (fun r d => (hacc r d).trans ((e b m r d).trans (by rw [hpos]))) r d
  · intro r l
    refine (sums256_head q k M car (z m) B (B + 1024) p 768 (by omega) hz hM hcar' r l).trans ?_
    exact congrArg (left (z m (768 + r)) (B + (768 + r)) (B + 1024)) hpos'.symm

/-- One head's block written over the accumulators. -/
theorem step256 (hS : Scores Q K V z val) {b m o p : ℕ} {M : IVec S256x256 1}
    {L : List (View.Piece (Elt Ideal) S1024x1024 .f32)} {L' : List (View.Piece (Elt Ideal) S8x1024x128 .f32)}
    (q : Memref sig .tc .vmem S1x1024x1024 .bf16) (wq : q.IsWhole)
    (k : Memref sig .tc .vmem S1x4096x1024 .bf16) (wk : k.IsWhole)
    (v : Memref sig .tc .vmem S1x4096x1024 .bf16) (wv : v.IsWhole)
    (A : View sig .tc .vmem S1024x1024 .f32) (C : View sig .tc .vmem S8x1024x128 .f32)
    {cs : FVec Ideal S256x256 .bf16} {offk : Fin 3 → ℕ} {inbq inbk inb inb'}
    (h : Leaves z val B b m L L')
    (hm : m < 8) (ho : o = 128 * m) (hb : b = 0) (hp : p = B + 768) (hB : B + 1024 ≤ 4096)
    (hoff : offk = ![0, p, o])
    (hM : ∀ (r : Fin 256) (s : Fin 256), M (ix2 r s) = if p + (s : ℕ) < B + (768 + (r : ℕ)) then 1#1 else 0#1)
    (hcs : ∀ j s : Fin 256, cs (ix2 j s) = if s < j then 1 else 0) :
    Leaves z val B b (m + 1)
      (⟨Rect.unit (s := S1024x1024) ![768, o] S256x128.size inb,
        outs256 (masked256 M (weights256 (beta256 (scores256
            (View.readAt (Elt Ideal) q.view (Rect.unit (s := S1x1024x1024) ![0, 768, o] S1x256x128.size inbq).toLoadRect (wq.unread Q))
            (View.readAt (Elt Ideal) k.view (Rect.unit (s := S1x4096x1024) offk S1x256x128.size inbk).toLoadRect (wk.unread K)))) (masked256 M (subf (beta256 (scores256
            (View.readAt (Elt Ideal) q.view (Rect.unit (s := S1x1024x1024) ![0, 768, o] S1x256x128.size inbq).toLoadRect (wq.unread Q))
            (View.readAt (Elt Ideal) k.view (Rect.unit (s := S1x4096x1024) offk S1x256x128.size inbk).toLoadRect (wk.unread K)))) (scores256
            (View.readAt (Elt Ideal) q.view (Rect.unit (s := S1x1024x1024) ![0, 768, o] S1x256x128.size inbq).toLoadRect (wq.unread Q))
            (View.readAt (Elt Ideal) k.view (Rect.unit (s := S1x4096x1024) offk S1x256x128.size inbk).toLoadRect (wk.unread K))))) cs
            (View.readCov C L' (Rect.unit (s := S8x1024x128) ![m, 768, 0] S1x256x128.size inb').toLoadRect))) (View.readCov A L (Rect.unit (s := S1024x1024) ![768, o] S256x128.size inb).toLoadRect)
          (View.readAt (Elt Ideal) v.view (Rect.unit (s := S1x4096x1024) offk S1x256x128.size inbk).toLoadRect (wv.unread V))⟩ :: L)
      (⟨Rect.unit (s := S8x1024x128) ![m, 768, 0] S1x256x128.size inb',
        sums256 (masked256 M (subf (beta256 (scores256
            (View.readAt (Elt Ideal) q.view (Rect.unit (s := S1x1024x1024) ![0, 768, o] S1x256x128.size inbq).toLoadRect (wq.unread Q))
            (View.readAt (Elt Ideal) k.view (Rect.unit (s := S1x4096x1024) offk S1x256x128.size inbk).toLoadRect (wk.unread K)))) (scores256
            (View.readAt (Elt Ideal) q.view (Rect.unit (s := S1x1024x1024) ![0, 768, o] S1x256x128.size inbq).toLoadRect (wq.unread Q))
            (View.readAt (Elt Ideal) k.view (Rect.unit (s := S1x4096x1024) offk S1x256x128.size inbk).toLoadRect (wk.unread K))))) (View.readCov C L' (Rect.unit (s := S8x1024x128) ![m, 768, 0] S1x256x128.size inb').toLoadRect)⟩ :: L') := by
  subst ho hb
  have hpc := piece256 hS (b := 0) (m := m) (p := p) (M := M)
    (View.readAt (Elt Ideal) q.view (Rect.unit (s := S1x1024x1024) ![0, 768, 128 * m] S1x256x128.size inbq).toLoadRect (wq.unread Q))
    (View.readAt (Elt Ideal) k.view (Rect.unit (s := S1x4096x1024) offk S1x256x128.size inbk).toLoadRect (wk.unread K))
    (View.readAt (Elt Ideal) v.view (Rect.unit (s := S1x4096x1024) offk S1x256x128.size inbk).toLoadRect (wv.unread V))
    cs (View.readCov C L' (Rect.unit (s := S8x1024x128) ![m, 768, 0] S1x256x128.size inb').toLoadRect) (View.readCov A L (Rect.unit (s := S1024x1024) ![768, 128 * m] S256x128.size inb).toLoadRect)
    hm (by omega) (by omega) (by omega)
    (fun r d => read_queries256 q wq Q _ _ _ r d _ _) (fun s d => read_keys k wk K _ _ _ hoff _ s d _ _)
    (fun s d => read_keys v wv V _ _ _ hoff _ s d _ _) hM hcs
    (fun r l => by
      rw [View.readCov_eq_canon']
      refine (h.car _).trans (congrArg (carAt z B 0 m) ?_)
      funext a; refine Fin.ext ((Rect.idx_unit_val _ _ _ _ a).trans ?_)
      revert a; intro (a : Fin 3); fin_cases a
      · exact Nat.add_zero m
      · rfl
      · exact Nat.zero_add _)
    (fun r d => by
      rw [View.readCov_eq_canon']
      refine (h.acc _).trans (congrArg (accAt z val B 0 m) ?_)
      funext a; refine Fin.ext ((Rect.idx_unit_val _ _ _ _ a).trans ?_)
      revert a; intro (a : Fin 2); fin_cases a <;> rfl)
  refine h.cons _ _ (fun x => ?_) (fun x => ?_) (fun y hy => ?_) (fun y hy => ?_)
  · rw [eq_ix2 x]
    refine (hpc.1 _ _).trans (congrArg (accAt z val B 0 (m + 1)) ?_)
    funext a; refine Fin.ext (Eq.trans ?_ (Rect.idx_unit_val _ _ inb _ a).symm)
    revert a; intro (a : Fin 2); fin_cases a <;> rfl
  · rw [eq_ix3 x]
    refine (hpc.2 _ _).trans (congrArg (carAt z B 0 (m + 1)) ?_)
    funext a; refine Fin.ext (Eq.trans ?_ (Rect.idx_unit_val _ _ inb' _ a).symm)
    revert a; intro (a : Fin 3); fin_cases a
    · exact (Nat.add_zero m).symm
    · rfl
    · exact (Nat.zero_add _).symm
  · by_cases hr : (y 0 : ℕ) < 768
    · exact accAt_early _ _ _ (by omega) (by omega)
    · unfold accAt
      rw [pos_other _ _ _ _ fun hne => hy ?_]
      rw [Rect.mem_set_unit]
      have h0 : (y 0 : ℕ) < 1024 := (y 0).isLt
      intro a; revert a; intro (a : Fin 2); fin_cases a
      · show 768 ≤ (y 0 : ℕ) ∧ (y 0 : ℕ) < 768 + 256; omega
      · show 128 * m ≤ (y 1 : ℕ) ∧ (y 1 : ℕ) < 128 * m + 128; omega
  · by_cases hr : (y 1 : ℕ) < 768
    · exact carAt_early _ _ _ (by omega) (by omega)
    · unfold carAt
      rw [pos_other _ _ _ _ fun hne => hy ?_]
      rw [Rect.mem_set_unit]
      have h0 : (y 1 : ℕ) < 1024 := (y 1).isLt
      have h2 : (y 2 : ℕ) < 128 := (y 2).isLt
      intro a; revert a; intro (a : Fin 3); fin_cases a
      · show m ≤ (y 0 : ℕ) ∧ (y 0 : ℕ) < m + 1; omega
      · show 768 ≤ (y 1 : ℕ) ∧ (y 1 : ℕ) < 768 + 256; omega
      · show 0 ≤ (y 2 : ℕ) ∧ (y 2 : ℕ) < 0 + 128; omega

end

/-! ## Blocks of 512 rows -/

section

variable {z : ℕ → ℕ → ℕ → ℝ} {val : ℕ → ℕ → EReal} {B : ℕ}
  {Q : Vec Ideal S1x1024x1024 .bf16} {K V : Vec Ideal S1x4096x1024 .bf16}

/-- What a head's block writes is what the accumulators then hold. -/
theorem piece512 (hS : Scores Q K V z val) {b m p : ℕ} {M : IVec S512x256 1}
    (q : Vec Ideal S1x512x128 .bf16) (k v : Vec Ideal S1x256x128 .bf16) (cs : FVec Ideal S256x256 .bf16)
    (car : Vec Ideal S1x512x128 .f32) (acc : Vec Ideal S512x128 .f32)
    (hm : m < 8) (hp : B + 1024 - 256 * (b + 1) = p) (hb : p + 256 * (b + 1) = B + 1024) (hB : p + 256 ≤ 4096)
    (hq : ∀ (r : Fin 512) (d : Fin 128), q (ix3 0 r d) = Q (ix3 0 ⟨512 + r, by omega⟩ ⟨128 * m + (d : ℕ), by omega⟩))
    (hk : ∀ (s : Fin 256) (d : Fin 128), k (ix3 0 s d) = K (ix3 0 ⟨p + s, by omega⟩ ⟨128 * m + (d : ℕ), by omega⟩))
    (hv : ∀ (s : Fin 256) (d : Fin 128), v (ix3 0 s d) = V (ix3 0 ⟨p + s, by omega⟩ ⟨128 * m + (d : ℕ), by omega⟩))
    (hM : ∀ (r : Fin 512) (s : Fin 256), M (ix2 r s) = if p + (s : ℕ) < B + (512 + (r : ℕ)) then 1#1 else 0#1)
    (hcs : ∀ j s : Fin 256, cs (ix2 j s) = if s < j then 1 else 0)
    (hcar : ∀ (r : Fin 512) (l : Fin 128), car (ix3 0 r l) = carAt z B b m (ix3 ⟨m, hm⟩ ⟨512 + r, by omega⟩ l))
    (hacc : ∀ (r : Fin 512) (d : Fin 128), acc (ix2 r d) = accAt z val B b m (ix2 ⟨512 + r, by omega⟩ ⟨128 * m + (d : ℕ), by omega⟩)) :
    (∀ (r : Fin 512) (d : Fin 128), outs512 (masked512 M (weights512 (beta512 (scores512 q k)) (masked512 M (subf (beta512 (scores512 q k)) (scores512 q k))) cs car)) acc v (ix2 r d) = accAt z val B b (m + 1) (ix2 ⟨512 + r, by omega⟩ ⟨128 * m + (d : ℕ), by omega⟩))
      ∧ ∀ (r : Fin 512) (l : Fin 128), sums512 (masked512 M (subf (beta512 (scores512 q k)) (scores512 q k))) car (ix3 0 r l) = carAt z B b (m + 1) (ix3 ⟨m, hm⟩ ⟨512 + r, by omega⟩ l) := by
  have hz : ∀ (r : Fin 512) (s : Fin 256), ∑ d : Fin 128, q (ix3 0 r d) * k (ix3 0 s d) = (z m (512 + r) (p + s) : EReal) := by
    intro r s
    rw [← hS.dot m (512 + r) (p + s) hm (by omega) (by omega)]
    exact Finset.sum_congr rfl fun d _ => congrArg₂ (· * ·) (hq r d) (hk s d)
  have hpos : pos (B + 1024) b m m = p + 256 := by unfold pos; rw [if_neg (Nat.lt_irrefl m)]; omega
  have hpos' : pos (B + 1024) b (m + 1) m = p := by unfold pos; rw [if_pos (Nat.lt_succ_self m)]; omega
  have hcar' : ∀ (r : Fin 512) (l : Fin 128), car (ix3 0 r l) = left (z m (512 + r)) (B + (512 + r)) (B + 1024) (p + 256) :=
    fun r l => (hcar r l).trans (congrArg (left (z m (512 + r)) (B + (512 + r)) (B + 1024)) hpos)
  have hdiv : ∀ d : Fin 128, (128 * m + (d : ℕ)) / 128 = m := fun d => by omega
  have e : ∀ (b' m' : ℕ) (r : Fin 512) (d : Fin 128), accAt z val B b' m' (ix2 ⟨512 + r, by omega⟩ ⟨128 * m + (d : ℕ), by omega⟩)
      = result (z m (512 + r)) (B + (512 + r)) (B + 1024) (fun s => val s (128 * m + d)) (pos (B + 1024) b' m' m) := by
    intro b' m' r d
    show result (z ((128 * m + (d : ℕ)) / 128) (512 + r)) (B + (512 + r)) (B + 1024) (fun s => val s (128 * m + d))
      (pos (B + 1024) b' m' ((128 * m + (d : ℕ)) / 128)) = _
    rw [hdiv]
  constructor
  · intro r d
    rw [e, hpos']
    exact outs512_head q k v M cs car acc (z m) val B (B + 1024) p 512 (128 * m) (by omega) hz hM hcs
      (fun s d => (hv s d).trans (hS.val _ _ _ _)) hcar' (fun r d => (hacc r d).trans ((e b m r d).trans (by rw [hpos]))) r d
  · intro r l
    refine (sums512_head q k M car (z m) B (B + 1024) p 512 (by omega) hz hM hcar' r l).trans ?_
    exact congrArg (left (z m (512 + r)) (B + (512 + r)) (B + 1024)) hpos'.symm

/-- One head's block written over the accumulators. -/
theorem step512 (hS : Scores Q K V z val) {b m o p : ℕ} {M : IVec S512x256 1}
    {L : List (View.Piece (Elt Ideal) S1024x1024 .f32)} {L' : List (View.Piece (Elt Ideal) S8x1024x128 .f32)}
    (q : Memref sig .tc .vmem S1x1024x1024 .bf16) (wq : q.IsWhole)
    (k : Memref sig .tc .vmem S1x4096x1024 .bf16) (wk : k.IsWhole)
    (v : Memref sig .tc .vmem S1x4096x1024 .bf16) (wv : v.IsWhole)
    (A : View sig .tc .vmem S1024x1024 .f32) (C : View sig .tc .vmem S8x1024x128 .f32)
    {cs : FVec Ideal S256x256 .bf16} {offk : Fin 3 → ℕ} {inbq inbk inb inb'}
    (h : Leaves z val B b m L L')
    (hm : m < 8) (ho : o = 128 * m) (hb : b = 1) (hp : p = B + 512) (hB : B + 1024 ≤ 4096)
    (hoff : offk = ![0, p, o])
    (hM : ∀ (r : Fin 512) (s : Fin 256), M (ix2 r s) = if p + (s : ℕ) < B + (512 + (r : ℕ)) then 1#1 else 0#1)
    (hcs : ∀ j s : Fin 256, cs (ix2 j s) = if s < j then 1 else 0) :
    Leaves z val B b (m + 1)
      (⟨Rect.unit (s := S1024x1024) ![512, o] S512x128.size inb,
        outs512 (masked512 M (weights512 (beta512 (scores512
            (View.readAt (Elt Ideal) q.view (Rect.unit (s := S1x1024x1024) ![0, 512, o] S1x512x128.size inbq).toLoadRect (wq.unread Q))
            (View.readAt (Elt Ideal) k.view (Rect.unit (s := S1x4096x1024) offk S1x256x128.size inbk).toLoadRect (wk.unread K)))) (masked512 M (subf (beta512 (scores512
            (View.readAt (Elt Ideal) q.view (Rect.unit (s := S1x1024x1024) ![0, 512, o] S1x512x128.size inbq).toLoadRect (wq.unread Q))
            (View.readAt (Elt Ideal) k.view (Rect.unit (s := S1x4096x1024) offk S1x256x128.size inbk).toLoadRect (wk.unread K)))) (scores512
            (View.readAt (Elt Ideal) q.view (Rect.unit (s := S1x1024x1024) ![0, 512, o] S1x512x128.size inbq).toLoadRect (wq.unread Q))
            (View.readAt (Elt Ideal) k.view (Rect.unit (s := S1x4096x1024) offk S1x256x128.size inbk).toLoadRect (wk.unread K))))) cs
            (View.readCov C L' (Rect.unit (s := S8x1024x128) ![m, 512, 0] S1x512x128.size inb').toLoadRect))) (View.readCov A L (Rect.unit (s := S1024x1024) ![512, o] S512x128.size inb).toLoadRect)
          (View.readAt (Elt Ideal) v.view (Rect.unit (s := S1x4096x1024) offk S1x256x128.size inbk).toLoadRect (wv.unread V))⟩ :: L)
      (⟨Rect.unit (s := S8x1024x128) ![m, 512, 0] S1x512x128.size inb',
        sums512 (masked512 M (subf (beta512 (scores512
            (View.readAt (Elt Ideal) q.view (Rect.unit (s := S1x1024x1024) ![0, 512, o] S1x512x128.size inbq).toLoadRect (wq.unread Q))
            (View.readAt (Elt Ideal) k.view (Rect.unit (s := S1x4096x1024) offk S1x256x128.size inbk).toLoadRect (wk.unread K)))) (scores512
            (View.readAt (Elt Ideal) q.view (Rect.unit (s := S1x1024x1024) ![0, 512, o] S1x512x128.size inbq).toLoadRect (wq.unread Q))
            (View.readAt (Elt Ideal) k.view (Rect.unit (s := S1x4096x1024) offk S1x256x128.size inbk).toLoadRect (wk.unread K))))) (View.readCov C L' (Rect.unit (s := S8x1024x128) ![m, 512, 0] S1x512x128.size inb').toLoadRect)⟩ :: L') := by
  subst ho hb
  have hpc := piece512 hS (b := 1) (m := m) (p := p) (M := M)
    (View.readAt (Elt Ideal) q.view (Rect.unit (s := S1x1024x1024) ![0, 512, 128 * m] S1x512x128.size inbq).toLoadRect (wq.unread Q))
    (View.readAt (Elt Ideal) k.view (Rect.unit (s := S1x4096x1024) offk S1x256x128.size inbk).toLoadRect (wk.unread K))
    (View.readAt (Elt Ideal) v.view (Rect.unit (s := S1x4096x1024) offk S1x256x128.size inbk).toLoadRect (wv.unread V))
    cs (View.readCov C L' (Rect.unit (s := S8x1024x128) ![m, 512, 0] S1x512x128.size inb').toLoadRect) (View.readCov A L (Rect.unit (s := S1024x1024) ![512, 128 * m] S512x128.size inb).toLoadRect)
    hm (by omega) (by omega) (by omega)
    (fun r d => read_queries512 q wq Q _ _ _ r d _ _) (fun s d => read_keys k wk K _ _ _ hoff _ s d _ _)
    (fun s d => read_keys v wv V _ _ _ hoff _ s d _ _) hM hcs
    (fun r l => by
      rw [View.readCov_eq_canon']
      refine (h.car _).trans (congrArg (carAt z B 1 m) ?_)
      funext a; refine Fin.ext ((Rect.idx_unit_val _ _ _ _ a).trans ?_)
      revert a; intro (a : Fin 3); fin_cases a
      · exact Nat.add_zero m
      · rfl
      · exact Nat.zero_add _)
    (fun r d => by
      rw [View.readCov_eq_canon']
      refine (h.acc _).trans (congrArg (accAt z val B 1 m) ?_)
      funext a; refine Fin.ext ((Rect.idx_unit_val _ _ _ _ a).trans ?_)
      revert a; intro (a : Fin 2); fin_cases a <;> rfl)
  refine h.cons _ _ (fun x => ?_) (fun x => ?_) (fun y hy => ?_) (fun y hy => ?_)
  · rw [eq_ix2 x]
    refine (hpc.1 _ _).trans (congrArg (accAt z val B 1 (m + 1)) ?_)
    funext a; refine Fin.ext (Eq.trans ?_ (Rect.idx_unit_val _ _ inb _ a).symm)
    revert a; intro (a : Fin 2); fin_cases a <;> rfl
  · rw [eq_ix3 x]
    refine (hpc.2 _ _).trans (congrArg (carAt z B 1 (m + 1)) ?_)
    funext a; refine Fin.ext (Eq.trans ?_ (Rect.idx_unit_val _ _ inb' _ a).symm)
    revert a; intro (a : Fin 3); fin_cases a
    · exact (Nat.add_zero m).symm
    · rfl
    · exact (Nat.zero_add _).symm
  · by_cases hr : (y 0 : ℕ) < 512
    · exact accAt_early _ _ _ (by omega) (by omega)
    · unfold accAt
      rw [pos_other _ _ _ _ fun hne => hy ?_]
      rw [Rect.mem_set_unit]
      have h0 : (y 0 : ℕ) < 1024 := (y 0).isLt
      intro a; revert a; intro (a : Fin 2); fin_cases a
      · show 512 ≤ (y 0 : ℕ) ∧ (y 0 : ℕ) < 512 + 512; omega
      · show 128 * m ≤ (y 1 : ℕ) ∧ (y 1 : ℕ) < 128 * m + 128; omega
  · by_cases hr : (y 1 : ℕ) < 512
    · exact carAt_early _ _ _ (by omega) (by omega)
    · unfold carAt
      rw [pos_other _ _ _ _ fun hne => hy ?_]
      rw [Rect.mem_set_unit]
      have h0 : (y 1 : ℕ) < 1024 := (y 1).isLt
      have h2 : (y 2 : ℕ) < 128 := (y 2).isLt
      intro a; revert a; intro (a : Fin 3); fin_cases a
      · show m ≤ (y 0 : ℕ) ∧ (y 0 : ℕ) < m + 1; omega
      · show 512 ≤ (y 1 : ℕ) ∧ (y 1 : ℕ) < 512 + 512; omega
      · show 0 ≤ (y 2 : ℕ) ∧ (y 2 : ℕ) < 0 + 128; omega

end

/-! ## Blocks of 768 rows -/

section

variable {z : ℕ → ℕ → ℕ → ℝ} {val : ℕ → ℕ → EReal} {B : ℕ}
  {Q : Vec Ideal S1x1024x1024 .bf16} {K V : Vec Ideal S1x4096x1024 .bf16}

/-- What a head's block writes is what the accumulators then hold. -/
theorem piece768 (hS : Scores Q K V z val) {b m p : ℕ} {M : IVec S768x256 1}
    (q : Vec Ideal S1x768x128 .bf16) (k v : Vec Ideal S1x256x128 .bf16) (cs : FVec Ideal S256x256 .bf16)
    (car : Vec Ideal S1x768x128 .f32) (acc : Vec Ideal S768x128 .f32)
    (hm : m < 8) (hp : B + 1024 - 256 * (b + 1) = p) (hb : p + 256 * (b + 1) = B + 1024) (hB : p + 256 ≤ 4096)
    (hq : ∀ (r : Fin 768) (d : Fin 128), q (ix3 0 r d) = Q (ix3 0 ⟨256 + r, by omega⟩ ⟨128 * m + (d : ℕ), by omega⟩))
    (hk : ∀ (s : Fin 256) (d : Fin 128), k (ix3 0 s d) = K (ix3 0 ⟨p + s, by omega⟩ ⟨128 * m + (d : ℕ), by omega⟩))
    (hv : ∀ (s : Fin 256) (d : Fin 128), v (ix3 0 s d) = V (ix3 0 ⟨p + s, by omega⟩ ⟨128 * m + (d : ℕ), by omega⟩))
    (hM : ∀ (r : Fin 768) (s : Fin 256), M (ix2 r s) = if p + (s : ℕ) < B + (256 + (r : ℕ)) then 1#1 else 0#1)
    (hcs : ∀ j s : Fin 256, cs (ix2 j s) = if s < j then 1 else 0)
    (hcar : ∀ (r : Fin 768) (l : Fin 128), car (ix3 0 r l) = carAt z B b m (ix3 ⟨m, hm⟩ ⟨256 + r, by omega⟩ l))
    (hacc : ∀ (r : Fin 768) (d : Fin 128), acc (ix2 r d) = accAt z val B b m (ix2 ⟨256 + r, by omega⟩ ⟨128 * m + (d : ℕ), by omega⟩)) :
    (∀ (r : Fin 768) (d : Fin 128), outs768 (masked768 M (weights768 (beta768 (scores768 q k)) (masked768 M (subf (beta768 (scores768 q k)) (scores768 q k))) cs car)) acc v (ix2 r d) = accAt z val B b (m + 1) (ix2 ⟨256 + r, by omega⟩ ⟨128 * m + (d : ℕ), by omega⟩))
      ∧ ∀ (r : Fin 768) (l : Fin 128), sums768 (masked768 M (subf (beta768 (scores768 q k)) (scores768 q k))) car (ix3 0 r l) = carAt z B b (m + 1) (ix3 ⟨m, hm⟩ ⟨256 + r, by omega⟩ l) := by
  have hz : ∀ (r : Fin 768) (s : Fin 256), ∑ d : Fin 128, q (ix3 0 r d) * k (ix3 0 s d) = (z m (256 + r) (p + s) : EReal) := by
    intro r s
    rw [← hS.dot m (256 + r) (p + s) hm (by omega) (by omega)]
    exact Finset.sum_congr rfl fun d _ => congrArg₂ (· * ·) (hq r d) (hk s d)
  have hpos : pos (B + 1024) b m m = p + 256 := by unfold pos; rw [if_neg (Nat.lt_irrefl m)]; omega
  have hpos' : pos (B + 1024) b (m + 1) m = p := by unfold pos; rw [if_pos (Nat.lt_succ_self m)]; omega
  have hcar' : ∀ (r : Fin 768) (l : Fin 128), car (ix3 0 r l) = left (z m (256 + r)) (B + (256 + r)) (B + 1024) (p + 256) :=
    fun r l => (hcar r l).trans (congrArg (left (z m (256 + r)) (B + (256 + r)) (B + 1024)) hpos)
  have hdiv : ∀ d : Fin 128, (128 * m + (d : ℕ)) / 128 = m := fun d => by omega
  have e : ∀ (b' m' : ℕ) (r : Fin 768) (d : Fin 128), accAt z val B b' m' (ix2 ⟨256 + r, by omega⟩ ⟨128 * m + (d : ℕ), by omega⟩)
      = result (z m (256 + r)) (B + (256 + r)) (B + 1024) (fun s => val s (128 * m + d)) (pos (B + 1024) b' m' m) := by
    intro b' m' r d
    show result (z ((128 * m + (d : ℕ)) / 128) (256 + r)) (B + (256 + r)) (B + 1024) (fun s => val s (128 * m + d))
      (pos (B + 1024) b' m' ((128 * m + (d : ℕ)) / 128)) = _
    rw [hdiv]
  constructor
  · intro r d
    rw [e, hpos']
    exact outs768_head q k v M cs car acc (z m) val B (B + 1024) p 256 (128 * m) (by omega) hz hM hcs
      (fun s d => (hv s d).trans (hS.val _ _ _ _)) hcar' (fun r d => (hacc r d).trans ((e b m r d).trans (by rw [hpos]))) r d
  · intro r l
    refine (sums768_head q k M car (z m) B (B + 1024) p 256 (by omega) hz hM hcar' r l).trans ?_
    exact congrArg (left (z m (256 + r)) (B + (256 + r)) (B + 1024)) hpos'.symm

/-- One head's block written over the accumulators. -/
theorem step768 (hS : Scores Q K V z val) {b m o p : ℕ} {M : IVec S768x256 1}
    {L : List (View.Piece (Elt Ideal) S1024x1024 .f32)} {L' : List (View.Piece (Elt Ideal) S8x1024x128 .f32)}
    (q : Memref sig .tc .vmem S1x1024x1024 .bf16) (wq : q.IsWhole)
    (k : Memref sig .tc .vmem S1x4096x1024 .bf16) (wk : k.IsWhole)
    (v : Memref sig .tc .vmem S1x4096x1024 .bf16) (wv : v.IsWhole)
    (A : View sig .tc .vmem S1024x1024 .f32) (C : View sig .tc .vmem S8x1024x128 .f32)
    {cs : FVec Ideal S256x256 .bf16} {offk : Fin 3 → ℕ} {inbq inbk inb inb'}
    (h : Leaves z val B b m L L')
    (hm : m < 8) (ho : o = 128 * m) (hb : b = 2) (hp : p = B + 256) (hB : B + 1024 ≤ 4096)
    (hoff : offk = ![0, p, o])
    (hM : ∀ (r : Fin 768) (s : Fin 256), M (ix2 r s) = if p + (s : ℕ) < B + (256 + (r : ℕ)) then 1#1 else 0#1)
    (hcs : ∀ j s : Fin 256, cs (ix2 j s) = if s < j then 1 else 0) :
    Leaves z val B b (m + 1)
      (⟨Rect.unit (s := S1024x1024) ![256, o] S768x128.size inb,
        outs768 (masked768 M (weights768 (beta768 (scores768
            (View.readAt (Elt Ideal) q.view (Rect.unit (s := S1x1024x1024) ![0, 256, o] S1x768x128.size inbq).toLoadRect (wq.unread Q))
            (View.readAt (Elt Ideal) k.view (Rect.unit (s := S1x4096x1024) offk S1x256x128.size inbk).toLoadRect (wk.unread K)))) (masked768 M (subf (beta768 (scores768
            (View.readAt (Elt Ideal) q.view (Rect.unit (s := S1x1024x1024) ![0, 256, o] S1x768x128.size inbq).toLoadRect (wq.unread Q))
            (View.readAt (Elt Ideal) k.view (Rect.unit (s := S1x4096x1024) offk S1x256x128.size inbk).toLoadRect (wk.unread K)))) (scores768
            (View.readAt (Elt Ideal) q.view (Rect.unit (s := S1x1024x1024) ![0, 256, o] S1x768x128.size inbq).toLoadRect (wq.unread Q))
            (View.readAt (Elt Ideal) k.view (Rect.unit (s := S1x4096x1024) offk S1x256x128.size inbk).toLoadRect (wk.unread K))))) cs
            (View.readCov C L' (Rect.unit (s := S8x1024x128) ![m, 256, 0] S1x768x128.size inb').toLoadRect))) (View.readCov A L (Rect.unit (s := S1024x1024) ![256, o] S768x128.size inb).toLoadRect)
          (View.readAt (Elt Ideal) v.view (Rect.unit (s := S1x4096x1024) offk S1x256x128.size inbk).toLoadRect (wv.unread V))⟩ :: L)
      (⟨Rect.unit (s := S8x1024x128) ![m, 256, 0] S1x768x128.size inb',
        sums768 (masked768 M (subf (beta768 (scores768
            (View.readAt (Elt Ideal) q.view (Rect.unit (s := S1x1024x1024) ![0, 256, o] S1x768x128.size inbq).toLoadRect (wq.unread Q))
            (View.readAt (Elt Ideal) k.view (Rect.unit (s := S1x4096x1024) offk S1x256x128.size inbk).toLoadRect (wk.unread K)))) (scores768
            (View.readAt (Elt Ideal) q.view (Rect.unit (s := S1x1024x1024) ![0, 256, o] S1x768x128.size inbq).toLoadRect (wq.unread Q))
            (View.readAt (Elt Ideal) k.view (Rect.unit (s := S1x4096x1024) offk S1x256x128.size inbk).toLoadRect (wk.unread K))))) (View.readCov C L' (Rect.unit (s := S8x1024x128) ![m, 256, 0] S1x768x128.size inb').toLoadRect)⟩ :: L') := by
  subst ho hb
  have hpc := piece768 hS (b := 2) (m := m) (p := p) (M := M)
    (View.readAt (Elt Ideal) q.view (Rect.unit (s := S1x1024x1024) ![0, 256, 128 * m] S1x768x128.size inbq).toLoadRect (wq.unread Q))
    (View.readAt (Elt Ideal) k.view (Rect.unit (s := S1x4096x1024) offk S1x256x128.size inbk).toLoadRect (wk.unread K))
    (View.readAt (Elt Ideal) v.view (Rect.unit (s := S1x4096x1024) offk S1x256x128.size inbk).toLoadRect (wv.unread V))
    cs (View.readCov C L' (Rect.unit (s := S8x1024x128) ![m, 256, 0] S1x768x128.size inb').toLoadRect) (View.readCov A L (Rect.unit (s := S1024x1024) ![256, 128 * m] S768x128.size inb).toLoadRect)
    hm (by omega) (by omega) (by omega)
    (fun r d => read_queries768 q wq Q _ _ _ r d _ _) (fun s d => read_keys k wk K _ _ _ hoff _ s d _ _)
    (fun s d => read_keys v wv V _ _ _ hoff _ s d _ _) hM hcs
    (fun r l => by
      rw [View.readCov_eq_canon']
      refine (h.car _).trans (congrArg (carAt z B 2 m) ?_)
      funext a; refine Fin.ext ((Rect.idx_unit_val _ _ _ _ a).trans ?_)
      revert a; intro (a : Fin 3); fin_cases a
      · exact Nat.add_zero m
      · rfl
      · exact Nat.zero_add _)
    (fun r d => by
      rw [View.readCov_eq_canon']
      refine (h.acc _).trans (congrArg (accAt z val B 2 m) ?_)
      funext a; refine Fin.ext ((Rect.idx_unit_val _ _ _ _ a).trans ?_)
      revert a; intro (a : Fin 2); fin_cases a <;> rfl)
  refine h.cons _ _ (fun x => ?_) (fun x => ?_) (fun y hy => ?_) (fun y hy => ?_)
  · rw [eq_ix2 x]
    refine (hpc.1 _ _).trans (congrArg (accAt z val B 2 (m + 1)) ?_)
    funext a; refine Fin.ext (Eq.trans ?_ (Rect.idx_unit_val _ _ inb _ a).symm)
    revert a; intro (a : Fin 2); fin_cases a <;> rfl
  · rw [eq_ix3 x]
    refine (hpc.2 _ _).trans (congrArg (carAt z B 2 (m + 1)) ?_)
    funext a; refine Fin.ext (Eq.trans ?_ (Rect.idx_unit_val _ _ inb' _ a).symm)
    revert a; intro (a : Fin 3); fin_cases a
    · exact (Nat.add_zero m).symm
    · rfl
    · exact (Nat.zero_add _).symm
  · by_cases hr : (y 0 : ℕ) < 256
    · exact accAt_early _ _ _ (by omega) (by omega)
    · unfold accAt
      rw [pos_other _ _ _ _ fun hne => hy ?_]
      rw [Rect.mem_set_unit]
      have h0 : (y 0 : ℕ) < 1024 := (y 0).isLt
      intro a; revert a; intro (a : Fin 2); fin_cases a
      · show 256 ≤ (y 0 : ℕ) ∧ (y 0 : ℕ) < 256 + 768; omega
      · show 128 * m ≤ (y 1 : ℕ) ∧ (y 1 : ℕ) < 128 * m + 128; omega
  · by_cases hr : (y 1 : ℕ) < 256
    · exact carAt_early _ _ _ (by omega) (by omega)
    · unfold carAt
      rw [pos_other _ _ _ _ fun hne => hy ?_]
      rw [Rect.mem_set_unit]
      have h0 : (y 1 : ℕ) < 1024 := (y 1).isLt
      have h2 : (y 2 : ℕ) < 128 := (y 2).isLt
      intro a; revert a; intro (a : Fin 3); fin_cases a
      · show m ≤ (y 0 : ℕ) ∧ (y 0 : ℕ) < m + 1; omega
      · show 256 ≤ (y 1 : ℕ) ∧ (y 1 : ℕ) < 256 + 768; omega
      · show 0 ≤ (y 2 : ℕ) ∧ (y 2 : ℕ) < 0 + 128; omega

end

/-! ## Blocks of 1024 rows -/

section

variable {z : ℕ → ℕ → ℕ → ℝ} {val : ℕ → ℕ → EReal} {B : ℕ}
  {Q : Vec Ideal S1x1024x1024 .bf16} {K V : Vec Ideal S1x4096x1024 .bf16}

/-- What a head's block writes is what the accumulators then hold. -/
theorem piece1024 (hS : Scores Q K V z val) {b m p : ℕ} {M : IVec S1024x256 1}
    (q : Vec Ideal S1x1024x128 .bf16) (k v : Vec Ideal S1x256x128 .bf16) (cs : FVec Ideal S256x256 .bf16)
    (car : Vec Ideal S1x1024x128 .f32) (acc : Vec Ideal S1024x128 .f32)
    (hm : m < 8) (hp : B + 1024 - 256 * (b + 1) = p) (hb : p + 256 * (b + 1) = B + 1024) (hB : p + 256 ≤ 4096)
    (hq : ∀ (r : Fin 1024) (d : Fin 128), q (ix3 0 r d) = Q (ix3 0 ⟨0 + r, by omega⟩ ⟨128 * m + (d : ℕ), by omega⟩))
    (hk : ∀ (s : Fin 256) (d : Fin 128), k (ix3 0 s d) = K (ix3 0 ⟨p + s, by omega⟩ ⟨128 * m + (d : ℕ), by omega⟩))
    (hv : ∀ (s : Fin 256) (d : Fin 128), v (ix3 0 s d) = V (ix3 0 ⟨p + s, by omega⟩ ⟨128 * m + (d : ℕ), by omega⟩))
    (hM : ∀ (r : Fin 1024) (s : Fin 256), M (ix2 r s) = if p + (s : ℕ) < B + (0 + (r : ℕ)) then 1#1 else 0#1)
    (hcs : ∀ j s : Fin 256, cs (ix2 j s) = if s < j then 1 else 0)
    (hcar : ∀ (r : Fin 1024) (l : Fin 128), car (ix3 0 r l) = carAt z B b m (ix3 ⟨m, hm⟩ ⟨0 + r, by omega⟩ l))
    (hacc : ∀ (r : Fin 1024) (d : Fin 128), acc (ix2 r d) = accAt z val B b m (ix2 ⟨0 + r, by omega⟩ ⟨128 * m + (d : ℕ), by omega⟩)) :
    (∀ (r : Fin 1024) (d : Fin 128), outs1024 (masked1024 M (weights1024 (beta1024 (scores1024 q k)) (masked1024 M (subf (beta1024 (scores1024 q k)) (scores1024 q k))) cs car)) acc v (ix2 r d) = accAt z val B b (m + 1) (ix2 ⟨0 + r, by omega⟩ ⟨128 * m + (d : ℕ), by omega⟩))
      ∧ ∀ (r : Fin 1024) (l : Fin 128), sums1024 (masked1024 M (subf (beta1024 (scores1024 q k)) (scores1024 q k))) car (ix3 0 r l) = carAt z B b (m + 1) (ix3 ⟨m, hm⟩ ⟨0 + r, by omega⟩ l) := by
  have hz : ∀ (r : Fin 1024) (s : Fin 256), ∑ d : Fin 128, q (ix3 0 r d) * k (ix3 0 s d) = (z m (0 + r) (p + s) : EReal) := by
    intro r s
    rw [← hS.dot m (0 + r) (p + s) hm (by omega) (by omega)]
    exact Finset.sum_congr rfl fun d _ => congrArg₂ (· * ·) (hq r d) (hk s d)
  have hpos : pos (B + 1024) b m m = p + 256 := by unfold pos; rw [if_neg (Nat.lt_irrefl m)]; omega
  have hpos' : pos (B + 1024) b (m + 1) m = p := by unfold pos; rw [if_pos (Nat.lt_succ_self m)]; omega
  have hcar' : ∀ (r : Fin 1024) (l : Fin 128), car (ix3 0 r l) = left (z m (0 + r)) (B + (0 + r)) (B + 1024) (p + 256) :=
    fun r l => (hcar r l).trans (congrArg (left (z m (0 + r)) (B + (0 + r)) (B + 1024)) hpos)
  have hdiv : ∀ d : Fin 128, (128 * m + (d : ℕ)) / 128 = m := fun d => by omega
  have e : ∀ (b' m' : ℕ) (r : Fin 1024) (d : Fin 128), accAt z val B b' m' (ix2 ⟨0 + r, by omega⟩ ⟨128 * m + (d : ℕ), by omega⟩)
      = result (z m (0 + r)) (B + (0 + r)) (B + 1024) (fun s => val s (128 * m + d)) (pos (B + 1024) b' m' m) := by
    intro b' m' r d
    show result (z ((128 * m + (d : ℕ)) / 128) (0 + r)) (B + (0 + r)) (B + 1024) (fun s => val s (128 * m + d))
      (pos (B + 1024) b' m' ((128 * m + (d : ℕ)) / 128)) = _
    rw [hdiv]
  constructor
  · intro r d
    rw [e, hpos']
    exact outs1024_head q k v M cs car acc (z m) val B (B + 1024) p 0 (128 * m) (by omega) hz hM hcs
      (fun s d => (hv s d).trans (hS.val _ _ _ _)) hcar' (fun r d => (hacc r d).trans ((e b m r d).trans (by rw [hpos]))) r d
  · intro r l
    refine (sums1024_head q k M car (z m) B (B + 1024) p 0 (by omega) hz hM hcar' r l).trans ?_
    exact congrArg (left (z m (0 + r)) (B + (0 + r)) (B + 1024)) hpos'.symm

/-- One head's block written over the accumulators. -/
theorem step1024 (hS : Scores Q K V z val) {b m o p : ℕ} {M : IVec S1024x256 1}
    {L : List (View.Piece (Elt Ideal) S1024x1024 .f32)} {L' : List (View.Piece (Elt Ideal) S8x1024x128 .f32)}
    (q : Memref sig .tc .vmem S1x1024x1024 .bf16) (wq : q.IsWhole)
    (k : Memref sig .tc .vmem S1x4096x1024 .bf16) (wk : k.IsWhole)
    (v : Memref sig .tc .vmem S1x4096x1024 .bf16) (wv : v.IsWhole)
    (A : View sig .tc .vmem S1024x1024 .f32) (C : View sig .tc .vmem S8x1024x128 .f32)
    {cs : FVec Ideal S256x256 .bf16} {offk : Fin 3 → ℕ} {inbq inbk inb inb'}
    (h : Leaves z val B b m L L')
    (hm : m < 8) (ho : o = 128 * m) (hb : b = 3) (hp : p = B + 0) (hB : B + 1024 ≤ 4096)
    (hoff : offk = ![0, p, o])
    (hM : ∀ (r : Fin 1024) (s : Fin 256), M (ix2 r s) = if p + (s : ℕ) < B + (0 + (r : ℕ)) then 1#1 else 0#1)
    (hcs : ∀ j s : Fin 256, cs (ix2 j s) = if s < j then 1 else 0) :
    Leaves z val B b (m + 1)
      (⟨Rect.unit (s := S1024x1024) ![0, o] S1024x128.size inb,
        outs1024 (masked1024 M (weights1024 (beta1024 (scores1024
            (View.readAt (Elt Ideal) q.view (Rect.unit (s := S1x1024x1024) ![0, 0, o] S1x1024x128.size inbq).toLoadRect (wq.unread Q))
            (View.readAt (Elt Ideal) k.view (Rect.unit (s := S1x4096x1024) offk S1x256x128.size inbk).toLoadRect (wk.unread K)))) (masked1024 M (subf (beta1024 (scores1024
            (View.readAt (Elt Ideal) q.view (Rect.unit (s := S1x1024x1024) ![0, 0, o] S1x1024x128.size inbq).toLoadRect (wq.unread Q))
            (View.readAt (Elt Ideal) k.view (Rect.unit (s := S1x4096x1024) offk S1x256x128.size inbk).toLoadRect (wk.unread K)))) (scores1024
            (View.readAt (Elt Ideal) q.view (Rect.unit (s := S1x1024x1024) ![0, 0, o] S1x1024x128.size inbq).toLoadRect (wq.unread Q))
            (View.readAt (Elt Ideal) k.view (Rect.unit (s := S1x4096x1024) offk S1x256x128.size inbk).toLoadRect (wk.unread K))))) cs
            (View.readCov C L' (Rect.unit (s := S8x1024x128) ![m, 0, 0] S1x1024x128.size inb').toLoadRect))) (View.readCov A L (Rect.unit (s := S1024x1024) ![0, o] S1024x128.size inb).toLoadRect)
          (View.readAt (Elt Ideal) v.view (Rect.unit (s := S1x4096x1024) offk S1x256x128.size inbk).toLoadRect (wv.unread V))⟩ :: L)
      (⟨Rect.unit (s := S8x1024x128) ![m, 0, 0] S1x1024x128.size inb',
        sums1024 (masked1024 M (subf (beta1024 (scores1024
            (View.readAt (Elt Ideal) q.view (Rect.unit (s := S1x1024x1024) ![0, 0, o] S1x1024x128.size inbq).toLoadRect (wq.unread Q))
            (View.readAt (Elt Ideal) k.view (Rect.unit (s := S1x4096x1024) offk S1x256x128.size inbk).toLoadRect (wk.unread K)))) (scores1024
            (View.readAt (Elt Ideal) q.view (Rect.unit (s := S1x1024x1024) ![0, 0, o] S1x1024x128.size inbq).toLoadRect (wq.unread Q))
            (View.readAt (Elt Ideal) k.view (Rect.unit (s := S1x4096x1024) offk S1x256x128.size inbk).toLoadRect (wk.unread K))))) (View.readCov C L' (Rect.unit (s := S8x1024x128) ![m, 0, 0] S1x1024x128.size inb').toLoadRect)⟩ :: L') := by
  subst ho hb
  have hpc := piece1024 hS (b := 3) (m := m) (p := p) (M := M)
    (View.readAt (Elt Ideal) q.view (Rect.unit (s := S1x1024x1024) ![0, 0, 128 * m] S1x1024x128.size inbq).toLoadRect (wq.unread Q))
    (View.readAt (Elt Ideal) k.view (Rect.unit (s := S1x4096x1024) offk S1x256x128.size inbk).toLoadRect (wk.unread K))
    (View.readAt (Elt Ideal) v.view (Rect.unit (s := S1x4096x1024) offk S1x256x128.size inbk).toLoadRect (wv.unread V))
    cs (View.readCov C L' (Rect.unit (s := S8x1024x128) ![m, 0, 0] S1x1024x128.size inb').toLoadRect) (View.readCov A L (Rect.unit (s := S1024x1024) ![0, 128 * m] S1024x128.size inb).toLoadRect)
    hm (by omega) (by omega) (by omega)
    (fun r d => read_queries1024 q wq Q _ _ _ r d _ _) (fun s d => read_keys k wk K _ _ _ hoff _ s d _ _)
    (fun s d => read_keys v wv V _ _ _ hoff _ s d _ _) hM hcs
    (fun r l => by
      rw [View.readCov_eq_canon']
      refine (h.car _).trans (congrArg (carAt z B 3 m) ?_)
      funext a; refine Fin.ext ((Rect.idx_unit_val _ _ _ _ a).trans ?_)
      revert a; intro (a : Fin 3); fin_cases a
      · exact Nat.add_zero m
      · rfl
      · exact Nat.zero_add _)
    (fun r d => by
      rw [View.readCov_eq_canon']
      refine (h.acc _).trans (congrArg (accAt z val B 3 m) ?_)
      funext a; refine Fin.ext ((Rect.idx_unit_val _ _ _ _ a).trans ?_)
      revert a; intro (a : Fin 2); fin_cases a <;> rfl)
  refine h.cons _ _ (fun x => ?_) (fun x => ?_) (fun y hy => ?_) (fun y hy => ?_)
  · rw [eq_ix2 x]
    refine (hpc.1 _ _).trans (congrArg (accAt z val B 3 (m + 1)) ?_)
    funext a; refine Fin.ext (Eq.trans ?_ (Rect.idx_unit_val _ _ inb _ a).symm)
    revert a; intro (a : Fin 2); fin_cases a <;> rfl
  · rw [eq_ix3 x]
    refine (hpc.2 _ _).trans (congrArg (carAt z B 3 (m + 1)) ?_)
    funext a; refine Fin.ext (Eq.trans ?_ (Rect.idx_unit_val _ _ inb' _ a).symm)
    revert a; intro (a : Fin 3); fin_cases a
    · exact (Nat.add_zero m).symm
    · rfl
    · exact (Nat.zero_add _).symm
  · by_cases hr : (y 0 : ℕ) < 0
    · exact accAt_early _ _ _ (by omega) (by omega)
    · unfold accAt
      rw [pos_other _ _ _ _ fun hne => hy ?_]
      rw [Rect.mem_set_unit]
      have h0 : (y 0 : ℕ) < 1024 := (y 0).isLt
      intro a; revert a; intro (a : Fin 2); fin_cases a
      · show 0 ≤ (y 0 : ℕ) ∧ (y 0 : ℕ) < 0 + 1024; omega
      · show 128 * m ≤ (y 1 : ℕ) ∧ (y 1 : ℕ) < 128 * m + 128; omega
  · by_cases hr : (y 1 : ℕ) < 0
    · exact carAt_early _ _ _ (by omega) (by omega)
    · unfold carAt
      rw [pos_other _ _ _ _ fun hne => hy ?_]
      rw [Rect.mem_set_unit]
      have h0 : (y 1 : ℕ) < 1024 := (y 1).isLt
      have h2 : (y 2 : ℕ) < 128 := (y 2).isLt
      intro a; revert a; intro (a : Fin 3); fin_cases a
      · show m ≤ (y 0 : ℕ) ∧ (y 0 : ℕ) < m + 1; omega
      · show 0 ≤ (y 1 : ℕ) ∧ (y 1 : ℕ) < 0 + 1024; omega
      · show 0 ≤ (y 2 : ℕ) ∧ (y 2 : ℕ) < 0 + 128; omega

end

/-! ## Blocks of 1024 rows -/

section

variable {z : ℕ → ℕ → ℕ → ℝ} {val : ℕ → ℕ → EReal} {B : ℕ}
  {Q : Vec Ideal S1x1024x1024 .bf16} {K V : Vec Ideal S1x4096x1024 .bf16}

/-- What a head's block writes is what the accumulators then hold. -/
theorem piece1024' (hS : Scores Q K V z val) {b m p : ℕ}
    (q : Vec Ideal S1x1024x128 .bf16) (k v : Vec Ideal S1x256x128 .bf16) (cs : FVec Ideal S256x256 .bf16)
    (car : Vec Ideal S1x1024x128 .f32) (acc : Vec Ideal S1024x128 .f32)
    (hm : m < 8) (hp : B + 1024 - 256 * (b + 1) = p) (hb : p + 256 * (b + 1) = B + 1024) (hB : p + 256 ≤ 4096) (hB' : p + 256 ≤ B)
    (hq : ∀ (r : Fin 1024) (d : Fin 128), q (ix3 0 r d) = Q (ix3 0 ⟨0 + r, by omega⟩ ⟨128 * m + (d : ℕ), by omega⟩))
    (hk : ∀ (s : Fin 256) (d : Fin 128), k (ix3 0 s d) = K (ix3 0 ⟨p + s, by omega⟩ ⟨128 * m + (d : ℕ), by omega⟩))
    (hv : ∀ (s : Fin 256) (d : Fin 128), v (ix3 0 s d) = V (ix3 0 ⟨p + s, by omega⟩ ⟨128 * m + (d : ℕ), by omega⟩))
    (hcs : ∀ j s : Fin 256, cs (ix2 j s) = if s < j then 1 else 0)
    (hcar : ∀ (r : Fin 1024) (l : Fin 128), car (ix3 0 r l) = carAt z B b m (ix3 ⟨m, hm⟩ ⟨0 + r, by omega⟩ l))
    (hacc : ∀ (r : Fin 1024) (d : Fin 128), acc (ix2 r d) = accAt z val B b m (ix2 ⟨0 + r, by omega⟩ ⟨128 * m + (d : ℕ), by omega⟩)) :
    (∀ (r : Fin 1024) (d : Fin 128), outs1024 (weights1024 (beta1024 (scores1024 q k)) (subf (beta1024 (scores1024 q k)) (scores1024 q k)) cs car) acc v (ix2 r d) = accAt z val B b (m + 1) (ix2 ⟨0 + r, by omega⟩ ⟨128 * m + (d : ℕ), by omega⟩))
      ∧ ∀ (r : Fin 1024) (l : Fin 128), sums1024 (subf (beta1024 (scores1024 q k)) (scores1024 q k)) car (ix3 0 r l) = carAt z B b (m + 1) (ix3 ⟨m, hm⟩ ⟨0 + r, by omega⟩ l) := by
  have hz : ∀ (r : Fin 1024) (s : Fin 256), ∑ d : Fin 128, q (ix3 0 r d) * k (ix3 0 s d) = (z m (0 + r) (p + s) : EReal) := by
    intro r s
    rw [← hS.dot m (0 + r) (p + s) hm (by omega) (by omega)]
    exact Finset.sum_congr rfl fun d _ => congrArg₂ (· * ·) (hq r d) (hk s d)
  have hpos : pos (B + 1024) b m m = p + 256 := by unfold pos; rw [if_neg (Nat.lt_irrefl m)]; omega
  have hpos' : pos (B + 1024) b (m + 1) m = p := by unfold pos; rw [if_pos (Nat.lt_succ_self m)]; omega
  have hcar' : ∀ (r : Fin 1024) (l : Fin 128), car (ix3 0 r l) = left (z m (0 + r)) (B + (0 + r)) (B + 1024) (p + 256) :=
    fun r l => (hcar r l).trans (congrArg (left (z m (0 + r)) (B + (0 + r)) (B + 1024)) hpos)
  have hdiv : ∀ d : Fin 128, (128 * m + (d : ℕ)) / 128 = m := fun d => by omega
  have e : ∀ (b' m' : ℕ) (r : Fin 1024) (d : Fin 128), accAt z val B b' m' (ix2 ⟨0 + r, by omega⟩ ⟨128 * m + (d : ℕ), by omega⟩)
      = result (z m (0 + r)) (B + (0 + r)) (B + 1024) (fun s => val s (128 * m + d)) (pos (B + 1024) b' m' m) := by
    intro b' m' r d
    show result (z ((128 * m + (d : ℕ)) / 128) (0 + r)) (B + (0 + r)) (B + 1024) (fun s => val s (128 * m + d))
      (pos (B + 1024) b' m' ((128 * m + (d : ℕ)) / 128)) = _
    rw [hdiv]
  constructor
  · intro r d
    rw [e, hpos']
    exact outs1024_head' q k v cs car acc (z m) val B (B + 1024) p 0 (128 * m) (by omega) hB' hz hcs
      (fun s d => (hv s d).trans (hS.val _ _ _ _)) hcar' (fun r d => (hacc r d).trans ((e b m r d).trans (by rw [hpos]))) r d
  · intro r l
    refine (sums1024_head' q k car (z m) B (B + 1024) p 0 (by omega) hB' hz hcar' r l).trans ?_
    exact congrArg (left (z m (0 + r)) (B + (0 + r)) (B + 1024)) hpos'.symm

end

end Cert.SbIdeal.Attn

end
-- ==== Proof.SbLoop.lean ====
/- The blocks of keys before a tile's own: each trip takes one more block into every head's result and carried sum. -/
module

public import proofs.«01_k».proof.Proof.SbSteps
public import proofs.«01_k».proof.Proof.Gen.SbIdeal.Value

@[expose] public section

set_option maxRecDepth 16384

noncomputable section

namespace Cert.SbIdeal.Attn

open Cert.SbIdeal Cert.SbIdeal.Gen
open Idealize.ShloMosaic Idealize.ShloMosaic.TcCoe Idealize.ShloMosaic.Tactic
open Cert.Stick

variable {z : ℕ → ℕ → ℕ → ℝ} {val : ℕ → ℕ → EReal} {B : ℕ}
  {Q : Vec Ideal S1x1024x1024 .bf16} {K V : Vec Ideal S1x4096x1024 .bf16}

/-- Contents of the accumulators once `b` blocks of keys have gone by. -/
structure Holds (z : ℕ → ℕ → ℕ → ℝ) (val : ℕ → ℕ → EReal) (B b : ℕ) (A : View sig .tc .vmem S1024x1024 .f32) (C : View sig .tc .vmem S8x1024x128 .f32)
    (f : A.ty.Contents (Elt Ideal)) (g : C.ty.Contents (Elt Ideal)) : Prop where
  acc : ∀ y, A.read (Elt Ideal) f y = accAt z val B b 0 y
  car : ∀ y, C.read (Elt Ideal) g y = carAt z B b 0 y

theorem accAt_head (b m : ℕ) (y : S1024x1024.Idx) (hy : (y 1 : ℕ) / 128 = m) : accAt z val B b 0 y = accAt z val B b m y := by
  unfold accAt pos; rw [hy, if_neg (Nat.not_lt_zero m), if_neg (Nat.lt_irrefl m)]

theorem accAt_head' (b m : ℕ) (y : S1024x1024.Idx) (hy : (y 1 : ℕ) / 128 = m) : accAt z val B b (m + 1) y = accAt z val B (b + 1) 0 y := by
  unfold accAt pos; rw [hy, if_neg (Nat.not_lt_zero m), if_pos (Nat.lt_succ_self m)]

theorem carAt_head (b m : ℕ) (y : S8x1024x128.Idx) (hy : (y 0 : ℕ) = m) : carAt z B b 0 y = carAt z B b m y := by
  unfold carAt pos; rw [hy, if_neg (Nat.not_lt_zero m), if_neg (Nat.lt_irrefl m)]

theorem carAt_head' (b m : ℕ) (y : S8x1024x128.Idx) (hy : (y 0 : ℕ) = m) : carAt z B b (m + 1) y = carAt z B (b + 1) 0 y := by
  unfold carAt pos; rw [hy, if_neg (Nat.not_lt_zero m), if_pos (Nat.lt_succ_self m)]

/-- One head's part of a trip. -/
theorem head (hS : Scores Q K V z val) {b m o p : ℕ}
    (q : Memref sig .tc .vmem S1x1024x1024 .bf16) (wq : q.IsWhole)
    (k : Memref sig .tc .vmem S1x4096x1024 .bf16) (wk : k.IsWhole)
    (v : Memref sig .tc .vmem S1x4096x1024 .bf16) (wv : v.IsWhole)
    (A : View sig .tc .vmem S1024x1024 .f32) (C : View sig .tc .vmem S8x1024x128 .f32)
    {f : A.ty.Contents (Elt Ideal)} {g : C.ty.Contents (Elt Ideal)}
    {cs : FVec Ideal S256x256 .bf16} {offk : Fin 3 → ℕ} {inbq inbk inb inb'}
    (h : Holds z val B b A C f g)
    (hm : m < 8) (ho : o = 128 * m) (hb : p + 256 * (b + 1) = B + 1024) (hb' : 4 ≤ b) (hB : B + 1024 ≤ 4096)
    (hoff : offk = ![0, p, o])
    (hcs : ∀ j s : Fin 256, cs (ix2 j s) = if s < j then 1 else 0) :
    (∀ x, outs1024 (weights1024 (beta1024 (scores1024
            (View.readAt (Elt Ideal) q.view (Rect.unit (s := S1x1024x1024) ![0, 0, o] S1x1024x128.size inbq).toLoadRect (wq.unread Q))
            (View.readAt (Elt Ideal) k.view (Rect.unit (s := S1x4096x1024) offk S1x256x128.size inbk).toLoadRect (wk.unread K))))
          (subf (beta1024 (scores1024
            (View.readAt (Elt Ideal) q.view (Rect.unit (s := S1x1024x1024) ![0, 0, o] S1x1024x128.size inbq).toLoadRect (wq.unread Q))
            (View.readAt (Elt Ideal) k.view (Rect.unit (s := S1x4096x1024) offk S1x256x128.size inbk).toLoadRect (wk.unread K)))) (scores1024
            (View.readAt (Elt Ideal) q.view (Rect.unit (s := S1x1024x1024) ![0, 0, o] S1x1024x128.size inbq).toLoadRect (wq.unread Q))
            (View.readAt (Elt Ideal) k.view (Rect.unit (s := S1x4096x1024) offk S1x256x128.size inbk).toLoadRect (wk.unread K))))
          cs (View.readAt (Elt Ideal) C (Rect.unit (s := S8x1024x128) ![m, 0, 0] S1x1024x128.size inb').toLoadRect g))
        (View.readAt (Elt Ideal) A (Rect.unit (s := S1024x1024) ![0, o] S1024x128.size inb).toLoadRect f)
        (View.readAt (Elt Ideal) v.view (Rect.unit (s := S1x4096x1024) offk S1x256x128.size inbk).toLoadRect (wv.unread V)) x
        = accAt z val B (b + 1) 0 ((Rect.unit (s := S1024x1024) ![0, o] S1024x128.size inb).emb x))
      ∧ ∀ x, sums1024 (subf (beta1024 (scores1024
            (View.readAt (Elt Ideal) q.view (Rect.unit (s := S1x1024x1024) ![0, 0, o] S1x1024x128.size inbq).toLoadRect (wq.unread Q))
            (View.readAt (Elt Ideal) k.view (Rect.unit (s := S1x4096x1024) offk S1x256x128.size inbk).toLoadRect (wk.unread K)))) (scores1024
            (View.readAt (Elt Ideal) q.view (Rect.unit (s := S1x1024x1024) ![0, 0, o] S1x1024x128.size inbq).toLoadRect (wq.unread Q))
            (View.readAt (Elt Ideal) k.view (Rect.unit (s := S1x4096x1024) offk S1x256x128.size inbk).toLoadRect (wk.unread K))))
          (View.readAt (Elt Ideal) C (Rect.unit (s := S8x1024x128) ![m, 0, 0] S1x1024x128.size inb').toLoadRect g) x
        = carAt z B (b + 1) 0 ((Rect.unit (s := S8x1024x128) ![m, 0, 0] S1x1024x128.size inb').emb x) := by
  subst ho
  have hpc := piece1024' hS (b := b) (m := m) (p := p)
    (View.readAt (Elt Ideal) q.view (Rect.unit (s := S1x1024x1024) ![0, 0, 128 * m] S1x1024x128.size inbq).toLoadRect (wq.unread Q))
    (View.readAt (Elt Ideal) k.view (Rect.unit (s := S1x4096x1024) offk S1x256x128.size inbk).toLoadRect (wk.unread K))
    (View.readAt (Elt Ideal) v.view (Rect.unit (s := S1x4096x1024) offk S1x256x128.size inbk).toLoadRect (wv.unread V))
    cs (View.readAt (Elt Ideal) C (Rect.unit (s := S8x1024x128) ![m, 0, 0] S1x1024x128.size inb').toLoadRect g)
    (View.readAt (Elt Ideal) A (Rect.unit (s := S1024x1024) ![0, 128 * m] S1024x128.size inb).toLoadRect f)
    hm (by omega) hb (by omega) (by omega)
    (fun r d => read_queries1024 q wq Q _ _ _ r d _ _) (fun s d => read_keys k wk K _ _ _ hoff _ s d _ _)
    (fun s d => read_keys v wv V _ _ _ hoff _ s d _ _) hcs
    (fun r l => by
      rw [View.readAt_eq_ld, View.ld_apply, h.car]
      refine (congrArg (carAt z B b 0) ?_).trans (carAt_head b m _ rfl)
      funext a; refine Fin.ext ((Rect.idx_unit_val _ _ _ _ a).trans ?_)
      revert a; intro (a : Fin 3); fin_cases a
      · exact Nat.add_zero m
      · rfl
      · exact Nat.zero_add _)
    (fun r d => by
      rw [View.readAt_eq_ld, View.ld_apply, h.acc]
      refine (congrArg (accAt z val B b 0) ?_).trans (accAt_head b m _ ?_)
      · funext a; refine Fin.ext ((Rect.idx_unit_val _ _ _ _ a).trans ?_)
        revert a; intro (a : Fin 2); fin_cases a <;> rfl
      · show (128 * m + (d : ℕ)) / 128 = m; omega)
  constructor
  · intro x
    rw [eq_ix2 x]
    refine (hpc.1 _ _).trans ((accAt_head' b m _ ?_).trans (congrArg (accAt z val B (b + 1) 0) ?_))
    · have := (x 1).isLt
      show (128 * m + (x 1 : ℕ)) / 128 = m
      have h1 : (x 1 : ℕ) < 128 := (x 1).isLt
      omega
    funext a; refine Fin.ext (Eq.trans ?_ (Rect.idx_unit_val _ _ inb _ a).symm)
    revert a; intro (a : Fin 2); fin_cases a <;> rfl
  · intro x
    rw [eq_ix3 x]
    refine (hpc.2 _ _).trans ((carAt_head' b m _ rfl).trans (congrArg (carAt z B (b + 1) 0) ?_))
    funext a; refine Fin.ext (Eq.trans ?_ (Rect.idx_unit_val _ _ inb' _ a).symm)
    revert a; intro (a : Fin 3); fin_cases a
    · exact (Nat.add_zero m).symm
    · rfl
    · exact (Nat.zero_add _).symm

theorem coords_2 (i : grid0.Coords) : (i 2 : ℕ) < 4 := (i 2).isLt

theorem trips_1 (i : grid0.Coords) : (k0_t1_loop i).trips = 4 * (i 2 : ℕ) := by
  have h : ∀ x : Fin 4, (Scf.trips 0#32 (Scalar.addi 0#32 (Scalar.muli (Scalar.divsi (Scalar.subi (Scalar.muli (BitVec.ofNat 32 x.val) 4#32) 0#32) 1#32) 1#32)) 1#32) = 4 * (x : ℕ) := by decide +kernel
  exact h (i 2)

theorem trips_2 (i : grid0.Coords) : (k0_t2_loop i).trips = 0 := by
  have h : ∀ x : Fin 4, (let y := Scalar.addi 0#32 (Scalar.muli (Scalar.divsi (Scalar.subi (Scalar.muli (BitVec.ofNat 32 x.val) 4#32) 0#32) 1#32) 1#32); Scf.trips y (Scalar.addi 0#32 (Scalar.subi (Scalar.muli (BitVec.ofNat 32 x.val) 4#32) 0#32)) 1#32) = 0 := by decide +kernel
  exact h (i 2)

theorem row_before : ∀ (x : Fin 4) (t : Fin 12), (t : ℕ) < 4 * (x : ℕ) →
    (Scalar.muli (Scalar.subi (Scalar.subi (Scalar.muli (BitVec.ofNat 32 x.val) 4#32) 1#32) (Scf.iv 0#32 1#32 t.val)) 256#32).toNat
      = (4 * (x : ℕ) - 1 - (t : ℕ)) * 256 := by decide +kernel

theorem row_before' (i : grid0.Coords) (t : Fin (k0_t1_loop i).trips) :
    (Scalar.muli (Scalar.subi (Scalar.subi (Scalar.muli (BitVec.ofNat 32 (i 2).val) 4#32) 1#32) (Scf.iv 0#32 1#32 t)) 256#32).toNat
      = (4 * (i 2 : ℕ) - 1 - (t : ℕ)) * 256 := by
  have h0 : (t : ℕ) < 4 * (i 2 : ℕ) := (trips_1 i) ▸ t.isLt
  have h2 := coords_2 i
  exact row_before (i 2) ⟨t, by omega⟩ h0

theorem row_own : ∀ (x d : Fin 4),
    (Scalar.muli (Scalar.subi (Scalar.subi (Scalar.muli (Scalar.addi (BitVec.ofNat 32 x.val) 1#32) 4#32) 1#32) (BitVec.ofNat 32 d.val)) 256#32).toNat
      = 1024 * (x : ℕ) + (768 - 256 * (d : ℕ)) := by decide +kernel

theorem off_9 (i : grid0.Coords) (t : Fin (k0_t1_loop i).trips) : k0_off9 i t = ![0, (4 * (i 2 : ℕ) - 1 - (t : ℕ)) * 256, 0] :=
  congrArg (fun p => (![0, p, 0] : Fin 3 → ℕ)) (row_before' i t)

theorem off_10 (i : grid0.Coords) (t : Fin (k0_t1_loop i).trips) : k0_off10 i t = ![0, (4 * (i 2 : ℕ) - 1 - (t : ℕ)) * 256, 128] :=
  congrArg (fun p => (![0, p, 128] : Fin 3 → ℕ)) (row_before' i t)

theorem off_11 (i : grid0.Coords) (t : Fin (k0_t1_loop i).trips) : k0_off11 i t = ![0, (4 * (i 2 : ℕ) - 1 - (t : ℕ)) * 256, 256] :=
  congrArg (fun p => (![0, p, 256] : Fin 3 → ℕ)) (row_before' i t)

theorem off_12 (i : grid0.Coords) (t : Fin (k0_t1_loop i).trips) : k0_off12 i t = ![0, (4 * (i 2 : ℕ) - 1 - (t : ℕ)) * 256, 384] :=
  congrArg (fun p => (![0, p, 384] : Fin 3 → ℕ)) (row_before' i t)

theorem off_13 (i : grid0.Coords) (t : Fin (k0_t1_loop i).trips) : k0_off13 i t = ![0, (4 * (i 2 : ℕ) - 1 - (t : ℕ)) * 256, 512] :=
  congrArg (fun p => (![0, p, 512] : Fin 3 → ℕ)) (row_before' i t)

theorem off_14 (i : grid0.Coords) (t : Fin (k0_t1_loop i).trips) : k0_off14 i t = ![0, (4 * (i 2 : ℕ) - 1 - (t : ℕ)) * 256, 640] :=
  congrArg (fun p => (![0, p, 640] : Fin 3 → ℕ)) (row_before' i t)

theorem off_15 (i : grid0.Coords) (t : Fin (k0_t1_loop i).trips) : k0_off15 i t = ![0, (4 * (i 2 : ℕ) - 1 - (t : ℕ)) * 256, 768] :=
  congrArg (fun p => (![0, p, 768] : Fin 3 → ℕ)) (row_before' i t)

theorem off_16 (i : grid0.Coords) (t : Fin (k0_t1_loop i).trips) : k0_off16 i t = ![0, (4 * (i 2 : ℕ) - 1 - (t : ℕ)) * 256, 896] :=
  congrArg (fun p => (![0, p, 896] : Fin 3 → ℕ)) (row_before' i t)

theorem off_1 (i : grid0.Coords) (d : Fin 4) : k0_off1 i (BitVec.ofNat 32 d.val) = ![0, 1024 * (i 2 : ℕ) + (768 - 256 * (d : ℕ)), 0] :=
  congrArg (fun p => (![0, p, 0] : Fin 3 → ℕ)) (row_own (i 2) d)

theorem off_2 (i : grid0.Coords) (d : Fin 4) : k0_off2 i (BitVec.ofNat 32 d.val) = ![0, 1024 * (i 2 : ℕ) + (768 - 256 * (d : ℕ)), 128] :=
  congrArg (fun p => (![0, p, 128] : Fin 3 → ℕ)) (row_own (i 2) d)

theorem off_3 (i : grid0.Coords) (d : Fin 4) : k0_off3 i (BitVec.ofNat 32 d.val) = ![0, 1024 * (i 2 : ℕ) + (768 - 256 * (d : ℕ)), 256] :=
  congrArg (fun p => (![0, p, 256] : Fin 3 → ℕ)) (row_own (i 2) d)

theorem off_4 (i : grid0.Coords) (d : Fin 4) : k0_off4 i (BitVec.ofNat 32 d.val) = ![0, 1024 * (i 2 : ℕ) + (768 - 256 * (d : ℕ)), 384] :=
  congrArg (fun p => (![0, p, 384] : Fin 3 → ℕ)) (row_own (i 2) d)

theorem off_5 (i : grid0.Coords) (d : Fin 4) : k0_off5 i (BitVec.ofNat 32 d.val) = ![0, 1024 * (i 2 : ℕ) + (768 - 256 * (d : ℕ)), 512] :=
  congrArg (fun p => (![0, p, 512] : Fin 3 → ℕ)) (row_own (i 2) d)

theorem off_6 (i : grid0.Coords) (d : Fin 4) : k0_off6 i (BitVec.ofNat 32 d.val) = ![0, 1024 * (i 2 : ℕ) + (768 - 256 * (d : ℕ)), 640] :=
  congrArg (fun p => (![0, p, 640] : Fin 3 → ℕ)) (row_own (i 2) d)

theorem off_7 (i : grid0.Coords) (d : Fin 4) : k0_off7 i (BitVec.ofNat 32 d.val) = ![0, 1024 * (i 2 : ℕ) + (768 - 256 * (d : ℕ)), 768] :=
  congrArg (fun p => (![0, p, 768] : Fin 3 → ℕ)) (row_own (i 2) d)

theorem off_8 (i : grid0.Coords) (d : Fin 4) : k0_off8 i (BitVec.ofNat 32 d.val) = ![0, 1024 * (i 2 : ℕ) + (768 - 256 * (d : ℕ)), 896] :=
  congrArg (fun p => (![0, p, 896] : Fin 3 → ℕ)) (row_own (i 2) d)

/-- What is read after writes that cover all and each write what a function says. -/
theorem read_of_pieces {S : Shape} {e : EltTy} (v : View sig .tc .vmem S e) (f : v.ty.Contents (Elt Ideal)) (L : List (View.Piece (Elt Ideal) S e))
    (G : S.Idx → Elt Ideal e) (h : ∀ p ∈ L, ∀ x : p.1.shape.Idx, p.2 x = G (p.1.emb x)) (hc : ∀ y, ∃ p ∈ L, y ∈ p.1.set) (y : S.Idx) :
    v.read (Elt Ideal) (v.writes (Elt Ideal) f L) y = G y :=
  (congrFun (View.read_writes_eq_canon v f L hc) y).trans (View.canon_apply_of_pieces G L h y (hc y))

section

variable (c : Dev nD) (i : grid0.Coords)
  (q : Memref sig .tc .vmem S1x1024x1024 .bf16) (hq : q.IsWhole)
  (k : Memref sig .tc .vmem S1x4096x1024 .bf16) (hk : k.IsWhole)
  (v : Memref sig .tc .vmem S1x4096x1024 .bf16) (hv : v.IsWhole)
  (cs : Memref sig .tc .vmem S256x256 .bf16) (hcs : cs.IsWhole)
  (o : Memref sig .tc .vmem S1x1024x1024 .bf16) (ho : o.IsWhole)
  (A : Memref sig .tc .vmem S1024x1024 .f32) (hA : A.IsWhole)
  (C : Memref sig .tc .vmem S8x1024x128 .f32) (hC : C.IsWhole)
  (w : BitVec 32) (U : FVec Ideal S256x256 .bf16)

/-- One trip. -/
theorem trip_holds (hS : Scores Q K V z val) (hU : ∀ j s : Fin 256, U (ix2 j s) = if s < j then 1 else 0)
    (t : Fin (k0_t1_loop i).trips) (f : A.view.ty.Contents (Elt Ideal)) (g : C.view.ty.Contents (Elt Ideal))
    (h : Holds z val (1024 * (i 2 : ℕ)) (4 + t) A.view C.view f g) :
    Holds z val (1024 * (i 2 : ℕ)) (4 + t + 1) A.view C.view
      (A.view.writes (Elt Ideal) f (tripL_k0_t1 (F := Ideal) Variants.none c none i q hq k hk v hv cs hcs o ho A hA C hC w U (hq.unread Q) (hk.unread K) (hv.unread V) t f g).1)
      (C.view.writes (Elt Ideal) g (tripL_k0_t1 (F := Ideal) Variants.none c none i q hq k hk v hv cs hcs o ho A hA C hC w U (hq.unread Q) (hk.unread K) (hv.unread V) t f g).2) := by
  have h2 := coords_2 i
  have h3 : (t : ℕ) < 4 * (i 2 : ℕ) := (trips_1 i) ▸ t.isLt
  have H0 := fun inbq inbk inb inb' => head hS (b := 4 + t) (m := 0) (o := 0) (p := (4 * (i 2 : ℕ) - 1 - (t : ℕ)) * 256) (inbq := inbq) (inbk := inbk) (inb := inb) (inb' := inb') q hq k hk v hv A.view C.view h
    (by omega) rfl (by omega) (by omega) (by omega) (off_9 i t) hU
  have H1 := fun inbq inbk inb inb' => head hS (b := 4 + t) (m := 1) (o := 128) (p := (4 * (i 2 : ℕ) - 1 - (t : ℕ)) * 256) (inbq := inbq) (inbk := inbk) (inb := inb) (inb' := inb') q hq k hk v hv A.view C.view h
    (by omega) rfl (by omega) (by omega) (by omega) (off_10 i t) hU
  have H2 := fun inbq inbk inb inb' => head hS (b := 4 + t) (m := 2) (o := 256) (p := (4 * (i 2 : ℕ) - 1 - (t : ℕ)) * 256) (inbq := inbq) (inbk := inbk) (inb := inb) (inb' := inb') q hq k hk v hv A.view C.view h
    (by omega) rfl (by omega) (by omega) (by omega) (off_11 i t) hU
  have H3 := fun inbq inbk inb inb' => head hS (b := 4 + t) (m := 3) (o := 384) (p := (4 * (i 2 : ℕ) - 1 - (t : ℕ)) * 256) (inbq := inbq) (inbk := inbk) (inb := inb) (inb' := inb') q hq k hk v hv A.view C.view h
    (by omega) rfl (by omega) (by omega) (by omega) (off_12 i t) hU
  have H4 := fun inbq inbk inb inb' => head hS (b := 4 + t) (m := 4) (o := 512) (p := (4 * (i 2 : ℕ) - 1 - (t : ℕ)) * 256) (inbq := inbq) (inbk := inbk) (inb := inb) (inb' := inb') q hq k hk v hv A.view C.view h
    (by omega) rfl (by omega) (by omega) (by omega) (off_13 i t) hU
  have H5 := fun inbq inbk inb inb' => head hS (b := 4 + t) (m := 5) (o := 640) (p := (4 * (i 2 : ℕ) - 1 - (t : ℕ)) * 256) (inbq := inbq) (inbk := inbk) (inb := inb) (inb' := inb') q hq k hk v hv A.view C.view h
    (by omega) rfl (by omega) (by omega) (by omega) (off_14 i t) hU
  have H6 := fun inbq inbk inb inb' => head hS (b := 4 + t) (m := 6) (o := 768) (p := (4 * (i 2 : ℕ) - 1 - (t : ℕ)) * 256) (inbq := inbq) (inbk := inbk) (inb := inb) (inb' := inb') q hq k hk v hv A.view C.view h
    (by omega) rfl (by omega) (by omega) (by omega) (off_15 i t) hU
  have H7 := fun inbq inbk inb inb' => head hS (b := 4 + t) (m := 7) (o := 896) (p := (4 * (i 2 : ℕ) - 1 - (t : ℕ)) * 256) (inbq := inbq) (inbk := inbk) (inb := inb) (inb' := inb') q hq k hk v hv A.view C.view h
    (by omega) rfl (by omega) (by omega) (by omega) (off_16 i t) hU
  unfold tripL_k0_t1 trip_k0_t1
  dsimp only
  sl_unfold_words
  refine ⟨read_of_pieces A.view f _ (accAt z val (1024 * (i 2 : ℕ)) (4 + t + 1) 0) (List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_,  List.forall_mem_nil _⟩⟩⟩⟩⟩⟩⟩⟩)
      (View.cover_of_tiledL _ ![1024, 128] (by sl_kernel_rfl)),
    read_of_pieces C.view g _ (carAt z (1024 * (i 2 : ℕ)) (4 + t + 1) 0) (List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_,  List.forall_mem_nil _⟩⟩⟩⟩⟩⟩⟩⟩)
      (View.cover_of_tiledL _ ![1, 1024, 128] (by sl_kernel_rfl))⟩
  · exact (H7 _ _ _ inb_S8x1024x128_S1x1024x128_7_0_0).1
  · exact (H6 _ _ _ inb_S8x1024x128_S1x1024x128_6_0_0).1
  · exact (H5 _ _ _ inb_S8x1024x128_S1x1024x128_5_0_0).1
  · exact (H4 _ _ _ inb_S8x1024x128_S1x1024x128_4_0_0).1
  · exact (H3 _ _ _ inb_S8x1024x128_S1x1024x128_3_0_0).1
  · exact (H2 _ _ _ inb_S8x1024x128_S1x1024x128_2_0_0).1
  · exact (H1 _ _ _ inb_S8x1024x128_S1x1024x128_1_0_0).1
  · exact (H0 _ _ _ inb_S8x1024x128_S1x1024x128_0_0_0).1
  · exact (H7 _ _ inb_S1024x1024_S1024x128_0_896 _).2
  · exact (H6 _ _ inb_S1024x1024_S1024x128_0_768 _).2
  · exact (H5 _ _ inb_S1024x1024_S1024x128_0_640 _).2
  · exact (H4 _ _ inb_S1024x1024_S1024x128_0_512 _).2
  · exact (H3 _ _ inb_S1024x1024_S1024x128_0_384 _).2
  · exact (H2 _ _ inb_S1024x1024_S1024x128_0_256 _).2
  · exact (H1 _ _ inb_S1024x1024_S1024x128_0_128 _).2
  · exact (H0 _ _ inb_S1024x1024_S1024x128_0_0 _).2

/-- Before the first trip, and after any number of them. -/
theorem trips_hold (hS : Scores Q K V z val) (hU : ∀ j s : Fin 256, U (ix2 j s) = if s < j then 1 else 0)
    (f : A.view.ty.Contents (Elt Ideal)) (g : C.view.ty.Contents (Elt Ideal))
    (h : Holds z val (1024 * (i 2 : ℕ)) 4 A.view C.view f g) :
    ∀ n : ℕ, n ≤ (k0_t1_loop i).trips → Holds z val (1024 * (i 2 : ℕ)) (4 + n) A.view C.view
      (A.view.writes (Elt Ideal) f (pb_k0_t1 (F := Ideal) Variants.none c none i q hq k hk v hv cs hcs o ho A hA C hC w U (hq.unread Q) (hk.unread K) (hv.unread V) f g n).1)
      (C.view.writes (Elt Ideal) g (pb_k0_t1 (F := Ideal) Variants.none c none i q hq k hk v hv cs hcs o ho A hA C hC w U (hq.unread Q) (hk.unread K) (hv.unread V) f g n).2)
  | 0, _ => by rw [pb_k0_t1.eq_1]; exact h
  | n + 1, hn => by
    have ih := trips_hold hS hU f g h n (Nat.le_of_succ_le hn)
    have e := pb_k0_t1_succ (F := Ideal) Variants.none c none i q hq k hk v hv cs hcs o ho A hA C hC w U (hq.unread Q) (hk.unread K) (hv.unread V) f g ⟨n, hn⟩
    rw [e, View.writes_append, View.writes_append]
    exact trip_holds c i q hq k hk v hv cs hcs o ho A hA C hC w U hS hU ⟨n, hn⟩ _ _ ih

end

end Cert.SbIdeal.Attn

end
-- ==== Proof.SbPoint.lean ====
/- What a grid point leaves in its tile of the attention's result. -/
module

public import proofs.«01_k».proof.Proof.SbLoop
public import Idealize.ShloMosaic.Lib.Pipeline.ValueKit

@[expose] public section

set_option maxRecDepth 16384

noncomputable section

namespace Cert.SbIdeal.Attn

open Cert.SbIdeal Cert.SbIdeal.Gen
open Idealize.ShloMosaic Idealize.ShloMosaic.TcCoe Idealize.ShloMosaic.Tactic
open Cert.Stick

variable {z : ℕ → ℕ → ℕ → ℝ} {val : ℕ → ℕ → EReal} {B : ℕ}
  {Q : Vec Ideal S1x1024x1024 .bf16} {K V : Vec Ideal S1x4096x1024 .bf16} {C : Vec Ideal S256x256 .bf16}

/-- Small signed words compare as numbers. -/
theorem slt_small (a b : ℕ) (u w : BitVec 32) (hu : a + u.toNat < 2 ^ 31) (hw : b + w.toNat < 2 ^ 31) :
    (if BitVec.slt (BitVec.ofNat 32 a + u) (BitVec.ofNat 32 b + w) then 1#1 else 0#1) = if u.toNat + a < w.toNat + b then 1#1 else 0#1 := by
  have e1 : (BitVec.ofNat 32 a + u).toNat = u.toNat + a := by
    rw [BitVec.toNat_add, BitVec.toNat_ofNat]; omega
  have e2 : (BitVec.ofNat 32 b + w).toNat = w.toNat + b := by
    rw [BitVec.toNat_add, BitVec.toNat_ofNat]; omega
  rw [BitVec.slt_eq_decide, BitVec.toInt_eq_toNat_of_lt (by omega), BitVec.toInt_eq_toNat_of_lt (by omega), e1, e2]
  simp only [decide_eq_true_eq, Nat.cast_lt]

theorem ofBool_if (b : Bool) : BitVec.ofBool b = if b = true then 1#1 else 0#1 := by cases b <;> rfl

theorem tile_row : ∀ (x d : Fin 4), (Scalar.addi (Scalar.muli (BitVec.ofNat 32 x.val) 1024#32) (BitVec.ofNat 32 (768 - 256 * d.val))).toNat
    = 1024 * (x : ℕ) + (768 - 256 * (d : ℕ)) := by decide +kernel

theorem mask256 (i : grid0.Coords) (h h') (r : Fin 256) (s : Fin 256) :
    cmpi .slt (addi (iota .tc S256x256 32 [1] h) (broadcast S256x256 (Scalar.muli (Scalar.subi (Scalar.subi (Scalar.muli (Scalar.addi (BitVec.ofNat 32 (i 2).val) 1#32) 4#32) 1#32) 0#32) 256#32)))
        (addi (iota .tc S256x256 32 [0] h') (broadcast S256x256 (Scalar.addi (Scalar.muli (BitVec.ofNat 32 (i 2).val) 1024#32) 768#32))) (ix2 r s)
      = if 1024 * (i 2 : ℕ) + 768 + (s : ℕ) < 1024 * (i 2 : ℕ) + (768 + (r : ℕ)) then 1#1 else 0#1 := by
  have h2 := coords_2 i
  have e1 := row_own (i 2) ⟨0, by omega⟩
  have e2 := tile_row (i 2) ⟨0, by omega⟩
  simp only [Nat.reduceMul, Nat.reduceSub] at e1 e2
  refine Eq.trans ?_ ((slt_small s r _ _ (by rw [e1]; omega) (by rw [e2]; omega)).trans (by rw [e1, e2, Nat.add_assoc (1024 * (i 2 : ℕ)) 768 r]))
  pointwise
  exact ofBool_if _

theorem mask512 (i : grid0.Coords) (h h') (r : Fin 512) (s : Fin 256) :
    cmpi .slt (addi (iota .tc S512x256 32 [1] h) (broadcast S512x256 (Scalar.muli (Scalar.subi (Scalar.subi (Scalar.muli (Scalar.addi (BitVec.ofNat 32 (i 2).val) 1#32) 4#32) 1#32) 1#32) 256#32)))
        (addi (iota .tc S512x256 32 [0] h') (broadcast S512x256 (Scalar.addi (Scalar.muli (BitVec.ofNat 32 (i 2).val) 1024#32) 512#32))) (ix2 r s)
      = if 1024 * (i 2 : ℕ) + 512 + (s : ℕ) < 1024 * (i 2 : ℕ) + (512 + (r : ℕ)) then 1#1 else 0#1 := by
  have h2 := coords_2 i
  have e1 := row_own (i 2) ⟨1, by omega⟩
  have e2 := tile_row (i 2) ⟨1, by omega⟩
  simp only [Nat.reduceMul, Nat.reduceSub] at e1 e2
  refine Eq.trans ?_ ((slt_small s r _ _ (by rw [e1]; omega) (by rw [e2]; omega)).trans (by rw [e1, e2, Nat.add_assoc (1024 * (i 2 : ℕ)) 512 r]))
  pointwise
  exact ofBool_if _

theorem mask768 (i : grid0.Coords) (h h') (r : Fin 768) (s : Fin 256) :
    cmpi .slt (addi (iota .tc S768x256 32 [1] h) (broadcast S768x256 (Scalar.muli (Scalar.subi (Scalar.subi (Scalar.muli (Scalar.addi (BitVec.ofNat 32 (i 2).val) 1#32) 4#32) 1#32) 2#32) 256#32)))
        (addi (iota .tc S768x256 32 [0] h') (broadcast S768x256 (Scalar.addi (Scalar.muli (BitVec.ofNat 32 (i 2).val) 1024#32) 256#32))) (ix2 r s)
      = if 1024 * (i 2 : ℕ) + 256 + (s : ℕ) < 1024 * (i 2 : ℕ) + (256 + (r : ℕ)) then 1#1 else 0#1 := by
  have h2 := coords_2 i
  have e1 := row_own (i 2) ⟨2, by omega⟩
  have e2 := tile_row (i 2) ⟨2, by omega⟩
  simp only [Nat.reduceMul, Nat.reduceSub] at e1 e2
  refine Eq.trans ?_ ((slt_small s r _ _ (by rw [e1]; omega) (by rw [e2]; omega)).trans (by rw [e1, e2, Nat.add_assoc (1024 * (i 2 : ℕ)) 256 r]))
  pointwise
  exact ofBool_if _

theorem mask1024 (i : grid0.Coords) (h h') (r : Fin 1024) (s : Fin 256) :
    cmpi .slt (addi (iota .tc S1024x256 32 [1] h) (broadcast S1024x256 (Scalar.muli (Scalar.subi (Scalar.subi (Scalar.muli (Scalar.addi (BitVec.ofNat 32 (i 2).val) 1#32) 4#32) 1#32) 3#32) 256#32)))
        (addi (iota .tc S1024x256 32 [0] h') (broadcast S1024x256 (Scalar.addi (Scalar.muli (BitVec.ofNat 32 (i 2).val) 1024#32) 0#32))) (ix2 r s)
      = if 1024 * (i 2 : ℕ) + 0 + (s : ℕ) < 1024 * (i 2 : ℕ) + (0 + (r : ℕ)) then 1#1 else 0#1 := by
  have h2 := coords_2 i
  have e1 := row_own (i 2) ⟨3, by omega⟩
  have e2 := tile_row (i 2) ⟨3, by omega⟩
  simp only [Nat.reduceMul, Nat.reduceSub] at e1 e2
  refine Eq.trans ?_ ((slt_small s r _ _ (by rw [e1]; omega) (by rw [e2]; omega)).trans (by rw [e1, e2, Nat.add_assoc (1024 * (i 2 : ℕ)) 0 r]))
  pointwise
  exact ofBool_if _

theorem own_0_0 (i : grid0.Coords) : k0_off1 i 0#32 = ![0, 1024 * (i 2 : ℕ) + 768, 0] := off_1 i ⟨0, by omega⟩
theorem own_0_1 (i : grid0.Coords) : k0_off2 i 0#32 = ![0, 1024 * (i 2 : ℕ) + 768, 128] := off_2 i ⟨0, by omega⟩
theorem own_0_2 (i : grid0.Coords) : k0_off3 i 0#32 = ![0, 1024 * (i 2 : ℕ) + 768, 256] := off_3 i ⟨0, by omega⟩
theorem own_0_3 (i : grid0.Coords) : k0_off4 i 0#32 = ![0, 1024 * (i 2 : ℕ) + 768, 384] := off_4 i ⟨0, by omega⟩
theorem own_0_4 (i : grid0.Coords) : k0_off5 i 0#32 = ![0, 1024 * (i 2 : ℕ) + 768, 512] := off_5 i ⟨0, by omega⟩
theorem own_0_5 (i : grid0.Coords) : k0_off6 i 0#32 = ![0, 1024 * (i 2 : ℕ) + 768, 640] := off_6 i ⟨0, by omega⟩
theorem own_0_6 (i : grid0.Coords) : k0_off7 i 0#32 = ![0, 1024 * (i 2 : ℕ) + 768, 768] := off_7 i ⟨0, by omega⟩
theorem own_0_7 (i : grid0.Coords) : k0_off8 i 0#32 = ![0, 1024 * (i 2 : ℕ) + 768, 896] := off_8 i ⟨0, by omega⟩
theorem own_1_0 (i : grid0.Coords) : k0_off1 i 1#32 = ![0, 1024 * (i 2 : ℕ) + 512, 0] := off_1 i ⟨1, by omega⟩
theorem own_1_1 (i : grid0.Coords) : k0_off2 i 1#32 = ![0, 1024 * (i 2 : ℕ) + 512, 128] := off_2 i ⟨1, by omega⟩
theorem own_1_2 (i : grid0.Coords) : k0_off3 i 1#32 = ![0, 1024 * (i 2 : ℕ) + 512, 256] := off_3 i ⟨1, by omega⟩
theorem own_1_3 (i : grid0.Coords) : k0_off4 i 1#32 = ![0, 1024 * (i 2 : ℕ) + 512, 384] := off_4 i ⟨1, by omega⟩
theorem own_1_4 (i : grid0.Coords) : k0_off5 i 1#32 = ![0, 1024 * (i 2 : ℕ) + 512, 512] := off_5 i ⟨1, by omega⟩
theorem own_1_5 (i : grid0.Coords) : k0_off6 i 1#32 = ![0, 1024 * (i 2 : ℕ) + 512, 640] := off_6 i ⟨1, by omega⟩
theorem own_1_6 (i : grid0.Coords) : k0_off7 i 1#32 = ![0, 1024 * (i 2 : ℕ) + 512, 768] := off_7 i ⟨1, by omega⟩
theorem own_1_7 (i : grid0.Coords) : k0_off8 i 1#32 = ![0, 1024 * (i 2 : ℕ) + 512, 896] := off_8 i ⟨1, by omega⟩
theorem own_2_0 (i : grid0.Coords) : k0_off1 i 2#32 = ![0, 1024 * (i 2 : ℕ) + 256, 0] := off_1 i ⟨2, by omega⟩
theorem own_2_1 (i : grid0.Coords) : k0_off2 i 2#32 = ![0, 1024 * (i 2 : ℕ) + 256, 128] := off_2 i ⟨2, by omega⟩
theorem own_2_2 (i : grid0.Coords) : k0_off3 i 2#32 = ![0, 1024 * (i 2 : ℕ) + 256, 256] := off_3 i ⟨2, by omega⟩
theorem own_2_3 (i : grid0.Coords) : k0_off4 i 2#32 = ![0, 1024 * (i 2 : ℕ) + 256, 384] := off_4 i ⟨2, by omega⟩
theorem own_2_4 (i : grid0.Coords) : k0_off5 i 2#32 = ![0, 1024 * (i 2 : ℕ) + 256, 512] := off_5 i ⟨2, by omega⟩
theorem own_2_5 (i : grid0.Coords) : k0_off6 i 2#32 = ![0, 1024 * (i 2 : ℕ) + 256, 640] := off_6 i ⟨2, by omega⟩
theorem own_2_6 (i : grid0.Coords) : k0_off7 i 2#32 = ![0, 1024 * (i 2 : ℕ) + 256, 768] := off_7 i ⟨2, by omega⟩
theorem own_2_7 (i : grid0.Coords) : k0_off8 i 2#32 = ![0, 1024 * (i 2 : ℕ) + 256, 896] := off_8 i ⟨2, by omega⟩
theorem own_3_0 (i : grid0.Coords) : k0_off1 i 3#32 = ![0, 1024 * (i 2 : ℕ) + 0, 0] := off_1 i ⟨3, by omega⟩
theorem own_3_1 (i : grid0.Coords) : k0_off2 i 3#32 = ![0, 1024 * (i 2 : ℕ) + 0, 128] := off_2 i ⟨3, by omega⟩
theorem own_3_2 (i : grid0.Coords) : k0_off3 i 3#32 = ![0, 1024 * (i 2 : ℕ) + 0, 256] := off_3 i ⟨3, by omega⟩
theorem own_3_3 (i : grid0.Coords) : k0_off4 i 3#32 = ![0, 1024 * (i 2 : ℕ) + 0, 384] := off_4 i ⟨3, by omega⟩
theorem own_3_4 (i : grid0.Coords) : k0_off5 i 3#32 = ![0, 1024 * (i 2 : ℕ) + 0, 512] := off_5 i ⟨3, by omega⟩
theorem own_3_5 (i : grid0.Coords) : k0_off6 i 3#32 = ![0, 1024 * (i 2 : ℕ) + 0, 640] := off_6 i ⟨3, by omega⟩
theorem own_3_6 (i : grid0.Coords) : k0_off7 i 3#32 = ![0, 1024 * (i 2 : ℕ) + 0, 768] := off_7 i ⟨3, by omega⟩
theorem own_3_7 (i : grid0.Coords) : k0_off8 i 3#32 = ![0, 1024 * (i 2 : ℕ) + 0, 896] := off_8 i ⟨3, by omega⟩

theorem zero_word : (FloatOps.ofBits .f32 0#32 : Ideal .f32) = 0 := by
  simp

theorem fill (S : Shape) (h : S.ShapeCasts S) (x : S.Idx) : shapeCast S (broadcast S (FloatOps.ofBits (F := Ideal) .f32 0#32)) h x = 0 :=
  (congrFun (shapeCast_self _ h) x).trans zero_word

/-- Both accumulators filled with noughts. -/
theorem start (p : View.Piece (Elt Ideal) S1024x1024 .f32) (p' : View.Piece (Elt Ideal) S8x1024x128 .f32)
    (hp : ∀ x, p.2 x = 0) (hp' : ∀ x, p'.2 x = 0) (hc : ∀ y, y ∈ p.1.set) (hc' : ∀ y, y ∈ p'.1.set) :
    Leaves z val B 0 0 [p] [p'] := by
  constructor
  · intro y
    obtain ⟨r, w⟩ := p
    obtain ⟨x, rfl⟩ : ∃ x, r.emb x = y := r.exists_idx_of_mem (hc y)
    rw [View.canon_cons_emb]
    exact (hp x).trans (result_end _ _ _ _).symm
  · intro y
    obtain ⟨r, w⟩ := p'
    obtain ⟨x, rfl⟩ : ∃ x, r.emb x = y := r.exists_idx_of_mem (hc' y)
    rw [View.canon_cons_emb]
    exact (hp' x).trans (left_end _ _ _).symm

/-- What is stored is the accumulated result. -/
theorem store_apply (x : FVec Ideal S1024x1024 .f32) (y : S1x1024x1024.Idx) : k0_pay3 (F := Ideal) x y = x (ix2 (y 1) (y 2)) := by
  unfold k0_pay3
  refine (shapeCast_addUnit_apply _ _ _ y).trans (congrArg x ?_)
  funext a; revert a; intro (a : Fin 2); fin_cases a <;> rfl

/-- The matrix of later positions, read whole. -/
theorem later_read (cs : Memref sig .tc .vmem S256x256 .bf16) (hcs : cs.IsWhole) (inb) (h)
    (hC : ∀ j s : Fin 256, C (ix2 j s) = if s < j then 1 else 0) (j s : Fin 256) :
    shapeCast S256x256 (View.readAt (Elt Ideal) cs.view (Rect.unit (s := S256x256) ![0, 0] S256x256.size inb).toLoadRect (hcs.unread C)) h (ix2 j s)
      = if s < j then 1 else 0 := by
  rw [View.readAt_eq_ld, hcs.read_unread, ← hC j s]
  refine (congrFun (shapeCast_self (s := S256x256) _ h) (ix2 j s)).trans (congrArg C ?_)
  funext a; refine Fin.ext ((Rect.idx_unit_val _ _ _ _ a).trans ?_)
  revert a; intro (a : Fin 2); fin_cases a <;> exact Nat.zero_add _

section

variable (c : Dev nD) (i : grid0.Coords)
  (q : Memref sig .tc .vmem S1x1024x1024 .bf16) (hq : q.IsWhole)
  (k : Memref sig .tc .vmem S1x4096x1024 .bf16) (hk : k.IsWhole)
  (v : Memref sig .tc .vmem S1x4096x1024 .bf16) (hv : v.IsWhole)
  (cs : Memref sig .tc .vmem S256x256 .bf16) (hcs : cs.IsWhole)
  (o : Memref sig .tc .vmem S1x1024x1024 .bf16) (ho : o.IsWhole)

/-- After a tile's own four blocks: the trips, and what is stored. -/
theorem out_of_lists (hS : Scores Q K V z val) {U : FVec Ideal S256x256 .bf16} (hU : ∀ j s : Fin 256, U (ix2 j s) = if s < j then 1 else 0)
    {L : List (View.Piece (Elt Ideal) S1024x1024 .f32)} {L' : List (View.Piece (Elt Ideal) S8x1024x128 .f32)}
    (h : Leaves z val (1024 * (i 2 : ℕ)) 3 8 L L') (w w' w'' : BitVec 32) (inb inb') (g) (y : S1x1024x1024.Idx) :
    View.canon (Val := Elt Ideal) (e := .bf16) [⟨Rect.unit (s := S1x1024x1024) ![0, 0, 0] ![1, 1024, 1024] inb,
      k0_pay3 (View.readAt (Elt Ideal) scM0_0.view (Rect.unit (s := S1024x1024) ![0, 0] ![1024, 1024] inb').toLoadRect
        (scM0_0.view.writes (Elt Ideal) scM0_0.view.junk
          ((pb_k0_t2 (F := Ideal) Variants.none c none i q hq k hk v hv cs hcs o ho scM0_0 (Memref.isWhole_whole _) scM0_1 (Memref.isWhole_whole _) w U w' w''
              (hq.unread Q) (hk.unread K) (hv.unread V)
              (scM0_0.view.writes (Elt Ideal) scM0_0.view.junk
                ((pb_k0_t1 (F := Ideal) Variants.none c none i q hq k hk v hv cs hcs o ho scM0_0 (Memref.isWhole_whole _) scM0_1 (Memref.isWhole_whole _) w U
                  (hq.unread Q) (hk.unread K) (hv.unread V) (scM0_0.view.writes (Elt Ideal) scM0_0.view.junk L) (scM0_1.view.writes (Elt Ideal) scM0_1.view.junk L') (k0_t1_loop i).trips).1 ++ L))
              g (k0_t2_loop i).trips).1
            ++ ((pb_k0_t1 (F := Ideal) Variants.none c none i q hq k hk v hv cs hcs o ho scM0_0 (Memref.isWhole_whole _) scM0_1 (Memref.isWhole_whole _) w U
                  (hq.unread Q) (hk.unread K) (hv.unread V) (scM0_0.view.writes (Elt Ideal) scM0_0.view.junk L) (scM0_1.view.writes (Elt Ideal) scM0_1.view.junk L') (k0_t1_loop i).trips).1 ++ L))))⟩] y
      = accAt z val (1024 * (i 2 : ℕ)) (4 + 4 * (i 2 : ℕ)) 0 (ix2 (y 1) (y 2)) := by
  have h0 : Holds z val (1024 * (i 2 : ℕ)) 4 scM0_0.view scM0_1.view (scM0_0.view.writes (Elt Ideal) scM0_0.view.junk L) (scM0_1.view.writes (Elt Ideal) scM0_1.view.junk L') :=
    ⟨fun y => (congrFun (View.read_writes_junk_eq_canon _ _) y).trans (h.next.acc y), fun y => (congrFun (View.read_writes_junk_eq_canon _ _) y).trans (h.next.car y)⟩
  have h1 := trips_hold c i q hq k hk v hv cs hcs o ho scM0_0 (Memref.isWhole_whole _) scM0_1 (Memref.isWhole_whole _) w U hS hU _ _ h0 _ (le_refl _)
  rw [trips_2, pb_k0_t2.eq_1]
  have e : (Rect.unit (s := S1x1024x1024) ![0, 0, 0] ![1, 1024, 1024] inb).emb y = y := by
    funext a; refine Fin.ext ((Rect.idx_unit_val _ _ _ _ a).trans ?_)
    revert a; intro (a : Fin 3); fin_cases a <;> exact Nat.zero_add _
  conv_lhs => rw [← e]
  rw [View.canon_cons_emb]
  rw [store_apply, List.nil_append, View.writes_append, View.readAt_eq_ld, View.ld_apply]
  refine (h1.acc _).trans ?_
  rw [trips_1]
  refine congrArg (accAt z val (1024 * (i 2 : ℕ)) (4 + 4 * (i 2 : ℕ)) 0) ?_
  funext a; refine Fin.ext ((Rect.idx_unit_val _ _ _ _ a).trans ?_)
  revert a; intro (a : Fin 2); fin_cases a <;> exact Nat.zero_add _

/-- What a point leaves: every head's result over all the keys up to its tile's end. -/
theorem out_apply (hS : Scores Q K V z val) (hC : ∀ j s : Fin 256, C (ix2 j s) = if s < j then 1 else 0) (y : S1x1024x1024.Idx) :
    out0_A_4 (F := Ideal) c i q hq k hk v hv cs hcs o ho scM0_0 (Memref.isWhole_whole _) scM0_1 (Memref.isWhole_whole _) Q K V C y
      = accAt z val (1024 * (i 2 : ℕ)) (4 + 4 * (i 2 : ℕ)) 0 (ix2 (y 1) (y 2)) := by
  have h2 := coords_2 i
  unfold out0_A_4
  rw [View.read_writes_eq_canon _ _ _ (cover0_A_4 c i q hq k hk v hv cs hcs o ho scM0_0 (Memref.isWhole_whole _) scM0_1 (Memref.isWhole_whole _) Q K V C)]
  unfold kernelRun0_A
  dsimp only
  sl_unfold_words
  refine out_of_lists c i q hq k hk v hv cs hcs o ho hS (later_read cs hcs _ _ hC) ?_ _ _ _ _ _ _ y
  refine step1024 hS (m := 7) (b := 3) (o := 896) q hq k hk v hv _ _ ?_ (by omega) rfl rfl rfl (by omega) (own_3_7 i) (mask1024 i _ _) (later_read cs hcs _ _ hC)
  refine step1024 hS (m := 6) (b := 3) (o := 768) q hq k hk v hv _ _ ?_ (by omega) rfl rfl rfl (by omega) (own_3_6 i) (mask1024 i _ _) (later_read cs hcs _ _ hC)
  refine step1024 hS (m := 5) (b := 3) (o := 640) q hq k hk v hv _ _ ?_ (by omega) rfl rfl rfl (by omega) (own_3_5 i) (mask1024 i _ _) (later_read cs hcs _ _ hC)
  refine step1024 hS (m := 4) (b := 3) (o := 512) q hq k hk v hv _ _ ?_ (by omega) rfl rfl rfl (by omega) (own_3_4 i) (mask1024 i _ _) (later_read cs hcs _ _ hC)
  refine step1024 hS (m := 3) (b := 3) (o := 384) q hq k hk v hv _ _ ?_ (by omega) rfl rfl rfl (by omega) (own_3_3 i) (mask1024 i _ _) (later_read cs hcs _ _ hC)
  refine step1024 hS (m := 2) (b := 3) (o := 256) q hq k hk v hv _ _ ?_ (by omega) rfl rfl rfl (by omega) (own_3_2 i) (mask1024 i _ _) (later_read cs hcs _ _ hC)
  refine step1024 hS (m := 1) (b := 3) (o := 128) q hq k hk v hv _ _ ?_ (by omega) rfl rfl rfl (by omega) (own_3_1 i) (mask1024 i _ _) (later_read cs hcs _ _ hC)
  refine step1024 hS (m := 0) (b := 3) (o := 0) q hq k hk v hv _ _ ?_ (by omega) rfl rfl rfl (by omega) (own_3_0 i) (mask1024 i _ _) (later_read cs hcs _ _ hC)
  refine Leaves.next ?_
  refine step768 hS (m := 7) (b := 2) (o := 896) q hq k hk v hv _ _ ?_ (by omega) rfl rfl rfl (by omega) (own_2_7 i) (mask768 i _ _) (later_read cs hcs _ _ hC)
  refine step768 hS (m := 6) (b := 2) (o := 768) q hq k hk v hv _ _ ?_ (by omega) rfl rfl rfl (by omega) (own_2_6 i) (mask768 i _ _) (later_read cs hcs _ _ hC)
  refine step768 hS (m := 5) (b := 2) (o := 640) q hq k hk v hv _ _ ?_ (by omega) rfl rfl rfl (by omega) (own_2_5 i) (mask768 i _ _) (later_read cs hcs _ _ hC)
  refine step768 hS (m := 4) (b := 2) (o := 512) q hq k hk v hv _ _ ?_ (by omega) rfl rfl rfl (by omega) (own_2_4 i) (mask768 i _ _) (later_read cs hcs _ _ hC)
  refine step768 hS (m := 3) (b := 2) (o := 384) q hq k hk v hv _ _ ?_ (by omega) rfl rfl rfl (by omega) (own_2_3 i) (mask768 i _ _) (later_read cs hcs _ _ hC)
  refine step768 hS (m := 2) (b := 2) (o := 256) q hq k hk v hv _ _ ?_ (by omega) rfl rfl rfl (by omega) (own_2_2 i) (mask768 i _ _) (later_read cs hcs _ _ hC)
  refine step768 hS (m := 1) (b := 2) (o := 128) q hq k hk v hv _ _ ?_ (by omega) rfl rfl rfl (by omega) (own_2_1 i) (mask768 i _ _) (later_read cs hcs _ _ hC)
  refine step768 hS (m := 0) (b := 2) (o := 0) q hq k hk v hv _ _ ?_ (by omega) rfl rfl rfl (by omega) (own_2_0 i) (mask768 i _ _) (later_read cs hcs _ _ hC)
  refine Leaves.next ?_
  refine step512 hS (m := 7) (b := 1) (o := 896) q hq k hk v hv _ _ ?_ (by omega) rfl rfl rfl (by omega) (own_1_7 i) (mask512 i _ _) (later_read cs hcs _ _ hC)
  refine step512 hS (m := 6) (b := 1) (o := 768) q hq k hk v hv _ _ ?_ (by omega) rfl rfl rfl (by omega) (own_1_6 i) (mask512 i _ _) (later_read cs hcs _ _ hC)
  refine step512 hS (m := 5) (b := 1) (o := 640) q hq k hk v hv _ _ ?_ (by omega) rfl rfl rfl (by omega) (own_1_5 i) (mask512 i _ _) (later_read cs hcs _ _ hC)
  refine step512 hS (m := 4) (b := 1) (o := 512) q hq k hk v hv _ _ ?_ (by omega) rfl rfl rfl (by omega) (own_1_4 i) (mask512 i _ _) (later_read cs hcs _ _ hC)
  refine step512 hS (m := 3) (b := 1) (o := 384) q hq k hk v hv _ _ ?_ (by omega) rfl rfl rfl (by omega) (own_1_3 i) (mask512 i _ _) (later_read cs hcs _ _ hC)
  refine step512 hS (m := 2) (b := 1) (o := 256) q hq k hk v hv _ _ ?_ (by omega) rfl rfl rfl (by omega) (own_1_2 i) (mask512 i _ _) (later_read cs hcs _ _ hC)
  refine step512 hS (m := 1) (b := 1) (o := 128) q hq k hk v hv _ _ ?_ (by omega) rfl rfl rfl (by omega) (own_1_1 i) (mask512 i _ _) (later_read cs hcs _ _ hC)
  refine step512 hS (m := 0) (b := 1) (o := 0) q hq k hk v hv _ _ ?_ (by omega) rfl rfl rfl (by omega) (own_1_0 i) (mask512 i _ _) (later_read cs hcs _ _ hC)
  refine Leaves.next ?_
  refine step256 hS (m := 7) (b := 0) (o := 896) q hq k hk v hv _ _ ?_ (by omega) rfl rfl rfl (by omega) (own_0_7 i) (mask256 i _ _) (later_read cs hcs _ _ hC)
  refine step256 hS (m := 6) (b := 0) (o := 768) q hq k hk v hv _ _ ?_ (by omega) rfl rfl rfl (by omega) (own_0_6 i) (mask256 i _ _) (later_read cs hcs _ _ hC)
  refine step256 hS (m := 5) (b := 0) (o := 640) q hq k hk v hv _ _ ?_ (by omega) rfl rfl rfl (by omega) (own_0_5 i) (mask256 i _ _) (later_read cs hcs _ _ hC)
  refine step256 hS (m := 4) (b := 0) (o := 512) q hq k hk v hv _ _ ?_ (by omega) rfl rfl rfl (by omega) (own_0_4 i) (mask256 i _ _) (later_read cs hcs _ _ hC)
  refine step256 hS (m := 3) (b := 0) (o := 384) q hq k hk v hv _ _ ?_ (by omega) rfl rfl rfl (by omega) (own_0_3 i) (mask256 i _ _) (later_read cs hcs _ _ hC)
  refine step256 hS (m := 2) (b := 0) (o := 256) q hq k hk v hv _ _ ?_ (by omega) rfl rfl rfl (by omega) (own_0_2 i) (mask256 i _ _) (later_read cs hcs _ _ hC)
  refine step256 hS (m := 1) (b := 0) (o := 128) q hq k hk v hv _ _ ?_ (by omega) rfl rfl rfl (by omega) (own_0_1 i) (mask256 i _ _) (later_read cs hcs _ _ hC)
  refine step256 hS (m := 0) (b := 0) (o := 0) q hq k hk v hv _ _ ?_ (by omega) rfl rfl rfl (by omega) (own_0_0 i) (mask256 i _ _) (later_read cs hcs _ _ hC)
  refine start _ _ (fun x => fill S1024x1024 (by decide) x) (fun x => fill S8x1024x128 (by decide) x) (fun y => ?_) (fun y => ?_)
  · have h0 : (y 0 : ℕ) < 1024 := (y 0).isLt
    have h1 : (y 1 : ℕ) < 1024 := (y 1).isLt
    refine (fun inb => Rect.mem_set_unit.2 ?_ : ∀ inb, y ∈ (Rect.unit (s := S1024x1024) ![0, 0] S1024x1024.size inb).set) (by decide)
    intro a; revert a; intro (a : Fin 2); fin_cases a
    · show 0 ≤ (y 0 : ℕ) ∧ (y 0 : ℕ) < 0 + 1024; omega
    · show 0 ≤ (y 1 : ℕ) ∧ (y 1 : ℕ) < 0 + 1024; omega
  · have h0 : (y 0 : ℕ) < 8 := (y 0).isLt
    have h1 : (y 1 : ℕ) < 1024 := (y 1).isLt
    have h2 : (y 2 : ℕ) < 128 := (y 2).isLt
    refine (fun inb => Rect.mem_set_unit.2 ?_ : ∀ inb, y ∈ (Rect.unit (s := S8x1024x128) ![0, 0, 0] S8x1024x128.size inb).set) (by decide)
    intro a; revert a; intro (a : Fin 3); fin_cases a
    · show 0 ≤ (y 0 : ℕ) ∧ (y 0 : ℕ) < 0 + 8; omega
    · show 0 ≤ (y 1 : ℕ) ∧ (y 1 : ℕ) < 0 + 1024; omega
    · show 0 ≤ (y 2 : ℕ) ∧ (y 2 : ℕ) < 0 + 128; omega

end

end Cert.SbIdeal.Attn

end
-- ==== Proof.SbArray.lean ====
/- The attention's result array at the ideal instance, as one function of the queries, keys and values. -/
module

public import proofs.«01_k».proof.Proof.SbPoint

@[expose] public section

set_option maxRecDepth 16384

noncomputable section

namespace Cert.SbIdeal.Attn

open Cert.SbIdeal Cert.SbIdeal.Gen
open Idealize.ShloMosaic Idealize.ShloMosaic.TcCoe Idealize.ShloMosaic.Tactic
open Cert.Stick

/-! ## The layer's numbers -/

/-- An entry of a matrix by its row and column numbers. -/
def entry {R C : ℕ} (x : (⟨2, ![R, C]⟩ : Shape).Idx → EReal) (n c : ℕ) : EReal :=
  if h : n < R ∧ c < C then x (ix2 ⟨n, h.1⟩ ⟨c, h.2⟩) else 0

theorem entry_of {R C : ℕ} (x : (⟨2, ![R, C]⟩ : Shape).Idx → EReal) (n c : ℕ) (hn : n < R) (hc : c < C) :
    entry x n c = x (ix2 ⟨n, hn⟩ ⟨c, hc⟩) := dif_pos ⟨hn, hc⟩

/-- The score of a query and a key: batch `b`, head `g`, positions `r` and `s`. -/
def score (x : FVec Ideal S32768x1024 .bf16) (kv : FVec Ideal S32768x2048 .bf16) (b g r s : ℕ) : ℝ :=
  (∑ d : Fin 128, entry x (4096 * b + r) (128 * g + d) * entry kv (4096 * b + s) (128 * g + d)).toReal

/-- The stick-breaking attention, the keys up to the end of the query's tile of 1024 taken one after another. -/
def attn (x : FVec Ideal S32768x1024 .bf16) (kv : FVec Ideal S32768x2048 .bf16) (y : S8x4096x1024.Idx) : EReal :=
  result (score x kv (y 0) ((y 2 : ℕ) / 128) (y 1)) (y 1) (1024 * ((y 1 : ℕ) / 1024) + 1024)
    (fun s => entry kv (4096 * (y 0 : ℕ) + s) (1024 + (y 2 : ℕ))) 0

/-- Queries and keys that are numbers. -/
structure Finite (x : FVec Ideal S32768x1024 .bf16) (kv : FVec Ideal S32768x2048 .bf16) : Prop where
  query : ∀ i, ∃ a : ℝ, x i = a
  key : ∀ (n : Fin 32768) (c : ℕ) (hc : c < 1024), ∃ a : ℝ, kv (ix2 n ⟨c, by omega⟩) = a

theorem Finite.dot {x : FVec Ideal S32768x1024 .bf16} {kv : FVec Ideal S32768x2048 .bf16} (h : Finite x kv) (b g r s : ℕ)
    (hb : b < 8) (hg : g < 8) (hr : r < 4096) (hs : s < 4096) :
    ∑ d : Fin 128, entry x (4096 * b + r) (128 * g + d) * entry kv (4096 * b + s) (128 * g + d) = (score x kv b g r s : EReal) := by
  have hq : ∀ d : Fin 128, ∃ a : ℝ, entry x (4096 * b + r) (128 * g + d) = a := fun d => by
    rw [entry_of _ _ _ (by omega) (by omega)]; exact h.query _
  have hk : ∀ d : Fin 128, ∃ a : ℝ, entry kv (4096 * b + s) (128 * g + d) = a := fun d => by
    rw [entry_of _ _ _ (by omega) (by omega)]; exact h.key _ _ (by omega)
  choose f hf using hq
  choose g' hg' using hk
  have e : ∑ d : Fin 128, entry x (4096 * b + r) (128 * g + d) * entry kv (4096 * b + s) (128 * g + d) = ((∑ d : Fin 128, f d * g' d : ℝ) : EReal) := by
    rw [coe_sum]
    exact Finset.sum_congr rfl fun d _ => by rw [hf, hg', EReal.coe_mul]
  unfold score
  rw [e, EReal.toReal_coe]

/-! ## The result array -/

section array

variable (m : (ℓ : Loc nD τ sig) → Buf (Elt Ideal) ℓ) (c : Dev nD) (t : Fin cfg0.N)

abbrev arg0 : FVec Ideal S32768x1024 .bf16 := m ((c.tc : Thread nD τ).loc main_arg0)
abbrev arg1 : FVec Ideal S32768x2048 .bf16 := m ((c.tc : Thread nD τ).loc main_arg1)

theorem V_v0 : (V m c main_v0 : Vec Ideal S8x4096x1024 .bf16) = shapeCast S8x4096x1024 (arg0 m c) shapeCasts_S32768x1024_S8x4096x1024 := by
  show StableHlo.after hostOps0 (fun b => m (c, b)) (Proc.devRef .tc main_v0) = _
  after_results
  rfl

theorem V_v1 : (V m c main_v1 : Vec Ideal S8x4096x2048 .bf16) = shapeCast S8x4096x2048 (arg1 m c) shapeCasts_S32768x2048_S8x4096x2048 := by
  show StableHlo.after hostOps0 (fun b => m (c, b)) (Proc.devRef .tc main_v1) = _
  after_results
  rfl

theorem V_v8 : @Eq (FVec Ideal S256x256 .bf16) (V m c main_v8) (uitofp .bf16 (cmpi .sgt
    (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0))))) := by
  show StableHlo.after hostOps0 (fun b => m (c, b)) (Proc.devRef .tc main_v8) = _
  after_results

theorem v0_apply (b : Fin 8) (r : Fin 4096) (n : Fin 1024) :
    (V m c main_v0 : Vec Ideal S8x4096x1024 .bf16) (ix3 b r n) = entry (arg0 m c) (4096 * b + r) n := by
  rw [V_v0, entry_of _ _ _ (by omega) n.isLt]
  pointwise
  refine congrArg (arg0 m c) (funext fun a => Fin.ext ?_)
  revert a; intro (a : Fin 2); fin_cases a
  · show (b : ℕ) * 4096 + (r : ℕ) = 4096 * (b : ℕ) + (r : ℕ); omega
  · rfl

theorem v1_apply (b : Fin 8) (r : Fin 4096) (n : Fin 2048) :
    (V m c main_v1 : Vec Ideal S8x4096x2048 .bf16) (ix3 b r n) = entry (arg1 m c) (4096 * b + r) n := by
  rw [V_v1, entry_of _ _ _ (by omega) n.isLt]
  pointwise
  refine congrArg (arg1 m c) (funext fun a => Fin.ext ?_)
  revert a; intro (a : Fin 2); fin_cases a
  · show (b : ℕ) * 4096 + (r : ℕ) = 4096 * (b : ℕ) + (r : ℕ); omega
  · rfl

theorem v8_apply (j s : Fin 256) : @Eq EReal ((V m c main_v8 : FVec Ideal S256x256 .bf16) (ix2 j s)) (if s < j then 1 else 0) := by
  rw [V_v8]
  pointwise
  rw [WordCmp.cmpi_sgt_ofNat (by omega) (by omega)]
  by_cases h : s < j
  · rw [if_pos h]; simp only [Fin.lt_def.mp h, decide_true]; exact (show (((1 : ℕ) : ℝ) : EReal) = 1 by norm_num)
  · rw [if_neg h]; simp only [show ¬ (s : ℕ) < j from h, decide_false]; exact (show (((0 : ℕ) : ℝ) : EReal) = 0 by norm_num)

theorem t_lt : t.val < 32 := t.isLt

theorem coords_tile : (grid0.coords t 2).val = t.val % 4 := (by decide +kernel : ∀ t : Fin grid0.N, (grid0.coords t 2).val = t.val % 4) t

theorem index_0 : (cfg0.win 0).index t = ![t.val / 4, t.val % 4, 0] := (by decide +kernel : ∀ t : Fin grid0.N, win0_0.index t = ![t.val / 4, t.val % 4, 0]) t
theorem index_1 : (cfg0.win 1).index t = ![t.val / 4, 0, 0] := (by decide +kernel : ∀ t : Fin grid0.N, win0_1.index t = ![t.val / 4, 0, 0]) t
theorem index_2 : (cfg0.win 2).index t = ![t.val / 4, 0, 1] := (by decide +kernel : ∀ t : Fin grid0.N, win0_2.index t = ![t.val / 4, 0, 1]) t
theorem index_4 : (cfg0.win 4).index t = ![t.val / 4, t.val % 4, 0] := (by decide +kernel : ∀ t : Fin grid0.N, win0_4.index t = ![t.val / 4, t.val % 4, 0]) t

theorem iblk_0 (r : Fin 1024) (d : Fin 1024) : (iblk m c 0 t : Vec Ideal S1x1024x1024 .bf16) (ix3 0 r d)
    = entry (arg0 m c) (4096 * (t.val / 4) + (1024 * (t.val % 4) + r)) d := by
  have ht := t_lt t
  refine Eq.trans ?_ (v0_apply m c ⟨t.val / 4, by omega⟩ ⟨1024 * (t.val % 4) + r, by omega⟩ d)
  show (V m c main_v0 : Vec Ideal S8x4096x1024 .bf16) (((cfg0.win 0).blk t).view.emb (ix3 0 r d : S1x1024x1024.Idx)) = _
  refine congrArg (V m c main_v0 : Vec Ideal S8x4096x1024 .bf16) (funext fun a => Fin.ext ?_)
  refine (Pipeline.Window.rect_emb_val (cfg0.win 0) t (ix3 0 r d : S1x1024x1024.Idx) a).trans ?_
  rw [index_0]
  revert a; intro (a : Fin 3); fin_cases a
  · show t.val / 4 * 1 + 0 = t.val / 4; omega
  · show t.val % 4 * 1024 + r.val = 1024 * (t.val % 4) + r.val; omega
  · exact Nat.zero_add _ |>.trans rfl

theorem iblk_1 (s : Fin 4096) (d : Fin 1024) : (iblk m c 1 t : Vec Ideal S1x4096x1024 .bf16) (ix3 0 s d)
    = entry (arg1 m c) (4096 * (t.val / 4) + s) d := by
  have ht := t_lt t
  refine Eq.trans ?_ (v1_apply m c ⟨t.val / 4, by omega⟩ s ⟨d, by omega⟩)
  show (V m c main_v1 : Vec Ideal S8x4096x2048 .bf16) (((cfg0.win 1).blk t).view.emb (ix3 0 s d : S1x4096x1024.Idx)) = _
  refine congrArg (V m c main_v1 : Vec Ideal S8x4096x2048 .bf16) (funext fun a => Fin.ext ?_)
  refine (Pipeline.Window.rect_emb_val (cfg0.win 1) t (ix3 0 s d : S1x4096x1024.Idx) a).trans ?_
  rw [index_1]
  revert a; intro (a : Fin 3); fin_cases a
  · show t.val / 4 * 1 + 0 = t.val / 4; omega
  · exact Nat.zero_add _ |>.trans rfl
  · exact Nat.zero_add _ |>.trans rfl

theorem iblk_2 (s : Fin 4096) (d : Fin 1024) : (iblk m c 2 t : Vec Ideal S1x4096x1024 .bf16) (ix3 0 s d)
    = entry (arg1 m c) (4096 * (t.val / 4) + s) (1024 + d) := by
  have ht := t_lt t
  refine Eq.trans ?_ (v1_apply m c ⟨t.val / 4, by omega⟩ s ⟨1024 + d, by omega⟩)
  show (V m c main_v1 : Vec Ideal S8x4096x2048 .bf16) (((cfg0.win 2).blk t).view.emb (ix3 0 s d : S1x4096x1024.Idx)) = _
  refine congrArg (V m c main_v1 : Vec Ideal S8x4096x2048 .bf16) (funext fun a => Fin.ext ?_)
  refine (Pipeline.Window.rect_emb_val (cfg0.win 2) t (ix3 0 s d : S1x4096x1024.Idx) a).trans ?_
  rw [index_2]
  revert a; intro (a : Fin 3); fin_cases a
  · show t.val / 4 * 1 + 0 = t.val / 4; omega
  · exact Nat.zero_add _ |>.trans rfl
  · show 1 * 1024 + d.val = 1024 + d.val; omega

theorem iblk_3 (j s : Fin 256) : @Eq EReal ((iblk m c 3 t : FVec Ideal S256x256 .bf16) (ix2 j s)) (if s < j then 1 else 0) := by
  refine Eq.trans ?_ (v8_apply m c j s)
  show (V m c main_v8 : Vec Ideal S256x256 .bf16) (((cfg0.win 3).blk t).view.emb (ix2 j s : S256x256.Idx)) = _
  refine congrArg (V m c main_v8 : Vec Ideal S256x256 .bf16) (funext fun a => Fin.ext ?_)
  refine (Pipeline.Window.rect_emb_val (cfg0.win 3) t (ix2 j s : S256x256.Idx) a).trans ?_
  rw [show (cfg0.win 3).index t = ![0, 0] from rfl]
  revert a; intro (a : Fin 2); fin_cases a <;> exact Nat.zero_add _ |>.trans rfl

theorem emb_4 (y : S1x1024x1024.Idx) : ((cfg0.win 4).blk t).view.emb y
    = (ix3 ⟨t.val / 4, by have := t_lt t; omega⟩ ⟨1024 * (t.val % 4) + (y 1 : ℕ), by have := t_lt t; have : (y 1 : ℕ) < 1024 := (y 1).isLt; omega⟩ (y 2) : S8x4096x1024.Idx) := by
  funext a
  refine Fin.ext ((Pipeline.Window.rect_emb_val (cfg0.win 4) t y a).trans ?_)
  rw [index_4]
  have h0 : (y 0 : ℕ) < 1 := (y 0).isLt
  revert a; intro (a : Fin 3); fin_cases a
  · show t.val / 4 * 1 + (y 0 : ℕ) = t.val / 4; omega
  · show t.val % 4 * 1024 + (y 1 : ℕ) = 1024 * (t.val % 4) + (y 1 : ℕ); omega
  · exact Nat.zero_add _ |>.trans rfl

theorem cover_4 (i : S8x4096x1024.Idx) : ∃ t : Fin cfg0.N, (cfg0.win 4).flush t = true ∧ i ∈ ((cfg0.win 4).blk t).view.set := by
  have h0 : (i 0).val < 8 := (i 0).isLt
  have h1 : (i 1).val < 4096 := (i 1).isLt
  let t : Fin cfg0.N := ⟨4 * (i 0).val + (i 1).val / 1024, by rw [show cfg0.N = 32 from rfl]; omega⟩
  have e : ((cfg0.win 4).blk t).view.emb (ix3 0 ⟨(i 1).val % 1024, Nat.mod_lt _ (by decide)⟩ (i 2) : S1x1024x1024.Idx) = i := by
    refine (emb_4 _ _).trans (funext fun a => Fin.ext ?_)
    revert a; intro (a : Fin 3); fin_cases a
    · show (4 * (i 0).val + (i 1).val / 1024) / 4 = (i 0).val; omega
    · show 1024 * ((4 * (i 0).val + (i 1).val / 1024) % 4) + (i 1).val % 1024 = (i 1).val; omega
    · rfl
  exact ⟨t, (by decide +kernel : ∀ t : Fin cfg0.N, (cfg0.win 4).flush t = true) t, by rw [← e]; exact View.emb_mem_set _ _⟩

theorem scores (hF : Finite (arg0 m c) (arg1 m c)) :
    Scores (iblk m c 0 t) (iblk m c 1 t) (iblk m c 2 t) (fun g r s => score (arg0 m c) (arg1 m c) (t.val / 4) g (1024 * (t.val % 4) + r) s)
      (fun s n => entry (arg1 m c) (4096 * (t.val / 4) + s) (1024 + n)) := by
  have ht := t_lt t
  constructor
  · intro g r s hg hr hs
    refine Eq.trans (Finset.sum_congr rfl fun d _ => congrArg₂ (· * ·) (iblk_0 m c t ⟨r, hr⟩ ⟨128 * g + d, by omega⟩) (iblk_1 m c t ⟨s, hs⟩ ⟨128 * g + d, by omega⟩)) ?_
    exact hF.dot (t.val / 4) g (1024 * (t.val % 4) + r) s (by omega) hg (by omega) hs
  · intro s n hs hn
    exact iblk_2 m c t ⟨s, hs⟩ ⟨n, hn⟩

theorem outsAt_emb (hF : Finite (arg0 m c) (arg1 m c)) (y : S1x1024x1024.Idx) : outsAt0 m c t y
    = attn (arg0 m c) (arg1 m c) (((cfg0.win 4).blk t).view.emb y) := by
  have ht := t_lt t
  have h1 : (y 1 : ℕ) < 1024 := (y 1).isLt
  have he := emb_4 t y
  generalize ((cfg0.win 4).blk t).view.emb y = w at he ⊢
  subst he
  refine (out_apply c (grid0.coords t) _ _ _ _ _ _ _ _ _ _ (scores m c t hF) (iblk_3 m c t) y).trans ?_
  unfold accAt attn pos
  rw [coords_tile]
  show result (score (arg0 m c) (arg1 m c) (t.val / 4) ((y 2 : ℕ) / 128) (1024 * (t.val % 4) + (y 1 : ℕ))) (1024 * (t.val % 4) + (y 1 : ℕ)) (1024 * (t.val % 4) + 1024)
      (fun s => entry (arg1 m c) (4096 * (t.val / 4) + s) (1024 + (y 2 : ℕ))) (1024 * (t.val % 4) + 1024 - 256 * (4 + 4 * (t.val % 4) + if (y 2 : ℕ) / 128 < 0 then 1 else 0))
    = result (score (arg0 m c) (arg1 m c) (t.val / 4) ((y 2 : ℕ) / 128) (1024 * (t.val % 4) + (y 1 : ℕ))) (1024 * (t.val % 4) + (y 1 : ℕ))
      (1024 * ((1024 * (t.val % 4) + (y 1 : ℕ)) / 1024) + 1024) (fun s => entry (arg1 m c) (4096 * (t.val / 4) + s) (1024 + (y 2 : ℕ))) 0
  rw [if_neg (Nat.not_lt_zero _), show 1024 * (t.val % 4) + 1024 - 256 * (4 + 4 * (t.val % 4) + 0) = 0 by omega,
    show (1024 * (t.val % 4) + (y 1 : ℕ)) / 1024 = t.val % 4 by omega]

/-- The result array, after the run. -/
theorem final (hF : Finite (arg0 m c) (arg1 m c)) : (dats m 0 c).arrAt 4 cfg0.N = attn (arg0 m c) (arg1 m c) := by
  refine (dats m 0 c).arrAt_eq_of_emb 4 _ (fun t _ y => ?_) ?_
  · refine (congrFun (after0_4 m c t) y).trans ?_
    exact outsAt_emb m c t hF y
  · exact cover_4

end array

end Cert.SbIdeal.Attn

end
-- ==== Proof.SbRefStages.lean ====
/- The reference's attention at the ideal instance: its operations in stages. -/
module

public import Idealize.ShloMosaic.PureOps.Ideal
public import Idealize.ShloMosaic.Lib.Pointwise
public import proofs.«01_k».proof.Proof.Gen.SbRefIdeal.Run

@[expose] public section

set_option maxRecDepth 16384

noncomputable section

namespace Cert.SbRefIdeal.Attn

open Cert.SbRefIdeal Cert.SbRefIdeal.Gen
open Idealize.ShloMosaic Idealize.ShloMosaic.TcCoe Idealize.ShloMosaic.Tactic

/-! ## The reference's operations in stages -/

/-- Heads brought in front of positions. -/
abbrev heads (a : FVec Ideal S32768x1024 .f32) : FVec Ideal S8x8x4096x128 .f32 :=
  transpose S8x8x4096x128 [0, 2, 1, 3] (shapeCast S8x4096x8x128 a shapeCasts_S32768x1024_S8x4096x8x128) transposes_S8x4096x8x128_S8x8x4096x128_0_2_1_3

/-- The scores, in units of the natural logarithm. -/
def scores (x : FVec Ideal S32768x1024 .bf16) (kv : FVec Ideal S32768x2048 .bf16) : FVec Ideal S8x8x4096x4096 .f32 :=
  mulf (Host.dotGeneral dot_S8x8x4096x128_S8x8x4096x128_S8x8x4096x4096_3_3_2_2_01_01 none (heads (extf .f32 x bitsLt_bf16_f32))
      (heads (extractStridedSlice S32768x1024 ![0, 0] (extf .f32 kv bitsLt_bf16_f32) slices_S32768x2048_S32768x1024_0_0)))
    (broadcastInDim S8x8x4096x4096 ![] bcast_S_S8x8x4096x4096 (Host.log (constant S_ .f32 0x40000000#32)))

abbrev zeros : FVec Ideal S8x8x4096x4096 .f32 := broadcastInDim S8x8x4096x4096 ![] bcast_S_S8x8x4096x4096 (constant S_ .f32 0x00000000#32)

/-- The logarithm of the sigmoid. -/
def logSigmoid (z : FVec Ideal S8x8x4096x4096 .f32) : FVec Ideal S8x8x4096x4096 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- Which keys come before a query. -/
def before : IVec S8x8x4096x4096 1 :=
  broadcastInDim S8x8x4096x4096 ![2, 3] bcast_S4096x4096_S8x8x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- What a key leaves, as a logarithm. -/
def logKeep (z : FVec Ideal S8x8x4096x4096 .f32) : FVec Ideal S8x8x4096x4096 .f32 := select before (logSigmoid (Host.negf z)) zeros

/-- Sums from the last key down. -/
def fromEnd (a : FVec Ideal S8x8x4096x4096 .f32) : FVec Ideal S8x8x4096x4096 .f32 :=
  Host.reduceWindowAdd ![1, 1, 1, 4096] ![1, 1, 1, 1] ![0, 0, 0, 0] ![0, 0, 0, 4095] a
    (broadcastInDim S_ ![] bcast_S_S_ (constant S_ .f32 0x00000000#32))
    reduceWindows_S8x8x4096x4096_S8x8x4096x4096_w1s1p0_0_w1s1p0_0_w1s1p0_0_w4096s1p0_4095 h_S_

/-- The weights. -/
def weights (z : FVec Ideal S8x8x4096x4096 .f32) : FVec Ideal S8x8x4096x4096 .f32 :=
  select before (Host.exp (addf (logSigmoid z) (subf (fromEnd (logKeep z)) (logKeep z)))) zeros

/-- The layer's result. -/
def outcome (x : FVec Ideal S32768x1024 .bf16) (kv : FVec Ideal S32768x2048 .bf16) : FVec Ideal S8x4096x1024 .bf16 :=
  truncf .bf16 (shapeCast S8x4096x1024 (transpose S8x4096x8x128 [0, 2, 1, 3]
    (Host.dotGeneral dot_S8x8x4096x4096_S8x8x4096x128_S8x8x4096x128_3_2_2_3_01_01 none (weights (scores x kv))
      (heads (extractStridedSlice S32768x1024 ![0, 1024] (extf .f32 kv bitsLt_bf16_f32) slices_S32768x2048_S32768x1024_0_1024)))
    transposes_S8x8x4096x128_S8x4096x8x128_0_2_1_3) shapeCasts_S8x4096x8x128_S8x4096x1024) bitsLt_bf16_f32

theorem res_eq (m : (ℓ : Loc nD τ sig) → Buf (Elt Ideal) ℓ) (c : Dev nD) :
    Value.res_out0 m c = outcome (m ((c.tc : Thread nD τ).loc main_arg0)) (m ((c.tc : Thread nD τ).loc main_arg1)) := by
  unfold Value.res_out0 Value.res_main_v33 outcome weights logKeep fromEnd logSigmoid scores before
  rfl

end Cert.SbRefIdeal.Attn

end
-- ==== Proof.SbRefValue.lean ====
/- The reference's attention at the ideal instance: its stages, taken in turn, give the stick-breaking weights of the layer. -/
module

public import proofs.«01_k».proof.Proof.SbArray
public import proofs.«01_k».proof.Proof.SbRefStages

@[expose] public section

set_option maxRecDepth 16384

noncomputable section

namespace Cert.Stick

open Idealize.ShloMosaic

/-! ## Logarithms to base two and natural ones -/

/-- The logarithm of the sigmoid of a number. -/
def logSig (y : ℝ) : ℝ := min y 0 - Real.log (1 + Real.exp (-|y|))

theorem log_two_pos : 0 < Real.log 2 := Real.log_pos (by norm_num)

theorem two_pow (x : ℝ) : (2 : ℝ) ^ x = Real.exp (x * Real.log 2) := by
  rw [Real.rpow_def_of_pos (by norm_num), mul_comm]

theorem logSig_mul (r : ℝ) : logSig (r * Real.log 2) = logBeta r * Real.log 2 := by
  have h := log_two_pos
  unfold logSig logBeta
  rw [sub_mul, mul_assoc, inv_mul_cancel₀ h.ne', mul_one, min_mul_of_nonneg _ _ h.le, zero_mul, two_pow, abs_mul, abs_of_pos h, neg_mul]

theorem logSig_neg (y : ℝ) : logSig (-y) = logSig y - y := by
  unfold logSig
  rw [abs_neg]
  have : min (-y) 0 = min y 0 - y := by
    rcases le_total y 0 with h | h
    · rw [min_eq_left h, min_eq_right (by linarith)]; ring
    · rw [min_eq_right h, min_eq_left (by linarith)]; ring
  rw [this]; ring

theorem logSig_neg_mul (r : ℝ) : logSig (-(r * Real.log 2)) = (logBeta r - r) * Real.log 2 := by
  rw [logSig_neg, logSig_mul]; ring

theorem logSig_coe (y : ℝ) :
    -(max (-(y : EReal)) 0 + Ideal.log (1 + Ideal.exp (-(max (-(y : EReal)) (-(-(y : EReal))))))) = (logSig y : EReal) := by
  have h0 : (0 : EReal) = ((0 : ℝ) : EReal) := rfl
  have h1 : (1 : EReal) = ((1 : ℝ) : EReal) := rfl
  have hp : (0 : ℝ) < 1 + Real.exp (-|y|) := by positivity
  have he : ∀ r : ℝ, Ideal.exp (r : EReal) = ((Real.exp r : ℝ) : EReal) := fun _ => rfl
  rw [h0, h1, ← EReal.coe_neg, ← EReal.coe_neg, coe_max, coe_max, ← EReal.coe_neg, he, ← EReal.coe_add]
  have e : -max (-y) (- -y) = -|y| := by rw [neg_neg, max_comm]; rfl
  rw [e, log_coe _ hp, ← EReal.coe_add, ← EReal.coe_neg]
  refine congrArg _ ?_
  unfold logSig
  have : max (-y) 0 = -min y 0 := by
    rcases le_total y 0 with h | h
    · rw [min_eq_left h, max_eq_left (by linarith)]
    · rw [min_eq_right h, max_eq_right (by linarith)]; ring
  rw [this]; ring

/-! ## Sums over all the keys -/

section sums

variable (z : ℕ → ℝ) (t T : ℕ) (v : ℕ → EReal)

theorem sum_keys (hT : T ≤ 4096) (ht : t ≤ T) : ∑ s : Fin 4096, (weight z t T s : EReal) * v s = result z t T v 0 := by
  unfold result
  rw [← Finset.sum_range (n := 4096) (fun s => (weight z t T s : EReal) * v s), Finset.range_eq_Ico,
    ← Finset.sum_Ico_consecutive _ (Nat.zero_le T) hT, Finset.sum_eq_zero (s := Finset.Ico T 4096), add_zero]
  intro s hs
  rw [Finset.mem_Ico] at hs
  rw [show weight z t T s = 0 from if_neg (by omega)]
  simp

theorem later_keys (hT : T ≤ 4096) (ht : t ≤ T) (s : ℕ) (hs : s < t) :
    logBeta (z s) * Real.log 2 + (∑ j ∈ Finset.Ico s 4096, keep z t j * Real.log 2 - keep z t s * Real.log 2)
      = (logBeta (z s) + ∑ j ∈ Finset.Ico (s + 1) T, keep z t j) * Real.log 2 := by
  have e : ∑ j ∈ Finset.Ico s 4096, keep z t j = keep z t s + ∑ j ∈ Finset.Ico (s + 1) T, keep z t j := by
    rw [Finset.sum_eq_sum_Ico_succ_bot (by omega), ← Finset.sum_Ico_consecutive _ (show s + 1 ≤ T by omega) hT,
      Finset.sum_eq_zero (s := Finset.Ico T 4096), add_zero]
    intro j hj
    rw [Finset.mem_Ico] at hj
    exact if_neg (by omega)
  rw [← Finset.sum_mul, e]; ring

end sums

theorem foldl_add {ι : Type} (f : ι → EReal) (l : List ι) (r : EReal) : l.foldl (fun r n => r + f n) r = r + (l.map f).sum := by
  induction l generalizing r with
  | nil => simp
  | cons a l ih => rw [List.foldl_cons, ih, List.map_cons, List.sum_cons, add_assoc]

/-- Sums along the last axis from an entry on, as a window's sums. -/
theorem window_sum {A B C N Nm1 : ℕ} (hN : Nm1 + 1 = N) (a : (⟨4, ![A, B, C, N]⟩ : Shape).Idx → EReal) (init : (⟨0, ![]⟩ : Shape).Idx → EReal)
    (hi : ∀ i, init i = 0)
    (h : (⟨4, ![A, B, C, N]⟩ : Shape).ReduceWindows ![1, 1, 1, N] ![1, 1, 1, 1] ![0, 0, 0, 0] ![0, 0, 0, Nm1] ⟨4, ![A, B, C, N]⟩)
    (hu : 0 < (⟨0, ![]⟩ : Shape).numel) (b : Fin A) (g : Fin B) (t : Fin C) (s : Fin N) :
    Host.reduceWindow (t := ⟨4, ![A, B, C, N]⟩) (· + ·) ![1, 1, 1, N] ![1, 1, 1, 1] ![0, 0, 0, 0] ![0, 0, 0, Nm1] a init h hu (ix4 b g t s)
      = ∑ w : Fin N, if h : (s : ℕ) + w < N then a (ix4 b g t ⟨s + w, h⟩) else 0 := by
  unfold Host.reduceWindow
  refine (foldl_add _ _ _).trans ?_
  rw [hi, zero_add, ← Fin.sum_univ_def]
  have key : ∀ (i : (⟨4, ![1, 1, 1, N]⟩ : Shape).Idx) (D : Decidable (∀ q : Fin 4, (![0, 0, 0, 0] : Fin 4 → ℕ) q ≤ (ix4 b g t s q).val * (![1, 1, 1, 1] : Fin 4 → ℕ) q + (i q).val
          ∧ (ix4 b g t s q).val * (![1, 1, 1, 1] : Fin 4 → ℕ) q + (i q).val - (![0, 0, 0, 0] : Fin 4 → ℕ) q < (![A, B, C, N] : Fin 4 → ℕ) q)),
      @dite EReal (∀ q : Fin 4, (![0, 0, 0, 0] : Fin 4 → ℕ) q ≤ (ix4 b g t s q).val * (![1, 1, 1, 1] : Fin 4 → ℕ) q + (i q).val
          ∧ (ix4 b g t s q).val * (![1, 1, 1, 1] : Fin 4 → ℕ) q + (i q).val - (![0, 0, 0, 0] : Fin 4 → ℕ) q < (![A, B, C, N] : Fin 4 → ℕ) q) D
        (fun hin => a (fun q : Fin 4 => ⟨(ix4 b g t s q).val * (![1, 1, 1, 1] : Fin 4 → ℕ) q + (i q).val - (![0, 0, 0, 0] : Fin 4 → ℕ) q, (hin q).2⟩))
        (fun _ => 0)
        = if h : (s : ℕ) + (i 3).val < N then a (ix4 b g t ⟨s + (i 3).val, h⟩) else 0 := by
    intro i D
    have i0 : (i 0).val = 0 := by have : (i 0).val < 1 := (i 0).isLt; omega
    have i1 : (i 1).val = 0 := by have : (i 1).val < 1 := (i 1).isLt; omega
    have i2 : (i 2).val = 0 := by have : (i 2).val < 1 := (i 2).isLt; omega
    by_cases hs : (s : ℕ) + (i 3).val < N
    · rw [dif_pos hs]
      refine (dif_pos ?_).trans (congrArg a (funext fun q => Fin.ext ?_))
      · intro (q : Fin 4)
        fin_cases q
        · show 0 ≤ (b : ℕ) * 1 + (i 0).val ∧ (b : ℕ) * 1 + (i 0).val - 0 < A; omega
        · show 0 ≤ (g : ℕ) * 1 + (i 1).val ∧ (g : ℕ) * 1 + (i 1).val - 0 < B; omega
        · show 0 ≤ (t : ℕ) * 1 + (i 2).val ∧ (t : ℕ) * 1 + (i 2).val - 0 < C; omega
        · show 0 ≤ (s : ℕ) * 1 + (i 3).val ∧ (s : ℕ) * 1 + (i 3).val - 0 < N; omega
      · revert q
        intro (q : Fin 4)
        fin_cases q
        · show (b : ℕ) * 1 + (i 0).val - 0 = b; omega
        · show (g : ℕ) * 1 + (i 1).val - 0 = g; omega
        · show (t : ℕ) * 1 + (i 2).val - 0 = t; omega
        · show (s : ℕ) * 1 + (i 3).val - 0 = s + (i 3).val; omega
    · rw [dif_neg hs]
      refine dif_neg fun hq => hs ?_
      have h3 : 0 ≤ (s : ℕ) * 1 + (i 3).val ∧ (s : ℕ) * 1 + (i 3).val - 0 < N := hq 3
      omega
  refine (Fintype.sum_equiv (Shape.rowMajor (⟨4, ![1, 1, 1, N]⟩ : Shape)).symm _
    (fun i => if h : (s : ℕ) + (i 3).val < N then a (ix4 b g t ⟨s + (i 3).val, h⟩) else 0) fun n => key ((Shape.rowMajor (⟨4, ![1, 1, 1, N]⟩ : Shape)).symm n) _).trans ?_
  · refine (Fintype.sum_equiv (⟨fun k => ix4 0 0 0 k, fun i => i 3, fun _ => rfl, fun i => ?_⟩ : Fin N ≃ (⟨4, ![1, 1, 1, N]⟩ : Shape).Idx)
      _ _ fun k => rfl).symm
    have i0 : (i 0).val = 0 := by have : (i 0).val < 1 := (i 0).isLt; omega
    have i1 : (i 1).val = 0 := by have : (i 1).val < 1 := (i 1).isLt; omega
    have i2 : (i 2).val = 0 := by have : (i 2).val < 1 := (i 2).isLt; omega
    funext (q : Fin 4)
    fin_cases q
    · exact Fin.ext i0.symm
    · exact Fin.ext i1.symm
    · exact Fin.ext i2.symm
    · rfl

theorem sum_from_end {N : ℕ} (s : Fin N) (a : Fin N → EReal) (k : ℕ → ℝ) (ha : ∀ s, a s = (k s : EReal)) :
    (∑ w : Fin N, if h : (s : ℕ) + w < N then a ⟨s + w, h⟩ else 0) = ((∑ j ∈ Finset.Ico (s : ℕ) N, k j : ℝ) : EReal) := by
  have hs := s.isLt
  have e : ∀ w : Fin N, (if h : (s : ℕ) + w < N then a ⟨s + w, h⟩ else 0) = (((if (s : ℕ) + w < N then k (s + w) else 0) : ℝ) : EReal) := by
    intro w
    by_cases h : (s : ℕ) + w < N
    · rw [dif_pos h, if_pos h, ha]
    · rw [dif_neg h, if_neg h]; rfl
  rw [Finset.sum_congr rfl fun w _ => e w, ← coe_sum]
  refine congrArg _ ?_
  rw [← Finset.sum_range (n := N) (fun w => if (s : ℕ) + w < N then k (s + w) else 0), ← Finset.sum_filter, Finset.sum_Ico_eq_sum_range]
  refine Finset.sum_congr (Finset.ext fun w => ?_) fun _ _ => rfl
  simp only [Finset.mem_filter, Finset.mem_range]
  omega

end Cert.Stick

namespace Cert.SbRefIdeal.Attn

open Cert.SbRefIdeal Cert.SbRefIdeal.Gen
open Idealize.ShloMosaic Idealize.ShloMosaic.TcCoe Idealize.ShloMosaic.Tactic
open Cert.Stick
open Cert.SbIdeal.Attn (entry entry_of score attn Finite)

section points

variable (x : FVec Ideal S32768x1024 .bf16) (kv : FVec Ideal S32768x2048 .bf16) (z : FVec Ideal S8x8x4096x4096 .f32)
  (b g : Fin 8) (t s : Fin 4096) (d : Fin 128)

theorem scores_apply (hF : Finite x kv) : scores x kv (ix4 b g t s) = ((score x kv b g t s * Real.log 2 : ℝ) : EReal) := by
  unfold scores
  pointwise
  have e := hF.dot b g t s b.isLt g.isLt t.isLt s.isLt
  rw [EReal.coe_mul, ← e]
  refine congrArg₂ (· * ·) (Finset.sum_congr rfl fun d _ => ?_) ?_
  · rw [entry_of _ _ _ (by omega) (by omega), entry_of _ _ _ (by omega) (by omega)]
    simp only [Nat.mul_comm]
  · rw [show Ideal.ofBits .f32 0x40000000#32 = ((2 : ℝ) : EReal) by
      simp [Ideal.ofBits, Ideal.ieee, -EReal.coe_mul]; norm_num]
    exact log_coe 2 (by norm_num)

theorem logSigmoid_apply (y : ℝ) (h : z (ix4 b g t s) = (y : EReal)) : logSigmoid z (ix4 b g t s) = (logSig y : EReal) := by
  unfold logSigmoid
  pointwise
  rw [h, if_neg (fun h => h rfl)]
  exact logSig_coe y

theorem before_apply : before (ix4 b g t s) = BitVec.ofBool (decide ((s : ℕ) < t)) := by
  unfold before
  pointwise
  exact WordCmp.cmpi_slt_ofNat (by omega) (by omega)

variable (f : ℕ → ℝ) (hz : ∀ s : Fin 4096, z (ix4 b g t s) = ((f s * Real.log 2 : ℝ) : EReal))
include hz

theorem logKeep_apply : logKeep z (ix4 b g t s) = ((keep f t s * Real.log 2 : ℝ) : EReal) := by
  unfold logKeep
  pointwise
  rw [before_apply]
  unfold keep
  by_cases h : (s : ℕ) < t
  · rw [if_pos h, ← logSig_neg_mul]
    simp only [h, decide_true]
    refine logSigmoid_apply _ b g t s _ ?_
    rw [EReal.coe_neg, ← hz s]
    rfl
  · rw [if_neg h, zero_mul]
    simp only [h, decide_false]
    rfl

omit hz in
theorem fromEnd_apply (a : FVec Ideal S8x8x4096x4096 .f32) (k : ℕ → ℝ) (ha : ∀ s : Fin 4096, a (ix4 b g t s) = (k s : EReal)) :
    fromEnd a (ix4 b g t s) = ((∑ j ∈ Finset.Ico (s : ℕ) 4096, k j : ℝ) : EReal) := by
  unfold fromEnd Host.reduceWindowAdd
  rw [Ideal.hostReduceWindowAdd_def]
  unfold Ideal.hostReduceWindowAdd
  refine (window_sum (Nm1 := 4095) (N := 4096) (by norm_num) a _ (fun _ => ?_) _ _ b g t s).trans (sum_from_end s (fun s => a (ix4 b g t s)) k ha)
  exact Ideal.ofBits_zero_f32

theorem weights_apply (T : ℕ) (hT : T ≤ 4096) (ht : t ≤ T) : weights z (ix4 b g t s) = (weight f t T s : EReal) := by
  unfold weights
  pointwise
  rw [before_apply]
  unfold weight
  by_cases h : (s : ℕ) < t
  · rw [if_pos h]
    simp only [h, decide_true]
    have e := fromEnd_apply b g t s (logKeep z) (fun j => keep f t j * Real.log 2) (fun s => logKeep_apply z b g t s f hz)
    rw [two_pow, ← later_keys f t T hT ht s h]
    refine (congrArg Ideal.exp ?_ : _ = Ideal.exp ((_ : ℝ) : EReal))
    rw [logSigmoid_apply z b g t s _ (hz s), e, logKeep_apply z b g t s f hz, logSig_mul, ← EReal.coe_sub, ← EReal.coe_add]
  · rw [if_neg h]
    simp only [h, decide_false]
    rfl

end points

theorem outcome_apply (x : FVec Ideal S32768x1024 .bf16) (kv : FVec Ideal S32768x2048 .bf16) (hF : Finite x kv) : outcome x kv = attn x kv := by
  funext y
  unfold outcome
  pointwise
  unfold attn
  have h1 : ((y 1 : Fin 4096) : ℕ) < 4096 := (y 1).isLt
  have h2 : ((y 2 : Fin 1024) : ℕ) < 1024 := (y 2).isLt
  have h0 : ((y 0 : Fin 8) : ℕ) < 8 := (y 0).isLt
  rw [← sum_keys _ _ _ _ (by omega) (by omega)]
  refine Finset.sum_congr rfl fun s _ => congrArg₂ (· * ·) ?_ ?_
  · exact weights_apply (scores x kv) (y 0) ⟨(y 2 : Fin 1024) / 128, by omega⟩ (y 1) s _
      (fun s => scores_apply x kv (y 0) ⟨(y 2 : Fin 1024) / 128, by omega⟩ (y 1) s hF) _ (by omega) (by omega)
  · rw [entry_of _ _ _ (by omega) (by omega)]
    simp only [Nat.mul_comm]

/-- The reference's result is the same array. -/
theorem reference_eq (m : (ℓ : Loc nD τ sig) → Buf (Elt Ideal) ℓ) (c : Dev nD)
    (hF : Finite (m ((c.tc : Thread nD τ).loc main_arg0)) (m ((c.tc : Thread nD τ).loc main_arg1))) :
    Value.res_out0 m c = attn (m ((c.tc : Thread nD τ).loc main_arg0)) (m ((c.tc : Thread nD τ).loc main_arg1)) :=
  (res_eq m c).trans (outcome_apply _ _ hF)

end Cert.SbRefIdeal.Attn

end
-- ==== Proof.SbFinite.lean ====
/- The precondition on the queries and keys, read at the ideal instance: their entries are real numbers. -/
module

public import proofs.«01_k».proof.Proof.SbArray
public import proofs.«01_k».proof.Proof.Gen.Pre_finite_queries_and_keys

@[expose] public section

noncomputable section

namespace Cert.Pre_finite_queries_and_keys.Numbers

open Cert.Pre_finite_queries_and_keys Cert.Pre_finite_queries_and_keys.Gen
open Idealize.ShloMosaic Idealize.ShloMosaic.Tactic

/-- Less than the infinite pattern in size: a real number. -/
theorem real_of (z : EReal) (h : Ideal.cmp .olt (max z (-z)) (Ideal.ofBits .f32 0x7F800000#32) = 1#1) : ∃ a : ℝ, z = a := by
  have htop : Ideal.ofBits .f32 0x7F800000#32 = ⊤ := by simp [Ideal.ofBits, Ideal.ieee]
  rw [htop] at h
  induction z with
  | bot => exfalso; revert h; simp [Ideal.cmp]
  | top => exfalso; revert h; simp [Ideal.cmp]
  | coe r => exact ⟨r, rfl⟩

theorem finite_of (x : FVec Ideal S32768x1024 .bf16) (kv : FVec Ideal S32768x2048 .bf16)
    (h : (fn (F := Ideal) x kv).1 = (fun _ => 1#1) ∧ (fn (F := Ideal) x kv).2 = fun _ => 1#1) : Cert.SbIdeal.Attn.Finite x kv where
  query i := real_of _ (congrFun h.1 i)
  key n c hc := by
    refine real_of _ (Eq.trans ?_ (congrFun h.2 (ix2 n ⟨c, hc⟩)))
    refine congrArg (fun z => Ideal.cmp .olt (max z (-z)) (Ideal.ofBits .f32 0x7F800000#32)) (congrArg kv (funext fun a => Fin.ext ?_))
    revert a; intro (a : Fin 2); fin_cases a
    · show (n : ℕ) = 0 + n; omega
    · show c = 0 + c; omega

end Cert.Pre_finite_queries_and_keys.Numbers

end
-- ==== Proof.KvqValue.lean ====
/- The keys, values and queries at the ideal instance: what a grid point leaves, what the two result arrays hold, and that the
   plain reference leaves the same. -/
module

public import proofs.«01_k».proof.Proof.Gen.KvqIdeal.Value
public import proofs.«01_k».proof.Proof.Gen.KvqRefIdeal.Run
public import Idealize.ShloMosaic.PureOps.Ideal
public import Idealize.ShloMosaic.Lib.Pointwise
public import Idealize.ShloMosaic.Lib.Pipeline.ValueKit

@[expose] public section

set_option maxRecDepth 16384

noncomputable section

namespace Cert.KvqIdeal.Proj

open Cert.KvqIdeal Cert.KvqIdeal.Gen
open Idealize.ShloMosaic Idealize.ShloMosaic.TcCoe Idealize.ShloMosaic.Tactic

/-! ## One grid point -/

/-- A row over its root mean square, times a gain, at a column. -/
def normed (x g : Fin 1024 → EReal) (d : Fin 1024) : EReal :=
  x d * Ideal.rsqrt (Ideal.div (∑ e : Fin 1024, x e * x e) (Ideal.ofBits .f32 0x44800000#32) + Ideal.ofBits .f32 0x358637BD#32) * g d

/-- The normalised rows times a weight. -/
def keys (x : Vec Ideal S32768x1024 .f32) (g : Vec Ideal S1x1024 .f32) (w : Vec Ideal S1024x2048 .bf16) (i : S32768x2048.Idx) : EReal :=
  ∑ d : Fin 1024, normed (fun e => x (ix2 (i 0) e)) (fun e => g (ix2 0 e)) d * w (ix2 d (i 1))

/-- The normalised rows times a weight, over the root of the heads' width and over log 2. -/
def queries (x : Vec Ideal S32768x1024 .f32) (g : Vec Ideal S1x1024 .f32) (w : Vec Ideal S1024x1024 .bf16) (i : S32768x1024.Idx) : EReal :=
  (∑ d : Fin 1024, normed (fun e => x (ix2 (i 0) e)) (fun e => g (ix2 0 e)) d * w (ix2 d (i 1)))
    * (((Real.sqrt 128 * Real.log 2)⁻¹ : ℝ) : EReal)

theorem keys_ix2 (x : Vec Ideal S32768x1024 .f32) (g : Vec Ideal S1x1024 .f32) (w : Vec Ideal S1024x2048 .bf16) (r : Fin 32768) (n : Fin 2048) :
    keys x g w (ix2 r n) = ∑ d : Fin 1024, normed (fun e => x (ix2 r e)) (fun e => g (ix2 0 e)) d * w (ix2 d n) := rfl

theorem queries_ix2 (x : Vec Ideal S32768x1024 .f32) (g : Vec Ideal S1x1024 .f32) (w : Vec Ideal S1024x1024 .bf16) (r : Fin 32768) (n : Fin 1024) :
    queries x g w (ix2 r n) = (∑ d : Fin 1024, normed (fun e => x (ix2 r e)) (fun e => g (ix2 0 e)) d * w (ix2 d n))
      * (((Real.sqrt 128 * Real.log 2)⁻¹ : ℝ) : EReal) := rfl

theorem out5_apply (X : Vec Ideal S512x1024 .f32) (G H : Vec Ideal S1x1024 .f32) (W : Vec Ideal S1024x2048 .bf16) (U : Vec Ideal S1024x1024 .bf16)
    (r : Fin 512) (n : Fin 2048) :
    @Eq EReal (out0_5 (F := Ideal) X G H W U (ix2 r n))
      (∑ d : Fin 1024, normed (fun e => X (ix2 r e)) (fun e => G (ix2 0 e)) d * W (ix2 d n)) := by
  unfold out0_5 r0_0 r0_1 r0_2 r0_3
  rw [View.canon_cons_unit_lit _ _ _ (by intro a; fin_cases a <;> rfl),
    View.ld_unit_lit _ _ (by intro a; fin_cases a <;> rfl),
    View.ld_unit_lit _ _ (by intro a; fin_cases a <;> rfl),
    View.ld_unit_lit _ _ (by intro a; fin_cases a <;> rfl)]
  unfold normed
  pointwise [k0_pay2, k0_pay1]

theorem out6_apply (X : Vec Ideal S512x1024 .f32) (G H : Vec Ideal S1x1024 .f32) (W : Vec Ideal S1024x2048 .bf16) (U : Vec Ideal S1024x1024 .bf16)
    (r : Fin 512) (n : Fin 1024) :
    @Eq EReal (out0_6 (F := Ideal) X G H W U (ix2 r n))
      ((∑ d : Fin 1024, normed (fun e => X (ix2 r e)) (fun e => H (ix2 0 e)) d * U (ix2 d n)) * (((Real.sqrt 128 * Real.log 2)⁻¹ : ℝ) : EReal)) := by
  unfold out0_6 r0_0 r0_1 r0_4
  rw [View.canon_cons_unit_lit _ _ _ (by intro a; fin_cases a <;> rfl),
    View.ld_unit_lit _ _ (by intro a; fin_cases a <;> rfl),
    View.ld_unit_lit _ _ (by intro a; fin_cases a <;> rfl),
    View.ld_unit_lit _ _ (by intro a; fin_cases a <;> rfl)]
  unfold normed
  pointwise [k0_pay3, k0_pay1]
  exact congrArg _ (IdealRules.named_const.ideal_named_scalar _ _ _ _ rfl)

/-- Rows and weights that agree give the same sum. -/
theorem sum_congr {x x' g g' w w' : Fin 1024 → EReal} (hx : ∀ d, x d = x' d) (hg : ∀ d, g d = g' d) (hw : ∀ d, w d = w' d) :
    ∑ d, normed x g d * w d = ∑ d, normed x' g' d * w' d := by
  obtain rfl := funext hx; obtain rfl := funext hg; obtain rfl := funext hw; rfl

/-! ## The result arrays -/

section array

variable (m : (ℓ : Loc nD τ sig) → Buf (Elt Ideal) ℓ) (c : Dev nD) (t : Fin cfg0.N)

theorem coords_0 : (grid0.coords t 0).val = t.val := (by decide +kernel : ∀ t : Fin grid0.N, (grid0.coords t 0).val = t.val) t

/-- The row of the array that row `r` of point `t`'s tile is. -/
abbrev row (r : Fin 512) : Fin 32768 := ⟨t.val * 512 + r.val, by
  have h : t.val < 64 := t.isLt
  have := r.isLt; omega⟩

theorem index_tile : ![(BitVec.ofNat 32 (grid0.coords t 0).val).toNat, (0#32 : BitVec 32).toNat] = ![t.val, 0] := by
  have h : t.val < 64 := t.isLt
  rw [coords_0, BitVec.toNat_ofNat, Nat.mod_eq_of_lt (by omega)]; rfl

theorem iblk_0 (r : Fin 512) (d : Fin 1024) : (iblk m c 0 t : Vec Ideal S512x1024 .f32) (ix2 r d)
    = (m ((c.tc : Thread nD τ).loc main_arg0) : Vec Ideal S32768x1024 .f32) (ix2 (row t r) d) := by
  show (V m c main_arg0 : Vec Ideal S32768x1024 .f32) (((cfg0.win 0).blk t).view.emb (ix2 r d : S512x1024.Idx)) = _
  refine congrArg (V m c main_arg0 : Vec Ideal S32768x1024 .f32) (funext fun a => Fin.ext ?_)
  refine (Pipeline.Window.rect_emb_val (cfg0.win 0) t (ix2 r d : S512x1024.Idx) a).trans ?_
  rw [show (cfg0.win 0).index t = ![t.val, 0] from index_tile t]
  revert a; intro (a : Fin 2); fin_cases a
  · rfl
  · exact Nat.zero_add _ |>.trans rfl

theorem iblk_1 (d : Fin 1) (k : Fin 1024) : (iblk m c 1 t : Vec Ideal S1x1024 .f32) (ix2 d k)
    = (m ((c.tc : Thread nD τ).loc main_arg1) : Vec Ideal S1x1024 .f32) (ix2 d k) := by
  show (V m c main_arg1 : Vec Ideal S1x1024 .f32) (((cfg0.win 1).blk t).view.emb (ix2 d k : S1x1024.Idx)) = _
  refine congrArg (V m c main_arg1 : Vec Ideal S1x1024 .f32) (funext fun a => Fin.ext ?_)
  refine (Pipeline.Window.rect_emb_val (cfg0.win 1) t (ix2 d k : S1x1024.Idx) a).trans ?_
  rw [show (cfg0.win 1).index t = ![0, 0] from rfl]
  revert a; intro (a : Fin 2); fin_cases a <;> exact Nat.zero_add _ |>.trans rfl

theorem iblk_2 (d : Fin 1) (k : Fin 1024) : (iblk m c 2 t : Vec Ideal S1x1024 .f32) (ix2 d k)
    = (m ((c.tc : Thread nD τ).loc main_arg2) : Vec Ideal S1x1024 .f32) (ix2 d k) := by
  show (V m c main_arg2 : Vec Ideal S1x1024 .f32) (((cfg0.win 2).blk t).view.emb (ix2 d k : S1x1024.Idx)) = _
  refine congrArg (V m c main_arg2 : Vec Ideal S1x1024 .f32) (funext fun a => Fin.ext ?_)
  refine (Pipeline.Window.rect_emb_val (cfg0.win 2) t (ix2 d k : S1x1024.Idx) a).trans ?_
  rw [show (cfg0.win 2).index t = ![0, 0] from rfl]
  revert a; intro (a : Fin 2); fin_cases a <;> exact Nat.zero_add _ |>.trans rfl

theorem iblk_3 (d : Fin 1024) (k : Fin 2048) : (iblk m c 3 t : Vec Ideal S1024x2048 .bf16) (ix2 d k)
    = (m ((c.tc : Thread nD τ).loc main_arg3) : Vec Ideal S1024x2048 .bf16) (ix2 d k) := by
  show (V m c main_arg3 : Vec Ideal S1024x2048 .bf16) (((cfg0.win 3).blk t).view.emb (ix2 d k : S1024x2048.Idx)) = _
  refine congrArg (V m c main_arg3 : Vec Ideal S1024x2048 .bf16) (funext fun a => Fin.ext ?_)
  refine (Pipeline.Window.rect_emb_val (cfg0.win 3) t (ix2 d k : S1024x2048.Idx) a).trans ?_
  rw [show (cfg0.win 3).index t = ![0, 0] from rfl]
  revert a; intro (a : Fin 2); fin_cases a <;> exact Nat.zero_add _ |>.trans rfl

theorem iblk_4 (d : Fin 1024) (k : Fin 1024) : (iblk m c 4 t : Vec Ideal S1024x1024 .bf16) (ix2 d k)
    = (m ((c.tc : Thread nD τ).loc main_arg4) : Vec Ideal S1024x1024 .bf16) (ix2 d k) := by
  show (V m c main_arg4 : Vec Ideal S1024x1024 .bf16) (((cfg0.win 4).blk t).view.emb (ix2 d k : S1024x1024.Idx)) = _
  refine congrArg (V m c main_arg4 : Vec Ideal S1024x1024 .bf16) (funext fun a => Fin.ext ?_)
  refine (Pipeline.Window.rect_emb_val (cfg0.win 4) t (ix2 d k : S1024x1024.Idx) a).trans ?_
  rw [show (cfg0.win 4).index t = ![0, 0] from rfl]
  revert a; intro (a : Fin 2); fin_cases a <;> exact Nat.zero_add _ |>.trans rfl

theorem emb_5 (y : S512x2048.Idx) : ((cfg0.win 5).blk t).view.emb y = (ix2 (row t (y 0)) (y 1) : S32768x2048.Idx) := by
  funext a
  refine Fin.ext ((Pipeline.Window.rect_emb_val (cfg0.win 5) t y a).trans ?_)
  rw [show (cfg0.win 5).index t = ![t.val, 0] from index_tile t]
  revert a; intro (a : Fin 2); fin_cases a
  · rfl
  · exact Nat.zero_add _ |>.trans rfl

theorem cover_5 (i : S32768x2048.Idx) : ∃ t : Fin cfg0.N, (cfg0.win 5).flush t = true ∧ i ∈ ((cfg0.win 5).blk t).view.set := by
  have hi : (i 0).val < 32768 := (i 0).isLt
  let t : Fin cfg0.N := ⟨(i 0).val / 512, by rw [show cfg0.N = 64 from rfl]; omega⟩
  have e : ((cfg0.win 5).blk t).view.emb (ix2 ⟨(i 0).val % 512, Nat.mod_lt _ (by decide)⟩ (i 1) : S512x2048.Idx) = i := by
    refine (emb_5 _ _).trans (funext fun a => Fin.ext ?_)
    revert a; intro (a : Fin 2); fin_cases a
    · show (i 0).val / 512 * 512 + (i 0).val % 512 = (i 0).val; omega
    · rfl
  exact ⟨t, (by decide +kernel : ∀ t : Fin cfg0.N, (cfg0.win 5).flush t = true) t, by rw [← e]; exact View.emb_mem_set _ _⟩

/-- What point `t` leaves at row `r`, column `n` of its block of result 5. -/
theorem left_5 (r : Fin 512) (n : Fin 2048) : @Eq EReal (out0_5 (F := Ideal) (iblk m c 0 t) (iblk m c 1 t) (iblk m c 2 t) (iblk m c 3 t) (iblk m c 4 t) (ix2 r n))
    (keys (m ((c.tc : Thread nD τ).loc main_arg0)) (m ((c.tc : Thread nD τ).loc main_arg1)) (m ((c.tc : Thread nD τ).loc main_arg3)) (ix2 (row t r) n)) := by
  rw [keys_ix2]
  refine (out5_apply (iblk m c 0 t) (iblk m c 1 t) (iblk m c 2 t) (iblk m c 3 t) (iblk m c 4 t) r n).trans ?_
  exact sum_congr (iblk_0 m c t r) (iblk_1 m c t 0) (fun d => iblk_3 m c t d n)

theorem final_5 : (dats m 0 c).arrAt 5 cfg0.N = keys (m ((c.tc : Thread nD τ).loc main_arg0)) (m ((c.tc : Thread nD τ).loc main_arg1)) (m ((c.tc : Thread nD τ).loc main_arg3)) := by
  refine (dats m 0 c).arrAt_eq_of_emb 5 _ (fun t _ y => ?_) cover_5
  refine (congrFun (after0_5 m c t) y).trans ?_
  have hy : y = (ix2 (y 0) (y 1) : S512x2048.Idx) := funext fun (a : Fin 2) => by fin_cases a <;> rfl
  have he := emb_5 t y
  generalize ((cfg0.win 5).blk t).view.emb y = z at he ⊢
  subst he
  exact (congrArg (out0_5 (F := Ideal) (iblk m c 0 t) (iblk m c 1 t) (iblk m c 2 t) (iblk m c 3 t) (iblk m c 4 t)) hy).trans (left_5 m c t (y 0) (y 1))

theorem emb_6 (y : S512x1024.Idx) : ((cfg0.win 6).blk t).view.emb y = (ix2 (row t (y 0)) (y 1) : S32768x1024.Idx) := by
  funext a
  refine Fin.ext ((Pipeline.Window.rect_emb_val (cfg0.win 6) t y a).trans ?_)
  rw [show (cfg0.win 6).index t = ![t.val, 0] from index_tile t]
  revert a; intro (a : Fin 2); fin_cases a
  · rfl
  · exact Nat.zero_add _ |>.trans rfl

theorem cover_6 (i : S32768x1024.Idx) : ∃ t : Fin cfg0.N, (cfg0.win 6).flush t = true ∧ i ∈ ((cfg0.win 6).blk t).view.set := by
  have hi : (i 0).val < 32768 := (i 0).isLt
  let t : Fin cfg0.N := ⟨(i 0).val / 512, by rw [show cfg0.N = 64 from rfl]; omega⟩
  have e : ((cfg0.win 6).blk t).view.emb (ix2 ⟨(i 0).val % 512, Nat.mod_lt _ (by decide)⟩ (i 1) : S512x1024.Idx) = i := by
    refine (emb_6 _ _).trans (funext fun a => Fin.ext ?_)
    revert a; intro (a : Fin 2); fin_cases a
    · show (i 0).val / 512 * 512 + (i 0).val % 512 = (i 0).val; omega
    · rfl
  exact ⟨t, (by decide +kernel : ∀ t : Fin cfg0.N, (cfg0.win 6).flush t = true) t, by rw [← e]; exact View.emb_mem_set _ _⟩

/-- What point `t` leaves at row `r`, column `n` of its block of result 6. -/
theorem left_6 (r : Fin 512) (n : Fin 1024) : @Eq EReal (out0_6 (F := Ideal) (iblk m c 0 t) (iblk m c 1 t) (iblk m c 2 t) (iblk m c 3 t) (iblk m c 4 t) (ix2 r n))
    (queries (m ((c.tc : Thread nD τ).loc main_arg0)) (m ((c.tc : Thread nD τ).loc main_arg2)) (m ((c.tc : Thread nD τ).loc main_arg4)) (ix2 (row t r) n)) := by
  rw [queries_ix2]
  refine (out6_apply (iblk m c 0 t) (iblk m c 1 t) (iblk m c 2 t) (iblk m c 3 t) (iblk m c 4 t) r n).trans ?_
  exact congrArg (· * (((Real.sqrt 128 * Real.log 2)⁻¹ : ℝ) : EReal))
    (sum_congr (iblk_0 m c t r) (iblk_2 m c t 0) (fun d => iblk_4 m c t d n))

theorem final_6 : (dats m 0 c).arrAt 6 cfg0.N = queries (m ((c.tc : Thread nD τ).loc main_arg0)) (m ((c.tc : Thread nD τ).loc main_arg2)) (m ((c.tc : Thread nD τ).loc main_arg4)) := by
  refine (dats m 0 c).arrAt_eq_of_emb 6 _ (fun t _ y => ?_) cover_6
  refine (congrFun (after0_6 m c t) y).trans ?_
  have hy : y = (ix2 (y 0) (y 1) : S512x1024.Idx) := funext fun (a : Fin 2) => by fin_cases a <;> rfl
  have he := emb_6 t y
  generalize ((cfg0.win 6).blk t).view.emb y = z at he ⊢
  subst he
  exact (congrArg (out0_6 (F := Ideal) (iblk m c 0 t) (iblk m c 1 t) (iblk m c 2 t) (iblk m c 3 t) (iblk m c 4 t)) hy).trans (left_6 m c t (y 0) (y 1))

end array

end Cert.KvqIdeal.Proj

/-! ## The reference -/

namespace Cert.KvqRefIdeal.Proj

open Cert.KvqRefIdeal Cert.KvqRefIdeal.Gen
open Idealize.ShloMosaic Idealize.ShloMosaic.TcCoe Idealize.ShloMosaic.Tactic
open Cert.KvqIdeal.Proj (keys queries normed)

theorem keys_eq (x : FVec Ideal S32768x1024 .f32) (g : FVec Ideal S1x1024 .f32) (w : FVec Ideal S1024x2048 .bf16) :
    truncf .bf16 (Host.dotGeneral dot_S32768x1024_S1024x2048_S32768x2048_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)) (extf .f32 w bitsLt_bf16_f32)) bitsLt_bf16_f32
      = keys x g w := by
  funext i
  unfold keys normed
  pointwise

/-- Over √128 and then over log 2 is times the inverse of their product. -/
theorem over (y : EReal) :
    Ideal.div (Ideal.div y (Ideal.sqrt (Ideal.ofBits .f32 0x43000000#32))) (Ideal.log (Ideal.ofBits .f32 0x40000000#32))
      = y * (((Real.sqrt 128 * Real.log 2)⁻¹ : ℝ) : EReal) := by
  have e1 : Ideal.ofBits .f32 0x43000000#32 = ((128 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  have h1 : Real.sqrt 128 ≠ 0 := by positivity
  have h2 : Real.log 2 ≠ 0 := (Real.log_pos (by norm_num)).ne'
  rw [e1, e2]
  show Ideal.div (Ideal.div y (if (128 : ℝ) < 0 then ⊥ else ((Real.sqrt 128 : ℝ) : EReal))) (if (2 : ℝ) ≤ 0 then ⊥ else ((Real.log 2 : ℝ) : EReal)) = _
  rw [if_neg (by norm_num), if_neg (by norm_num)]
  unfold Ideal.div
  rw [if_neg (by exact_mod_cast h2), if_neg (by exact_mod_cast h1), ← EReal.coe_inv, ← EReal.coe_inv, mul_assoc, ← EReal.coe_mul, mul_inv]

theorem queries_eq (x : FVec Ideal S32768x1024 .f32) (g : FVec Ideal S1x1024 .f32) (w : FVec Ideal S1024x1024 .bf16) :
    truncf .bf16 (Host.divf (Host.divf (Host.dotGeneral dot_S32768x1024_S1024x1024_S32768x1024_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)) (extf .f32 w bitsLt_bf16_f32)) (broadcastInDim S32768x1024 ![] bcast_S_S32768x1024 (Host.sqrt (constant S_ .f32 0x43000000#32)))) (broadcastInDim S32768x1024 ![] bcast_S_S32768x1024 (Host.log (constant S_ .f32 0x40000000#32)))) bitsLt_bf16_f32
      = queries x g w := by
  funext i
  unfold queries normed
  pointwise
  exact over _

end Cert.KvqRefIdeal.Proj

end
-- ==== Proof.InprojValue.lean ====
/- The input's projection of the gated linear attention at the ideal instance: what a grid point leaves, what the four result arrays
   hold, and that the plain reference leaves the same. -/
module

public import proofs.«01_k».proof.Proof.Gen.InprojIdeal.Value
public import proofs.«01_k».proof.Proof.Gen.InprojRefIdeal.Run
public import Idealize.ShloMosaic.PureOps.Ideal
public import Idealize.ShloMosaic.Lib.Pointwise
public import Idealize.ShloMosaic.Lib.Pipeline.ValueKit

@[expose] public section

set_option maxRecDepth 16384

noncomputable section

namespace Cert.InprojIdeal.Proj

open Cert.InprojIdeal Cert.InprojIdeal.Gen
open Idealize.ShloMosaic Idealize.ShloMosaic.TcCoe Idealize.ShloMosaic.Tactic

/-! ## One grid point -/

/-- A row over its root mean square, times a gain, at a column. -/
def normed (x g : Fin 1024 → EReal) (d : Fin 1024) : EReal :=
  x d * Ideal.rsqrt (Ideal.div (∑ e : Fin 1024, x e * x e) (Ideal.ofBits .f32 0x44800000#32) + Ideal.ofBits .f32 0x358637BD#32) * g d

/-- The normalised row `r` times column `n` of the weight. -/
def proj (x : Vec Ideal S32768x1024 .f32) (g : Vec Ideal S1x1024 .f32) (w : Vec Ideal S1024x3200 .bf16) (r : Fin 32768) (n : Fin 3200) : EReal :=
  ∑ d : Fin 1024, normed (fun e => x (ix2 r e)) (fun e => g (ix2 0 e)) d * w (ix2 d n)

/-- The 1024 columns from `o` on. -/
def wide (o : ℕ) (ho : o + 1024 ≤ 3200) (x : Vec Ideal S32768x1024 .f32) (g : Vec Ideal S1x1024 .f32) (w : Vec Ideal S1024x3200 .bf16)
    (i : S32768x1024.Idx) : EReal :=
  proj x g w (i 0) ⟨o + (i 1).val, by have : (i 1).val < 1024 := (i 1).isLt; omega⟩

/-- The last 128 columns. -/
def narrow (x : Vec Ideal S32768x1024 .f32) (g : Vec Ideal S1x1024 .f32) (w : Vec Ideal S1024x3200 .bf16) (i : S32768x128.Idx) : EReal :=
  proj x g w (i 0) ⟨3072 + (i 1).val, by have : (i 1).val < 128 := (i 1).isLt; omega⟩

/-- Columns of the weight from `o` on, loaded. -/
theorem ld_cols {k : ℕ} (W : Vec Ideal S1024x3200 .bf16) (o : ℕ) (inb : ∀ a : Fin 2, ![0, o] a + ![1024, k] a ≤ S1024x3200.size a)
    (d : Fin 1024) (n : Fin k) (h : o + n.val < 3200) :
    @Eq EReal (View.ld W (Rect.unit (s := S1024x3200) ![0, o] ![1024, k] inb) (ix2 d n)) (W (ix2 d ⟨o + n.val, h⟩)) := by
  refine View.ld_unit_apply_of W _ _ inb _ _ fun a => ?_
  revert a; intro (a : Fin 2); fin_cases a
  · exact (Nat.zero_add _).symm
  · rfl

theorem out3_apply (X : Vec Ideal S512x1024 .f32) (G : Vec Ideal S1x1024 .f32) (W : Vec Ideal S1024x3200 .bf16)
    (r : Fin 512) (n : Fin 1024) :
    @Eq EReal (out0_3 (F := Ideal) X G W (ix2 r n))
      (∑ d : Fin 1024, normed (fun e => X (ix2 r e)) (fun e => G (ix2 0 e)) d * W (ix2 d ⟨0 + n.val, by omega⟩)) := by
  unfold out0_3
  simp only [r0_0, r0_1, r0_2]
  rw [View.canon_cons_unit_lit _ _ _ (by intro a; fin_cases a <;> rfl),
    View.ld_unit_lit _ X (by intro a; fin_cases a <;> rfl), View.ld_unit_lit _ G (by intro a; fin_cases a <;> rfl)]
  unfold normed
  pointwise [k0_pay2, k0_pay1]
  try exact Finset.sum_congr rfl fun d _ => congrArg _ (ld_cols W 0 _ d n (by omega))

theorem out4_apply (X : Vec Ideal S512x1024 .f32) (G : Vec Ideal S1x1024 .f32) (W : Vec Ideal S1024x3200 .bf16)
    (r : Fin 512) (n : Fin 1024) :
    @Eq EReal (out0_4 (F := Ideal) X G W (ix2 r n))
      (∑ d : Fin 1024, normed (fun e => X (ix2 r e)) (fun e => G (ix2 0 e)) d * W (ix2 d ⟨1024 + n.val, by omega⟩)) := by
  unfold out0_4
  simp only [r0_0, r0_1, r0_3]
  rw [View.canon_cons_unit_lit _ _ _ (by intro a; fin_cases a <;> rfl),
    View.ld_unit_lit _ X (by intro a; fin_cases a <;> rfl), View.ld_unit_lit _ G (by intro a; fin_cases a <;> rfl)]
  unfold normed
  pointwise [k0_pay3, k0_pay1]
  try exact Finset.sum_congr rfl fun d _ => congrArg _ (ld_cols W 1024 _ d n (by omega))

theorem out5_apply (X : Vec Ideal S512x1024 .f32) (G : Vec Ideal S1x1024 .f32) (W : Vec Ideal S1024x3200 .bf16)
    (r : Fin 512) (n : Fin 1024) :
    @Eq EReal (out0_5 (F := Ideal) X G W (ix2 r n))
      (∑ d : Fin 1024, normed (fun e => X (ix2 r e)) (fun e => G (ix2 0 e)) d * W (ix2 d ⟨2048 + n.val, by omega⟩)) := by
  unfold out0_5
  simp only [r0_0, r0_1, r0_4]
  rw [View.canon_cons_unit_lit _ _ _ (by intro a; fin_cases a <;> rfl),
    View.ld_unit_lit _ X (by intro a; fin_cases a <;> rfl), View.ld_unit_lit _ G (by intro a; fin_cases a <;> rfl)]
  unfold normed
  pointwise [k0_pay4, k0_pay1]
  try exact Finset.sum_congr rfl fun d _ => congrArg _ (ld_cols W 2048 _ d n (by omega))

theorem out6_apply (X : Vec Ideal S512x1024 .f32) (G : Vec Ideal S1x1024 .f32) (W : Vec Ideal S1024x3200 .bf16)
    (r : Fin 512) (n : Fin 128) :
    @Eq EReal (out0_6 (F := Ideal) X G W (ix2 r n))
      (∑ d : Fin 1024, normed (fun e => X (ix2 r e)) (fun e => G (ix2 0 e)) d * W (ix2 d ⟨3072 + n.val, by omega⟩)) := by
  unfold out0_6
  simp only [r0_0, r0_1, r0_5, r0_6]
  rw [View.canon_cons_unit_lit _ _ _ (by intro a; fin_cases a <;> rfl),
    View.ld_unit_lit _ X (by intro a; fin_cases a <;> rfl), View.ld_unit_lit _ G (by intro a; fin_cases a <;> rfl)]
  unfold normed
  pointwise [k0_pay5, k0_pay1]
  try exact Finset.sum_congr rfl fun d _ => congrArg _ (ld_cols W 3072 _ d n (by omega))

/-- Rows and weights that agree give the same sum. -/
theorem sum_congr {x x' g g' w w' : Fin 1024 → EReal} (hx : ∀ d, x d = x' d) (hg : ∀ d, g d = g' d) (hw : ∀ d, w d = w' d) :
    ∑ d, normed x g d * w d = ∑ d, normed x' g' d * w' d := by
  obtain rfl := funext hx; obtain rfl := funext hg; obtain rfl := funext hw; rfl

/-! ## The result arrays -/

section array

variable (m : (ℓ : Loc nD τ sig) → Buf (Elt Ideal) ℓ) (c : Dev nD) (t : Fin cfg0.N)

theorem coords_0 : (grid0.coords t 0).val = t.val := (by decide +kernel : ∀ t : Fin grid0.N, (grid0.coords t 0).val = t.val) t

/-- The row of the array that row `r` of point `t`'s tile is. -/
abbrev row (r : Fin 512) : Fin 32768 := ⟨t.val * 512 + r.val, by
  have h : t.val < 64 := t.isLt
  have := r.isLt; omega⟩

theorem index_tile : ![(BitVec.ofNat 32 (grid0.coords t 0).val).toNat, (0#32 : BitVec 32).toNat] = ![t.val, 0] := by
  have h : t.val < 64 := t.isLt
  rw [coords_0, BitVec.toNat_ofNat, Nat.mod_eq_of_lt (by omega)]; rfl

theorem iblk_0 (r : Fin 512) (d : Fin 1024) : (iblk m c 0 t : Vec Ideal S512x1024 .f32) (ix2 r d)
    = (m ((c.tc : Thread nD τ).loc main_arg0) : Vec Ideal S32768x1024 .f32) (ix2 (row t r) d) := by
  show (V m c main_arg0 : Vec Ideal S32768x1024 .f32) (((cfg0.win 0).blk t).view.emb (ix2 r d : S512x1024.Idx)) = _
  refine congrArg (V m c main_arg0 : Vec Ideal S32768x1024 .f32) (funext fun a => Fin.ext ?_)
  refine (Pipeline.Window.rect_emb_val (cfg0.win 0) t (ix2 r d : S512x1024.Idx) a).trans ?_
  rw [show (cfg0.win 0).index t = ![t.val, 0] from index_tile t]
  revert a; intro (a : Fin 2); fin_cases a
  · rfl
  · exact Nat.zero_add _ |>.trans rfl

theorem iblk_1 (d : Fin 1) (k : Fin 1024) : (iblk m c 1 t : Vec Ideal S1x1024 .f32) (ix2 d k)
    = (m ((c.tc : Thread nD τ).loc main_arg1) : Vec Ideal S1x1024 .f32) (ix2 d k) := by
  show (V m c main_arg1 : Vec Ideal S1x1024 .f32) (((cfg0.win 1).blk t).view.emb (ix2 d k : S1x1024.Idx)) = _
  refine congrArg (V m c main_arg1 : Vec Ideal S1x1024 .f32) (funext fun a => Fin.ext ?_)
  refine (Pipeline.Window.rect_emb_val (cfg0.win 1) t (ix2 d k : S1x1024.Idx) a).trans ?_
  rw [show (cfg0.win 1).index t = ![0, 0] from rfl]
  revert a; intro (a : Fin 2); fin_cases a <;> exact Nat.zero_add _ |>.trans rfl

theorem iblk_2 (d : Fin 1024) (k : Fin 3200) : (iblk m c 2 t : Vec Ideal S1024x3200 .bf16) (ix2 d k)
    = (m ((c.tc : Thread nD τ).loc main_arg2) : Vec Ideal S1024x3200 .bf16) (ix2 d k) := by
  show (V m c main_arg2 : Vec Ideal S1024x3200 .bf16) (((cfg0.win 2).blk t).view.emb (ix2 d k : S1024x3200.Idx)) = _
  refine congrArg (V m c main_arg2 : Vec Ideal S1024x3200 .bf16) (funext fun a => Fin.ext ?_)
  refine (Pipeline.Window.rect_emb_val (cfg0.win 2) t (ix2 d k : S1024x3200.Idx) a).trans ?_
  rw [show (cfg0.win 2).index t = ![0, 0] from rfl]
  revert a; intro (a : Fin 2); fin_cases a <;> exact Nat.zero_add _ |>.trans rfl

theorem emb_3 (y : S512x1024.Idx) : ((cfg0.win 3).blk t).view.emb y = (ix2 (row t (y 0)) (y 1) : S32768x1024.Idx) := by
  funext a
  refine Fin.ext ((Pipeline.Window.rect_emb_val (cfg0.win 3) t y a).trans ?_)
  rw [show (cfg0.win 3).index t = ![t.val, 0] from index_tile t]
  revert a; intro (a : Fin 2); fin_cases a
  · rfl
  · exact Nat.zero_add _ |>.trans rfl

theorem cover_3 (i : S32768x1024.Idx) : ∃ t : Fin cfg0.N, (cfg0.win 3).flush t = true ∧ i ∈ ((cfg0.win 3).blk t).view.set := by
  have hi : (i 0).val < 32768 := (i 0).isLt
  let t : Fin cfg0.N := ⟨(i 0).val / 512, by rw [show cfg0.N = 64 from rfl]; omega⟩
  have e : ((cfg0.win 3).blk t).view.emb (ix2 ⟨(i 0).val % 512, Nat.mod_lt _ (by decide)⟩ (i 1) : S512x1024.Idx) = i := by
    refine (emb_3 _ _).trans (funext fun a => Fin.ext ?_)
    revert a; intro (a : Fin 2); fin_cases a
    · show (i 0).val / 512 * 512 + (i 0).val % 512 = (i 0).val; omega
    · rfl
  exact ⟨t, (by decide +kernel : ∀ t : Fin cfg0.N, (cfg0.win 3).flush t = true) t, by rw [← e]; exact View.emb_mem_set _ _⟩

/-- What point `t` leaves at row `r`, column `n` of its block of result 3. -/
theorem left_3 (r : Fin 512) (n : Fin 1024) : @Eq EReal (out0_3 (F := Ideal) (iblk m c 0 t) (iblk m c 1 t) (iblk m c 2 t) (ix2 r n))
    (wide 0 (by omega) (m ((c.tc : Thread nD τ).loc main_arg0)) (m ((c.tc : Thread nD τ).loc main_arg1)) (m ((c.tc : Thread nD τ).loc main_arg2)) (ix2 (row t r) n)) := by
  refine (out3_apply (iblk m c 0 t) (iblk m c 1 t) (iblk m c 2 t) r n).trans ?_
  exact sum_congr (iblk_0 m c t r) (iblk_1 m c t 0) (fun d => iblk_2 m c t d _)

theorem final_3 : (dats m 0 c).arrAt 3 cfg0.N = wide 0 (by omega) (m ((c.tc : Thread nD τ).loc main_arg0)) (m ((c.tc : Thread nD τ).loc main_arg1)) (m ((c.tc : Thread nD τ).loc main_arg2)) := by
  refine (dats m 0 c).arrAt_eq_of_emb 3 _ (fun t _ y => ?_) cover_3
  refine (congrFun (after0_3 m c t) y).trans ?_
  have hy : y = (ix2 (y 0) (y 1) : S512x1024.Idx) := funext fun (a : Fin 2) => by fin_cases a <;> rfl
  have he := emb_3 t y
  generalize ((cfg0.win 3).blk t).view.emb y = z at he ⊢
  subst he
  exact (congrArg (out0_3 (F := Ideal) (iblk m c 0 t) (iblk m c 1 t) (iblk m c 2 t)) hy).trans (left_3 m c t (y 0) (y 1))

theorem emb_4 (y : S512x1024.Idx) : ((cfg0.win 4).blk t).view.emb y = (ix2 (row t (y 0)) (y 1) : S32768x1024.Idx) := by
  funext a
  refine Fin.ext ((Pipeline.Window.rect_emb_val (cfg0.win 4) t y a).trans ?_)
  rw [show (cfg0.win 4).index t = ![t.val, 0] from index_tile t]
  revert a; intro (a : Fin 2); fin_cases a
  · rfl
  · exact Nat.zero_add _ |>.trans rfl

theorem cover_4 (i : S32768x1024.Idx) : ∃ t : Fin cfg0.N, (cfg0.win 4).flush t = true ∧ i ∈ ((cfg0.win 4).blk t).view.set := by
  have hi : (i 0).val < 32768 := (i 0).isLt
  let t : Fin cfg0.N := ⟨(i 0).val / 512, by rw [show cfg0.N = 64 from rfl]; omega⟩
  have e : ((cfg0.win 4).blk t).view.emb (ix2 ⟨(i 0).val % 512, Nat.mod_lt _ (by decide)⟩ (i 1) : S512x1024.Idx) = i := by
    refine (emb_4 _ _).trans (funext fun a => Fin.ext ?_)
    revert a; intro (a : Fin 2); fin_cases a
    · show (i 0).val / 512 * 512 + (i 0).val % 512 = (i 0).val; omega
    · rfl
  exact ⟨t, (by decide +kernel : ∀ t : Fin cfg0.N, (cfg0.win 4).flush t = true) t, by rw [← e]; exact View.emb_mem_set _ _⟩

/-- What point `t` leaves at row `r`, column `n` of its block of result 4. -/
theorem left_4 (r : Fin 512) (n : Fin 1024) : @Eq EReal (out0_4 (F := Ideal) (iblk m c 0 t) (iblk m c 1 t) (iblk m c 2 t) (ix2 r n))
    (wide 1024 (by omega) (m ((c.tc : Thread nD τ).loc main_arg0)) (m ((c.tc : Thread nD τ).loc main_arg1)) (m ((c.tc : Thread nD τ).loc main_arg2)) (ix2 (row t r) n)) := by
  refine (out4_apply (iblk m c 0 t) (iblk m c 1 t) (iblk m c 2 t) r n).trans ?_
  exact sum_congr (iblk_0 m c t r) (iblk_1 m c t 0) (fun d => iblk_2 m c t d _)

theorem final_4 : (dats m 0 c).arrAt 4 cfg0.N = wide 1024 (by omega) (m ((c.tc : Thread nD τ).loc main_arg0)) (m ((c.tc : Thread nD τ).loc main_arg1)) (m ((c.tc : Thread nD τ).loc main_arg2)) := by
  refine (dats m 0 c).arrAt_eq_of_emb 4 _ (fun t _ y => ?_) cover_4
  refine (congrFun (after0_4 m c t) y).trans ?_
  have hy : y = (ix2 (y 0) (y 1) : S512x1024.Idx) := funext fun (a : Fin 2) => by fin_cases a <;> rfl
  have he := emb_4 t y
  generalize ((cfg0.win 4).blk t).view.emb y = z at he ⊢
  subst he
  exact (congrArg (out0_4 (F := Ideal) (iblk m c 0 t) (iblk m c 1 t) (iblk m c 2 t)) hy).trans (left_4 m c t (y 0) (y 1))

theorem emb_5 (y : S512x1024.Idx) : ((cfg0.win 5).blk t).view.emb y = (ix2 (row t (y 0)) (y 1) : S32768x1024.Idx) := by
  funext a
  refine Fin.ext ((Pipeline.Window.rect_emb_val (cfg0.win 5) t y a).trans ?_)
  rw [show (cfg0.win 5).index t = ![t.val, 0] from index_tile t]
  revert a; intro (a : Fin 2); fin_cases a
  · rfl
  · exact Nat.zero_add _ |>.trans rfl

theorem cover_5 (i : S32768x1024.Idx) : ∃ t : Fin cfg0.N, (cfg0.win 5).flush t = true ∧ i ∈ ((cfg0.win 5).blk t).view.set := by
  have hi : (i 0).val < 32768 := (i 0).isLt
  let t : Fin cfg0.N := ⟨(i 0).val / 512, by rw [show cfg0.N = 64 from rfl]; omega⟩
  have e : ((cfg0.win 5).blk t).view.emb (ix2 ⟨(i 0).val % 512, Nat.mod_lt _ (by decide)⟩ (i 1) : S512x1024.Idx) = i := by
    refine (emb_5 _ _).trans (funext fun a => Fin.ext ?_)
    revert a; intro (a : Fin 2); fin_cases a
    · show (i 0).val / 512 * 512 + (i 0).val % 512 = (i 0).val; omega
    · rfl
  exact ⟨t, (by decide +kernel : ∀ t : Fin cfg0.N, (cfg0.win 5).flush t = true) t, by rw [← e]; exact View.emb_mem_set _ _⟩

/-- What point `t` leaves at row `r`, column `n` of its block of result 5. -/
theorem left_5 (r : Fin 512) (n : Fin 1024) : @Eq EReal (out0_5 (F := Ideal) (iblk m c 0 t) (iblk m c 1 t) (iblk m c 2 t) (ix2 r n))
    (wide 2048 (by omega) (m ((c.tc : Thread nD τ).loc main_arg0)) (m ((c.tc : Thread nD τ).loc main_arg1)) (m ((c.tc : Thread nD τ).loc main_arg2)) (ix2 (row t r) n)) := by
  refine (out5_apply (iblk m c 0 t) (iblk m c 1 t) (iblk m c 2 t) r n).trans ?_
  exact sum_congr (iblk_0 m c t r) (iblk_1 m c t 0) (fun d => iblk_2 m c t d _)

theorem final_5 : (dats m 0 c).arrAt 5 cfg0.N = wide 2048 (by omega) (m ((c.tc : Thread nD τ).loc main_arg0)) (m ((c.tc : Thread nD τ).loc main_arg1)) (m ((c.tc : Thread nD τ).loc main_arg2)) := by
  refine (dats m 0 c).arrAt_eq_of_emb 5 _ (fun t _ y => ?_) cover_5
  refine (congrFun (after0_5 m c t) y).trans ?_
  have hy : y = (ix2 (y 0) (y 1) : S512x1024.Idx) := funext fun (a : Fin 2) => by fin_cases a <;> rfl
  have he := emb_5 t y
  generalize ((cfg0.win 5).blk t).view.emb y = z at he ⊢
  subst he
  exact (congrArg (out0_5 (F := Ideal) (iblk m c 0 t) (iblk m c 1 t) (iblk m c 2 t)) hy).trans (left_5 m c t (y 0) (y 1))

theorem emb_6 (y : S512x128.Idx) : ((cfg0.win 6).blk t).view.emb y = (ix2 (row t (y 0)) (y 1) : S32768x128.Idx) := by
  funext a
  refine Fin.ext ((Pipeline.Window.rect_emb_val (cfg0.win 6) t y a).trans ?_)
  rw [show (cfg0.win 6).index t = ![t.val, 0] from index_tile t]
  revert a; intro (a : Fin 2); fin_cases a
  · rfl
  · exact Nat.zero_add _ |>.trans rfl

theorem cover_6 (i : S32768x128.Idx) : ∃ t : Fin cfg0.N, (cfg0.win 6).flush t = true ∧ i ∈ ((cfg0.win 6).blk t).view.set := by
  have hi : (i 0).val < 32768 := (i 0).isLt
  let t : Fin cfg0.N := ⟨(i 0).val / 512, by rw [show cfg0.N = 64 from rfl]; omega⟩
  have e : ((cfg0.win 6).blk t).view.emb (ix2 ⟨(i 0).val % 512, Nat.mod_lt _ (by decide)⟩ (i 1) : S512x128.Idx) = i := by
    refine (emb_6 _ _).trans (funext fun a => Fin.ext ?_)
    revert a; intro (a : Fin 2); fin_cases a
    · show (i 0).val / 512 * 512 + (i 0).val % 512 = (i 0).val; omega
    · rfl
  exact ⟨t, (by decide +kernel : ∀ t : Fin cfg0.N, (cfg0.win 6).flush t = true) t, by rw [← e]; exact View.emb_mem_set _ _⟩

/-- What point `t` leaves at row `r`, column `n` of its block of result 6. -/
theorem left_6 (r : Fin 512) (n : Fin 128) : @Eq EReal (out0_6 (F := Ideal) (iblk m c 0 t) (iblk m c 1 t) (iblk m c 2 t) (ix2 r n))
    (narrow (m ((c.tc : Thread nD τ).loc main_arg0)) (m ((c.tc : Thread nD τ).loc main_arg1)) (m ((c.tc : Thread nD τ).loc main_arg2)) (ix2 (row t r) n)) := by
  refine (out6_apply (iblk m c 0 t) (iblk m c 1 t) (iblk m c 2 t) r n).trans ?_
  exact sum_congr (iblk_0 m c t r) (iblk_1 m c t 0) (fun d => iblk_2 m c t d _)

theorem final_6 : (dats m 0 c).arrAt 6 cfg0.N = narrow (m ((c.tc : Thread nD τ).loc main_arg0)) (m ((c.tc : Thread nD τ).loc main_arg1)) (m ((c.tc : Thread nD τ).loc main_arg2)) := by
  refine (dats m 0 c).arrAt_eq_of_emb 6 _ (fun t _ y => ?_) cover_6
  refine (congrFun (after0_6 m c t) y).trans ?_
  have hy : y = (ix2 (y 0) (y 1) : S512x128.Idx) := funext fun (a : Fin 2) => by fin_cases a <;> rfl
  have he := emb_6 t y
  generalize ((cfg0.win 6).blk t).view.emb y = z at he ⊢
  subst he
  exact (congrArg (out0_6 (F := Ideal) (iblk m c 0 t) (iblk m c 1 t) (iblk m c 2 t)) hy).trans (left_6 m c t (y 0) (y 1))

end array

end Cert.InprojIdeal.Proj

/-! ## The reference -/

namespace Cert.InprojRefIdeal.Proj

open Cert.InprojRefIdeal Cert.InprojRefIdeal.Gen
open Idealize.ShloMosaic Idealize.ShloMosaic.TcCoe Idealize.ShloMosaic.Tactic
open Cert.InprojIdeal.Proj (proj wide narrow normed)

theorem result3_eq (x : FVec Ideal S32768x1024 .f32) (g : FVec Ideal S1x1024 .f32) (w : FVec Ideal S1024x3200 .bf16) :
    extractStridedSlice S32768x1024 ![0, 0] (Host.dotGeneral dot_S32768x1024_S1024x3200_S32768x3200_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)) (extf .f32 w bitsLt_bf16_f32)) slices_S32768x3200_S32768x1024_0_0
      = wide 0 (by omega) x g w := by
  funext i
  unfold wide proj normed
  pointwise

theorem result4_eq (x : FVec Ideal S32768x1024 .f32) (g : FVec Ideal S1x1024 .f32) (w : FVec Ideal S1024x3200 .bf16) :
    truncf .bf16 (extractStridedSlice S32768x1024 ![0, 1024] (Host.dotGeneral dot_S32768x1024_S1024x3200_S32768x3200_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)) (extf .f32 w bitsLt_bf16_f32)) slices_S32768x3200_S32768x1024_0_1024) bitsLt_bf16_f32
      = wide 1024 (by omega) x g w := by
  funext i
  unfold wide proj normed
  pointwise

theorem result5_eq (x : FVec Ideal S32768x1024 .f32) (g : FVec Ideal S1x1024 .f32) (w : FVec Ideal S1024x3200 .bf16) :
    extractStridedSlice S32768x1024 ![0, 2048] (Host.dotGeneral dot_S32768x1024_S1024x3200_S32768x3200_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)) (extf .f32 w bitsLt_bf16_f32)) slices_S32768x3200_S32768x1024_0_2048
      = wide 2048 (by omega) x g w := by
  funext i
  unfold wide proj normed
  pointwise

theorem result6_eq (x : FVec Ideal S32768x1024 .f32) (g : FVec Ideal S1x1024 .f32) (w : FVec Ideal S1024x3200 .bf16) :
    extractStridedSlice S32768x128 ![0, 3072] (Host.dotGeneral dot_S32768x1024_S1024x3200_S32768x3200_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)) (extf .f32 w bitsLt_bf16_f32)) slices_S32768x3200_S32768x128_0_3072
      = narrow x g w := by
  funext i
  unfold narrow proj normed
  pointwise

end Cert.InprojRefIdeal.Proj

end
-- ==== Proof.GlaSpec.lean ====
/- The gated linear recurrence over the extended reals, chunk by chunk: decays added up within a chunk, queries and keys weighted
   by them, the state carried from chunk to chunk, and what each position reads. -/
module

public import proofs.«01_k».proof.Proof.Gen.GlaIdeal
public import Idealize.ShloMosaic.PureOps.Ideal

@[expose] public section

noncomputable section

namespace Cert.Gla

open Idealize.ShloMosaic

variable (L Q K V R : ℕ → ℕ → ℕ → EReal) (GH : ℕ → EReal)

/-- The decays of a chunk up to its position `i`, added. -/
def cumS (β n i c : ℕ) : EReal := ∑ j : Fin 64, if (j : ℕ) ≤ i then L β (64 * n + j) c else 0

/-- The decays of a chunk, added. -/
def endS (β n c : ℕ) : EReal := ∑ j : Fin 64, L β (64 * n + j) c

/-- A query weighted. -/
def qdS (β n i c : ℕ) : EReal := Q β (64 * n + i) c * Ideal.ofBits .f32 0x3DB504F3#32 * Ideal.exp (cumS L β n i c)

/-- A key weighted for its own chunk. -/
def kiS (β n i c : ℕ) : EReal := K β (64 * n + i) c * Ideal.exp (-cumS L β n i c)

/-- A key weighted for the chunks after it. -/
def keS (β n i c : ℕ) : EReal := K β (64 * n + i) c * Ideal.exp (endS L β n c - cumS L β n i c)

/-- The state before chunk `n`. -/
def stS (β h : ℕ) : ℕ → ℕ → ℕ → EReal
  | 0 => fun _ _ => 0
  | n + 1 => fun dv d => Ideal.exp (endS L β n (128 * h + d)) * stS β h n dv d
      + ∑ i : Fin 64, V β (64 * n + i) (256 * h + dv) * keS L K β n i (128 * h + d)

/-- What position `i` of chunk `n` reads. -/
def oS (β h n i dv : ℕ) : EReal :=
  (∑ d : Fin 128, qdS L Q β n i (128 * h + d) * stS L K V β h n dv d)
    + ∑ j : Fin 64, (if (j : ℕ) ≤ i then ∑ d : Fin 128, qdS L Q β n i (128 * h + d) * kiS L K β n j (128 * h + d) else 0)
        * V β (64 * n + j) (256 * h + dv)

/-- The same, normalised over its head and gated. -/
def ogS (β h n i dv : ℕ) : EReal :=
  oS L Q K V β h n i dv * Ideal.rsqrt (Ideal.div (∑ e : Fin 256, oS L Q K V β h n i e * oS L Q K V β h n i e) (Ideal.ofBits .f32 0x43800000#32) + Ideal.ofBits .f32 0x358637BD#32)
    * GH dv * (R β (64 * n + i) (256 * h + dv) * Ideal.div 1 (1 + Ideal.exp (-R β (64 * n + i) (256 * h + dv))))

/-- The layer's sum after it: a residual stream plus the projected results. -/
def hS (X W : ℕ → ℕ → ℕ → EReal) (β t j : ℕ) : EReal :=
  X β t j + ∑ k : Fin 1024, ogS L Q K V R GH β ((k : ℕ) / 256) (t / 64) (t % 64) ((k : ℕ) % 256) * W 0 k j

/-- The same, normalised for the next part. -/
def hnS (X W : ℕ → ℕ → ℕ → EReal) (GN : ℕ → EReal) (β t j : ℕ) : EReal :=
  hS L Q K V R GH X W β t j * Ideal.rsqrt (Ideal.div (∑ e : Fin 1024, hS L Q K V R GH X W β t e * hS L Q K V R GH X W β t e) (Ideal.ofBits .f32 0x44800000#32)
    + Ideal.ofBits .f32 0x358637BD#32) * GN j

/-- A position's decay, of its gate's number. -/
def lsv (x : EReal) : EReal := (min x 0 - Ideal.log (1 + Ideal.exp (-(max x (-x))))) * Ideal.ofBits .f32 0x3D800000#32

end Cert.Gla

end
-- ==== Proof.GlaBlock.lean ====
/- One chunk of 64 positions of one head of the gated recurrence: the state it leaves and what it puts out, and the lists of
   writes a grid point makes of them. -/
module

public import proofs.«01_k».proof.Proof.Gen.GlaIdeal.Frame
public import Idealize.ShloMosaic.Lib.Pipeline.ValueKit

@[expose] public section

set_option maxRecDepth 16384

noncomputable section

namespace Cert.GlaIdeal.Mix

open Cert.GlaIdeal Cert.GlaIdeal.Gen
open Idealize.ShloMosaic Idealize.ShloMosaic.TcCoe Idealize.ShloMosaic.Tactic

/-- Where chunk `c` of head `h` starts in a tile of one batch. -/
def off (c h : ℕ) : Fin 2 → ℕ := ![64 * (c % 4), 128 * (h % 4)]

theorem off_64 (c h : ℕ) : S256x512.Slices (off c h) S64x128 := by
  refine ⟨rfl, ?_⟩
  intro a; revert a; intro (a : Fin 2); fin_cases a
  · show 64 * (c % 4) + 64 ≤ 256; omega
  · show 128 * (h % 4) + 128 ≤ 512; omega

theorem off_1 (c h : ℕ) : S256x512.Slices (off c h) S1x128 := by
  refine ⟨rfl, ?_⟩
  intro a; revert a; intro (a : Fin 2); fin_cases a
  · show 64 * (c % 4) + 1 ≤ 256; omega
  · show 128 * (h % 4) + 128 ≤ 512; omega

/-- The state after the chunk. -/
def stOp (ke : FVec Ideal S256x512 .bf16) (de : FVec Ideal S256x512 .f32) (v : Vec Ideal S1x64x256 .bf16)
    (st : Vec Ideal S1x1x256x128 .f32) (c h : ℕ) : FVec Ideal S1x1x256x128 .f32 :=
  shapeCast S1x1x256x128
    (addf (mulf (broadcastTo S256x128 (extractStridedSlice S1x128 (off c h) de (off_1 c h)) broadcasts_S1x128_S256x128)
        (shapeCast S256x128 st shapeCasts_S1x1x256x128_S256x128))
      (matmul (φ₁ := .bf16) (φ₂ := .bf16) dot_S64x256_S64x128_S256x128_0_0_1_1_n_n none (shapeCast S64x256 v shapeCasts_S1x64x256_S64x256)
        (extractStridedSlice S64x128 (off c h) ke (off_64 c h)) (constant S256x128 .f32 0x00000000#32)))
    shapeCasts_S256x128_S1x1x256x128

/-- What the chunk's queries read: the state before it, and the chunk's own earlier keys. -/
def oOp (qd ki : FVec Ideal S256x512 .bf16) (v : Vec Ideal S1x64x256 .bf16)
    (st : Vec Ideal S1x1x256x128 .f32) (c h : ℕ) : FVec Ideal S64x256 .f32 :=
  addf (matmul (φ₁ := .bf16) (φ₂ := .bf16) dot_S64x128_S256x128_S64x256_1_1_0_0_n_n none (extractStridedSlice S64x128 (off c h) qd (off_64 c h))
      (truncf .bf16 (shapeCast S256x128 st shapeCasts_S1x1x256x128_S256x128) bitsLt_bf16_f32 : FVec Ideal S256x128 .bf16) (constant S64x256 .f32 0x00000000#32))
    (matmul (φ₁ := .bf16) (φ₂ := .bf16) dot_S64x64_S64x256_S64x256_1_0_0_1_n_n none
      (truncf .bf16 (select k0_pay24 (matmul dot_S64x128_S64x128_S64x64_1_1_0_0_n_n none (extractStridedSlice S64x128 (off c h) qd (off_64 c h))
          (extractStridedSlice S64x128 (off c h) ki (off_64 c h)) (constant S64x64 .f32 0x00000000#32))
        (broadcast S64x64 (Scalar.ofBits .f32 0x00000000#32))) bitsLt_bf16_f32 : FVec Ideal S64x64 .bf16)
      (shapeCast S64x256 v shapeCasts_S1x64x256_S64x256) (constant S64x256 .f32 0x00000000#32))

/-- What the chunk puts out, normalised over its head and gated. -/
def ogOp (gh : Vec Ideal S1x256 .f32) (o : FVec Ideal S64x256 .f32) (r : Vec Ideal S1x64x256 .f32) : FVec Ideal S1x64x256 .bf16 :=
  k0_pay30 gh o r

theorem stOp_apply (ke : FVec Ideal S256x512 .bf16) (de : FVec Ideal S256x512 .f32) (v : Vec Ideal S1x64x256 .bf16)
    (st : Vec Ideal S1x1x256x128 .f32) (c h : ℕ) (dv : Fin 256) (d : Fin 128) :
    @Eq EReal (stOp ke de v st c h (ix4 0 0 dv d)) (de (ix2 ⟨64 * (c % 4), by omega⟩ ⟨128 * (h % 4) + d, by omega⟩) * st (ix4 0 0 dv d)
      + ∑ i : Fin 64, v (ix3 0 i dv) * ke (ix2 ⟨64 * (c % 4) + i, by omega⟩ ⟨128 * (h % 4) + d, by omega⟩)) := by
  unfold stOp
  pointwise
  rfl

theorem oOp_apply (qd ki : FVec Ideal S256x512 .bf16) (v : Vec Ideal S1x64x256 .bf16)
    (st : Vec Ideal S1x1x256x128 .f32) (c h : ℕ) (i : Fin 64) (dv : Fin 256) :
    @Eq EReal (oOp qd ki v st c h (ix2 i dv)) ((∑ d : Fin 128, qd (ix2 ⟨64 * (c % 4) + i, by omega⟩ ⟨128 * (h % 4) + d, by omega⟩) * st (ix4 0 0 dv d))
      + ∑ j : Fin 64, (if (j : ℕ) ≤ i then ∑ d : Fin 128, qd (ix2 ⟨64 * (c % 4) + i, by omega⟩ ⟨128 * (h % 4) + d, by omega⟩)
          * ki (ix2 ⟨64 * (c % 4) + j, by omega⟩ ⟨128 * (h % 4) + d, by omega⟩) else 0) * v (ix3 0 j dv)) := by
  unfold oOp
  pointwise [k0_pay24]
  refine congrArg (_ + ·) (Finset.sum_congr rfl fun j _ => ?_)
  have hj : (j : ℕ) < 64 := j.isLt
  have hi : (i : ℕ) < 64 := i.isLt
  rw [WordCmp.cmpi_sle_ofNat (w := 32) (a := j) (b := i) (by norm_num; omega) (by norm_num; omega)]
  by_cases hji : (j : ℕ) ≤ i
  · rw [if_pos hji, decide_eq_true hji]; rfl
  · rw [if_neg hji, decide_eq_false hji, zero_mul]; rfl

theorem ogOp_apply (gh : Vec Ideal S1x256 .f32) (o : FVec Ideal S64x256 .f32) (r : Vec Ideal S1x64x256 .f32) (i : Fin 64) (dv : Fin 256) :
    @Eq EReal (ogOp gh o r (ix3 0 i dv)) (o (ix2 i dv) * Ideal.rsqrt (Ideal.div (∑ e : Fin 256, o (ix2 i e) * o (ix2 i e)) (Ideal.ofBits .f32 0x43800000#32) + Ideal.ofBits .f32 0x358637BD#32)
      * gh (ix2 0 dv) * (r (ix3 0 i dv) * Ideal.div 1 (1 + Ideal.exp (- r (ix3 0 i dv))))) := by
  unfold ogOp
  pointwise [k0_pay30]
  rw [zero_sub]

/-! ## The lists of writes -/

theorem rect_inb (k : ℕ) : ∀ a, (![k / 4 % 2, k % 4, 0, 0] : Fin 4 → ℕ) a + S1x1x256x128.size a ≤ S2x4x256x128.size a := by
  intro a; fin_cases a
  · show k / 4 % 2 + 1 ≤ 2; omega
  · show k % 4 + 1 ≤ 4; omega
  · show 0 + 256 ≤ 256; omega
  · show 0 + 128 ≤ 128; omega

/-- Where the states of block `k` lie. -/
abbrev rectOf (k : ℕ) : Rect S2x4x256x128 := Rect.unit (s := S2x4x256x128) ![k / 4 % 2, k % 4, 0, 0] S1x1x256x128.size (rect_inb k)

theorem rect3_inb (k : ℕ) : ∀ a, (![k / 4 % 2, 64 * (k / 8 % 4), 256 * (k % 4)] : Fin 3 → ℕ) a + S1x64x256.size a ≤ S2x256x1024.size a := by
  intro a; fin_cases a
  · show k / 4 % 2 + 1 ≤ 2; omega
  · show 64 * (k / 8 % 4) + 64 ≤ 256; omega
  · show 256 * (k % 4) + 256 ≤ 1024; omega

/-- Where the values and results of block `k` lie. -/
abbrev rect3 (k : ℕ) : Rect S2x256x1024 := Rect.unit (s := S2x256x1024) ![k / 4 % 2, 64 * (k / 8 % 4), 256 * (k % 4)] S1x64x256.size (rect3_inb k)

/-- One of two, by a batch's parity. -/
def pick {α : Type} (a b : α) : ℕ → α
  | 0 => a
  | _ + 1 => b

section lists

variable (ke0 ke1 qd0 qd1 ki0 ki1 : FVec Ideal S256x512 .bf16) (de0 de1 : FVec Ideal S256x512 .f32) (gh : Vec Ideal S1x256 .f32)
  (vb : ℕ → Vec Ideal S1x64x256 .bf16) (rb : ℕ → Vec Ideal S1x64x256 .f32) (ini : ℕ → Vec Ideal S1x1x256x128 .f32)
  (base : List (View.Piece (Elt Ideal) S2x4x256x128 .f32))

/-- Block `k`'s state after it. -/
def stepAt (k : ℕ) (st : Vec Ideal S1x1x256x128 .f32) : Vec Ideal S1x1x256x128 .f32 :=
  stOp (pick ke0 ke1 (k / 4 % 2)) (pick de0 de1 (k / 4 % 2)) (vb k) st (k / 8) k

/-- Block `k`'s results. -/
def ogAt (k : ℕ) (st : Vec Ideal S1x1x256x128 .f32) : Vec Ideal S1x64x256 .bf16 :=
  ogOp gh (oOp (pick qd0 qd1 (k / 4 % 2)) (pick ki0 ki1 (k / 4 % 2)) (vb k) st (k / 8) k) (rb k)

/-- The state block `k` reads. -/
def X (k : ℕ) : Vec Ideal S1x1x256x128 .f32 :=
  Nat.rec (ini (k % 8)) (fun c st => stepAt ke0 ke1 de0 de1 vb (8 * c + k % 8) st) (k / 8)

theorem X_lt (k : ℕ) (h : k < 8) : X ke0 ke1 de0 de1 vb ini k = ini k := by
  unfold X
  rw [Nat.div_eq_of_lt h, Nat.mod_eq_of_lt h]
  rfl

theorem X_add (k : ℕ) : X ke0 ke1 de0 de1 vb ini (k + 8) = stepAt ke0 ke1 de0 de1 vb k (X ke0 ke1 de0 de1 vb ini k) := by
  unfold X
  rw [show (k + 8) / 8 = k / 8 + 1 by omega, show (k + 8) % 8 = k % 8 by omega]
  show stepAt ke0 ke1 de0 de1 vb (8 * (k / 8) + k % 8) _ = _
  rw [show 8 * (k / 8) + k % 8 = k by omega]

/-- The states written by the first `n` blocks. -/
def P : ℕ → List (View.Piece (Elt Ideal) S2x4x256x128 .f32)
  | 0 => base
  | k + 1 => ⟨rectOf k, stepAt ke0 ke1 de0 de1 vb k (X ke0 ke1 de0 de1 vb ini k)⟩ :: P k

/-- The results written by the first `n` blocks. -/
def Q : ℕ → List (View.Piece (Elt Ideal) S2x256x1024 .bf16)
  | 0 => []
  | k + 1 => ⟨rect3 k, ogAt qd0 qd1 ki0 ki1 gh vb rb k (X ke0 ke1 de0 de1 vb ini k)⟩ :: Q k

theorem P_cons (k : ℕ) {p : View.Piece (Elt Ideal) S2x4x256x128 .f32} {l : List (View.Piece (Elt Ideal) S2x4x256x128 .f32)}
    (hp : p = ⟨rectOf k, stepAt ke0 ke1 de0 de1 vb k (X ke0 ke1 de0 de1 vb ini k)⟩) (hl : l = P ke0 ke1 de0 de1 vb ini base k) :
    p :: l = P ke0 ke1 de0 de1 vb ini base (k + 1) := by subst hp; subst hl; rfl

theorem Q_cons (k : ℕ) {p : View.Piece (Elt Ideal) S2x256x1024 .bf16} {l : List (View.Piece (Elt Ideal) S2x256x1024 .bf16)}
    (hp : p = ⟨rect3 k, ogAt qd0 qd1 ki0 ki1 gh vb rb k (X ke0 ke1 de0 de1 vb ini k)⟩) (hl : l = Q ke0 ke1 qd0 qd1 ki0 ki1 de0 de1 gh vb rb ini k) :
    p :: l = Q ke0 ke1 qd0 qd1 ki0 ki1 de0 de1 gh vb rb ini (k + 1) := by subst hp; subst hl; rfl

theorem mem_rectOf (k : ℕ) (y : S2x4x256x128.Idx) : y ∈ (rectOf k).set ↔ (y 0 : ℕ) = k / 4 % 2 ∧ (y 1 : ℕ) = k % 4 := by
  rw [Rect.mem_set_unit]
  have h0 : (y 0 : ℕ) < 2 := (y 0).isLt
  have h1 : (y 1 : ℕ) < 4 := (y 1).isLt
  have h2 : (y 2 : ℕ) < 256 := (y 2).isLt
  have h3 : (y 3 : ℕ) < 128 := (y 3).isLt
  constructor
  · intro h
    have a0 : k / 4 % 2 ≤ (y 0 : ℕ) ∧ (y 0 : ℕ) < k / 4 % 2 + 1 := h 0
    have a1 : k % 4 ≤ (y 1 : ℕ) ∧ (y 1 : ℕ) < k % 4 + 1 := h 1
    omega
  · rintro ⟨e0, e1⟩ a
    revert a; intro (a : Fin 4); fin_cases a
    · show k / 4 % 2 ≤ (y 0 : ℕ) ∧ (y 0 : ℕ) < k / 4 % 2 + 1; omega
    · show k % 4 ≤ (y 1 : ℕ) ∧ (y 1 : ℕ) < k % 4 + 1; omega
    · show 0 ≤ (y 2 : ℕ) ∧ (y 2 : ℕ) < 0 + 256; omega
    · show 0 ≤ (y 3 : ℕ) ∧ (y 3 : ℕ) < 0 + 128; omega

theorem emb_rectOf (k : ℕ) (y : S2x4x256x128.Idx) (hk : k % 8 = 4 * (y 0 : ℕ) + (y 1 : ℕ)) :
    (rectOf k).emb (ix4 0 0 (y 2) (y 3) : S1x1x256x128.Idx) = y := by
  have h0 : (y 0 : ℕ) < 2 := (y 0).isLt
  have h1 : (y 1 : ℕ) < 4 := (y 1).isLt
  funext a; refine Fin.ext ((Rect.idx_unit_val _ _ _ _ a).trans ?_)
  revert a; intro (a : Fin 4); fin_cases a
  · show k / 4 % 2 + 0 = (y 0 : ℕ); omega
  · show k % 4 + 0 = (y 1 : ℕ); omega
  · show 0 + (y 2 : ℕ) = (y 2 : ℕ); omega
  · show 0 + (y 3 : ℕ) = (y 3 : ℕ); omega

theorem canon_P (k j : ℕ) (hj : j < 8) (y : S2x4x256x128.Idx) (hk : k % 8 = 4 * (y 0 : ℕ) + (y 1 : ℕ)) :
    View.canon (P ke0 ke1 de0 de1 vb ini base (k + 1 + j)) y
      = stepAt ke0 ke1 de0 de1 vb k (X ke0 ke1 de0 de1 vb ini k) (ix4 0 0 (y 2) (y 3)) := by
  have h0 : (y 0 : ℕ) < 2 := (y 0).isLt
  have h1 : (y 1 : ℕ) < 4 := (y 1).isLt
  induction j with
  | zero =>
    show View.canon (⟨rectOf k, stepAt ke0 ke1 de0 de1 vb k (X ke0 ke1 de0 de1 vb ini k)⟩ :: P ke0 ke1 de0 de1 vb ini base k) y = _
    conv_lhs => rw [← emb_rectOf k y hk]
    exact View.canon_cons_emb _ _ _ _
  | succ j ih =>
    show View.canon (⟨rectOf (k + 1 + j), _⟩ :: P ke0 ke1 de0 de1 vb ini base (k + 1 + j)) y = _
    rw [View.canon_cons_of_not_mem _ _ (by rw [mem_rectOf]; omega), ih (by omega)]

theorem canon_P_base (k : ℕ) (y : S2x4x256x128.Idx) (hk : k ≤ 4 * (y 0 : ℕ) + (y 1 : ℕ)) :
    View.canon (P ke0 ke1 de0 de1 vb ini base k) y = View.canon base y := by
  have h0 : (y 0 : ℕ) < 2 := (y 0).isLt
  have h1 : (y 1 : ℕ) < 4 := (y 1).isLt
  induction k with
  | zero => rfl
  | succ k ih =>
    show View.canon (⟨rectOf k, _⟩ :: P ke0 ke1 de0 de1 vb ini base k) y = _
    rw [View.canon_cons_of_not_mem _ _ (by rw [mem_rectOf]; omega), ih (by omega)]

theorem idx_rectOf (k : ℕ) (j : S1x1x256x128.Idx) (a : Fin 4) :
    ((rectOf k).toLoadRect.idx j a : ℕ) = (![k / 4 % 2, k % 4, 0, 0] : Fin 4 → ℕ) a + (j a : ℕ) :=
  Rect.idx_unit_val (s := S2x4x256x128) ![k / 4 % 2, k % 4, 0, 0] S1x1x256x128.size (rect_inb k) j a

/-- A block reads back what the eighth before it wrote. -/
theorem read_P (v : View sig .tc .vmem S2x4x256x128 .f32) (k : ℕ) :
    v.readCov (P ke0 ke1 de0 de1 vb ini base (k + 8)) (rectOf (k + 8)).toLoadRect = X ke0 ke1 de0 de1 vb ini (k + 8) := by
  rw [View.readCov_eq_canon', X_add]
  funext j
  have j0 : (j 0 : ℕ) < 1 := (j 0).isLt
  have j1 : (j 1 : ℕ) < 1 := (j 1).isLt
  have i0 : ((rectOf (k + 8)).toLoadRect.idx j 0 : ℕ) = (k + 8) / 4 % 2 + (j 0 : ℕ) := idx_rectOf (k + 8) j 0
  have i1 : ((rectOf (k + 8)).toLoadRect.idx j 1 : ℕ) = (k + 8) % 4 + (j 1 : ℕ) := idx_rectOf (k + 8) j 1
  have i2 : ((rectOf (k + 8)).toLoadRect.idx j 2 : ℕ) = 0 + (j 2 : ℕ) := idx_rectOf (k + 8) j 2
  have i3 : ((rectOf (k + 8)).toLoadRect.idx j 3 : ℕ) = 0 + (j 3 : ℕ) := idx_rectOf (k + 8) j 3
  refine (canon_P ke0 ke1 de0 de1 vb ini base k 7 (by omega) ((rectOf (k + 8)).toLoadRect.idx j) (by rw [i0, i1]; omega)).trans (congrArg _ ?_)
  funext a; apply Fin.ext
  revert a; intro (a : Fin 4); fin_cases a
  · show 0 = (j 0 : ℕ); omega
  · show 0 = (j 1 : ℕ); omega
  · show ((rectOf (k + 8)).toLoadRect.idx j 2 : ℕ) = (j 2 : ℕ); omega
  · show ((rectOf (k + 8)).toLoadRect.idx j 3 : ℕ) = (j 3 : ℕ); omega

/-- The first eight read what lay there before. -/
theorem read_P_base (v : View sig .tc .vmem S2x4x256x128 .f32) (k : ℕ) (hk : k < 8) (hb : ∀ y, View.canon base y = (0 : EReal))
    (hi : ∀ y, ini k y = (0 : EReal)) :
    v.readCov (P ke0 ke1 de0 de1 vb ini base k) (rectOf k).toLoadRect = X ke0 ke1 de0 de1 vb ini k := by
  rw [View.readCov_eq_canon', X_lt _ _ _ _ _ _ k hk]
  funext j
  have j0 : (j 0 : ℕ) < 1 := (j 0).isLt
  have j1 : (j 1 : ℕ) < 1 := (j 1).isLt
  have i0 : ((rectOf k).toLoadRect.idx j 0 : ℕ) = k / 4 % 2 + (j 0 : ℕ) := idx_rectOf k j 0
  have i1 : ((rectOf k).toLoadRect.idx j 1 : ℕ) = k % 4 + (j 1 : ℕ) := idx_rectOf k j 1
  rw [canon_P_base ke0 ke1 de0 de1 vb ini base k _ (by rw [i0, i1]; omega), hb]
  exact (hi _).symm

theorem mem_rect3 (k : ℕ) (y : S2x256x1024.Idx) : y ∈ (rect3 k).set ↔ (y 0 : ℕ) = k / 4 % 2 ∧ (y 1 : ℕ) / 64 = k / 8 % 4 ∧ (y 2 : ℕ) / 256 = k % 4 := by
  rw [Rect.mem_set_unit]
  have h0 : (y 0 : ℕ) < 2 := (y 0).isLt
  have h1 : (y 1 : ℕ) < 256 := (y 1).isLt
  have h2 : (y 2 : ℕ) < 1024 := (y 2).isLt
  constructor
  · intro h
    have a0 : k / 4 % 2 ≤ (y 0 : ℕ) ∧ (y 0 : ℕ) < k / 4 % 2 + 1 := h 0
    have a1 : 64 * (k / 8 % 4) ≤ (y 1 : ℕ) ∧ (y 1 : ℕ) < 64 * (k / 8 % 4) + 64 := h 1
    have a2 : 256 * (k % 4) ≤ (y 2 : ℕ) ∧ (y 2 : ℕ) < 256 * (k % 4) + 256 := h 2
    omega
  · rintro ⟨e0, e1, e2⟩ a
    revert a; intro (a : Fin 3); fin_cases a
    · show k / 4 % 2 ≤ (y 0 : ℕ) ∧ (y 0 : ℕ) < k / 4 % 2 + 1; omega
    · show 64 * (k / 8 % 4) ≤ (y 1 : ℕ) ∧ (y 1 : ℕ) < 64 * (k / 8 % 4) + 64; omega
    · show 256 * (k % 4) ≤ (y 2 : ℕ) ∧ (y 2 : ℕ) < 256 * (k % 4) + 256; omega

theorem canon_Q (k j : ℕ) (hj : k + 1 + j ≤ 32) (y : S2x256x1024.Idx) (hk : k = 8 * ((y 1 : ℕ) / 64) + 4 * (y 0 : ℕ) + (y 2 : ℕ) / 256) :
    View.canon (Q ke0 ke1 qd0 qd1 ki0 ki1 de0 de1 gh vb rb ini (k + 1 + j)) y
      = ogAt qd0 qd1 ki0 ki1 gh vb rb k (X ke0 ke1 de0 de1 vb ini k)
          (ix3 0 ⟨(y 1 : ℕ) % 64, Nat.mod_lt _ (by omega)⟩ ⟨(y 2 : ℕ) % 256, Nat.mod_lt _ (by omega)⟩) := by
  have h0 : (y 0 : ℕ) < 2 := (y 0).isLt
  have h1 : (y 1 : ℕ) < 256 := (y 1).isLt
  have h2 : (y 2 : ℕ) < 1024 := (y 2).isLt
  induction j with
  | zero =>
    show View.canon (⟨rect3 k, ogAt qd0 qd1 ki0 ki1 gh vb rb k (X ke0 ke1 de0 de1 vb ini k)⟩ :: Q ke0 ke1 qd0 qd1 ki0 ki1 de0 de1 gh vb rb ini k) y = _
    have e : (rect3 k).emb (ix3 0 ⟨(y 1 : ℕ) % 64, Nat.mod_lt _ (by omega)⟩ ⟨(y 2 : ℕ) % 256, Nat.mod_lt _ (by omega)⟩ : S1x64x256.Idx) = y := by
      funext a; refine Fin.ext ((Rect.idx_unit_val _ _ _ _ a).trans ?_)
      revert a; intro (a : Fin 3); fin_cases a
      · show k / 4 % 2 + 0 = (y 0 : ℕ); omega
      · show 64 * (k / 8 % 4) + (y 1 : ℕ) % 64 = (y 1 : ℕ); omega
      · show 256 * (k % 4) + (y 2 : ℕ) % 256 = (y 2 : ℕ); omega
    conv_lhs => rw [← e]
    exact View.canon_cons_emb _ _ _ _
  | succ j ih =>
    show View.canon (⟨rect3 (k + 1 + j), _⟩ :: Q ke0 ke1 qd0 qd1 ki0 ki1 de0 de1 gh vb rb ini (k + 1 + j)) y = _
    rw [View.canon_cons_of_not_mem _ _ (by rw [mem_rect3]; omega), ih (by omega)]

end lists

end Cert.GlaIdeal.Mix

end
-- ==== Proof.GlaTile.lean ====
/- What a grid point's tile comes to: the states after it and its gated results, given the tile's weighted queries and keys. -/
module

public import proofs.«01_k».proof.Proof.GlaSpec
public import proofs.«01_k».proof.Proof.GlaBlock

@[expose] public section

set_option maxRecDepth 16384

noncomputable section

namespace Cert.GlaIdeal.Mix

open Cert.GlaIdeal Cert.GlaIdeal.Gen Cert.Gla
open Idealize.ShloMosaic Idealize.ShloMosaic.TcCoe Idealize.ShloMosaic.Tactic

section tile

variable {L Qf Kf V R : ℕ → ℕ → ℕ → EReal} {GH : ℕ → EReal} {B T : ℕ}
  {ke0 ke1 qd0 qd1 ki0 ki1 : FVec Ideal S256x512 .bf16} {de0 de1 : FVec Ideal S256x512 .f32} {gh : Vec Ideal S1x256 .f32}
  {vb : ℕ → Vec Ideal S1x64x256 .bf16} {rb : ℕ → Vec Ideal S1x64x256 .f32} {ini : ℕ → Vec Ideal S1x1x256x128 .f32}
  {base : List (View.Piece (Elt Ideal) S2x4x256x128 .f32)}

variable
  (hke : ∀ (b : ℕ) (i : Fin 256) (c : Fin 512), b < 2 → @Eq EReal (pick ke0 ke1 b (ix2 i c)) (keS L Kf (B + b) (4 * T + i / 64) (i % 64) c))
  (hde : ∀ (b : ℕ) (i : Fin 256) (c : Fin 512), b < 2 → @Eq EReal (pick de0 de1 b (ix2 i c)) (Ideal.exp (endS L (B + b) (4 * T + i / 64) c)))
  (hqd : ∀ (b : ℕ) (i : Fin 256) (c : Fin 512), b < 2 → @Eq EReal (pick qd0 qd1 b (ix2 i c)) (qdS L Qf (B + b) (4 * T + i / 64) (i % 64) c))
  (hki : ∀ (b : ℕ) (i : Fin 256) (c : Fin 512), b < 2 → @Eq EReal (pick ki0 ki1 b (ix2 i c)) (kiS L Kf (B + b) (4 * T + i / 64) (i % 64) c))
  (hvb : ∀ (k : ℕ) (i : Fin 64) (dv : Fin 256), @Eq EReal (vb k (ix3 0 i dv)) (V (B + k / 4 % 2) (64 * (4 * T + k / 8 % 4) + i) (256 * (k % 4) + dv)))
  (hrb : ∀ (k : ℕ) (i : Fin 64) (dv : Fin 256), @Eq EReal (rb k (ix3 0 i dv)) (R (B + k / 4 % 2) (64 * (4 * T + k / 8 % 4) + i) (256 * (k % 4) + dv)))
  (hgh : ∀ dv : Fin 256, @Eq EReal (gh (ix2 0 dv)) (GH dv))
  (hini : ∀ (k : ℕ) (dv : Fin 256) (d : Fin 128), k < 8 → @Eq EReal (ini k (ix4 0 0 dv d)) (stS L Kf V (B + k / 4) (k % 4) (4 * T) dv d))

include hke hde hvb in
theorem step_eq (k : ℕ) (st : Vec Ideal S1x1x256x128 .f32)
    (hst : ∀ (dv : Fin 256) (d : Fin 128), @Eq EReal (st (ix4 0 0 dv d)) (stS L Kf V (B + k / 4 % 2) (k % 4) (4 * T + k / 8 % 4) dv d)) (dv : Fin 256) (d : Fin 128) :
    @Eq EReal (stepAt ke0 ke1 de0 de1 vb k st (ix4 0 0 dv d)) (stS L Kf V (B + k / 4 % 2) (k % 4) (4 * T + k / 8 % 4 + 1) dv d) := by
  unfold stepAt
  have hb : k / 4 % 2 < 2 := Nat.mod_lt _ (by omega)
  refine (stOp_apply _ _ _ _ _ _ dv d).trans ?_
  rw [hst, hde _ _ _ hb]
  show _ = Ideal.exp (endS L _ (4 * T + k / 8 % 4) (128 * (k % 4) + d)) * _ + _
  congr 1
  · have : (64 * (k / 8 % 4)) / 64 = k / 8 % 4 := by omega
    show Ideal.exp (endS L _ (4 * T + (64 * (k / 8 % 4)) / 64) _) * _ = _
    rw [this]
  · refine Finset.sum_congr rfl fun i _ => ?_
    rw [hvb, hke _ _ _ hb]
    have hi : (i : ℕ) < 64 := i.isLt
    have e1 : (64 * (k / 8 % 4) + (i : ℕ)) / 64 = k / 8 % 4 := by omega
    have e2 : (64 * (k / 8 % 4) + (i : ℕ)) % 64 = i := by omega
    show _ * keS L Kf _ (4 * T + (64 * (k / 8 % 4) + (i : ℕ)) / 64) ((64 * (k / 8 % 4) + (i : ℕ)) % 64) _ = _
    rw [e1, e2]

include hke hde hvb hini in
theorem X_eq (k : ℕ) (hk : k < 8) (n : ℕ) (hn : n < 4) (dv : Fin 256) (d : Fin 128) :
    @Eq EReal (X ke0 ke1 de0 de1 vb ini (k + 8 * n) (ix4 0 0 dv d)) (stS L Kf V (B + k / 4) (k % 4) (4 * T + n) dv d) := by
  induction n generalizing dv d with
  | zero => rw [Nat.mul_zero, Nat.add_zero, X_lt _ _ _ _ _ _ k hk]; exact hini k dv d hk
  | succ n ih =>
    have e := X_add ke0 ke1 de0 de1 vb ini (k + 8 * n)
    rw [show k + 8 * n + 8 = k + 8 * (n + 1) by ring] at e
    rw [e]
    have e1 : (k + 8 * n) / 4 % 2 = k / 4 := by omega
    have e2 : (k + 8 * n) % 4 = k % 4 := by omega
    have e3 : (k + 8 * n) / 8 % 4 = n := by omega
    refine (step_eq (L := L) (Kf := Kf) (V := V) (B := B) (T := T) hke hde hvb (k + 8 * n) _ (fun dv d => ?_) dv d).trans ?_
    · rw [e1, e2, e3]; exact ih (by omega) dv d
    · rw [e1, e2, e3]; rfl

include hke hde hvb hini in
theorem state_eq (y : S2x4x256x128.Idx) :
    @Eq EReal (View.canon (P ke0 ke1 de0 de1 vb ini base 32) y) (stS L Kf V (B + y 0) (y 1) (4 * T + 4) (y 2) (y 3)) := by
  have h0 : (y 0 : ℕ) < 2 := (y 0).isLt
  have h1 : (y 1 : ℕ) < 4 := (y 1).isLt
  have e := canon_P ke0 ke1 de0 de1 vb ini base (4 * (y 0 : ℕ) + (y 1 : ℕ) + 8 * 3) (7 - (4 * (y 0 : ℕ) + (y 1 : ℕ))) (by omega) y (by omega)
  rw [show 4 * (y 0 : ℕ) + (y 1 : ℕ) + 8 * 3 + 1 + (7 - (4 * (y 0 : ℕ) + (y 1 : ℕ))) = 32 by omega] at e
  have e1 : (4 * (y 0 : ℕ) + (y 1 : ℕ) + 8 * 3) / 4 % 2 = y 0 := by omega
  have e1' : (4 * (y 0 : ℕ) + (y 1 : ℕ)) / 4 = y 0 := by omega
  have e2 : (4 * (y 0 : ℕ) + (y 1 : ℕ) + 8 * 3) % 4 = y 1 := by omega
  have e2' : (4 * (y 0 : ℕ) + (y 1 : ℕ)) % 4 = y 1 := by omega
  have e3 : (4 * (y 0 : ℕ) + (y 1 : ℕ) + 8 * 3) / 8 % 4 = 3 := by omega
  refine e.trans ?_
  refine (step_eq (L := L) (Kf := Kf) (V := V) (B := B) (T := T) hke hde hvb _ _ (fun dv d => ?_) (y 2) (y 3)).trans ?_
  · rw [e1, e2, e3]
    refine (X_eq hke hde hvb hini (4 * (y 0 : ℕ) + (y 1 : ℕ)) (by omega) 3 (by omega) dv d).trans ?_
    rw [e1', e2']
  · rw [e1, e2, e3]

include hke hde hvb hini hqd hki hrb hgh in
theorem result_eq (y : S2x256x1024.Idx) :
    @Eq EReal (View.canon (Q ke0 ke1 qd0 qd1 ki0 ki1 de0 de1 gh vb rb ini 32) y)
      (ogS L Qf Kf V R GH (B + y 0) ((y 2 : ℕ) / 256) (4 * T + (y 1 : ℕ) / 64) ((y 1 : ℕ) % 64) ((y 2 : ℕ) % 256)) := by
  have h0 : (y 0 : ℕ) < 2 := (y 0).isLt
  have h1 : (y 1 : ℕ) < 256 := (y 1).isLt
  have h2 : (y 2 : ℕ) < 1024 := (y 2).isLt
  obtain ⟨k, hk⟩ : ∃ k, k = 8 * ((y 1 : ℕ) / 64) + 4 * (y 0 : ℕ) + (y 2 : ℕ) / 256 := ⟨_, rfl⟩
  have e := canon_Q ke0 ke1 qd0 qd1 ki0 ki1 de0 de1 gh vb rb ini k (31 - k) (by omega) y hk
  rw [show k + 1 + (31 - k) = 32 by omega] at e
  refine e.trans ?_
  have e1 : k / 4 % 2 = y 0 := by omega
  have e2 : k % 4 = (y 2 : ℕ) / 256 := by omega
  have e3 : k / 8 % 4 = (y 1 : ℕ) / 64 := by omega
  have hb : k / 4 % 2 < 2 := Nat.mod_lt _ (by omega)
  have ho : ∀ (i : Fin 64) (dv : Fin 256), @Eq EReal (oOp (pick qd0 qd1 (k / 4 % 2)) (pick ki0 ki1 (k / 4 % 2)) (vb k) (X ke0 ke1 de0 de1 vb ini k) (k / 8) k (ix2 i dv))
      (oS L Qf Kf V (B + y 0) ((y 2 : ℕ) / 256) (4 * T + (y 1 : ℕ) / 64) i dv) := by
    intro i dv
    refine (oOp_apply _ _ _ _ _ _ i dv).trans ?_
    unfold oS
    have r : ∀ j : Fin 64, (64 * (k / 8 % 4) + (j : ℕ)) / 64 = (y 1 : ℕ) / 64 ∧ (64 * (k / 8 % 4) + (j : ℕ)) % 64 = j := by
      intro j; have := j.isLt; omega
    have hq : ∀ d : Fin 128, @Eq EReal (pick qd0 qd1 (k / 4 % 2) (ix2 ⟨64 * (k / 8 % 4) + i, by omega⟩ ⟨128 * (k % 4) + d, by omega⟩))
        (qdS L Qf (B + y 0) (4 * T + (y 1 : ℕ) / 64) i (128 * ((y 2 : ℕ) / 256) + d)) := by
      intro d
      refine (hqd _ _ _ hb).trans ?_
      show qdS L Qf (B + k / 4 % 2) (4 * T + (64 * (k / 8 % 4) + (i : ℕ)) / 64) ((64 * (k / 8 % 4) + (i : ℕ)) % 64) (128 * (k % 4) + d) = _
      rw [(r i).1, (r i).2, e1, e2]
    have hk' : ∀ (j : Fin 64) (d : Fin 128), @Eq EReal (pick ki0 ki1 (k / 4 % 2) (ix2 ⟨64 * (k / 8 % 4) + j, by omega⟩ ⟨128 * (k % 4) + d, by omega⟩))
        (kiS L Kf (B + y 0) (4 * T + (y 1 : ℕ) / 64) j (128 * ((y 2 : ℕ) / 256) + d)) := by
      intro j d
      refine (hki _ _ _ hb).trans ?_
      show kiS L Kf (B + k / 4 % 2) (4 * T + (64 * (k / 8 % 4) + (j : ℕ)) / 64) ((64 * (k / 8 % 4) + (j : ℕ)) % 64) (128 * (k % 4) + d) = _
      rw [(r j).1, (r j).2, e1, e2]
    have hX : ∀ d : Fin 128, @Eq EReal (X ke0 ke1 de0 de1 vb ini k (ix4 0 0 dv d)) (stS L Kf V (B + y 0) ((y 2 : ℕ) / 256) (4 * T + (y 1 : ℕ) / 64) dv d) := by
      intro d
      have := X_eq hke hde hvb hini (4 * (y 0 : ℕ) + (y 2 : ℕ) / 256) (by omega) ((y 1 : ℕ) / 64) (by omega) dv d
      rw [show 4 * (y 0 : ℕ) + (y 2 : ℕ) / 256 + 8 * ((y 1 : ℕ) / 64) = k by omega, show (4 * (y 0 : ℕ) + (y 2 : ℕ) / 256) / 4 = y 0 by omega,
        show (4 * (y 0 : ℕ) + (y 2 : ℕ) / 256) % 4 = (y 2 : ℕ) / 256 by omega] at this
      exact this
    refine congrArg₂ (fun a b : EReal => a + b) (Finset.sum_congr rfl fun d _ => congrArg₂ (fun a b : EReal => a * b) (hq d) (hX d))
      (Finset.sum_congr rfl fun j _ => congrArg₂ (fun a b : EReal => a * b)
        (if_congr Iff.rfl (Finset.sum_congr rfl fun d _ => congrArg₂ (fun a b : EReal => a * b) (hq d) (hk' j d)) rfl) ?_)
    rw [← e1, ← e2, ← e3]
    exact hvb k j dv
  unfold ogAt
  refine (ogOp_apply _ _ _ _ _).trans ?_
  have hr := hrb k ⟨(y 1 : ℕ) % 64, Nat.mod_lt _ (by omega)⟩ ⟨(y 2 : ℕ) % 256, Nat.mod_lt _ (by omega)⟩
  rw [e1, e2, e3] at hr
  rw [hgh, hr]
  unfold ogS
  refine congrArg (fun z : EReal => z * _) (congrArg (fun z : EReal => z * _) (congrArg₂ (fun a b : EReal => a * Ideal.rsqrt (Ideal.div b _ + _)) (ho _ _) ?_))
  exact Finset.sum_congr rfl fun e _ => congrArg (fun a : EReal => a * a) (ho _ e)

end tile

end Cert.GlaIdeal.Mix

end
-- ==== Proof.GlaCum.lean ====
/- A tile's decays added up chunk by chunk, as one product with a matrix of noughts and ones, and the queries and keys weighted by them. -/
module

public import proofs.«01_k».proof.Proof.GlaTile

@[expose] public section

set_option maxRecDepth 16384

noncomputable section

namespace Cert.GlaIdeal.Mix

open Cert.GlaIdeal Cert.GlaIdeal.Gen Cert.Gla
open Idealize.ShloMosaic Idealize.ShloMosaic.TcCoe Idealize.ShloMosaic.Tactic

theorem one_w : Ideal.ofBits .f32 0x3F800000#32 = 1 := by simp [Ideal.ofBits, Ideal.ieee, -EReal.coe_mul]; norm_num

theorem w_sixteenth : Ideal.ofBits .f32 0x3D800000#32 = ((1 / 16 : ℝ) : EReal) := by
  simp [Ideal.ofBits, Ideal.ieee, -EReal.coe_mul]; norm_num

theorem log_one_exp (r : ℝ) : Ideal.log (1 + Ideal.exp (r : EReal)) = ((Real.log (1 + Real.exp r) : ℝ) : EReal) := by
  have h := Real.exp_pos r
  rw [Ideal.exp_coe, ← EReal.coe_one, ← EReal.coe_add, Ideal.log_coe, if_neg (by linarith)]

theorem lsv_ne_top (x : EReal) : lsv x ≠ ⊤ := by
  unfold lsv
  rw [w_sixteenth]
  induction x using EReal.rec with
  | bot =>
    have e : (min (⊥ : EReal) 0 - Ideal.log (1 + Ideal.exp (-(max ⊥ (-⊥))))) = ⊥ := by simp
    rw [e, EReal.bot_mul_coe_of_pos (by norm_num)]
    exact bot_ne_top
  | top =>
    have e : (min (⊤ : EReal) 0 - Ideal.log (1 + Ideal.exp (-(max ⊤ (-⊤))))) = 0 := by
      have : Ideal.log 1 = 0 := by
        rw [← EReal.coe_one, Ideal.log_coe, if_neg (by norm_num), Real.log_one, EReal.coe_zero]
      simp [this]
    rw [e, zero_mul]
    exact EReal.zero_ne_top
  | coe r =>
    have e : -(max (r : EReal) (-(r : EReal))) = ((-(max r (-r)) : ℝ) : EReal) := by
      rw [← EReal.coe_neg, EReal.coe_neg (max r (-r)), EReal.coe_strictMono.monotone.map_max]
    have e' : min (r : EReal) 0 = ((min r 0 : ℝ) : EReal) := by
      rw [EReal.coe_strictMono.monotone.map_min, EReal.coe_zero]
    rw [e, log_one_exp, e', ← EReal.coe_sub, ← EReal.coe_mul]
    exact EReal.coe_ne_top _

/-- A number and what is left of it. -/
theorem hi_lo (x : EReal) (h : x ≠ ⊤) : x + (x - x) = x := by
  induction x using EReal.rec with
  | bot => rfl
  | top => exact absurd rfl h
  | coe r => rw [← EReal.coe_sub, sub_self, EReal.coe_zero, add_zero]

theorem pay19_apply (C : FVec Ideal S512x512 .f32) (q : Vec Ideal S1x256x1024 .f32) (i : Fin 256) (c : Fin 512) :
    @Eq EReal (k0_pay19 C q (ix2 i c)) (q (ix3 0 i ⟨c, by omega⟩) * Ideal.ofBits .f32 0x3DB504F3#32 * Ideal.exp (C (ix2 ⟨i, by omega⟩ c))) := by
  pointwise [k0_pay19, k0_pay18, k0_pay16]

theorem pay21_apply (C : FVec Ideal S512x512 .f32) (q : Vec Ideal S1x256x1024 .f32) (i : Fin 256) (c : Fin 512) :
    @Eq EReal (k0_pay21 C q (ix2 i c)) (q (ix3 0 i ⟨512 + c, by omega⟩) * Ideal.exp (- C (ix2 ⟨i, by omega⟩ c))) := by
  pointwise [k0_pay21, k0_pay20, k0_pay18, k0_pay16]
  rw [zero_sub]

theorem pay22_apply (C : FVec Ideal S512x512 .f32) (q : Vec Ideal S1x256x1024 .f32) (i : Fin 256) (c : Fin 512) :
    @Eq EReal (k0_pay22 C q (ix2 i c)) (q (ix3 0 i ⟨512 + c, by omega⟩) * Ideal.exp (C (ix2 ⟨256 + i, by omega⟩ c) - C (ix2 ⟨i, by omega⟩ c))) := by
  pointwise [k0_pay22, k0_pay20, k0_pay18, k0_pay16, k0_pay17]

theorem pay23_apply (C : FVec Ideal S512x512 .f32) (i : Fin 256) (c : Fin 512) :
    @Eq EReal (k0_pay23 C (ix2 i c)) (Ideal.exp (C (ix2 ⟨256 + i, by omega⟩ c))) := by
  pointwise [k0_pay23, k0_pay17]

theorem pay15_apply (g : Vec Ideal S1x256x128 .f32) (w : Vec Ideal S128x512 .bf16) (b : Vec Ideal S1x512 .f32) (M : Vec Ideal S512x512 .bf16)
    (a c : Fin 512) :
    @Eq EReal (k0_pay15 g w b M (ix2 a c))
      ((∑ x : Fin 256, M (ix2 a ⟨x, by omega⟩) * lsv ((∑ r : Fin 128, g (ix3 0 x r) * w (ix2 r c)) + b (ix2 0 c)))
        + ∑ x : Fin 256, M (ix2 a ⟨256 + x, by omega⟩) * (lsv ((∑ r : Fin 128, g (ix3 0 x r) * w (ix2 r c)) + b (ix2 0 c))
          - lsv ((∑ r : Fin 128, g (ix3 0 x r) * w (ix2 r c)) + b (ix2 0 c)))) := by
  unfold lsv
  pointwise [k0_pay15]
  simp only [zero_sub]
  rfl

theorem sum_own (f : Fin 256 → EReal) (q : ℕ) (hq : q < 4) (h : ∀ x : Fin 256, (x : ℕ) / 64 ≠ q → f x = 0) :
    ∑ x, f x = ∑ j : Fin 64, f ⟨64 * q + j, by omega⟩ := by
  symm
  refine Fintype.sum_of_injective (fun j : Fin 64 => (⟨64 * q + j, by omega⟩ : Fin 256)) ?_ _ _ ?_ (fun _ => rfl)
  · intro i j hij
    have := congrArg Fin.val hij
    exact Fin.ext (by simpa using this)
  · intro x hx
    refine h x fun hxq => hx ⟨⟨(x : ℕ) % 64, Nat.mod_lt _ (by omega)⟩, Fin.ext ?_⟩
    show 64 * q + (x : ℕ) % 64 = x
    omega

/-- A row's sum over its own chunk, up to it or all of it. -/
def Reads (M : Vec Ideal S512x512 .bf16) : Prop :=
  ∀ (a : Fin 512) (x : Fin 256), @Eq EReal (M (ix2 a ⟨x, by omega⟩)) (if (a : ℕ) % 256 / 64 = (x : ℕ) / 64 ∧ (256 ≤ (a : ℕ) ∨ (x : ℕ) ≤ a) then 1 else 0)
    ∧ @Eq EReal (M (ix2 a ⟨256 + x, by omega⟩)) (if (a : ℕ) % 256 / 64 = (x : ℕ) / 64 ∧ (256 ≤ (a : ℕ) ∨ (x : ℕ) ≤ a) then 1 else 0)

theorem pay15_sum (g : Vec Ideal S1x256x128 .f32) (w : Vec Ideal S128x512 .bf16) (b : Vec Ideal S1x512 .f32) {M : Vec Ideal S512x512 .bf16} (hM : Reads M)
    (a c : Fin 512) :
    @Eq EReal (k0_pay15 g w b M (ix2 a c))
      (∑ j : Fin 64, if 256 ≤ (a : ℕ) ∨ 64 * ((a : ℕ) % 256 / 64) + (j : ℕ) ≤ a then
        lsv ((∑ r : Fin 128, g (ix3 0 ⟨64 * ((a : ℕ) % 256 / 64) + j, by omega⟩ r) * w (ix2 r c)) + b (ix2 0 c)) else 0) := by
  rw [pay15_apply, ← Finset.sum_add_distrib]
  have e : ∀ x : Fin 256, M (ix2 a ⟨x, by omega⟩) * lsv ((∑ r : Fin 128, g (ix3 0 x r) * w (ix2 r c)) + b (ix2 0 c))
      + M (ix2 a ⟨256 + x, by omega⟩) * (lsv ((∑ r : Fin 128, g (ix3 0 x r) * w (ix2 r c)) + b (ix2 0 c))
        - lsv ((∑ r : Fin 128, g (ix3 0 x r) * w (ix2 r c)) + b (ix2 0 c)))
      = if (a : ℕ) % 256 / 64 = (x : ℕ) / 64 ∧ (256 ≤ (a : ℕ) ∨ (x : ℕ) ≤ a) then lsv ((∑ r : Fin 128, g (ix3 0 x r) * w (ix2 r c)) + b (ix2 0 c)) else 0 := by
    intro x
    rw [(hM a x).1, (hM a x).2]
    by_cases h : (a : ℕ) % 256 / 64 = (x : ℕ) / 64 ∧ (256 ≤ (a : ℕ) ∨ (x : ℕ) ≤ a)
    · rw [if_pos h, if_pos h, one_mul, one_mul, hi_lo _ (lsv_ne_top _)]
    · rw [if_neg h, if_neg h, zero_mul, zero_mul, add_zero]
  rw [Finset.sum_congr rfl fun x _ => e x]
  rw [sum_own _ ((a : ℕ) % 256 / 64) (by omega) (fun x hx => if_neg fun h => hx h.1.symm)]
  refine Finset.sum_congr rfl fun j _ => if_congr ?_ rfl rfl
  show (a : ℕ) % 256 / 64 = (64 * ((a : ℕ) % 256 / 64) + (j : ℕ)) / 64 ∧ _ ↔ _
  have : (64 * ((a : ℕ) % 256 / 64) + (j : ℕ)) / 64 = (a : ℕ) % 256 / 64 := by omega
  rw [this]
  exact ⟨fun h => h.2, fun h => ⟨rfl, h⟩⟩

section

variable {L Qf Kf : ℕ → ℕ → ℕ → EReal} {B T : ℕ} {g : Vec Ideal S1x256x128 .f32} {w : Vec Ideal S128x512 .bf16} {b : Vec Ideal S1x512 .f32}
  {M : Vec Ideal S512x512 .bf16} {q : Vec Ideal S1x256x1024 .f32} (hM : Reads M)
  (hL : ∀ (x : Fin 256) (c : Fin 512), lsv ((∑ r : Fin 128, g (ix3 0 x r) * w (ix2 r c)) + b (ix2 0 c)) = L B (256 * T + x) c)
  (hq : ∀ (x : Fin 256) (c : Fin 512), @Eq EReal (q (ix3 0 x ⟨c, by omega⟩)) (Qf B (256 * T + x) c))
  (hk : ∀ (x : Fin 256) (c : Fin 512), @Eq EReal (q (ix3 0 x ⟨512 + c, by omega⟩)) (Kf B (256 * T + x) c))

include hM hL in
theorem cum_eq (i : Fin 256) (c : Fin 512) : @Eq EReal (k0_pay15 g w b M (ix2 ⟨i, by omega⟩ c)) (cumS L B (4 * T + i / 64) (i % 64) c) := by
  rw [pay15_sum g w b hM]
  have e : (i : ℕ) % 256 = i := Nat.mod_eq_of_lt i.isLt
  refine Finset.sum_congr rfl fun j _ => if_congr ?_ ((hL _ _).trans ?_) rfl
  · show 256 ≤ (i : ℕ) ∨ 64 * ((i : ℕ) % 256 / 64) + (j : ℕ) ≤ i ↔ _
    rw [e]; omega
  · show L B (256 * T + (64 * ((i : ℕ) % 256 / 64) + j)) c = _
    rw [e]; congr 1; omega

include hM hL in
theorem end_eq (i : Fin 256) (c : Fin 512) : @Eq EReal (k0_pay15 g w b M (ix2 ⟨256 + i, by omega⟩ c)) (endS L B (4 * T + i / 64) c) := by
  rw [pay15_sum g w b hM]
  have e : (256 + (i : ℕ)) % 256 = i := by omega
  refine Finset.sum_congr rfl fun j _ => (if_pos (Or.inl (by show 256 ≤ 256 + (i : ℕ); omega))).trans ((hL _ _).trans ?_)
  show L B (256 * T + (64 * ((256 + (i : ℕ)) % 256 / 64) + j)) c = _
  rw [e]; congr 1; omega

theorem tile_row (i : Fin 256) : 64 * (4 * T + (i : ℕ) / 64) + (i : ℕ) % 64 = 256 * T + i := by omega

include hM hL hq in
theorem qd_eq (i : Fin 256) (c : Fin 512) : @Eq EReal (k0_pay19 (k0_pay15 g w b M) q (ix2 i c)) (qdS L Qf B (4 * T + i / 64) (i % 64) c) := by
  rw [pay19_apply, cum_eq hM hL, hq]; unfold qdS; rw [tile_row]

include hM hL hk in
theorem ki_eq (i : Fin 256) (c : Fin 512) : @Eq EReal (k0_pay21 (k0_pay15 g w b M) q (ix2 i c)) (kiS L Kf B (4 * T + i / 64) (i % 64) c) := by
  rw [pay21_apply, cum_eq hM hL, hk]; unfold kiS; rw [tile_row]

include hM hL hk in
theorem ke_eq (i : Fin 256) (c : Fin 512) : @Eq EReal (k0_pay22 (k0_pay15 g w b M) q (ix2 i c)) (keS L Kf B (4 * T + i / 64) (i % 64) c) := by
  rw [pay22_apply, cum_eq hM hL, end_eq hM hL, hk]; unfold keS; rw [tile_row]

include hM hL in
theorem de_eq (i : Fin 256) (c : Fin 512) : @Eq EReal (k0_pay23 (k0_pay15 g w b M) (ix2 i c)) (Ideal.exp (endS L B (4 * T + i / 64) c)) := by
  rw [pay23_apply, end_eq hM hL]

end

end Cert.GlaIdeal.Mix

end
-- ==== Proof.GlaHost.lean ====
/- The arrays the mixing's grid starts from: the arguments by sequence and position, and the table of which decays add up. -/
module

public import proofs.«01_k».proof.Proof.GlaCum
public import proofs.«01_k».proof.Proof.Gen.GlaIdeal.Value
public import Idealize.ShloMosaic.Lib.Pointwise

@[expose] public section

set_option maxRecDepth 16384

noncomputable section

namespace Cert.GlaIdeal.Mix

open Cert.GlaIdeal Cert.GlaIdeal.Gen Cert.Gla
open Idealize.ShloMosaic Idealize.ShloMosaic.TcCoe Idealize.ShloMosaic.Tactic

section

variable (m : (ℓ : Loc nD τ sig) → Buf (Elt Ideal) ℓ) (c : Dev nD)

theorem V_v0 : (V m c main_v0 : Vec Ideal S8x4096x1024 .f32) = shapeCast S8x4096x1024 (m ((c.tc : Thread nD τ).loc main_arg0) : Vec Ideal S32768x1024 .f32) shapeCasts_S32768x1024_S8x4096x1024 := by
  show StableHlo.after (List.flatten [hostOps0, hostOps0_1, hostOps0_2, hostOps0_3, hostOps0_4]) (fun b => m (c, b)) (Proc.devRef .tc main_v0) = _
  simp only [List.flatten_cons, List.flatten_nil, List.append_nil, List.cons_append, List.nil_append]
  after_results
  rfl

theorem V_v1 : (V m c main_v1 : Vec Ideal S8x4096x1024 .bf16) = shapeCast S8x4096x1024 (m ((c.tc : Thread nD τ).loc main_arg1) : Vec Ideal S32768x1024 .bf16) shapeCasts_S32768x1024_S8x4096x1024 := by
  show StableHlo.after (List.flatten [hostOps0, hostOps0_1, hostOps0_2, hostOps0_3, hostOps0_4]) (fun b => m (c, b)) (Proc.devRef .tc main_v1) = _
  simp only [List.flatten_cons, List.flatten_nil, List.append_nil, List.cons_append, List.nil_append]
  after_results
  rfl

theorem V_v2 : (V m c main_v2 : Vec Ideal S8x4096x1024 .f32) = shapeCast S8x4096x1024 (m ((c.tc : Thread nD τ).loc main_arg2) : Vec Ideal S32768x1024 .f32) shapeCasts_S32768x1024_S8x4096x1024 := by
  show StableHlo.after (List.flatten [hostOps0, hostOps0_1, hostOps0_2, hostOps0_3, hostOps0_4]) (fun b => m (c, b)) (Proc.devRef .tc main_v2) = _
  simp only [List.flatten_cons, List.flatten_nil, List.append_nil, List.cons_append, List.nil_append]
  after_results
  rfl

theorem V_v3 : (V m c main_v3 : Vec Ideal S8x4096x128 .f32) = shapeCast S8x4096x128 (m ((c.tc : Thread nD τ).loc main_arg3) : Vec Ideal S32768x128 .f32) shapeCasts_S32768x128_S8x4096x128 := by
  show StableHlo.after (List.flatten [hostOps0, hostOps0_1, hostOps0_2, hostOps0_3, hostOps0_4]) (fun b => m (c, b)) (Proc.devRef .tc main_v3) = _
  simp only [List.flatten_cons, List.flatten_nil, List.append_nil, List.cons_append, List.nil_append]
  after_results
  rfl

theorem V_v4 : (V m c main_v4 : Vec Ideal S8x4096x1024 .f32) = shapeCast S8x4096x1024 (m ((c.tc : Thread nD τ).loc main_arg8) : Vec Ideal S32768x1024 .f32) shapeCasts_S32768x1024_S8x4096x1024 := by
  show StableHlo.after (List.flatten [hostOps0, hostOps0_1, hostOps0_2, hostOps0_3, hostOps0_4]) (fun b => m (c, b)) (Proc.devRef .tc main_v4) = _
  simp only [List.flatten_cons, List.flatten_nil, List.append_nil, List.cons_append, List.nil_append]
  after_results
  rfl

/-- The chunk each row of a tile is in. -/
def div1 : IVec S256x1 32 :=
  select (andi (cmpi .ne (signi (broadcastInDim S256x1 ![0] bcast_S256_S256x1_0 (iotaInDim S256 32 0))) (broadcastInDim S256x1 ![] bcast_S_S256x1 (signi (constantI S_ 32 64#32))))
      (cmpi .ne (Host.remsi (broadcastInDim S256x1 ![0] bcast_S256_S256x1_0 (iotaInDim S256 32 0)) (broadcastInDim S256x1 ![] bcast_S_S256x1 (constantI S_ 32 64#32))) (broadcastInDim S256x1 ![] bcast_S_S256x1 (constantI S_ 32 0#32))))
    (subi (Host.divsi (broadcastInDim S256x1 ![0] bcast_S256_S256x1_0 (iotaInDim S256 32 0)) (broadcastInDim S256x1 ![] bcast_S_S256x1 (constantI S_ 32 64#32))) (broadcastInDim S256x1 ![] bcast_S_S256x1 (constantI S_ 32 1#32)))
    (Host.divsi (broadcastInDim S256x1 ![0] bcast_S256_S256x1_0 (iotaInDim S256 32 0)) (broadcastInDim S256x1 ![] bcast_S_S256x1 (constantI S_ 32 64#32)))

/-- The chunk each column is in. -/
def div2 : IVec S1x256 32 :=
  select (andi (cmpi .ne (signi (broadcastInDim S1x256 ![1] bcast_S256_S1x256_1 (iotaInDim S256 32 0))) (broadcastInDim S1x256 ![] bcast_S_S1x256 (signi (constantI S_ 32 64#32))))
      (cmpi .ne (Host.remsi (broadcastInDim S1x256 ![1] bcast_S256_S1x256_1 (iotaInDim S256 32 0)) (broadcastInDim S1x256 ![] bcast_S_S1x256 (constantI S_ 32 64#32))) (broadcastInDim S1x256 ![] bcast_S_S1x256 (constantI S_ 32 0#32))))
    (subi (Host.divsi (broadcastInDim S1x256 ![1] bcast_S256_S1x256_1 (iotaInDim S256 32 0)) (broadcastInDim S1x256 ![] bcast_S_S1x256 (constantI S_ 32 64#32))) (broadcastInDim S1x256 ![] bcast_S_S1x256 (constantI S_ 32 1#32)))
    (Host.divsi (broadcastInDim S1x256 ![1] bcast_S256_S1x256_1 (iotaInDim S256 32 0)) (broadcastInDim S1x256 ![] bcast_S_S1x256 (constantI S_ 32 64#32)))

theorem div1_apply (i : Fin 256) : div1 (ix2 i 0) = BitVec.ofNat 32 (i / 64) := by
  unfold div1
  pointwise
  revert i
  decide +kernel

theorem div2_apply (i : Fin 256) : div2 (ix2 0 i) = BitVec.ofNat 32 (i / 64) := by
  unfold div2
  pointwise
  revert i
  decide +kernel

/-- Whether two positions of a tile are in one chunk. -/
def same : IVec S256x256 1 :=
  cmpi .eq (broadcastInDim S256x256 ![0, 1] bcast_S256x1_S256x256_0_1 div1) (broadcastInDim S256x256 ![0, 1] bcast_S1x256_S256x256_0_1 div2)

/-- Whether the one is not after the other as well. -/
def upTo : IVec S256x256 1 :=
  andi same (cmpi .sle (broadcastInDim S256x256 ![0, 1] bcast_S1x256_S256x256_0_1 (broadcastInDim S1x256 ![1] bcast_S256_S1x256_1 (iotaInDim S256 32 0)))
    (broadcastInDim S256x256 ![0, 1] bcast_S256x1_S256x256_0_1 (broadcastInDim S256x1 ![0] bcast_S256_S256x1_0 (iotaInDim S256 32 0))))

/-- Both tables, one above the other. -/
def both : FVec Ideal S512x256 .bf16 :=
  uitofp .bf16 (concatenate S512x256 0 [⟨S256x256, upTo⟩, ⟨S256x256, same⟩] concatenates_S256x256_S256x256_S512x256_d0)

theorem V_v21 : @Eq (FVec Ideal S512x512 .bf16) (V m c main_v21)
    (concatenate S512x512 1 [⟨S512x256, both⟩, ⟨S512x256, both⟩] concatenates_S512x256_S512x256_S512x512_d1) := by
  show StableHlo.after (List.flatten [hostOps0, hostOps0_1, hostOps0_2, hostOps0_3, hostOps0_4]) (fun b => m (c, b)) (Proc.devRef .tc main_v21) = _
  simp only [List.flatten_cons, List.flatten_nil, List.append_nil, List.cons_append, List.nil_append]
  after_results
  rfl

theorem ofBool_and (a b : Bool) : BitVec.ofBool a &&& BitVec.ofBool b = BitVec.ofBool (a && b) := by
  cases a <;> cases b <;> rfl

theorem same_apply (i j : Fin 256) : same (ix2 i j) = BitVec.ofBool (decide ((i : ℕ) / 64 = (j : ℕ) / 64)) := by
  unfold same
  pointwise
  rw [div1_apply, div2_apply]
  exact WordCmp.cmpi_eq_ofNat (w := 32) (by norm_num; omega) (by norm_num; omega)

theorem upTo_apply (i j : Fin 256) : upTo (ix2 i j) = BitVec.ofBool (decide ((i : ℕ) / 64 = (j : ℕ) / 64 ∧ (j : ℕ) ≤ i)) := by
  unfold upTo
  pointwise
  rw [same_apply, WordCmp.cmpi_sle_ofNat (w := 32) (a := j) (b := i) (by norm_num; omega) (by norm_num; omega)]
  refine (ofBool_and _ _).trans (congrArg _ ?_)
  rw [Bool.decide_and]

theorem both_apply (a : Fin 512) (x : Fin 256) : @Eq EReal (both (ix2 a x)) (if (a : ℕ) % 256 / 64 = (x : ℕ) / 64 ∧ (256 ≤ (a : ℕ) ∨ (x : ℕ) ≤ a) then 1 else 0) := by
  have one : ∀ (p q : Prop) [Decidable p] [Decidable q], (p ↔ q) → @Eq EReal (FloatOps.uitofp (F := Ideal) FTy.bf16 (BitVec.ofBool (decide p))) (if q then 1 else 0) := by
    intro p q _ _ h
    by_cases hp : p
    · rw [if_pos (h.mp hp), decide_eq_true hp]; exact (show (((1 : ℕ) : ℝ) : EReal) = 1 by norm_num)
    · rw [if_neg (fun hq => hp (h.mpr hq)), decide_eq_false hp]; exact (show (((0 : ℕ) : ℝ) : EReal) = 0 by norm_num)
  unfold both
  pointwise
  by_cases ha : (a : ℕ) < 256
  · rw [dif_pos ha, upTo_apply]
    refine one _ _ ?_
    show (a : ℕ) / 64 = (x : ℕ) / 64 ∧ (x : ℕ) ≤ (a : ℕ) ↔ _
    omega
  · rw [dif_neg ha, same_apply]
    refine one _ _ ?_
    show ((a : ℕ) - 256) / 64 = (x : ℕ) / 64 ↔ _
    omega

theorem reads_v21 : Reads (V m c main_v21) := by
  intro a x
  rw [V_v21]
  constructor
  · refine Eq.trans ?_ (both_apply a x)
    pointwise
  · refine Eq.trans ?_ (both_apply a x)
    pointwise

end

end Cert.GlaIdeal.Mix

end
-- ==== Proof.GlaPoint.lean ====
/- What a grid point reads of its blocks, and the two results it stores. -/
module

public import proofs.«01_k».proof.Proof.GlaCum

@[expose] public section

set_option maxRecDepth 16384

noncomputable section

namespace Cert.GlaIdeal.Mix

open Cert.GlaIdeal Cert.GlaIdeal.Gen Cert.Gla
open Idealize.ShloMosaic Idealize.ShloMosaic.TcCoe Idealize.ShloMosaic.Tactic

/-- What a tile's blocks hold of the arrays: two batches, 256 positions. -/
structure Tile (L Qf Kf V R X W : ℕ → ℕ → ℕ → EReal) (GH GN : ℕ → EReal) (B T : ℕ)
    (x0 : Vec Ideal S2x256x1024 .f32) (x1 : Vec Ideal S2x256x1024 .bf16) (x2 : Vec Ideal S2x256x1024 .f32) (x3 : Vec Ideal S2x256x128 .f32)
    (x4 : Vec Ideal S128x512 .bf16) (x5 : Vec Ideal S1x512 .f32) (x6 : Vec Ideal S1x256 .f32) (x7 : Vec Ideal S512x512 .bf16)
    (x8 : Vec Ideal S1024x1024 .bf16) (x9 : Vec Ideal S2x256x1024 .f32) (x10 : Vec Ideal S1x1024 .f32) : Prop where
  dec : ∀ (b : Fin 2) (i : Fin 256) (c : Fin 512), lsv ((∑ r : Fin 128, x3 (ix3 b i r) * x4 (ix2 r c)) + x5 (ix2 0 c)) = L (B + b) (256 * T + i) c
  qry : ∀ (b : Fin 2) (i : Fin 256) (c : Fin 512), @Eq EReal (x0 (ix3 b i ⟨c, by omega⟩)) (Qf (B + b) (256 * T + i) c)
  key : ∀ (b : Fin 2) (i : Fin 256) (c : Fin 512), @Eq EReal (x0 (ix3 b i ⟨512 + c, by omega⟩)) (Kf (B + b) (256 * T + i) c)
  val : ∀ (b : Fin 2) (i : Fin 256) (c : Fin 1024), @Eq EReal (x1 (ix3 b i c)) (V (B + b) (256 * T + i) c)
  gate : ∀ (b : Fin 2) (i : Fin 256) (c : Fin 1024), @Eq EReal (x2 (ix3 b i c)) (R (B + b) (256 * T + i) c)
  head : ∀ d : Fin 256, @Eq EReal (x6 (ix2 0 d)) (GH d)
  mat : Reads x7
  proj : ∀ k j : Fin 1024, @Eq EReal (x8 (ix2 k j)) (W 0 k j)
  res : ∀ (b : Fin 2) (i : Fin 256) (c : Fin 1024), @Eq EReal (x9 (ix3 b i c)) (X (B + b) (256 * T + i) c)
  gain : ∀ j : Fin 1024, @Eq EReal (x10 (ix2 0 j)) (GN j)

/-! ## Blocks read -/

theorem rd_qk (m : Memref sig .tc .vmem S2x256x1024 .f32) (hm : m.IsWhole) (x : Vec Ideal S2x256x1024 .f32) (b : Fin 2) (inb) (i : Fin 256) (j : Fin 1024) :
    View.readAt (Elt Ideal) m.view (Rect.unit (s := S2x256x1024) ![(b : ℕ), 0, 0] S1x256x1024.size inb).toLoadRect (hm.unread x) (ix3 0 i j) = x (ix3 b i j) := by
  rw [View.readAt_eq_ld, hm.read_unread]
  refine View.ld_unit_apply_of _ _ _ _ _ _ ?_
  intro a; revert a; intro (a : Fin 3); fin_cases a
  · rfl
  · exact (Nat.zero_add _).symm
  · exact (Nat.zero_add _).symm

theorem rd_lr (m : Memref sig .tc .vmem S2x256x128 .f32) (hm : m.IsWhole) (x : Vec Ideal S2x256x128 .f32) (b : Fin 2) (inb) (i : Fin 256) (j : Fin 128) :
    View.readAt (Elt Ideal) m.view (Rect.unit (s := S2x256x128) ![(b : ℕ), 0, 0] S1x256x128.size inb).toLoadRect (hm.unread x) (ix3 0 i j) = x (ix3 b i j) := by
  rw [View.readAt_eq_ld, hm.read_unread]
  refine View.ld_unit_apply_of _ _ _ _ _ _ ?_
  intro a; revert a; intro (a : Fin 3); fin_cases a
  · rfl
  · exact (Nat.zero_add _).symm
  · exact (Nat.zero_add _).symm

theorem rd_whole {n k : ℕ} {e : EltTy} (m : Memref sig .tc .vmem ⟨2, ![n, k]⟩ e) (hm : m.IsWhole) (x : Vec Ideal ⟨2, ![n, k]⟩ e) (inb) :
    View.readAt (Elt Ideal) m.view (Rect.unit (s := ⟨2, ![n, k]⟩) ![0, 0] (⟨2, ![n, k]⟩ : Shape).size inb).toLoadRect (hm.unread x) = x := by
  funext y
  rw [View.readAt_eq_ld, hm.read_unread]
  refine View.ld_unit_apply_of _ _ _ _ _ _ ?_
  intro a; revert a; intro (a : Fin 2); fin_cases a <;> exact (Nat.zero_add _).symm

theorem rd_blk {e : EltTy} (m : Memref sig .tc .vmem S2x256x1024 e) (hm : m.IsWhole) (x : Vec Ideal S2x256x1024 e) (k : ℕ) (i : Fin 64) (j : Fin 256) :
    View.readAt (Elt Ideal) m.view (rect3 k).toLoadRect (hm.unread x) (ix3 0 i j)
      = x (ix3 ⟨k / 4 % 2, Nat.mod_lt _ (by omega)⟩ ⟨64 * (k / 8 % 4) + i, by omega⟩ ⟨256 * (k % 4) + j, by omega⟩) := by
  rw [View.readAt_eq_ld, hm.read_unread]
  refine View.ld_unit_apply_of _ _ _ _ _ _ ?_
  intro a; revert a; intro (a : Fin 3); fin_cases a <;> rfl

theorem rd_st (m : Memref sig .tc .vmem S2x4x256x128 .f32) (hm : m.IsWhole) (x : Vec Ideal S2x4x256x128 .f32) (k : ℕ) (i : Fin 256) (j : Fin 128) :
    View.readAt (Elt Ideal) m.view (rectOf k).toLoadRect (hm.unread x) (ix4 0 0 i j)
      = x (ix4 ⟨k / 4 % 2, Nat.mod_lt _ (by omega)⟩ ⟨k % 4, Nat.mod_lt _ (by omega)⟩ i j) := by
  rw [View.readAt_eq_ld, hm.read_unread]
  refine View.ld_unit_apply_of _ _ _ _ _ _ ?_
  intro a; revert a; intro (a : Fin 4); fin_cases a
  · rfl
  · rfl
  · exact (Nat.zero_add _).symm
  · exact (Nat.zero_add _).symm

/-! ## The two results -/

theorem pay240_apply (x : Vec Ideal S1x256x1024 .f32) (o : Vec Ideal S1x256x1024 .bf16) (w : Vec Ideal S1024x1024 .bf16) (i : Fin 256) (j : Fin 1024) :
    @Eq EReal (k0_pay240 x o w (ix3 0 i j)) (x (ix3 0 i j) + ∑ k : Fin 1024, o (ix3 0 i k) * w (ix2 k j)) := by
  pointwise [k0_pay240, k0_pay239]

theorem pay241_apply (x : Vec Ideal S1x256x1024 .f32) (o : Vec Ideal S1x256x1024 .bf16) (w : Vec Ideal S1024x1024 .bf16) (g : Vec Ideal S1x1024 .f32)
    (i : Fin 256) (j : Fin 1024) :
    @Eq EReal (k0_pay241 x o w g (ix3 0 i j)) (k0_pay240 x o w (ix3 0 i j) * Ideal.rsqrt (Ideal.div (∑ e : Fin 1024, k0_pay240 x o w (ix3 0 i e) * k0_pay240 x o w (ix3 0 i e)) (Ideal.ofBits .f32 0x44800000#32)
      + Ideal.ofBits .f32 0x358637BD#32) * g (ix2 0 j)) := by
  pointwise [k0_pay241, k0_pay240, k0_pay239]

theorem canon_two {e : EltTy} {f : ℕ → ℕ → ℕ → Elt Ideal e} (p1 p0 : Vec Ideal S1x256x1024 e) (inb1 inb0)
    (h1 : ∀ (i : Fin 256) (j : Fin 1024), p1 (ix3 0 i j) = f 1 i j) (h0 : ∀ (i : Fin 256) (j : Fin 1024), p0 (ix3 0 i j) = f 0 i j) (y : S2x256x1024.Idx) :
    View.canon (Val := Elt Ideal) (e := e) [⟨Rect.unit (s := S2x256x1024) ![1, 0, 0] S1x256x1024.size inb1, p1⟩, ⟨Rect.unit (s := S2x256x1024) ![0, 0, 0] S1x256x1024.size inb0, p0⟩] y
      = f (y 0) (y 1) (y 2) := by
  have y0 : (y 0 : ℕ) < 2 := (y 0).isLt
  by_cases h : (y 0 : ℕ) = 1
  · have e1 : (Rect.unit (s := S2x256x1024) ![1, 0, 0] S1x256x1024.size inb1).emb (ix3 0 (y 1) (y 2) : S1x256x1024.Idx) = y := by
      funext a; refine Fin.ext ((Rect.idx_unit_val _ _ _ _ a).trans ?_)
      revert a; intro (a : Fin 3); fin_cases a
      · exact h.symm
      · exact Nat.zero_add _
      · exact Nat.zero_add _
    conv_lhs => rw [← e1]
    rw [View.canon_cons_emb]
    exact (h1 _ _).trans (by rw [h])
  · have h' : (y 0 : ℕ) = 0 := by omega
    rw [View.canon_cons_of_not_mem]
    · have e1 : (Rect.unit (s := S2x256x1024) ![0, 0, 0] S1x256x1024.size inb0).emb (ix3 0 (y 1) (y 2) : S1x256x1024.Idx) = y := by
        funext a; refine Fin.ext ((Rect.idx_unit_val _ _ _ _ a).trans ?_)
        revert a; intro (a : Fin 3); fin_cases a
        · exact h'.symm
        · exact Nat.zero_add _
        · exact Nat.zero_add _
      conv_lhs => rw [← e1]
      rw [View.canon_cons_emb]
      exact (h0 _ _).trans (by rw [h'])
    · rw [Rect.mem_set_unit]
      intro hm
      have := (hm 0).1
      exact h (by have h2 : (1 : ℕ) ≤ (y 0 : ℕ) := this; omega)

theorem og_read (v : View sig .tc .vmem S2x256x1024 .bf16) (b : Fin 2) (l : List (View.Piece (Elt Ideal) S2x256x1024 .bf16)) {f : ℕ → ℕ → ℕ → EReal}
    (h : ∀ y, @Eq EReal (View.canon l y) (f (y 0) (y 1) (y 2))) (inb) (i : Fin 256) (k : Fin 1024) :
    @Eq EReal (v.readCov l (Rect.unit (s := S2x256x1024) ![(b : ℕ), 0, 0] S1x256x1024.size inb).toLoadRect (ix3 0 i k)) (f b i k) := by
  rw [View.readCov_eq_canon']
  refine (h _).trans ?_
  have e : ∀ a : Fin 3, ((Rect.unit (s := S2x256x1024) ![(b : ℕ), 0, 0] S1x256x1024.size inb).toLoadRect.idx (ix3 0 i k) a : ℕ)
      = (![(b : ℕ), 0, 0] : Fin 3 → ℕ) a + ((ix3 0 i k : S1x256x1024.Idx) a : ℕ) := fun a => Rect.idx_unit_val (s := S2x256x1024) _ _ _ _ a
  have e0 := e 0
  have e1 := e 1
  have e2 := e 2
  rw [e0, e1, e2]
  show f ((b : ℕ) + 0) (0 + (i : ℕ)) (0 + (k : ℕ)) = _
  rw [Nat.add_zero, Nat.zero_add, Nat.zero_add]

section

variable {L Qf Kf V R X W : ℕ → ℕ → ℕ → EReal} {GH GN : ℕ → EReal} {B T : ℕ}
  {x0 : Vec Ideal S2x256x1024 .f32} {x1 : Vec Ideal S2x256x1024 .bf16} {x2 : Vec Ideal S2x256x1024 .f32} {x3 : Vec Ideal S2x256x128 .f32}
  {x4 : Vec Ideal S128x512 .bf16} {x5 : Vec Ideal S1x512 .f32} {x6 : Vec Ideal S1x256 .f32} {x7 : Vec Ideal S512x512 .bf16}
  {x8 : Vec Ideal S1024x1024 .bf16} {x9 : Vec Ideal S2x256x1024 .f32} {x10 : Vec Ideal S1x1024 .f32}

/-- A batch's sum. -/
theorem sum_eq (H : Tile L Qf Kf V R X W GH GN B T x0 x1 x2 x3 x4 x5 x6 x7 x8 x9 x10) (b : Fin 2) (x : Vec Ideal S1x256x1024 .f32)
    (hx : ∀ (i : Fin 256) (j : Fin 1024), x (ix3 0 i j) = x9 (ix3 b i j)) (o : Vec Ideal S1x256x1024 .bf16)
    (ho : ∀ (i : Fin 256) (k : Fin 1024), @Eq EReal (o (ix3 0 i k)) (ogS L Qf Kf V R GH (B + b) ((k : ℕ) / 256) (4 * T + (i : ℕ) / 64) ((i : ℕ) % 64) ((k : ℕ) % 256)))
    (w : Vec Ideal S1024x1024 .bf16) (hw : w = x8) (i : Fin 256) (j : Fin 1024) :
    @Eq EReal (k0_pay240 x o w (ix3 0 i j)) (hS L Qf Kf V R GH X W (B + b) (256 * T + i) j) := by
  subst hw
  rw [pay240_apply, hx, H.res]
  unfold hS
  have e1 : (256 * T + (i : ℕ)) / 64 = 4 * T + (i : ℕ) / 64 := by omega
  have e2 : (256 * T + (i : ℕ)) % 64 = (i : ℕ) % 64 := by omega
  rw [e1, e2]
  exact congrArg _ (Finset.sum_congr rfl fun k _ => congrArg₂ (fun a b : EReal => a * b) (ho i k) (H.proj k j))

/-- The same normalised. -/
theorem norm_eq (H : Tile L Qf Kf V R X W GH GN B T x0 x1 x2 x3 x4 x5 x6 x7 x8 x9 x10) (b : Fin 2) (x : Vec Ideal S1x256x1024 .f32)
    (hx : ∀ (i : Fin 256) (j : Fin 1024), x (ix3 0 i j) = x9 (ix3 b i j)) (o : Vec Ideal S1x256x1024 .bf16)
    (ho : ∀ (i : Fin 256) (k : Fin 1024), @Eq EReal (o (ix3 0 i k)) (ogS L Qf Kf V R GH (B + b) ((k : ℕ) / 256) (4 * T + (i : ℕ) / 64) ((i : ℕ) % 64) ((k : ℕ) % 256)))
    (w : Vec Ideal S1024x1024 .bf16) (hw : w = x8) (g : Vec Ideal S1x1024 .f32) (hg : g = x10) (i : Fin 256) (j : Fin 1024) :
    @Eq EReal (k0_pay241 x o w g (ix3 0 i j)) (hnS L Qf Kf V R GH X W GN (B + b) (256 * T + i) j) := by
  subst hg
  have e := sum_eq H b x hx o ho w hw
  refine (pay241_apply x o w g i j).trans ?_
  unfold hnS
  exact congrArg₂ (fun a b : EReal => a * b) (congrArg₂ (fun a z : EReal => a * Ideal.rsqrt (Ideal.div z _ + _)) (e i j)
    (Finset.sum_congr rfl fun k _ => congrArg (fun a : EReal => a * a) (e i k))) (H.gain j)

variable (arg2 : Memref sig .tc .vmem S2x256x1024 .f32) (harg2 : arg2.IsWhole) (arg5 : Memref sig .tc .vmem S2x256x128 .f32) (harg5 : arg5.IsWhole)
  (arg6 : Memref sig .tc .vmem S128x512 .bf16) (harg6 : arg6.IsWhole) (arg7 : Memref sig .tc .vmem S1x512 .f32) (harg7 : arg7.IsWhole)
  (arg9 : Memref sig .tc .vmem S512x512 .bf16) (harg9 : arg9.IsWhole)

theorem lead_qk (b : Fin 2) : ∀ a, (![(b : ℕ), 0, 0] : Fin 3 → ℕ) a + S1x256x1024.size a ≤ S2x256x1024.size a := by
  have := b.isLt
  intro a; fin_cases a
  · show (b : ℕ) + 1 ≤ 2; omega
  · show 0 + 256 ≤ 256; omega
  · show 0 + 1024 ≤ 1024; omega

theorem lead_lr (b : Fin 2) : ∀ a, (![(b : ℕ), 0, 0] : Fin 3 → ℕ) a + S1x256x128.size a ≤ S2x256x128.size a := by
  have := b.isLt
  intro a; fin_cases a
  · show (b : ℕ) + 1 ≤ 2; omega
  · show 0 + 256 ≤ 256; omega
  · show 0 + 128 ≤ 128; omega

/-- A batch's queries and keys, read. -/
abbrev qR (x0 : Vec Ideal S2x256x1024 .f32) (b : Fin 2) : Vec Ideal S1x256x1024 .f32 :=
  View.readAt (Elt Ideal) arg2.view (Rect.unit (s := S2x256x1024) ![(b : ℕ), 0, 0] S1x256x1024.size (lead_qk b)).toLoadRect (harg2.unread x0)

/-- A batch's decays, added. -/
abbrev cR (x3 : Vec Ideal S2x256x128 .f32) (x4 : Vec Ideal S128x512 .bf16) (x5 : Vec Ideal S1x512 .f32) (x7 : Vec Ideal S512x512 .bf16) (b : Fin 2) : FVec Ideal S512x512 .f32 :=
  k0_pay15 (View.readAt (Elt Ideal) arg5.view (Rect.unit (s := S2x256x128) ![(b : ℕ), 0, 0] S1x256x128.size (lead_lr b)).toLoadRect (harg5.unread x3))
    (View.readAt (Elt Ideal) arg6.view (Rect.unit (s := S128x512) ![0, 0] S128x512.size inb_S128x512_S128x512_0_0).toLoadRect (harg6.unread x4))
    (View.readAt (Elt Ideal) arg7.view (Rect.unit (s := S1x512) ![0, 0] S1x512.size inb_S1x512_S1x512_0_0).toLoadRect (harg7.unread x5))
    (View.readAt (Elt Ideal) arg9.view (Rect.unit (s := S512x512) ![0, 0] S512x512.size inb_S512x512_S512x512_0_0).toLoadRect (harg9.unread x7))

theorem cR_eq (b : Fin 2) : cR arg5 harg5 arg6 harg6 arg7 harg7 arg9 harg9 x3 x4 x5 x7 b
    = k0_pay15 (View.readAt (Elt Ideal) arg5.view (Rect.unit (s := S2x256x128) ![(b : ℕ), 0, 0] S1x256x128.size (lead_lr b)).toLoadRect (harg5.unread x3)) x4 x5 x7 := by
  unfold cR
  rw [show View.readAt (Elt Ideal) arg6.view (Rect.unit (s := S128x512) ![0, 0] S128x512.size inb_S128x512_S128x512_0_0).toLoadRect (harg6.unread x4) = x4 from rd_whole _ _ _ _,
    show View.readAt (Elt Ideal) arg7.view (Rect.unit (s := S1x512) ![0, 0] S1x512.size inb_S1x512_S1x512_0_0).toLoadRect (harg7.unread x5) = x5 from rd_whole _ _ _ _,
    show View.readAt (Elt Ideal) arg9.view (Rect.unit (s := S512x512) ![0, 0] S512x512.size inb_S512x512_S512x512_0_0).toLoadRect (harg9.unread x7) = x7 from rd_whole _ _ _ _]

variable (H : Tile L Qf Kf V R X W GH GN B T x0 x1 x2 x3 x4 x5 x6 x7 x8 x9 x10)

include H in
theorem dec_read (b : Fin 2) (x : Fin 256) (c : Fin 512) :
    lsv ((∑ r : Fin 128, (View.readAt (Elt Ideal) arg5.view (Rect.unit (s := S2x256x128) ![(b : ℕ), 0, 0] S1x256x128.size (lead_lr b)).toLoadRect (harg5.unread x3)) (ix3 0 x r) * x4 (ix2 r c)) + x5 (ix2 0 c))
      = L (B + b) (256 * T + x) c := by
  rw [← H.dec]
  exact congrArg (fun z : EReal => lsv (z + _)) (Finset.sum_congr rfl fun r _ => congrArg (fun z : EReal => z * _) (rd_lr arg5 harg5 x3 b _ x r))

include H in
theorem qry_read (b : Fin 2) (x : Fin 256) (c : Fin 512) : @Eq EReal (qR arg2 harg2 x0 b (ix3 0 x ⟨c, by omega⟩)) (Qf (B + b) (256 * T + x) c) :=
  (rd_qk arg2 harg2 x0 b _ x _).trans (H.qry b x c)

include H in
theorem key_read (b : Fin 2) (x : Fin 256) (c : Fin 512) : @Eq EReal (qR arg2 harg2 x0 b (ix3 0 x ⟨512 + c, by omega⟩)) (Kf (B + b) (256 * T + x) c) :=
  (rd_qk arg2 harg2 x0 b _ x _).trans (H.key b x c)

include H in
theorem qd_read (b : Fin 2) (i : Fin 256) (c : Fin 512) :
    @Eq EReal (k0_pay19 (cR arg5 harg5 arg6 harg6 arg7 harg7 arg9 harg9 x3 x4 x5 x7 b) (qR arg2 harg2 x0 b) (ix2 i c)) (qdS L Qf (B + b) (4 * T + i / 64) (i % 64) c) := by
  rw [cR_eq]; exact qd_eq H.mat (dec_read arg5 harg5 H b) (qry_read arg2 harg2 H b) i c

include H in
theorem ki_read (b : Fin 2) (i : Fin 256) (c : Fin 512) :
    @Eq EReal (k0_pay21 (cR arg5 harg5 arg6 harg6 arg7 harg7 arg9 harg9 x3 x4 x5 x7 b) (qR arg2 harg2 x0 b) (ix2 i c)) (kiS L Kf (B + b) (4 * T + i / 64) (i % 64) c) := by
  rw [cR_eq]; exact ki_eq H.mat (dec_read arg5 harg5 H b) (key_read arg2 harg2 H b) i c

include H in
theorem ke_read (b : Fin 2) (i : Fin 256) (c : Fin 512) :
    @Eq EReal (k0_pay22 (cR arg5 harg5 arg6 harg6 arg7 harg7 arg9 harg9 x3 x4 x5 x7 b) (qR arg2 harg2 x0 b) (ix2 i c)) (keS L Kf (B + b) (4 * T + i / 64) (i % 64) c) := by
  rw [cR_eq]; exact ke_eq H.mat (dec_read arg5 harg5 H b) (key_read arg2 harg2 H b) i c

include H in
theorem de_read (b : Fin 2) (i : Fin 256) (c : Fin 512) :
    @Eq EReal (k0_pay23 (cR arg5 harg5 arg6 harg6 arg7 harg7 arg9 harg9 x3 x4 x5 x7 b) (ix2 i c)) (Ideal.exp (endS L (B + b) (4 * T + i / 64) c)) := by
  rw [cR_eq]; exact de_eq H.mat (dec_read arg5 harg5 H b) i c

end

end Cert.GlaIdeal.Mix

end
-- ==== Proof.GlaLayer.lean ====
/- The gated linear attention's numbers, out of its arguments. -/
module

public import proofs.«01_k».proof.Proof.GlaSpec
public import Idealize.ShloMosaic.Lib.Pointwise

@[expose] public section

noncomputable section

namespace Cert.Gla

open Idealize.ShloMosaic

/-- An entry of a matrix by its row and column numbers. -/
def entry {R C : ℕ} (x : (⟨2, ![R, C]⟩ : Shape).Idx → EReal) (n c : ℕ) : EReal :=
  if h : n < R ∧ c < C then x (ix2 ⟨n, h.1⟩ ⟨c, h.2⟩) else 0

theorem entry_of {R C : ℕ} (x : (⟨2, ![R, C]⟩ : Shape).Idx → EReal) (n c : ℕ) (hn : n < R) (hc : c < C) :
    entry x n c = x (ix2 ⟨n, hn⟩ ⟨c, hc⟩) := dif_pos ⟨hn, hc⟩

/-- The arguments: queries and keys, values, gates of the results, gates of the decays through their two factors and offset, the
    gain within a head, the projection, the residual stream and the gain of the norm after it. -/
structure Data where
  qk : (⟨2, ![32768, 1024]⟩ : Shape).Idx → EReal
  v : (⟨2, ![32768, 1024]⟩ : Shape).Idx → EReal
  r : (⟨2, ![32768, 1024]⟩ : Shape).Idx → EReal
  lr : (⟨2, ![32768, 128]⟩ : Shape).Idx → EReal
  up : (⟨2, ![128, 512]⟩ : Shape).Idx → EReal
  off : (⟨2, ![1, 512]⟩ : Shape).Idx → EReal
  head : (⟨2, ![1, 256]⟩ : Shape).Idx → EReal
  out : (⟨2, ![1024, 1024]⟩ : Shape).Idx → EReal
  x : (⟨2, ![32768, 1024]⟩ : Shape).Idx → EReal
  gain : (⟨2, ![1, 1024]⟩ : Shape).Idx → EReal

variable (D : Data)

/-- A decay, of sequence `β`, position `t` and column `c`. -/
def LF (β t c : ℕ) : EReal := lsv ((∑ r : Fin 128, entry D.lr (4096 * β + t) r * entry D.up r c) + entry D.off 0 c)
/-- A query's number. -/
def QF (β t c : ℕ) : EReal := entry D.qk (4096 * β + t) c
/-- A key's. -/
def KF (β t c : ℕ) : EReal := entry D.qk (4096 * β + t) (512 + c)
/-- A value's. -/
def VF (β t c : ℕ) : EReal := entry D.v (4096 * β + t) c
/-- A gate's. -/
def RF (β t c : ℕ) : EReal := entry D.r (4096 * β + t) c
/-- The residual stream's. -/
def XF (β t c : ℕ) : EReal := entry D.x (4096 * β + t) c
/-- The projection's. -/
def WF (_ k j : ℕ) : EReal := entry D.out k j
/-- The gain within a head. -/
def GHF (d : ℕ) : EReal := entry D.head 0 d
/-- The gain after it. -/
def GNF (j : ℕ) : EReal := entry D.gain 0 j

/-- The layer's sum. -/
abbrev hF (β t j : ℕ) : EReal := hS (LF D) (QF D) (KF D) (VF D) (RF D) (GHF D) (XF D) (WF D) β t j
/-- Its norm. -/
abbrev hnF (β t j : ℕ) : EReal := hnS (LF D) (QF D) (KF D) (VF D) (RF D) (GHF D) (XF D) (WF D) (GNF D) β t j

end Cert.Gla

end
-- ==== Proof.GlaFold.lean ====
/- The mixing's blocks at a grid point, out of the arguments. -/
module

public import proofs.«01_k».proof.Proof.GlaHost
public import proofs.«01_k».proof.Proof.GlaPoint
public import proofs.«01_k».proof.Proof.GlaLayer

@[expose] public section

set_option maxRecDepth 16384

noncomputable section

namespace Cert.GlaIdeal.Mix

open Cert.GlaIdeal Cert.GlaIdeal.Gen Cert.Gla
open Idealize.ShloMosaic Idealize.ShloMosaic.TcCoe Idealize.ShloMosaic.Tactic

section

variable (m : (ℓ : Loc nD τ sig) → Buf (Elt Ideal) ℓ) (c : Dev nD)

abbrev arg0 : FVec Ideal S32768x1024 .f32 := m ((c.tc : Thread nD τ).loc main_arg0)
abbrev arg1 : FVec Ideal S32768x1024 .bf16 := m ((c.tc : Thread nD τ).loc main_arg1)
abbrev arg2 : FVec Ideal S32768x1024 .f32 := m ((c.tc : Thread nD τ).loc main_arg2)
abbrev arg3 : FVec Ideal S32768x128 .f32 := m ((c.tc : Thread nD τ).loc main_arg3)
abbrev arg4 : FVec Ideal S128x512 .bf16 := m ((c.tc : Thread nD τ).loc main_arg4)
abbrev arg5 : FVec Ideal S1x512 .f32 := m ((c.tc : Thread nD τ).loc main_arg5)
abbrev arg6 : FVec Ideal S1x256 .f32 := m ((c.tc : Thread nD τ).loc main_arg6)
abbrev arg7 : FVec Ideal S1024x1024 .bf16 := m ((c.tc : Thread nD τ).loc main_arg7)
abbrev arg8 : FVec Ideal S32768x1024 .f32 := m ((c.tc : Thread nD τ).loc main_arg8)
abbrev arg9 : FVec Ideal S1x1024 .f32 := m ((c.tc : Thread nD τ).loc main_arg9)

/-- The arguments' numbers. -/
abbrev data : Data := ⟨arg0 m c, arg1 m c, arg2 m c, arg3 m c, arg4 m c, arg5 m c, arg6 m c, arg7 m c, arg8 m c, arg9 m c⟩

theorem V_arg4 : (V m c main_arg4 : FVec Ideal S128x512 .bf16) = arg4 m c := by
  show StableHlo.after (List.flatten [hostOps0, hostOps0_1, hostOps0_2, hostOps0_3, hostOps0_4]) (fun b => m (c, b)) (Proc.devRef .tc main_arg4) = _
  simp only [List.flatten_cons, List.flatten_nil, List.append_nil, List.cons_append, List.nil_append]
  after_results

theorem V_arg5 : (V m c main_arg5 : FVec Ideal S1x512 .f32) = arg5 m c := by
  show StableHlo.after (List.flatten [hostOps0, hostOps0_1, hostOps0_2, hostOps0_3, hostOps0_4]) (fun b => m (c, b)) (Proc.devRef .tc main_arg5) = _
  simp only [List.flatten_cons, List.flatten_nil, List.append_nil, List.cons_append, List.nil_append]
  after_results

theorem V_arg6 : (V m c main_arg6 : FVec Ideal S1x256 .f32) = arg6 m c := by
  show StableHlo.after (List.flatten [hostOps0, hostOps0_1, hostOps0_2, hostOps0_3, hostOps0_4]) (fun b => m (c, b)) (Proc.devRef .tc main_arg6) = _
  simp only [List.flatten_cons, List.flatten_nil, List.append_nil, List.cons_append, List.nil_append]
  after_results

theorem V_arg7 : (V m c main_arg7 : FVec Ideal S1024x1024 .bf16) = arg7 m c := by
  show StableHlo.after (List.flatten [hostOps0, hostOps0_1, hostOps0_2, hostOps0_3, hostOps0_4]) (fun b => m (c, b)) (Proc.devRef .tc main_arg7) = _
  simp only [List.flatten_cons, List.flatten_nil, List.append_nil, List.cons_append, List.nil_append]
  after_results

theorem V_arg9 : (V m c main_arg9 : FVec Ideal S1x1024 .f32) = arg9 m c := by
  show StableHlo.after (List.flatten [hostOps0, hostOps0_1, hostOps0_2, hostOps0_3, hostOps0_4]) (fun b => m (c, b)) (Proc.devRef .tc main_arg9) = _
  simp only [List.flatten_cons, List.flatten_nil, List.append_nil, List.cons_append, List.nil_append]
  after_results

theorem cast_1024 {φ : FTy} (x : FVec Ideal S32768x1024 φ) (b : Fin 8) (r : Fin 4096) (n : Fin 1024) :
    @Eq EReal (shapeCast S8x4096x1024 x shapeCasts_S32768x1024_S8x4096x1024 (ix3 b r n)) (entry x (4096 * b + r) n) := by
  rw [entry_of _ _ _ (by omega) n.isLt]
  pointwise
  refine congrArg x (funext fun a => Fin.ext ?_)
  revert a; intro (a : Fin 2); fin_cases a
  · show (b : ℕ) * 4096 + (r : ℕ) = 4096 * (b : ℕ) + (r : ℕ); omega
  · rfl

theorem cast_128 {φ : FTy} (x : FVec Ideal S32768x128 φ) (b : Fin 8) (r : Fin 4096) (n : Fin 128) :
    @Eq EReal (shapeCast S8x4096x128 x shapeCasts_S32768x128_S8x4096x128 (ix3 b r n)) (entry x (4096 * b + r) n) := by
  rw [entry_of _ _ _ (by omega) n.isLt]
  pointwise
  refine congrArg x (funext fun a => Fin.ext ?_)
  revert a; intro (a : Fin 2); fin_cases a
  · show (b : ℕ) * 4096 + (r : ℕ) = 4096 * (b : ℕ) + (r : ℕ); omega
  · rfl

theorem v0_apply (b : Fin 8) (r : Fin 4096) (n : Fin 1024) :
    @Eq EReal ((V m c main_v0 : Vec Ideal S8x4096x1024 .f32) (ix3 b r n)) (entry (arg0 m c) (4096 * b + r) n) :=
  (congrFun (V_v0 m c) (ix3 b r n)).trans (cast_1024 (arg0 m c) b r n)

theorem v1_apply (b : Fin 8) (r : Fin 4096) (n : Fin 1024) :
    @Eq EReal ((V m c main_v1 : Vec Ideal S8x4096x1024 .bf16) (ix3 b r n)) (entry (arg1 m c) (4096 * b + r) n) :=
  (congrFun (V_v1 m c) (ix3 b r n)).trans (cast_1024 (arg1 m c) b r n)

theorem v2_apply (b : Fin 8) (r : Fin 4096) (n : Fin 1024) :
    @Eq EReal ((V m c main_v2 : Vec Ideal S8x4096x1024 .f32) (ix3 b r n)) (entry (arg2 m c) (4096 * b + r) n) :=
  (congrFun (V_v2 m c) (ix3 b r n)).trans (cast_1024 (arg2 m c) b r n)

theorem v3_apply (b : Fin 8) (r : Fin 4096) (n : Fin 128) :
    @Eq EReal ((V m c main_v3 : Vec Ideal S8x4096x128 .f32) (ix3 b r n)) (entry (arg3 m c) (4096 * b + r) n) :=
  (congrFun (V_v3 m c) (ix3 b r n)).trans (cast_128 (arg3 m c) b r n)

theorem v4_apply (b : Fin 8) (r : Fin 4096) (n : Fin 1024) :
    @Eq EReal ((V m c main_v4 : Vec Ideal S8x4096x1024 .f32) (ix3 b r n)) (entry (arg8 m c) (4096 * b + r) n) :=
  (congrFun (V_v4 m c) (ix3 b r n)).trans (cast_1024 (arg8 m c) b r n)

variable (t : Fin cfg0.N)

theorem t_lt : t.val < 64 := t.isLt

theorem index_0 : (cfg0.win 0).index t = ![t.val / 16, t.val % 16, 0] := (by decide +kernel : ∀ t : Fin grid0.N, win0_0.index t = ![t.val / 16, t.val % 16, 0]) t
theorem index_1 : (cfg0.win 1).index t = ![t.val / 16, t.val % 16, 0] := (by decide +kernel : ∀ t : Fin grid0.N, win0_1.index t = ![t.val / 16, t.val % 16, 0]) t
theorem index_2 : (cfg0.win 2).index t = ![t.val / 16, t.val % 16, 0] := (by decide +kernel : ∀ t : Fin grid0.N, win0_2.index t = ![t.val / 16, t.val % 16, 0]) t
theorem index_3 : (cfg0.win 3).index t = ![t.val / 16, t.val % 16, 0] := (by decide +kernel : ∀ t : Fin grid0.N, win0_3.index t = ![t.val / 16, t.val % 16, 0]) t
theorem index_9 : (cfg0.win 9).index t = ![t.val / 16, t.val % 16, 0] := (by decide +kernel : ∀ t : Fin grid0.N, win0_9.index t = ![t.val / 16, t.val % 16, 0]) t

theorem iblk_0 (b : Fin 2) (r : Fin 256) (d : Fin 1024) : @Eq EReal ((iblk m c 0 t : Vec Ideal S2x256x1024 .f32) (ix3 b r d))
    (entry (arg0 m c) (4096 * (2 * (t.val / 16) + b) + (256 * (t.val % 16) + r)) d) := by
  have ht := t_lt t
  refine Eq.trans ?_ (v0_apply m c ⟨2 * (t.val / 16) + b, by omega⟩ ⟨256 * (t.val % 16) + r, by omega⟩ d)
  show (V m c main_v0 : Vec Ideal S8x4096x1024 .f32) (((cfg0.win 0).blk t).view.emb (ix3 b r d : S2x256x1024.Idx)) = _
  refine congrArg (V m c main_v0 : Vec Ideal S8x4096x1024 .f32) (funext fun a => Fin.ext ?_)
  refine (Pipeline.Window.rect_emb_val (cfg0.win 0) t (ix3 b r d : S2x256x1024.Idx) a).trans ?_
  rw [index_0]
  revert a; intro (a : Fin 3); fin_cases a
  · show t.val / 16 * 2 + b.val = 2 * (t.val / 16) + b.val; omega
  · show t.val % 16 * 256 + r.val = 256 * (t.val % 16) + r.val; omega
  · exact Nat.zero_add _ |>.trans rfl

theorem iblk_1 (b : Fin 2) (r : Fin 256) (d : Fin 1024) : @Eq EReal ((iblk m c 1 t : Vec Ideal S2x256x1024 .bf16) (ix3 b r d))
    (entry (arg1 m c) (4096 * (2 * (t.val / 16) + b) + (256 * (t.val % 16) + r)) d) := by
  have ht := t_lt t
  refine Eq.trans ?_ (v1_apply m c ⟨2 * (t.val / 16) + b, by omega⟩ ⟨256 * (t.val % 16) + r, by omega⟩ d)
  show (V m c main_v1 : Vec Ideal S8x4096x1024 .bf16) (((cfg0.win 1).blk t).view.emb (ix3 b r d : S2x256x1024.Idx)) = _
  refine congrArg (V m c main_v1 : Vec Ideal S8x4096x1024 .bf16) (funext fun a => Fin.ext ?_)
  refine (Pipeline.Window.rect_emb_val (cfg0.win 1) t (ix3 b r d : S2x256x1024.Idx) a).trans ?_
  rw [index_1]
  revert a; intro (a : Fin 3); fin_cases a
  · show t.val / 16 * 2 + b.val = 2 * (t.val / 16) + b.val; omega
  · show t.val % 16 * 256 + r.val = 256 * (t.val % 16) + r.val; omega
  · exact Nat.zero_add _ |>.trans rfl

theorem iblk_2 (b : Fin 2) (r : Fin 256) (d : Fin 1024) : @Eq EReal ((iblk m c 2 t : Vec Ideal S2x256x1024 .f32) (ix3 b r d))
    (entry (arg2 m c) (4096 * (2 * (t.val / 16) + b) + (256 * (t.val % 16) + r)) d) := by
  have ht := t_lt t
  refine Eq.trans ?_ (v2_apply m c ⟨2 * (t.val / 16) + b, by omega⟩ ⟨256 * (t.val % 16) + r, by omega⟩ d)
  show (V m c main_v2 : Vec Ideal S8x4096x1024 .f32) (((cfg0.win 2).blk t).view.emb (ix3 b r d : S2x256x1024.Idx)) = _
  refine congrArg (V m c main_v2 : Vec Ideal S8x4096x1024 .f32) (funext fun a => Fin.ext ?_)
  refine (Pipeline.Window.rect_emb_val (cfg0.win 2) t (ix3 b r d : S2x256x1024.Idx) a).trans ?_
  rw [index_2]
  revert a; intro (a : Fin 3); fin_cases a
  · show t.val / 16 * 2 + b.val = 2 * (t.val / 16) + b.val; omega
  · show t.val % 16 * 256 + r.val = 256 * (t.val % 16) + r.val; omega
  · exact Nat.zero_add _ |>.trans rfl

theorem iblk_3 (b : Fin 2) (r : Fin 256) (d : Fin 128) : @Eq EReal ((iblk m c 3 t : Vec Ideal S2x256x128 .f32) (ix3 b r d))
    (entry (arg3 m c) (4096 * (2 * (t.val / 16) + b) + (256 * (t.val % 16) + r)) d) := by
  have ht := t_lt t
  refine Eq.trans ?_ (v3_apply m c ⟨2 * (t.val / 16) + b, by omega⟩ ⟨256 * (t.val % 16) + r, by omega⟩ d)
  show (V m c main_v3 : Vec Ideal S8x4096x128 .f32) (((cfg0.win 3).blk t).view.emb (ix3 b r d : S2x256x128.Idx)) = _
  refine congrArg (V m c main_v3 : Vec Ideal S8x4096x128 .f32) (funext fun a => Fin.ext ?_)
  refine (Pipeline.Window.rect_emb_val (cfg0.win 3) t (ix3 b r d : S2x256x128.Idx) a).trans ?_
  rw [index_3]
  revert a; intro (a : Fin 3); fin_cases a
  · show t.val / 16 * 2 + b.val = 2 * (t.val / 16) + b.val; omega
  · show t.val % 16 * 256 + r.val = 256 * (t.val % 16) + r.val; omega
  · exact Nat.zero_add _ |>.trans rfl

theorem iblk_9 (b : Fin 2) (r : Fin 256) (d : Fin 1024) : @Eq EReal ((iblk m c 9 t : Vec Ideal S2x256x1024 .f32) (ix3 b r d))
    (entry (arg8 m c) (4096 * (2 * (t.val / 16) + b) + (256 * (t.val % 16) + r)) d) := by
  have ht := t_lt t
  refine Eq.trans ?_ (v4_apply m c ⟨2 * (t.val / 16) + b, by omega⟩ ⟨256 * (t.val % 16) + r, by omega⟩ d)
  show (V m c main_v4 : Vec Ideal S8x4096x1024 .f32) (((cfg0.win 9).blk t).view.emb (ix3 b r d : S2x256x1024.Idx)) = _
  refine congrArg (V m c main_v4 : Vec Ideal S8x4096x1024 .f32) (funext fun a => Fin.ext ?_)
  refine (Pipeline.Window.rect_emb_val (cfg0.win 9) t (ix3 b r d : S2x256x1024.Idx) a).trans ?_
  rw [index_9]
  revert a; intro (a : Fin 3); fin_cases a
  · show t.val / 16 * 2 + b.val = 2 * (t.val / 16) + b.val; omega
  · show t.val % 16 * 256 + r.val = 256 * (t.val % 16) + r.val; omega
  · exact Nat.zero_add _ |>.trans rfl

theorem iblk_4 (i : Fin 128) (j : Fin 512) : @Eq EReal ((iblk m c 4 t : FVec Ideal S128x512 .bf16) (ix2 i j)) (entry (arg4 m c) i j) := by
  refine Eq.trans ?_ ((congrFun (V_arg4 m c) (ix2 i j)).trans (entry_of _ _ _ i.isLt j.isLt).symm)
  show (V m c main_arg4 : Vec Ideal S128x512 .bf16) (((cfg0.win 4).blk t).view.emb (ix2 i j : S128x512.Idx)) = _
  refine congrArg (V m c main_arg4 : Vec Ideal S128x512 .bf16) (funext fun a => Fin.ext ?_)
  refine (Pipeline.Window.rect_emb_val (cfg0.win 4) t (ix2 i j : S128x512.Idx) a).trans ?_
  rw [show (cfg0.win 4).index t = ![0, 0] from rfl]
  revert a; intro (a : Fin 2); fin_cases a <;> exact Nat.zero_add _ |>.trans rfl

theorem iblk_5 (i : Fin 1) (j : Fin 512) : @Eq EReal ((iblk m c 5 t : FVec Ideal S1x512 .f32) (ix2 i j)) (entry (arg5 m c) i j) := by
  refine Eq.trans ?_ ((congrFun (V_arg5 m c) (ix2 i j)).trans (entry_of _ _ _ i.isLt j.isLt).symm)
  show (V m c main_arg5 : Vec Ideal S1x512 .f32) (((cfg0.win 5).blk t).view.emb (ix2 i j : S1x512.Idx)) = _
  refine congrArg (V m c main_arg5 : Vec Ideal S1x512 .f32) (funext fun a => Fin.ext ?_)
  refine (Pipeline.Window.rect_emb_val (cfg0.win 5) t (ix2 i j : S1x512.Idx) a).trans ?_
  rw [show (cfg0.win 5).index t = ![0, 0] from rfl]
  revert a; intro (a : Fin 2); fin_cases a <;> exact Nat.zero_add _ |>.trans rfl

theorem iblk_6 (i : Fin 1) (j : Fin 256) : @Eq EReal ((iblk m c 6 t : FVec Ideal S1x256 .f32) (ix2 i j)) (entry (arg6 m c) i j) := by
  refine Eq.trans ?_ ((congrFun (V_arg6 m c) (ix2 i j)).trans (entry_of _ _ _ i.isLt j.isLt).symm)
  show (V m c main_arg6 : Vec Ideal S1x256 .f32) (((cfg0.win 6).blk t).view.emb (ix2 i j : S1x256.Idx)) = _
  refine congrArg (V m c main_arg6 : Vec Ideal S1x256 .f32) (funext fun a => Fin.ext ?_)
  refine (Pipeline.Window.rect_emb_val (cfg0.win 6) t (ix2 i j : S1x256.Idx) a).trans ?_
  rw [show (cfg0.win 6).index t = ![0, 0] from rfl]
  revert a; intro (a : Fin 2); fin_cases a <;> exact Nat.zero_add _ |>.trans rfl

theorem iblk_8 (i : Fin 1024) (j : Fin 1024) : @Eq EReal ((iblk m c 8 t : FVec Ideal S1024x1024 .bf16) (ix2 i j)) (entry (arg7 m c) i j) := by
  refine Eq.trans ?_ ((congrFun (V_arg7 m c) (ix2 i j)).trans (entry_of _ _ _ i.isLt j.isLt).symm)
  show (V m c main_arg7 : Vec Ideal S1024x1024 .bf16) (((cfg0.win 8).blk t).view.emb (ix2 i j : S1024x1024.Idx)) = _
  refine congrArg (V m c main_arg7 : Vec Ideal S1024x1024 .bf16) (funext fun a => Fin.ext ?_)
  refine (Pipeline.Window.rect_emb_val (cfg0.win 8) t (ix2 i j : S1024x1024.Idx) a).trans ?_
  rw [show (cfg0.win 8).index t = ![0, 0] from rfl]
  revert a; intro (a : Fin 2); fin_cases a <;> exact Nat.zero_add _ |>.trans rfl

theorem iblk_10 (i : Fin 1) (j : Fin 1024) : @Eq EReal ((iblk m c 10 t : FVec Ideal S1x1024 .f32) (ix2 i j)) (entry (arg9 m c) i j) := by
  refine Eq.trans ?_ ((congrFun (V_arg9 m c) (ix2 i j)).trans (entry_of _ _ _ i.isLt j.isLt).symm)
  show (V m c main_arg9 : Vec Ideal S1x1024 .f32) (((cfg0.win 10).blk t).view.emb (ix2 i j : S1x1024.Idx)) = _
  refine congrArg (V m c main_arg9 : Vec Ideal S1x1024 .f32) (funext fun a => Fin.ext ?_)
  refine (Pipeline.Window.rect_emb_val (cfg0.win 10) t (ix2 i j : S1x1024.Idx) a).trans ?_
  rw [show (cfg0.win 10).index t = ![0, 0] from rfl]
  revert a; intro (a : Fin 2); fin_cases a <;> exact Nat.zero_add _ |>.trans rfl

theorem iblk_7 (i : Fin 512) (j : Fin 512) : @Eq EReal ((iblk m c 7 t : FVec Ideal S512x512 .bf16) (ix2 i j)) ((V m c main_v21 : FVec Ideal S512x512 .bf16) (ix2 i j)) := by
  show (V m c main_v21 : Vec Ideal S512x512 .bf16) (((cfg0.win 7).blk t).view.emb (ix2 i j : S512x512.Idx)) = _
  refine congrArg (V m c main_v21 : Vec Ideal S512x512 .bf16) (funext fun a => Fin.ext ?_)
  refine (Pipeline.Window.rect_emb_val (cfg0.win 7) t (ix2 i j : S512x512.Idx) a).trans ?_
  rw [show (cfg0.win 7).index t = ![0, 0] from rfl]
  revert a; intro (a : Fin 2); fin_cases a <;> exact Nat.zero_add _ |>.trans rfl

/-- What a point's blocks are of the layer. -/
theorem tile : Tile (LF (data m c)) (QF (data m c)) (KF (data m c)) (VF (data m c)) (RF (data m c)) (XF (data m c)) (WF (data m c)) (GHF (data m c)) (GNF (data m c))
    (2 * (t.val / 16)) (t.val % 16) (iblk m c 0 t) (iblk m c 1 t) (iblk m c 2 t) (iblk m c 3 t) (iblk m c 4 t) (iblk m c 5 t) (iblk m c 6 t)
    (iblk m c 7 t) (iblk m c 8 t) (iblk m c 9 t) (iblk m c 10 t) where
  dec := fun b i k => congrArg lsv (congrArg₂ (fun a b : EReal => a + b)
    (Finset.sum_congr rfl fun r _ => congrArg₂ (fun a b : EReal => a * b) (iblk_3 m c t b i r) (iblk_4 m c t r k)) (iblk_5 m c t 0 k))
  qry := fun b i k => iblk_0 m c t b i ⟨k, by omega⟩
  key := fun b i k => iblk_0 m c t b i ⟨512 + k, by omega⟩
  val := fun b i k => iblk_1 m c t b i k
  gate := fun b i k => iblk_2 m c t b i k
  head := fun d => iblk_6 m c t 0 d
  mat := fun a x => ⟨(iblk_7 m c t a _).trans (reads_v21 m c a x).1, (iblk_7 m c t a _).trans (reads_v21 m c a x).2⟩
  proj := fun k j => iblk_8 m c t k j
  res := fun b i k => iblk_9 m c t b i k
  gain := fun j => iblk_10 m c t 0 j

end

end Cert.GlaIdeal.Mix

end
-- ==== Proof.GlaRunA.lean ====
/- The lists of writes a grid point makes, one chunk of one head after another: a sequence's first tile. -/
module

public import proofs.«01_k».proof.Proof.GlaBlock

@[expose] public section

set_option maxRecDepth 16384

noncomputable section

namespace Cert.GlaIdeal.Mix

open Cert.GlaIdeal Cert.GlaIdeal.Gen
open Idealize.ShloMosaic Idealize.ShloMosaic.TcCoe Idealize.ShloMosaic.Tactic

section

variable (c : Dev nD) (arg2 : Memref sig .tc .vmem S2x256x1024 .f32) (harg2 : arg2.IsWhole) (arg3 : Memref sig .tc .vmem S2x256x1024 .bf16) (harg3 : arg3.IsWhole)
  (arg4 : Memref sig .tc .vmem S2x256x1024 .f32) (harg4 : arg4.IsWhole) (arg5 : Memref sig .tc .vmem S2x256x128 .f32) (harg5 : arg5.IsWhole)
  (arg6 : Memref sig .tc .vmem S128x512 .bf16) (harg6 : arg6.IsWhole) (arg7 : Memref sig .tc .vmem S1x512 .f32) (harg7 : arg7.IsWhole)
  (arg8 : Memref sig .tc .vmem S1x256 .f32) (harg8 : arg8.IsWhole) (arg9 : Memref sig .tc .vmem S512x512 .bf16) (harg9 : arg9.IsWhole)
  (arg15 : Memref sig .tc .vmem S2x4x256x128 .f32) (harg15 : arg15.IsWhole)
  (x0 : Vec Ideal S2x256x1024 .f32) (x1 : Vec Ideal S2x256x1024 .bf16) (x2 : Vec Ideal S2x256x1024 .f32) (x3 : Vec Ideal S2x256x128 .f32)
  (x4 : Vec Ideal S128x512 .bf16) (x5 : Vec Ideal S1x512 .f32) (x6 : Vec Ideal S1x256 .f32) (x7 : Vec Ideal S512x512 .bf16) (xs0 : Vec Ideal S2x4x256x128 .f32)

/-- The values of block `k`. -/
abbrev vbA (k : ℕ) : Vec Ideal S1x64x256 .bf16 := View.readAt (Elt Ideal) arg3.view (rect3 k).toLoadRect (harg3.unread x1)

/-- The gates of block `k`. -/
abbrev rbA (k : ℕ) : Vec Ideal S1x64x256 .f32 := View.readAt (Elt Ideal) arg4.view (rect3 k).toLoadRect (harg4.unread x2)

/-- A sequence starts from nothing. -/
abbrev iniA (k : ℕ) : Vec Ideal S1x1x256x128 .f32 := fun _ => (0 : EReal)

theorem baseA (y : S2x4x256x128.Idx) : View.canon (kernelRun0_A.sl.HS0_1 (F := Ideal)) y = (0 : EReal) := by
  unfold kernelRun0_A.sl.HS0_1
  have e : (Rect.unit (s := S2x4x256x128) ![0, 0, 0, 0] S2x4x256x128.size inb_S2x4x256x128_S2x4x256x128_0_0_0_0).emb y = y := by
    funext a; refine Fin.ext ((Rect.idx_unit_val _ _ _ _ a).trans ?_)
    revert a; intro (a : Fin 4); fin_cases a <;> exact Nat.zero_add _
  conv_lhs => rw [← e]
  rw [View.canon_cons_emb]
  unfold k0_pay4
  exact (congrFun (shapeCast_self _ _) y).trans (by simp; rfl)

/-- The state block `k` reads. -/
abbrev XA (k : ℕ) : Vec Ideal S1x1x256x128 .f32 :=
  X (kernelRun0_A.sl.r_6 c arg2 harg2 arg5 harg5 arg6 harg6 arg7 harg7 arg9 harg9 x0 x3 x4 x5 x7) (kernelRun0_A.sl.r_11 c arg2 harg2 arg5 harg5 arg6 harg6 arg7 harg7 arg9 harg9 x0 x3 x4 x5 x7) (kernelRun0_A.sl.r_7 c arg5 harg5 arg6 harg6 arg7 harg7 arg9 harg9 x3 x4 x5 x7) (kernelRun0_A.sl.r_12 c arg5 harg5 arg6 harg6 arg7 harg7 arg9 harg9 x3 x4 x5 x7) (vbA arg3 harg3 x1) iniA k

/-- The states written by the first `n` blocks. -/
abbrev PA (n : ℕ) : List (View.Piece (Elt Ideal) S2x4x256x128 .f32) :=
  P (kernelRun0_A.sl.r_6 c arg2 harg2 arg5 harg5 arg6 harg6 arg7 harg7 arg9 harg9 x0 x3 x4 x5 x7) (kernelRun0_A.sl.r_11 c arg2 harg2 arg5 harg5 arg6 harg6 arg7 harg7 arg9 harg9 x0 x3 x4 x5 x7) (kernelRun0_A.sl.r_7 c arg5 harg5 arg6 harg6 arg7 harg7 arg9 harg9 x3 x4 x5 x7) (kernelRun0_A.sl.r_12 c arg5 harg5 arg6 harg6 arg7 harg7 arg9 harg9 x3 x4 x5 x7) (vbA arg3 harg3 x1) iniA kernelRun0_A.sl.HS0_1 n

/-- The results written by the first `n` blocks. -/
abbrev QA (n : ℕ) : List (View.Piece (Elt Ideal) S2x256x1024 .bf16) :=
  Q (kernelRun0_A.sl.r_6 c arg2 harg2 arg5 harg5 arg6 harg6 arg7 harg7 arg9 harg9 x0 x3 x4 x5 x7) (kernelRun0_A.sl.r_11 c arg2 harg2 arg5 harg5 arg6 harg6 arg7 harg7 arg9 harg9 x0 x3 x4 x5 x7) (kernelRun0_A.sl.r_4 c arg2 harg2 arg5 harg5 arg6 harg6 arg7 harg7 arg9 harg9 x0 x3 x4 x5 x7) (kernelRun0_A.sl.r_9 c arg2 harg2 arg5 harg5 arg6 harg6 arg7 harg7 arg9 harg9 x0 x3 x4 x5 x7) (kernelRun0_A.sl.r_5 c arg2 harg2 arg5 harg5 arg6 harg6 arg7 harg7 arg9 harg9 x0 x3 x4 x5 x7) (kernelRun0_A.sl.r_10 c arg2 harg2 arg5 harg5 arg6 harg6 arg7 harg7 arg9 harg9 x0 x3 x4 x5 x7) (kernelRun0_A.sl.r_7 c arg5 harg5 arg6 harg6 arg7 harg7 arg9 harg9 x3 x4 x5 x7) (kernelRun0_A.sl.r_12 c arg5 harg5 arg6 harg6 arg7 harg7 arg9 harg9 x3 x4 x5 x7) (kernelRun0_A.sl.r_13 c arg8 harg8 x6) (vbA arg3 harg3 x1) (rbA arg4 harg4 x2) iniA n

theorem vA_0 : kernelRun0_A.sl.v108 c arg15 = XA c arg2 harg2 arg3 harg3 arg5 harg5 arg6 harg6 arg7 harg7 arg9 harg9 x0 x1 x3 x4 x5 x7 0 := by
  unfold kernelRun0_A.sl.v108
  exact read_P_base _ _ _ _ _ _ _ _ 0 (by omega) baseA (fun _ => rfl)

theorem hsA_0 : kernelRun0_A.sl.HS0_1 = PA c arg2 harg2 arg3 harg3 arg5 harg5 arg6 harg6 arg7 harg7 arg9 harg9 x0 x1 x3 x4 x5 x7 0 := rfl

theorem hsA_1 : kernelRun0_A.sl.HS0_2 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 1 := by
  unfold kernelRun0_A.sl.HS0_2 kernelRun0_A.sl.r_16
  rw [vA_0 c arg2 harg2 arg3 harg3 arg5 harg5 arg6 harg6 arg7 harg7 arg9 harg9 arg15 x0 x1 x3 x4 x5 x7]
  exact P_cons _ _ _ _ _ _ _ 0 rfl (hsA_0 ..)

theorem vA_1 : kernelRun0_A.sl.v158 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 1 := by
  unfold kernelRun0_A.sl.v158
  rw [hsA_1]
  exact read_P_base _ _ _ _ _ _ _ _ 1 (by omega) baseA (fun _ => rfl)

theorem hsA_2 : kernelRun0_A.sl.HS0_3 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 2 := by
  unfold kernelRun0_A.sl.HS0_3
  rw [vA_1]
  exact P_cons _ _ _ _ _ _ _ 1 rfl (hsA_1 ..)

theorem vA_2 : kernelRun0_A.sl.v208 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 2 := by
  unfold kernelRun0_A.sl.v208
  rw [hsA_2]
  exact read_P_base _ _ _ _ _ _ _ _ 2 (by omega) baseA (fun _ => rfl)

theorem hsA_3 : kernelRun0_A.sl.HS0_4 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 3 := by
  unfold kernelRun0_A.sl.HS0_4
  rw [vA_2]
  exact P_cons _ _ _ _ _ _ _ 2 rfl (hsA_2 ..)

theorem vA_3 : kernelRun0_A.sl.v258 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 3 := by
  unfold kernelRun0_A.sl.v258
  rw [hsA_3]
  exact read_P_base _ _ _ _ _ _ _ _ 3 (by omega) baseA (fun _ => rfl)

theorem hsA_4 : kernelRun0_A.sl.HS0_5 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 4 := by
  unfold kernelRun0_A.sl.HS0_5 kernelRun0_A.sl.r_26
  rw [vA_3]
  exact P_cons _ _ _ _ _ _ _ 3 rfl (hsA_3 ..)

theorem vA_4 : kernelRun0_A.sl.v308 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 4 := by
  unfold kernelRun0_A.sl.v308
  rw [hsA_4]
  exact read_P_base _ _ _ _ _ _ _ _ 4 (by omega) baseA (fun _ => rfl)

theorem hsA_5 : kernelRun0_A.sl.HS0_6 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 5 := by
  unfold kernelRun0_A.sl.HS0_6
  rw [vA_4]
  exact P_cons _ _ _ _ _ _ _ 4 rfl (hsA_4 ..)

theorem vA_5 : kernelRun0_A.sl.v358 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 5 := by
  unfold kernelRun0_A.sl.v358
  rw [hsA_5]
  exact read_P_base _ _ _ _ _ _ _ _ 5 (by omega) baseA (fun _ => rfl)

theorem hsA_6 : kernelRun0_A.sl.HS0_7 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 6 := by
  unfold kernelRun0_A.sl.HS0_7
  rw [vA_5]
  exact P_cons _ _ _ _ _ _ _ 5 rfl (hsA_5 ..)

theorem vA_6 : kernelRun0_A.sl.v408 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 6 := by
  unfold kernelRun0_A.sl.v408
  rw [hsA_6]
  exact read_P_base _ _ _ _ _ _ _ _ 6 (by omega) baseA (fun _ => rfl)

theorem hsA_7 : kernelRun0_A.sl.HS0_8 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 7 := by
  unfold kernelRun0_A.sl.HS0_8 kernelRun0_A.sl.r_36
  rw [vA_6]
  exact P_cons _ _ _ _ _ _ _ 6 rfl (hsA_6 ..)

theorem vA_7 : kernelRun0_A.sl.v458 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 7 := by
  unfold kernelRun0_A.sl.v458
  rw [hsA_7]
  exact read_P_base _ _ _ _ _ _ _ _ 7 (by omega) baseA (fun _ => rfl)

theorem hsA_8 : kernelRun0_A.sl.HS0_9 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 8 := by
  unfold kernelRun0_A.sl.HS0_9
  rw [vA_7]
  exact P_cons _ _ _ _ _ _ _ 7 rfl (hsA_7 ..)

theorem vA_8 : kernelRun0_A.sl.v508 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 8 := by
  unfold kernelRun0_A.sl.v508
  rw [hsA_8]
  exact read_P _ _ _ _ _ _ _ _ 0

theorem hsA_9 : kernelRun0_A.sl.HS0_10 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 9 := by
  unfold kernelRun0_A.sl.HS0_10
  rw [vA_8]
  exact P_cons _ _ _ _ _ _ _ 8 rfl (hsA_8 ..)

theorem vA_9 : kernelRun0_A.sl.v558 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 9 := by
  unfold kernelRun0_A.sl.v558
  rw [hsA_9]
  exact read_P _ _ _ _ _ _ _ _ 1

theorem hsA_10 : kernelRun0_A.sl.HS0_11 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 10 := by
  unfold kernelRun0_A.sl.HS0_11 kernelRun0_A.sl.r_46
  rw [vA_9]
  exact P_cons _ _ _ _ _ _ _ 9 rfl (hsA_9 ..)

theorem vA_10 : kernelRun0_A.sl.v608 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 10 := by
  unfold kernelRun0_A.sl.v608
  rw [hsA_10]
  exact read_P _ _ _ _ _ _ _ _ 2

theorem hsA_11 : kernelRun0_A.sl.HS0_12 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 11 := by
  unfold kernelRun0_A.sl.HS0_12
  rw [vA_10]
  exact P_cons _ _ _ _ _ _ _ 10 rfl (hsA_10 ..)

theorem vA_11 : kernelRun0_A.sl.v658 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 11 := by
  unfold kernelRun0_A.sl.v658
  rw [hsA_11]
  exact read_P _ _ _ _ _ _ _ _ 3

theorem hsA_12 : kernelRun0_A.sl.HS0_13 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 12 := by
  unfold kernelRun0_A.sl.HS0_13
  rw [vA_11]
  exact P_cons _ _ _ _ _ _ _ 11 rfl (hsA_11 ..)

theorem vA_12 : kernelRun0_A.sl.v708 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 12 := by
  unfold kernelRun0_A.sl.v708
  rw [hsA_12]
  exact read_P _ _ _ _ _ _ _ _ 4

theorem hsA_13 : kernelRun0_A.sl.HS0_14 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 13 := by
  unfold kernelRun0_A.sl.HS0_14 kernelRun0_A.sl.r_56
  rw [vA_12]
  exact P_cons _ _ _ _ _ _ _ 12 rfl (hsA_12 ..)

theorem vA_13 : kernelRun0_A.sl.v758 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 13 := by
  unfold kernelRun0_A.sl.v758
  rw [hsA_13]
  exact read_P _ _ _ _ _ _ _ _ 5

theorem hsA_14 : kernelRun0_A.sl.HS0_15 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 14 := by
  unfold kernelRun0_A.sl.HS0_15
  rw [vA_13]
  exact P_cons _ _ _ _ _ _ _ 13 rfl (hsA_13 ..)

theorem vA_14 : kernelRun0_A.sl.v808 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 14 := by
  unfold kernelRun0_A.sl.v808
  rw [hsA_14]
  exact read_P _ _ _ _ _ _ _ _ 6

theorem hsA_15 : kernelRun0_A.sl.HS0_16 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 15 := by
  unfold kernelRun0_A.sl.HS0_16
  rw [vA_14]
  exact P_cons _ _ _ _ _ _ _ 14 rfl (hsA_14 ..)

theorem vA_15 : kernelRun0_A.sl.v858 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 15 := by
  unfold kernelRun0_A.sl.v858
  rw [hsA_15]
  exact read_P _ _ _ _ _ _ _ _ 7

theorem hsA_16 : kernelRun0_A.sl.HS0_17 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 16 := by
  unfold kernelRun0_A.sl.HS0_17 kernelRun0_A.sl.r_66
  rw [vA_15]
  exact P_cons _ _ _ _ _ _ _ 15 rfl (hsA_15 ..)

theorem vA_16 : kernelRun0_A.sl.v908 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 16 := by
  unfold kernelRun0_A.sl.v908
  rw [hsA_16]
  exact read_P _ _ _ _ _ _ _ _ 8

theorem hsA_17 : kernelRun0_A.sl.HS0_18 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 17 := by
  unfold kernelRun0_A.sl.HS0_18
  rw [vA_16]
  exact P_cons _ _ _ _ _ _ _ 16 rfl (hsA_16 ..)

theorem vA_17 : kernelRun0_A.sl.v958 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 17 := by
  unfold kernelRun0_A.sl.v958
  rw [hsA_17]
  exact read_P _ _ _ _ _ _ _ _ 9

theorem hsA_18 : kernelRun0_A.sl.HS0_19 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 18 := by
  unfold kernelRun0_A.sl.HS0_19
  rw [vA_17]
  exact P_cons _ _ _ _ _ _ _ 17 rfl (hsA_17 ..)

theorem vA_18 : kernelRun0_A.sl.v1008 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 18 := by
  unfold kernelRun0_A.sl.v1008
  rw [hsA_18]
  exact read_P _ _ _ _ _ _ _ _ 10

theorem hsA_19 : kernelRun0_A.sl.HS0_20 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 19 := by
  unfold kernelRun0_A.sl.HS0_20 kernelRun0_A.sl.r_76
  rw [vA_18]
  exact P_cons _ _ _ _ _ _ _ 18 rfl (hsA_18 ..)

theorem vA_19 : kernelRun0_A.sl.v1058 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 19 := by
  unfold kernelRun0_A.sl.v1058
  rw [hsA_19]
  exact read_P _ _ _ _ _ _ _ _ 11

theorem hsA_20 : kernelRun0_A.sl.HS0_21 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 20 := by
  unfold kernelRun0_A.sl.HS0_21
  rw [vA_19]
  exact P_cons _ _ _ _ _ _ _ 19 rfl (hsA_19 ..)

theorem vA_20 : kernelRun0_A.sl.v1108 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 20 := by
  unfold kernelRun0_A.sl.v1108
  rw [hsA_20]
  exact read_P _ _ _ _ _ _ _ _ 12

theorem hsA_21 : kernelRun0_A.sl.HS0_22 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 21 := by
  unfold kernelRun0_A.sl.HS0_22
  rw [vA_20]
  exact P_cons _ _ _ _ _ _ _ 20 rfl (hsA_20 ..)

theorem vA_21 : kernelRun0_A.sl.v1158 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 21 := by
  unfold kernelRun0_A.sl.v1158
  rw [hsA_21]
  exact read_P _ _ _ _ _ _ _ _ 13

theorem hsA_22 : kernelRun0_A.sl.HS0_23 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 22 := by
  unfold kernelRun0_A.sl.HS0_23 kernelRun0_A.sl.r_86
  rw [vA_21]
  exact P_cons _ _ _ _ _ _ _ 21 rfl (hsA_21 ..)

theorem vA_22 : kernelRun0_A.sl.v1208 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 22 := by
  unfold kernelRun0_A.sl.v1208
  rw [hsA_22]
  exact read_P _ _ _ _ _ _ _ _ 14

theorem hsA_23 : kernelRun0_A.sl.HS0_24 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 23 := by
  unfold kernelRun0_A.sl.HS0_24
  rw [vA_22]
  exact P_cons _ _ _ _ _ _ _ 22 rfl (hsA_22 ..)

theorem vA_23 : kernelRun0_A.sl.v1258 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 23 := by
  unfold kernelRun0_A.sl.v1258
  rw [hsA_23]
  exact read_P _ _ _ _ _ _ _ _ 15

theorem hsA_24 : kernelRun0_A.sl.HS0_25 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 24 := by
  unfold kernelRun0_A.sl.HS0_25
  rw [vA_23]
  exact P_cons _ _ _ _ _ _ _ 23 rfl (hsA_23 ..)

theorem vA_24 : kernelRun0_A.sl.v1308 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 24 := by
  unfold kernelRun0_A.sl.v1308
  rw [hsA_24]
  exact read_P _ _ _ _ _ _ _ _ 16

theorem hsA_25 : kernelRun0_A.sl.HS0_26 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 25 := by
  unfold kernelRun0_A.sl.HS0_26 kernelRun0_A.sl.r_96
  rw [vA_24]
  exact P_cons _ _ _ _ _ _ _ 24 rfl (hsA_24 ..)

theorem vA_25 : kernelRun0_A.sl.v1358 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 25 := by
  unfold kernelRun0_A.sl.v1358
  rw [hsA_25]
  exact read_P _ _ _ _ _ _ _ _ 17

theorem hsA_26 : kernelRun0_A.sl.HS0_27 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 26 := by
  unfold kernelRun0_A.sl.HS0_27
  rw [vA_25]
  exact P_cons _ _ _ _ _ _ _ 25 rfl (hsA_25 ..)

theorem vA_26 : kernelRun0_A.sl.v1408 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 26 := by
  unfold kernelRun0_A.sl.v1408
  rw [hsA_26]
  exact read_P _ _ _ _ _ _ _ _ 18

theorem hsA_27 : kernelRun0_A.sl.HS0_28 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 27 := by
  unfold kernelRun0_A.sl.HS0_28
  rw [vA_26]
  exact P_cons _ _ _ _ _ _ _ 26 rfl (hsA_26 ..)

theorem vA_27 : kernelRun0_A.sl.v1458 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 27 := by
  unfold kernelRun0_A.sl.v1458
  rw [hsA_27]
  exact read_P _ _ _ _ _ _ _ _ 19

theorem hsA_28 : kernelRun0_A.sl.HS0_29 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 28 := by
  unfold kernelRun0_A.sl.HS0_29 kernelRun0_A.sl.r_106
  rw [vA_27]
  exact P_cons _ _ _ _ _ _ _ 27 rfl (hsA_27 ..)

theorem vA_28 : kernelRun0_A.sl.v1508 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 28 := by
  unfold kernelRun0_A.sl.v1508
  rw [hsA_28]
  exact read_P _ _ _ _ _ _ _ _ 20

theorem hsA_29 : kernelRun0_A.sl.HS0_30 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 29 := by
  unfold kernelRun0_A.sl.HS0_30
  rw [vA_28]
  exact P_cons _ _ _ _ _ _ _ 28 rfl (hsA_28 ..)

theorem vA_29 : kernelRun0_A.sl.v1558 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 29 := by
  unfold kernelRun0_A.sl.v1558
  rw [hsA_29]
  exact read_P _ _ _ _ _ _ _ _ 21

theorem hsA_30 : kernelRun0_A.sl.HS0_31 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 30 := by
  unfold kernelRun0_A.sl.HS0_31
  rw [vA_29]
  exact P_cons _ _ _ _ _ _ _ 29 rfl (hsA_29 ..)

theorem vA_30 : kernelRun0_A.sl.v1608 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 30 := by
  unfold kernelRun0_A.sl.v1608
  rw [hsA_30]
  exact read_P _ _ _ _ _ _ _ _ 22

theorem hsA_31 : kernelRun0_A.sl.HS0_32 c arg2 harg2 arg3 harg3 arg5 harg5 arg6 harg6 arg7 harg7 arg9 harg9 arg15 x0 x1 x3 x4 x5 x7 = PA c arg2 harg2 arg3 harg3 arg5 harg5 arg6 harg6 arg7 harg7 arg9 harg9 x0 x1 x3 x4 x5 x7 31 := by
  unfold kernelRun0_A.sl.HS0_32 kernelRun0_A.sl.r_116
  rw [vA_30]
  exact P_cons _ _ _ _ _ _ _ 30 rfl (hsA_30 ..)

theorem vA_31 : kernelRun0_A.sl.v1658 c arg2 harg2 arg3 harg3 arg5 harg5 arg6 harg6 arg7 harg7 arg9 harg9 arg15 x0 x1 x3 x4 x5 x7 = XA c arg2 harg2 arg3 harg3 arg5 harg5 arg6 harg6 arg7 harg7 arg9 harg9 x0 x1 x3 x4 x5 x7 31 := by
  unfold kernelRun0_A.sl.v1658
  rw [hsA_31]
  exact read_P _ _ _ _ _ _ _ _ 23

theorem ogA : kernelRun0_A.sl.HS1_32 c arg2 harg2 arg3 harg3 arg4 harg4 arg5 harg5 arg6 harg6 arg7 harg7 arg8 harg8 arg9 harg9 arg15 x0 x1 x2 x3 x4 x5 x6 x7 = QA c arg2 harg2 arg3 harg3 arg4 harg4 arg5 harg5 arg6 harg6 arg7 harg7 arg8 harg8 arg9 harg9 x0 x1 x2 x3 x4 x5 x6 x7 32 := by
  unfold kernelRun0_A.sl.HS1_32
  refine Q_cons _ _ _ _ _ _ _ _ _ _ _ _ 31 (by unfold kernelRun0_A.sl.r_119; rw [vA_31]; rfl) ?_
  refine Q_cons _ _ _ _ _ _ _ _ _ _ _ _ 30 (by unfold kernelRun0_A.sl.r_115; rw [vA_30]; rfl) ?_
  refine Q_cons _ _ _ _ _ _ _ _ _ _ _ _ 29 (by unfold kernelRun0_A.sl.r_112 kernelRun0_A.sl.r_113; rw [vA_29]; rfl) ?_
  refine Q_cons _ _ _ _ _ _ _ _ _ _ _ _ 28 (by unfold kernelRun0_A.sl.r_109; rw [vA_28]; rfl) ?_
  refine Q_cons _ _ _ _ _ _ _ _ _ _ _ _ 27 (by unfold kernelRun0_A.sl.r_105; rw [vA_27]; rfl) ?_
  refine Q_cons _ _ _ _ _ _ _ _ _ _ _ _ 26 (by unfold kernelRun0_A.sl.r_102 kernelRun0_A.sl.r_103; rw [vA_26]; rfl) ?_
  refine Q_cons _ _ _ _ _ _ _ _ _ _ _ _ 25 (by unfold kernelRun0_A.sl.r_99; rw [vA_25]; rfl) ?_
  refine Q_cons _ _ _ _ _ _ _ _ _ _ _ _ 24 (by unfold kernelRun0_A.sl.r_95; rw [vA_24]; rfl) ?_
  refine Q_cons _ _ _ _ _ _ _ _ _ _ _ _ 23 (by unfold kernelRun0_A.sl.r_92 kernelRun0_A.sl.r_93; rw [vA_23]; rfl) ?_
  refine Q_cons _ _ _ _ _ _ _ _ _ _ _ _ 22 (by unfold kernelRun0_A.sl.r_89; rw [vA_22]; rfl) ?_
  refine Q_cons _ _ _ _ _ _ _ _ _ _ _ _ 21 (by unfold kernelRun0_A.sl.r_85; rw [vA_21]; rfl) ?_
  refine Q_cons _ _ _ _ _ _ _ _ _ _ _ _ 20 (by unfold kernelRun0_A.sl.r_82 kernelRun0_A.sl.r_83; rw [vA_20]; rfl) ?_
  refine Q_cons _ _ _ _ _ _ _ _ _ _ _ _ 19 (by unfold kernelRun0_A.sl.r_79; rw [vA_19]; rfl) ?_
  refine Q_cons _ _ _ _ _ _ _ _ _ _ _ _ 18 (by unfold kernelRun0_A.sl.r_75; rw [vA_18]; rfl) ?_
  refine Q_cons _ _ _ _ _ _ _ _ _ _ _ _ 17 (by unfold kernelRun0_A.sl.r_72 kernelRun0_A.sl.r_73; rw [vA_17]; rfl) ?_
  refine Q_cons _ _ _ _ _ _ _ _ _ _ _ _ 16 (by unfold kernelRun0_A.sl.r_69; rw [vA_16]; rfl) ?_
  refine Q_cons _ _ _ _ _ _ _ _ _ _ _ _ 15 (by unfold kernelRun0_A.sl.r_65; rw [vA_15]; rfl) ?_
  refine Q_cons _ _ _ _ _ _ _ _ _ _ _ _ 14 (by unfold kernelRun0_A.sl.r_62 kernelRun0_A.sl.r_63; rw [vA_14]; rfl) ?_
  refine Q_cons _ _ _ _ _ _ _ _ _ _ _ _ 13 (by unfold kernelRun0_A.sl.r_59; rw [vA_13]; rfl) ?_
  refine Q_cons _ _ _ _ _ _ _ _ _ _ _ _ 12 (by unfold kernelRun0_A.sl.r_55; rw [vA_12]; rfl) ?_
  refine Q_cons _ _ _ _ _ _ _ _ _ _ _ _ 11 (by unfold kernelRun0_A.sl.r_52 kernelRun0_A.sl.r_53; rw [vA_11]; rfl) ?_
  refine Q_cons _ _ _ _ _ _ _ _ _ _ _ _ 10 (by unfold kernelRun0_A.sl.r_49; rw [vA_10]; rfl) ?_
  refine Q_cons _ _ _ _ _ _ _ _ _ _ _ _ 9 (by unfold kernelRun0_A.sl.r_45; rw [vA_9]; rfl) ?_
  refine Q_cons _ _ _ _ _ _ _ _ _ _ _ _ 8 (by unfold kernelRun0_A.sl.r_42 kernelRun0_A.sl.r_43; rw [vA_8]; rfl) ?_
  refine Q_cons _ _ _ _ _ _ _ _ _ _ _ _ 7 (by unfold kernelRun0_A.sl.r_39; rw [vA_7]; rfl) ?_
  refine Q_cons _ _ _ _ _ _ _ _ _ _ _ _ 6 (by unfold kernelRun0_A.sl.r_35; rw [vA_6]; rfl) ?_
  refine Q_cons _ _ _ _ _ _ _ _ _ _ _ _ 5 (by unfold kernelRun0_A.sl.r_32 kernelRun0_A.sl.r_33; rw [vA_5]; rfl) ?_
  refine Q_cons _ _ _ _ _ _ _ _ _ _ _ _ 4 (by unfold kernelRun0_A.sl.r_29; rw [vA_4]; rfl) ?_
  refine Q_cons _ _ _ _ _ _ _ _ _ _ _ _ 3 (by unfold kernelRun0_A.sl.r_25; rw [vA_3]; rfl) ?_
  refine Q_cons _ _ _ _ _ _ _ _ _ _ _ _ 2 (by unfold kernelRun0_A.sl.r_22 kernelRun0_A.sl.r_23; rw [vA_2]; rfl) ?_
  refine Q_cons _ _ _ _ _ _ _ _ _ _ _ _ 1 (by unfold kernelRun0_A.sl.r_19; rw [vA_1]; rfl) ?_
  refine Q_cons _ _ _ _ _ _ _ _ _ _ _ _ 0 (by unfold kernelRun0_A.sl.r_15; rw [vA_0 c arg2 harg2 arg3 harg3 arg5 harg5 arg6 harg6 arg7 harg7 arg9 harg9 arg15 x0 x1 x3 x4 x5 x7]; rfl) ?_
  rfl

end

end Cert.GlaIdeal.Mix

end
-- ==== Proof.GlaOutA.lean ====
/- What a grid point leaves: a sequence's first tile. -/
module

public import proofs.«01_k».proof.Proof.GlaPoint
public import proofs.«01_k».proof.Proof.GlaRunA

@[expose] public section

set_option maxRecDepth 16384

noncomputable section

namespace Cert.GlaIdeal.Mix

open Cert.GlaIdeal Cert.GlaIdeal.Gen Cert.Gla
open Idealize.ShloMosaic Idealize.ShloMosaic.TcCoe Idealize.ShloMosaic.Tactic

section

variable (c : Dev nD) (i0 : grid0.Coords) (arg2 : Memref sig .tc .vmem S2x256x1024 .f32) (harg2 : arg2.IsWhole) (arg3 : Memref sig .tc .vmem S2x256x1024 .bf16) (harg3 : arg3.IsWhole)
  (arg4 : Memref sig .tc .vmem S2x256x1024 .f32) (harg4 : arg4.IsWhole) (arg5 : Memref sig .tc .vmem S2x256x128 .f32) (harg5 : arg5.IsWhole)
  (arg6 : Memref sig .tc .vmem S128x512 .bf16) (harg6 : arg6.IsWhole) (arg7 : Memref sig .tc .vmem S1x512 .f32) (harg7 : arg7.IsWhole)
  (arg8 : Memref sig .tc .vmem S1x256 .f32) (harg8 : arg8.IsWhole) (arg9 : Memref sig .tc .vmem S512x512 .bf16) (harg9 : arg9.IsWhole)
  (arg10 : Memref sig .tc .vmem S1024x1024 .bf16) (harg10 : arg10.IsWhole) (arg11 : Memref sig .tc .vmem S2x256x1024 .f32) (harg11 : arg11.IsWhole)
  (arg12 : Memref sig .tc .vmem S1x1024 .f32) (harg12 : arg12.IsWhole) (arg13 : Memref sig .tc .vmem S2x256x1024 .f32) (harg13 : arg13.IsWhole)
  (arg14 : Memref sig .tc .vmem S2x256x1024 .bf16) (harg14 : arg14.IsWhole)
  (arg15 : Memref sig .tc .vmem S2x4x256x128 .f32) (harg15 : arg15.IsWhole) (arg16 : Memref sig .tc .vmem S2x256x1024 .bf16) (harg16 : arg16.IsWhole)
  (hc0 : cond0_0 i0)
  {L Qf Kf V R X W : ℕ → ℕ → ℕ → EReal} {GH GN : ℕ → EReal} {B T : ℕ}
  {x0 : Vec Ideal S2x256x1024 .f32} {x1 : Vec Ideal S2x256x1024 .bf16} {x2 : Vec Ideal S2x256x1024 .f32} {x3 : Vec Ideal S2x256x128 .f32}
  {x4 : Vec Ideal S128x512 .bf16} {x5 : Vec Ideal S1x512 .f32} {x6 : Vec Ideal S1x256 .f32} {x7 : Vec Ideal S512x512 .bf16}
  {x8 : Vec Ideal S1024x1024 .bf16} {x9 : Vec Ideal S2x256x1024 .f32} {x10 : Vec Ideal S1x1024 .f32}
  (H : Tile L Qf Kf V R X W GH GN B T x0 x1 x2 x3 x4 x5 x6 x7 x8 x9 x10)
  (hT : T = 0)

include H in
theorem keA (b : ℕ) (i : Fin 256) (e : Fin 512) (hb : b < 2) : @Eq EReal (pick (kernelRun0_A.sl.r_6 c arg2 harg2 arg5 harg5 arg6 harg6 arg7 harg7 arg9 harg9 x0 x3 x4 x5 x7) (kernelRun0_A.sl.r_11 c arg2 harg2 arg5 harg5 arg6 harg6 arg7 harg7 arg9 harg9 x0 x3 x4 x5 x7) b (ix2 i e)) (keS L Kf (B + b) (4 * T + i / 64) (i % 64) e) := by
  obtain rfl | rfl : b = 0 ∨ b = 1 := by omega
  · exact ke_read arg2 harg2 arg5 harg5 arg6 harg6 arg7 harg7 arg9 harg9 H 0 i e
  · exact ke_read arg2 harg2 arg5 harg5 arg6 harg6 arg7 harg7 arg9 harg9 H 1 i e

include H in
theorem qdA (b : ℕ) (i : Fin 256) (e : Fin 512) (hb : b < 2) : @Eq EReal (pick (kernelRun0_A.sl.r_4 c arg2 harg2 arg5 harg5 arg6 harg6 arg7 harg7 arg9 harg9 x0 x3 x4 x5 x7) (kernelRun0_A.sl.r_9 c arg2 harg2 arg5 harg5 arg6 harg6 arg7 harg7 arg9 harg9 x0 x3 x4 x5 x7) b (ix2 i e)) (qdS L Qf (B + b) (4 * T + i / 64) (i % 64) e) := by
  obtain rfl | rfl : b = 0 ∨ b = 1 := by omega
  · exact qd_read arg2 harg2 arg5 harg5 arg6 harg6 arg7 harg7 arg9 harg9 H 0 i e
  · exact qd_read arg2 harg2 arg5 harg5 arg6 harg6 arg7 harg7 arg9 harg9 H 1 i e

include H in
theorem kiA (b : ℕ) (i : Fin 256) (e : Fin 512) (hb : b < 2) : @Eq EReal (pick (kernelRun0_A.sl.r_5 c arg2 harg2 arg5 harg5 arg6 harg6 arg7 harg7 arg9 harg9 x0 x3 x4 x5 x7) (kernelRun0_A.sl.r_10 c arg2 harg2 arg5 harg5 arg6 harg6 arg7 harg7 arg9 harg9 x0 x3 x4 x5 x7) b (ix2 i e)) (kiS L Kf (B + b) (4 * T + i / 64) (i % 64) e) := by
  obtain rfl | rfl : b = 0 ∨ b = 1 := by omega
  · exact ki_read arg2 harg2 arg5 harg5 arg6 harg6 arg7 harg7 arg9 harg9 H 0 i e
  · exact ki_read arg2 harg2 arg5 harg5 arg6 harg6 arg7 harg7 arg9 harg9 H 1 i e

include H in
theorem deA (b : ℕ) (i : Fin 256) (e : Fin 512) (hb : b < 2) : @Eq EReal (pick (kernelRun0_A.sl.r_7 c arg5 harg5 arg6 harg6 arg7 harg7 arg9 harg9 x3 x4 x5 x7) (kernelRun0_A.sl.r_12 c arg5 harg5 arg6 harg6 arg7 harg7 arg9 harg9 x3 x4 x5 x7) b (ix2 i e)) (Ideal.exp (endS L (B + b) (4 * T + i / 64) e)) := by
  obtain rfl | rfl : b = 0 ∨ b = 1 := by omega
  · exact de_read arg5 harg5 arg6 harg6 arg7 harg7 arg9 harg9 H 0 i e
  · exact de_read arg5 harg5 arg6 harg6 arg7 harg7 arg9 harg9 H 1 i e

include H in
theorem vbRA (k : ℕ) (i : Fin 64) (dv : Fin 256) : @Eq EReal (vbA arg3 harg3 x1 k (ix3 0 i dv)) (V (B + k / 4 % 2) (64 * (4 * T + k / 8 % 4) + i) (256 * (k % 4) + dv)) := by
  refine (rd_blk arg3 harg3 x1 k i dv).trans ((H.val _ _ _).trans ?_)
  show V (B + k / 4 % 2) (256 * T + (64 * (k / 8 % 4) + i)) _ = _
  congr 1; ring

include H in
theorem rbRA (k : ℕ) (i : Fin 64) (dv : Fin 256) : @Eq EReal (rbA arg4 harg4 x2 k (ix3 0 i dv)) (R (B + k / 4 % 2) (64 * (4 * T + k / 8 % 4) + i) (256 * (k % 4) + dv)) := by
  refine (rd_blk arg4 harg4 x2 k i dv).trans ((H.gate _ _ _).trans ?_)
  show R (B + k / 4 % 2) (256 * T + (64 * (k / 8 % 4) + i)) _ = _
  congr 1; ring

include H in
theorem ghRA (dv : Fin 256) : @Eq EReal (kernelRun0_A.sl.r_13 c arg8 harg8 x6 (ix2 0 dv)) (GH dv) :=
  (congrFun (show kernelRun0_A.sl.r_13 c arg8 harg8 x6 = x6 from rd_whole arg8 harg8 x6 _) (ix2 0 dv)).trans (H.head dv)

include hT in
theorem iniR0 (k : ℕ) (dv : Fin 256) (d : Fin 128) (hk : k < 8) : @Eq EReal (iniA k (ix4 0 0 dv d)) (stS L Kf V (B + k / 4) (k % 4) (4 * T) dv d) := by
  subst hT; rfl

include H hT in
theorem ogRA (y : S2x256x1024.Idx) : @Eq EReal (View.canon (kernelRun0_A.sl.HS1_32 c arg2 harg2 arg3 harg3 arg4 harg4 arg5 harg5 arg6 harg6 arg7 harg7 arg8 harg8 arg9 harg9 arg15 x0 x1 x2 x3 x4 x5 x6 x7) y)
    (ogS L Qf Kf V R GH (B + y 0) ((y 2 : ℕ) / 256) (4 * T + (y 1 : ℕ) / 64) ((y 1 : ℕ) % 64) ((y 2 : ℕ) % 256)) := by
  rw [ogA]
  exact result_eq (keA c arg2 harg2 arg5 harg5 arg6 harg6 arg7 harg7 arg9 harg9 H) (deA c arg5 harg5 arg6 harg6 arg7 harg7 arg9 harg9 H) (qdA c arg2 harg2 arg5 harg5 arg6 harg6 arg7 harg7 arg9 harg9 H) (kiA c arg2 harg2 arg5 harg5 arg6 harg6 arg7 harg7 arg9 harg9 H) (vbRA arg3 harg3 H) (rbRA arg4 harg4 H) (ghRA c arg8 harg8 H) (iniR0 hT) y

include H hT in
theorem o0RA (i : Fin 256) (k : Fin 1024) : @Eq EReal (kernelRun0_A.sl.v1707 c arg2 harg2 arg3 harg3 arg4 harg4 arg5 harg5 arg6 harg6 arg7 harg7 arg8 harg8 arg9 harg9 arg15 arg16 x0 x1 x2 x3 x4 x5 x6 x7 (ix3 0 i k)) (ogS L Qf Kf V R GH (B + 0) ((k : ℕ) / 256) (4 * T + (i : ℕ) / 64) ((i : ℕ) % 64) ((k : ℕ) % 256)) := by
  unfold kernelRun0_A.sl.v1707
  exact og_read arg16.view 0 _ (f := fun b t e => ogS L Qf Kf V R GH (B + b) (e / 256) (4 * T + t / 64) (t % 64) (e % 256)) (fun y => ogRA (H := H) (hT := hT) (y := y) ..) _ i k

include H hT in
theorem o1RA (i : Fin 256) (k : Fin 1024) : @Eq EReal (kernelRun0_A.sl.v1734 c arg2 harg2 arg3 harg3 arg4 harg4 arg5 harg5 arg6 harg6 arg7 harg7 arg8 harg8 arg9 harg9 arg15 arg16 x0 x1 x2 x3 x4 x5 x6 x7 (ix3 0 i k)) (ogS L Qf Kf V R GH (B + 1) ((k : ℕ) / 256) (4 * T + (i : ℕ) / 64) ((i : ℕ) % 64) ((k : ℕ) % 256)) := by
  unfold kernelRun0_A.sl.v1734
  exact og_read arg16.view 1 _ (f := fun b t e => ogS L Qf Kf V R GH (B + b) (e / 256) (4 * T + t / 64) (t % 64) (e % 256)) (fun y => ogRA (H := H) (hT := hT) (y := y) ..) _ i k

include H hT in
theorem out11A (y : S2x256x1024.Idx) : @Eq EReal (out0_A_11 (F := Ideal) c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 y) (hS L Qf Kf V R GH X W (B + y 0) (256 * T + y 1) (y 2)) := by
  unfold out0_A_11
  rw [View.read_writes_eq_canon _ _ _ (cover0_A_11 c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  refine canon_two (e := .f32) (f := fun b t j => hS L Qf Kf V R GH X W (B + b) (256 * T + t) j) _ _ _ _ ?_ ?_ y
  · intro i j
    exact sum_eq H 1 (View.readAt (Elt Ideal) arg11.view (Rect.unit (s := S2x256x1024) ![(((1 : Fin 2) : ℕ)), 0, 0] S1x256x1024.size (lead_qk 1)).toLoadRect (harg11.unread x9)) (fun i j => rd_qk arg11 harg11 x9 1 _ i j) (kernelRun0_A.sl.v1734 c arg2 harg2 arg3 harg3 arg4 harg4 arg5 harg5 arg6 harg6 arg7 harg7 arg8 harg8 arg9 harg9 arg15 arg16 x0 x1 x2 x3 x4 x5 x6 x7) (fun i k => o1RA (H := H) (hT := hT) (i := i) (k := k) ..) (View.readAt (Elt Ideal) arg10.view (Rect.unit (s := S1024x1024) ![0, 0] S1024x1024.size inb_S1024x1024_S1024x1024_0_0).toLoadRect (harg10.unread x8)) (rd_whole arg10 harg10 x8 _) i j
  · intro i j
    exact sum_eq H 0 (View.readAt (Elt Ideal) arg11.view (Rect.unit (s := S2x256x1024) ![(((0 : Fin 2) : ℕ)), 0, 0] S1x256x1024.size (lead_qk 0)).toLoadRect (harg11.unread x9)) (fun i j => rd_qk arg11 harg11 x9 0 _ i j) (kernelRun0_A.sl.v1707 c arg2 harg2 arg3 harg3 arg4 harg4 arg5 harg5 arg6 harg6 arg7 harg7 arg8 harg8 arg9 harg9 arg15 arg16 x0 x1 x2 x3 x4 x5 x6 x7) (fun i k => o0RA (H := H) (hT := hT) (i := i) (k := k) ..) (View.readAt (Elt Ideal) arg10.view (Rect.unit (s := S1024x1024) ![0, 0] S1024x1024.size inb_S1024x1024_S1024x1024_0_0).toLoadRect (harg10.unread x8)) (rd_whole arg10 harg10 x8 _) i j

include H hT in
theorem out12A (y : S2x256x1024.Idx) : @Eq EReal (out0_A_12 (F := Ideal) c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 y) (hnS L Qf Kf V R GH X W GN (B + y 0) (256 * T + y 1) (y 2)) := by
  unfold out0_A_12
  rw [View.read_writes_eq_canon _ _ _ (cover0_A_12 c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  refine canon_two (e := .bf16) (f := fun b t j => hnS L Qf Kf V R GH X W GN (B + b) (256 * T + t) j) _ _ _ _ ?_ ?_ y
  · intro i j
    exact norm_eq H 1 (View.readAt (Elt Ideal) arg11.view (Rect.unit (s := S2x256x1024) ![(((1 : Fin 2) : ℕ)), 0, 0] S1x256x1024.size (lead_qk 1)).toLoadRect (harg11.unread x9)) (fun i j => rd_qk arg11 harg11 x9 1 _ i j) (kernelRun0_A.sl.v1734 c arg2 harg2 arg3 harg3 arg4 harg4 arg5 harg5 arg6 harg6 arg7 harg7 arg8 harg8 arg9 harg9 arg15 arg16 x0 x1 x2 x3 x4 x5 x6 x7) (fun i k => o1RA (H := H) (hT := hT) (i := i) (k := k) ..) (View.readAt (Elt Ideal) arg10.view (Rect.unit (s := S1024x1024) ![0, 0] S1024x1024.size inb_S1024x1024_S1024x1024_0_0).toLoadRect (harg10.unread x8)) (rd_whole arg10 harg10 x8 _) (View.readAt (Elt Ideal) arg12.view (Rect.unit (s := S1x1024) ![0, 0] S1x1024.size inb_S1x1024_S1x1024_0_0).toLoadRect (harg12.unread x10)) (rd_whole arg12 harg12 x10 _) i j
  · intro i j
    exact norm_eq H 0 (View.readAt (Elt Ideal) arg11.view (Rect.unit (s := S2x256x1024) ![(((0 : Fin 2) : ℕ)), 0, 0] S1x256x1024.size (lead_qk 0)).toLoadRect (harg11.unread x9)) (fun i j => rd_qk arg11 harg11 x9 0 _ i j) (kernelRun0_A.sl.v1707 c arg2 harg2 arg3 harg3 arg4 harg4 arg5 harg5 arg6 harg6 arg7 harg7 arg8 harg8 arg9 harg9 arg15 arg16 x0 x1 x2 x3 x4 x5 x6 x7) (fun i k => o0RA (H := H) (hT := hT) (i := i) (k := k) ..) (View.readAt (Elt Ideal) arg10.view (Rect.unit (s := S1024x1024) ![0, 0] S1024x1024.size inb_S1024x1024_S1024x1024_0_0).toLoadRect (harg10.unread x8)) (rd_whole arg10 harg10 x8 _) (View.readAt (Elt Ideal) arg12.view (Rect.unit (s := S1x1024) ![0, 0] S1x1024.size inb_S1x1024_S1x1024_0_0).toLoadRect (harg12.unread x10)) (rd_whole arg12 harg12 x10 _) i j

include H hT in
theorem soutA (y : S2x4x256x128.Idx) : @Eq EReal (sout0_A_0 (F := Ideal) c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 y) (stS L Kf V (B + y 0) (y 1) (4 * T + 4) (y 2) (y 3)) := by
  unfold sout0_A_0
  rw [View.read_writes_eq_canon _ _ _ (scover0_A_0 c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  rw [vA_31]
  refine (congrFun (congrArg (View.canon (Val := Elt Ideal)) (P_cons _ _ _ _ _ _ _ 31 rfl (hsA_31 ..))) y).trans ?_
  exact state_eq (keA c arg2 harg2 arg5 harg5 arg6 harg6 arg7 harg7 arg9 harg9 H) (deA c arg5 harg5 arg6 harg6 arg7 harg7 arg9 harg9 H) (vbRA arg3 harg3 H) (iniR0 hT) y

end

end Cert.GlaIdeal.Mix

end
-- ==== Proof.GlaRunB.lean ====
/- The lists of writes a grid point makes, one chunk of one head after another: a later tile. -/
module

public import proofs.«01_k».proof.Proof.GlaBlock

@[expose] public section

set_option maxRecDepth 16384

noncomputable section

namespace Cert.GlaIdeal.Mix

open Cert.GlaIdeal Cert.GlaIdeal.Gen
open Idealize.ShloMosaic Idealize.ShloMosaic.TcCoe Idealize.ShloMosaic.Tactic

section

variable (c : Dev nD) (arg2 : Memref sig .tc .vmem S2x256x1024 .f32) (harg2 : arg2.IsWhole) (arg3 : Memref sig .tc .vmem S2x256x1024 .bf16) (harg3 : arg3.IsWhole)
  (arg4 : Memref sig .tc .vmem S2x256x1024 .f32) (harg4 : arg4.IsWhole) (arg5 : Memref sig .tc .vmem S2x256x128 .f32) (harg5 : arg5.IsWhole)
  (arg6 : Memref sig .tc .vmem S128x512 .bf16) (harg6 : arg6.IsWhole) (arg7 : Memref sig .tc .vmem S1x512 .f32) (harg7 : arg7.IsWhole)
  (arg8 : Memref sig .tc .vmem S1x256 .f32) (harg8 : arg8.IsWhole) (arg9 : Memref sig .tc .vmem S512x512 .bf16) (harg9 : arg9.IsWhole)
  (arg15 : Memref sig .tc .vmem S2x4x256x128 .f32) (harg15 : arg15.IsWhole)
  (x0 : Vec Ideal S2x256x1024 .f32) (x1 : Vec Ideal S2x256x1024 .bf16) (x2 : Vec Ideal S2x256x1024 .f32) (x3 : Vec Ideal S2x256x128 .f32)
  (x4 : Vec Ideal S128x512 .bf16) (x5 : Vec Ideal S1x512 .f32) (x6 : Vec Ideal S1x256 .f32) (x7 : Vec Ideal S512x512 .bf16) (xs0 : Vec Ideal S2x4x256x128 .f32)

/-- The values of block `k`. -/
abbrev vbB (k : ℕ) : Vec Ideal S1x64x256 .bf16 := View.readAt (Elt Ideal) arg3.view (rect3 k).toLoadRect (harg3.unread x1)

/-- The gates of block `k`. -/
abbrev rbB (k : ℕ) : Vec Ideal S1x64x256 .f32 := View.readAt (Elt Ideal) arg4.view (rect3 k).toLoadRect (harg4.unread x2)

/-- The states found. -/
abbrev iniB (k : ℕ) : Vec Ideal S1x1x256x128 .f32 := View.readAt (Elt Ideal) arg15.view (rectOf k).toLoadRect (harg15.unread xs0)

/-- The state block `k` reads. -/
abbrev XB (k : ℕ) : Vec Ideal S1x1x256x128 .f32 :=
  X (kernelRun0_B.sl.r_6 c arg2 harg2 arg5 harg5 arg6 harg6 arg7 harg7 arg9 harg9 x0 x3 x4 x5 x7) (kernelRun0_B.sl.r_11 c arg2 harg2 arg5 harg5 arg6 harg6 arg7 harg7 arg9 harg9 x0 x3 x4 x5 x7) (kernelRun0_B.sl.r_7 c arg5 harg5 arg6 harg6 arg7 harg7 arg9 harg9 x3 x4 x5 x7) (kernelRun0_B.sl.r_12 c arg5 harg5 arg6 harg6 arg7 harg7 arg9 harg9 x3 x4 x5 x7) (vbB arg3 harg3 x1) (iniB arg15 harg15 xs0) k

/-- The states written by the first `n` blocks. -/
abbrev PB (n : ℕ) : List (View.Piece (Elt Ideal) S2x4x256x128 .f32) :=
  P (kernelRun0_B.sl.r_6 c arg2 harg2 arg5 harg5 arg6 harg6 arg7 harg7 arg9 harg9 x0 x3 x4 x5 x7) (kernelRun0_B.sl.r_11 c arg2 harg2 arg5 harg5 arg6 harg6 arg7 harg7 arg9 harg9 x0 x3 x4 x5 x7) (kernelRun0_B.sl.r_7 c arg5 harg5 arg6 harg6 arg7 harg7 arg9 harg9 x3 x4 x5 x7) (kernelRun0_B.sl.r_12 c arg5 harg5 arg6 harg6 arg7 harg7 arg9 harg9 x3 x4 x5 x7) (vbB arg3 harg3 x1) (iniB arg15 harg15 xs0) [] n

/-- The results written by the first `n` blocks. -/
abbrev QB (n : ℕ) : List (View.Piece (Elt Ideal) S2x256x1024 .bf16) :=
  Q (kernelRun0_B.sl.r_6 c arg2 harg2 arg5 harg5 arg6 harg6 arg7 harg7 arg9 harg9 x0 x3 x4 x5 x7) (kernelRun0_B.sl.r_11 c arg2 harg2 arg5 harg5 arg6 harg6 arg7 harg7 arg9 harg9 x0 x3 x4 x5 x7) (kernelRun0_B.sl.r_4 c arg2 harg2 arg5 harg5 arg6 harg6 arg7 harg7 arg9 harg9 x0 x3 x4 x5 x7) (kernelRun0_B.sl.r_9 c arg2 harg2 arg5 harg5 arg6 harg6 arg7 harg7 arg9 harg9 x0 x3 x4 x5 x7) (kernelRun0_B.sl.r_5 c arg2 harg2 arg5 harg5 arg6 harg6 arg7 harg7 arg9 harg9 x0 x3 x4 x5 x7) (kernelRun0_B.sl.r_10 c arg2 harg2 arg5 harg5 arg6 harg6 arg7 harg7 arg9 harg9 x0 x3 x4 x5 x7) (kernelRun0_B.sl.r_7 c arg5 harg5 arg6 harg6 arg7 harg7 arg9 harg9 x3 x4 x5 x7) (kernelRun0_B.sl.r_12 c arg5 harg5 arg6 harg6 arg7 harg7 arg9 harg9 x3 x4 x5 x7) (kernelRun0_B.sl.r_13 c arg8 harg8 x6) (vbB arg3 harg3 x1) (rbB arg4 harg4 x2) (iniB arg15 harg15 xs0) n

theorem hsB_8 : kernelRun0_B.sl.HS0_8 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 8 := by
  unfold kernelRun0_B.sl.HS0_8
  refine P_cons _ _ _ _ _ _ _ 7 rfl <| P_cons _ _ _ _ _ _ _ 6 rfl <| P_cons _ _ _ _ _ _ _ 5 rfl <| P_cons _ _ _ _ _ _ _ 4 rfl <| P_cons _ _ _ _ _ _ _ 3 rfl <| P_cons _ _ _ _ _ _ _ 2 rfl <| P_cons _ _ _ _ _ _ _ 1 rfl <| P_cons _ _ _ _ _ _ _ 0 rfl <| rfl

theorem vB_8 : kernelRun0_B.sl.v508 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 8 := by
  unfold kernelRun0_B.sl.v508
  rw [hsB_8]
  exact read_P _ _ _ _ _ _ _ _ 0

theorem hsB_9 : kernelRun0_B.sl.HS0_9 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 9 := by
  unfold kernelRun0_B.sl.HS0_9
  rw [vB_8]
  exact P_cons _ _ _ _ _ _ _ 8 rfl (hsB_8 c arg2 harg2 arg3 harg3 arg5 harg5 arg6 harg6 arg7 harg7 arg9 harg9 arg15 harg15 x0 x1 x3 x4 x5 x7 xs0)

theorem vB_9 : kernelRun0_B.sl.v558 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 9 := by
  unfold kernelRun0_B.sl.v558
  rw [hsB_9]
  exact read_P _ _ _ _ _ _ _ _ 1

theorem hsB_10 : kernelRun0_B.sl.HS0_10 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 10 := by
  unfold kernelRun0_B.sl.HS0_10 kernelRun0_B.sl.r_46
  rw [vB_9]
  exact P_cons _ _ _ _ _ _ _ 9 rfl (hsB_9 c arg2 harg2 arg3 harg3 arg5 harg5 arg6 harg6 arg7 harg7 arg9 harg9 arg15 harg15 x0 x1 x3 x4 x5 x7 xs0)

theorem vB_10 : kernelRun0_B.sl.v608 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 10 := by
  unfold kernelRun0_B.sl.v608
  rw [hsB_10]
  exact read_P _ _ _ _ _ _ _ _ 2

theorem hsB_11 : kernelRun0_B.sl.HS0_11 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 11 := by
  unfold kernelRun0_B.sl.HS0_11
  rw [vB_10]
  exact P_cons _ _ _ _ _ _ _ 10 rfl (hsB_10 c arg2 harg2 arg3 harg3 arg5 harg5 arg6 harg6 arg7 harg7 arg9 harg9 arg15 harg15 x0 x1 x3 x4 x5 x7 xs0)

theorem vB_11 : kernelRun0_B.sl.v658 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 11 := by
  unfold kernelRun0_B.sl.v658
  rw [hsB_11]
  exact read_P _ _ _ _ _ _ _ _ 3

theorem hsB_12 : kernelRun0_B.sl.HS0_12 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 12 := by
  unfold kernelRun0_B.sl.HS0_12
  rw [vB_11]
  exact P_cons _ _ _ _ _ _ _ 11 rfl (hsB_11 c arg2 harg2 arg3 harg3 arg5 harg5 arg6 harg6 arg7 harg7 arg9 harg9 arg15 harg15 x0 x1 x3 x4 x5 x7 xs0)

theorem vB_12 : kernelRun0_B.sl.v708 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 12 := by
  unfold kernelRun0_B.sl.v708
  rw [hsB_12]
  exact read_P _ _ _ _ _ _ _ _ 4

theorem hsB_13 : kernelRun0_B.sl.HS0_13 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 13 := by
  unfold kernelRun0_B.sl.HS0_13 kernelRun0_B.sl.r_56
  rw [vB_12]
  exact P_cons _ _ _ _ _ _ _ 12 rfl (hsB_12 c arg2 harg2 arg3 harg3 arg5 harg5 arg6 harg6 arg7 harg7 arg9 harg9 arg15 harg15 x0 x1 x3 x4 x5 x7 xs0)

theorem vB_13 : kernelRun0_B.sl.v758 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 13 := by
  unfold kernelRun0_B.sl.v758
  rw [hsB_13]
  exact read_P _ _ _ _ _ _ _ _ 5

theorem hsB_14 : kernelRun0_B.sl.HS0_14 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 14 := by
  unfold kernelRun0_B.sl.HS0_14
  rw [vB_13]
  exact P_cons _ _ _ _ _ _ _ 13 rfl (hsB_13 c arg2 harg2 arg3 harg3 arg5 harg5 arg6 harg6 arg7 harg7 arg9 harg9 arg15 harg15 x0 x1 x3 x4 x5 x7 xs0)

theorem vB_14 : kernelRun0_B.sl.v808 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 14 := by
  unfold kernelRun0_B.sl.v808
  rw [hsB_14]
  exact read_P _ _ _ _ _ _ _ _ 6

theorem hsB_15 : kernelRun0_B.sl.HS0_15 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 15 := by
  unfold kernelRun0_B.sl.HS0_15
  rw [vB_14]
  exact P_cons _ _ _ _ _ _ _ 14 rfl (hsB_14 c arg2 harg2 arg3 harg3 arg5 harg5 arg6 harg6 arg7 harg7 arg9 harg9 arg15 harg15 x0 x1 x3 x4 x5 x7 xs0)

theorem vB_15 : kernelRun0_B.sl.v858 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 15 := by
  unfold kernelRun0_B.sl.v858
  rw [hsB_15]
  exact read_P _ _ _ _ _ _ _ _ 7

theorem hsB_16 : kernelRun0_B.sl.HS0_16 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 16 := by
  unfold kernelRun0_B.sl.HS0_16 kernelRun0_B.sl.r_66
  rw [vB_15]
  exact P_cons _ _ _ _ _ _ _ 15 rfl (hsB_15 c arg2 harg2 arg3 harg3 arg5 harg5 arg6 harg6 arg7 harg7 arg9 harg9 arg15 harg15 x0 x1 x3 x4 x5 x7 xs0)

theorem vB_16 : kernelRun0_B.sl.v908 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 16 := by
  unfold kernelRun0_B.sl.v908
  rw [hsB_16]
  exact read_P _ _ _ _ _ _ _ _ 8

theorem hsB_17 : kernelRun0_B.sl.HS0_17 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 17 := by
  unfold kernelRun0_B.sl.HS0_17
  rw [vB_16]
  exact P_cons _ _ _ _ _ _ _ 16 rfl (hsB_16 c arg2 harg2 arg3 harg3 arg5 harg5 arg6 harg6 arg7 harg7 arg9 harg9 arg15 harg15 x0 x1 x3 x4 x5 x7 xs0)

theorem vB_17 : kernelRun0_B.sl.v958 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 17 := by
  unfold kernelRun0_B.sl.v958
  rw [hsB_17]
  exact read_P _ _ _ _ _ _ _ _ 9

theorem hsB_18 : kernelRun0_B.sl.HS0_18 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 18 := by
  unfold kernelRun0_B.sl.HS0_18
  rw [vB_17]
  exact P_cons _ _ _ _ _ _ _ 17 rfl (hsB_17 c arg2 harg2 arg3 harg3 arg5 harg5 arg6 harg6 arg7 harg7 arg9 harg9 arg15 harg15 x0 x1 x3 x4 x5 x7 xs0)

theorem vB_18 : kernelRun0_B.sl.v1008 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 18 := by
  unfold kernelRun0_B.sl.v1008
  rw [hsB_18]
  exact read_P _ _ _ _ _ _ _ _ 10

theorem hsB_19 : kernelRun0_B.sl.HS0_19 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 19 := by
  unfold kernelRun0_B.sl.HS0_19 kernelRun0_B.sl.r_76
  rw [vB_18]
  exact P_cons _ _ _ _ _ _ _ 18 rfl (hsB_18 c arg2 harg2 arg3 harg3 arg5 harg5 arg6 harg6 arg7 harg7 arg9 harg9 arg15 harg15 x0 x1 x3 x4 x5 x7 xs0)

theorem vB_19 : kernelRun0_B.sl.v1058 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 19 := by
  unfold kernelRun0_B.sl.v1058
  rw [hsB_19]
  exact read_P _ _ _ _ _ _ _ _ 11

theorem hsB_20 : kernelRun0_B.sl.HS0_20 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 20 := by
  unfold kernelRun0_B.sl.HS0_20
  rw [vB_19]
  exact P_cons _ _ _ _ _ _ _ 19 rfl (hsB_19 c arg2 harg2 arg3 harg3 arg5 harg5 arg6 harg6 arg7 harg7 arg9 harg9 arg15 harg15 x0 x1 x3 x4 x5 x7 xs0)

theorem vB_20 : kernelRun0_B.sl.v1108 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 20 := by
  unfold kernelRun0_B.sl.v1108
  rw [hsB_20]
  exact read_P _ _ _ _ _ _ _ _ 12

theorem hsB_21 : kernelRun0_B.sl.HS0_21 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 21 := by
  unfold kernelRun0_B.sl.HS0_21
  rw [vB_20]
  exact P_cons _ _ _ _ _ _ _ 20 rfl (hsB_20 c arg2 harg2 arg3 harg3 arg5 harg5 arg6 harg6 arg7 harg7 arg9 harg9 arg15 harg15 x0 x1 x3 x4 x5 x7 xs0)

theorem vB_21 : kernelRun0_B.sl.v1158 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 21 := by
  unfold kernelRun0_B.sl.v1158
  rw [hsB_21]
  exact read_P _ _ _ _ _ _ _ _ 13

theorem hsB_22 : kernelRun0_B.sl.HS0_22 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 22 := by
  unfold kernelRun0_B.sl.HS0_22 kernelRun0_B.sl.r_86
  rw [vB_21]
  exact P_cons _ _ _ _ _ _ _ 21 rfl (hsB_21 c arg2 harg2 arg3 harg3 arg5 harg5 arg6 harg6 arg7 harg7 arg9 harg9 arg15 harg15 x0 x1 x3 x4 x5 x7 xs0)

theorem vB_22 : kernelRun0_B.sl.v1208 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 22 := by
  unfold kernelRun0_B.sl.v1208
  rw [hsB_22]
  exact read_P _ _ _ _ _ _ _ _ 14

theorem hsB_23 : kernelRun0_B.sl.HS0_23 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 23 := by
  unfold kernelRun0_B.sl.HS0_23
  rw [vB_22]
  exact P_cons _ _ _ _ _ _ _ 22 rfl (hsB_22 c arg2 harg2 arg3 harg3 arg5 harg5 arg6 harg6 arg7 harg7 arg9 harg9 arg15 harg15 x0 x1 x3 x4 x5 x7 xs0)

theorem vB_23 : kernelRun0_B.sl.v1258 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 23 := by
  unfold kernelRun0_B.sl.v1258
  rw [hsB_23]
  exact read_P _ _ _ _ _ _ _ _ 15

theorem hsB_24 : kernelRun0_B.sl.HS0_24 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 24 := by
  unfold kernelRun0_B.sl.HS0_24
  rw [vB_23]
  exact P_cons _ _ _ _ _ _ _ 23 rfl (hsB_23 c arg2 harg2 arg3 harg3 arg5 harg5 arg6 harg6 arg7 harg7 arg9 harg9 arg15 harg15 x0 x1 x3 x4 x5 x7 xs0)

theorem vB_24 : kernelRun0_B.sl.v1308 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 24 := by
  unfold kernelRun0_B.sl.v1308
  rw [hsB_24]
  exact read_P _ _ _ _ _ _ _ _ 16

theorem hsB_25 : kernelRun0_B.sl.HS0_25 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 25 := by
  unfold kernelRun0_B.sl.HS0_25 kernelRun0_B.sl.r_96
  rw [vB_24]
  exact P_cons _ _ _ _ _ _ _ 24 rfl (hsB_24 c arg2 harg2 arg3 harg3 arg5 harg5 arg6 harg6 arg7 harg7 arg9 harg9 arg15 harg15 x0 x1 x3 x4 x5 x7 xs0)

theorem vB_25 : kernelRun0_B.sl.v1358 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 25 := by
  unfold kernelRun0_B.sl.v1358
  rw [hsB_25]
  exact read_P _ _ _ _ _ _ _ _ 17

theorem hsB_26 : kernelRun0_B.sl.HS0_26 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 26 := by
  unfold kernelRun0_B.sl.HS0_26
  rw [vB_25]
  exact P_cons _ _ _ _ _ _ _ 25 rfl (hsB_25 c arg2 harg2 arg3 harg3 arg5 harg5 arg6 harg6 arg7 harg7 arg9 harg9 arg15 harg15 x0 x1 x3 x4 x5 x7 xs0)

theorem vB_26 : kernelRun0_B.sl.v1408 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 26 := by
  unfold kernelRun0_B.sl.v1408
  rw [hsB_26]
  exact read_P _ _ _ _ _ _ _ _ 18

theorem hsB_27 : kernelRun0_B.sl.HS0_27 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 27 := by
  unfold kernelRun0_B.sl.HS0_27
  rw [vB_26]
  exact P_cons _ _ _ _ _ _ _ 26 rfl (hsB_26 c arg2 harg2 arg3 harg3 arg5 harg5 arg6 harg6 arg7 harg7 arg9 harg9 arg15 harg15 x0 x1 x3 x4 x5 x7 xs0)

theorem vB_27 : kernelRun0_B.sl.v1458 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 27 := by
  unfold kernelRun0_B.sl.v1458
  rw [hsB_27]
  exact read_P _ _ _ _ _ _ _ _ 19

theorem hsB_28 : kernelRun0_B.sl.HS0_28 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 28 := by
  unfold kernelRun0_B.sl.HS0_28 kernelRun0_B.sl.r_106
  rw [vB_27]
  exact P_cons _ _ _ _ _ _ _ 27 rfl (hsB_27 c arg2 harg2 arg3 harg3 arg5 harg5 arg6 harg6 arg7 harg7 arg9 harg9 arg15 harg15 x0 x1 x3 x4 x5 x7 xs0)

theorem vB_28 : kernelRun0_B.sl.v1508 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 28 := by
  unfold kernelRun0_B.sl.v1508
  rw [hsB_28]
  exact read_P _ _ _ _ _ _ _ _ 20

theorem hsB_29 : kernelRun0_B.sl.HS0_29 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 29 := by
  unfold kernelRun0_B.sl.HS0_29
  rw [vB_28]
  exact P_cons _ _ _ _ _ _ _ 28 rfl (hsB_28 c arg2 harg2 arg3 harg3 arg5 harg5 arg6 harg6 arg7 harg7 arg9 harg9 arg15 harg15 x0 x1 x3 x4 x5 x7 xs0)

theorem vB_29 : kernelRun0_B.sl.v1558 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 29 := by
  unfold kernelRun0_B.sl.v1558
  rw [hsB_29]
  exact read_P _ _ _ _ _ _ _ _ 21

theorem hsB_30 : kernelRun0_B.sl.HS0_30 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 30 := by
  unfold kernelRun0_B.sl.HS0_30
  rw [vB_29]
  exact P_cons _ _ _ _ _ _ _ 29 rfl (hsB_29 c arg2 harg2 arg3 harg3 arg5 harg5 arg6 harg6 arg7 harg7 arg9 harg9 arg15 harg15 x0 x1 x3 x4 x5 x7 xs0)

theorem vB_30 : kernelRun0_B.sl.v1608 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 30 := by
  unfold kernelRun0_B.sl.v1608
  rw [hsB_30]
  exact read_P _ _ _ _ _ _ _ _ 22

theorem hsB_31 : kernelRun0_B.sl.HS0_31 c arg2 harg2 arg3 harg3 arg5 harg5 arg6 harg6 arg7 harg7 arg9 harg9 arg15 harg15 x0 x1 x3 x4 x5 x7 xs0 = PB c arg2 harg2 arg3 harg3 arg5 harg5 arg6 harg6 arg7 harg7 arg9 harg9 arg15 harg15 x0 x1 x3 x4 x5 x7 xs0 31 := by
  unfold kernelRun0_B.sl.HS0_31 kernelRun0_B.sl.r_116
  rw [vB_30]
  exact P_cons _ _ _ _ _ _ _ 30 rfl (hsB_30 c arg2 harg2 arg3 harg3 arg5 harg5 arg6 harg6 arg7 harg7 arg9 harg9 arg15 harg15 x0 x1 x3 x4 x5 x7 xs0)

theorem vB_31 : kernelRun0_B.sl.v1658 c arg2 harg2 arg3 harg3 arg5 harg5 arg6 harg6 arg7 harg7 arg9 harg9 arg15 harg15 x0 x1 x3 x4 x5 x7 xs0 = XB c arg2 harg2 arg3 harg3 arg5 harg5 arg6 harg6 arg7 harg7 arg9 harg9 arg15 harg15 x0 x1 x3 x4 x5 x7 xs0 31 := by
  unfold kernelRun0_B.sl.v1658
  rw [hsB_31]
  exact read_P _ _ _ _ _ _ _ _ 23

theorem ogB : kernelRun0_B.sl.HS1_32 c arg2 harg2 arg3 harg3 arg4 harg4 arg5 harg5 arg6 harg6 arg7 harg7 arg8 harg8 arg9 harg9 arg15 harg15 x0 x1 x2 x3 x4 x5 x6 x7 xs0 = QB c arg2 harg2 arg3 harg3 arg4 harg4 arg5 harg5 arg6 harg6 arg7 harg7 arg8 harg8 arg9 harg9 arg15 harg15 x0 x1 x2 x3 x4 x5 x6 x7 xs0 32 := by
  unfold kernelRun0_B.sl.HS1_32
  refine Q_cons _ _ _ _ _ _ _ _ _ _ _ _ 31 (by unfold kernelRun0_B.sl.r_119; rw [vB_31]; rfl) ?_
  refine Q_cons _ _ _ _ _ _ _ _ _ _ _ _ 30 (by unfold kernelRun0_B.sl.r_115; rw [vB_30]; rfl) ?_
  refine Q_cons _ _ _ _ _ _ _ _ _ _ _ _ 29 (by unfold kernelRun0_B.sl.r_112 kernelRun0_B.sl.r_113; rw [vB_29]; rfl) ?_
  refine Q_cons _ _ _ _ _ _ _ _ _ _ _ _ 28 (by unfold kernelRun0_B.sl.r_109; rw [vB_28]; rfl) ?_
  refine Q_cons _ _ _ _ _ _ _ _ _ _ _ _ 27 (by unfold kernelRun0_B.sl.r_105; rw [vB_27]; rfl) ?_
  refine Q_cons _ _ _ _ _ _ _ _ _ _ _ _ 26 (by unfold kernelRun0_B.sl.r_102 kernelRun0_B.sl.r_103; rw [vB_26]; rfl) ?_
  refine Q_cons _ _ _ _ _ _ _ _ _ _ _ _ 25 (by unfold kernelRun0_B.sl.r_99; rw [vB_25]; rfl) ?_
  refine Q_cons _ _ _ _ _ _ _ _ _ _ _ _ 24 (by unfold kernelRun0_B.sl.r_95; rw [vB_24]; rfl) ?_
  refine Q_cons _ _ _ _ _ _ _ _ _ _ _ _ 23 (by unfold kernelRun0_B.sl.r_92 kernelRun0_B.sl.r_93; rw [vB_23]; rfl) ?_
  refine Q_cons _ _ _ _ _ _ _ _ _ _ _ _ 22 (by unfold kernelRun0_B.sl.r_89; rw [vB_22]; rfl) ?_
  refine Q_cons _ _ _ _ _ _ _ _ _ _ _ _ 21 (by unfold kernelRun0_B.sl.r_85; rw [vB_21]; rfl) ?_
  refine Q_cons _ _ _ _ _ _ _ _ _ _ _ _ 20 (by unfold kernelRun0_B.sl.r_82 kernelRun0_B.sl.r_83; rw [vB_20]; rfl) ?_
  refine Q_cons _ _ _ _ _ _ _ _ _ _ _ _ 19 (by unfold kernelRun0_B.sl.r_79; rw [vB_19]; rfl) ?_
  refine Q_cons _ _ _ _ _ _ _ _ _ _ _ _ 18 (by unfold kernelRun0_B.sl.r_75; rw [vB_18]; rfl) ?_
  refine Q_cons _ _ _ _ _ _ _ _ _ _ _ _ 17 (by unfold kernelRun0_B.sl.r_72 kernelRun0_B.sl.r_73; rw [vB_17]; rfl) ?_
  refine Q_cons _ _ _ _ _ _ _ _ _ _ _ _ 16 (by unfold kernelRun0_B.sl.r_69; rw [vB_16]; rfl) ?_
  refine Q_cons _ _ _ _ _ _ _ _ _ _ _ _ 15 (by unfold kernelRun0_B.sl.r_65; rw [vB_15]; rfl) ?_
  refine Q_cons _ _ _ _ _ _ _ _ _ _ _ _ 14 (by unfold kernelRun0_B.sl.r_62 kernelRun0_B.sl.r_63; rw [vB_14]; rfl) ?_
  refine Q_cons _ _ _ _ _ _ _ _ _ _ _ _ 13 (by unfold kernelRun0_B.sl.r_59; rw [vB_13]; rfl) ?_
  refine Q_cons _ _ _ _ _ _ _ _ _ _ _ _ 12 (by unfold kernelRun0_B.sl.r_55; rw [vB_12]; rfl) ?_
  refine Q_cons _ _ _ _ _ _ _ _ _ _ _ _ 11 (by unfold kernelRun0_B.sl.r_52 kernelRun0_B.sl.r_53; rw [vB_11]; rfl) ?_
  refine Q_cons _ _ _ _ _ _ _ _ _ _ _ _ 10 (by unfold kernelRun0_B.sl.r_49; rw [vB_10]; rfl) ?_
  refine Q_cons _ _ _ _ _ _ _ _ _ _ _ _ 9 (by unfold kernelRun0_B.sl.r_45; rw [vB_9]; rfl) ?_
  refine Q_cons _ _ _ _ _ _ _ _ _ _ _ _ 8 (by unfold kernelRun0_B.sl.r_42 kernelRun0_B.sl.r_43; rw [vB_8]; rfl) ?_
  refine Q_cons _ _ _ _ _ _ _ _ _ _ _ _ 7 rfl ?_
  refine Q_cons _ _ _ _ _ _ _ _ _ _ _ _ 6 rfl ?_
  refine Q_cons _ _ _ _ _ _ _ _ _ _ _ _ 5 rfl ?_
  refine Q_cons _ _ _ _ _ _ _ _ _ _ _ _ 4 rfl ?_
  refine Q_cons _ _ _ _ _ _ _ _ _ _ _ _ 3 rfl ?_
  refine Q_cons _ _ _ _ _ _ _ _ _ _ _ _ 2 rfl ?_
  refine Q_cons _ _ _ _ _ _ _ _ _ _ _ _ 1 rfl ?_
  refine Q_cons _ _ _ _ _ _ _ _ _ _ _ _ 0 rfl ?_
  rfl

end

end Cert.GlaIdeal.Mix

end
-- ==== Proof.GlaOutB.lean ====
/- What a grid point leaves: a later tile. -/
module

public import proofs.«01_k».proof.Proof.GlaPoint
public import proofs.«01_k».proof.Proof.GlaRunB

@[expose] public section

set_option maxRecDepth 16384

noncomputable section

namespace Cert.GlaIdeal.Mix

open Cert.GlaIdeal Cert.GlaIdeal.Gen Cert.Gla
open Idealize.ShloMosaic Idealize.ShloMosaic.TcCoe Idealize.ShloMosaic.Tactic

section

variable (c : Dev nD) (i0 : grid0.Coords) (arg2 : Memref sig .tc .vmem S2x256x1024 .f32) (harg2 : arg2.IsWhole) (arg3 : Memref sig .tc .vmem S2x256x1024 .bf16) (harg3 : arg3.IsWhole)
  (arg4 : Memref sig .tc .vmem S2x256x1024 .f32) (harg4 : arg4.IsWhole) (arg5 : Memref sig .tc .vmem S2x256x128 .f32) (harg5 : arg5.IsWhole)
  (arg6 : Memref sig .tc .vmem S128x512 .bf16) (harg6 : arg6.IsWhole) (arg7 : Memref sig .tc .vmem S1x512 .f32) (harg7 : arg7.IsWhole)
  (arg8 : Memref sig .tc .vmem S1x256 .f32) (harg8 : arg8.IsWhole) (arg9 : Memref sig .tc .vmem S512x512 .bf16) (harg9 : arg9.IsWhole)
  (arg10 : Memref sig .tc .vmem S1024x1024 .bf16) (harg10 : arg10.IsWhole) (arg11 : Memref sig .tc .vmem S2x256x1024 .f32) (harg11 : arg11.IsWhole)
  (arg12 : Memref sig .tc .vmem S1x1024 .f32) (harg12 : arg12.IsWhole) (arg13 : Memref sig .tc .vmem S2x256x1024 .f32) (harg13 : arg13.IsWhole)
  (arg14 : Memref sig .tc .vmem S2x256x1024 .bf16) (harg14 : arg14.IsWhole)
  (arg15 : Memref sig .tc .vmem S2x4x256x128 .f32) (harg15 : arg15.IsWhole) (arg16 : Memref sig .tc .vmem S2x256x1024 .bf16) (harg16 : arg16.IsWhole)
  (hc0 : ¬cond0_0 i0)
  {L Qf Kf V R X W : ℕ → ℕ → ℕ → EReal} {GH GN : ℕ → EReal} {B T : ℕ}
  {x0 : Vec Ideal S2x256x1024 .f32} {x1 : Vec Ideal S2x256x1024 .bf16} {x2 : Vec Ideal S2x256x1024 .f32} {x3 : Vec Ideal S2x256x128 .f32}
  {x4 : Vec Ideal S128x512 .bf16} {x5 : Vec Ideal S1x512 .f32} {x6 : Vec Ideal S1x256 .f32} {x7 : Vec Ideal S512x512 .bf16}
  {x8 : Vec Ideal S1024x1024 .bf16} {x9 : Vec Ideal S2x256x1024 .f32} {x10 : Vec Ideal S1x1024 .f32} {xs0 : Vec Ideal S2x4x256x128 .f32}
  (H : Tile L Qf Kf V R X W GH GN B T x0 x1 x2 x3 x4 x5 x6 x7 x8 x9 x10)
  (hst : ∀ y : S2x4x256x128.Idx, @Eq EReal (xs0 y) (stS L Kf V (B + y 0) (y 1) (4 * T) (y 2) (y 3)))

include H in
theorem keB (b : ℕ) (i : Fin 256) (e : Fin 512) (hb : b < 2) : @Eq EReal (pick (kernelRun0_B.sl.r_6 c arg2 harg2 arg5 harg5 arg6 harg6 arg7 harg7 arg9 harg9 x0 x3 x4 x5 x7) (kernelRun0_B.sl.r_11 c arg2 harg2 arg5 harg5 arg6 harg6 arg7 harg7 arg9 harg9 x0 x3 x4 x5 x7) b (ix2 i e)) (keS L Kf (B + b) (4 * T + i / 64) (i % 64) e) := by
  obtain rfl | rfl : b = 0 ∨ b = 1 := by omega
  · exact ke_read arg2 harg2 arg5 harg5 arg6 harg6 arg7 harg7 arg9 harg9 H 0 i e
  · exact ke_read arg2 harg2 arg5 harg5 arg6 harg6 arg7 harg7 arg9 harg9 H 1 i e

include H in
theorem qdB (b : ℕ) (i : Fin 256) (e : Fin 512) (hb : b < 2) : @Eq EReal (pick (kernelRun0_B.sl.r_4 c arg2 harg2 arg5 harg5 arg6 harg6 arg7 harg7 arg9 harg9 x0 x3 x4 x5 x7) (kernelRun0_B.sl.r_9 c arg2 harg2 arg5 harg5 arg6 harg6 arg7 harg7 arg9 harg9 x0 x3 x4 x5 x7) b (ix2 i e)) (qdS L Qf (B + b) (4 * T + i / 64) (i % 64) e) := by
  obtain rfl | rfl : b = 0 ∨ b = 1 := by omega
  · exact qd_read arg2 harg2 arg5 harg5 arg6 harg6 arg7 harg7 arg9 harg9 H 0 i e
  · exact qd_read arg2 harg2 arg5 harg5 arg6 harg6 arg7 harg7 arg9 harg9 H 1 i e

include H in
theorem kiB (b : ℕ) (i : Fin 256) (e : Fin 512) (hb : b < 2) : @Eq EReal (pick (kernelRun0_B.sl.r_5 c arg2 harg2 arg5 harg5 arg6 harg6 arg7 harg7 arg9 harg9 x0 x3 x4 x5 x7) (kernelRun0_B.sl.r_10 c arg2 harg2 arg5 harg5 arg6 harg6 arg7 harg7 arg9 harg9 x0 x3 x4 x5 x7) b (ix2 i e)) (kiS L Kf (B + b) (4 * T + i / 64) (i % 64) e) := by
  obtain rfl | rfl : b = 0 ∨ b = 1 := by omega
  · exact ki_read arg2 harg2 arg5 harg5 arg6 harg6 arg7 harg7 arg9 harg9 H 0 i e
  · exact ki_read arg2 harg2 arg5 harg5 arg6 harg6 arg7 harg7 arg9 harg9 H 1 i e

include H in
theorem deB (b : ℕ) (i : Fin 256) (e : Fin 512) (hb : b < 2) : @Eq EReal (pick (kernelRun0_B.sl.r_7 c arg5 harg5 arg6 harg6 arg7 harg7 arg9 harg9 x3 x4 x5 x7) (kernelRun0_B.sl.r_12 c arg5 harg5 arg6 harg6 arg7 harg7 arg9 harg9 x3 x4 x5 x7) b (ix2 i e)) (Ideal.exp (endS L (B + b) (4 * T + i / 64) e)) := by
  obtain rfl | rfl : b = 0 ∨ b = 1 := by omega
  · exact de_read arg5 harg5 arg6 harg6 arg7 harg7 arg9 harg9 H 0 i e
  · exact de_read arg5 harg5 arg6 harg6 arg7 harg7 arg9 harg9 H 1 i e

include H in
theorem vbRB (k : ℕ) (i : Fin 64) (dv : Fin 256) : @Eq EReal (vbB arg3 harg3 x1 k (ix3 0 i dv)) (V (B + k / 4 % 2) (64 * (4 * T + k / 8 % 4) + i) (256 * (k % 4) + dv)) := by
  refine (rd_blk arg3 harg3 x1 k i dv).trans ((H.val _ _ _).trans ?_)
  show V (B + k / 4 % 2) (256 * T + (64 * (k / 8 % 4) + i)) _ = _
  congr 1; ring

include H in
theorem rbRB (k : ℕ) (i : Fin 64) (dv : Fin 256) : @Eq EReal (rbB arg4 harg4 x2 k (ix3 0 i dv)) (R (B + k / 4 % 2) (64 * (4 * T + k / 8 % 4) + i) (256 * (k % 4) + dv)) := by
  refine (rd_blk arg4 harg4 x2 k i dv).trans ((H.gate _ _ _).trans ?_)
  show R (B + k / 4 % 2) (256 * T + (64 * (k / 8 % 4) + i)) _ = _
  congr 1; ring

include H in
theorem ghRB (dv : Fin 256) : @Eq EReal (kernelRun0_B.sl.r_13 c arg8 harg8 x6 (ix2 0 dv)) (GH dv) :=
  (congrFun (show kernelRun0_B.sl.r_13 c arg8 harg8 x6 = x6 from rd_whole arg8 harg8 x6 _) (ix2 0 dv)).trans (H.head dv)

include hst in
theorem iniR (k : ℕ) (dv : Fin 256) (d : Fin 128) (hk : k < 8) : @Eq EReal (iniB arg15 harg15 xs0 k (ix4 0 0 dv d)) (stS L Kf V (B + k / 4) (k % 4) (4 * T) dv d) := by
  refine (rd_st arg15 harg15 xs0 k dv d).trans ((hst _).trans ?_)
  show stS L Kf V (B + k / 4 % 2) (k % 4) (4 * T) dv d = _
  rw [show k / 4 % 2 = k / 4 by omega]

include H hst in
theorem ogRB (y : S2x256x1024.Idx) : @Eq EReal (View.canon (kernelRun0_B.sl.HS1_32 c arg2 harg2 arg3 harg3 arg4 harg4 arg5 harg5 arg6 harg6 arg7 harg7 arg8 harg8 arg9 harg9 arg15 harg15 x0 x1 x2 x3 x4 x5 x6 x7 xs0) y)
    (ogS L Qf Kf V R GH (B + y 0) ((y 2 : ℕ) / 256) (4 * T + (y 1 : ℕ) / 64) ((y 1 : ℕ) % 64) ((y 2 : ℕ) % 256)) := by
  rw [ogB]
  exact result_eq (keB c arg2 harg2 arg5 harg5 arg6 harg6 arg7 harg7 arg9 harg9 H) (deB c arg5 harg5 arg6 harg6 arg7 harg7 arg9 harg9 H) (qdB c arg2 harg2 arg5 harg5 arg6 harg6 arg7 harg7 arg9 harg9 H) (kiB c arg2 harg2 arg5 harg5 arg6 harg6 arg7 harg7 arg9 harg9 H) (vbRB arg3 harg3 H) (rbRB arg4 harg4 H) (ghRB c arg8 harg8 H) (iniR arg15 harg15 hst) y

include H hst in
theorem o0RB (i : Fin 256) (k : Fin 1024) : @Eq EReal (kernelRun0_B.sl.v1707 c arg2 harg2 arg3 harg3 arg4 harg4 arg5 harg5 arg6 harg6 arg7 harg7 arg8 harg8 arg9 harg9 arg15 harg15 arg16 x0 x1 x2 x3 x4 x5 x6 x7 xs0 (ix3 0 i k)) (ogS L Qf Kf V R GH (B + 0) ((k : ℕ) / 256) (4 * T + (i : ℕ) / 64) ((i : ℕ) % 64) ((k : ℕ) % 256)) := by
  unfold kernelRun0_B.sl.v1707
  exact og_read arg16.view 0 _ (f := fun b t e => ogS L Qf Kf V R GH (B + b) (e / 256) (4 * T + t / 64) (t % 64) (e % 256)) (fun y => ogRB (H := H) (hst := hst) (y := y) ..) _ i k

include H hst in
theorem o1RB (i : Fin 256) (k : Fin 1024) : @Eq EReal (kernelRun0_B.sl.v1734 c arg2 harg2 arg3 harg3 arg4 harg4 arg5 harg5 arg6 harg6 arg7 harg7 arg8 harg8 arg9 harg9 arg15 harg15 arg16 x0 x1 x2 x3 x4 x5 x6 x7 xs0 (ix3 0 i k)) (ogS L Qf Kf V R GH (B + 1) ((k : ℕ) / 256) (4 * T + (i : ℕ) / 64) ((i : ℕ) % 64) ((k : ℕ) % 256)) := by
  unfold kernelRun0_B.sl.v1734
  exact og_read arg16.view 1 _ (f := fun b t e => ogS L Qf Kf V R GH (B + b) (e / 256) (4 * T + t / 64) (t % 64) (e % 256)) (fun y => ogRB (H := H) (hst := hst) (y := y) ..) _ i k

include H hst in
theorem out11B (y : S2x256x1024.Idx) : @Eq EReal (out0_B_11 (F := Ideal) c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 y) (hS L Qf Kf V R GH X W (B + y 0) (256 * T + y 1) (y 2)) := by
  unfold out0_B_11
  rw [View.read_writes_eq_canon _ _ _ (cover0_B_11 c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0)]
  unfold kernelRun0_B
  dsimp only
  refine canon_two (e := .f32) (f := fun b t j => hS L Qf Kf V R GH X W (B + b) (256 * T + t) j) _ _ _ _ ?_ ?_ y
  · intro i j
    exact sum_eq H 1 (View.readAt (Elt Ideal) arg11.view (Rect.unit (s := S2x256x1024) ![(((1 : Fin 2) : ℕ)), 0, 0] S1x256x1024.size (lead_qk 1)).toLoadRect (harg11.unread x9)) (fun i j => rd_qk arg11 harg11 x9 1 _ i j) (kernelRun0_B.sl.v1734 c arg2 harg2 arg3 harg3 arg4 harg4 arg5 harg5 arg6 harg6 arg7 harg7 arg8 harg8 arg9 harg9 arg15 harg15 arg16 x0 x1 x2 x3 x4 x5 x6 x7 xs0) (fun i k => o1RB (H := H) (hst := hst) (i := i) (k := k) ..) (View.readAt (Elt Ideal) arg10.view (Rect.unit (s := S1024x1024) ![0, 0] S1024x1024.size inb_S1024x1024_S1024x1024_0_0).toLoadRect (harg10.unread x8)) (rd_whole arg10 harg10 x8 _) i j
  · intro i j
    exact sum_eq H 0 (View.readAt (Elt Ideal) arg11.view (Rect.unit (s := S2x256x1024) ![(((0 : Fin 2) : ℕ)), 0, 0] S1x256x1024.size (lead_qk 0)).toLoadRect (harg11.unread x9)) (fun i j => rd_qk arg11 harg11 x9 0 _ i j) (kernelRun0_B.sl.v1707 c arg2 harg2 arg3 harg3 arg4 harg4 arg5 harg5 arg6 harg6 arg7 harg7 arg8 harg8 arg9 harg9 arg15 harg15 arg16 x0 x1 x2 x3 x4 x5 x6 x7 xs0) (fun i k => o0RB (H := H) (hst := hst) (i := i) (k := k) ..) (View.readAt (Elt Ideal) arg10.view (Rect.unit (s := S1024x1024) ![0, 0] S1024x1024.size inb_S1024x1024_S1024x1024_0_0).toLoadRect (harg10.unread x8)) (rd_whole arg10 harg10 x8 _) i j

include H hst in
theorem out12B (y : S2x256x1024.Idx) : @Eq EReal (out0_B_12 (F := Ideal) c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 y) (hnS L Qf Kf V R GH X W GN (B + y 0) (256 * T + y 1) (y 2)) := by
  unfold out0_B_12
  rw [View.read_writes_eq_canon _ _ _ (cover0_B_12 c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0)]
  unfold kernelRun0_B
  dsimp only
  refine canon_two (e := .bf16) (f := fun b t j => hnS L Qf Kf V R GH X W GN (B + b) (256 * T + t) j) _ _ _ _ ?_ ?_ y
  · intro i j
    exact norm_eq H 1 (View.readAt (Elt Ideal) arg11.view (Rect.unit (s := S2x256x1024) ![(((1 : Fin 2) : ℕ)), 0, 0] S1x256x1024.size (lead_qk 1)).toLoadRect (harg11.unread x9)) (fun i j => rd_qk arg11 harg11 x9 1 _ i j) (kernelRun0_B.sl.v1734 c arg2 harg2 arg3 harg3 arg4 harg4 arg5 harg5 arg6 harg6 arg7 harg7 arg8 harg8 arg9 harg9 arg15 harg15 arg16 x0 x1 x2 x3 x4 x5 x6 x7 xs0) (fun i k => o1RB (H := H) (hst := hst) (i := i) (k := k) ..) (View.readAt (Elt Ideal) arg10.view (Rect.unit (s := S1024x1024) ![0, 0] S1024x1024.size inb_S1024x1024_S1024x1024_0_0).toLoadRect (harg10.unread x8)) (rd_whole arg10 harg10 x8 _) (View.readAt (Elt Ideal) arg12.view (Rect.unit (s := S1x1024) ![0, 0] S1x1024.size inb_S1x1024_S1x1024_0_0).toLoadRect (harg12.unread x10)) (rd_whole arg12 harg12 x10 _) i j
  · intro i j
    exact norm_eq H 0 (View.readAt (Elt Ideal) arg11.view (Rect.unit (s := S2x256x1024) ![(((0 : Fin 2) : ℕ)), 0, 0] S1x256x1024.size (lead_qk 0)).toLoadRect (harg11.unread x9)) (fun i j => rd_qk arg11 harg11 x9 0 _ i j) (kernelRun0_B.sl.v1707 c arg2 harg2 arg3 harg3 arg4 harg4 arg5 harg5 arg6 harg6 arg7 harg7 arg8 harg8 arg9 harg9 arg15 harg15 arg16 x0 x1 x2 x3 x4 x5 x6 x7 xs0) (fun i k => o0RB (H := H) (hst := hst) (i := i) (k := k) ..) (View.readAt (Elt Ideal) arg10.view (Rect.unit (s := S1024x1024) ![0, 0] S1024x1024.size inb_S1024x1024_S1024x1024_0_0).toLoadRect (harg10.unread x8)) (rd_whole arg10 harg10 x8 _) (View.readAt (Elt Ideal) arg12.view (Rect.unit (s := S1x1024) ![0, 0] S1x1024.size inb_S1x1024_S1x1024_0_0).toLoadRect (harg12.unread x10)) (rd_whole arg12 harg12 x10 _) i j

include H hst in
theorem soutB (y : S2x4x256x128.Idx) : @Eq EReal (sout0_B_0 (F := Ideal) c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 y) (stS L Kf V (B + y 0) (y 1) (4 * T + 4) (y 2) (y 3)) := by
  unfold sout0_B_0
  rw [View.read_writes_eq_canon _ _ _ (scover0_B_0 c i0 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0)]
  unfold kernelRun0_B
  dsimp only
  rw [vB_31]
  refine (congrFun (congrArg (View.canon (Val := Elt Ideal)) (P_cons _ _ _ _ _ _ _ 31 rfl (hsB_31 ..))) y).trans ?_
  exact state_eq (keB c arg2 harg2 arg5 harg5 arg6 harg6 arg7 harg7 arg9 harg9 H) (deB c arg5 harg5 arg6 harg6 arg7 harg7 arg9 harg9 H) (vbRB arg3 harg3 H) (iniR arg15 harg15 hst) y

end

end Cert.GlaIdeal.Mix

end
-- ==== Proof.GlaArray.lean ====
/- The mixing's result arrays: the carried state tile after tile, and what the two arrays hold. -/
module

public import proofs.«01_k».proof.Proof.GlaFold
public import proofs.«01_k».proof.Proof.GlaOutA
public import proofs.«01_k».proof.Proof.GlaOutB

@[expose] public section

set_option maxRecDepth 16384

noncomputable section

namespace Cert.GlaIdeal.Mix

open Cert.GlaIdeal Cert.GlaIdeal.Gen Cert.Gla
open Idealize.ShloMosaic Idealize.ShloMosaic.TcCoe Idealize.ShloMosaic.Tactic

section

variable (m : (ℓ : Loc nD τ sig) → Buf (Elt Ideal) ℓ) (c : Dev nD) (t : Fin cfg0.N)

theorem sumA (h0 : t.val % 16 = 0) (y : S2x256x1024.Idx) : @Eq EReal (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) y)
    (hS (LF (data m c)) (QF (data m c)) (KF (data m c)) (VF (data m c)) (RF (data m c)) (GHF (data m c)) (XF (data m c)) (WF (data m c)) (2 * (t.val / 16) + y 0) (256 * (t.val % 16) + y 1) (y 2)) :=
  out11A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (tile m c t) h0 y

theorem normA (h0 : t.val % 16 = 0) (y : S2x256x1024.Idx) : @Eq EReal (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) y)
    (hnS (LF (data m c)) (QF (data m c)) (KF (data m c)) (VF (data m c)) (RF (data m c)) (GHF (data m c)) (XF (data m c)) (WF (data m c)) (GNF (data m c)) (2 * (t.val / 16) + y 0) (256 * (t.val % 16) + y 1) (y 2)) :=
  out12A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (tile m c t) h0 y

theorem stateA (h0 : t.val % 16 = 0) (y : S2x4x256x128.Idx) : @Eq EReal (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) y)
    (stS (LF (data m c)) (KF (data m c)) (VF (data m c)) (2 * (t.val / 16) + y 0) (y 1) (4 * (t.val % 16) + 4) (y 2) (y 3)) :=
  soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (tile m c t) h0 y

theorem sumB (h0 : ¬t.val % 16 = 0) {xs0 : Vec Ideal S2x4x256x128 .f32} (hst : ∀ y : S2x4x256x128.Idx, @Eq EReal (xs0 y) (stS (LF (data m c)) (KF (data m c)) (VF (data m c)) (2 * (t.val / 16) + y 0) (y 1) (4 * (t.val % 16)) (y 2) (y 3))) (y : S2x256x1024.Idx) : @Eq EReal (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 y)
    (hS (LF (data m c)) (QF (data m c)) (KF (data m c)) (VF (data m c)) (RF (data m c)) (GHF (data m c)) (XF (data m c)) (WF (data m c)) (2 * (t.val / 16) + y 0) (256 * (t.val % 16) + y 1) (y 2)) :=
  out11B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (tile m c t) hst y

theorem normB (h0 : ¬t.val % 16 = 0) {xs0 : Vec Ideal S2x4x256x128 .f32} (hst : ∀ y : S2x4x256x128.Idx, @Eq EReal (xs0 y) (stS (LF (data m c)) (KF (data m c)) (VF (data m c)) (2 * (t.val / 16) + y 0) (y 1) (4 * (t.val % 16)) (y 2) (y 3))) (y : S2x256x1024.Idx) : @Eq EReal (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 y)
    (hnS (LF (data m c)) (QF (data m c)) (KF (data m c)) (VF (data m c)) (RF (data m c)) (GHF (data m c)) (XF (data m c)) (WF (data m c)) (GNF (data m c)) (2 * (t.val / 16) + y 0) (256 * (t.val % 16) + y 1) (y 2)) :=
  out12B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (tile m c t) hst y

theorem stateB (h0 : ¬t.val % 16 = 0) {xs0 : Vec Ideal S2x4x256x128 .f32} (hst : ∀ y : S2x4x256x128.Idx, @Eq EReal (xs0 y) (stS (LF (data m c)) (KF (data m c)) (VF (data m c)) (2 * (t.val / 16) + y 0) (y 1) (4 * (t.val % 16)) (y 2) (y 3))) (y : S2x4x256x128.Idx) : @Eq EReal (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 y)
    (stS (LF (data m c)) (KF (data m c)) (VF (data m c)) (2 * (t.val / 16) + y 0) (y 1) (4 * (t.val % 16) + 4) (y 2) (y 3)) :=
  soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (tile m c t) hst y

/-- What a point leaves: its rows of the layer's two results, and the states after its tile. -/
structure Left (n : ℕ) (r : Vec Ideal S2x256x1024 .f32 × Vec Ideal S2x256x1024 .bf16 × Vec Ideal S2x4x256x128 .f32) : Prop where
  sum : ∀ y, @Eq EReal (r.1 y) (hF (data m c) (2 * (n / 16) + y 0) (256 * (n % 16) + y 1) (y 2))
  norm : ∀ y, @Eq EReal (r.2.1 y) (hnF (data m c) (2 * (n / 16) + y 0) (256 * (n % 16) + y 1) (y 2))
  state : ∀ y, @Eq EReal (r.2.2 y) (stS (LF (data m c)) (KF (data m c)) (VF (data m c)) (2 * (n / 16) + y 0) (y 1) (4 * (n % 16) + 4) (y 2) (y 3))

theorem left_first (acc) (h0 : t.val % 16 = 0) : Left m c t.val (Value.stAt0 m c t.val t.isLt acc) := by
  have e := Value.stAt0_A m c t acc h0
  have e1 := congrArg Prod.fst e
  have e2 := congrArg Prod.fst (congrArg Prod.snd e)
  have e3 := congrArg Prod.snd (congrArg Prod.snd e)
  refine ⟨fun y => ?_, fun y => ?_, fun y => ?_⟩
  · rw [e1]; dsimp only; rw [sumA m c t h0 y]
  · rw [e2]; dsimp only; rw [normA m c t h0 y]
  · rw [e3]; dsimp only; rw [stateA m c t h0 y]

theorem left_next (acc) (h0 : ¬t.val % 16 = 0) (h : Left m c (t.val - 1) acc) : Left m c t.val (Value.stAt0 m c t.val t.isLt acc) := by
  have hst : ∀ y : S2x4x256x128.Idx, @Eq EReal (acc.2.2 y) (stS (LF (data m c)) (KF (data m c)) (VF (data m c)) (2 * (t.val / 16) + y 0) (y 1) (4 * (t.val % 16)) (y 2) (y 3)) := by
    intro y
    have e := h.state y
    rw [show (t.val - 1) / 16 = t.val / 16 by omega, show 4 * ((t.val - 1) % 16) + 4 = 4 * (t.val % 16) by omega] at e
    exact e
  have e := Value.stAt0_B m c t acc h0
  have e1 := congrArg Prod.fst e
  have e2 := congrArg Prod.fst (congrArg Prod.snd e)
  have e3 := congrArg Prod.snd (congrArg Prod.snd e)
  refine ⟨fun y => ?_, fun y => ?_, fun y => ?_⟩
  · rw [e1]; dsimp only; rw [sumB m c t h0 hst y]
  · rw [e2]; dsimp only; rw [normB m c t h0 hst y]
  · rw [e3]; dsimp only; rw [stateB m c t h0 hst y]

theorem left_all : ∀ (n : ℕ) (hn : 0 + n < cfg0.N), Left m c n (Pipeline.accAt (fun n h => Value.stAt0 m c n h Value.junk0) (Value.stAt0 m c) 0 n hn)
  | 0, hn => left_first m c ⟨0, hn⟩ _ rfl
  | n + 1, hn => by
    have ih := left_all n (by omega)
    have hn' : n + 1 < cfg0.N := by omega
    have key : Left m c (n + 1) (Value.stAt0 m c (n + 1) hn' (Pipeline.accAt (fun n h => Value.stAt0 m c n h Value.junk0) (Value.stAt0 m c) 0 n (by omega))) := by
      by_cases h0 : (n + 1) % 16 = 0
      · exact left_first m c ⟨n + 1, hn'⟩ _ h0
      · exact left_next m c ⟨n + 1, hn'⟩ _ h0 ih
    have e : ∀ k (hk : k < cfg0.N), k = n + 1 → Left m c (n + 1) (Value.stAt0 m c k hk (Pipeline.accAt (fun n h => Value.stAt0 m c n h Value.junk0) (Value.stAt0 m c) 0 n (by omega))) := by
      intro k hk hkn; subst hkn; exact key
    exact e (0 + (n + 1)) hn (by omega)

theorem G11_eq (y : S8x4096x1024.Idx) : @Eq EReal ((Value.G11 m c : Vec Ideal S8x4096x1024 .f32) y) (hF (data m c) (y 0) (y 1) (y 2)) := by
  have h0 : (y 0 : ℕ) < 8 := (y 0).isLt
  have h1 : (y 1 : ℕ) < 4096 := (y 1).isLt
  have h2 : (y 2 : ℕ) < 1024 := (y 2).isLt
  have hp : Value.pt11Of y = 16 * ((y 0 : ℕ) / 2) + (y 1 : ℕ) / 256 := by
    show 16 * ((y 0 : ℕ) / 2 - 0) + 1 * ((y 1 : ℕ) / 256 - 0) + 1 * ((y 2 : ℕ) / 1024 - 0) = _; omega
  have hlt : Value.pt11Of y < cfg0.N := by rw [hp]; show _ < 64; omega
  unfold Value.G11
  rw [dif_pos hlt]
  refine ((left_all m c (Value.pt11Of y) (by omega)).sum (Value.loc11Of y)).trans ?_
  show hF (data m c) (2 * (Value.pt11Of y / 16) + (y 0 : ℕ) % 2) (256 * (Value.pt11Of y % 16) + (y 1 : ℕ) % 256) ((y 2 : ℕ) % 1024) = _
  rw [hp, show 2 * ((16 * ((y 0 : ℕ) / 2) + (y 1 : ℕ) / 256) / 16) + (y 0 : ℕ) % 2 = (y 0 : ℕ) by omega,
    show 256 * ((16 * ((y 0 : ℕ) / 2) + (y 1 : ℕ) / 256) % 16) + (y 1 : ℕ) % 256 = (y 1 : ℕ) by omega, Nat.mod_eq_of_lt h2]

theorem G12_eq (y : S8x4096x1024.Idx) : @Eq EReal ((Value.G12 m c : Vec Ideal S8x4096x1024 .bf16) y) (hnF (data m c) (y 0) (y 1) (y 2)) := by
  have h0 : (y 0 : ℕ) < 8 := (y 0).isLt
  have h1 : (y 1 : ℕ) < 4096 := (y 1).isLt
  have h2 : (y 2 : ℕ) < 1024 := (y 2).isLt
  have hp : Value.pt12Of y = 16 * ((y 0 : ℕ) / 2) + (y 1 : ℕ) / 256 := by
    show 16 * ((y 0 : ℕ) / 2 - 0) + 1 * ((y 1 : ℕ) / 256 - 0) + 1 * ((y 2 : ℕ) / 1024 - 0) = _; omega
  have hlt : Value.pt12Of y < cfg0.N := by rw [hp]; show _ < 64; omega
  unfold Value.G12
  rw [dif_pos hlt]
  refine ((left_all m c (Value.pt12Of y) (by omega)).norm (Value.loc12Of y)).trans ?_
  show hnF (data m c) (2 * (Value.pt12Of y / 16) + (y 0 : ℕ) % 2) (256 * (Value.pt12Of y % 16) + (y 1 : ℕ) % 256) ((y 2 : ℕ) % 1024) = _
  rw [hp, show 2 * ((16 * ((y 0 : ℕ) / 2) + (y 1 : ℕ) / 256) / 16) + (y 0 : ℕ) % 2 = (y 0 : ℕ) by omega,
    show 256 * ((16 * ((y 0 : ℕ) / 2) + (y 1 : ℕ) / 256) % 16) + (y 1 : ℕ) % 256 = (y 1 : ℕ) by omega, Nat.mod_eq_of_lt h2]

end

end Cert.GlaIdeal.Mix

end
-- ==== Proof.GlaRefStages.lean ====
/- The reference's mixing layer at the ideal instance: its operations in stages. -/
module

public import Idealize.ShloMosaic.PureOps.Ideal
public import Idealize.ShloMosaic.Lib.Pointwise
public import proofs.«01_k».proof.Proof.Gen.GlaRefIdeal.Run

@[expose] public section

set_option maxRecDepth 16384

noncomputable section

namespace Cert.GlaRefIdeal.Mix

open Cert.GlaRefIdeal Cert.GlaRefIdeal.Gen
open Idealize.ShloMosaic Idealize.ShloMosaic.TcCoe Idealize.ShloMosaic.Tactic

/-! ## The reference's operations in stages -/

/-- The gates before their logarithm. -/
def gates (lr : FVec Ideal S32768x128 .f32) (up : FVec Ideal S128x512 .bf16) (off : FVec Ideal S1x512 .f32) : FVec Ideal S32768x512 .f32 :=
  addf (Host.dotGeneral dot_S32768x128_S128x512_S32768x512_1_0_0_1_n_n none lr (extf .f32 up bitsLt_bf16_f32)) (broadcastInDim S32768x512 ![0, 1] bcast_S1x512_S32768x512_0_1 off)

abbrev nought : FVec Ideal S32768x512 .f32 := broadcastInDim S32768x512 ![] bcast_S_S32768x512 (constant S_ .f32 0x00000000#32)

/-- The logarithm of one plus the exponential. -/
def soft (x : FVec Ideal S32768x512 .f32) : FVec Ideal S32768x512 .f32 :=
  select (cmpf .une (subf x nought) (subf x nought)) (addf x nought)
    (addf (maximumf x nought) (Host.log1p (Host.exp (Host.negf (Host.absf (subf x nought))))))

/-- The decays, a sixteenth of the logarithm of the sigmoid. -/
def decays (z : FVec Ideal S32768x512 .f32) : FVec Ideal S32768x512 .f32 :=
  Host.divf (Host.negf (soft (Host.negf z))) (broadcastInDim S32768x512 ![] bcast_S_S32768x512 (constant S_ .f32 0x41800000#32))

/-- By chunk, sequence, head and position within the chunk. -/
def chunks (x : FVec Ideal S32768x512 .f32) : FVec Ideal S64x8x4x64x128 .f32 :=
  transpose S64x8x4x64x128 [1, 0, 3, 2, 4] (shapeCast S8x64x64x4x128 x shapeCasts_S32768x512_S8x64x64x4x128) transposes_S8x64x64x4x128_S64x8x4x64x128_1_0_3_2_4

def queries (qk : FVec Ideal S32768x1024 .f32) : FVec Ideal S64x8x4x64x128 .f32 :=
  mulf (chunks (extractStridedSlice S32768x512 ![0, 0] qk slices_S32768x1024_S32768x512_0_0)) (broadcastInDim S64x8x4x64x128 ![] bcast_S_S64x8x4x64x128 (constant S_ .f32 0x3DB504F3#32))

def keys (qk : FVec Ideal S32768x1024 .f32) : FVec Ideal S64x8x4x64x128 .f32 :=
  chunks (extractStridedSlice S32768x512 ![0, 512] qk slices_S32768x1024_S32768x512_0_512)

def vals (v : FVec Ideal S32768x1024 .bf16) : FVec Ideal S64x8x4x64x256 .f32 :=
  transpose S64x8x4x64x256 [1, 0, 3, 2, 4] (shapeCast S8x64x64x4x256 (extf .f32 v bitsLt_bf16_f32) shapeCasts_S32768x1024_S8x64x64x4x256) transposes_S8x64x64x4x256_S64x8x4x64x256_1_0_3_2_4

/-- Running sums over a chunk's positions. -/
def running (a : FVec Ideal S64x8x4x64x128 .f32) : FVec Ideal S64x8x4x64x128 .f32 :=
  Host.reduceWindowAdd ![1, 1, 1, 64, 1] ![1, 1, 1, 1, 1] ![0, 0, 0, 63, 0] ![0, 0, 0, 0, 0] a (broadcastInDim S_ ![] bcast_S_S_ (constant S_ .f32 0x00000000#32)) reduceWindows_S64x8x4x64x128_S64x8x4x64x128_w1s1p0_0_w1s1p0_0_w1s1p0_0_w64s1p63_0_w1s1p0_0 h_S_

def last (u : FVec Ideal S64x8x4x64x128 .f32) : FVec Ideal S64x8x4x1x128 .f32 :=
  extractStridedSlice S64x8x4x1x128 ![0, 0, 0, 63, 0] u slices_S64x8x4x64x128_S64x8x4x1x128_0_0_0_63_0

def qDec (q u : FVec Ideal S64x8x4x64x128 .f32) : FVec Ideal S64x8x4x64x128 .f32 := mulf q (Host.exp u)
def kInv (k u : FVec Ideal S64x8x4x64x128 .f32) : FVec Ideal S64x8x4x64x128 .f32 := mulf k (Host.exp (Host.negf u))
def kEnd (k u : FVec Ideal S64x8x4x64x128 .f32) : FVec Ideal S64x8x4x64x128 .f32 :=
  mulf k (Host.exp (subf (broadcastInDim S64x8x4x64x128 ![0, 1, 2, 3, 4] bcast_S64x8x4x1x128_S64x8x4x64x128_0_1_2_3_4 (last u)) u))
def chunkDecay (u : FVec Ideal S64x8x4x64x128 .f32) : FVec Ideal S64x8x4x128 .f32 :=
  Host.exp (shapeCast S64x8x4x128 (last u) shapeCasts_S64x8x4x1x128_S64x8x4x128)

/-- Positions up to one's own. -/
def lower : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- A chunk's own part of the results. -/
def own (qd ki : FVec Ideal S64x8x4x64x128 .f32) (v : FVec Ideal S64x8x4x64x256 .f32) : FVec Ideal S64x8x4x64x256 .f32 :=
  Host.dotGeneral dot_S64x8x4x64x64_S64x8x4x64x256_S64x8x4x64x256_4_3_3_4_012_012 none
    (select (broadcastInDim S64x8x4x64x64 ![3, 4] bcast_S64x64_S64x8x4x64x64_3_4 lower)
      (Host.dotGeneral dot_S64x8x4x64x128_S64x8x4x64x128_S64x8x4x64x64_4_4_3_3_012_012 none qd ki)
      (broadcastInDim S64x8x4x64x64 ![] bcast_S_S64x8x4x64x64 (constant S_ .f32 0x00000000#32))) v

/-- The results by position and head. -/
def heads (o : FVec Ideal S64x8x4x64x256 .f32) : FVec Ideal S8x4096x4x256 .f32 :=
  shapeCast S8x4096x4x256 (transpose S8x64x64x4x256 [1, 0, 3, 2, 4] o transposes_S64x8x4x64x256_S8x64x64x4x256_1_0_3_2_4) shapeCasts_S8x64x64x4x256_S8x4096x4x256

/-- The norm within a head. -/
def headNorm (o : FVec Ideal S8x4096x4x256 .f32) (g : FVec Ideal S1x256 .f32) : FVec Ideal S8x4096x4x256 .f32 :=
  mulf (mulf o (broadcastInDim S8x4096x4x256 ![0, 1, 2, 3] bcast_S8x4096x4x1_S8x4096x4x256_0_1_2_3 (Host.rsqrt (addf
      (Host.divf (broadcastInDim S8x4096x4x1 ![0, 1, 2] bcast_S8x4096x4_S8x4096x4x1_0_1_2 (Host.reduceAdd (mulf o o) (constant S_ .f32 0x00000000#32) reducesTo_S8x4096x4x256_S8x4096x4_d3 h_S_))
        (broadcastInDim S8x4096x4x1 ![] bcast_S_S8x4096x4x1 (constant S_ .f32 0x43800000#32)))
      (broadcastInDim S8x4096x4x1 ![] bcast_S_S8x4096x4x1 (constant S_ .f32 0x358637BD#32))))))
    (broadcastInDim S8x4096x4x256 ![0, 1, 2, 3] bcast_S1x1x1x256_S8x4096x4x256_0_1_2_3 (broadcastInDim S1x1x1x256 ![2, 3] bcast_S1x256_S1x1x1x256_2_3 g))

/-- The gates of the results. -/
def silu (r : FVec Ideal S8x4096x1024 .f32) : FVec Ideal S8x4096x1024 .f32 :=
  mulf r (Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf r))))

abbrev flat (r : FVec Ideal S32768x1024 .f32) : FVec Ideal S8x4096x1024 .f32 := shapeCast S8x4096x1024 r shapeCasts_S32768x1024_S8x4096x1024

/-- The gated results. -/
def gated (o : FVec Ideal S8x4096x4x256 .f32) (g : FVec Ideal S1x256 .f32) (r : FVec Ideal S32768x1024 .f32) : FVec Ideal S8x4096x1024 .f32 :=
  mulf (shapeCast S8x4096x1024 (headNorm o g) shapeCasts_S8x4096x4x256_S8x4096x1024) (silu (flat r))

/-- The layer's sum. -/
def sums (y : FVec Ideal S8x4096x1024 .f32) (x : FVec Ideal S32768x1024 .f32) (w : FVec Ideal S1024x1024 .bf16) : FVec Ideal S8x4096x1024 .f32 :=
  addf (flat x) (Host.dotGeneral dot_S8x4096x1024_S1024x1024_S8x4096x1024_2_0_01_1_n_n none y (extf .f32 w bitsLt_bf16_f32))

/-- The norm after it. -/
def norm (h : FVec Ideal S8x4096x1024 .f32) (g : FVec Ideal S1x1024 .f32) : FVec Ideal S8x4096x1024 .bf16 :=
  truncf .bf16 (mulf (mulf h (broadcastInDim S8x4096x1024 ![0, 1, 2] bcast_S8x4096x1_S8x4096x1024_0_1_2 (Host.rsqrt (addf
      (Host.divf (broadcastInDim S8x4096x1 ![0, 1] bcast_S8x4096_S8x4096x1_0_1 (Host.reduceAdd (mulf h h) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![1, 2] bcast_S1x1024_S1x1x1024_1_2 g))) bitsLt_bf16_f32

end Cert.GlaRefIdeal.Mix

end
-- ==== Proof.GlaRefReads.lean ====
/- The reference's run, read at the loop's start, through the loop and at its end. -/
module

public import proofs.«01_k».proof.Proof.GlaRefStages

@[expose] public section

set_option maxRecDepth 16384

noncomputable section

namespace Cert.GlaRefIdeal.Mix

open Cert.GlaRefIdeal Cert.GlaRefIdeal.Gen Cert.GlaRefIdeal.Value
open Idealize.ShloMosaic Idealize.ShloMosaic.TcCoe Idealize.ShloMosaic.Tactic
open Idealize.ShloMosaic.StableHlo

variable (m : (ℓ : Loc nD τ sig) → Buf (Elt Ideal) ℓ) (c : Dev nD)

abbrev a0 : FVec Ideal S32768x1024 .f32 := m ((c.tc : Thread nD τ).loc main_arg0)
abbrev a1 : FVec Ideal S32768x1024 .bf16 := m ((c.tc : Thread nD τ).loc main_arg1)
abbrev a2 : FVec Ideal S32768x1024 .f32 := m ((c.tc : Thread nD τ).loc main_arg2)
abbrev a3 : FVec Ideal S32768x128 .f32 := m ((c.tc : Thread nD τ).loc main_arg3)
abbrev a4 : FVec Ideal S128x512 .bf16 := m ((c.tc : Thread nD τ).loc main_arg4)
abbrev a5 : FVec Ideal S1x512 .f32 := m ((c.tc : Thread nD τ).loc main_arg5)
abbrev a6 : FVec Ideal S1x256 .f32 := m ((c.tc : Thread nD τ).loc main_arg6)
abbrev a7 : FVec Ideal S1024x1024 .bf16 := m ((c.tc : Thread nD τ).loc main_arg7)
abbrev a8 : FVec Ideal S32768x1024 .f32 := m ((c.tc : Thread nD τ).loc main_arg8)
abbrev a9 : FVec Ideal S1x1024 .f32 := m ((c.tc : Thread nD τ).loc main_arg9)

/-- The running sums of the decays. -/
abbrev cum : FVec Ideal S64x8x4x64x128 .f32 := running (chunks (decays (gates (a3 m c) (a4 m c) (a5 m c))))

theorem entry_0 : (entryContents preI m c (Proc.devRef .tc main_v40_0) : FVec Ideal S64x8x4x64x128 .f32) = qDec (queries (a0 m c)) (cum m c) := by
  simp only [entryContents, afterL_cons, afterL_nil]
  after_reads_simp
  rfl

theorem entry_1 : (entryContents preI m c (Proc.devRef .tc main_v40_1) : FVec Ideal S64x8x4x64x128 .f32) = kEnd (keys (a0 m c)) (cum m c) := by
  simp only [entryContents, afterL_cons, afterL_nil]
  after_reads_simp
  rfl

theorem entry_2 : (entryContents preI m c (Proc.devRef .tc main_v40_2) : FVec Ideal S64x8x4x64x256 .f32) = vals (a1 m c) := by
  simp only [entryContents, afterL_cons, afterL_nil]
  after_reads_simp
  rfl

theorem entry_3 : (entryContents preI m c (Proc.devRef .tc main_v40_3) : FVec Ideal S64x8x4x128 .f32) = chunkDecay (cum m c) := by
  simp only [entryContents, afterL_cons, afterL_nil]
  after_reads_simp
  rfl

theorem entry_5 : (entryContents preI m c (Proc.devRef .tc main_v40_5) : FVec Ideal S8x4x128x256 .f32) = (broadcastInDim S8x4x128x256 ![] bcast_S_S8x4x128x256 (constant S_ .f32 0x00000000#32 : FVec Ideal S_ .f32) : FVec Ideal S8x4x128x256 .f32) := by
  simp only [entryContents, afterL_cons, afterL_nil]
  after_reads_simp
  rfl

theorem entry_v37 : (entryContents preI m c (Proc.devRef .tc main_v37) : FVec Ideal S64x8x4x64x256 .f32)
    = own (qDec (queries (a0 m c)) (cum m c)) (kInv (keys (a0 m c)) (cum m c)) (vals (a1 m c)) := by
  simp only [entryContents, afterL_cons, afterL_nil]
  after_reads_simp
  rfl

/-! ## What the loop leaves alone -/

/-- A buffer that no operation of the loop writes. -/
theorem atK_keep (b : Ref sig .tc) (hc : b ∉ condOps_W) (h0 : b ∉ while0Ops0_W) (h1 : b ∉ while0Ops0_1_W) (h2 : b ∉ while0Ops0_2_W) (h3 : b ∉ while0Ops0_3_W)
    (h4 : b ∉ while0Ops0_4_W) (h5 : b ∉ while0Ops0_5_W) (h6 : b ∉ while0Ops0_6_W) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc, atK_keep b hc h0 h1 h2 h3 h4 h5 h6 k]
    rfl

/-- A buffer that no operation before the loop writes. -/
theorem entry_keep (b : Ref sig .tc) (h0 : b ∉ hostOps0_W) (h1 : b ∉ hostOps0_1_W) (h2 : b ∉ hostOps0_2_W) (h3 : b ∉ hostOps0_3_W) (h4 : b ∉ hostOps0_4_W) (h5 : b ∉ hostOps0_5_W) (h6 : b ∉ hostOps0_6_W) (h7 : b ∉ hostOps0_7_W) (h8 : b ∉ hostOps0_8_W) :
    entryContents preI m c (Proc.devRef .tc b) = m ((c.tc : Thread nD τ).loc b) := by
  simp only [entryContents, afterL_cons, afterL_nil]
  rw [after_of_writes_sub hostOps0_8 _ hostOps0_8_writes h8,
    after_of_writes_sub hostOps0_7 _ hostOps0_7_writes h7,
    after_of_writes_sub hostOps0_6 _ hostOps0_6_writes h6,
    after_of_writes_sub hostOps0_5 _ hostOps0_5_writes h5,
    after_of_writes_sub hostOps0_4 _ hostOps0_4_writes h4,
    after_of_writes_sub hostOps0_3 _ hostOps0_3_writes h3,
    after_of_writes_sub hostOps0_2 _ hostOps0_2_writes h2,
    after_of_writes_sub hostOps0_1 _ hostOps0_1_writes h1,
    after_of_writes_sub hostOps0 _ hostOps0_writes h0]

theorem loop_keep (b : Ref sig .tc) (hc : b ∉ condOps_W) (h0 : b ∉ while0Ops0_W) (h1 : b ∉ while0Ops0_1_W) (h2 : b ∉ while0Ops0_2_W) (h3 : b ∉ while0Ops0_3_W)
    (h4 : b ∉ while0Ops0_4_W) (h5 : b ∉ while0Ops0_5_W) (h6 : b ∉ while0Ops0_6_W) :
    after condOps (atK m 64 c) (Proc.devRef .tc b) = entryContents preI m c (Proc.devRef .tc b) :=
  (after_of_writes_sub condOps _ condOps_writes hc).trans (atK_keep m c b hc h0 h1 h2 h3 h4 h5 h6 64)

theorem arg_0 : entryContents preI m c (Proc.devRef .tc main_arg0) = m ((c.tc : Thread nD τ).loc main_arg0) :=
  entry_keep m c main_arg0 (by decide +kernel) (by decide +kernel) (by decide +kernel) (by decide +kernel) (by decide +kernel) (by decide +kernel) (by decide +kernel) (by decide +kernel) (by decide +kernel)

theorem loop_0 : after condOps (atK m 64 c) (Proc.devRef .tc main_arg0) = m ((c.tc : Thread nD τ).loc main_arg0) :=
  (loop_keep m c main_arg0 (by decide +kernel) (by decide +kernel) (by decide +kernel) (by decide +kernel) (by decide +kernel) (by decide +kernel) (by decide +kernel) (by decide +kernel)).trans (arg_0 m c)

theorem post_0 (V : Valuation τ sig (Elt Ideal)) : afterL postI V (Proc.devRef .tc main_arg0) = V (Proc.devRef .tc main_arg0) := by
  simp only [afterL_cons, afterL_nil]
  after_reads_simp

theorem kept_0 : finalContents condOps preI bodyI postI 64 m c (Proc.devRef .tc main_arg0) = m ((c.tc : Thread nD τ).loc main_arg0) :=
  (post_0 _).trans (loop_0 m c)

theorem arg_1 : entryContents preI m c (Proc.devRef .tc main_arg1) = m ((c.tc : Thread nD τ).loc main_arg1) :=
  entry_keep m c main_arg1 (by decide +kernel) (by decide +kernel) (by decide +kernel) (by decide +kernel) (by decide +kernel) (by decide +kernel) (by decide +kernel) (by decide +kernel) (by decide +kernel)

theorem loop_1 : after condOps (atK m 64 c) (Proc.devRef .tc main_arg1) = m ((c.tc : Thread nD τ).loc main_arg1) :=
  (loop_keep m c main_arg1 (by decide +kernel) (by decide +kernel) (by decide +kernel) (by decide +kernel) (by decide +kernel) (by decide +kernel) (by decide +kernel) (by decide +kernel)).trans (arg_1 m c)

theorem post_1 (V : Valuation τ sig (Elt Ideal)) : afterL postI V (Proc.devRef .tc main_arg1) = V (Proc.devRef .tc main_arg1) := by
  simp only [afterL_cons, afterL_nil]
  after_reads_simp

theorem kept_1 : finalContents condOps preI bodyI postI 64 m c (Proc.devRef .tc main_arg1) = m ((c.tc : Thread nD τ).loc main_arg1) :=
  (post_1 _).trans (loop_1 m c)

theorem arg_2 : entryContents preI m c (Proc.devRef .tc main_arg2) = m ((c.tc : Thread nD τ).loc main_arg2) :=
  entry_keep m c main_arg2 (by decide +kernel) (by decide +kernel) (by decide +kernel) (by decide +kernel) (by decide +kernel) (by decide +kernel) (by decide +kernel) (by decide +kernel) (by decide +kernel)

theorem loop_2 : after condOps (atK m 64 c) (Proc.devRef .tc main_arg2) = m ((c.tc : Thread nD τ).loc main_arg2) :=
  (loop_keep m c main_arg2 (by decide +kernel) (by decide +kernel) (by decide +kernel) (by decide +kernel) (by decide +kernel) (by decide +kernel) (by decide +kernel) (by decide +kernel)).trans (arg_2 m c)

theorem post_2 (V : Valuation τ sig (Elt Ideal)) : afterL postI V (Proc.devRef .tc main_arg2) = V (Proc.devRef .tc main_arg2) := by
  simp only [afterL_cons, afterL_nil]
  after_reads_simp

theorem kept_2 : finalContents condOps preI bodyI postI 64 m c (Proc.devRef .tc main_arg2) = m ((c.tc : Thread nD τ).loc main_arg2) :=
  (post_2 _).trans (loop_2 m c)

theorem arg_3 : entryContents preI m c (Proc.devRef .tc main_arg3) = m ((c.tc : Thread nD τ).loc main_arg3) :=
  entry_keep m c main_arg3 (by decide +kernel) (by decide +kernel) (by decide +kernel) (by decide +kernel) (by decide +kernel) (by decide +kernel) (by decide +kernel) (by decide +kernel) (by decide +kernel)

theorem loop_3 : after condOps (atK m 64 c) (Proc.devRef .tc main_arg3) = m ((c.tc : Thread nD τ).loc main_arg3) :=
  (loop_keep m c main_arg3 (by decide +kernel) (by decide +kernel) (by decide +kernel) (by decide +kernel) (by decide +kernel) (by decide +kernel) (by decide +kernel) (by decide +kernel)).trans (arg_3 m c)

theorem post_3 (V : Valuation τ sig (Elt Ideal)) : afterL postI V (Proc.devRef .tc main_arg3) = V (Proc.devRef .tc main_arg3) := by
  simp only [afterL_cons, afterL_nil]
  after_reads_simp

theorem kept_3 : finalContents condOps preI bodyI postI 64 m c (Proc.devRef .tc main_arg3) = m ((c.tc : Thread nD τ).loc main_arg3) :=
  (post_3 _).trans (loop_3 m c)

theorem arg_4 : entryContents preI m c (Proc.devRef .tc main_arg4) = m ((c.tc : Thread nD τ).loc main_arg4) :=
  entry_keep m c main_arg4 (by decide +kernel) (by decide +kernel) (by decide +kernel) (by decide +kernel) (by decide +kernel) (by decide +kernel) (by decide +kernel) (by decide +kernel) (by decide +kernel)

theorem loop_4 : after condOps (atK m 64 c) (Proc.devRef .tc main_arg4) = m ((c.tc : Thread nD τ).loc main_arg4) :=
  (loop_keep m c main_arg4 (by decide +kernel) (by decide +kernel) (by decide +kernel) (by decide +kernel) (by decide +kernel) (by decide +kernel) (by decide +kernel) (by decide +kernel)).trans (arg_4 m c)

theorem post_4 (V : Valuation τ sig (Elt Ideal)) : afterL postI V (Proc.devRef .tc main_arg4) = V (Proc.devRef .tc main_arg4) := by
  simp only [afterL_cons, afterL_nil]
  after_reads_simp

theorem kept_4 : finalContents condOps preI bodyI postI 64 m c (Proc.devRef .tc main_arg4) = m ((c.tc : Thread nD τ).loc main_arg4) :=
  (post_4 _).trans (loop_4 m c)

theorem arg_5 : entryContents preI m c (Proc.devRef .tc main_arg5) = m ((c.tc : Thread nD τ).loc main_arg5) :=
  entry_keep m c main_arg5 (by decide +kernel) (by decide +kernel) (by decide +kernel) (by decide +kernel) (by decide +kernel) (by decide +kernel) (by decide +kernel) (by decide +kernel) (by decide +kernel)

theorem loop_5 : after condOps (atK m 64 c) (Proc.devRef .tc main_arg5) = m ((c.tc : Thread nD τ).loc main_arg5) :=
  (loop_keep m c main_arg5 (by decide +kernel) (by decide +kernel) (by decide +kernel) (by decide +kernel) (by decide +kernel) (by decide +kernel) (by decide +kernel) (by decide +kernel)).trans (arg_5 m c)

theorem post_5 (V : Valuation τ sig (Elt Ideal)) : afterL postI V (Proc.devRef .tc main_arg5) = V (Proc.devRef .tc main_arg5) := by
  simp only [afterL_cons, afterL_nil]
  after_reads_simp

theorem kept_5 : finalContents condOps preI bodyI postI 64 m c (Proc.devRef .tc main_arg5) = m ((c.tc : Thread nD τ).loc main_arg5) :=
  (post_5 _).trans (loop_5 m c)

theorem arg_6 : entryContents preI m c (Proc.devRef .tc main_arg6) = m ((c.tc : Thread nD τ).loc main_arg6) :=
  entry_keep m c main_arg6 (by decide +kernel) (by decide +kernel) (by decide +kernel) (by decide +kernel) (by decide +kernel) (by decide +kernel) (by decide +kernel) (by decide +kernel) (by decide +kernel)

theorem loop_6 : after condOps (atK m 64 c) (Proc.devRef .tc main_arg6) = m ((c.tc : Thread nD τ).loc main_arg6) :=
  (loop_keep m c main_arg6 (by decide +kernel) (by decide +kernel) (by decide +kernel) (by decide +kernel) (by decide +kernel) (by decide +kernel) (by decide +kernel) (by decide +kernel)).trans (arg_6 m c)

theorem post_6 (V : Valuation τ sig (Elt Ideal)) : afterL postI V (Proc.devRef .tc main_arg6) = V (Proc.devRef .tc main_arg6) := by
  simp only [afterL_cons, afterL_nil]
  after_reads_simp

theorem kept_6 : finalContents condOps preI bodyI postI 64 m c (Proc.devRef .tc main_arg6) = m ((c.tc : Thread nD τ).loc main_arg6) :=
  (post_6 _).trans (loop_6 m c)

theorem arg_7 : entryContents preI m c (Proc.devRef .tc main_arg7) = m ((c.tc : Thread nD τ).loc main_arg7) :=
  entry_keep m c main_arg7 (by decide +kernel) (by decide +kernel) (by decide +kernel) (by decide +kernel) (by decide +kernel) (by decide +kernel) (by decide +kernel) (by decide +kernel) (by decide +kernel)

theorem loop_7 : after condOps (atK m 64 c) (Proc.devRef .tc main_arg7) = m ((c.tc : Thread nD τ).loc main_arg7) :=
  (loop_keep m c main_arg7 (by decide +kernel) (by decide +kernel) (by decide +kernel) (by decide +kernel) (by decide +kernel) (by decide +kernel) (by decide +kernel) (by decide +kernel)).trans (arg_7 m c)

theorem post_7 (V : Valuation τ sig (Elt Ideal)) : afterL postI V (Proc.devRef .tc main_arg7) = V (Proc.devRef .tc main_arg7) := by
  simp only [afterL_cons, afterL_nil]
  after_reads_simp

theorem kept_7 : finalContents condOps preI bodyI postI 64 m c (Proc.devRef .tc main_arg7) = m ((c.tc : Thread nD τ).loc main_arg7) :=
  (post_7 _).trans (loop_7 m c)

theorem arg_8 : entryContents preI m c (Proc.devRef .tc main_arg8) = m ((c.tc : Thread nD τ).loc main_arg8) :=
  entry_keep m c main_arg8 (by decide +kernel) (by decide +kernel) (by decide +kernel) (by decide +kernel) (by decide +kernel) (by decide +kernel) (by decide +kernel) (by decide +kernel) (by decide +kernel)

theorem loop_8 : after condOps (atK m 64 c) (Proc.devRef .tc main_arg8) = m ((c.tc : Thread nD τ).loc main_arg8) :=
  (loop_keep m c main_arg8 (by decide +kernel) (by decide +kernel) (by decide +kernel) (by decide +kernel) (by decide +kernel) (by decide +kernel) (by decide +kernel) (by decide +kernel)).trans (arg_8 m c)

theorem post_8 (V : Valuation τ sig (Elt Ideal)) : afterL postI V (Proc.devRef .tc main_arg8) = V (Proc.devRef .tc main_arg8) := by
  simp only [afterL_cons, afterL_nil]
  after_reads_simp

theorem kept_8 : finalContents condOps preI bodyI postI 64 m c (Proc.devRef .tc main_arg8) = m ((c.tc : Thread nD τ).loc main_arg8) :=
  (post_8 _).trans (loop_8 m c)

theorem arg_9 : entryContents preI m c (Proc.devRef .tc main_arg9) = m ((c.tc : Thread nD τ).loc main_arg9) :=
  entry_keep m c main_arg9 (by decide +kernel) (by decide +kernel) (by decide +kernel) (by decide +kernel) (by decide +kernel) (by decide +kernel) (by decide +kernel) (by decide +kernel) (by decide +kernel)

theorem loop_9 : after condOps (atK m 64 c) (Proc.devRef .tc main_arg9) = m ((c.tc : Thread nD τ).loc main_arg9) :=
  (loop_keep m c main_arg9 (by decide +kernel) (by decide +kernel) (by decide +kernel) (by decide +kernel) (by decide +kernel) (by decide +kernel) (by decide +kernel) (by decide +kernel)).trans (arg_9 m c)

theorem post_9 (V : Valuation τ sig (Elt Ideal)) : afterL postI V (Proc.devRef .tc main_arg9) = V (Proc.devRef .tc main_arg9) := by
  simp only [afterL_cons, afterL_nil]
  after_reads_simp

theorem kept_9 : finalContents condOps preI bodyI postI 64 m c (Proc.devRef .tc main_arg9) = m ((c.tc : Thread nD τ).loc main_arg9) :=
  (post_9 _).trans (loop_9 m c)

theorem loop_v37 : after condOps (atK m 64 c) (Proc.devRef .tc main_v37) = entryContents preI m c (Proc.devRef .tc main_v37) :=
  loop_keep m c main_v37 (by decide +kernel) (by decide +kernel) (by decide +kernel) (by decide +kernel) (by decide +kernel) (by decide +kernel) (by decide +kernel) (by decide +kernel)

theorem loop_v40_6 : after condOps (atK m 64 c) (Proc.devRef .tc main_v40_6) = atK m 64 c (Proc.devRef .tc main_v40_6) :=
  after_of_writes_sub condOps _ condOps_writes (by decide +kernel)

/-- The operations after the loop: the layer's sum. -/
theorem post_v64 (V : Valuation τ sig (Elt Ideal)) : (afterL postI V (Proc.devRef .tc main_v64) : FVec Ideal S8x4096x1024 .f32)
    = sums (gated (heads (addf (V (Proc.devRef .tc main_v40_6) : FVec Ideal S64x8x4x64x256 .f32) (V (Proc.devRef .tc main_v37))))
        (V (Proc.devRef .tc main_arg6)) (V (Proc.devRef .tc main_arg2))) (V (Proc.devRef .tc main_arg8)) (V (Proc.devRef .tc main_arg7)) := by
  simp only [afterL_cons, afterL_nil]
  after_reads_simp
  rfl

/-- And its norm. -/
theorem post_v78 (V : Valuation τ sig (Elt Ideal)) : (afterL postI V (Proc.devRef .tc main_v78) : FVec Ideal S8x4096x1024 .bf16)
    = norm (sums (gated (heads (addf (V (Proc.devRef .tc main_v40_6) : FVec Ideal S64x8x4x64x256 .f32) (V (Proc.devRef .tc main_v37))))
        (V (Proc.devRef .tc main_arg6)) (V (Proc.devRef .tc main_arg2))) (V (Proc.devRef .tc main_arg8)) (V (Proc.devRef .tc main_arg7))) (V (Proc.devRef .tc main_arg9)) := by
  simp only [afterL_cons, afterL_nil]
  after_reads_simp
  rfl

/-- The results by chunk: the loop's part and a chunk's own. -/
abbrev outs : FVec Ideal S64x8x4x64x256 .f32 :=
  addf (atK m 64 c (Proc.devRef .tc main_v40_6) : FVec Ideal S64x8x4x64x256 .f32) (own (qDec (queries (a0 m c)) (cum m c)) (kInv (keys (a0 m c)) (cum m c)) (vals (a1 m c)))

theorem final_v64 : (finalContents condOps preI bodyI postI 64 m c (Proc.devRef .tc main_v64) : FVec Ideal S8x4096x1024 .f32)
    = sums (gated (heads (outs m c)) (a6 m c) (a2 m c)) (a8 m c) (a7 m c) := by
  refine (post_v64 _).trans ?_
  rw [loop_v40_6, loop_v37, entry_v37, loop_6, loop_2, loop_8, loop_7]

theorem final_v78 : (finalContents condOps preI bodyI postI 64 m c (Proc.devRef .tc main_v78) : FVec Ideal S8x4096x1024 .bf16)
    = norm (sums (gated (heads (outs m c)) (a6 m c) (a2 m c)) (a8 m c) (a7 m c)) (a9 m c) := by
  refine (post_v78 _).trans ?_
  rw [loop_v40_6, loop_v37, entry_v37, loop_6, loop_2, loop_8, loop_7, loop_9]

end Cert.GlaRefIdeal.Mix

end
-- ==== Proof.GlaRefPoint.lean ====
/- The reference's mixing layer at the ideal instance: its stages before the loop, entry by entry. -/
module

public import proofs.«01_k».proof.Proof.GlaRefStages
public import proofs.«01_k».proof.Proof.GlaLayer
public import proofs.«01_k».proof.Proof.GlaCum

@[expose] public section

set_option maxRecDepth 16384

noncomputable section

namespace Cert.GlaRefIdeal.Mix

open Cert.GlaRefIdeal Cert.GlaRefIdeal.Gen Cert.Gla
open Idealize.ShloMosaic Idealize.ShloMosaic.TcCoe Idealize.ShloMosaic.Tactic
open Cert.GlaIdeal.Mix (w_sixteenth log_one_exp)

section points

variable (n : Fin 64) (b : Fin 8) (h : Fin 4) (i j : Fin 64) (d : Fin 128) (e : Fin 256)

theorem chunks_apply (x : FVec Ideal S32768x512 .f32) :
    @Eq EReal (chunks x (ix5 n b h i d)) (entry x (4096 * b + (64 * n + i)) (128 * h + d)) := by
  have hb := b.isLt
  have hn := n.isLt
  have hi := i.isLt
  have hh := h.isLt
  have hd := d.isLt
  rw [entry_of _ _ _ (by omega) (by omega)]
  unfold chunks
  pointwise
  exact congrArg x (congrArg₂ ix2 (Fin.ext (by dsimp only; omega)) (Fin.ext (by dsimp only; omega)))

theorem vals_apply (v : FVec Ideal S32768x1024 .bf16) :
    @Eq EReal (vals v (ix5 n b h i e)) (entry v (4096 * b + (64 * n + i)) (256 * h + e)) := by
  have hb := b.isLt
  have hn := n.isLt
  have hi := i.isLt
  have hh := h.isLt
  have he := e.isLt
  rw [entry_of _ _ _ (by omega) (by omega)]
  unfold vals
  pointwise
  exact congrArg v (congrArg₂ ix2 (Fin.ext (by dsimp only; omega)) (Fin.ext (by dsimp only; omega)))

theorem lower_apply : lower (ix2 i j) = BitVec.ofBool (decide (j ≤ i)) := by
  have hi := i.isLt
  have hj := j.isLt
  unfold lower
  pointwise
  rw [show IntOp.addi (BitVec.ofNat 32 (i : ℕ)) 0#32 = BitVec.ofNat 32 (i : ℕ) from BitVec.add_zero _,
    WordCmp.cmpi_sge_ofNat (by omega) (by omega)]
  by_cases h : j ≤ i
  · simp only [h, Fin.le_def.mp h, decide_true]; rfl
  · simp only [h, show ¬ (j : ℕ) ≤ i from h, decide_false]; rfl

theorem soft_apply (x : FVec Ideal S32768x512 .f32) (y : S32768x512.Idx) :
    @Eq EReal (soft x y) (max (x y) 0 + Ideal.log1p (Ideal.exp (-(max (x y) (-(x y)))))) := by
  unfold soft
  pointwise
  rw [if_neg (fun h => h rfl)]
  rfl

theorem w_sixteen : Ideal.ofBits .f32 0x41800000#32 = ((16 : ℝ) : EReal) := by
  simp [Ideal.ofBits, Ideal.ieee, -EReal.coe_mul]; norm_num

/-- The two forms of a decay. -/
theorem lsv_soft (x : EReal) :
    Ideal.div (-(max (-x) 0 + Ideal.log1p (Ideal.exp (-(max (-x) (-(-x))))))) (Ideal.ofBits .f32 0x41800000#32) = lsv x := by
  unfold lsv Ideal.log1p
  rw [w_sixteen, w_sixteenth, Ideal.div_coe (by norm_num), neg_neg, max_comm (-x) x]
  refine congrArg (fun a : EReal => a * ((1 / 16 : ℝ) : EReal)) ?_
  have l1 : Ideal.log 1 = 0 := by rw [← EReal.coe_one, Ideal.log_coe]; simp
  induction x using EReal.rec with
  | bot => simp [l1]
  | top => simp [l1]
  | coe r =>
    have e1 : max (r : EReal) (-(r : EReal)) = ((max r (-r) : ℝ) : EReal) := by
      rw [← EReal.coe_neg]; exact (EReal.coe_strictMono.monotone.map_max (a := r) (b := -r)).symm
    have e2 : max (-(r : EReal)) 0 = ((max (-r) 0 : ℝ) : EReal) := by
      rw [← EReal.coe_neg, ← EReal.coe_zero]; exact (EReal.coe_strictMono.monotone.map_max (a := -r) (b := 0)).symm
    have e3 : min (r : EReal) 0 = ((min r 0 : ℝ) : EReal) := by
      rw [← EReal.coe_zero]; exact (EReal.coe_strictMono.monotone.map_min (a := r) (b := 0)).symm
    rw [e1, e2, e3, ← EReal.coe_neg, log_one_exp, ← EReal.coe_add, ← EReal.coe_neg, ← EReal.coe_sub]
    refine congrArg _ ?_
    rcases le_total r 0 with h | h
    · rw [min_eq_left h, max_eq_left (by linarith)]; ring
    · rw [min_eq_right h, max_eq_right (by linarith)]; ring

theorem decays_apply (z : FVec Ideal S32768x512 .f32) (y : S32768x512.Idx) : @Eq EReal (decays z y) (lsv (z y)) := by
  unfold decays
  pointwise
  rw [soft_apply]
  exact lsv_soft (z y)

theorem gates_apply (lr : FVec Ideal S32768x128 .f32) (up : FVec Ideal S128x512 .bf16) (off : FVec Ideal S1x512 .f32) (y : Fin 32768) (k : Fin 512) :
    @Eq EReal (gates lr up off (ix2 y k)) ((∑ r : Fin 128, entry lr y r * entry up r k) + entry off 0 k) := by
  unfold gates
  pointwise
  refine congrArg₂ (fun a b : EReal => a + b) (Finset.sum_congr rfl fun r _ => ?_) (entry_of off 0 k (by norm_num) k.isLt).symm
  rw [entry_of lr y r y.isLt r.isLt, entry_of up r k r.isLt k.isLt]

theorem last_apply (u : FVec Ideal S64x8x4x64x128 .f32) : @Eq EReal (last u (ix5 n b h (0 : Fin 1) d)) (u (ix5 n b h (63 : Fin 64) d)) := by
  unfold last
  pointwise

theorem qDec_apply (q u : FVec Ideal S64x8x4x64x128 .f32) (y : S64x8x4x64x128.Idx) : @Eq EReal (qDec q u y) (q y * Ideal.exp (u y)) := by
  unfold qDec
  pointwise

theorem kInv_apply (q u : FVec Ideal S64x8x4x64x128 .f32) (y : S64x8x4x64x128.Idx) : @Eq EReal (kInv q u y) (q y * Ideal.exp (-(u y))) := by
  unfold kInv
  pointwise

theorem kEnd_apply (q u : FVec Ideal S64x8x4x64x128 .f32) :
    @Eq EReal (kEnd q u (ix5 n b h i d)) (q (ix5 n b h i d) * Ideal.exp (u (ix5 n b h (63 : Fin 64) d) - u (ix5 n b h i d))) := by
  unfold kEnd last
  pointwise

theorem chunkDecay_apply (u : FVec Ideal S64x8x4x64x128 .f32) :
    @Eq EReal (chunkDecay u (ix4 n b h d)) (Ideal.exp (u (ix5 n b h (63 : Fin 64) d))) := by
  unfold chunkDecay last
  pointwise

theorem queries_apply (qk : FVec Ideal S32768x1024 .f32) :
    @Eq EReal (queries qk (ix5 n b h i d)) (entry qk (4096 * b + (64 * n + i)) (128 * h + d) * Ideal.ofBits .f32 0x3DB504F3#32) := by
  unfold queries
  pointwise
  have hb := b.isLt
  have hn := n.isLt
  have hi := i.isLt
  have hh := h.isLt
  have hd := d.isLt
  rw [chunks_apply, entry_of _ _ _ (by omega) (by omega), entry_of _ _ _ (by omega) (by omega)]
  pointwise

theorem keys_apply (qk : FVec Ideal S32768x1024 .f32) :
    @Eq EReal (keys qk (ix5 n b h i d)) (entry qk (4096 * b + (64 * n + i)) (512 + (128 * h + d))) := by
  unfold keys
  have hb := b.isLt
  have hn := n.isLt
  have hi := i.isLt
  have hh := h.isLt
  have hd := d.isLt
  rw [chunks_apply, entry_of _ _ _ (by omega) (by omega), entry_of _ _ _ (by omega) (by omega)]
  pointwise

theorem own_apply (qd ki : FVec Ideal S64x8x4x64x128 .f32) (v : FVec Ideal S64x8x4x64x256 .f32) :
    @Eq EReal (own qd ki v (ix5 n b h i e))
      (∑ j : Fin 64, (if j ≤ i then ∑ d : Fin 128, (qd (ix5 n b h i d) : EReal) * ki (ix5 n b h j d) else 0) * v (ix5 n b h j e)) := by
  unfold own
  pointwise
  refine Finset.sum_congr rfl fun j _ => ?_
  rw [lower_apply]
  by_cases h : j ≤ i
  · rw [if_pos h]
    simp only [h, decide_true]
    rfl
  · rw [if_neg h, zero_mul]
    simp only [h, decide_false]
    rfl

theorem foldl_add {ι : Type} (f : ι → EReal) (l : List ι) (r : EReal) : l.foldl (fun r n => r + f n) r = r + (l.map f).sum := by
  induction l generalizing r with
  | nil => simp
  | cons a l ih => rw [List.foldl_cons, ih, List.map_cons, List.sum_cons, add_assoc]

/-- Sums along the fourth of five axes up to an entry, as a window's sums. -/
theorem window_sum {A B C E N Nm1 : ℕ} (hN : Nm1 + 1 = N) (a : (⟨5, ![A, B, C, N, E]⟩ : Shape).Idx → EReal) (init : (⟨0, ![]⟩ : Shape).Idx → EReal)
    (hi : ∀ i, init i = 0)
    (h : (⟨5, ![A, B, C, N, E]⟩ : Shape).ReduceWindows ![1, 1, 1, N, 1] ![1, 1, 1, 1, 1] ![0, 0, 0, Nm1, 0] ![0, 0, 0, 0, 0] ⟨5, ![A, B, C, N, E]⟩)
    (hu : 0 < (⟨0, ![]⟩ : Shape).numel) (b : Fin A) (g : Fin B) (t : Fin C) (s : Fin N) (e : Fin E) :
    Host.reduceWindow (t := ⟨5, ![A, B, C, N, E]⟩) (· + ·) ![1, 1, 1, N, 1] ![1, 1, 1, 1, 1] ![0, 0, 0, Nm1, 0] ![0, 0, 0, 0, 0] a init h hu (ix5 b g t s e)
      = ∑ w : Fin N, if h : Nm1 ≤ (s : ℕ) + w then a (ix5 b g t ⟨s + w - Nm1, by omega⟩ e) else 0 := by
  unfold Host.reduceWindow
  refine (foldl_add _ _ _).trans ?_
  rw [hi, zero_add, ← Fin.sum_univ_def]
  have hs0 := s.isLt
  have key : ∀ (i : (⟨5, ![1, 1, 1, N, 1]⟩ : Shape).Idx) (D : Decidable (∀ q : Fin 5, (![0, 0, 0, Nm1, 0] : Fin 5 → ℕ) q ≤ (ix5 b g t s e q).val * (![1, 1, 1, 1, 1] : Fin 5 → ℕ) q + (i q).val
          ∧ (ix5 b g t s e q).val * (![1, 1, 1, 1, 1] : Fin 5 → ℕ) q + (i q).val - (![0, 0, 0, Nm1, 0] : Fin 5 → ℕ) q < (![A, B, C, N, E] : Fin 5 → ℕ) q)),
      @dite EReal (∀ q : Fin 5, (![0, 0, 0, Nm1, 0] : Fin 5 → ℕ) q ≤ (ix5 b g t s e q).val * (![1, 1, 1, 1, 1] : Fin 5 → ℕ) q + (i q).val
          ∧ (ix5 b g t s e q).val * (![1, 1, 1, 1, 1] : Fin 5 → ℕ) q + (i q).val - (![0, 0, 0, Nm1, 0] : Fin 5 → ℕ) q < (![A, B, C, N, E] : Fin 5 → ℕ) q) D
        (fun hin => a (fun q : Fin 5 => ⟨(ix5 b g t s e q).val * (![1, 1, 1, 1, 1] : Fin 5 → ℕ) q + (i q).val - (![0, 0, 0, Nm1, 0] : Fin 5 → ℕ) q, (hin q).2⟩))
        (fun _ => 0)
        = if h : Nm1 ≤ (s : ℕ) + (i 3).val then a (ix5 b g t ⟨s + (i 3).val - Nm1, by have : (i 3).val < N := (i 3).isLt; omega⟩ e) else 0 := by
    intro i D
    have i0 : (i 0).val = 0 := by have : (i 0).val < 1 := (i 0).isLt; omega
    have i1 : (i 1).val = 0 := by have : (i 1).val < 1 := (i 1).isLt; omega
    have i2 : (i 2).val = 0 := by have : (i 2).val < 1 := (i 2).isLt; omega
    have i3 : (i 3).val < N := (i 3).isLt
    have i4 : (i 4).val = 0 := by have : (i 4).val < 1 := (i 4).isLt; omega
    by_cases hs : Nm1 ≤ (s : ℕ) + (i 3).val
    · rw [dif_pos hs]
      refine (dif_pos ?_).trans (congrArg a (funext fun q => Fin.ext ?_))
      · intro (q : Fin 5)
        fin_cases q
        · show 0 ≤ (b : ℕ) * 1 + (i 0).val ∧ (b : ℕ) * 1 + (i 0).val - 0 < A; omega
        · show 0 ≤ (g : ℕ) * 1 + (i 1).val ∧ (g : ℕ) * 1 + (i 1).val - 0 < B; omega
        · show 0 ≤ (t : ℕ) * 1 + (i 2).val ∧ (t : ℕ) * 1 + (i 2).val - 0 < C; omega
        · show Nm1 ≤ (s : ℕ) * 1 + (i 3).val ∧ (s : ℕ) * 1 + (i 3).val - Nm1 < N; omega
        · show 0 ≤ (e : ℕ) * 1 + (i 4).val ∧ (e : ℕ) * 1 + (i 4).val - 0 < E; omega
      · revert q
        intro (q : Fin 5)
        fin_cases q
        · show (b : ℕ) * 1 + (i 0).val - 0 = b; omega
        · show (g : ℕ) * 1 + (i 1).val - 0 = g; omega
        · show (t : ℕ) * 1 + (i 2).val - 0 = t; omega
        · show (s : ℕ) * 1 + (i 3).val - Nm1 = s + (i 3).val - Nm1; omega
        · show (e : ℕ) * 1 + (i 4).val - 0 = e; omega
    · rw [dif_neg hs]
      refine dif_neg fun hq => hs ?_
      have h3 : Nm1 ≤ (s : ℕ) * 1 + (i 3).val ∧ (s : ℕ) * 1 + (i 3).val - Nm1 < N := hq 3
      omega
  refine (Fintype.sum_equiv (Shape.rowMajor (⟨5, ![1, 1, 1, N, 1]⟩ : Shape)).symm _
    (fun i => if h : Nm1 ≤ (s : ℕ) + (i 3).val then a (ix5 b g t ⟨s + (i 3).val - Nm1, by have : (i 3).val < N := (i 3).isLt; omega⟩ e) else 0)
    fun n => key ((Shape.rowMajor (⟨5, ![1, 1, 1, N, 1]⟩ : Shape)).symm n) _).trans ?_
  · refine (Fintype.sum_equiv (⟨fun k => ix5 0 0 0 k 0, fun i => i 3, fun _ => rfl, fun i => ?_⟩ : Fin N ≃ (⟨5, ![1, 1, 1, N, 1]⟩ : Shape).Idx)
      _ _ fun k => rfl).symm
    have i0 : (i 0).val = 0 := by have : (i 0).val < 1 := (i 0).isLt; omega
    have i1 : (i 1).val = 0 := by have : (i 1).val < 1 := (i 1).isLt; omega
    have i2 : (i 2).val = 0 := by have : (i 2).val < 1 := (i 2).isLt; omega
    have i4 : (i 4).val = 0 := by have : (i 4).val < 1 := (i 4).isLt; omega
    funext (q : Fin 5)
    fin_cases q
    · exact Fin.ext i0.symm
    · exact Fin.ext i1.symm
    · exact Fin.ext i2.symm
    · rfl
    · exact Fin.ext i4.symm

/-- A window's sums up to an entry, by the entries summed. -/
theorem sum_to (f : Fin 64 → EReal) :
    (∑ w : Fin 64, if h : 63 ≤ (i : ℕ) + w then f ⟨i + w - 63, by omega⟩ else 0) = ∑ j : Fin 64, if (j : ℕ) ≤ i then f j else 0 := by
  have hi := i.isLt
  symm
  refine Fintype.sum_equiv (⟨fun j => if h : (j : ℕ) ≤ i then ⟨j + 63 - i, by omega⟩ else ⟨j - i - 1, by omega⟩,
    fun w => if h : 63 ≤ (i : ℕ) + w then ⟨i + w - 63, by omega⟩ else ⟨w + i + 1, by omega⟩, fun j => ?_, fun w => ?_⟩ : Fin 64 ≃ Fin 64) _ _ fun j => ?_
  · have hj := j.isLt
    by_cases h : (j : ℕ) ≤ i
    · simp only [h, dif_pos]
      rw [dif_pos (by omega)]
      exact Fin.ext (by dsimp only; omega)
    · simp only [h, dif_neg, not_false_eq_true]
      rw [dif_neg (by omega)]
      exact Fin.ext (by dsimp only; omega)
  · have hw := w.isLt
    by_cases h : 63 ≤ (i : ℕ) + w
    · simp only [h, dif_pos]
      rw [dif_pos (by omega)]
      exact Fin.ext (by dsimp only; omega)
    · simp only [h, dif_neg, not_false_eq_true]
      rw [dif_neg (by omega)]
      exact Fin.ext (by dsimp only; omega)
  · have hj := j.isLt
    by_cases h : (j : ℕ) ≤ i
    · simp only [Equiv.coe_fn_mk, h, dif_pos, if_pos]
      rw [dif_pos (by omega)]
      exact congrArg f (Fin.ext (by dsimp only; omega))
    · simp only [Equiv.coe_fn_mk, h, dif_neg, if_neg, not_false_eq_true]
      rw [dif_neg (by omega)]

theorem running_apply (a : FVec Ideal S64x8x4x64x128 .f32) :
    @Eq EReal (running a (ix5 n b h i d)) (∑ j : Fin 64, if (j : ℕ) ≤ i then a (ix5 n b h j d) else 0) := by
  unfold running Host.reduceWindowAdd
  rw [Ideal.hostReduceWindowAdd_def]
  unfold Ideal.hostReduceWindowAdd
  refine (window_sum (Nm1 := 63) (N := 64) (by norm_num) a _ (fun _ => ?_) _ _ n b h i d).trans (sum_to i fun j => a (ix5 n b h j d))
  exact Ideal.ofBits_zero_f32

end points

end Cert.GlaRefIdeal.Mix

end
-- ==== Proof.GlaRefLoop.lean ====
/- The reference's loop over chunks: the state before each, and the results it writes. -/
module

public import Idealize.ShloMosaic.Lib.DynamicIndex
public import proofs.«01_k».proof.Proof.GlaRefReads
public import proofs.«01_k».proof.Proof.GlaRefPoint

@[expose] public section

set_option maxRecDepth 16384

noncomputable section

namespace Cert.GlaRefIdeal.Mix

open Cert.GlaRefIdeal Cert.GlaRefIdeal.Gen Cert.GlaRefIdeal.Value Cert.Gla
open Idealize.ShloMosaic Idealize.ShloMosaic.TcCoe Idealize.ShloMosaic.Tactic
open Idealize.ShloMosaic.StableHlo

section rows

variable (k : ℕ) (hk : k < 64) (b : Fin 8) (h : Fin 4) (i : Fin 64) (d : Fin 128) (e : Fin 256)

theorem row_keys (x : FVec Ideal S64x8x4x64x128 .f32) (start : Fin 5 → Int) (hs : ∀ a, start a = ((![k, 0, 0, 0, 0] : Fin 5 → ℕ) a : ℤ)) :
    @Eq EReal (shapeCast S8x4x64x128 (Host.dynamicSlice S1x8x4x64x128 x start sliceFits_S64x8x4x64x128_S1x8x4x64x128) shapeCasts_S1x8x4x64x128_S8x4x64x128 (ix4 b h i d))
      (x (ix5 ⟨k, hk⟩ b h i d)) := by
  have ho : S64x8x4x64x128.Slices ![k, 0, 0, 0, 0] S1x8x4x64x128 := ⟨rfl, fun (a : Fin 5) => by
    fin_cases a
    · show k + 1 ≤ 64; omega
    · show 0 + 8 ≤ 8; omega
    · show 0 + 4 ≤ 4; omega
    · show 0 + 64 ≤ 64; omega
    · show 0 + 128 ≤ 128; omega⟩
  rw [Host.dynamicSlice_eq_extractStridedSlice S1x8x4x64x128 x start ![k, 0, 0, 0, 0] _ ho hs]
  pointwise

theorem row_vals (x : FVec Ideal S64x8x4x64x256 .f32) (start : Fin 5 → Int) (hs : ∀ a, start a = ((![k, 0, 0, 0, 0] : Fin 5 → ℕ) a : ℤ)) :
    @Eq EReal (shapeCast S8x4x64x256 (Host.dynamicSlice S1x8x4x64x256 x start sliceFits_S64x8x4x64x256_S1x8x4x64x256) shapeCasts_S1x8x4x64x256_S8x4x64x256 (ix4 b h i e))
      (x (ix5 ⟨k, hk⟩ b h i e)) := by
  have ho : S64x8x4x64x256.Slices ![k, 0, 0, 0, 0] S1x8x4x64x256 := ⟨rfl, fun (a : Fin 5) => by
    fin_cases a
    · show k + 1 ≤ 64; omega
    · show 0 + 8 ≤ 8; omega
    · show 0 + 4 ≤ 4; omega
    · show 0 + 64 ≤ 64; omega
    · show 0 + 256 ≤ 256; omega⟩
  rw [Host.dynamicSlice_eq_extractStridedSlice S1x8x4x64x256 x start ![k, 0, 0, 0, 0] _ ho hs]
  pointwise

theorem row_decay (x : FVec Ideal S64x8x4x128 .f32) (start : Fin 4 → Int) (hs : ∀ a, start a = ((![k, 0, 0, 0] : Fin 4 → ℕ) a : ℤ)) :
    @Eq EReal (shapeCast S8x4x128 (Host.dynamicSlice S1x8x4x128 x start sliceFits_S64x8x4x128_S1x8x4x128) shapeCasts_S1x8x4x128_S8x4x128 (ix3 b h d))
      (x (ix4 ⟨k, hk⟩ b h d)) := by
  have ho : S64x8x4x128.Slices ![k, 0, 0, 0] S1x8x4x128 := ⟨rfl, fun (a : Fin 4) => by
    fin_cases a
    · show k + 1 ≤ 64; omega
    · show 0 + 8 ≤ 8; omega
    · show 0 + 4 ≤ 4; omega
    · show 0 + 128 ≤ 128; omega⟩
  rw [Host.dynamicSlice_eq_extractStridedSlice S1x8x4x128 x start ![k, 0, 0, 0] _ ho hs]
  pointwise

include hk in
theorem row_written (x : FVec Ideal S64x8x4x64x256 .f32) (u : FVec Ideal S8x4x64x256 .f32) (start : Fin 5 → Int) (hs : ∀ a, start a = ((![k, 0, 0, 0, 0] : Fin 5 → ℕ) a : ℤ)) (n : Fin 64) :
    @Eq EReal (Host.dynamicUpdateSlice x (broadcastInDim S1x8x4x64x256 ![1, 2, 3, 4] bcast_S8x4x64x256_S1x8x4x64x256_1_2_3_4 u) start updateFits_S64x8x4x64x256_S1x8x4x64x256 (ix5 n b h i e))
      (if (n : ℕ) = k then u (ix4 b h i e) else x (ix5 n b h i e)) := by
  have hn := n.isLt
  have ho : S64x8x4x64x256.Slices ![k, 0, 0, 0, 0] S1x8x4x64x256 := ⟨rfl, fun (a : Fin 5) => by
    fin_cases a
    · show k + 1 ≤ 64; omega
    · show 0 + 8 ≤ 8; omega
    · show 0 + 4 ≤ 4; omega
    · show 0 + 64 ≤ 64; omega
    · show 0 + 256 ≤ 256; omega⟩
  rw [show Host.dynamicUpdateSlice x (broadcastInDim S1x8x4x64x256 ![1, 2, 3, 4] bcast_S8x4x64x256_S1x8x4x64x256_1_2_3_4 u) start updateFits_S64x8x4x64x256_S1x8x4x64x256
      = updateSlice x (broadcastInDim S1x8x4x64x256 ![1, 2, 3, 4] bcast_S8x4x64x256_S1x8x4x64x256_1_2_3_4 u) ![k, 0, 0, 0, 0] ho from
    Host.dynamicUpdateSlice_eq_updateSlice _ _ _ _ _ (fun (a : Fin 5) => by rw [hs a]; have := ho.2 a; omega) _]
  by_cases hnk : (n : ℕ) = k
  · rw [if_pos hnk, updateSlice_apply, dif_pos]
    · pointwise
    · intro (a : Fin 5)
      fin_cases a
      · show k ≤ (n : ℕ) ∧ (n : ℕ) < k + 1; omega
      · exact ⟨Nat.zero_le _, by show (b : ℕ) < 0 + 8; have := b.isLt; omega⟩
      · exact ⟨Nat.zero_le _, by show (h : ℕ) < 0 + 4; have := h.isLt; omega⟩
      · exact ⟨Nat.zero_le _, by show (i : ℕ) < 0 + 64; have := i.isLt; omega⟩
      · exact ⟨Nat.zero_le _, by show (e : ℕ) < 0 + 256; have := e.isLt; omega⟩
  · rw [if_neg hnk, updateSlice_apply, dif_neg]
    intro hq
    have h0 : k ≤ (n : ℕ) ∧ (n : ℕ) < k + 1 := hq 0
    omega

end rows

/-- The loop's buffers. -/
abbrev Bq (W : Valuation τ sig (Elt Ideal)) : FVec Ideal S64x8x4x64x128 .f32 := W (Proc.devRef .tc main_v40_0)
abbrev Bk (W : Valuation τ sig (Elt Ideal)) : FVec Ideal S64x8x4x64x128 .f32 := W (Proc.devRef .tc main_v40_1)
abbrev Bv (W : Valuation τ sig (Elt Ideal)) : FVec Ideal S64x8x4x64x256 .f32 := W (Proc.devRef .tc main_v40_2)
abbrev Bd (W : Valuation τ sig (Elt Ideal)) : FVec Ideal S64x8x4x128 .f32 := W (Proc.devRef .tc main_v40_3)
abbrev Bs (W : Valuation τ sig (Elt Ideal)) : FVec Ideal S8x4x128x256 .f32 := W (Proc.devRef .tc main_v40_5)
abbrev Bo (W : Valuation τ sig (Elt Ideal)) : FVec Ideal S64x8x4x64x256 .f32 := W (Proc.devRef .tc main_v40_6)

section pointsOf

variable (b : Fin 8) (h : Fin 4) (i : Fin 64) (d : Fin 128) (e : Fin 256)

theorem step_point (u3 : FVec Ideal S8x4x128 .f32) (s : FVec Ideal S8x4x128x256 .f32) (u1 : FVec Ideal S8x4x64x128 .f32) (u2 : FVec Ideal S8x4x64x256 .f32) :
    @Eq EReal ((addf (mulf (broadcastInDim S8x4x128x256 ![0, 1, 2, 3] bcast_S8x4x128x1_S8x4x128x256_0_1_2_3 (broadcastInDim S8x4x128x1 ![0, 1, 2] bcast_S8x4x128_S8x4x128x1_0_1_2 u3)) s)
      (Host.dotGeneral dot_S8x4x64x128_S8x4x64x256_S8x4x128x256_2_2_3_3_01_01 none u1 u2) : FVec Ideal S8x4x128x256 .f32) (ix4 b h d e))
      (u3 (ix3 b h d) * s (ix4 b h d e) + ∑ i : Fin 64, (u1 (ix4 b h i d) : EReal) * u2 (ix4 b h i e)) := by
  pointwise

theorem read_point (u : FVec Ideal S8x4x64x128 .f32) (s : FVec Ideal S8x4x128x256 .f32) :
    @Eq EReal ((Host.dotGeneral dot_S8x4x64x128_S8x4x128x256_S8x4x64x256_3_2_2_3_01_01 none u s : FVec Ideal S8x4x64x256 .f32) (ix4 b h i e))
      (∑ d : Fin 128, (u (ix4 b h i d) : EReal) * s (ix4 b h d e)) := by
  pointwise

end pointsOf

section steps

variable (W : Valuation τ sig (Elt Ideal)) (k : ℕ) (hk : k < 64) (hc : W (Proc.devRef .tc main_v40_4) = fun _ => Scf.iv 0#32 1#32 k)
  (b : Fin 8) (h : Fin 4) (i : Fin 64) (d : Fin 128) (e : Fin 256)

theorem iv_int (hk : k < 64) : (Scf.iv 0#32 1#32 k).toInt = (k : ℤ) := by
  rw [show Scf.iv 0#32 1#32 k = BitVec.ofNat 32 k from by simp [Scf.iv]]
  exact toInt_ofNat_of_lt (by omega)

abbrev start5 : Fin 5 → Int := fun q => (((![W (Proc.devRef .tc main_v40_4), constantI S_ 32 0#32, constantI S_ 32 0#32, constantI S_ 32 0#32, constantI S_ 32 0#32] : Fin 5 → (⟨S_, .i32⟩ : BufTy).Contents (Elt Ideal))) q (Shape.Idx.first h_S_)).toInt
abbrev start4 : Fin 4 → Int := fun q => (((![W (Proc.devRef .tc main_v40_4), constantI S_ 32 0#32, constantI S_ 32 0#32, constantI S_ 32 0#32] : Fin 4 → (⟨S_, .i32⟩ : BufTy).Contents (Elt Ideal))) q (Shape.Idx.first h_S_)).toInt

include hk hc

theorem start5_eq (a : Fin 5) : start5 W a = ((![k, 0, 0, 0, 0] : Fin 5 → ℕ) a : ℤ) := by
  unfold start5
  rw [hc]
  fin_cases a
  · exact iv_int k hk
  all_goals rfl

theorem start4_eq (a : Fin 4) : start4 W a = ((![k, 0, 0, 0] : Fin 4 → ℕ) a : ℤ) := by
  unfold start4
  rw [hc]
  fin_cases a
  · exact iv_int k hk
  all_goals rfl

theorem step5_apply : @Eq EReal ((step_main_v40_5 W : FVec Ideal S8x4x128x256 .f32) (ix4 b h d e))
    (Bd W (ix4 ⟨k, hk⟩ b h d) * Bs W (ix4 b h d e)
      + ∑ i : Fin 64, (Bk W (ix5 ⟨k, hk⟩ b h i d) : EReal) * Bv W (ix5 ⟨k, hk⟩ b h i e)) := by
  have r3 := row_decay k hk b h d (Bd W) _ (start4_eq W k hk hc)
  have r1 := fun i => row_keys k hk b h i d (Bk W) _ (start5_eq W k hk hc)
  have r2 := fun i => row_vals k hk b h i e (Bv W) _ (start5_eq W k hk hc)
  refine Eq.trans ?_ (congrArg₂ (fun a b : EReal => a + b) (congrArg (fun a : EReal => a * Bs W (ix4 b h d e)) r3)
    (Finset.sum_congr rfl fun i _ => congrArg₂ (fun a b : EReal => a * b) (r1 i) (r2 i)))
  have e0 : (step_main_v40_5 W : FVec Ideal S8x4x128x256 .f32) = (addf (mulf (broadcastInDim S8x4x128x256 ![0, 1, 2, 3] bcast_S8x4x128x1_S8x4x128x256_0_1_2_3 (broadcastInDim S8x4x128x1 ![0, 1, 2] bcast_S8x4x128_S8x4x128x1_0_1_2
      (shapeCast S8x4x128 (Host.dynamicSlice S1x8x4x128 (Bd W) (start4 W) sliceFits_S64x8x4x128_S1x8x4x128) shapeCasts_S1x8x4x128_S8x4x128 : FVec Ideal S8x4x128 .f32))) (Bs W))
    (Host.dotGeneral dot_S8x4x64x128_S8x4x64x256_S8x4x128x256_2_2_3_3_01_01 none
      (shapeCast S8x4x64x128 (Host.dynamicSlice S1x8x4x64x128 (Bk W) (start5 W) sliceFits_S64x8x4x64x128_S1x8x4x64x128) shapeCasts_S1x8x4x64x128_S8x4x64x128 : FVec Ideal S8x4x64x128 .f32)
      (shapeCast S8x4x64x256 (Host.dynamicSlice S1x8x4x64x256 (Bv W) (start5 W) sliceFits_S64x8x4x64x256_S1x8x4x64x256) shapeCasts_S1x8x4x64x256_S8x4x64x256 : FVec Ideal S8x4x64x256 .f32)) : FVec Ideal S8x4x128x256 .f32) := by
    unfold step_main_v40_5
    rfl
  refine (congrFun e0 (ix4 b h d e)).trans ?_
  exact step_point b h d e _ _ _ _

theorem step6_apply (n : Fin 64) : @Eq EReal ((step_main_v40_6 W : FVec Ideal S64x8x4x64x256 .f32) (ix5 n b h i e))
    (if (n : ℕ) = k then ∑ d : Fin 128, (Bq W (ix5 ⟨k, hk⟩ b h i d) : EReal) * Bs W (ix4 b h d e) else Bo W (ix5 n b h i e)) := by
  refine (row_written k hk b h i e (Bo W) (Host.dotGeneral dot_S8x4x64x128_S8x4x128x256_S8x4x64x256_3_2_2_3_01_01 none
    (shapeCast S8x4x64x128 (Host.dynamicSlice S1x8x4x64x128 (Bq W) (start5 W) sliceFits_S64x8x4x64x128_S1x8x4x64x128) shapeCasts_S1x8x4x64x128_S8x4x64x128 : FVec Ideal S8x4x64x128 .f32) (Bs W)) _ (start5_eq W k hk hc) n).trans ?_
  by_cases hn : (n : ℕ) = k
  · rw [if_pos hn, if_pos hn]
    refine (read_point b h i e _ _).trans (Finset.sum_congr rfl fun d _ => congrArg (fun a : EReal => a * Bs W (ix4 b h d e)) ?_)
    exact row_keys k hk b h i d (Bq W) _ (start5_eq W k hk hc)
  · rw [if_neg hn, if_neg hn]

end steps

section loop

variable (L Q K V : ℕ → ℕ → ℕ → EReal) (V0 : Valuation τ sig (Elt Ideal))
  (hctr : ∀ k, STEP^[k] V0 (Proc.devRef .tc main_v40_4) = fun _ => Scf.iv 0#32 1#32 k)
  (hq : ∀ (n : Fin 64) (b : Fin 8) (h : Fin 4) (i : Fin 64) (d : Fin 128), @Eq EReal (Bq V0 (ix5 n b h i d)) (qdS L Q b n i (128 * h + d)))
  (hk : ∀ (n : Fin 64) (b : Fin 8) (h : Fin 4) (i : Fin 64) (d : Fin 128), @Eq EReal (Bk V0 (ix5 n b h i d)) (keS L K b n i (128 * h + d)))
  (hv : ∀ (n : Fin 64) (b : Fin 8) (h : Fin 4) (i : Fin 64) (e : Fin 256), @Eq EReal (Bv V0 (ix5 n b h i e)) (V b (64 * n + i) (256 * h + e)))
  (hd : ∀ (n : Fin 64) (b : Fin 8) (h : Fin 4) (d : Fin 128), @Eq EReal (Bd V0 (ix4 n b h d)) (Ideal.exp (endS L b n (128 * h + d))))
  (hs : ∀ (b : Fin 8) (h : Fin 4) (d : Fin 128) (e : Fin 256), @Eq EReal (Bs V0 (ix4 b h d e)) 0)

theorem it_q : ∀ k, Bq (STEP^[k] V0) = Bq V0
  | 0 => rfl
  | k + 1 => by rw [Function.iterate_succ_apply']; exact (STEP_main_v40_0 _).trans (it_q k)
theorem it_k : ∀ k, Bk (STEP^[k] V0) = Bk V0
  | 0 => rfl
  | k + 1 => by rw [Function.iterate_succ_apply']; exact (STEP_main_v40_1 _).trans (it_k k)
theorem it_v : ∀ k, Bv (STEP^[k] V0) = Bv V0
  | 0 => rfl
  | k + 1 => by rw [Function.iterate_succ_apply']; exact (STEP_main_v40_2 _).trans (it_v k)
theorem it_d : ∀ k, Bd (STEP^[k] V0) = Bd V0
  | 0 => rfl
  | k + 1 => by rw [Function.iterate_succ_apply']; exact (STEP_main_v40_3 _).trans (it_d k)

include hctr hk hv hd hs

/-- The state before each chunk. -/
theorem state_eq : ∀ (k : ℕ), k ≤ 64 → ∀ (b : Fin 8) (h : Fin 4) (d : Fin 128) (e : Fin 256), @Eq EReal (Bs (STEP^[k] V0) (ix4 b h d e)) (stS L K V b h k e d)
  | 0, _, b, h, d, e => hs b h d e
  | k + 1, hk1, b, h, d, e => by
    rw [Function.iterate_succ_apply']
    refine (congrFun (STEP_main_v40_5 (STEP^[k] V0)) (ix4 b h d e)).trans ?_
    refine (step5_apply (STEP^[k] V0) k (by omega) (hctr k) b h d e).trans ?_
    rw [it_d, it_k, it_v, hd, state_eq k (by omega) b h d e]
    show _ = Ideal.exp (endS L b k (128 * h + d)) * stS L K V b h k e d + ∑ i : Fin 64, V b (64 * k + i) (256 * h + e) * keS L K b k i (128 * h + d)
    refine congrArg (fun a : EReal => Ideal.exp (endS L b k (128 * h + d)) * stS L K V b h k e d + a) (Finset.sum_congr rfl fun i _ => ?_)
    rw [hk, hv, mul_comm]

include hq

/-- The results of the chunks gone through. -/
theorem results_eq : ∀ (k : ℕ), k ≤ 64 → ∀ (n : Fin 64), (n : ℕ) < k → ∀ (b : Fin 8) (h : Fin 4) (i : Fin 64) (e : Fin 256),
    @Eq EReal (Bo (STEP^[k] V0) (ix5 n b h i e)) (∑ d : Fin 128, qdS L Q b n i (128 * h + d) * stS L K V b h n e d)
  | 0, _, n, hn, b, h, i, e => absurd hn (by omega)
  | k + 1, hk1, n, hn, b, h, i, e => by
    rw [Function.iterate_succ_apply']
    refine (congrFun (STEP_main_v40_6 (STEP^[k] V0)) (ix5 n b h i e)).trans ?_
    refine (step6_apply (STEP^[k] V0) k (by omega) (hctr k) b h i e n).trans ?_
    by_cases hnk : (n : ℕ) = k
    · subst hnk
      rw [if_pos rfl, it_q]
      refine Finset.sum_congr rfl fun d _ => congrArg₂ (fun a b : EReal => a * b) (hq n b h i d) ?_
      exact state_eq L K V V0 hctr hk hv hd hs n (by omega) b h d e
    · rw [if_neg hnk]
      exact results_eq k (by omega) n (by omega) b h i e

end loop

end Cert.GlaRefIdeal.Mix

end
-- ==== Proof.GlaRefValue.lean ====
/- The reference's mixing layer at the ideal instance, entry by entry: the layer's sum and its norm. -/
module

public import proofs.«01_k».proof.Proof.GlaRefLoop

@[expose] public section

set_option maxRecDepth 16384

noncomputable section

namespace Cert.GlaRefIdeal.Mix

open Cert.GlaRefIdeal Cert.GlaRefIdeal.Gen Cert.GlaRefIdeal.Value Cert.Gla
open Idealize.ShloMosaic Idealize.ShloMosaic.TcCoe Idealize.ShloMosaic.Tactic
open Idealize.ShloMosaic.StableHlo
open Idealize.SL.Sem

section after

variable (b : Fin 8) (t : Fin 4096) (h : Fin 4) (e : Fin 256) (j : Fin 1024)

theorem heads_apply (o : FVec Ideal S64x8x4x64x256 .f32) :
    @Eq EReal (heads o (ix4 b t h e)) (o (ix5 ⟨t / 64, by omega⟩ b h ⟨t % 64, by omega⟩ e)) := by
  unfold heads
  pointwise

theorem headNorm_apply (o : FVec Ideal S8x4096x4x256 .f32) (g : FVec Ideal S1x256 .f32) :
    @Eq EReal (headNorm o g (ix4 b t h e)) (o (ix4 b t h e)
      * Ideal.rsqrt (Ideal.div (∑ e : Fin 256, (o (ix4 b t h e) : EReal) * o (ix4 b t h e)) (Ideal.ofBits .f32 0x43800000#32) + Ideal.ofBits .f32 0x358637BD#32)
      * g (ix2 0 e)) := by
  unfold headNorm
  pointwise

theorem silu_apply (r : FVec Ideal S8x4096x1024 .f32) (y : S8x4096x1024.Idx) :
    @Eq EReal (silu r y) (r y * Ideal.div 1 (1 + Ideal.exp (-(r y)))) := by
  unfold silu
  pointwise

theorem flat_apply (r : FVec Ideal S32768x1024 .f32) : @Eq EReal (flat r (ix3 b t j)) (entry r (4096 * b + t) j) := by
  have hb := b.isLt
  have ht := t.isLt
  have hj := j.isLt
  rw [entry_of _ _ _ (by omega) (by omega)]
  unfold flat
  pointwise
  exact congrArg r (congrArg₂ ix2 (Fin.ext (by dsimp only; omega)) rfl)

theorem gated_apply (o : FVec Ideal S8x4096x4x256 .f32) (g : FVec Ideal S1x256 .f32) (r : FVec Ideal S32768x1024 .f32) :
    @Eq EReal (gated o g r (ix3 b t j)) (headNorm o g (ix4 b t ⟨j / 256, by omega⟩ ⟨j % 256, by omega⟩) * silu (flat r) (ix3 b t j)) := by
  unfold gated
  pointwise

theorem sums_apply (y : FVec Ideal S8x4096x1024 .f32) (x : FVec Ideal S32768x1024 .f32) (w : FVec Ideal S1024x1024 .bf16) :
    @Eq EReal (sums y x w (ix3 b t j)) (flat x (ix3 b t j) + ∑ k : Fin 1024, (y (ix3 b t k) : EReal) * w (ix2 k j)) := by
  unfold sums
  pointwise

theorem norm_apply (y : FVec Ideal S8x4096x1024 .f32) (g : FVec Ideal S1x1024 .f32) :
    @Eq EReal (norm y g (ix3 b t j)) (y (ix3 b t j)
      * Ideal.rsqrt (Ideal.div (∑ e : Fin 1024, (y (ix3 b t e) : EReal) * y (ix3 b t e)) (Ideal.ofBits .f32 0x44800000#32) + Ideal.ofBits .f32 0x358637BD#32)
      * g (ix2 0 j)) := by
  unfold norm
  pointwise

end after

section layer

variable (m : (ℓ : Loc nD τ sig) → Buf (Elt Ideal) ℓ) (c : Dev nD)

/-- The arguments. -/
def data : Data := ⟨a0 m c, a1 m c, a2 m c, a3 m c, a4 m c, a5 m c, a6 m c, a7 m c, a8 m c, a9 m c⟩

abbrev Lf := LF (data m c)
abbrev Qf := QF (data m c)
abbrev Kf := KF (data m c)
abbrev Vf := VF (data m c)

variable (n : Fin 64) (b : Fin 8) (h : Fin 4) (i : Fin 64) (d : Fin 128) (e : Fin 256)

theorem decay_entry (t k : ℕ) (ht : t < 4096) (hk : k < 512) :
    entry (decays (gates (a3 m c) (a4 m c) (a5 m c))) (4096 * b + t) k = Lf m c b t k := by
  have hb := b.isLt
  rw [entry_of _ _ _ (by omega) hk, decays_apply]
  exact congrArg lsv (gates_apply (a3 m c) (a4 m c) (a5 m c) ⟨4096 * b + t, by omega⟩ ⟨k, hk⟩)

theorem cum_apply : @Eq EReal (cum m c (ix5 n b h i d)) (cumS (Lf m c) b n i (128 * h + d)) := by
  have hn := n.isLt
  have hh := h.isLt
  have hd := d.isLt
  refine (running_apply n b h i d _).trans (Finset.sum_congr rfl fun j _ => ?_)
  have hj := j.isLt
  rw [chunks_apply n b h j d, decay_entry m c b (64 * n + j) (128 * h + d) (by omega) (by omega)]

theorem end_apply : @Eq EReal (cum m c (ix5 n b h (63 : Fin 64) d)) (endS (Lf m c) b n (128 * h + d)) := by
  refine (cum_apply m c n b h 63 d).trans (Finset.sum_congr rfl fun j _ => ?_)
  have hj := j.isLt
  exact if_pos (by show (j : ℕ) ≤ 63; omega)

theorem q_apply : @Eq EReal (qDec (queries (a0 m c)) (cum m c) (ix5 n b h i d)) (qdS (Lf m c) (Qf m c) b n i (128 * h + d)) := by
  rw [qDec_apply, queries_apply n b h i d, cum_apply]
  rfl

theorem ki_apply : @Eq EReal (kInv (keys (a0 m c)) (cum m c) (ix5 n b h i d)) (kiS (Lf m c) (Kf m c) b n i (128 * h + d)) := by
  rw [kInv_apply, keys_apply n b h i d, cum_apply]
  rfl

theorem ke_apply : @Eq EReal (kEnd (keys (a0 m c)) (cum m c) (ix5 n b h i d)) (keS (Lf m c) (Kf m c) b n i (128 * h + d)) := by
  rw [kEnd_apply, keys_apply n b h i d, end_apply, cum_apply]
  rfl

theorem d_apply : @Eq EReal (chunkDecay (cum m c) (ix4 n b h d)) (Ideal.exp (endS (Lf m c) b n (128 * h + d))) := by
  rw [chunkDecay_apply, end_apply]

theorem v_apply : @Eq EReal (vals (a1 m c) (ix5 n b h i e)) (Vf m c b (64 * n + i) (256 * h + e)) := vals_apply n b h i e (a1 m c)

theorem scanned : @Eq EReal ((atK m 64 c (Proc.devRef .tc main_v40_6) : FVec Ideal S64x8x4x64x256 .f32) (ix5 n b h i e))
    (∑ d : Fin 128, qdS (Lf m c) (Qf m c) b n i (128 * h + d) * stS (Lf m c) (Kf m c) (Vf m c) b h n e d) := by
  refine (congrFun (atK_agree m c 64 main_v40_6 (by decide)) (ix5 n b h i e)).trans ?_
  exact results_eq (Lf m c) (Qf m c) (Kf m c) (Vf m c) (entryContents preI m c)
    (fun k => (atK_agree m c k main_v40_4 (by decide)).symm.trans (atK_ctr m c k))
    (fun n b h i d => (congrFun (entry_0 m c) _).trans (q_apply m c n b h i d))
    (fun n b h i d => (congrFun (entry_1 m c) _).trans (ke_apply m c n b h i d))
    (fun n b h i e => (congrFun (entry_2 m c) _).trans (v_apply m c n b h i e))
    (fun n b h d => (congrFun (entry_3 m c) _).trans (d_apply m c n b h d))
    (fun b h d e => (congrFun (entry_5 m c) _).trans Ideal.ofBits_zero_f32)
    64 le_rfl n n.isLt b h i e

theorem outs_apply : @Eq EReal (outs m c (ix5 n b h i e)) (oS (Lf m c) (Qf m c) (Kf m c) (Vf m c) b h n i e) := by
  refine congrArg₂ (fun a b : EReal => a + b) (scanned m c n b h i e) ((own_apply n b h i e _ _ _).trans (Finset.sum_congr rfl fun j _ => ?_))
  refine congrArg₂ (fun a b : EReal => a * b) ?_ (v_apply m c n b h j e)
  by_cases hj : j ≤ i
  · rw [if_pos hj, if_pos (Fin.le_def.mp hj)]
    exact Finset.sum_congr rfl fun d _ => congrArg₂ (fun a b : EReal => a * b) (q_apply m c n b h i d) (ki_apply m c n b h j d)
  · rw [if_neg hj, if_neg (fun q => hj (Fin.le_def.mpr q))]

variable (t : Fin 4096) (j : Fin 1024)

theorem heads_eq : @Eq EReal (heads (outs m c) (ix4 b t h e)) (oS (Lf m c) (Qf m c) (Kf m c) (Vf m c) b h (t / 64) (t % 64) e) :=
  (heads_apply b t h e _).trans (outs_apply m c _ b h _ e)

theorem gated_eq : @Eq EReal (gated (heads (outs m c)) (a6 m c) (a2 m c) (ix3 b t j))
    (ogS (Lf m c) (Qf m c) (Kf m c) (Vf m c) (RF (data m c)) (GHF (data m c)) b ((j : ℕ) / 256) (t / 64) (t % 64) ((j : ℕ) % 256)) := by
  have hj := j.isLt
  refine (gated_apply b t j _ _ _).trans ?_
  unfold ogS
  refine congrArg₂ (fun a b : EReal => a * b) ((headNorm_apply b t _ _ _ _).trans ?_) ((silu_apply _ _).trans ?_)
  · have e1 := fun e => heads_eq m c b ⟨(j : ℕ) / 256, by omega⟩ e t
    rw [Finset.sum_congr rfl fun e _ => congrArg₂ (fun a b : EReal => a * b) (e1 e) (e1 e), e1]
    refine congrArg₂ (fun a b : EReal => a * b) rfl ?_
    exact (entry_of (a6 m c) 0 ((j : ℕ) % 256) (by norm_num) (by omega)).symm
  · rw [flat_apply b t j (a2 m c)]
    rw [show 64 * ((t : ℕ) / 64) + (t : ℕ) % 64 = t from Nat.div_add_mod _ _, show 256 * ((j : ℕ) / 256) + (j : ℕ) % 256 = j from Nat.div_add_mod _ _]
    rfl

theorem sums_eq : @Eq EReal (sums (gated (heads (outs m c)) (a6 m c) (a2 m c)) (a8 m c) (a7 m c) (ix3 b t j)) (hF (data m c) b t j) := by
  refine (sums_apply b t j _ _ _).trans ?_
  refine congrArg₂ (fun a b : EReal => a + b) (flat_apply b t j (a8 m c)) (Finset.sum_congr rfl fun k _ => ?_)
  exact congrArg₂ (fun a b : EReal => a * b) (gated_eq m c b t k) (entry_of (a7 m c) k j k.isLt j.isLt).symm

theorem norm_eq : @Eq EReal (norm (sums (gated (heads (outs m c)) (a6 m c) (a2 m c)) (a8 m c) (a7 m c)) (a9 m c) (ix3 b t j)) (hnF (data m c) b t j) := by
  refine (norm_apply b t j _ _).trans ?_
  have e1 := fun j => sums_eq m c b t j
  rw [Finset.sum_congr rfl fun e _ => congrArg₂ (fun a b : EReal => a * b) (e1 e) (e1 e), e1]
  exact congrArg₂ (fun a b : EReal => a * b) rfl (entry_of (a9 m c) 0 j (by norm_num) j.isLt).symm

/-- The run, read: the layer's sum, its norm, and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v64) = sums (gated (heads (outs m c)) (a6 m c) (a2 m c)) (a8 m c) (a7 m c)
        ∧ r.2.mem ((c.tc : Thread nD τ).loc main_v78) = norm (sums (gated (heads (outs m c)) (a6 m c) (a2 m c)) (a8 m c) (a7 m c)) (a9 m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9) :=
  (θ_run defs _ _).mono
    (fun r h c => ⟨(h c main_v64 (by decide)).trans (final_v64 m c), (h c main_v78 (by decide)).trans (final_v78 m c), (h c main_arg0 (by decide)).trans (kept_0 m c), (h c main_arg1 (by decide)).trans (kept_1 m c), (h c main_arg2 (by decide)).trans (kept_2 m c), (h c main_arg3 (by decide)).trans (kept_3 m c), (h c main_arg4 (by decide)).trans (kept_4 m c), (h c main_arg5 (by decide)).trans (kept_5 m c), (h c main_arg6 (by decide)).trans (kept_6 m c), (h c main_arg7 (by decide)).trans (kept_7 m c), (h c main_arg8 (by decide)).trans (kept_8 m c), (h c main_arg9 (by decide)).trans (kept_9 m c)⟩)
    (run_fold m ρ)

end layer

end Cert.GlaRefIdeal.Mix

end
-- ==== Proof.lean ====
/- The certificate: the grouped SwiGLU kernel, the dense SwiGLU kernel, the stick-breaking attention kernel, the two
   projection kernels, the gated linear attention's mixing kernel and the references of the six all run to the end with their arguments unchanged, and at the ideal instance each kernel leaves its reference's array. -/
module

public import proofs.«01_k».proof.Defs
public import proofs.«01_k».proof.Proof.Gen.Pre_tables_in_range
public import proofs.«01_k».proof.Proof.MoeTables
public import proofs.«01_k».proof.Proof.MoeIdealValue
public import proofs.«01_k».proof.Proof.MoeRefValue
public import proofs.«01_k».proof.Proof.Gen.Ffn.Frame
public import proofs.«01_k».proof.Proof.FfnValue
public import proofs.«01_k».proof.Proof.Gen.Sb.Frame
public import proofs.«01_k».proof.Proof.SbArray
public import proofs.«01_k».proof.Proof.SbRefValue
public import proofs.«01_k».proof.Proof.SbFinite
public import proofs.«01_k».proof.Proof.Gen.Kvq.Frame
public import proofs.«01_k».proof.Proof.KvqValue
public import proofs.«01_k».proof.Proof.Gen.Inproj.Frame
public import proofs.«01_k».proof.Proof.InprojValue
public import proofs.«01_k».proof.Proof.Gen.Gla.Frame
public import proofs.«01_k».proof.Proof.GlaArray
public import proofs.«01_k».proof.Proof.GlaRefValue

@[expose] public section

noncomputable section

namespace Cert.Proof

open Idealize.ShloMosaic Idealize.ShloMosaic.TcCoe Idealize.SL.Sem

/-! ## The precondition -/

theorem admissible (m : (ℓ : Loc Cert.Moe.nD Cert.Moe.τ Cert.Moe.sig) → Buf (Elt Bits) ℓ) (h : Pre_Moe m) : Cert.Moe.Run.Ok m :=
  Cert.Moe.Run.ok_of (Cert.Moe.Run.tbl m) (fun w => Cert.Moe.Run.expert_lt _ _ _ _ _ _ (h 0).1 w)
    (Cert.Moe.Run.one_le_count _ _ _ _ _ _ (h 0).2 Cert.Moe.Run.only)

theorem experts (m : (ℓ : Loc Cert.MoeIdeal.nD Cert.MoeIdeal.τ Cert.MoeIdeal.sig) → Buf (Elt Ideal) ℓ) (h : Pre_MoeIdeal m)
    (w : (Cert.MoeIdeal.pre0.ref 0).ty.Idx) : (Cert.MoeIdeal.Run.tbl m 0 w : BitVec 32).toNat < 8 :=
  Cert.MoeIdeal.Run.expert_lt _ _ _ _ _ _ (h 0).1 w

theorem admissibleIdeal (m : (ℓ : Loc Cert.MoeIdeal.nD Cert.MoeIdeal.τ Cert.MoeIdeal.sig) → Buf (Elt Ideal) ℓ) (h : Pre_MoeIdeal m) :
    Cert.MoeIdeal.Run.Ok m :=
  Cert.MoeIdeal.Run.ok_of (Cert.MoeIdeal.Run.tbl m) (experts m h)
    (Cert.MoeIdeal.Run.one_le_count _ _ _ _ _ _ (h 0).2 Cert.MoeIdeal.Run.only)

/-! ## The frames -/

theorem quiescent : quiescent_Moe := fun m ρ h => Cert.Moe.Run.frame m ρ (admissible m h)

theorem quiescentIdeal : quiescent_MoeIdeal := fun m ρ h => Cert.MoeIdeal.Run.frame m ρ (admissibleIdeal m h)

theorem quiescentRef : quiescent_MoeRefIdeal := fun m ρ _ =>
  (θ_run Cert.MoeRefIdeal.defs _ _).mono
    (fun r h => ⟨fun c => (h c).2, Idealize.ShloMosaic.sem_eq_zero_of_no_sems (by decide) r.2⟩)
    (Cert.MoeRefIdeal.Value.run (F := Ideal) m ρ)

/-! ## The values -/

theorem algebraic : algebraic_MoeIdeal_MoeRefIdeal := by
  intro m g m' g' hpre hargs
  refine ⟨fun c => (Cert.MoeIdeal.Run.dats m (admissibleIdeal m hpre) 0 c).arrAt 4 (Cert.MoeIdeal.Run.cfgM m (admissibleIdeal m hpre)).N, ?_, ?_⟩
  · exact (θ_run _ _ _).mono (fun r h c => ⟨(h.1.1 c).1 4, h.2.1 c⟩)
      (θ_run_and (Cert.MoeIdeal.Run.run_main m g (admissibleIdeal m hpre)) (Cert.MoeIdeal.Run.frame m g (admissibleIdeal m hpre)))
  · refine (θ_run _ _ _).mono (fun r h c => ⟨(h c).1.trans ?_, (h c).2⟩) (Cert.MoeRefIdeal.Dense.run_total m' g')
    obtain ⟨h0, h1, h2, h3, h4, h5⟩ := hargs c
    obtain rfl : c = 0 := Subsingleton.elim _ _
    have e0 : Cert.MoeRefIdeal.Dense.te (StableHlo.launchContents m' (0 : Dev Cert.MoeRefIdeal.nD)) = Cert.MoeIdeal.Run.tbl m 0 := h0
    have e1 : Cert.MoeRefIdeal.Dense.nv (StableHlo.launchContents m' (0 : Dev Cert.MoeRefIdeal.nD)) = Cert.MoeIdeal.Run.tbl m 1 := h1
    have e2 : Cert.MoeRefIdeal.Dense.xs (StableHlo.launchContents m' (0 : Dev Cert.MoeRefIdeal.nD)) = _ := h2
    have e3 : Cert.MoeRefIdeal.Dense.wg (StableHlo.launchContents m' (0 : Dev Cert.MoeRefIdeal.nD)) = _ := h3
    have e4 : Cert.MoeRefIdeal.Dense.wu (StableHlo.launchContents m' (0 : Dev Cert.MoeRefIdeal.nD)) = _ := h4
    have e5 : Cert.MoeRefIdeal.Dense.wd (StableHlo.launchContents m' (0 : Dev Cert.MoeRefIdeal.nD)) = _ := h5
    refine (Cert.MoeRefIdeal.Dense.total_eq _ fun w => ?_).trans ?_
    · exact (congrArg (fun f : Vec Ideal Cert.MoeRefIdeal.S136 .i32 => (f w : BitVec 32).toNat) e0).trans_lt (experts m hpre w)
    · rw [e0, e1, e2, e3, e4, e5]
      exact (Cert.MoeIdeal.Run.final m (admissibleIdeal m hpre) 0 (experts m hpre)).symm

/-! ## The dense SwiGLU -/

theorem quiescentFfn : quiescent_Ffn := fun m ρ _ => Cert.Ffn.Gen.frame m ρ

theorem quiescentFfnIdeal : quiescent_FfnIdeal := fun m ρ _ => Cert.FfnIdeal.Gen.frame m ρ

theorem quiescentFfnRef : quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

theorem algebraicFfn : algebraic_FfnIdeal_FfnRefIdeal := by
  intro m g m' g' _ hargs
  refine ⟨fun c => (Cert.FfnIdeal.Gen.dats m 0 c).arrAt 5 Cert.FfnIdeal.cfg0.N, Cert.FfnIdeal.Value.run_blocks m g, ?_⟩
  refine (θ_run _ _ _).mono (fun r h c => ⟨(h c).1.trans ?_, (h c).2⟩) (Cert.FfnRefIdeal.Value.run (F := Ideal) m' g')
  obtain ⟨h0, h1, h2, h3, h4⟩ := hargs c
  refine (Cert.FfnRefIdeal.Dense.reference_eq _ _ _ _ _).trans ?_
  rw [h0, h1, h2, h3, h4]
  exact (Cert.FfnIdeal.Dense.final m c).symm

/-! ## The stick-breaking attention -/

theorem quiescentSb : quiescent_Sb := fun m ρ _ => Cert.Sb.Gen.frame m ρ

theorem quiescentSbIdeal : quiescent_SbIdeal := fun m ρ _ => Cert.SbIdeal.Gen.frame m ρ

theorem quiescentSbIdealFinite : quiescent_SbIdeal_pre_finite_queries_and_keys := fun m ρ _ => Cert.SbIdeal.Gen.frame m ρ

theorem quiescentSbRef : quiescent_SbRefIdeal := fun m ρ _ =>
  (θ_run Cert.SbRefIdeal.defs _ _).mono
    (fun r h => ⟨fun c => (h c).2, Idealize.ShloMosaic.sem_eq_zero_of_no_sems (by decide) r.2⟩)
    (Cert.SbRefIdeal.Value.run (F := Ideal) m ρ)

theorem quiescentSbRefFinite : quiescent_SbRefIdeal_pre_finite_queries_and_keys := fun m ρ _ => quiescentSbRef m ρ trivial

theorem preservesSb : preserves_Sb_SbIdeal :=
  IdealRules.named_const.statement Cert.SbIdeal.κ "log2_e" .f32 0x3FB8AA3B#32 (((Real.log 2)⁻¹ : ℝ) : EReal) rfl

theorem algebraicSb : algebraic_SbIdeal_SbRefIdeal_pre_finite_queries_and_keys := by
  intro m g m' g' hpre hargs
  refine ⟨fun c => (Cert.SbIdeal.Gen.dats m 0 c).arrAt 4 Cert.SbIdeal.cfg0.N, Cert.SbIdeal.Value.run_blocks m g, ?_⟩
  refine (θ_run _ _ _).mono (fun r h c => ⟨(h c).1.trans ?_, (h c).2⟩) (Cert.SbRefIdeal.Value.run (F := Ideal) m' g')
  obtain ⟨h0, h1⟩ := hargs c
  have hF := Cert.Pre_finite_queries_and_keys.Numbers.finite_of _ _ (hpre c)
  refine (Cert.SbRefIdeal.Attn.res_eq m' c).trans ?_
  rw [h0, h1]
  exact (Cert.SbRefIdeal.Attn.outcome_apply _ _ hF).trans (Cert.SbIdeal.Attn.final m c hF).symm

/-! ## The keys, values and queries -/

theorem quiescentKvq : quiescent_Kvq := fun m ρ _ => Cert.Kvq.Gen.frame m ρ

theorem quiescentKvqIdeal : quiescent_KvqIdeal := fun m ρ _ => Cert.KvqIdeal.Gen.frame m ρ

theorem quiescentKvqRef : quiescent_KvqRefIdeal := fun m ρ _ =>
  (θ_run Cert.KvqRefIdeal.defs _ _).mono
    (fun r h => ⟨fun c => (h c).2.2, Idealize.ShloMosaic.sem_eq_zero_of_no_sems (by decide) r.2⟩)
    (Cert.KvqRefIdeal.Value.run (F := Ideal) m ρ)

theorem preservesKvq : preserves_Kvq_KvqIdeal :=
  IdealRules.named_const.statement Cert.KvqIdeal.κ "q_scale" .f32 0x3E0293EE#32 (((Real.sqrt 128 * Real.log 2)⁻¹ : ℝ) : EReal) rfl

theorem algebraicKvq : algebraic_KvqIdeal_KvqRefIdeal := by
  intro m g m' g' _ hargs
  refine ⟨fun c => (Cert.KvqIdeal.Gen.dats m 0 c).arrAt 5 Cert.KvqIdeal.cfg0.N,
    fun c => (Cert.KvqIdeal.Gen.dats m 0 c).arrAt 6 Cert.KvqIdeal.cfg0.N, Cert.KvqIdeal.Value.run_blocks m g, ?_⟩
  refine (θ_run _ _ _).mono (fun r h c => ⟨(h c).1.trans ?_, (h c).2.1.trans ?_, (h c).2.2⟩) (Cert.KvqRefIdeal.Value.run (F := Ideal) m' g')
  · obtain ⟨h0, h1, h2, h3, h4⟩ := hargs c
    refine (Cert.KvqRefIdeal.Proj.keys_eq _ _ _).trans ?_
    rw [h0, h1, h3]
    exact (Cert.KvqIdeal.Proj.final_5 m c).symm
  · obtain ⟨h0, h1, h2, h3, h4⟩ := hargs c
    refine (Cert.KvqRefIdeal.Proj.queries_eq _ _ _).trans ?_
    rw [h0, h2, h4]
    exact (Cert.KvqIdeal.Proj.final_6 m c).symm

/-! ## The gated linear attention's projection -/

theorem quiescentInproj : quiescent_Inproj := fun m ρ _ => Cert.Inproj.Gen.frame m ρ

theorem quiescentInprojIdeal : quiescent_InprojIdeal := fun m ρ _ => Cert.InprojIdeal.Gen.frame m ρ

theorem quiescentInprojRef : quiescent_InprojRefIdeal := fun m ρ _ =>
  (θ_run Cert.InprojRefIdeal.defs _ _).mono
    (fun r h => ⟨fun c => (h c).2.2.2.2, Idealize.ShloMosaic.sem_eq_zero_of_no_sems (by decide) r.2⟩)
    (Cert.InprojRefIdeal.Value.run (F := Ideal) m ρ)
theorem algebraicInproj : algebraic_InprojIdeal_InprojRefIdeal := by
  intro m g m' g' _ hargs
  refine ⟨fun c => (Cert.InprojIdeal.Gen.dats m 0 c).arrAt 3 Cert.InprojIdeal.cfg0.N,
    fun c => (Cert.InprojIdeal.Gen.dats m 0 c).arrAt 4 Cert.InprojIdeal.cfg0.N,
    fun c => (Cert.InprojIdeal.Gen.dats m 0 c).arrAt 5 Cert.InprojIdeal.cfg0.N,
    fun c => (Cert.InprojIdeal.Gen.dats m 0 c).arrAt 6 Cert.InprojIdeal.cfg0.N, Cert.InprojIdeal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.InprojRefIdeal.Value.run (F := Ideal) m' g')
  · obtain ⟨h0, h1, h2⟩ := hargs c
    refine (Cert.InprojRefIdeal.Proj.result3_eq _ _ _).trans ?_
    rw [h0, h1, h2]
    exact (Cert.InprojIdeal.Proj.final_3 m c).symm
  · obtain ⟨h0, h1, h2⟩ := hargs c
    refine (Cert.InprojRefIdeal.Proj.result4_eq _ _ _).trans ?_
    rw [h0, h1, h2]
    exact (Cert.InprojIdeal.Proj.final_4 m c).symm
  · obtain ⟨h0, h1, h2⟩ := hargs c
    refine (Cert.InprojRefIdeal.Proj.result5_eq _ _ _).trans ?_
    rw [h0, h1, h2]
    exact (Cert.InprojIdeal.Proj.final_5 m c).symm
  · obtain ⟨h0, h1, h2⟩ := hargs c
    refine (Cert.InprojRefIdeal.Proj.result6_eq _ _ _).trans ?_
    rw [h0, h1, h2]
    exact (Cert.InprojIdeal.Proj.final_6 m c).symm

/-! ## The gated linear attention's mixing, with the output projection -/

theorem quiescentGla : quiescent_Gla := fun m ρ _ => Cert.Gla.Gen.frame m ρ

theorem quiescentGlaIdeal : quiescent_GlaIdeal := fun m ρ _ => Cert.GlaIdeal.Gen.frame m ρ

theorem quiescentGlaRef : quiescent_GlaRefIdeal := fun m ρ _ =>
  (θ_run Cert.GlaRefIdeal.defs _ _).mono
    (fun r h => ⟨fun c => (h c).2.2, Idealize.ShloMosaic.sem_eq_zero_of_no_sems (by decide) r.2⟩)
    (Cert.GlaRefIdeal.Mix.run m ρ)

/-- Arguments that agree are the same numbers. -/
theorem sameData (m : (ℓ : Loc Cert.GlaIdeal.nD Cert.GlaIdeal.τ Cert.GlaIdeal.sig) → Buf (Elt Ideal) ℓ)
    (m' : (ℓ : Loc Cert.GlaRefIdeal.nD Cert.GlaRefIdeal.τ Cert.GlaRefIdeal.sig) → Buf (Elt Ideal) ℓ) (c : Dev Cert.GlaIdeal.nD)
    (h : m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)
      ∧ m' ((c.tc : Thread Cert.GlaRefIdeal.nD Cert.GlaRefIdeal.τ).loc Cert.GlaRefIdeal.main_arg7) = m ((c.tc : Thread Cert.GlaIdeal.nD Cert.GlaIdeal.τ).loc Cert.GlaIdeal.main_arg7)
      ∧ m' ((c.tc : Thread Cert.GlaRefIdeal.nD Cert.GlaRefIdeal.τ).loc Cert.GlaRefIdeal.main_arg8) = m ((c.tc : Thread Cert.GlaIdeal.nD Cert.GlaIdeal.τ).loc Cert.GlaIdeal.main_arg8)
      ∧ m' ((c.tc : Thread Cert.GlaRefIdeal.nD Cert.GlaRefIdeal.τ).loc Cert.GlaRefIdeal.main_arg9) = m ((c.tc : Thread Cert.GlaIdeal.nD Cert.GlaIdeal.τ).loc Cert.GlaIdeal.main_arg9)) :
    Cert.GlaRefIdeal.Mix.data m' c = Cert.GlaIdeal.Mix.data m c := by
  obtain ⟨h0, h1, h2, h3, h4, h5, h6, h7, h8, h9⟩ := h
  unfold Cert.GlaRefIdeal.Mix.data Cert.GlaRefIdeal.Mix.a0 Cert.GlaRefIdeal.Mix.a1 Cert.GlaRefIdeal.Mix.a2 Cert.GlaRefIdeal.Mix.a3 Cert.GlaRefIdeal.Mix.a4
    Cert.GlaRefIdeal.Mix.a5 Cert.GlaRefIdeal.Mix.a6 Cert.GlaRefIdeal.Mix.a7 Cert.GlaRefIdeal.Mix.a8 Cert.GlaRefIdeal.Mix.a9
  rw [h0, h1, h2, h3, h4, h5, h6, h7, h8, h9]

theorem algebraicGla : algebraic_GlaIdeal_GlaRefIdeal := by
  intro m g m' g' _ hargs
  refine ⟨fun c => Cert.GlaIdeal.Value.G11 m c, fun c => Cert.GlaIdeal.Value.G12 m c, Cert.GlaIdeal.Value.run m g, ?_⟩
  refine (θ_run _ _ _).mono (fun r h c => ⟨(h c).1.trans ?_, (h c).2.1.trans ?_, (h c).2.2⟩) (Cert.GlaRefIdeal.Mix.run m' g')
  · have e := sameData m m' c (hargs c)
    funext y
    rw [eq_ix3 y]
    refine (Cert.GlaRefIdeal.Mix.sums_eq m' c (y 0) (y 1) (y 2)).trans ?_
    rw [e]
    exact (Cert.GlaIdeal.Mix.G11_eq m c (ix3 (y 0) (y 1) (y 2))).symm
  · have e := sameData m m' c (hargs c)
    funext y
    rw [eq_ix3 y]
    refine (Cert.GlaRefIdeal.Mix.norm_eq m' c (y 0) (y 1) (y 2)).trans ?_
    rw [e]
    exact (Cert.GlaIdeal.Mix.G12_eq m c (ix3 (y 0) (y 1) (y 2))).symm

theorem claim : Cert.Claim :=
  ⟨Cert.Moe.Gen.facts, Cert.MoeIdeal.Gen.facts, Cert.MoeRefIdeal.Gen.facts, Cert.Ffn.Gen.facts, Cert.FfnIdeal.Gen.facts,
    Cert.FfnRefIdeal.Gen.facts, Cert.Sb.Gen.facts, Cert.SbIdeal.Gen.facts, Cert.SbRefIdeal.Gen.facts,
    Cert.Kvq.Gen.facts, Cert.KvqIdeal.Gen.facts, Cert.KvqRefIdeal.Gen.facts, Cert.Inproj.Gen.facts, Cert.InprojIdeal.Gen.facts,
    Cert.InprojRefIdeal.Gen.facts, Cert.Gla.Gen.facts, Cert.GlaIdeal.Gen.facts, Cert.GlaRefIdeal.Gen.facts,
    Cert.Pre_tables_in_range.Gen.facts, Cert.Pre_finite_queries_and_keys.Gen.facts,
    quiescent, quiescentIdeal, quiescentRef, quiescentFfn, quiescentFfnIdeal, quiescentFfnRef,
    quiescentSb, quiescentSbIdeal, quiescentSbIdealFinite, quiescentSbRef, quiescentSbRefFinite,
    quiescentKvq, quiescentKvqIdeal, quiescentKvqRef, quiescentInproj, quiescentInprojIdeal, quiescentInprojRef,
    quiescentGla, quiescentGlaIdeal, quiescentGlaRef,
    trivial, algebraic, trivial, algebraicFfn, preservesSb, algebraicSb, preservesKvq, algebraicKvq, trivial, algebraicInproj, trivial, algebraicGla⟩

end Cert.Proof

end
